-- ==== Defs.lean ====
def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Outproj (m : (ℓ : Loc Cert.Outproj.nD Cert.Outproj.τ Cert.Outproj.sig) → Buf (Elt Bits) ℓ) : Prop :=
  True

def Pre_OutprojIdeal (m : (ℓ : Loc Cert.OutprojIdeal.nD Cert.OutprojIdeal.τ Cert.OutprojIdeal.sig) → Buf (Elt Ideal) ℓ) : Prop :=
  True

def Pre_OutprojRefIdeal (m : (ℓ : Loc Cert.OutprojRefIdeal.nD Cert.OutprojRefIdeal.τ Cert.OutprojRefIdeal.sig) → Buf (Elt Ideal) ℓ) : Prop :=
  True

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojRefIdeal (m : (ℓ : Loc Cert.InprojRefIdeal.nD Cert.InprojRefIdeal.τ Cert.InprojRefIdeal.sig) → Buf (Elt Ideal) ℓ) : Prop :=
  True

def Pre_FfnSample (m : (ℓ : Loc Cert.FfnSample.nD Cert.FfnSample.τ Cert.FfnSample.sig) → Buf (Elt Bits) ℓ) : Prop :=
  True

def Pre_FfnSampleIdeal (m : (ℓ : Loc Cert.FfnSampleIdeal.nD Cert.FfnSampleIdeal.τ Cert.FfnSampleIdeal.sig) → Buf (Elt Ideal) ℓ) : Prop :=
  True

def Pre_FfnSampleRefIdeal (m : (ℓ : Loc Cert.FfnSampleRefIdeal.nD Cert.FfnSampleRefIdeal.τ Cert.FfnSampleRefIdeal.sig) → Buf (Elt Ideal) ℓ) : Prop :=
  True

def Pre_OutprojSample (m : (ℓ : Loc Cert.OutprojSample.nD Cert.OutprojSample.τ Cert.OutprojSample.sig) → Buf (Elt Bits) ℓ) : Prop :=
  True

def Pre_OutprojSampleIdeal (m : (ℓ : Loc Cert.OutprojSampleIdeal.nD Cert.OutprojSampleIdeal.τ Cert.OutprojSampleIdeal.sig) → Buf (Elt Ideal) ℓ) : Prop :=
  True

def Pre_OutprojSampleRefIdeal (m : (ℓ : Loc Cert.OutprojSampleRefIdeal.nD Cert.OutprojSampleRefIdeal.τ Cert.OutprojSampleRefIdeal.sig) → Buf (Elt Ideal) ℓ) : Prop :=
  True

def Pre_InprojSample (m : (ℓ : Loc Cert.InprojSample.nD Cert.InprojSample.τ Cert.InprojSample.sig) → Buf (Elt Bits) ℓ) : Prop :=
  True

def Pre_InprojSampleIdeal (m : (ℓ : Loc Cert.InprojSampleIdeal.nD Cert.InprojSampleIdeal.τ Cert.InprojSampleIdeal.sig) → Buf (Elt Ideal) ℓ) : Prop :=
  True

def Pre_InprojSampleRefIdeal (m : (ℓ : Loc Cert.InprojSampleRefIdeal.nD Cert.InprojSampleRefIdeal.τ Cert.InprojSampleRefIdeal.sig) → Buf (Elt Ideal) ℓ) : Prop :=
  True

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_Outproj [hOutproj : Cert.Outproj.Facts] : Prop :=
  ∀ (m : (ℓ : Loc Cert.Outproj.nD Cert.Outproj.τ Cert.Outproj.sig) → Buf (Elt Bits) ℓ) (g : Dev Cert.Outproj.nD → PrngReg), Pre_Outproj m →
    θ_run (Cert.Outproj.defs (F := Bits)) (onTc (τ := Cert.Outproj.τ) (Cert.Outproj.main (F := Bits))) ⟨m, fun _ => 0, g⟩ (fun r => (∀ c : Dev Cert.Outproj.nD,
      r.2.mem ((c.tc : Thread Cert.Outproj.nD Cert.Outproj.τ).loc Cert.Outproj.main_arg0) = m ((c.tc : Thread Cert.Outproj.nD Cert.Outproj.τ).loc Cert.Outproj.main_arg0)
      ∧ r.2.mem ((c.tc : Thread Cert.Outproj.nD Cert.Outproj.τ).loc Cert.Outproj.main_arg1) = m ((c.tc : Thread Cert.Outproj.nD Cert.Outproj.τ).loc Cert.Outproj.main_arg1)
      ∧ r.2.mem ((c.tc : Thread Cert.Outproj.nD Cert.Outproj.τ).loc Cert.Outproj.main_arg2) = m ((c.tc : Thread Cert.Outproj.nD Cert.Outproj.τ).loc Cert.Outproj.main_arg2)
      ∧ r.2.mem ((c.tc : Thread Cert.Outproj.nD Cert.Outproj.τ).loc Cert.Outproj.main_arg3) = m ((c.tc : Thread Cert.Outproj.nD Cert.Outproj.τ).loc Cert.Outproj.main_arg3)
      ∧ r.2.mem ((c.tc : Thread Cert.Outproj.nD Cert.Outproj.τ).loc Cert.Outproj.main_arg4) = m ((c.tc : Thread Cert.Outproj.nD Cert.Outproj.τ).loc Cert.Outproj.main_arg4)
      ∧ r.2.mem ((c.tc : Thread Cert.Outproj.nD Cert.Outproj.τ).loc Cert.Outproj.main_arg5) = m ((c.tc : Thread Cert.Outproj.nD Cert.Outproj.τ).loc Cert.Outproj.main_arg5))
      ∧ r.2.sem = fun _ => 0)

def quiescent_OutprojIdeal [hOutprojIdeal : Cert.OutprojIdeal.Facts] : Prop :=
  ∀ (m : (ℓ : Loc Cert.OutprojIdeal.nD Cert.OutprojIdeal.τ Cert.OutprojIdeal.sig) → Buf (Elt Ideal) ℓ) (g : Dev Cert.OutprojIdeal.nD → PrngReg), Pre_OutprojIdeal m →
    θ_run (Cert.OutprojIdeal.defs (F := Ideal)) (onTc (τ := Cert.OutprojIdeal.τ) (Cert.OutprojIdeal.main (F := Ideal))) ⟨m, fun _ => 0, g⟩ (fun r => (∀ c : Dev Cert.OutprojIdeal.nD,
      r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
      ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
      ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2)
      ∧ r.2.mem ((c.tc : Thread Cert.OutprojIdeal.nD Cert.OutprojIdeal.τ).loc Cert.OutprojIdeal.main_arg3) = m ((c.tc : Thread Cert.OutprojIdeal.nD Cert.OutprojIdeal.τ).loc Cert.OutprojIdeal.main_arg3)
      ∧ r.2.mem ((c.tc : Thread Cert.OutprojIdeal.nD Cert.OutprojIdeal.τ).loc Cert.OutprojIdeal.main_arg4) = m ((c.tc : Thread Cert.OutprojIdeal.nD Cert.OutprojIdeal.τ).loc Cert.OutprojIdeal.main_arg4)
      ∧ r.2.mem ((c.tc : Thread Cert.OutprojIdeal.nD Cert.OutprojIdeal.τ).loc Cert.OutprojIdeal.main_arg5) = m ((c.tc : Thread Cert.OutprojIdeal.nD Cert.OutprojIdeal.τ).loc Cert.OutprojIdeal.main_arg5))
      ∧ r.2.sem = fun _ => 0)

def quiescent_OutprojRefIdeal [hOutprojRefIdeal : Cert.OutprojRefIdeal.Facts] : Prop :=
  ∀ (m : (ℓ : Loc Cert.OutprojRefIdeal.nD Cert.OutprojRefIdeal.τ Cert.OutprojRefIdeal.sig) → Buf (Elt Ideal) ℓ) (g : Dev Cert.OutprojRefIdeal.nD → PrngReg), Pre_OutprojRefIdeal m →
    θ_run (Cert.OutprojRefIdeal.defs (F := Ideal)) (onTc (τ := Cert.OutprojRefIdeal.τ) (Cert.OutprojRefIdeal.main (F := Ideal))) ⟨m, fun _ => 0, g⟩ (fun r => (∀ c : Dev Cert.OutprojRefIdeal.nD,
      r.2.mem ((c.tc : Thread Cert.OutprojRefIdeal.nD Cert.OutprojRefIdeal.τ).loc Cert.OutprojRefIdeal.main_arg0) = m ((c.tc : Thread Cert.OutprojRefIdeal.nD Cert.OutprojRefIdeal.τ).loc Cert.OutprojRefIdeal.main_arg0)
      ∧ r.2.mem ((c.tc : Thread Cert.OutprojRefIdeal.nD Cert.OutprojRefIdeal.τ).loc Cert.OutprojRefIdeal.main_arg1) = m ((c.tc : Thread Cert.OutprojRefIdeal.nD Cert.OutprojRefIdeal.τ).loc Cert.OutprojRefIdeal.main_arg1)
      ∧ r.2.mem ((c.tc : Thread Cert.OutprojRefIdeal.nD Cert.OutprojRefIdeal.τ).loc Cert.OutprojRefIdeal.main_arg2) = m ((c.tc : Thread Cert.OutprojRefIdeal.nD Cert.OutprojRefIdeal.τ).loc Cert.OutprojRefIdeal.main_arg2)
      ∧ r.2.mem ((c.tc : Thread Cert.OutprojRefIdeal.nD Cert.OutprojRefIdeal.τ).loc Cert.OutprojRefIdeal.main_arg3) = m ((c.tc : Thread Cert.OutprojRefIdeal.nD Cert.OutprojRefIdeal.τ).loc Cert.OutprojRefIdeal.main_arg3)
      ∧ r.2.mem ((c.tc : Thread Cert.OutprojRefIdeal.nD Cert.OutprojRefIdeal.τ).loc Cert.OutprojRefIdeal.main_arg4) = m ((c.tc : Thread Cert.OutprojRefIdeal.nD Cert.OutprojRefIdeal.τ).loc Cert.OutprojRefIdeal.main_arg4)
      ∧ r.2.mem ((c.tc : Thread Cert.OutprojRefIdeal.nD Cert.OutprojRefIdeal.τ).loc Cert.OutprojRefIdeal.main_arg5) = m ((c.tc : Thread Cert.OutprojRefIdeal.nD Cert.OutprojRefIdeal.τ).loc Cert.OutprojRefIdeal.main_arg5))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1))
      ∧ r.2.sem = fun _ => 0)

def quiescent_FfnSample [hFfnSample : Cert.FfnSample.Facts] : Prop :=
  ∀ (m : (ℓ : Loc Cert.FfnSample.nD Cert.FfnSample.τ Cert.FfnSample.sig) → Buf (Elt Bits) ℓ) (g : Dev Cert.FfnSample.nD → PrngReg), Pre_FfnSample m →
    θ_run (Cert.FfnSample.defs (F := Bits)) (onTc (τ := Cert.FfnSample.τ) (Cert.FfnSample.main (F := Bits))) ⟨m, fun _ => 0, g⟩ (fun r => (∀ c : Dev Cert.FfnSample.nD,
      r.2.mem ((c.tc : Thread Cert.FfnSample.nD Cert.FfnSample.τ).loc Cert.FfnSample.main_arg0) = m ((c.tc : Thread Cert.FfnSample.nD Cert.FfnSample.τ).loc Cert.FfnSample.main_arg0)
      ∧ r.2.mem ((c.tc : Thread Cert.FfnSample.nD Cert.FfnSample.τ).loc Cert.FfnSample.main_arg1) = m ((c.tc : Thread Cert.FfnSample.nD Cert.FfnSample.τ).loc Cert.FfnSample.main_arg1)
      ∧ r.2.mem ((c.tc : Thread Cert.FfnSample.nD Cert.FfnSample.τ).loc Cert.FfnSample.main_arg2) = m ((c.tc : Thread Cert.FfnSample.nD Cert.FfnSample.τ).loc Cert.FfnSample.main_arg2)
      ∧ r.2.mem ((c.tc : Thread Cert.FfnSample.nD Cert.FfnSample.τ).loc Cert.FfnSample.main_arg3) = m ((c.tc : Thread Cert.FfnSample.nD Cert.FfnSample.τ).loc Cert.FfnSample.main_arg3)
      ∧ r.2.mem ((c.tc : Thread Cert.FfnSample.nD Cert.FfnSample.τ).loc Cert.FfnSample.main_arg4) = m ((c.tc : Thread Cert.FfnSample.nD Cert.FfnSample.τ).loc Cert.FfnSample.main_arg4)
      ∧ r.2.mem ((c.tc : Thread Cert.FfnSample.nD Cert.FfnSample.τ).loc Cert.FfnSample.main_arg5) = m ((c.tc : Thread Cert.FfnSample.nD Cert.FfnSample.τ).loc Cert.FfnSample.main_arg5))
      ∧ r.2.sem = fun _ => 0)

def quiescent_FfnSampleIdeal [hFfnSampleIdeal : Cert.FfnSampleIdeal.Facts] : Prop :=
  ∀ (m : (ℓ : Loc Cert.FfnSampleIdeal.nD Cert.FfnSampleIdeal.τ Cert.FfnSampleIdeal.sig) → Buf (Elt Ideal) ℓ) (g : Dev Cert.FfnSampleIdeal.nD → PrngReg), Pre_FfnSampleIdeal m →
    θ_run (Cert.FfnSampleIdeal.defs (F := Ideal)) (onTc (τ := Cert.FfnSampleIdeal.τ) (Cert.FfnSampleIdeal.main (F := Ideal))) ⟨m, fun _ => 0, g⟩ (fun r => (∀ c : Dev Cert.FfnSampleIdeal.nD,
      r.2.mem ((c.tc : Thread Cert.FfnSampleIdeal.nD Cert.FfnSampleIdeal.τ).loc Cert.FfnSampleIdeal.main_arg0) = m ((c.tc : Thread Cert.FfnSampleIdeal.nD Cert.FfnSampleIdeal.τ).loc Cert.FfnSampleIdeal.main_arg0)
      ∧ r.2.mem ((c.tc : Thread Cert.FfnSampleIdeal.nD Cert.FfnSampleIdeal.τ).loc Cert.FfnSampleIdeal.main_arg1) = m ((c.tc : Thread Cert.FfnSampleIdeal.nD Cert.FfnSampleIdeal.τ).loc Cert.FfnSampleIdeal.main_arg1)
      ∧ r.2.mem ((c.tc : Thread Cert.FfnSampleIdeal.nD Cert.FfnSampleIdeal.τ).loc Cert.FfnSampleIdeal.main_arg2) = m ((c.tc : Thread Cert.FfnSampleIdeal.nD Cert.FfnSampleIdeal.τ).loc Cert.FfnSampleIdeal.main_arg2)
      ∧ r.2.mem ((c.tc : Thread Cert.FfnSampleIdeal.nD Cert.FfnSampleIdeal.τ).loc Cert.FfnSampleIdeal.main_arg3) = m ((c.tc : Thread Cert.FfnSampleIdeal.nD Cert.FfnSampleIdeal.τ).loc Cert.FfnSampleIdeal.main_arg3)
      ∧ r.2.mem ((c.tc : Thread Cert.FfnSampleIdeal.nD Cert.FfnSampleIdeal.τ).loc Cert.FfnSampleIdeal.main_arg4) = m ((c.tc : Thread Cert.FfnSampleIdeal.nD Cert.FfnSampleIdeal.τ).loc Cert.FfnSampleIdeal.main_arg4)
      ∧ r.2.mem ((c.tc : Thread Cert.FfnSampleIdeal.nD Cert.FfnSampleIdeal.τ).loc Cert.FfnSampleIdeal.main_arg5) = m ((c.tc : Thread Cert.FfnSampleIdeal.nD Cert.FfnSampleIdeal.τ).loc Cert.FfnSampleIdeal.main_arg5))
      ∧ r.2.sem = fun _ => 0)

def quiescent_FfnSampleRefIdeal [hFfnSampleRefIdeal : Cert.FfnSampleRefIdeal.Facts] : Prop :=
  ∀ (m : (ℓ : Loc Cert.FfnSampleRefIdeal.nD Cert.FfnSampleRefIdeal.τ Cert.FfnSampleRefIdeal.sig) → Buf (Elt Ideal) ℓ) (g : Dev Cert.FfnSampleRefIdeal.nD → PrngReg), Pre_FfnSampleRefIdeal m →
    θ_run (Cert.FfnSampleRefIdeal.defs (F := Ideal)) (onTc (τ := Cert.FfnSampleRefIdeal.τ) (Cert.FfnSampleRefIdeal.main (F := Ideal))) ⟨m, fun _ => 0, g⟩ (fun r => (∀ c : Dev Cert.FfnSampleRefIdeal.nD,
      r.2.mem ((c.tc : Thread Cert.FfnSampleRefIdeal.nD Cert.FfnSampleRefIdeal.τ).loc Cert.FfnSampleRefIdeal.main_arg0) = m ((c.tc : Thread Cert.FfnSampleRefIdeal.nD Cert.FfnSampleRefIdeal.τ).loc Cert.FfnSampleRefIdeal.main_arg0)
      ∧ r.2.mem ((c.tc : Thread Cert.FfnSampleRefIdeal.nD Cert.FfnSampleRefIdeal.τ).loc Cert.FfnSampleRefIdeal.main_arg1) = m ((c.tc : Thread Cert.FfnSampleRefIdeal.nD Cert.FfnSampleRefIdeal.τ).loc Cert.FfnSampleRefIdeal.main_arg1)
      ∧ r.2.mem ((c.tc : Thread Cert.FfnSampleRefIdeal.nD Cert.FfnSampleRefIdeal.τ).loc Cert.FfnSampleRefIdeal.main_arg2) = m ((c.tc : Thread Cert.FfnSampleRefIdeal.nD Cert.FfnSampleRefIdeal.τ).loc Cert.FfnSampleRefIdeal.main_arg2)
      ∧ r.2.mem ((c.tc : Thread Cert.FfnSampleRefIdeal.nD Cert.FfnSampleRefIdeal.τ).loc Cert.FfnSampleRefIdeal.main_arg3) = m ((c.tc : Thread Cert.FfnSampleRefIdeal.nD Cert.FfnSampleRefIdeal.τ).loc Cert.FfnSampleRefIdeal.main_arg3)
      ∧ r.2.mem ((c.tc : Thread Cert.FfnSampleRefIdeal.nD Cert.FfnSampleRefIdeal.τ).loc Cert.FfnSampleRefIdeal.main_arg4) = m ((c.tc : Thread Cert.FfnSampleRefIdeal.nD Cert.FfnSampleRefIdeal.τ).loc Cert.FfnSampleRefIdeal.main_arg4)
      ∧ r.2.mem ((c.tc : Thread Cert.FfnSampleRefIdeal.nD Cert.FfnSampleRefIdeal.τ).loc Cert.FfnSampleRefIdeal.main_arg5) = m ((c.tc : Thread Cert.FfnSampleRefIdeal.nD Cert.FfnSampleRefIdeal.τ).loc Cert.FfnSampleRefIdeal.main_arg5))
      ∧ r.2.sem = fun _ => 0)

def quiescent_OutprojSample [hOutprojSample : Cert.OutprojSample.Facts] : Prop :=
  ∀ (m : (ℓ : Loc Cert.OutprojSample.nD Cert.OutprojSample.τ Cert.OutprojSample.sig) → Buf (Elt Bits) ℓ) (g : Dev Cert.OutprojSample.nD → PrngReg), Pre_OutprojSample m →
    θ_run (Cert.OutprojSample.defs (F := Bits)) (onTc (τ := Cert.OutprojSample.τ) (Cert.OutprojSample.main (F := Bits))) ⟨m, fun _ => 0, g⟩ (fun r => (∀ c : Dev Cert.OutprojSample.nD,
      r.2.mem ((c.tc : Thread Cert.OutprojSample.nD Cert.OutprojSample.τ).loc Cert.OutprojSample.main_arg0) = m ((c.tc : Thread Cert.OutprojSample.nD Cert.OutprojSample.τ).loc Cert.OutprojSample.main_arg0)
      ∧ r.2.mem ((c.tc : Thread Cert.OutprojSample.nD Cert.OutprojSample.τ).loc Cert.OutprojSample.main_arg1) = m ((c.tc : Thread Cert.OutprojSample.nD Cert.OutprojSample.τ).loc Cert.OutprojSample.main_arg1)
      ∧ r.2.mem ((c.tc : Thread Cert.OutprojSample.nD Cert.OutprojSample.τ).loc Cert.OutprojSample.main_arg2) = m ((c.tc : Thread Cert.OutprojSample.nD Cert.OutprojSample.τ).loc Cert.OutprojSample.main_arg2)
      ∧ r.2.mem ((c.tc : Thread Cert.OutprojSample.nD Cert.OutprojSample.τ).loc Cert.OutprojSample.main_arg3) = m ((c.tc : Thread Cert.OutprojSample.nD Cert.OutprojSample.τ).loc Cert.OutprojSample.main_arg3)
      ∧ r.2.mem ((c.tc : Thread Cert.OutprojSample.nD Cert.OutprojSample.τ).loc Cert.OutprojSample.main_arg4) = m ((c.tc : Thread Cert.OutprojSample.nD Cert.OutprojSample.τ).loc Cert.OutprojSample.main_arg4)
      ∧ r.2.mem ((c.tc : Thread Cert.OutprojSample.nD Cert.OutprojSample.τ).loc Cert.OutprojSample.main_arg5) = m ((c.tc : Thread Cert.OutprojSample.nD Cert.OutprojSample.τ).loc Cert.OutprojSample.main_arg5))
      ∧ r.2.sem = fun _ => 0)

def quiescent_OutprojSampleIdeal [hOutprojSampleIdeal : Cert.OutprojSampleIdeal.Facts] : Prop :=
  ∀ (m : (ℓ : Loc Cert.OutprojSampleIdeal.nD Cert.OutprojSampleIdeal.τ Cert.OutprojSampleIdeal.sig) → Buf (Elt Ideal) ℓ) (g : Dev Cert.OutprojSampleIdeal.nD → PrngReg), Pre_OutprojSampleIdeal m →
    θ_run (Cert.OutprojSampleIdeal.defs (F := Ideal)) (onTc (τ := Cert.OutprojSampleIdeal.τ) (Cert.OutprojSampleIdeal.main (F := Ideal))) ⟨m, fun _ => 0, g⟩ (fun r => (∀ c : Dev Cert.OutprojSampleIdeal.nD,
      r.2.mem ((c.tc : Thread Cert.OutprojSampleIdeal.nD Cert.OutprojSampleIdeal.τ).loc Cert.OutprojSampleIdeal.main_arg0) = m ((c.tc : Thread Cert.OutprojSampleIdeal.nD Cert.OutprojSampleIdeal.τ).loc Cert.OutprojSampleIdeal.main_arg0)
      ∧ r.2.mem ((c.tc : Thread Cert.OutprojSampleIdeal.nD Cert.OutprojSampleIdeal.τ).loc Cert.OutprojSampleIdeal.main_arg1) = m ((c.tc : Thread Cert.OutprojSampleIdeal.nD Cert.OutprojSampleIdeal.τ).loc Cert.OutprojSampleIdeal.main_arg1)
      ∧ r.2.mem ((c.tc : Thread Cert.OutprojSampleIdeal.nD Cert.OutprojSampleIdeal.τ).loc Cert.OutprojSampleIdeal.main_arg2) = m ((c.tc : Thread Cert.OutprojSampleIdeal.nD Cert.OutprojSampleIdeal.τ).loc Cert.OutprojSampleIdeal.main_arg2)
      ∧ r.2.mem ((c.tc : Thread Cert.OutprojSampleIdeal.nD Cert.OutprojSampleIdeal.τ).loc Cert.OutprojSampleIdeal.main_arg3) = m ((c.tc : Thread Cert.OutprojSampleIdeal.nD Cert.OutprojSampleIdeal.τ).loc Cert.OutprojSampleIdeal.main_arg3)
      ∧ r.2.mem ((c.tc : Thread Cert.OutprojSampleIdeal.nD Cert.OutprojSampleIdeal.τ).loc Cert.OutprojSampleIdeal.main_arg4) = m ((c.tc : Thread Cert.OutprojSampleIdeal.nD Cert.OutprojSampleIdeal.τ).loc Cert.OutprojSampleIdeal.main_arg4)
      ∧ r.2.mem ((c.tc : Thread Cert.OutprojSampleIdeal.nD Cert.OutprojSampleIdeal.τ).loc Cert.OutprojSampleIdeal.main_arg5) = m ((c.tc : Thread Cert.OutprojSampleIdeal.nD Cert.OutprojSampleIdeal.τ).loc Cert.OutprojSampleIdeal.main_arg5))
      ∧ r.2.sem = fun _ => 0)

def quiescent_OutprojSampleRefIdeal [hOutprojSampleRefIdeal : Cert.OutprojSampleRefIdeal.Facts] : Prop :=
  ∀ (m : (ℓ : Loc Cert.OutprojSampleRefIdeal.nD Cert.OutprojSampleRefIdeal.τ Cert.OutprojSampleRefIdeal.sig) → Buf (Elt Ideal) ℓ) (g : Dev Cert.OutprojSampleRefIdeal.nD → PrngReg), Pre_OutprojSampleRefIdeal m →
    θ_run (Cert.OutprojSampleRefIdeal.defs (F := Ideal)) (onTc (τ := Cert.OutprojSampleRefIdeal.τ) (Cert.OutprojSampleRefIdeal.main (F := Ideal))) ⟨m, fun _ => 0, g⟩ (fun r => (∀ c : Dev Cert.OutprojSampleRefIdeal.nD,
      r.2.mem ((c.tc : Thread Cert.OutprojSampleRefIdeal.nD Cert.OutprojSampleRefIdeal.τ).loc Cert.OutprojSampleRefIdeal.main_arg0) = m ((c.tc : Thread Cert.OutprojSampleRefIdeal.nD Cert.OutprojSampleRefIdeal.τ).loc Cert.OutprojSampleRefIdeal.main_arg0)
      ∧ r.2.mem ((c.tc : Thread Cert.OutprojSampleRefIdeal.nD Cert.OutprojSampleRefIdeal.τ).loc Cert.OutprojSampleRefIdeal.main_arg1) = m ((c.tc : Thread Cert.OutprojSampleRefIdeal.nD Cert.OutprojSampleRefIdeal.τ).loc Cert.OutprojSampleRefIdeal.main_arg1)
      ∧ r.2.mem ((c.tc : Thread Cert.OutprojSampleRefIdeal.nD Cert.OutprojSampleRefIdeal.τ).loc Cert.OutprojSampleRefIdeal.main_arg2) = m ((c.tc : Thread Cert.OutprojSampleRefIdeal.nD Cert.OutprojSampleRefIdeal.τ).loc Cert.OutprojSampleRefIdeal.main_arg2)
      ∧ r.2.mem ((c.tc : Thread Cert.OutprojSampleRefIdeal.nD Cert.OutprojSampleRefIdeal.τ).loc Cert.OutprojSampleRefIdeal.main_arg3) = m ((c.tc : Thread Cert.OutprojSampleRefIdeal.nD Cert.OutprojSampleRefIdeal.τ).loc Cert.OutprojSampleRefIdeal.main_arg3)
      ∧ r.2.mem ((c.tc : Thread Cert.OutprojSampleRefIdeal.nD Cert.OutprojSampleRefIdeal.τ).loc Cert.OutprojSampleRefIdeal.main_arg4) = m ((c.tc : Thread Cert.OutprojSampleRefIdeal.nD Cert.OutprojSampleRefIdeal.τ).loc Cert.OutprojSampleRefIdeal.main_arg4)
      ∧ r.2.mem ((c.tc : Thread Cert.OutprojSampleRefIdeal.nD Cert.OutprojSampleRefIdeal.τ).loc Cert.OutprojSampleRefIdeal.main_arg5) = m ((c.tc : Thread Cert.OutprojSampleRefIdeal.nD Cert.OutprojSampleRefIdeal.τ).loc Cert.OutprojSampleRefIdeal.main_arg5))
      ∧ r.2.sem = fun _ => 0)

def quiescent_InprojSample [hInprojSample : Cert.InprojSample.Facts] : Prop :=
  ∀ (m : (ℓ : Loc Cert.InprojSample.nD Cert.InprojSample.τ Cert.InprojSample.sig) → Buf (Elt Bits) ℓ) (g : Dev Cert.InprojSample.nD → PrngReg), Pre_InprojSample m →
    θ_run (Cert.InprojSample.defs (F := Bits)) (onTc (τ := Cert.InprojSample.τ) (Cert.InprojSample.main (F := Bits))) ⟨m, fun _ => 0, g⟩ (fun r => (∀ c : Dev Cert.InprojSample.nD,
      r.2.mem ((c.tc : Thread Cert.InprojSample.nD Cert.InprojSample.τ).loc Cert.InprojSample.main_arg0) = m ((c.tc : Thread Cert.InprojSample.nD Cert.InprojSample.τ).loc Cert.InprojSample.main_arg0)
      ∧ r.2.mem ((c.tc : Thread Cert.InprojSample.nD Cert.InprojSample.τ).loc Cert.InprojSample.main_arg1) = m ((c.tc : Thread Cert.InprojSample.nD Cert.InprojSample.τ).loc Cert.InprojSample.main_arg1))
      ∧ r.2.sem = fun _ => 0)

def quiescent_InprojSampleIdeal [hInprojSampleIdeal : Cert.InprojSampleIdeal.Facts] : Prop :=
  ∀ (m : (ℓ : Loc Cert.InprojSampleIdeal.nD Cert.InprojSampleIdeal.τ Cert.InprojSampleIdeal.sig) → Buf (Elt Ideal) ℓ) (g : Dev Cert.InprojSampleIdeal.nD → PrngReg), Pre_InprojSampleIdeal m →
    θ_run (Cert.InprojSampleIdeal.defs (F := Ideal)) (onTc (τ := Cert.InprojSampleIdeal.τ) (Cert.InprojSampleIdeal.main (F := Ideal))) ⟨m, fun _ => 0, g⟩ (fun r => (∀ c : Dev Cert.InprojSampleIdeal.nD,
      r.2.mem ((c.tc : Thread Cert.InprojSampleIdeal.nD Cert.InprojSampleIdeal.τ).loc Cert.InprojSampleIdeal.main_arg0) = m ((c.tc : Thread Cert.InprojSampleIdeal.nD Cert.InprojSampleIdeal.τ).loc Cert.InprojSampleIdeal.main_arg0)
      ∧ r.2.mem ((c.tc : Thread Cert.InprojSampleIdeal.nD Cert.InprojSampleIdeal.τ).loc Cert.InprojSampleIdeal.main_arg1) = m ((c.tc : Thread Cert.InprojSampleIdeal.nD Cert.InprojSampleIdeal.τ).loc Cert.InprojSampleIdeal.main_arg1))
      ∧ r.2.sem = fun _ => 0)

def quiescent_InprojSampleRefIdeal [hInprojSampleRefIdeal : Cert.InprojSampleRefIdeal.Facts] : Prop :=
  ∀ (m : (ℓ : Loc Cert.InprojSampleRefIdeal.nD Cert.InprojSampleRefIdeal.τ Cert.InprojSampleRefIdeal.sig) → Buf (Elt Ideal) ℓ) (g : Dev Cert.InprojSampleRefIdeal.nD → PrngReg), Pre_InprojSampleRefIdeal m →
    θ_run (Cert.InprojSampleRefIdeal.defs (F := Ideal)) (onTc (τ := Cert.InprojSampleRefIdeal.τ) (Cert.InprojSampleRefIdeal.main (F := Ideal))) ⟨m, fun _ => 0, g⟩ (fun r => (∀ c : Dev Cert.InprojSampleRefIdeal.nD,
      r.2.mem ((c.tc : Thread Cert.InprojSampleRefIdeal.nD Cert.InprojSampleRefIdeal.τ).loc Cert.InprojSampleRefIdeal.main_arg0) = m ((c.tc : Thread Cert.InprojSampleRefIdeal.nD Cert.InprojSampleRefIdeal.τ).loc Cert.InprojSampleRefIdeal.main_arg0)
      ∧ r.2.mem ((c.tc : Thread Cert.InprojSampleRefIdeal.nD Cert.InprojSampleRefIdeal.τ).loc Cert.InprojSampleRefIdeal.main_arg1) = m ((c.tc : Thread Cert.InprojSampleRefIdeal.nD Cert.InprojSampleRefIdeal.τ).loc Cert.InprojSampleRefIdeal.main_arg1))
      ∧ r.2.sem = fun _ => 0)

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v7_0)) (v1 : (c : Dev Cert.FfnIdeal.nD) → Buf (Elt Ideal) ((c.tc : Thread Cert.FfnIdeal.nD Cert.FfnIdeal.τ).loc Cert.FfnIdeal.main_v7_1)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v7_0) = v0 c
          ∧ r.2.mem ((c.tc : Thread Cert.FfnIdeal.nD Cert.FfnIdeal.τ).loc Cert.FfnIdeal.main_v7_1) = v1 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v44) = v0 c
          ∧ r.2.mem ((c.tc : Thread Cert.FfnRefIdeal.nD Cert.FfnRefIdeal.τ).loc Cert.FfnRefIdeal.main_v45) = v1 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_Outproj_OutprojIdeal : Prop :=
  True

def algebraic_OutprojIdeal_OutprojRefIdeal [hOutprojIdeal : Cert.OutprojIdeal.Facts] [hOutprojRefIdeal : Cert.OutprojRefIdeal.Facts] : Prop :=
  ∀ (m : (ℓ : Loc Cert.OutprojIdeal.nD Cert.OutprojIdeal.τ Cert.OutprojIdeal.sig) → Buf (Elt Ideal) ℓ) (g : Dev Cert.OutprojIdeal.nD → PrngReg)
    (m' : (ℓ : Loc Cert.OutprojRefIdeal.nD Cert.OutprojRefIdeal.τ Cert.OutprojRefIdeal.sig) → Buf (Elt Ideal) ℓ) (g' : Dev Cert.OutprojRefIdeal.nD → PrngReg), Pre_OutprojIdeal m →
    (∀ c : Dev Cert.OutprojIdeal.nD,
      m' ((c.tc : Thread Cert.OutprojRefIdeal.nD Cert.OutprojRefIdeal.τ).loc Cert.OutprojRefIdeal.main_arg0) = m ((c.tc : Thread Cert.OutprojIdeal.nD Cert.OutprojIdeal.τ).loc Cert.OutprojIdeal.main_arg0)
      ∧ m' ((c.tc : Thread Cert.OutprojRefIdeal.nD Cert.OutprojRefIdeal.τ).loc Cert.OutprojRefIdeal.main_arg1) = m ((c.tc : Thread Cert.OutprojIdeal.nD Cert.OutprojIdeal.τ).loc Cert.OutprojIdeal.main_arg1)
      ∧ m' ((c.tc : Thread Cert.OutprojRefIdeal.nD Cert.OutprojRefIdeal.τ).loc Cert.OutprojRefIdeal.main_arg2) = m ((c.tc : Thread Cert.OutprojIdeal.nD Cert.OutprojIdeal.τ).loc Cert.OutprojIdeal.main_arg2)
      ∧ m' ((c.tc : Thread Cert.OutprojRefIdeal.nD Cert.OutprojRefIdeal.τ).loc Cert.OutprojRefIdeal.main_arg3) = m ((c.tc : Thread Cert.OutprojIdeal.nD Cert.OutprojIdeal.τ).loc Cert.OutprojIdeal.main_arg3)
      ∧ m' ((c.tc : Thread Cert.OutprojRefIdeal.nD Cert.OutprojRefIdeal.τ).loc Cert.OutprojRefIdeal.main_arg4) = m ((c.tc : Thread Cert.OutprojIdeal.nD Cert.OutprojIdeal.τ).loc Cert.OutprojIdeal.main_arg4)
      ∧ m' ((c.tc : Thread Cert.OutprojRefIdeal.nD Cert.OutprojRefIdeal.τ).loc Cert.OutprojRefIdeal.main_arg5) = m ((c.tc : Thread Cert.OutprojIdeal.nD Cert.OutprojIdeal.τ).loc Cert.OutprojIdeal.main_arg5)) →
    ∃ (v0 : (c : Dev Cert.OutprojIdeal.nD) → Buf (Elt Ideal) ((c.tc : Thread Cert.OutprojIdeal.nD Cert.OutprojIdeal.τ).loc Cert.OutprojIdeal.main_v3_0)) (v1 : (c : Dev Cert.OutprojIdeal.nD) → Buf (Elt Ideal) ((c.tc : Thread Cert.OutprojIdeal.nD Cert.OutprojIdeal.τ).loc Cert.OutprojIdeal.main_v3_1)),
      θ_run (Cert.OutprojIdeal.defs (F := Ideal)) (onTc (τ := Cert.OutprojIdeal.τ) (Cert.OutprojIdeal.main (F := Ideal))) ⟨m, fun _ => 0, g⟩ (fun r => ∀ c : Dev Cert.OutprojIdeal.nD,
          r.2.mem ((c.tc : Thread Cert.OutprojIdeal.nD Cert.OutprojIdeal.τ).loc Cert.OutprojIdeal.main_v3_0) = v0 c
          ∧ r.2.mem ((c.tc : Thread Cert.OutprojIdeal.nD Cert.OutprojIdeal.τ).loc Cert.OutprojIdeal.main_v3_1) = v1 c
          ∧ r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
          ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
          ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2)
          ∧ r.2.mem ((c.tc : Thread Cert.OutprojIdeal.nD Cert.OutprojIdeal.τ).loc Cert.OutprojIdeal.main_arg3) = m ((c.tc : Thread Cert.OutprojIdeal.nD Cert.OutprojIdeal.τ).loc Cert.OutprojIdeal.main_arg3)
          ∧ r.2.mem ((c.tc : Thread Cert.OutprojIdeal.nD Cert.OutprojIdeal.τ).loc Cert.OutprojIdeal.main_arg4) = m ((c.tc : Thread Cert.OutprojIdeal.nD Cert.OutprojIdeal.τ).loc Cert.OutprojIdeal.main_arg4)
          ∧ r.2.mem ((c.tc : Thread Cert.OutprojIdeal.nD Cert.OutprojIdeal.τ).loc Cert.OutprojIdeal.main_arg5) = m ((c.tc : Thread Cert.OutprojIdeal.nD Cert.OutprojIdeal.τ).loc Cert.OutprojIdeal.main_arg5))
      ∧ θ_run (Cert.OutprojRefIdeal.defs (F := Ideal)) (onTc (τ := Cert.OutprojRefIdeal.τ) (Cert.OutprojRefIdeal.main (F := Ideal))) ⟨m', fun _ => 0, g'⟩ (fun r => ∀ c : Dev Cert.OutprojRefIdeal.nD,
          r.2.mem ((c.tc : Thread Cert.OutprojRefIdeal.nD Cert.OutprojRefIdeal.τ).loc Cert.OutprojRefIdeal.main_v34) = v0 c
          ∧ r.2.mem ((c.tc : Thread Cert.OutprojRefIdeal.nD Cert.OutprojRefIdeal.τ).loc Cert.OutprojRefIdeal.main_v35) = v1 c
          ∧ r.2.mem ((c.tc : Thread Cert.OutprojRefIdeal.nD Cert.OutprojRefIdeal.τ).loc Cert.OutprojRefIdeal.main_arg0) = m' ((c.tc : Thread Cert.OutprojRefIdeal.nD Cert.OutprojRefIdeal.τ).loc Cert.OutprojRefIdeal.main_arg0)
          ∧ r.2.mem ((c.tc : Thread Cert.OutprojRefIdeal.nD Cert.OutprojRefIdeal.τ).loc Cert.OutprojRefIdeal.main_arg1) = m' ((c.tc : Thread Cert.OutprojRefIdeal.nD Cert.OutprojRefIdeal.τ).loc Cert.OutprojRefIdeal.main_arg1)
          ∧ r.2.mem ((c.tc : Thread Cert.OutprojRefIdeal.nD Cert.OutprojRefIdeal.τ).loc Cert.OutprojRefIdeal.main_arg2) = m' ((c.tc : Thread Cert.OutprojRefIdeal.nD Cert.OutprojRefIdeal.τ).loc Cert.OutprojRefIdeal.main_arg2)
          ∧ r.2.mem ((c.tc : Thread Cert.OutprojRefIdeal.nD Cert.OutprojRefIdeal.τ).loc Cert.OutprojRefIdeal.main_arg3) = m' ((c.tc : Thread Cert.OutprojRefIdeal.nD Cert.OutprojRefIdeal.τ).loc Cert.OutprojRefIdeal.main_arg3)
          ∧ r.2.mem ((c.tc : Thread Cert.OutprojRefIdeal.nD Cert.OutprojRefIdeal.τ).loc Cert.OutprojRefIdeal.main_arg4) = m' ((c.tc : Thread Cert.OutprojRefIdeal.nD Cert.OutprojRefIdeal.τ).loc Cert.OutprojRefIdeal.main_arg4)
          ∧ r.2.mem ((c.tc : Thread Cert.OutprojRefIdeal.nD Cert.OutprojRefIdeal.τ).loc Cert.OutprojRefIdeal.main_arg5) = m' ((c.tc : Thread Cert.OutprojRefIdeal.nD Cert.OutprojRefIdeal.τ).loc Cert.OutprojRefIdeal.main_arg5))

def preserves_Inproj_InprojIdeal : Prop :=
  True

def algebraic_InprojIdeal_InprojRefIdeal [hInprojIdeal : Cert.InprojIdeal.Facts] [hInprojRefIdeal : Cert.InprojRefIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)) →
    ∃ (v0 : (c : Dev Cert.InprojIdeal.nD) → Buf (Elt Ideal) ((c.tc : Thread Cert.InprojIdeal.nD Cert.InprojIdeal.τ).loc Cert.InprojIdeal.main_v18_0)) (v1 : (c : Dev Cert.InprojIdeal.nD) → Buf (Elt Ideal) ((c.tc : Thread Cert.InprojIdeal.nD Cert.InprojIdeal.τ).loc Cert.InprojIdeal.main_v18_1)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v18_0) = v0 c
          ∧ r.2.mem ((c.tc : Thread Cert.InprojIdeal.nD Cert.InprojIdeal.τ).loc Cert.InprojIdeal.main_v18_1) = v1 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v19) = v0 c
          ∧ r.2.mem ((c.tc : Thread Cert.InprojRefIdeal.nD Cert.InprojRefIdeal.τ).loc Cert.InprojRefIdeal.main_v20) = v1 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1))

def preserves_FfnSample_FfnSampleIdeal : Prop :=
  True

def algebraic_FfnSampleIdeal_FfnSampleRefIdeal [hFfnSampleIdeal : Cert.FfnSampleIdeal.Facts] [hFfnSampleRefIdeal : Cert.FfnSampleRefIdeal.Facts] : Prop :=
  ∀ (m : (ℓ : Loc Cert.FfnSampleIdeal.nD Cert.FfnSampleIdeal.τ Cert.FfnSampleIdeal.sig) → Buf (Elt Ideal) ℓ) (g : Dev Cert.FfnSampleIdeal.nD → PrngReg)
    (m' : (ℓ : Loc Cert.FfnSampleRefIdeal.nD Cert.FfnSampleRefIdeal.τ Cert.FfnSampleRefIdeal.sig) → Buf (Elt Ideal) ℓ) (g' : Dev Cert.FfnSampleRefIdeal.nD → PrngReg), Pre_FfnSampleIdeal m →
    (∀ c : Dev Cert.FfnSampleIdeal.nD,
      m' ((c.tc : Thread Cert.FfnSampleRefIdeal.nD Cert.FfnSampleRefIdeal.τ).loc Cert.FfnSampleRefIdeal.main_arg0) = m ((c.tc : Thread Cert.FfnSampleIdeal.nD Cert.FfnSampleIdeal.τ).loc Cert.FfnSampleIdeal.main_arg0)
      ∧ m' ((c.tc : Thread Cert.FfnSampleRefIdeal.nD Cert.FfnSampleRefIdeal.τ).loc Cert.FfnSampleRefIdeal.main_arg1) = m ((c.tc : Thread Cert.FfnSampleIdeal.nD Cert.FfnSampleIdeal.τ).loc Cert.FfnSampleIdeal.main_arg1)
      ∧ m' ((c.tc : Thread Cert.FfnSampleRefIdeal.nD Cert.FfnSampleRefIdeal.τ).loc Cert.FfnSampleRefIdeal.main_arg2) = m ((c.tc : Thread Cert.FfnSampleIdeal.nD Cert.FfnSampleIdeal.τ).loc Cert.FfnSampleIdeal.main_arg2)
      ∧ m' ((c.tc : Thread Cert.FfnSampleRefIdeal.nD Cert.FfnSampleRefIdeal.τ).loc Cert.FfnSampleRefIdeal.main_arg3) = m ((c.tc : Thread Cert.FfnSampleIdeal.nD Cert.FfnSampleIdeal.τ).loc Cert.FfnSampleIdeal.main_arg3)
      ∧ m' ((c.tc : Thread Cert.FfnSampleRefIdeal.nD Cert.FfnSampleRefIdeal.τ).loc Cert.FfnSampleRefIdeal.main_arg4) = m ((c.tc : Thread Cert.FfnSampleIdeal.nD Cert.FfnSampleIdeal.τ).loc Cert.FfnSampleIdeal.main_arg4)
      ∧ m' ((c.tc : Thread Cert.FfnSampleRefIdeal.nD Cert.FfnSampleRefIdeal.τ).loc Cert.FfnSampleRefIdeal.main_arg5) = m ((c.tc : Thread Cert.FfnSampleIdeal.nD Cert.FfnSampleIdeal.τ).loc Cert.FfnSampleIdeal.main_arg5)) →
    ∃ (v0 : (c : Dev Cert.FfnSampleIdeal.nD) → Buf (Elt Ideal) ((c.tc : Thread Cert.FfnSampleIdeal.nD Cert.FfnSampleIdeal.τ).loc Cert.FfnSampleIdeal.main_v7_0)) (v1 : (c : Dev Cert.FfnSampleIdeal.nD) → Buf (Elt Ideal) ((c.tc : Thread Cert.FfnSampleIdeal.nD Cert.FfnSampleIdeal.τ).loc Cert.FfnSampleIdeal.main_v7_1)),
      θ_run (Cert.FfnSampleIdeal.defs (F := Ideal)) (onTc (τ := Cert.FfnSampleIdeal.τ) (Cert.FfnSampleIdeal.main (F := Ideal))) ⟨m, fun _ => 0, g⟩ (fun r => ∀ c : Dev Cert.FfnSampleIdeal.nD,
          r.2.mem ((c.tc : Thread Cert.FfnSampleIdeal.nD Cert.FfnSampleIdeal.τ).loc Cert.FfnSampleIdeal.main_v7_0) = v0 c
          ∧ r.2.mem ((c.tc : Thread Cert.FfnSampleIdeal.nD Cert.FfnSampleIdeal.τ).loc Cert.FfnSampleIdeal.main_v7_1) = v1 c
          ∧ r.2.mem ((c.tc : Thread Cert.FfnSampleIdeal.nD Cert.FfnSampleIdeal.τ).loc Cert.FfnSampleIdeal.main_arg0) = m ((c.tc : Thread Cert.FfnSampleIdeal.nD Cert.FfnSampleIdeal.τ).loc Cert.FfnSampleIdeal.main_arg0)
          ∧ r.2.mem ((c.tc : Thread Cert.FfnSampleIdeal.nD Cert.FfnSampleIdeal.τ).loc Cert.FfnSampleIdeal.main_arg1) = m ((c.tc : Thread Cert.FfnSampleIdeal.nD Cert.FfnSampleIdeal.τ).loc Cert.FfnSampleIdeal.main_arg1)
          ∧ r.2.mem ((c.tc : Thread Cert.FfnSampleIdeal.nD Cert.FfnSampleIdeal.τ).loc Cert.FfnSampleIdeal.main_arg2) = m ((c.tc : Thread Cert.FfnSampleIdeal.nD Cert.FfnSampleIdeal.τ).loc Cert.FfnSampleIdeal.main_arg2)
          ∧ r.2.mem ((c.tc : Thread Cert.FfnSampleIdeal.nD Cert.FfnSampleIdeal.τ).loc Cert.FfnSampleIdeal.main_arg3) = m ((c.tc : Thread Cert.FfnSampleIdeal.nD Cert.FfnSampleIdeal.τ).loc Cert.FfnSampleIdeal.main_arg3)
          ∧ r.2.mem ((c.tc : Thread Cert.FfnSampleIdeal.nD Cert.FfnSampleIdeal.τ).loc Cert.FfnSampleIdeal.main_arg4) = m ((c.tc : Thread Cert.FfnSampleIdeal.nD Cert.FfnSampleIdeal.τ).loc Cert.FfnSampleIdeal.main_arg4)
          ∧ r.2.mem ((c.tc : Thread Cert.FfnSampleIdeal.nD Cert.FfnSampleIdeal.τ).loc Cert.FfnSampleIdeal.main_arg5) = m ((c.tc : Thread Cert.FfnSampleIdeal.nD Cert.FfnSampleIdeal.τ).loc Cert.FfnSampleIdeal.main_arg5))
      ∧ θ_run (Cert.FfnSampleRefIdeal.defs (F := Ideal)) (onTc (τ := Cert.FfnSampleRefIdeal.τ) (Cert.FfnSampleRefIdeal.main (F := Ideal))) ⟨m', fun _ => 0, g'⟩ (fun r => ∀ c : Dev Cert.FfnSampleRefIdeal.nD,
          r.2.mem ((c.tc : Thread Cert.FfnSampleRefIdeal.nD Cert.FfnSampleRefIdeal.τ).loc Cert.FfnSampleRefIdeal.main_v44) = v0 c
          ∧ r.2.mem ((c.tc : Thread Cert.FfnSampleRefIdeal.nD Cert.FfnSampleRefIdeal.τ).loc Cert.FfnSampleRefIdeal.main_v45) = v1 c
          ∧ r.2.mem ((c.tc : Thread Cert.FfnSampleRefIdeal.nD Cert.FfnSampleRefIdeal.τ).loc Cert.FfnSampleRefIdeal.main_arg0) = m' ((c.tc : Thread Cert.FfnSampleRefIdeal.nD Cert.FfnSampleRefIdeal.τ).loc Cert.FfnSampleRefIdeal.main_arg0)
          ∧ r.2.mem ((c.tc : Thread Cert.FfnSampleRefIdeal.nD Cert.FfnSampleRefIdeal.τ).loc Cert.FfnSampleRefIdeal.main_arg1) = m' ((c.tc : Thread Cert.FfnSampleRefIdeal.nD Cert.FfnSampleRefIdeal.τ).loc Cert.FfnSampleRefIdeal.main_arg1)
          ∧ r.2.mem ((c.tc : Thread Cert.FfnSampleRefIdeal.nD Cert.FfnSampleRefIdeal.τ).loc Cert.FfnSampleRefIdeal.main_arg2) = m' ((c.tc : Thread Cert.FfnSampleRefIdeal.nD Cert.FfnSampleRefIdeal.τ).loc Cert.FfnSampleRefIdeal.main_arg2)
          ∧ r.2.mem ((c.tc : Thread Cert.FfnSampleRefIdeal.nD Cert.FfnSampleRefIdeal.τ).loc Cert.FfnSampleRefIdeal.main_arg3) = m' ((c.tc : Thread Cert.FfnSampleRefIdeal.nD Cert.FfnSampleRefIdeal.τ).loc Cert.FfnSampleRefIdeal.main_arg3)
          ∧ r.2.mem ((c.tc : Thread Cert.FfnSampleRefIdeal.nD Cert.FfnSampleRefIdeal.τ).loc Cert.FfnSampleRefIdeal.main_arg4) = m' ((c.tc : Thread Cert.FfnSampleRefIdeal.nD Cert.FfnSampleRefIdeal.τ).loc Cert.FfnSampleRefIdeal.main_arg4)
          ∧ r.2.mem ((c.tc : Thread Cert.FfnSampleRefIdeal.nD Cert.FfnSampleRefIdeal.τ).loc Cert.FfnSampleRefIdeal.main_arg5) = m' ((c.tc : Thread Cert.FfnSampleRefIdeal.nD Cert.FfnSampleRefIdeal.τ).loc Cert.FfnSampleRefIdeal.main_arg5))

def preserves_OutprojSample_OutprojSampleIdeal : Prop :=
  True

def algebraic_OutprojSampleIdeal_OutprojSampleRefIdeal [hOutprojSampleIdeal : Cert.OutprojSampleIdeal.Facts] [hOutprojSampleRefIdeal : Cert.OutprojSampleRefIdeal.Facts] : Prop :=
  ∀ (m : (ℓ : Loc Cert.OutprojSampleIdeal.nD Cert.OutprojSampleIdeal.τ Cert.OutprojSampleIdeal.sig) → Buf (Elt Ideal) ℓ) (g : Dev Cert.OutprojSampleIdeal.nD → PrngReg)
    (m' : (ℓ : Loc Cert.OutprojSampleRefIdeal.nD Cert.OutprojSampleRefIdeal.τ Cert.OutprojSampleRefIdeal.sig) → Buf (Elt Ideal) ℓ) (g' : Dev Cert.OutprojSampleRefIdeal.nD → PrngReg), Pre_OutprojSampleIdeal m →
    (∀ c : Dev Cert.OutprojSampleIdeal.nD,
      m' ((c.tc : Thread Cert.OutprojSampleRefIdeal.nD Cert.OutprojSampleRefIdeal.τ).loc Cert.OutprojSampleRefIdeal.main_arg0) = m ((c.tc : Thread Cert.OutprojSampleIdeal.nD Cert.OutprojSampleIdeal.τ).loc Cert.OutprojSampleIdeal.main_arg0)
      ∧ m' ((c.tc : Thread Cert.OutprojSampleRefIdeal.nD Cert.OutprojSampleRefIdeal.τ).loc Cert.OutprojSampleRefIdeal.main_arg1) = m ((c.tc : Thread Cert.OutprojSampleIdeal.nD Cert.OutprojSampleIdeal.τ).loc Cert.OutprojSampleIdeal.main_arg1)
      ∧ m' ((c.tc : Thread Cert.OutprojSampleRefIdeal.nD Cert.OutprojSampleRefIdeal.τ).loc Cert.OutprojSampleRefIdeal.main_arg2) = m ((c.tc : Thread Cert.OutprojSampleIdeal.nD Cert.OutprojSampleIdeal.τ).loc Cert.OutprojSampleIdeal.main_arg2)
      ∧ m' ((c.tc : Thread Cert.OutprojSampleRefIdeal.nD Cert.OutprojSampleRefIdeal.τ).loc Cert.OutprojSampleRefIdeal.main_arg3) = m ((c.tc : Thread Cert.OutprojSampleIdeal.nD Cert.OutprojSampleIdeal.τ).loc Cert.OutprojSampleIdeal.main_arg3)
      ∧ m' ((c.tc : Thread Cert.OutprojSampleRefIdeal.nD Cert.OutprojSampleRefIdeal.τ).loc Cert.OutprojSampleRefIdeal.main_arg4) = m ((c.tc : Thread Cert.OutprojSampleIdeal.nD Cert.OutprojSampleIdeal.τ).loc Cert.OutprojSampleIdeal.main_arg4)
      ∧ m' ((c.tc : Thread Cert.OutprojSampleRefIdeal.nD Cert.OutprojSampleRefIdeal.τ).loc Cert.OutprojSampleRefIdeal.main_arg5) = m ((c.tc : Thread Cert.OutprojSampleIdeal.nD Cert.OutprojSampleIdeal.τ).loc Cert.OutprojSampleIdeal.main_arg5)) →
    ∃ (v0 : (c : Dev Cert.OutprojSampleIdeal.nD) → Buf (Elt Ideal) ((c.tc : Thread Cert.OutprojSampleIdeal.nD Cert.OutprojSampleIdeal.τ).loc Cert.OutprojSampleIdeal.main_v3_0)) (v1 : (c : Dev Cert.OutprojSampleIdeal.nD) → Buf (Elt Ideal) ((c.tc : Thread Cert.OutprojSampleIdeal.nD Cert.OutprojSampleIdeal.τ).loc Cert.OutprojSampleIdeal.main_v3_1)),
      θ_run (Cert.OutprojSampleIdeal.defs (F := Ideal)) (onTc (τ := Cert.OutprojSampleIdeal.τ) (Cert.OutprojSampleIdeal.main (F := Ideal))) ⟨m, fun _ => 0, g⟩ (fun r => ∀ c : Dev Cert.OutprojSampleIdeal.nD,
          r.2.mem ((c.tc : Thread Cert.OutprojSampleIdeal.nD Cert.OutprojSampleIdeal.τ).loc Cert.OutprojSampleIdeal.main_v3_0) = v0 c
          ∧ r.2.mem ((c.tc : Thread Cert.OutprojSampleIdeal.nD Cert.OutprojSampleIdeal.τ).loc Cert.OutprojSampleIdeal.main_v3_1) = v1 c
          ∧ r.2.mem ((c.tc : Thread Cert.OutprojSampleIdeal.nD Cert.OutprojSampleIdeal.τ).loc Cert.OutprojSampleIdeal.main_arg0) = m ((c.tc : Thread Cert.OutprojSampleIdeal.nD Cert.OutprojSampleIdeal.τ).loc Cert.OutprojSampleIdeal.main_arg0)
          ∧ r.2.mem ((c.tc : Thread Cert.OutprojSampleIdeal.nD Cert.OutprojSampleIdeal.τ).loc Cert.OutprojSampleIdeal.main_arg1) = m ((c.tc : Thread Cert.OutprojSampleIdeal.nD Cert.OutprojSampleIdeal.τ).loc Cert.OutprojSampleIdeal.main_arg1)
          ∧ r.2.mem ((c.tc : Thread Cert.OutprojSampleIdeal.nD Cert.OutprojSampleIdeal.τ).loc Cert.OutprojSampleIdeal.main_arg2) = m ((c.tc : Thread Cert.OutprojSampleIdeal.nD Cert.OutprojSampleIdeal.τ).loc Cert.OutprojSampleIdeal.main_arg2)
          ∧ r.2.mem ((c.tc : Thread Cert.OutprojSampleIdeal.nD Cert.OutprojSampleIdeal.τ).loc Cert.OutprojSampleIdeal.main_arg3) = m ((c.tc : Thread Cert.OutprojSampleIdeal.nD Cert.OutprojSampleIdeal.τ).loc Cert.OutprojSampleIdeal.main_arg3)
          ∧ r.2.mem ((c.tc : Thread Cert.OutprojSampleIdeal.nD Cert.OutprojSampleIdeal.τ).loc Cert.OutprojSampleIdeal.main_arg4) = m ((c.tc : Thread Cert.OutprojSampleIdeal.nD Cert.OutprojSampleIdeal.τ).loc Cert.OutprojSampleIdeal.main_arg4)
          ∧ r.2.mem ((c.tc : Thread Cert.OutprojSampleIdeal.nD Cert.OutprojSampleIdeal.τ).loc Cert.OutprojSampleIdeal.main_arg5) = m ((c.tc : Thread Cert.OutprojSampleIdeal.nD Cert.OutprojSampleIdeal.τ).loc Cert.OutprojSampleIdeal.main_arg5))
      ∧ θ_run (Cert.OutprojSampleRefIdeal.defs (F := Ideal)) (onTc (τ := Cert.OutprojSampleRefIdeal.τ) (Cert.OutprojSampleRefIdeal.main (F := Ideal))) ⟨m', fun _ => 0, g'⟩ (fun r => ∀ c : Dev Cert.OutprojSampleRefIdeal.nD,
          r.2.mem ((c.tc : Thread Cert.OutprojSampleRefIdeal.nD Cert.OutprojSampleRefIdeal.τ).loc Cert.OutprojSampleRefIdeal.main_v34) = v0 c
          ∧ r.2.mem ((c.tc : Thread Cert.OutprojSampleRefIdeal.nD Cert.OutprojSampleRefIdeal.τ).loc Cert.OutprojSampleRefIdeal.main_v35) = v1 c
          ∧ r.2.mem ((c.tc : Thread Cert.OutprojSampleRefIdeal.nD Cert.OutprojSampleRefIdeal.τ).loc Cert.OutprojSampleRefIdeal.main_arg0) = m' ((c.tc : Thread Cert.OutprojSampleRefIdeal.nD Cert.OutprojSampleRefIdeal.τ).loc Cert.OutprojSampleRefIdeal.main_arg0)
          ∧ r.2.mem ((c.tc : Thread Cert.OutprojSampleRefIdeal.nD Cert.OutprojSampleRefIdeal.τ).loc Cert.OutprojSampleRefIdeal.main_arg1) = m' ((c.tc : Thread Cert.OutprojSampleRefIdeal.nD Cert.OutprojSampleRefIdeal.τ).loc Cert.OutprojSampleRefIdeal.main_arg1)
          ∧ r.2.mem ((c.tc : Thread Cert.OutprojSampleRefIdeal.nD Cert.OutprojSampleRefIdeal.τ).loc Cert.OutprojSampleRefIdeal.main_arg2) = m' ((c.tc : Thread Cert.OutprojSampleRefIdeal.nD Cert.OutprojSampleRefIdeal.τ).loc Cert.OutprojSampleRefIdeal.main_arg2)
          ∧ r.2.mem ((c.tc : Thread Cert.OutprojSampleRefIdeal.nD Cert.OutprojSampleRefIdeal.τ).loc Cert.OutprojSampleRefIdeal.main_arg3) = m' ((c.tc : Thread Cert.OutprojSampleRefIdeal.nD Cert.OutprojSampleRefIdeal.τ).loc Cert.OutprojSampleRefIdeal.main_arg3)
          ∧ r.2.mem ((c.tc : Thread Cert.OutprojSampleRefIdeal.nD Cert.OutprojSampleRefIdeal.τ).loc Cert.OutprojSampleRefIdeal.main_arg4) = m' ((c.tc : Thread Cert.OutprojSampleRefIdeal.nD Cert.OutprojSampleRefIdeal.τ).loc Cert.OutprojSampleRefIdeal.main_arg4)
          ∧ r.2.mem ((c.tc : Thread Cert.OutprojSampleRefIdeal.nD Cert.OutprojSampleRefIdeal.τ).loc Cert.OutprojSampleRefIdeal.main_arg5) = m' ((c.tc : Thread Cert.OutprojSampleRefIdeal.nD Cert.OutprojSampleRefIdeal.τ).loc Cert.OutprojSampleRefIdeal.main_arg5))

def preserves_InprojSample_InprojSampleIdeal : Prop :=
  True

def algebraic_InprojSampleIdeal_InprojSampleRefIdeal [hInprojSampleIdeal : Cert.InprojSampleIdeal.Facts] [hInprojSampleRefIdeal : Cert.InprojSampleRefIdeal.Facts] : Prop :=
  ∀ (m : (ℓ : Loc Cert.InprojSampleIdeal.nD Cert.InprojSampleIdeal.τ Cert.InprojSampleIdeal.sig) → Buf (Elt Ideal) ℓ) (g : Dev Cert.InprojSampleIdeal.nD → PrngReg)
    (m' : (ℓ : Loc Cert.InprojSampleRefIdeal.nD Cert.InprojSampleRefIdeal.τ Cert.InprojSampleRefIdeal.sig) → Buf (Elt Ideal) ℓ) (g' : Dev Cert.InprojSampleRefIdeal.nD → PrngReg), Pre_InprojSampleIdeal m →
    (∀ c : Dev Cert.InprojSampleIdeal.nD,
      m' ((c.tc : Thread Cert.InprojSampleRefIdeal.nD Cert.InprojSampleRefIdeal.τ).loc Cert.InprojSampleRefIdeal.main_arg0) = m ((c.tc : Thread Cert.InprojSampleIdeal.nD Cert.InprojSampleIdeal.τ).loc Cert.InprojSampleIdeal.main_arg0)
      ∧ m' ((c.tc : Thread Cert.InprojSampleRefIdeal.nD Cert.InprojSampleRefIdeal.τ).loc Cert.InprojSampleRefIdeal.main_arg1) = m ((c.tc : Thread Cert.InprojSampleIdeal.nD Cert.InprojSampleIdeal.τ).loc Cert.InprojSampleIdeal.main_arg1)) →
    ∃ (v0 : (c : Dev Cert.InprojSampleIdeal.nD) → Buf (Elt Ideal) ((c.tc : Thread Cert.InprojSampleIdeal.nD Cert.InprojSampleIdeal.τ).loc Cert.InprojSampleIdeal.main_v18_0)) (v1 : (c : Dev Cert.InprojSampleIdeal.nD) → Buf (Elt Ideal) ((c.tc : Thread Cert.InprojSampleIdeal.nD Cert.InprojSampleIdeal.τ).loc Cert.InprojSampleIdeal.main_v18_1)),
      θ_run (Cert.InprojSampleIdeal.defs (F := Ideal)) (onTc (τ := Cert.InprojSampleIdeal.τ) (Cert.InprojSampleIdeal.main (F := Ideal))) ⟨m, fun _ => 0, g⟩ (fun r => ∀ c : Dev Cert.InprojSampleIdeal.nD,
          r.2.mem ((c.tc : Thread Cert.InprojSampleIdeal.nD Cert.InprojSampleIdeal.τ).loc Cert.InprojSampleIdeal.main_v18_0) = v0 c
          ∧ r.2.mem ((c.tc : Thread Cert.InprojSampleIdeal.nD Cert.InprojSampleIdeal.τ).loc Cert.InprojSampleIdeal.main_v18_1) = v1 c
          ∧ r.2.mem ((c.tc : Thread Cert.InprojSampleIdeal.nD Cert.InprojSampleIdeal.τ).loc Cert.InprojSampleIdeal.main_arg0) = m ((c.tc : Thread Cert.InprojSampleIdeal.nD Cert.InprojSampleIdeal.τ).loc Cert.InprojSampleIdeal.main_arg0)
          ∧ r.2.mem ((c.tc : Thread Cert.InprojSampleIdeal.nD Cert.InprojSampleIdeal.τ).loc Cert.InprojSampleIdeal.main_arg1) = m ((c.tc : Thread Cert.InprojSampleIdeal.nD Cert.InprojSampleIdeal.τ).loc Cert.InprojSampleIdeal.main_arg1))
      ∧ θ_run (Cert.InprojSampleRefIdeal.defs (F := Ideal)) (onTc (τ := Cert.InprojSampleRefIdeal.τ) (Cert.InprojSampleRefIdeal.main (F := Ideal))) ⟨m', fun _ => 0, g'⟩ (fun r => ∀ c : Dev Cert.InprojSampleRefIdeal.nD,
          r.2.mem ((c.tc : Thread Cert.InprojSampleRefIdeal.nD Cert.InprojSampleRefIdeal.τ).loc Cert.InprojSampleRefIdeal.main_v19) = v0 c
          ∧ r.2.mem ((c.tc : Thread Cert.InprojSampleRefIdeal.nD Cert.InprojSampleRefIdeal.τ).loc Cert.InprojSampleRefIdeal.main_v20) = v1 c
          ∧ r.2.mem ((c.tc : Thread Cert.InprojSampleRefIdeal.nD Cert.InprojSampleRefIdeal.τ).loc Cert.InprojSampleRefIdeal.main_arg0) = m' ((c.tc : Thread Cert.InprojSampleRefIdeal.nD Cert.InprojSampleRefIdeal.τ).loc Cert.InprojSampleRefIdeal.main_arg0)
          ∧ r.2.mem ((c.tc : Thread Cert.InprojSampleRefIdeal.nD Cert.InprojSampleRefIdeal.τ).loc Cert.InprojSampleRefIdeal.main_arg1) = m' ((c.tc : Thread Cert.InprojSampleRefIdeal.nD Cert.InprojSampleRefIdeal.τ).loc Cert.InprojSampleRefIdeal.main_arg1))

def Claim : Prop :=
  ∃ (hFfn : Cert.Ffn.Facts) (hFfnIdeal : Cert.FfnIdeal.Facts) (hFfnRefIdeal : Cert.FfnRefIdeal.Facts) (hOutproj : Cert.Outproj.Facts) (hOutprojIdeal : Cert.OutprojIdeal.Facts) (hOutprojRefIdeal : Cert.OutprojRefIdeal.Facts) (hInproj : Cert.Inproj.Facts) (hInprojIdeal : Cert.InprojIdeal.Facts) (hInprojRefIdeal : Cert.InprojRefIdeal.Facts) (hFfnSample : Cert.FfnSample.Facts) (hFfnSampleIdeal : Cert.FfnSampleIdeal.Facts) (hFfnSampleRefIdeal : Cert.FfnSampleRefIdeal.Facts) (hOutprojSample : Cert.OutprojSample.Facts) (hOutprojSampleIdeal : Cert.OutprojSampleIdeal.Facts) (hOutprojSampleRefIdeal : Cert.OutprojSampleRefIdeal.Facts) (hInprojSample : Cert.InprojSample.Facts) (hInprojSampleIdeal : Cert.InprojSampleIdeal.Facts) (hInprojSampleRefIdeal : Cert.InprojSampleRefIdeal.Facts),
    quiescent_Ffn (hFfn := hFfn)
    ∧ quiescent_FfnIdeal (hFfnIdeal := hFfnIdeal)
    ∧ quiescent_FfnRefIdeal (hFfnRefIdeal := hFfnRefIdeal)
    ∧ quiescent_Outproj (hOutproj := hOutproj)
    ∧ quiescent_OutprojIdeal (hOutprojIdeal := hOutprojIdeal)
    ∧ quiescent_OutprojRefIdeal (hOutprojRefIdeal := hOutprojRefIdeal)
    ∧ quiescent_Inproj (hInproj := hInproj)
    ∧ quiescent_InprojIdeal (hInprojIdeal := hInprojIdeal)
    ∧ quiescent_InprojRefIdeal (hInprojRefIdeal := hInprojRefIdeal)
    ∧ quiescent_FfnSample (hFfnSample := hFfnSample)
    ∧ quiescent_FfnSampleIdeal (hFfnSampleIdeal := hFfnSampleIdeal)
    ∧ quiescent_FfnSampleRefIdeal (hFfnSampleRefIdeal := hFfnSampleRefIdeal)
    ∧ quiescent_OutprojSample (hOutprojSample := hOutprojSample)
    ∧ quiescent_OutprojSampleIdeal (hOutprojSampleIdeal := hOutprojSampleIdeal)
    ∧ quiescent_OutprojSampleRefIdeal (hOutprojSampleRefIdeal := hOutprojSampleRefIdeal)
    ∧ quiescent_InprojSample (hInprojSample := hInprojSample)
    ∧ quiescent_InprojSampleIdeal (hInprojSampleIdeal := hInprojSampleIdeal)
    ∧ quiescent_InprojSampleRefIdeal (hInprojSampleRefIdeal := hInprojSampleRefIdeal)
    ∧ preserves_Ffn_FfnIdeal
    ∧ algebraic_FfnIdeal_FfnRefIdeal (hFfnIdeal := hFfnIdeal) (hFfnRefIdeal := hFfnRefIdeal)
    ∧ preserves_Outproj_OutprojIdeal
    ∧ algebraic_OutprojIdeal_OutprojRefIdeal (hOutprojIdeal := hOutprojIdeal) (hOutprojRefIdeal := hOutprojRefIdeal)
    ∧ preserves_Inproj_InprojIdeal
    ∧ algebraic_InprojIdeal_InprojRefIdeal (hInprojIdeal := hInprojIdeal) (hInprojRefIdeal := hInprojRefIdeal)
    ∧ preserves_FfnSample_FfnSampleIdeal
    ∧ algebraic_FfnSampleIdeal_FfnSampleRefIdeal (hFfnSampleIdeal := hFfnSampleIdeal) (hFfnSampleRefIdeal := hFfnSampleRefIdeal)
    ∧ preserves_OutprojSample_OutprojSampleIdeal
    ∧ algebraic_OutprojSampleIdeal_OutprojSampleRefIdeal (hOutprojSampleIdeal := hOutprojSampleIdeal) (hOutprojSampleRefIdeal := hOutprojSampleRefIdeal)
    ∧ preserves_InprojSample_InprojSampleIdeal
    ∧ algebraic_InprojSampleIdeal_InprojSampleRefIdeal (hInprojSampleIdeal := hInprojSampleIdeal) (hInprojSampleRefIdeal := hInprojSampleRefIdeal)
-- ==== Ffn.lean ====
abbrev S8x2048x4096 : Shape := ⟨3, ![8, 2048, 4096]⟩
abbrev S2x4096x11008 : Shape := ⟨3, ![2, 4096, 11008]⟩
abbrev S2x11008x4096 : Shape := ⟨3, ![2, 11008, 4096]⟩
abbrev S2x4096 : Shape := ⟨2, ![2, 4096]⟩
abbrev S16384x4096 : Shape := ⟨2, ![16384, 4096]⟩
abbrev S2x1x4096 : Shape := ⟨3, ![2, 1, 4096]⟩
abbrev S1024x512 : Shape := ⟨2, ![1024, 512]⟩
abbrev S1024x4096 : Shape := ⟨2, ![1024, 4096]⟩
abbrev S1x4096x256 : Shape := ⟨3, ![1, 4096, 256]⟩
abbrev S1x256x4096 : Shape := ⟨3, ![1, 256, 4096]⟩
abbrev S1x1x4096 : Shape := ⟨3, ![1, 1, 4096]⟩
abbrev S128x4096 : Shape := ⟨2, ![128, 4096]⟩
abbrev S4096x256 : Shape := ⟨2, ![4096, 256]⟩
abbrev S1024x256 : Shape := ⟨2, ![1024, 256]⟩
abbrev S256x4096 : Shape := ⟨2, ![256, 4096]⟩
abbrev S64x512 : Shape := ⟨2, ![64, 512]⟩
abbrev S1x4096 : Shape := ⟨2, ![1, 4096]⟩
abbrev S16x4096 : Shape := ⟨2, ![16, 4096]⟩
abbrev S16 : Shape := ⟨1, ![16]⟩
abbrev S16x1 : Shape := ⟨2, ![16, 1]⟩

abbrev nBuf : Space → Nat
  | .hbm => 15
  | .vmem => 17
  | .smem => 0
  | _ => 0

abbrev bufTy : (tb : Table) → Fin (tcTables nBuf tb) → BufTy
  | .hbm, ⟨0, _⟩ => ⟨S8x2048x4096, .f32⟩
  | .hbm, ⟨1, _⟩ => ⟨S2x4096x11008, .f32⟩
  | .hbm, ⟨2, _⟩ => ⟨S2x4096x11008, .f32⟩
  | .hbm, ⟨3, _⟩ => ⟨S2x11008x4096, .f32⟩
  | .hbm, ⟨4, _⟩ => ⟨S2x4096, .f32⟩
  | .hbm, ⟨5, _⟩ => ⟨S2x4096, .f32⟩
  | .hbm, ⟨6, _⟩ => ⟨S16384x4096, .f32⟩
  | .hbm, ⟨7, _⟩ => ⟨S16384x4096, .bf16⟩
  | .hbm, ⟨8, _⟩ => ⟨S2x4096x11008, .bf16⟩
  | .hbm, ⟨9, _⟩ => ⟨S2x4096x11008, .bf16⟩
  | .hbm, ⟨10, _⟩ => ⟨S2x11008x4096, .bf16⟩
  | .hbm, ⟨11, _⟩ => ⟨S2x1x4096, .f32⟩
  | .hbm, ⟨12, _⟩ => ⟨S2x1x4096, .f32⟩
  | .hbm, ⟨13, _⟩ => ⟨S16384x4096, .f32⟩
  | .hbm, ⟨14, _⟩ => ⟨S16384x4096, .bf16⟩
  | .local _ .vmem, ⟨0, _⟩ => ⟨S1024x512, .f32⟩
  | .local _ .vmem, ⟨1, _⟩ => ⟨S1024x512, .f32⟩
  | .local _ .vmem, ⟨2, _⟩ => ⟨S1024x4096, .bf16⟩
  | .local _ .vmem, ⟨3, _⟩ => ⟨S1024x4096, .bf16⟩
  | .local _ .vmem, ⟨4, _⟩ => ⟨S1x4096x256, .bf16⟩
  | .local _ .vmem, ⟨5, _⟩ => ⟨S1x4096x256, .bf16⟩
  | .local _ .vmem, ⟨6, _⟩ => ⟨S1x4096x256, .bf16⟩
  | .local _ .vmem, ⟨7, _⟩ => ⟨S1x4096x256, .bf16⟩
  | .local _ .vmem, ⟨8, _⟩ => ⟨S1x256x4096, .bf16⟩
  | .local _ .vmem, ⟨9, _⟩ => ⟨S1x256x4096, .bf16⟩
  | .local _ .vmem, ⟨10, _⟩ => ⟨S1x1x4096, .f32⟩
  | .local _ .vmem, ⟨11, _⟩ => ⟨S1x1x4096, .f32⟩
  | .local _ .vmem, ⟨12, _⟩ => ⟨S128x4096, .f32⟩
  | .local _ .vmem, ⟨13, _⟩ => ⟨S128x4096, .f32⟩
  | .local _ .vmem, ⟨14, _⟩ => ⟨S128x4096, .bf16⟩
  | .local _ .vmem, ⟨15, _⟩ => ⟨S128x4096, .bf16⟩
  | .local _ .vmem, ⟨16, _⟩ => ⟨S1024x4096, .f32⟩
  | _, _ => ⟨S8x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![16, 51], ![false, false]⟩

def k0_cond3 (i : grid0.Coords) : BitVec 1 :=
  let arg1 : BitVec 32 := BitVec.ofNat 32 (i 1).val
  let c0_i32_2 : BitVec 32 := 0#32
  let v6 : BitVec 1 := Scalar.cmpi .eq arg1 c0_i32_2
  let v7 : BitVec 32 := Scalar.extui v6
  let c0_i32_3 : BitVec 32 := 0#32
  let v8 : BitVec 1 := Scalar.cmpi .ne v7 c0_i32_3
  v8

@[reducible] def k0_t1_loop : Scf.Loop 32 :=
  let c0_i32_13 : BitVec 32 := 0#32
  let c16_i32 : BitVec 32 := 16#32
  let v33 : BitVec 32 := Scalar.addi c0_i32_13 c16_i32
  let c1_i32_14 : BitVec 32 := 1#32
  ⟨c0_i32_13, v33, c1_i32_14⟩
def k0_mult1 (k0_t1 : Fin k0_t1_loop.trips) : BitVec 32 :=
  let c0_i32_13 : BitVec 32 := 0#32
  let c1_i32_14 : BitVec 32 := 1#32
  let arg12 : BitVec 32 := Scf.iv c0_i32_13 c1_i32_14 k0_t1
  let c64_i32 : BitVec 32 := 64#32
  let v34 : BitVec 32 := Scalar.muli arg12 c64_i32
  v34
def k0_off1 (k0_t1 : Fin k0_t1_loop.trips) : Fin 2 → Nat :=
  let c0_i32_13 : BitVec 32 := 0#32
  let c1_i32_14 : BitVec 32 := 1#32
  let arg12 : BitVec 32 := Scf.iv c0_i32_13 c1_i32_14 k0_t1
  let c64_i32 : BitVec 32 := 64#32
  let v34 : BitVec 32 := Scalar.muli arg12 c64_i32
  let v35 : BitVec 32 := v34
  let v36 : Index := Scalar.indexCast v35
  let c0 : Index := 0#32
  ![v36.toNat, 0]
def k0_off2 (k0_t1 : Fin k0_t1_loop.trips) : Fin 2 → Nat :=
  let c0_i32_13 : BitVec 32 := 0#32
  let c1_i32_14 : BitVec 32 := 1#32
  let arg12 : BitVec 32 := Scf.iv c0_i32_13 c1_i32_14 k0_t1
  let c64_i32 : BitVec 32 := 64#32
  let v34 : BitVec 32 := Scalar.muli arg12 c64_i32
  let v35 : BitVec 32 := v34
  let v38 : Index := Scalar.indexCast v35
  let c0_16 : Index := 0#32
  ![v38.toNat, 0]
def k0_cond4 (i : grid0.Coords) : BitVec 1 :=
  let arg1 : BitVec 32 := BitVec.ofNat 32 (i 1).val
  let c1_i32 : BitVec 32 := 1#32
  let v9 : BitVec 1 := Scalar.cmpi .eq arg1 c1_i32
  let v10 : BitVec 32 := Scalar.extui v9
  let c0_i32_4 : BitVec 32 := 0#32
  let v11 : BitVec 1 := Scalar.cmpi .ne v10 c0_i32_4
  v11

@[reducible] def k0_t2_loop : Scf.Loop 32 :=
  let c0_i32_13 : BitVec 32 := 0#32
  let c16_i32 : BitVec 32 := 16#32
  let v33 : BitVec 32 := Scalar.addi c0_i32_13 c16_i32
  let c1_i32_14 : BitVec 32 := 1#32
  ⟨c0_i32_13, v33, c1_i32_14⟩
def k0_mult2 (k0_t2 : Fin k0_t2_loop.trips) : BitVec 32 :=
  let c0_i32_13 : BitVec 32 := 0#32
  let c1_i32_14 : BitVec 32 := 1#32
  let arg12 : BitVec 32 := Scf.iv c0_i32_13 c1_i32_14 k0_t2
  let c64_i32 : BitVec 32 := 64#32
  let v34 : BitVec 32 := Scalar.muli arg12 c64_i32
  v34
def k0_off3 (k0_t2 : Fin k0_t2_loop.trips) : Fin 2 → Nat :=
  let c0_i32_13 : BitVec 32 := 0#32
  let c1_i32_14 : BitVec 32 := 1#32
  let arg12 : BitVec 32 := Scf.iv c0_i32_13 c1_i32_14 k0_t2
  let c64_i32 : BitVec 32 := 64#32
  let v34 : BitVec 32 := Scalar.muli arg12 c64_i32
  let v35 : BitVec 32 := v34
  let v36 : Index := Scalar.indexCast v35
  let c512 : Index := 512#32
  ![v36.toNat, 512]
def k0_off4 (k0_t2 : Fin k0_t2_loop.trips) : Fin 2 → Nat :=
  let c0_i32_13 : BitVec 32 := 0#32
  let c1_i32_14 : BitVec 32 := 1#32
  let arg12 : BitVec 32 := Scf.iv c0_i32_13 c1_i32_14 k0_t2
  let c64_i32 : BitVec 32 := 64#32
  let v34 : BitVec 32 := Scalar.muli arg12 c64_i32
  let v35 : BitVec 32 := v34
  let v38 : Index := Scalar.indexCast v35
  let c0 : Index := 0#32
  ![v38.toNat, 0]
def k0_cond5 (i : grid0.Coords) : BitVec 1 :=
  let arg1 : BitVec 32 := BitVec.ofNat 32 (i 1).val
  let c2_i32 : BitVec 32 := 2#32
  let v12 : BitVec 1 := Scalar.cmpi .eq arg1 c2_i32
  let v13 : BitVec 32 := Scalar.extui v12
  let c0_i32_5 : BitVec 32 := 0#32
  let v14 : BitVec 1 := Scalar.cmpi .ne v13 c0_i32_5
  v14

@[reducible] def k0_t3_loop : Scf.Loop 32 :=
  let c0_i32_13 : BitVec 32 := 0#32
  let c16_i32 : BitVec 32 := 16#32
  let v33 : BitVec 32 := Scalar.addi c0_i32_13 c16_i32
  let c1_i32_14 : BitVec 32 := 1#32
  ⟨c0_i32_13, v33, c1_i32_14⟩
def k0_mult3 (k0_t3 : Fin k0_t3_loop.trips) : BitVec 32 :=
  let c0_i32_13 : BitVec 32 := 0#32
  let c1_i32_14 : BitVec 32 := 1#32
  let arg12 : BitVec 32 := Scf.iv c0_i32_13 c1_i32_14 k0_t3
  let c64_i32 : BitVec 32 := 64#32
  let v34 : BitVec 32 := Scalar.muli arg12 c64_i32
  v34
def k0_off5 (k0_t3 : Fin k0_t3_loop.trips) : Fin 2 → Nat :=
  let c0_i32_13 : BitVec 32 := 0#32
  let c1_i32_14 : BitVec 32 := 1#32
  let arg12 : BitVec 32 := Scf.iv c0_i32_13 c1_i32_14 k0_t3
  let c64_i32 : BitVec 32 := 64#32
  let v34 : BitVec 32 := Scalar.muli arg12 c64_i32
  let v35 : BitVec 32 := v34
  let v36 : Index := Scalar.indexCast v35
  let c1024 : Index := 1024#32
  ![v36.toNat, 1024]
def k0_off6 (k0_t3 : Fin k0_t3_loop.trips) : Fin 2 → Nat :=
  let c0_i32_13 : BitVec 32 := 0#32
  let c1_i32_14 : BitVec 32 := 1#32
  let arg12 : BitVec 32 := Scf.iv c0_i32_13 c1_i32_14 k0_t3
  let c64_i32 : BitVec 32 := 64#32
  let v34 : BitVec 32 := Scalar.muli arg12 c64_i32
  let v35 : BitVec 32 := v34
  let v38 : Index := Scalar.indexCast v35
  let c0 : Index := 0#32
  ![v38.toNat, 0]
def k0_cond6 (i : grid0.Coords) : BitVec 1 :=
  let arg1 : BitVec 32 := BitVec.ofNat 32 (i 1).val
  let c3_i32 : BitVec 32 := 3#32
  let v15 : BitVec 1 := Scalar.cmpi .eq arg1 c3_i32
  let v16 : BitVec 32 := Scalar.extui v15
  let c0_i32_6 : BitVec 32 := 0#32
  let v17 : BitVec 1 := Scalar.cmpi .ne v16 c0_i32_6
  v17

@[reducible] def k0_t4_loop : Scf.Loop 32 :=
  let c0_i32_13 : BitVec 32 := 0#32
  let c16_i32 : BitVec 32 := 16#32
  let v33 : BitVec 32 := Scalar.addi c0_i32_13 c16_i32
  let c1_i32_14 : BitVec 32 := 1#32
  ⟨c0_i32_13, v33, c1_i32_14⟩
def k0_mult4 (k0_t4 : Fin k0_t4_loop.trips) : BitVec 32 :=
  let c0_i32_13 : BitVec 32 := 0#32
  let c1_i32_14 : BitVec 32 := 1#32
  let arg12 : BitVec 32 := Scf.iv c0_i32_13 c1_i32_14 k0_t4
  let c64_i32 : BitVec 32 := 64#32
  let v34 : BitVec 32 := Scalar.muli arg12 c64_i32
  v34
def k0_off7 (k0_t4 : Fin k0_t4_loop.trips) : Fin 2 → Nat :=
  let c0_i32_13 : BitVec 32 := 0#32
  let c1_i32_14 : BitVec 32 := 1#32
  let arg12 : BitVec 32 := Scf.iv c0_i32_13 c1_i32_14 k0_t4
  let c64_i32 : BitVec 32 := 64#32
  let v34 : BitVec 32 := Scalar.muli arg12 c64_i32
  let v35 : BitVec 32 := v34
  let v36 : Index := Scalar.indexCast v35
  let c1536 : Index := 1536#32
  ![v36.toNat, 1536]
def k0_off8 (k0_t4 : Fin k0_t4_loop.trips) : Fin 2 → Nat :=
  let c0_i32_13 : BitVec 32 := 0#32
  let c1_i32_14 : BitVec 32 := 1#32
  let arg12 : BitVec 32 := Scf.iv c0_i32_13 c1_i32_14 k0_t4
  let c64_i32 : BitVec 32 := 64#32
  let v34 : BitVec 32 := Scalar.muli arg12 c64_i32
  let v35 : BitVec 32 := v34
  let v38 : Index := Scalar.indexCast v35
  let c0 : Index := 0#32
  ![v38.toNat, 0]
def k0_cond7 (i : grid0.Coords) : BitVec 1 :=
  let arg1 : BitVec 32 := BitVec.ofNat 32 (i 1).val
  let c4_i32 : BitVec 32 := 4#32
  let v18 : BitVec 1 := Scalar.cmpi .eq arg1 c4_i32
  let v19 : BitVec 32 := Scalar.extui v18
  let c0_i32_7 : BitVec 32 := 0#32
  let v20 : BitVec 1 := Scalar.cmpi .ne v19 c0_i32_7
  v20

@[reducible] def k0_t5_loop : Scf.Loop 32 :=
  let c0_i32_13 : BitVec 32 := 0#32
  let c16_i32 : BitVec 32 := 16#32
  let v33 : BitVec 32 := Scalar.addi c0_i32_13 c16_i32
  let c1_i32_14 : BitVec 32 := 1#32
  ⟨c0_i32_13, v33, c1_i32_14⟩
def k0_mult5 (k0_t5 : Fin k0_t5_loop.trips) : BitVec 32 :=
  let c0_i32_13 : BitVec 32 := 0#32
  let c1_i32_14 : BitVec 32 := 1#32
  let arg12 : BitVec 32 := Scf.iv c0_i32_13 c1_i32_14 k0_t5
  let c64_i32 : BitVec 32 := 64#32
  let v34 : BitVec 32 := Scalar.muli arg12 c64_i32
  v34
def k0_off9 (k0_t5 : Fin k0_t5_loop.trips) : Fin 2 → Nat :=
  let c0_i32_13 : BitVec 32 := 0#32
  let c1_i32_14 : BitVec 32 := 1#32
  let arg12 : BitVec 32 := Scf.iv c0_i32_13 c1_i32_14 k0_t5
  let c64_i32 : BitVec 32 := 64#32
  let v34 : BitVec 32 := Scalar.muli arg12 c64_i32
  let v35 : BitVec 32 := v34
  let v36 : Index := Scalar.indexCast v35
  let c2048 : Index := 2048#32
  ![v36.toNat, 2048]
def k0_off10 (k0_t5 : Fin k0_t5_loop.trips) : Fin 2 → Nat :=
  let c0_i32_13 : BitVec 32 := 0#32
  let c1_i32_14 : BitVec 32 := 1#32
  let arg12 : BitVec 32 := Scf.iv c0_i32_13 c1_i32_14 k0_t5
  let c64_i32 : BitVec 32 := 64#32
  let v34 : BitVec 32 := Scalar.muli arg12 c64_i32
  let v35 : BitVec 32 := v34
  let v38 : Index := Scalar.indexCast v35
  let c0 : Index := 0#32
  ![v38.toNat, 0]
def k0_cond8 (i : grid0.Coords) : BitVec 1 :=
  let arg1 : BitVec 32 := BitVec.ofNat 32 (i 1).val
  let c5_i32 : BitVec 32 := 5#32
  let v21 : BitVec 1 := Scalar.cmpi .eq arg1 c5_i32
  let v22 : BitVec 32 := Scalar.extui v21
  let c0_i32_8 : BitVec 32 := 0#32
  let v23 : BitVec 1 := Scalar.cmpi .ne v22 c0_i32_8
  v23

@[reducible] def k0_t6_loop : Scf.Loop 32 :=
  let c0_i32_13 : BitVec 32 := 0#32
  let c16_i32 : BitVec 32 := 16#32
  let v33 : BitVec 32 := Scalar.addi c0_i32_13 c16_i32
  let c1_i32_14 : BitVec 32 := 1#32
  ⟨c0_i32_13, v33, c1_i32_14⟩
def k0_mult6 (k0_t6 : Fin k0_t6_loop.trips) : BitVec 32 :=
  let c0_i32_13 : BitVec 32 := 0#32
  let c1_i32_14 : BitVec 32 := 1#32
  let arg12 : BitVec 32 := Scf.iv c0_i32_13 c1_i32_14 k0_t6
  let c64_i32 : BitVec 32 := 64#32
  let v34 : BitVec 32 := Scalar.muli arg12 c64_i32
  v34
def k0_off11 (k0_t6 : Fin k0_t6_loop.trips) : Fin 2 → Nat :=
  let c0_i32_13 : BitVec 32 := 0#32
  let c1_i32_14 : BitVec 32 := 1#32
  let arg12 : BitVec 32 := Scf.iv c0_i32_13 c1_i32_14 k0_t6
  let c64_i32 : BitVec 32 := 64#32
  let v34 : BitVec 32 := Scalar.muli arg12 c64_i32
  let v35 : BitVec 32 := v34
  let v36 : Index := Scalar.indexCast v35
  let c2560 : Index := 2560#32
  ![v36.toNat, 2560]
def k0_off12 (k0_t6 : Fin k0_t6_loop.trips) : Fin 2 → Nat :=
  let c0_i32_13 : BitVec 32 := 0#32
  let c1_i32_14 : BitVec 32 := 1#32
  let arg12 : BitVec 32 := Scf.iv c0_i32_13 c1_i32_14 k0_t6
  let c64_i32 : BitVec 32 := 64#32
  let v34 : BitVec 32 := Scalar.muli arg12 c64_i32
  let v35 : BitVec 32 := v34
  let v38 : Index := Scalar.indexCast v35
  let c0 : Index := 0#32
  ![v38.toNat, 0]
def k0_cond9 (i : grid0.Coords) : BitVec 1 :=
  let arg1 : BitVec 32 := BitVec.ofNat 32 (i 1).val
  let c6_i32 : BitVec 32 := 6#32
  let v24 : BitVec 1 := Scalar.cmpi .eq arg1 c6_i32
  let v25 : BitVec 32 := Scalar.extui v24
  let c0_i32_9 : BitVec 32 := 0#32
  let v26 : BitVec 1 := Scalar.cmpi .ne v25 c0_i32_9
  v26

@[reducible] def k0_t7_loop : Scf.Loop 32 :=
  let c0_i32_13 : BitVec 32 := 0#32
  let c16_i32 : BitVec 32 := 16#32
  let v33 : BitVec 32 := Scalar.addi c0_i32_13 c16_i32
  let c1_i32_14 : BitVec 32 := 1#32
  ⟨c0_i32_13, v33, c1_i32_14⟩
def k0_mult7 (k0_t7 : Fin k0_t7_loop.trips) : BitVec 32 :=
  let c0_i32_13 : BitVec 32 := 0#32
  let c1_i32_14 : BitVec 32 := 1#32
  let arg12 : BitVec 32 := Scf.iv c0_i32_13 c1_i32_14 k0_t7
  let c64_i32 : BitVec 32 := 64#32
  let v34 : BitVec 32 := Scalar.muli arg12 c64_i32
  v34
def k0_off13 (k0_t7 : Fin k0_t7_loop.trips) : Fin 2 → Nat :=
  let c0_i32_13 : BitVec 32 := 0#32
  let c1_i32_14 : BitVec 32 := 1#32
  let arg12 : BitVec 32 := Scf.iv c0_i32_13 c1_i32_14 k0_t7
  let c64_i32 : BitVec 32 := 64#32
  let v34 : BitVec 32 := Scalar.muli arg12 c64_i32
  let v35 : BitVec 32 := v34
  let v36 : Index := Scalar.indexCast v35
  let c3072 : Index := 3072#32
  ![v36.toNat, 3072]
def k0_off14 (k0_t7 : Fin k0_t7_loop.trips) : Fin 2 → Nat :=
  let c0_i32_13 : BitVec 32 := 0#32
  let c1_i32_14 : BitVec 32 := 1#32
  let arg12 : BitVec 32 := Scf.iv c0_i32_13 c1_i32_14 k0_t7
  let c64_i32 : BitVec 32 := 64#32
  let v34 : BitVec 32 := Scalar.muli arg12 c64_i32
  let v35 : BitVec 32 := v34
  let v38 : Index := Scalar.indexCast v35
  let c0 : Index := 0#32
  ![v38.toNat, 0]
def k0_cond10 (i : grid0.Coords) : BitVec 1 :=
  let arg1 : BitVec 32 := BitVec.ofNat 32 (i 1).val
  let c7_i32 : BitVec 32 := 7#32
  let v27 : BitVec 1 := Scalar.cmpi .eq arg1 c7_i32
  let v28 : BitVec 32 := Scalar.extui v27
  let c0_i32_10 : BitVec 32 := 0#32
  let v29 : BitVec 1 := Scalar.cmpi .ne v28 c0_i32_10
  v29

@[reducible] def k0_t8_loop : Scf.Loop 32 :=
  let c0_i32_13 : BitVec 32 := 0#32
  let c16_i32 : BitVec 32 := 16#32
  let v33 : BitVec 32 := Scalar.addi c0_i32_13 c16_i32
  let c1_i32_14 : BitVec 32 := 1#32
  ⟨c0_i32_13, v33, c1_i32_14⟩
def k0_mult8 (k0_t8 : Fin k0_t8_loop.trips) : BitVec 32 :=
  let c0_i32_13 : BitVec 32 := 0#32
  let c1_i32_14 : BitVec 32 := 1#32
  let arg12 : BitVec 32 := Scf.iv c0_i32_13 c1_i32_14 k0_t8
  let c64_i32 : BitVec 32 := 64#32
  let v34 : BitVec 32 := Scalar.muli arg12 c64_i32
  v34
def k0_off15 (k0_t8 : Fin k0_t8_loop.trips) : Fin 2 → Nat :=
  let c0_i32_13 : BitVec 32 := 0#32
  let c1_i32_14 : BitVec 32 := 1#32
  let arg12 : BitVec 32 := Scf.iv c0_i32_13 c1_i32_14 k0_t8
  let c64_i32 : BitVec 32 := 64#32
  let v34 : BitVec 32 := Scalar.muli arg12 c64_i32
  let v35 : BitVec 32 := v34
  let v36 : Index := Scalar.indexCast v35
  let c3584 : Index := 3584#32
  ![v36.toNat, 3584]
def k0_off16 (k0_t8 : Fin k0_t8_loop.trips) : Fin 2 → Nat :=
  let c0_i32_13 : BitVec 32 := 0#32
  let c1_i32_14 : BitVec 32 := 1#32
  let arg12 : BitVec 32 := Scf.iv c0_i32_13 c1_i32_14 k0_t8
  let c64_i32 : BitVec 32 := 64#32
  let v34 : BitVec 32 := Scalar.muli arg12 c64_i32
  let v35 : BitVec 32 := v34
  let v38 : Index := Scalar.indexCast v35
  let c0 : Index := 0#32
  ![v38.toNat, 0]
def k0_cond11 (i : grid0.Coords) : BitVec 1 :=
  let arg1 : BitVec 32 := BitVec.ofNat 32 (i 1).val
  let c43_i32_11 : BitVec 32 := 43#32
  let v30 : BitVec 1 := Scalar.cmpi .sge arg1 c43_i32_11
  let v31 : BitVec 32 := Scalar.extui v30
  let c0_i32_12 : BitVec 32 := 0#32
  let v32 : BitVec 1 := Scalar.cmpi .ne v31 c0_i32_12
  v32

def k0_mult9 : BitVec 32 :=
  let c0_i32_19 : BitVec 32 := 0#32
  let c16_i32 : BitVec 32 := 16#32
  let v39 : BitVec 32 := Scalar.muli c0_i32_19 c16_i32
  v39
def k0_mult10 (i : grid0.Coords) : BitVec 32 :=
  let arg1 : BitVec 32 := BitVec.ofNat 32 (i 1).val
  let c43_i32_13 : BitVec 32 := 43#32
  let v33 : BitVec 32 := Scalar.subi arg1 c43_i32_13
  let c128_i32 : BitVec 32 := 128#32
  let v38 : BitVec 32 := Scalar.muli v33 c128_i32
  let c0_i32_19 : BitVec 32 := 0#32
  let c16_i32 : BitVec 32 := 16#32
  let v39 : BitVec 32 := Scalar.muli c0_i32_19 c16_i32
  let v40 : BitVec 32 := v39
  let v41 : BitVec 32 := Scalar.addi v38 v40
  v41
def k0_off17 (i : grid0.Coords) (c0_i32_19 : BitVec 32) : Fin 2 → Nat :=
  let arg1 : BitVec 32 := BitVec.ofNat 32 (i 1).val
  let c43_i32_13 : BitVec 32 := 43#32
  let v33 : BitVec 32 := Scalar.subi arg1 c43_i32_13
  let c128_i32 : BitVec 32 := 128#32
  let v38 : BitVec 32 := Scalar.muli v33 c128_i32
  let c16_i32 : BitVec 32 := 16#32
  let v39 : BitVec 32 := Scalar.muli c0_i32_19 c16_i32
  let v40 : BitVec 32 := v39
  let v41 : BitVec 32 := Scalar.addi v38 v40
  let v42 : BitVec 32 := v41
  let v43 : Index := Scalar.indexCast v42
  let c0_20 : Index := 0#32
  ![v43.toNat, 0]
def k0_off18 (c0_i32_19 : BitVec 32) : Fin 2 → Nat :=
  let c16_i32 : BitVec 32 := 16#32
  let v39 : BitVec 32 := Scalar.muli c0_i32_19 c16_i32
  let v40 : BitVec 32 := v39
  let v67 : Index := Scalar.indexCast v40
  let c0_26 : Index := 0#32
  ![v67.toNat, 0]
def k0_mult11 : BitVec 32 :=
  let c1_i32_28 : BitVec 32 := 1#32
  let c16_i32_29 : BitVec 32 := 16#32
  let v72 : BitVec 32 := Scalar.muli c1_i32_28 c16_i32_29
  v72
def k0_mult12 (i : grid0.Coords) : BitVec 32 :=
  let arg1 : BitVec 32 := BitVec.ofNat 32 (i 1).val
  let c43_i32_13 : BitVec 32 := 43#32
  let v33 : BitVec 32 := Scalar.subi arg1 c43_i32_13
  let c128_i32 : BitVec 32 := 128#32
  let v38 : BitVec 32 := Scalar.muli v33 c128_i32
  let c1_i32_28 : BitVec 32 := 1#32
  let c16_i32_29 : BitVec 32 := 16#32
  let v72 : BitVec 32 := Scalar.muli c1_i32_28 c16_i32_29
  let v73 : BitVec 32 := v72
  let v74 : BitVec 32 := Scalar.addi v38 v73
  v74
def k0_mult13 : BitVec 32 :=
  let c2_i32_39 : BitVec 32 := 2#32
  let c16_i32_40 : BitVec 32 := 16#32
  let v105 : BitVec 32 := Scalar.muli c2_i32_39 c16_i32_40
  v105
def k0_mult14 (i : grid0.Coords) : BitVec 32 :=
  let arg1 : BitVec 32 := BitVec.ofNat 32 (i 1).val
  let c43_i32_13 : BitVec 32 := 43#32
  let v33 : BitVec 32 := Scalar.subi arg1 c43_i32_13
  let c128_i32 : BitVec 32 := 128#32
  let v38 : BitVec 32 := Scalar.muli v33 c128_i32
  let c2_i32_39 : BitVec 32 := 2#32
  let c16_i32_40 : BitVec 32 := 16#32
  let v105 : BitVec 32 := Scalar.muli c2_i32_39 c16_i32_40
  let v106 : BitVec 32 := v105
  let v107 : BitVec 32 := Scalar.addi v38 v106
  v107
def k0_mult15 : BitVec 32 :=
  let c3_i32_50 : BitVec 32 := 3#32
  let c16_i32_51 : BitVec 32 := 16#32
  let v138 : BitVec 32 := Scalar.muli c3_i32_50 c16_i32_51
  v138
def k0_mult16 (i : grid0.Coords) : BitVec 32 :=
  let arg1 : BitVec 32 := BitVec.ofNat 32 (i 1).val
  let c43_i32_13 : BitVec 32 := 43#32
  let v33 : BitVec 32 := Scalar.subi arg1 c43_i32_13
  let c128_i32 : BitVec 32 := 128#32
  let v38 : BitVec 32 := Scalar.muli v33 c128_i32
  let c3_i32_50 : BitVec 32 := 3#32
  let c16_i32_51 : BitVec 32 := 16#32
  let v138 : BitVec 32 := Scalar.muli c3_i32_50 c16_i32_51
  let v139 : BitVec 32 := v138
  let v140 : BitVec 32 := Scalar.addi v38 v139
  v140
def k0_mult17 : BitVec 32 :=
  let c4_i32_61 : BitVec 32 := 4#32
  let c16_i32_62 : BitVec 32 := 16#32
  let v171 : BitVec 32 := Scalar.muli c4_i32_61 c16_i32_62
  v171
def k0_mult18 (i : grid0.Coords) : BitVec 32 :=
  let arg1 : BitVec 32 := BitVec.ofNat 32 (i 1).val
  let c43_i32_13 : BitVec 32 := 43#32
  let v33 : BitVec 32 := Scalar.subi arg1 c43_i32_13
  let c128_i32 : BitVec 32 := 128#32
  let v38 : BitVec 32 := Scalar.muli v33 c128_i32
  let c4_i32_61 : BitVec 32 := 4#32
  let c16_i32_62 : BitVec 32 := 16#32
  let v171 : BitVec 32 := Scalar.muli c4_i32_61 c16_i32_62
  let v172 : BitVec 32 := v171
  let v173 : BitVec 32 := Scalar.addi v38 v172
  v173
def k0_mult19 : BitVec 32 :=
  let c5_i32_72 : BitVec 32 := 5#32
  let c16_i32_73 : BitVec 32 := 16#32
  let v204 : BitVec 32 := Scalar.muli c5_i32_72 c16_i32_73
  v204
def k0_mult20 (i : grid0.Coords) : BitVec 32 :=
  let arg1 : BitVec 32 := BitVec.ofNat 32 (i 1).val
  let c43_i32_13 : BitVec 32 := 43#32
  let v33 : BitVec 32 := Scalar.subi arg1 c43_i32_13
  let c128_i32 : BitVec 32 := 128#32
  let v38 : BitVec 32 := Scalar.muli v33 c128_i32
  let c5_i32_72 : BitVec 32 := 5#32
  let c16_i32_73 : BitVec 32 := 16#32
  let v204 : BitVec 32 := Scalar.muli c5_i32_72 c16_i32_73
  let v205 : BitVec 32 := v204
  let v206 : BitVec 32 := Scalar.addi v38 v205
  v206
def k0_mult21 : BitVec 32 :=
  let c6_i32_83 : BitVec 32 := 6#32
  let c16_i32_84 : BitVec 32 := 16#32
  let v237 : BitVec 32 := Scalar.muli c6_i32_83 c16_i32_84
  v237
def k0_mult22 (i : grid0.Coords) : BitVec 32 :=
  let arg1 : BitVec 32 := BitVec.ofNat 32 (i 1).val
  let c43_i32_13 : BitVec 32 := 43#32
  let v33 : BitVec 32 := Scalar.subi arg1 c43_i32_13
  let c128_i32 : BitVec 32 := 128#32
  let v38 : BitVec 32 := Scalar.muli v33 c128_i32
  let c6_i32_83 : BitVec 32 := 6#32
  let c16_i32_84 : BitVec 32 := 16#32
  let v237 : BitVec 32 := Scalar.muli c6_i32_83 c16_i32_84
  let v238 : BitVec 32 := v237
  let v239 : BitVec 32 := Scalar.addi v38 v238
  v239
def k0_mult23 : BitVec 32 :=
  let c7_i32_94 : BitVec 32 := 7#32
  let c16_i32_95 : BitVec 32 := 16#32
  let v270 : BitVec 32 := Scalar.muli c7_i32_94 c16_i32_95
  v270
def k0_mult24 (i : grid0.Coords) : BitVec 32 :=
  let arg1 : BitVec 32 := BitVec.ofNat 32 (i 1).val
  let c43_i32_13 : BitVec 32 := 43#32
  let v33 : BitVec 32 := Scalar.subi arg1 c43_i32_13
  let c128_i32 : BitVec 32 := 128#32
  let v38 : BitVec 32 := Scalar.muli v33 c128_i32
  let c7_i32_94 : BitVec 32 := 7#32
  let c16_i32_95 : BitVec 32 := 16#32
  let v270 : BitVec 32 := Scalar.muli c7_i32_94 c16_i32_95
  let v271 : BitVec 32 := v270
  let v272 : BitVec 32 := Scalar.addi v38 v271
  v272
def cc0_transform_0 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c42_i32 : BitVec 32 := 42#32
  let v0 : BitVec 32 := Scalar.minsi arg1 c42_i32
  let c1_i32 : BitVec 32 := 1#32
  let c0_i32 : BitVec 32 := 0#32
  let c0_i32_0 : BitVec 32 := 0#32
  ![c1_i32.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c42_i32 : BitVec 32 := 42#32
  let v0 : BitVec 32 := Scalar.minsi arg1 c42_i32
  let c1_i32 : BitVec 32 := 1#32
  let c0_i32 : BitVec 32 := 0#32
  let c0_i32_0 : BitVec 32 := 0#32
  ![c1_i32.toNat, c0_i32.toNat, v0.toNat]

def cc0_transform_4 (i : grid0.Coords) : Fin 3 → Nat :=
  let arg0 : BitVec 32 := BitVec.ofNat 32 (i 0).val
  let arg1 : BitVec 32 := BitVec.ofNat 32 (i 1).val
  let c42_i32 : BitVec 32 := 42#32
  let v0 : BitVec 32 := Scalar.minsi arg1 c42_i32
  let c1_i32 : BitVec 32 := 1#32
  let c0_i32 : BitVec 32 := 0#32
  let c0_i32_0 : BitVec 32 := 0#32
  ![c1_i32.toNat, v0.toNat, c0_i32.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c43_i32 : BitVec 32 := 43#32
  let v1 : BitVec 32 := Scalar.subi arg1 c43_i32
  let c0_i32 : BitVec 32 := 0#32
  let c7_i32 : BitVec 32 := 7#32
  let v2 : BitVec 32 := Scalar.maxsi c0_i32 v1
  let v3 : BitVec 32 := Scalar.minsi c7_i32 v2
  let v4 : BitVec 32 := Scalar.addi v0 v3
  let c0_i32_0 : BitVec 32 := 0#32
  let c0_i32_1 : BitVec 32 := 0#32
  ![v4.toNat, c0_i32_0.toNat]

def cc0_transform_8 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c43_i32 : BitVec 32 := 43#32
  let v1 : BitVec 32 := Scalar.subi arg1 c43_i32
  let c0_i32 : BitVec 32 := 0#32
  let c7_i32 : BitVec 32 := 7#32
  let v2 : BitVec 32 := Scalar.maxsi c0_i32 v1
  let v3 : BitVec 32 := Scalar.minsi c7_i32 v2
  let v4 : BitVec 32 := Scalar.addi v0 v3
  let c0_i32_0 : BitVec 32 := 0#32
  let c0_i32_1 : BitVec 32 := 0#32
  ![v4.toNat, c0_i32_0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S128x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== FfnIdeal.lean ====
abbrev S8x2048x4096 : Shape := ⟨3, ![8, 2048, 4096]⟩
abbrev S2x4096x11008 : Shape := ⟨3, ![2, 4096, 11008]⟩
abbrev S2x11008x4096 : Shape := ⟨3, ![2, 11008, 4096]⟩
abbrev S2x4096 : Shape := ⟨2, ![2, 4096]⟩
abbrev S16384x4096 : Shape := ⟨2, ![16384, 4096]⟩
abbrev S2x1x4096 : Shape := ⟨3, ![2, 1, 4096]⟩
abbrev S1024x512 : Shape := ⟨2, ![1024, 512]⟩
abbrev S1024x4096 : Shape := ⟨2, ![1024, 4096]⟩
abbrev S1x4096x256 : Shape := ⟨3, ![1, 4096, 256]⟩
abbrev S1x256x4096 : Shape := ⟨3, ![1, 256, 4096]⟩
abbrev S1x1x4096 : Shape := ⟨3, ![1, 1, 4096]⟩
abbrev S128x4096 : Shape := ⟨2, ![128, 4096]⟩
abbrev S4096x256 : Shape := ⟨2, ![4096, 256]⟩
abbrev S1024x256 : Shape := ⟨2, ![1024, 256]⟩
abbrev S256x4096 : Shape := ⟨2, ![256, 4096]⟩
abbrev S64x512 : Shape := ⟨2, ![64, 512]⟩
abbrev S1x4096 : Shape := ⟨2, ![1, 4096]⟩
abbrev S16x4096 : Shape := ⟨2, ![16, 4096]⟩
abbrev S16 : Shape := ⟨1, ![16]⟩
abbrev S16x1 : Shape := ⟨2, ![16, 1]⟩

abbrev nBuf : Space → Nat
  | .hbm => 15
  | .vmem => 17
  | .smem => 0
  | _ => 0

abbrev bufTy : (tb : Table) → Fin (tcTables nBuf tb) → BufTy
  | .hbm, ⟨0, _⟩ => ⟨S8x2048x4096, .f32⟩
  | .hbm, ⟨1, _⟩ => ⟨S2x4096x11008, .f32⟩
  | .hbm, ⟨2, _⟩ => ⟨S2x4096x11008, .f32⟩
  | .hbm, ⟨3, _⟩ => ⟨S2x11008x4096, .f32⟩
  | .hbm, ⟨4, _⟩ => ⟨S2x4096, .f32⟩
  | .hbm, ⟨5, _⟩ => ⟨S2x4096, .f32⟩
  | .hbm, ⟨6, _⟩ => ⟨S16384x4096, .f32⟩
  | .hbm, ⟨7, _⟩ => ⟨S16384x4096, .bf16⟩
  | .hbm, ⟨8, _⟩ => ⟨S2x4096x11008, .bf16⟩
  | .hbm, ⟨9, _⟩ => ⟨S2x4096x11008, .bf16⟩
  | .hbm, ⟨10, _⟩ => ⟨S2x11008x4096, .bf16⟩
  | .hbm, ⟨11, _⟩ => ⟨S2x1x4096, .f32⟩
  | .hbm, ⟨12, _⟩ => ⟨S2x1x4096, .f32⟩
  | .hbm, ⟨13, _⟩ => ⟨S16384x4096, .f32⟩
  | .hbm, ⟨14, _⟩ => ⟨S16384x4096, .bf16⟩
  | .local _ .vmem, ⟨0, _⟩ => ⟨S1024x512, .f32⟩
  | .local _ .vmem, ⟨1, _⟩ => ⟨S1024x512, .f32⟩
  | .local _ .vmem, ⟨2, _⟩ => ⟨S1024x4096, .bf16⟩
  | .local _ .vmem, ⟨3, _⟩ => ⟨S1024x4096, .bf16⟩
  | .local _ .vmem, ⟨4, _⟩ => ⟨S1x4096x256, .bf16⟩
  | .local _ .vmem, ⟨5, _⟩ => ⟨S1x4096x256, .bf16⟩
  | .local _ .vmem, ⟨6, _⟩ => ⟨S1x4096x256, .bf16⟩
  | .local _ .vmem, ⟨7, _⟩ => ⟨S1x4096x256, .bf16⟩
  | .local _ .vmem, ⟨8, _⟩ => ⟨S1x256x4096, .bf16⟩
  | .local _ .vmem, ⟨9, _⟩ => ⟨S1x256x4096, .bf16⟩
  | .local _ .vmem, ⟨10, _⟩ => ⟨S1x1x4096, .f32⟩
  | .local _ .vmem, ⟨11, _⟩ => ⟨S1x1x4096, .f32⟩
  | .local _ .vmem, ⟨12, _⟩ => ⟨S128x4096, .f32⟩
  | .local _ .vmem, ⟨13, _⟩ => ⟨S128x4096, .f32⟩
  | .local _ .vmem, ⟨14, _⟩ => ⟨S128x4096, .bf16⟩
  | .local _ .vmem, ⟨15, _⟩ => ⟨S128x4096, .bf16⟩
  | .local _ .vmem, ⟨16, _⟩ => ⟨S1024x4096, .f32⟩
  | _, _ => ⟨S8x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![16, 51], ![false, false]⟩

def k0_cond3 (i : grid0.Coords) : BitVec 1 :=
  let arg1 : BitVec 32 := BitVec.ofNat 32 (i 1).val
  let c0_i32_2 : BitVec 32 := 0#32
  let v6 : BitVec 1 := Scalar.cmpi .eq arg1 c0_i32_2
  let v7 : BitVec 32 := Scalar.extui v6
  let c0_i32_3 : BitVec 32 := 0#32
  let v8 : BitVec 1 := Scalar.cmpi .ne v7 c0_i32_3
  v8

@[reducible] def k0_t1_loop : Scf.Loop 32 :=
  let c0_i32_13 : BitVec 32 := 0#32
  let c16_i32 : BitVec 32 := 16#32
  let v33 : BitVec 32 := Scalar.addi c0_i32_13 c16_i32
  let c1_i32_14 : BitVec 32 := 1#32
  ⟨c0_i32_13, v33, c1_i32_14⟩
def k0_mult1 (k0_t1 : Fin k0_t1_loop.trips) : BitVec 32 :=
  let c0_i32_13 : BitVec 32 := 0#32
  let c1_i32_14 : BitVec 32 := 1#32
  let arg12 : BitVec 32 := Scf.iv c0_i32_13 c1_i32_14 k0_t1
  let c64_i32 : BitVec 32 := 64#32
  let v34 : BitVec 32 := Scalar.muli arg12 c64_i32
  v34
def k0_off1 (k0_t1 : Fin k0_t1_loop.trips) : Fin 2 → Nat :=
  let c0_i32_13 : BitVec 32 := 0#32
  let c1_i32_14 : BitVec 32 := 1#32
  let arg12 : BitVec 32 := Scf.iv c0_i32_13 c1_i32_14 k0_t1
  let c64_i32 : BitVec 32 := 64#32
  let v34 : BitVec 32 := Scalar.muli arg12 c64_i32
  let v35 : BitVec 32 := v34
  let v36 : Index := Scalar.indexCast v35
  let c0 : Index := 0#32
  ![v36.toNat, 0]
def k0_off2 (k0_t1 : Fin k0_t1_loop.trips) : Fin 2 → Nat :=
  let c0_i32_13 : BitVec 32 := 0#32
  let c1_i32_14 : BitVec 32 := 1#32
  let arg12 : BitVec 32 := Scf.iv c0_i32_13 c1_i32_14 k0_t1
  let c64_i32 : BitVec 32 := 64#32
  let v34 : BitVec 32 := Scalar.muli arg12 c64_i32
  let v35 : BitVec 32 := v34
  let v38 : Index := Scalar.indexCast v35
  let c0_16 : Index := 0#32
  ![v38.toNat, 0]
def k0_cond4 (i : grid0.Coords) : BitVec 1 :=
  let arg1 : BitVec 32 := BitVec.ofNat 32 (i 1).val
  let c1_i32 : BitVec 32 := 1#32
  let v9 : BitVec 1 := Scalar.cmpi .eq arg1 c1_i32
  let v10 : BitVec 32 := Scalar.extui v9
  let c0_i32_4 : BitVec 32 := 0#32
  let v11 : BitVec 1 := Scalar.cmpi .ne v10 c0_i32_4
  v11

@[reducible] def k0_t2_loop : Scf.Loop 32 :=
  let c0_i32_13 : BitVec 32 := 0#32
  let c16_i32 : BitVec 32 := 16#32
  let v33 : BitVec 32 := Scalar.addi c0_i32_13 c16_i32
  let c1_i32_14 : BitVec 32 := 1#32
  ⟨c0_i32_13, v33, c1_i32_14⟩
def k0_mult2 (k0_t2 : Fin k0_t2_loop.trips) : BitVec 32 :=
  let c0_i32_13 : BitVec 32 := 0#32
  let c1_i32_14 : BitVec 32 := 1#32
  let arg12 : BitVec 32 := Scf.iv c0_i32_13 c1_i32_14 k0_t2
  let c64_i32 : BitVec 32 := 64#32
  let v34 : BitVec 32 := Scalar.muli arg12 c64_i32
  v34
def k0_off3 (k0_t2 : Fin k0_t2_loop.trips) : Fin 2 → Nat :=
  let c0_i32_13 : BitVec 32 := 0#32
  let c1_i32_14 : BitVec 32 := 1#32
  let arg12 : BitVec 32 := Scf.iv c0_i32_13 c1_i32_14 k0_t2
  let c64_i32 : BitVec 32 := 64#32
  let v34 : BitVec 32 := Scalar.muli arg12 c64_i32
  let v35 : BitVec 32 := v34
  let v36 : Index := Scalar.indexCast v35
  let c512 : Index := 512#32
  ![v36.toNat, 512]
def k0_off4 (k0_t2 : Fin k0_t2_loop.trips) : Fin 2 → Nat :=
  let c0_i32_13 : BitVec 32 := 0#32
  let c1_i32_14 : BitVec 32 := 1#32
  let arg12 : BitVec 32 := Scf.iv c0_i32_13 c1_i32_14 k0_t2
  let c64_i32 : BitVec 32 := 64#32
  let v34 : BitVec 32 := Scalar.muli arg12 c64_i32
  let v35 : BitVec 32 := v34
  let v38 : Index := Scalar.indexCast v35
  let c0 : Index := 0#32
  ![v38.toNat, 0]
def k0_cond5 (i : grid0.Coords) : BitVec 1 :=
  let arg1 : BitVec 32 := BitVec.ofNat 32 (i 1).val
  let c2_i32 : BitVec 32 := 2#32
  let v12 : BitVec 1 := Scalar.cmpi .eq arg1 c2_i32
  let v13 : BitVec 32 := Scalar.extui v12
  let c0_i32_5 : BitVec 32 := 0#32
  let v14 : BitVec 1 := Scalar.cmpi .ne v13 c0_i32_5
  v14

@[reducible] def k0_t3_loop : Scf.Loop 32 :=
  let c0_i32_13 : BitVec 32 := 0#32
  let c16_i32 : BitVec 32 := 16#32
  let v33 : BitVec 32 := Scalar.addi c0_i32_13 c16_i32
  let c1_i32_14 : BitVec 32 := 1#32
  ⟨c0_i32_13, v33, c1_i32_14⟩
def k0_mult3 (k0_t3 : Fin k0_t3_loop.trips) : BitVec 32 :=
  let c0_i32_13 : BitVec 32 := 0#32
  let c1_i32_14 : BitVec 32 := 1#32
  let arg12 : BitVec 32 := Scf.iv c0_i32_13 c1_i32_14 k0_t3
  let c64_i32 : BitVec 32 := 64#32
  let v34 : BitVec 32 := Scalar.muli arg12 c64_i32
  v34
def k0_off5 (k0_t3 : Fin k0_t3_loop.trips) : Fin 2 → Nat :=
  let c0_i32_13 : BitVec 32 := 0#32
  let c1_i32_14 : BitVec 32 := 1#32
  let arg12 : BitVec 32 := Scf.iv c0_i32_13 c1_i32_14 k0_t3
  let c64_i32 : BitVec 32 := 64#32
  let v34 : BitVec 32 := Scalar.muli arg12 c64_i32
  let v35 : BitVec 32 := v34
  let v36 : Index := Scalar.indexCast v35
  let c1024 : Index := 1024#32
  ![v36.toNat, 1024]
def k0_off6 (k0_t3 : Fin k0_t3_loop.trips) : Fin 2 → Nat :=
  let c0_i32_13 : BitVec 32 := 0#32
  let c1_i32_14 : BitVec 32 := 1#32
  let arg12 : BitVec 32 := Scf.iv c0_i32_13 c1_i32_14 k0_t3
  let c64_i32 : BitVec 32 := 64#32
  let v34 : BitVec 32 := Scalar.muli arg12 c64_i32
  let v35 : BitVec 32 := v34
  let v38 : Index := Scalar.indexCast v35
  let c0 : Index := 0#32
  ![v38.toNat, 0]
def k0_cond6 (i : grid0.Coords) : BitVec 1 :=
  let arg1 : BitVec 32 := BitVec.ofNat 32 (i 1).val
  let c3_i32 : BitVec 32 := 3#32
  let v15 : BitVec 1 := Scalar.cmpi .eq arg1 c3_i32
  let v16 : BitVec 32 := Scalar.extui v15
  let c0_i32_6 : BitVec 32 := 0#32
  let v17 : BitVec 1 := Scalar.cmpi .ne v16 c0_i32_6
  v17

@[reducible] def k0_t4_loop : Scf.Loop 32 :=
  let c0_i32_13 : BitVec 32 := 0#32
  let c16_i32 : BitVec 32 := 16#32
  let v33 : BitVec 32 := Scalar.addi c0_i32_13 c16_i32
  let c1_i32_14 : BitVec 32 := 1#32
  ⟨c0_i32_13, v33, c1_i32_14⟩
def k0_mult4 (k0_t4 : Fin k0_t4_loop.trips) : BitVec 32 :=
  let c0_i32_13 : BitVec 32 := 0#32
  let c1_i32_14 : BitVec 32 := 1#32
  let arg12 : BitVec 32 := Scf.iv c0_i32_13 c1_i32_14 k0_t4
  let c64_i32 : BitVec 32 := 64#32
  let v34 : BitVec 32 := Scalar.muli arg12 c64_i32
  v34
def k0_off7 (k0_t4 : Fin k0_t4_loop.trips) : Fin 2 → Nat :=
  let c0_i32_13 : BitVec 32 := 0#32
  let c1_i32_14 : BitVec 32 := 1#32
  let arg12 : BitVec 32 := Scf.iv c0_i32_13 c1_i32_14 k0_t4
  let c64_i32 : BitVec 32 := 64#32
  let v34 : BitVec 32 := Scalar.muli arg12 c64_i32
  let v35 : BitVec 32 := v34
  let v36 : Index := Scalar.indexCast v35
  let c1536 : Index := 1536#32
  ![v36.toNat, 1536]
def k0_off8 (k0_t4 : Fin k0_t4_loop.trips) : Fin 2 → Nat :=
  let c0_i32_13 : BitVec 32 := 0#32
  let c1_i32_14 : BitVec 32 := 1#32
  let arg12 : BitVec 32 := Scf.iv c0_i32_13 c1_i32_14 k0_t4
  let c64_i32 : BitVec 32 := 64#32
  let v34 : BitVec 32 := Scalar.muli arg12 c64_i32
  let v35 : BitVec 32 := v34
  let v38 : Index := Scalar.indexCast v35
  let c0 : Index := 0#32
  ![v38.toNat, 0]
def k0_cond7 (i : grid0.Coords) : BitVec 1 :=
  let arg1 : BitVec 32 := BitVec.ofNat 32 (i 1).val
  let c4_i32 : BitVec 32 := 4#32
  let v18 : BitVec 1 := Scalar.cmpi .eq arg1 c4_i32
  let v19 : BitVec 32 := Scalar.extui v18
  let c0_i32_7 : BitVec 32 := 0#32
  let v20 : BitVec 1 := Scalar.cmpi .ne v19 c0_i32_7
  v20

@[reducible] def k0_t5_loop : Scf.Loop 32 :=
  let c0_i32_13 : BitVec 32 := 0#32
  let c16_i32 : BitVec 32 := 16#32
  let v33 : BitVec 32 := Scalar.addi c0_i32_13 c16_i32
  let c1_i32_14 : BitVec 32 := 1#32
  ⟨c0_i32_13, v33, c1_i32_14⟩
def k0_mult5 (k0_t5 : Fin k0_t5_loop.trips) : BitVec 32 :=
  let c0_i32_13 : BitVec 32 := 0#32
  let c1_i32_14 : BitVec 32 := 1#32
  let arg12 : BitVec 32 := Scf.iv c0_i32_13 c1_i32_14 k0_t5
  let c64_i32 : BitVec 32 := 64#32
  let v34 : BitVec 32 := Scalar.muli arg12 c64_i32
  v34
def k0_off9 (k0_t5 : Fin k0_t5_loop.trips) : Fin 2 → Nat :=
  let c0_i32_13 : BitVec 32 := 0#32
  let c1_i32_14 : BitVec 32 := 1#32
  let arg12 : BitVec 32 := Scf.iv c0_i32_13 c1_i32_14 k0_t5
  let c64_i32 : BitVec 32 := 64#32
  let v34 : BitVec 32 := Scalar.muli arg12 c64_i32
  let v35 : BitVec 32 := v34
  let v36 : Index := Scalar.indexCast v35
  let c2048 : Index := 2048#32
  ![v36.toNat, 2048]
def k0_off10 (k0_t5 : Fin k0_t5_loop.trips) : Fin 2 → Nat :=
  let c0_i32_13 : BitVec 32 := 0#32
  let c1_i32_14 : BitVec 32 := 1#32
  let arg12 : BitVec 32 := Scf.iv c0_i32_13 c1_i32_14 k0_t5
  let c64_i32 : BitVec 32 := 64#32
  let v34 : BitVec 32 := Scalar.muli arg12 c64_i32
  let v35 : BitVec 32 := v34
  let v38 : Index := Scalar.indexCast v35
  let c0 : Index := 0#32
  ![v38.toNat, 0]
def k0_cond8 (i : grid0.Coords) : BitVec 1 :=
  let arg1 : BitVec 32 := BitVec.ofNat 32 (i 1).val
  let c5_i32 : BitVec 32 := 5#32
  let v21 : BitVec 1 := Scalar.cmpi .eq arg1 c5_i32
  let v22 : BitVec 32 := Scalar.extui v21
  let c0_i32_8 : BitVec 32 := 0#32
  let v23 : BitVec 1 := Scalar.cmpi .ne v22 c0_i32_8
  v23

@[reducible] def k0_t6_loop : Scf.Loop 32 :=
  let c0_i32_13 : BitVec 32 := 0#32
  let c16_i32 : BitVec 32 := 16#32
  let v33 : BitVec 32 := Scalar.addi c0_i32_13 c16_i32
  let c1_i32_14 : BitVec 32 := 1#32
  ⟨c0_i32_13, v33, c1_i32_14⟩
def k0_mult6 (k0_t6 : Fin k0_t6_loop.trips) : BitVec 32 :=
  let c0_i32_13 : BitVec 32 := 0#32
  let c1_i32_14 : BitVec 32 := 1#32
  let arg12 : BitVec 32 := Scf.iv c0_i32_13 c1_i32_14 k0_t6
  let c64_i32 : BitVec 32 := 64#32
  let v34 : BitVec 32 := Scalar.muli arg12 c64_i32
  v34
def k0_off11 (k0_t6 : Fin k0_t6_loop.trips) : Fin 2 → Nat :=
  let c0_i32_13 : BitVec 32 := 0#32
  let c1_i32_14 : BitVec 32 := 1#32
  let arg12 : BitVec 32 := Scf.iv c0_i32_13 c1_i32_14 k0_t6
  let c64_i32 : BitVec 32 := 64#32
  let v34 : BitVec 32 := Scalar.muli arg12 c64_i32
  let v35 : BitVec 32 := v34
  let v36 : Index := Scalar.indexCast v35
  let c2560 : Index := 2560#32
  ![v36.toNat, 2560]
def k0_off12 (k0_t6 : Fin k0_t6_loop.trips) : Fin 2 → Nat :=
  let c0_i32_13 : BitVec 32 := 0#32
  let c1_i32_14 : BitVec 32 := 1#32
  let arg12 : BitVec 32 := Scf.iv c0_i32_13 c1_i32_14 k0_t6
  let c64_i32 : BitVec 32 := 64#32
  let v34 : BitVec 32 := Scalar.muli arg12 c64_i32
  let v35 : BitVec 32 := v34
  let v38 : Index := Scalar.indexCast v35
  let c0 : Index := 0#32
  ![v38.toNat, 0]
def k0_cond9 (i : grid0.Coords) : BitVec 1 :=
  let arg1 : BitVec 32 := BitVec.ofNat 32 (i 1).val
  let c6_i32 : BitVec 32 := 6#32
  let v24 : BitVec 1 := Scalar.cmpi .eq arg1 c6_i32
  let v25 : BitVec 32 := Scalar.extui v24
  let c0_i32_9 : BitVec 32 := 0#32
  let v26 : BitVec 1 := Scalar.cmpi .ne v25 c0_i32_9
  v26

@[reducible] def k0_t7_loop : Scf.Loop 32 :=
  let c0_i32_13 : BitVec 32 := 0#32
  let c16_i32 : BitVec 32 := 16#32
  let v33 : BitVec 32 := Scalar.addi c0_i32_13 c16_i32
  let c1_i32_14 : BitVec 32 := 1#32
  ⟨c0_i32_13, v33, c1_i32_14⟩
def k0_mult7 (k0_t7 : Fin k0_t7_loop.trips) : BitVec 32 :=
  let c0_i32_13 : BitVec 32 := 0#32
  let c1_i32_14 : BitVec 32 := 1#32
  let arg12 : BitVec 32 := Scf.iv c0_i32_13 c1_i32_14 k0_t7
  let c64_i32 : BitVec 32 := 64#32
  let v34 : BitVec 32 := Scalar.muli arg12 c64_i32
  v34
def k0_off13 (k0_t7 : Fin k0_t7_loop.trips) : Fin 2 → Nat :=
  let c0_i32_13 : BitVec 32 := 0#32
  let c1_i32_14 : BitVec 32 := 1#32
  let arg12 : BitVec 32 := Scf.iv c0_i32_13 c1_i32_14 k0_t7
  let c64_i32 : BitVec 32 := 64#32
  let v34 : BitVec 32 := Scalar.muli arg12 c64_i32
  let v35 : BitVec 32 := v34
  let v36 : Index := Scalar.indexCast v35
  let c3072 : Index := 3072#32
  ![v36.toNat, 3072]
def k0_off14 (k0_t7 : Fin k0_t7_loop.trips) : Fin 2 → Nat :=
  let c0_i32_13 : BitVec 32 := 0#32
  let c1_i32_14 : BitVec 32 := 1#32
  let arg12 : BitVec 32 := Scf.iv c0_i32_13 c1_i32_14 k0_t7
  let c64_i32 : BitVec 32 := 64#32
  let v34 : BitVec 32 := Scalar.muli arg12 c64_i32
  let v35 : BitVec 32 := v34
  let v38 : Index := Scalar.indexCast v35
  let c0 : Index := 0#32
  ![v38.toNat, 0]
def k0_cond10 (i : grid0.Coords) : BitVec 1 :=
  let arg1 : BitVec 32 := BitVec.ofNat 32 (i 1).val
  let c7_i32 : BitVec 32 := 7#32
  let v27 : BitVec 1 := Scalar.cmpi .eq arg1 c7_i32
  let v28 : BitVec 32 := Scalar.extui v27
  let c0_i32_10 : BitVec 32 := 0#32
  let v29 : BitVec 1 := Scalar.cmpi .ne v28 c0_i32_10
  v29

@[reducible] def k0_t8_loop : Scf.Loop 32 :=
  let c0_i32_13 : BitVec 32 := 0#32
  let c16_i32 : BitVec 32 := 16#32
  let v33 : BitVec 32 := Scalar.addi c0_i32_13 c16_i32
  let c1_i32_14 : BitVec 32 := 1#32
  ⟨c0_i32_13, v33, c1_i32_14⟩
def k0_mult8 (k0_t8 : Fin k0_t8_loop.trips) : BitVec 32 :=
  let c0_i32_13 : BitVec 32 := 0#32
  let c1_i32_14 : BitVec 32 := 1#32
  let arg12 : BitVec 32 := Scf.iv c0_i32_13 c1_i32_14 k0_t8
  let c64_i32 : BitVec 32 := 64#32
  let v34 : BitVec 32 := Scalar.muli arg12 c64_i32
  v34
def k0_off15 (k0_t8 : Fin k0_t8_loop.trips) : Fin 2 → Nat :=
  let c0_i32_13 : BitVec 32 := 0#32
  let c1_i32_14 : BitVec 32 := 1#32
  let arg12 : BitVec 32 := Scf.iv c0_i32_13 c1_i32_14 k0_t8
  let c64_i32 : BitVec 32 := 64#32
  let v34 : BitVec 32 := Scalar.muli arg12 c64_i32
  let v35 : BitVec 32 := v34
  let v36 : Index := Scalar.indexCast v35
  let c3584 : Index := 3584#32
  ![v36.toNat, 3584]
def k0_off16 (k0_t8 : Fin k0_t8_loop.trips) : Fin 2 → Nat :=
  let c0_i32_13 : BitVec 32 := 0#32
  let c1_i32_14 : BitVec 32 := 1#32
  let arg12 : BitVec 32 := Scf.iv c0_i32_13 c1_i32_14 k0_t8
  let c64_i32 : BitVec 32 := 64#32
  let v34 : BitVec 32 := Scalar.muli arg12 c64_i32
  let v35 : BitVec 32 := v34
  let v38 : Index := Scalar.indexCast v35
  let c0 : Index := 0#32
  ![v38.toNat, 0]
def k0_cond11 (i : grid0.Coords) : BitVec 1 :=
  let arg1 : BitVec 32 := BitVec.ofNat 32 (i 1).val
  let c43_i32_11 : BitVec 32 := 43#32
  let v30 : BitVec 1 := Scalar.cmpi .sge arg1 c43_i32_11
  let v31 : BitVec 32 := Scalar.extui v30
  let c0_i32_12 : BitVec 32 := 0#32
  let v32 : BitVec 1 := Scalar.cmpi .ne v31 c0_i32_12
  v32

def k0_mult9 : BitVec 32 :=
  let c0_i32_19 : BitVec 32 := 0#32
  let c16_i32 : BitVec 32 := 16#32
  let v39 : BitVec 32 := Scalar.muli c0_i32_19 c16_i32
  v39
def k0_mult10 (i : grid0.Coords) : BitVec 32 :=
  let arg1 : BitVec 32 := BitVec.ofNat 32 (i 1).val
  let c43_i32_13 : BitVec 32 := 43#32
  let v33 : BitVec 32 := Scalar.subi arg1 c43_i32_13
  let c128_i32 : BitVec 32 := 128#32
  let v38 : BitVec 32 := Scalar.muli v33 c128_i32
  let c0_i32_19 : BitVec 32 := 0#32
  let c16_i32 : BitVec 32 := 16#32
  let v39 : BitVec 32 := Scalar.muli c0_i32_19 c16_i32
  let v40 : BitVec 32 := v39
  let v41 : BitVec 32 := Scalar.addi v38 v40
  v41
def k0_off17 (i : grid0.Coords) (c0_i32_19 : BitVec 32) : Fin 2 → Nat :=
  let arg1 : BitVec 32 := BitVec.ofNat 32 (i 1).val
  let c43_i32_13 : BitVec 32 := 43#32
  let v33 : BitVec 32 := Scalar.subi arg1 c43_i32_13
  let c128_i32 : BitVec 32 := 128#32
  let v38 : BitVec 32 := Scalar.muli v33 c128_i32
  let c16_i32 : BitVec 32 := 16#32
  let v39 : BitVec 32 := Scalar.muli c0_i32_19 c16_i32
  let v40 : BitVec 32 := v39
  let v41 : BitVec 32 := Scalar.addi v38 v40
  let v42 : BitVec 32 := v41
  let v43 : Index := Scalar.indexCast v42
  let c0_20 : Index := 0#32
  ![v43.toNat, 0]
def k0_off18 (c0_i32_19 : BitVec 32) : Fin 2 → Nat :=
  let c16_i32 : BitVec 32 := 16#32
  let v39 : BitVec 32 := Scalar.muli c0_i32_19 c16_i32
  let v40 : BitVec 32 := v39
  let v67 : Index := Scalar.indexCast v40
  let c0_26 : Index := 0#32
  ![v67.toNat, 0]
def k0_mult11 : BitVec 32 :=
  let c1_i32_28 : BitVec 32 := 1#32
  let c16_i32_29 : BitVec 32 := 16#32
  let v72 : BitVec 32 := Scalar.muli c1_i32_28 c16_i32_29
  v72
def k0_mult12 (i : grid0.Coords) : BitVec 32 :=
  let arg1 : BitVec 32 := BitVec.ofNat 32 (i 1).val
  let c43_i32_13 : BitVec 32 := 43#32
  let v33 : BitVec 32 := Scalar.subi arg1 c43_i32_13
  let c128_i32 : BitVec 32 := 128#32
  let v38 : BitVec 32 := Scalar.muli v33 c128_i32
  let c1_i32_28 : BitVec 32 := 1#32
  let c16_i32_29 : BitVec 32 := 16#32
  let v72 : BitVec 32 := Scalar.muli c1_i32_28 c16_i32_29
  let v73 : BitVec 32 := v72
  let v74 : BitVec 32 := Scalar.addi v38 v73
  v74
def k0_mult13 : BitVec 32 :=
  let c2_i32_39 : BitVec 32 := 2#32
  let c16_i32_40 : BitVec 32 := 16#32
  let v105 : BitVec 32 := Scalar.muli c2_i32_39 c16_i32_40
  v105
def k0_mult14 (i : grid0.Coords) : BitVec 32 :=
  let arg1 : BitVec 32 := BitVec.ofNat 32 (i 1).val
  let c43_i32_13 : BitVec 32 := 43#32
  let v33 : BitVec 32 := Scalar.subi arg1 c43_i32_13
  let c128_i32 : BitVec 32 := 128#32
  let v38 : BitVec 32 := Scalar.muli v33 c128_i32
  let c2_i32_39 : BitVec 32 := 2#32
  let c16_i32_40 : BitVec 32 := 16#32
  let v105 : BitVec 32 := Scalar.muli c2_i32_39 c16_i32_40
  let v106 : BitVec 32 := v105
  let v107 : BitVec 32 := Scalar.addi v38 v106
  v107
def k0_mult15 : BitVec 32 :=
  let c3_i32_50 : BitVec 32 := 3#32
  let c16_i32_51 : BitVec 32 := 16#32
  let v138 : BitVec 32 := Scalar.muli c3_i32_50 c16_i32_51
  v138
def k0_mult16 (i : grid0.Coords) : BitVec 32 :=
  let arg1 : BitVec 32 := BitVec.ofNat 32 (i 1).val
  let c43_i32_13 : BitVec 32 := 43#32
  let v33 : BitVec 32 := Scalar.subi arg1 c43_i32_13
  let c128_i32 : BitVec 32 := 128#32
  let v38 : BitVec 32 := Scalar.muli v33 c128_i32
  let c3_i32_50 : BitVec 32 := 3#32
  let c16_i32_51 : BitVec 32 := 16#32
  let v138 : BitVec 32 := Scalar.muli c3_i32_50 c16_i32_51
  let v139 : BitVec 32 := v138
  let v140 : BitVec 32 := Scalar.addi v38 v139
  v140
def k0_mult17 : BitVec 32 :=
  let c4_i32_61 : BitVec 32 := 4#32
  let c16_i32_62 : BitVec 32 := 16#32
  let v171 : BitVec 32 := Scalar.muli c4_i32_61 c16_i32_62
  v171
def k0_mult18 (i : grid0.Coords) : BitVec 32 :=
  let arg1 : BitVec 32 := BitVec.ofNat 32 (i 1).val
  let c43_i32_13 : BitVec 32 := 43#32
  let v33 : BitVec 32 := Scalar.subi arg1 c43_i32_13
  let c128_i32 : BitVec 32 := 128#32
  let v38 : BitVec 32 := Scalar.muli v33 c128_i32
  let c4_i32_61 : BitVec 32 := 4#32
  let c16_i32_62 : BitVec 32 := 16#32
  let v171 : BitVec 32 := Scalar.muli c4_i32_61 c16_i32_62
  let v172 : BitVec 32 := v171
  let v173 : BitVec 32 := Scalar.addi v38 v172
  v173
def k0_mult19 : BitVec 32 :=
  let c5_i32_72 : BitVec 32 := 5#32
  let c16_i32_73 : BitVec 32 := 16#32
  let v204 : BitVec 32 := Scalar.muli c5_i32_72 c16_i32_73
  v204
def k0_mult20 (i : grid0.Coords) : BitVec 32 :=
  let arg1 : BitVec 32 := BitVec.ofNat 32 (i 1).val
  let c43_i32_13 : BitVec 32 := 43#32
  let v33 : BitVec 32 := Scalar.subi arg1 c43_i32_13
  let c128_i32 : BitVec 32 := 128#32
  let v38 : BitVec 32 := Scalar.muli v33 c128_i32
  let c5_i32_72 : BitVec 32 := 5#32
  let c16_i32_73 : BitVec 32 := 16#32
  let v204 : BitVec 32 := Scalar.muli c5_i32_72 c16_i32_73
  let v205 : BitVec 32 := v204
  let v206 : BitVec 32 := Scalar.addi v38 v205
  v206
def k0_mult21 : BitVec 32 :=
  let c6_i32_83 : BitVec 32 := 6#32
  let c16_i32_84 : BitVec 32 := 16#32
  let v237 : BitVec 32 := Scalar.muli c6_i32_83 c16_i32_84
  v237
def k0_mult22 (i : grid0.Coords) : BitVec 32 :=
  let arg1 : BitVec 32 := BitVec.ofNat 32 (i 1).val
  let c43_i32_13 : BitVec 32 := 43#32
  let v33 : BitVec 32 := Scalar.subi arg1 c43_i32_13
  let c128_i32 : BitVec 32 := 128#32
  let v38 : BitVec 32 := Scalar.muli v33 c128_i32
  let c6_i32_83 : BitVec 32 := 6#32
  let c16_i32_84 : BitVec 32 := 16#32
  let v237 : BitVec 32 := Scalar.muli c6_i32_83 c16_i32_84
  let v238 : BitVec 32 := v237
  let v239 : BitVec 32 := Scalar.addi v38 v238
  v239
def k0_mult23 : BitVec 32 :=
  let c7_i32_94 : BitVec 32 := 7#32
  let c16_i32_95 : BitVec 32 := 16#32
  let v270 : BitVec 32 := Scalar.muli c7_i32_94 c16_i32_95
  v270
def k0_mult24 (i : grid0.Coords) : BitVec 32 :=
  let arg1 : BitVec 32 := BitVec.ofNat 32 (i 1).val
  let c43_i32_13 : BitVec 32 := 43#32
  let v33 : BitVec 32 := Scalar.subi arg1 c43_i32_13
  let c128_i32 : BitVec 32 := 128#32
  let v38 : BitVec 32 := Scalar.muli v33 c128_i32
  let c7_i32_94 : BitVec 32 := 7#32
  let c16_i32_95 : BitVec 32 := 16#32
  let v270 : BitVec 32 := Scalar.muli c7_i32_94 c16_i32_95
  let v271 : BitVec 32 := v270
  let v272 : BitVec 32 := Scalar.addi v38 v271
  v272
def cc0_transform_0 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c42_i32 : BitVec 32 := 42#32
  let v0 : BitVec 32 := Scalar.minsi arg1 c42_i32
  let c1_i32 : BitVec 32 := 1#32
  let c0_i32 : BitVec 32 := 0#32
  let c0_i32_0 : BitVec 32 := 0#32
  ![c1_i32.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c42_i32 : BitVec 32 := 42#32
  let v0 : BitVec 32 := Scalar.minsi arg1 c42_i32
  let c1_i32 : BitVec 32 := 1#32
  let c0_i32 : BitVec 32 := 0#32
  let c0_i32_0 : BitVec 32 := 0#32
  ![c1_i32.toNat, c0_i32.toNat, v0.toNat]

def cc0_transform_4 (i : grid0.Coords) : Fin 3 → Nat :=
  let arg0 : BitVec 32 := BitVec.ofNat 32 (i 0).val
  let arg1 : BitVec 32 := BitVec.ofNat 32 (i 1).val
  let c42_i32 : BitVec 32 := 42#32
  let v0 : BitVec 32 := Scalar.minsi arg1 c42_i32
  let c1_i32 : BitVec 32 := 1#32
  let c0_i32 : BitVec 32 := 0#32
  let c0_i32_0 : BitVec 32 := 0#32
  ![c1_i32.toNat, v0.toNat, c0_i32.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c43_i32 : BitVec 32 := 43#32
  let v1 : BitVec 32 := Scalar.subi arg1 c43_i32
  let c0_i32 : BitVec 32 := 0#32
  let c7_i32 : BitVec 32 := 7#32
  let v2 : BitVec 32 := Scalar.maxsi c0_i32 v1
  let v3 : BitVec 32 := Scalar.minsi c7_i32 v2
  let v4 : BitVec 32 := Scalar.addi v0 v3
  let c0_i32_0 : BitVec 32 := 0#32
  let c0_i32_1 : BitVec 32 := 0#32
  ![v4.toNat, c0_i32_0.toNat]

def cc0_transform_8 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c43_i32 : BitVec 32 := 43#32
  let v1 : BitVec 32 := Scalar.subi arg1 c43_i32
  let c0_i32 : BitVec 32 := 0#32
  let c7_i32 : BitVec 32 := 7#32
  let v2 : BitVec 32 := Scalar.maxsi c0_i32 v1
  let v3 : BitVec 32 := Scalar.minsi c7_i32 v2
  let v4 : BitVec 32 := Scalar.addi v0 v3
  let c0_i32_0 : BitVec 32 := 0#32
  let c0_i32_1 : BitVec 32 := 0#32
  ![v4.toNat, c0_i32_0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S128x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== FfnRefIdeal.lean ====
abbrev S8x2048x4096 : Shape := ⟨3, ![8, 2048, 4096]⟩
abbrev S2x4096x11008 : Shape := ⟨3, ![2, 4096, 11008]⟩
abbrev S2x11008x4096 : Shape := ⟨3, ![2, 11008, 4096]⟩
abbrev S2x4096 : Shape := ⟨2, ![2, 4096]⟩
abbrev S16384x4096 : Shape := ⟨2, ![16384, 4096]⟩
abbrev S1x4096x11008 : Shape := ⟨3, ![1, 4096, 11008]⟩
abbrev S4096x11008 : Shape := ⟨2, ![4096, 11008]⟩
abbrev S16384x11008 : Shape := ⟨2, ![16384, 11008]⟩
abbrev S_ : Shape := ⟨0, ![]⟩
abbrev S1x11008x4096 : Shape := ⟨3, ![1, 11008, 4096]⟩
abbrev S11008x4096 : Shape := ⟨2, ![11008, 4096]⟩
abbrev S1x4096 : Shape := ⟨2, ![1, 4096]⟩
abbrev S4096 : Shape := ⟨1, ![4096]⟩
abbrev S16384 : Shape := ⟨1, ![16384]⟩
abbrev S16384x1 : Shape := ⟨2, ![16384, 1]⟩

abbrev nBuf : Space → Nat
  | .hbm => 67
  | .vmem => 0
  | .smem => 0
  | _ => 0

abbrev bufTy : (tb : Table) → Fin (tcTables nBuf tb) → BufTy
  | .hbm, ⟨0, _⟩ => ⟨S8x2048x4096, .f32⟩
  | .hbm, ⟨1, _⟩ => ⟨S2x4096x11008, .f32⟩
  | .hbm, ⟨2, _⟩ => ⟨S2x4096x11008, .f32⟩
  | .hbm, ⟨3, _⟩ => ⟨S2x11008x4096, .f32⟩
  | .hbm, ⟨4, _⟩ => ⟨S2x4096, .f32⟩
  | .hbm, ⟨5, _⟩ => ⟨S2x4096, .f32⟩
  | .hbm, ⟨6, _⟩ => ⟨S16384x4096, .f32⟩
  | .hbm, ⟨7, _⟩ => ⟨S1x4096x11008, .f32⟩
  | .hbm, ⟨8, _⟩ => ⟨S4096x11008, .f32⟩
  | .hbm, ⟨9, _⟩ => ⟨S16384x11008, .f32⟩
  | .hbm, ⟨10, _⟩ => ⟨S16384x11008, .f32⟩
  | .hbm, ⟨11, _⟩ => ⟨S16384x11008, .f32⟩
  | .hbm, ⟨12, _⟩ => ⟨S_, .f32⟩
  | .hbm, ⟨13, _⟩ => ⟨S16384x11008, .f32⟩
  | .hbm, ⟨14, _⟩ => ⟨S16384x11008, .f32⟩
  | .hbm, ⟨15, _⟩ => ⟨S_, .f32⟩
  | .hbm, ⟨16, _⟩ => ⟨S16384x11008, .f32⟩
  | .hbm, ⟨17, _⟩ => ⟨S16384x11008, .f32⟩
  | .hbm, ⟨18, _⟩ => ⟨S16384x11008, .f32⟩
  | .hbm, ⟨19, _⟩ => ⟨S1x4096x11008, .f32⟩
  | .hbm, ⟨20, _⟩ => ⟨S4096x11008, .f32⟩
  | .hbm, ⟨21, _⟩ => ⟨S16384x11008, .f32⟩
  | .hbm, ⟨22, _⟩ => ⟨S16384x11008, .f32⟩
  | .hbm, ⟨23, _⟩ => ⟨S_, .f32⟩
  | .hbm, ⟨24, _⟩ => ⟨S16384x4096, .f32⟩
  | .hbm, ⟨25, _⟩ => ⟨S16384x4096, .f32⟩
  | .hbm, ⟨26, _⟩ => ⟨S1x11008x4096, .f32⟩
  | .hbm, ⟨27, _⟩ => ⟨S11008x4096, .f32⟩
  | .hbm, ⟨28, _⟩ => ⟨S16384x4096, .f32⟩
  | .hbm, ⟨29, _⟩ => ⟨S_, .f32⟩
  | .hbm, ⟨30, _⟩ => ⟨S16384x4096, .f32⟩
  | .hbm, ⟨31, _⟩ => ⟨S16384x4096, .f32⟩
  | .hbm, ⟨32, _⟩ => ⟨S16384x4096, .f32⟩
  | .hbm, ⟨33, _⟩ => ⟨S1x4096, .f32⟩
  | .hbm, ⟨34, _⟩ => ⟨S4096, .f32⟩
  | .hbm, ⟨35, _⟩ => ⟨S1x4096, .f32⟩
  | .hbm, ⟨36, _⟩ => ⟨S4096, .f32⟩
  | .hbm, ⟨37, _⟩ => ⟨S_, .f32⟩
  | .hbm, ⟨38, _⟩ => ⟨S16384, .f32⟩
  | .hbm, ⟨39, _⟩ => ⟨S16384x1, .f32⟩
  | .hbm, ⟨40, _⟩ => ⟨S_, .f32⟩
  | .hbm, ⟨41, _⟩ => ⟨S16384x1, .f32⟩
  | .hbm, ⟨42, _⟩ => ⟨S16384x1, .f32⟩
  | .hbm, ⟨43, _⟩ => ⟨S16384x4096, .f32⟩
  | .hbm, ⟨44, _⟩ => ⟨S16384x4096, .f32⟩
  | .hbm, ⟨45, _⟩ => ⟨S16384x4096, .f32⟩
  | .hbm, ⟨46, _⟩ => ⟨S_, .f32⟩
  | .hbm, ⟨47, _⟩ => ⟨S16384, .f32⟩
  | .hbm, ⟨48, _⟩ => ⟨S16384x1, .f32⟩
  | .hbm, ⟨49, _⟩ => ⟨S_, .f32⟩
  | .hbm, ⟨50, _⟩ => ⟨S16384x1, .f32⟩
  | .hbm, ⟨51, _⟩ => ⟨S16384x1, .f32⟩
  | .hbm, ⟨52, _⟩ => ⟨S16384x4096, .f32⟩
  | .hbm, ⟨53, _⟩ => ⟨S16384x4096, .f32⟩
  | .hbm, ⟨54, _⟩ => ⟨S_, .f32⟩
  | .hbm, ⟨55, _⟩ => ⟨S16384x1, .f32⟩
  | .hbm, ⟨56, _⟩ => ⟨S16384x1, .f32⟩
  | .hbm, ⟨57, _⟩ => ⟨S16384x1, .f32⟩
  | .hbm, ⟨58, _⟩ => ⟨S16384x4096, .f32⟩
  | .hbm, ⟨59, _⟩ => ⟨S16384x4096, .f32⟩
  | .hbm, ⟨60, _⟩ => ⟨S1x4096, .f32⟩
  | .hbm, ⟨61, _⟩ => ⟨S16384x4096, .f32⟩
  | .hbm, ⟨62, _⟩ => ⟨S16384x4096, .f32⟩
  | .hbm, ⟨63, _⟩ => ⟨S1x4096, .f32⟩
  | .hbm, ⟨64, _⟩ => ⟨S16384x4096, .f32⟩
  | .hbm, ⟨65, _⟩ => ⟨S16384x4096, .f32⟩
  | .hbm, ⟨66, _⟩ => ⟨S16384x4096, .bf16⟩
  | _, _ => ⟨S8x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_0 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_1 : Ref sig .tc := ⟨.hbm, 37, rfl⟩
abbrev main_v21 : Ref sig .tc := ⟨.hbm, 38, rfl⟩
abbrev main_v22 : Ref sig .tc := ⟨.hbm, 39, rfl⟩
abbrev main_cst_2 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_3 : Ref sig .tc := ⟨.hbm, 46, rfl⟩
abbrev main_v28 : Ref sig .tc := ⟨.hbm, 47, rfl⟩
abbrev main_v29 : Ref sig .tc := ⟨.hbm, 48, rfl⟩
abbrev main_cst_4 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_5 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩

abbrev nD : Nat := 1
abbrev τ : Topo := Topo.v7x

variable {F : FTy → Type} [FloatOps F]
-- ==== Outproj.lean ====
abbrev S16384x4096 : Shape := ⟨2, ![16384, 4096]⟩
abbrev S2x8192x4096 : Shape := ⟨3, ![2, 8192, 4096]⟩
abbrev S2x4096 : Shape := ⟨2, ![2, 4096]⟩
abbrev S2x1x4096 : Shape := ⟨3, ![2, 1, 4096]⟩
abbrev S1024x512 : Shape := ⟨2, ![1024, 512]⟩
abbrev S1024x1024 : Shape := ⟨2, ![1024, 1024]⟩
abbrev S1x1024x4096 : Shape := ⟨3, ![1, 1024, 4096]⟩
abbrev S1x1x4096 : Shape := ⟨3, ![1, 1, 4096]⟩
abbrev S128x4096 : Shape := ⟨2, ![128, 4096]⟩
abbrev S1024x4096 : Shape := ⟨2, ![1024, 4096]⟩
abbrev S64x512 : Shape := ⟨2, ![64, 512]⟩
abbrev S1x4096 : Shape := ⟨2, ![1, 4096]⟩
abbrev S16x4096 : Shape := ⟨2, ![16, 4096]⟩
abbrev S16 : Shape := ⟨1, ![16]⟩
abbrev S16x1 : Shape := ⟨2, ![16, 1]⟩

abbrev nBuf : Space → Nat
  | .hbm => 11
  | .vmem => 15
  | .smem => 0
  | _ => 0

abbrev bufTy : (tb : Table) → Fin (tcTables nBuf tb) → BufTy
  | .hbm, ⟨0, _⟩ => ⟨S16384x4096, .f32⟩
  | .hbm, ⟨1, _⟩ => ⟨S16384x4096, .bf16⟩
  | .hbm, ⟨2, _⟩ => ⟨S16384x4096, .bf16⟩
  | .hbm, ⟨3, _⟩ => ⟨S2x8192x4096, .f32⟩
  | .hbm, ⟨4, _⟩ => ⟨S2x4096, .f32⟩
  | .hbm, ⟨5, _⟩ => ⟨S2x4096, .f32⟩
  | .hbm, ⟨6, _⟩ => ⟨S2x8192x4096, .bf16⟩
  | .hbm, ⟨7, _⟩ => ⟨S2x1x4096, .f32⟩
  | .hbm, ⟨8, _⟩ => ⟨S2x1x4096, .f32⟩
  | .hbm, ⟨9, _⟩ => ⟨S16384x4096, .f32⟩
  | .hbm, ⟨10, _⟩ => ⟨S16384x4096, .bf16⟩
  | .local _ .vmem, ⟨0, _⟩ => ⟨S1024x512, .f32⟩
  | .local _ .vmem, ⟨1, _⟩ => ⟨S1024x512, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1x1024x4096, .bf16⟩
  | .local _ .vmem, ⟨7, _⟩ => ⟨S1x1024x4096, .bf16⟩
  | .local _ .vmem, ⟨8, _⟩ => ⟨S1x1x4096, .f32⟩
  | .local _ .vmem, ⟨9, _⟩ => ⟨S1x1x4096, .f32⟩
  | .local _ .vmem, ⟨10, _⟩ => ⟨S128x4096, .f32⟩
  | .local _ .vmem, ⟨11, _⟩ => ⟨S128x4096, .f32⟩
  | .local _ .vmem, ⟨12, _⟩ => ⟨S128x4096, .bf16⟩
  | .local _ .vmem, ⟨13, _⟩ => ⟨S128x4096, .bf16⟩
  | .local _ .vmem, ⟨14, _⟩ => ⟨S1024x4096, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![16, 16], ![false, false]⟩

def k0_cond3 (i : grid0.Coords) : BitVec 1 :=
  let arg1 : BitVec 32 := BitVec.ofNat 32 (i 1).val
  let c0_i32_2 : BitVec 32 := 0#32
  let v6 : BitVec 1 := Scalar.cmpi .eq arg1 c0_i32_2
  let v7 : BitVec 32 := Scalar.extui v6
  let c0_i32_3 : BitVec 32 := 0#32
  let v8 : BitVec 1 := Scalar.cmpi .ne v7 c0_i32_3
  v8

@[reducible] def k0_t1_loop : Scf.Loop 32 :=
  let c0_i32_13 : BitVec 32 := 0#32
  let c16_i32 : BitVec 32 := 16#32
  let v33 : BitVec 32 := Scalar.addi c0_i32_13 c16_i32
  let c1_i32_14 : BitVec 32 := 1#32
  ⟨c0_i32_13, v33, c1_i32_14⟩
def k0_mult1 (k0_t1 : Fin k0_t1_loop.trips) : BitVec 32 :=
  let c0_i32_13 : BitVec 32 := 0#32
  let c1_i32_14 : BitVec 32 := 1#32
  let arg11 : BitVec 32 := Scf.iv c0_i32_13 c1_i32_14 k0_t1
  let c64_i32 : BitVec 32 := 64#32
  let v34 : BitVec 32 := Scalar.muli arg11 c64_i32
  v34
def k0_off1 (k0_t1 : Fin k0_t1_loop.trips) : Fin 2 → Nat :=
  let c0_i32_13 : BitVec 32 := 0#32
  let c1_i32_14 : BitVec 32 := 1#32
  let arg11 : BitVec 32 := Scf.iv c0_i32_13 c1_i32_14 k0_t1
  let c64_i32 : BitVec 32 := 64#32
  let v34 : BitVec 32 := Scalar.muli arg11 c64_i32
  let v35 : BitVec 32 := v34
  let v36 : Index := Scalar.indexCast v35
  let c0 : Index := 0#32
  ![v36.toNat, 0]
def k0_off2 (k0_t1 : Fin k0_t1_loop.trips) : Fin 2 → Nat :=
  let c0_i32_13 : BitVec 32 := 0#32
  let c1_i32_14 : BitVec 32 := 1#32
  let arg11 : BitVec 32 := Scf.iv c0_i32_13 c1_i32_14 k0_t1
  let c64_i32 : BitVec 32 := 64#32
  let v34 : BitVec 32 := Scalar.muli arg11 c64_i32
  let v35 : BitVec 32 := v34
  let v38 : Index := Scalar.indexCast v35
  let c0_16 : Index := 0#32
  ![v38.toNat, 0]
def k0_cond4 (i : grid0.Coords) : BitVec 1 :=
  let arg1 : BitVec 32 := BitVec.ofNat 32 (i 1).val
  let c1_i32 : BitVec 32 := 1#32
  let v9 : BitVec 1 := Scalar.cmpi .eq arg1 c1_i32
  let v10 : BitVec 32 := Scalar.extui v9
  let c0_i32_4 : BitVec 32 := 0#32
  let v11 : BitVec 1 := Scalar.cmpi .ne v10 c0_i32_4
  v11

@[reducible] def k0_t2_loop : Scf.Loop 32 :=
  let c0_i32_13 : BitVec 32 := 0#32
  let c16_i32 : BitVec 32 := 16#32
  let v33 : BitVec 32 := Scalar.addi c0_i32_13 c16_i32
  let c1_i32_14 : BitVec 32 := 1#32
  ⟨c0_i32_13, v33, c1_i32_14⟩
def k0_mult2 (k0_t2 : Fin k0_t2_loop.trips) : BitVec 32 :=
  let c0_i32_13 : BitVec 32 := 0#32
  let c1_i32_14 : BitVec 32 := 1#32
  let arg11 : BitVec 32 := Scf.iv c0_i32_13 c1_i32_14 k0_t2
  let c64_i32 : BitVec 32 := 64#32
  let v34 : BitVec 32 := Scalar.muli arg11 c64_i32
  v34
def k0_off3 (k0_t2 : Fin k0_t2_loop.trips) : Fin 2 → Nat :=
  let c0_i32_13 : BitVec 32 := 0#32
  let c1_i32_14 : BitVec 32 := 1#32
  let arg11 : BitVec 32 := Scf.iv c0_i32_13 c1_i32_14 k0_t2
  let c64_i32 : BitVec 32 := 64#32
  let v34 : BitVec 32 := Scalar.muli arg11 c64_i32
  let v35 : BitVec 32 := v34
  let v36 : Index := Scalar.indexCast v35
  let c512 : Index := 512#32
  ![v36.toNat, 512]
def k0_off4 (k0_t2 : Fin k0_t2_loop.trips) : Fin 2 → Nat :=
  let c0_i32_13 : BitVec 32 := 0#32
  let c1_i32_14 : BitVec 32 := 1#32
  let arg11 : BitVec 32 := Scf.iv c0_i32_13 c1_i32_14 k0_t2
  let c64_i32 : BitVec 32 := 64#32
  let v34 : BitVec 32 := Scalar.muli arg11 c64_i32
  let v35 : BitVec 32 := v34
  let v38 : Index := Scalar.indexCast v35
  let c0 : Index := 0#32
  ![v38.toNat, 0]
def k0_cond5 (i : grid0.Coords) : BitVec 1 :=
  let arg1 : BitVec 32 := BitVec.ofNat 32 (i 1).val
  let c2_i32 : BitVec 32 := 2#32
  let v12 : BitVec 1 := Scalar.cmpi .eq arg1 c2_i32
  let v13 : BitVec 32 := Scalar.extui v12
  let c0_i32_5 : BitVec 32 := 0#32
  let v14 : BitVec 1 := Scalar.cmpi .ne v13 c0_i32_5
  v14

@[reducible] def k0_t3_loop : Scf.Loop 32 :=
  let c0_i32_13 : BitVec 32 := 0#32
  let c16_i32 : BitVec 32 := 16#32
  let v33 : BitVec 32 := Scalar.addi c0_i32_13 c16_i32
  let c1_i32_14 : BitVec 32 := 1#32
  ⟨c0_i32_13, v33, c1_i32_14⟩
def k0_mult3 (k0_t3 : Fin k0_t3_loop.trips) : BitVec 32 :=
  let c0_i32_13 : BitVec 32 := 0#32
  let c1_i32_14 : BitVec 32 := 1#32
  let arg11 : BitVec 32 := Scf.iv c0_i32_13 c1_i32_14 k0_t3
  let c64_i32 : BitVec 32 := 64#32
  let v34 : BitVec 32 := Scalar.muli arg11 c64_i32
  v34
def k0_off5 (k0_t3 : Fin k0_t3_loop.trips) : Fin 2 → Nat :=
  let c0_i32_13 : BitVec 32 := 0#32
  let c1_i32_14 : BitVec 32 := 1#32
  let arg11 : BitVec 32 := Scf.iv c0_i32_13 c1_i32_14 k0_t3
  let c64_i32 : BitVec 32 := 64#32
  let v34 : BitVec 32 := Scalar.muli arg11 c64_i32
  let v35 : BitVec 32 := v34
  let v36 : Index := Scalar.indexCast v35
  let c1024 : Index := 1024#32
  ![v36.toNat, 1024]
def k0_off6 (k0_t3 : Fin k0_t3_loop.trips) : Fin 2 → Nat :=
  let c0_i32_13 : BitVec 32 := 0#32
  let c1_i32_14 : BitVec 32 := 1#32
  let arg11 : BitVec 32 := Scf.iv c0_i32_13 c1_i32_14 k0_t3
  let c64_i32 : BitVec 32 := 64#32
  let v34 : BitVec 32 := Scalar.muli arg11 c64_i32
  let v35 : BitVec 32 := v34
  let v38 : Index := Scalar.indexCast v35
  let c0 : Index := 0#32
  ![v38.toNat, 0]
def k0_cond6 (i : grid0.Coords) : BitVec 1 :=
  let arg1 : BitVec 32 := BitVec.ofNat 32 (i 1).val
  let c3_i32 : BitVec 32 := 3#32
  let v15 : BitVec 1 := Scalar.cmpi .eq arg1 c3_i32
  let v16 : BitVec 32 := Scalar.extui v15
  let c0_i32_6 : BitVec 32 := 0#32
  let v17 : BitVec 1 := Scalar.cmpi .ne v16 c0_i32_6
  v17

@[reducible] def k0_t4_loop : Scf.Loop 32 :=
  let c0_i32_13 : BitVec 32 := 0#32
  let c16_i32 : BitVec 32 := 16#32
  let v33 : BitVec 32 := Scalar.addi c0_i32_13 c16_i32
  let c1_i32_14 : BitVec 32 := 1#32
  ⟨c0_i32_13, v33, c1_i32_14⟩
def k0_mult4 (k0_t4 : Fin k0_t4_loop.trips) : BitVec 32 :=
  let c0_i32_13 : BitVec 32 := 0#32
  let c1_i32_14 : BitVec 32 := 1#32
  let arg11 : BitVec 32 := Scf.iv c0_i32_13 c1_i32_14 k0_t4
  let c64_i32 : BitVec 32 := 64#32
  let v34 : BitVec 32 := Scalar.muli arg11 c64_i32
  v34
def k0_off7 (k0_t4 : Fin k0_t4_loop.trips) : Fin 2 → Nat :=
  let c0_i32_13 : BitVec 32 := 0#32
  let c1_i32_14 : BitVec 32 := 1#32
  let arg11 : BitVec 32 := Scf.iv c0_i32_13 c1_i32_14 k0_t4
  let c64_i32 : BitVec 32 := 64#32
  let v34 : BitVec 32 := Scalar.muli arg11 c64_i32
  let v35 : BitVec 32 := v34
  let v36 : Index := Scalar.indexCast v35
  let c1536 : Index := 1536#32
  ![v36.toNat, 1536]
def k0_off8 (k0_t4 : Fin k0_t4_loop.trips) : Fin 2 → Nat :=
  let c0_i32_13 : BitVec 32 := 0#32
  let c1_i32_14 : BitVec 32 := 1#32
  let arg11 : BitVec 32 := Scf.iv c0_i32_13 c1_i32_14 k0_t4
  let c64_i32 : BitVec 32 := 64#32
  let v34 : BitVec 32 := Scalar.muli arg11 c64_i32
  let v35 : BitVec 32 := v34
  let v38 : Index := Scalar.indexCast v35
  let c0 : Index := 0#32
  ![v38.toNat, 0]
def k0_cond7 (i : grid0.Coords) : BitVec 1 :=
  let arg1 : BitVec 32 := BitVec.ofNat 32 (i 1).val
  let c4_i32 : BitVec 32 := 4#32
  let v18 : BitVec 1 := Scalar.cmpi .eq arg1 c4_i32
  let v19 : BitVec 32 := Scalar.extui v18
  let c0_i32_7 : BitVec 32 := 0#32
  let v20 : BitVec 1 := Scalar.cmpi .ne v19 c0_i32_7
  v20

@[reducible] def k0_t5_loop : Scf.Loop 32 :=
  let c0_i32_13 : BitVec 32 := 0#32
  let c16_i32 : BitVec 32 := 16#32
  let v33 : BitVec 32 := Scalar.addi c0_i32_13 c16_i32
  let c1_i32_14 : BitVec 32 := 1#32
  ⟨c0_i32_13, v33, c1_i32_14⟩
def k0_mult5 (k0_t5 : Fin k0_t5_loop.trips) : BitVec 32 :=
  let c0_i32_13 : BitVec 32 := 0#32
  let c1_i32_14 : BitVec 32 := 1#32
  let arg11 : BitVec 32 := Scf.iv c0_i32_13 c1_i32_14 k0_t5
  let c64_i32 : BitVec 32 := 64#32
  let v34 : BitVec 32 := Scalar.muli arg11 c64_i32
  v34
def k0_off9 (k0_t5 : Fin k0_t5_loop.trips) : Fin 2 → Nat :=
  let c0_i32_13 : BitVec 32 := 0#32
  let c1_i32_14 : BitVec 32 := 1#32
  let arg11 : BitVec 32 := Scf.iv c0_i32_13 c1_i32_14 k0_t5
  let c64_i32 : BitVec 32 := 64#32
  let v34 : BitVec 32 := Scalar.muli arg11 c64_i32
  let v35 : BitVec 32 := v34
  let v36 : Index := Scalar.indexCast v35
  let c2048 : Index := 2048#32
  ![v36.toNat, 2048]
def k0_off10 (k0_t5 : Fin k0_t5_loop.trips) : Fin 2 → Nat :=
  let c0_i32_13 : BitVec 32 := 0#32
  let c1_i32_14 : BitVec 32 := 1#32
  let arg11 : BitVec 32 := Scf.iv c0_i32_13 c1_i32_14 k0_t5
  let c64_i32 : BitVec 32 := 64#32
  let v34 : BitVec 32 := Scalar.muli arg11 c64_i32
  let v35 : BitVec 32 := v34
  let v38 : Index := Scalar.indexCast v35
  let c0 : Index := 0#32
  ![v38.toNat, 0]
def k0_cond8 (i : grid0.Coords) : BitVec 1 :=
  let arg1 : BitVec 32 := BitVec.ofNat 32 (i 1).val
  let c5_i32 : BitVec 32 := 5#32
  let v21 : BitVec 1 := Scalar.cmpi .eq arg1 c5_i32
  let v22 : BitVec 32 := Scalar.extui v21
  let c0_i32_8 : BitVec 32 := 0#32
  let v23 : BitVec 1 := Scalar.cmpi .ne v22 c0_i32_8
  v23

@[reducible] def k0_t6_loop : Scf.Loop 32 :=
  let c0_i32_13 : BitVec 32 := 0#32
  let c16_i32 : BitVec 32 := 16#32
  let v33 : BitVec 32 := Scalar.addi c0_i32_13 c16_i32
  let c1_i32_14 : BitVec 32 := 1#32
  ⟨c0_i32_13, v33, c1_i32_14⟩
def k0_mult6 (k0_t6 : Fin k0_t6_loop.trips) : BitVec 32 :=
  let c0_i32_13 : BitVec 32 := 0#32
  let c1_i32_14 : BitVec 32 := 1#32
  let arg11 : BitVec 32 := Scf.iv c0_i32_13 c1_i32_14 k0_t6
  let c64_i32 : BitVec 32 := 64#32
  let v34 : BitVec 32 := Scalar.muli arg11 c64_i32
  v34
def k0_off11 (k0_t6 : Fin k0_t6_loop.trips) : Fin 2 → Nat :=
  let c0_i32_13 : BitVec 32 := 0#32
  let c1_i32_14 : BitVec 32 := 1#32
  let arg11 : BitVec 32 := Scf.iv c0_i32_13 c1_i32_14 k0_t6
  let c64_i32 : BitVec 32 := 64#32
  let v34 : BitVec 32 := Scalar.muli arg11 c64_i32
  let v35 : BitVec 32 := v34
  let v36 : Index := Scalar.indexCast v35
  let c2560 : Index := 2560#32
  ![v36.toNat, 2560]
def k0_off12 (k0_t6 : Fin k0_t6_loop.trips) : Fin 2 → Nat :=
  let c0_i32_13 : BitVec 32 := 0#32
  let c1_i32_14 : BitVec 32 := 1#32
  let arg11 : BitVec 32 := Scf.iv c0_i32_13 c1_i32_14 k0_t6
  let c64_i32 : BitVec 32 := 64#32
  let v34 : BitVec 32 := Scalar.muli arg11 c64_i32
  let v35 : BitVec 32 := v34
  let v38 : Index := Scalar.indexCast v35
  let c0 : Index := 0#32
  ![v38.toNat, 0]
def k0_cond9 (i : grid0.Coords) : BitVec 1 :=
  let arg1 : BitVec 32 := BitVec.ofNat 32 (i 1).val
  let c6_i32 : BitVec 32 := 6#32
  let v24 : BitVec 1 := Scalar.cmpi .eq arg1 c6_i32
  let v25 : BitVec 32 := Scalar.extui v24
  let c0_i32_9 : BitVec 32 := 0#32
  let v26 : BitVec 1 := Scalar.cmpi .ne v25 c0_i32_9
  v26

@[reducible] def k0_t7_loop : Scf.Loop 32 :=
  let c0_i32_13 : BitVec 32 := 0#32
  let c16_i32 : BitVec 32 := 16#32
  let v33 : BitVec 32 := Scalar.addi c0_i32_13 c16_i32
  let c1_i32_14 : BitVec 32 := 1#32
  ⟨c0_i32_13, v33, c1_i32_14⟩
def k0_mult7 (k0_t7 : Fin k0_t7_loop.trips) : BitVec 32 :=
  let c0_i32_13 : BitVec 32 := 0#32
  let c1_i32_14 : BitVec 32 := 1#32
  let arg11 : BitVec 32 := Scf.iv c0_i32_13 c1_i32_14 k0_t7
  let c64_i32 : BitVec 32 := 64#32
  let v34 : BitVec 32 := Scalar.muli arg11 c64_i32
  v34
def k0_off13 (k0_t7 : Fin k0_t7_loop.trips) : Fin 2 → Nat :=
  let c0_i32_13 : BitVec 32 := 0#32
  let c1_i32_14 : BitVec 32 := 1#32
  let arg11 : BitVec 32 := Scf.iv c0_i32_13 c1_i32_14 k0_t7
  let c64_i32 : BitVec 32 := 64#32
  let v34 : BitVec 32 := Scalar.muli arg11 c64_i32
  let v35 : BitVec 32 := v34
  let v36 : Index := Scalar.indexCast v35
  let c3072 : Index := 3072#32
  ![v36.toNat, 3072]
def k0_off14 (k0_t7 : Fin k0_t7_loop.trips) : Fin 2 → Nat :=
  let c0_i32_13 : BitVec 32 := 0#32
  let c1_i32_14 : BitVec 32 := 1#32
  let arg11 : BitVec 32 := Scf.iv c0_i32_13 c1_i32_14 k0_t7
  let c64_i32 : BitVec 32 := 64#32
  let v34 : BitVec 32 := Scalar.muli arg11 c64_i32
  let v35 : BitVec 32 := v34
  let v38 : Index := Scalar.indexCast v35
  let c0 : Index := 0#32
  ![v38.toNat, 0]
def k0_cond10 (i : grid0.Coords) : BitVec 1 :=
  let arg1 : BitVec 32 := BitVec.ofNat 32 (i 1).val
  let c7_i32 : BitVec 32 := 7#32
  let v27 : BitVec 1 := Scalar.cmpi .eq arg1 c7_i32
  let v28 : BitVec 32 := Scalar.extui v27
  let c0_i32_10 : BitVec 32 := 0#32
  let v29 : BitVec 1 := Scalar.cmpi .ne v28 c0_i32_10
  v29

@[reducible] def k0_t8_loop : Scf.Loop 32 :=
  let c0_i32_13 : BitVec 32 := 0#32
  let c16_i32 : BitVec 32 := 16#32
  let v33 : BitVec 32 := Scalar.addi c0_i32_13 c16_i32
  let c1_i32_14 : BitVec 32 := 1#32
  ⟨c0_i32_13, v33, c1_i32_14⟩
def k0_mult8 (k0_t8 : Fin k0_t8_loop.trips) : BitVec 32 :=
  let c0_i32_13 : BitVec 32 := 0#32
  let c1_i32_14 : BitVec 32 := 1#32
  let arg11 : BitVec 32 := Scf.iv c0_i32_13 c1_i32_14 k0_t8
  let c64_i32 : BitVec 32 := 64#32
  let v34 : BitVec 32 := Scalar.muli arg11 c64_i32
  v34
def k0_off15 (k0_t8 : Fin k0_t8_loop.trips) : Fin 2 → Nat :=
  let c0_i32_13 : BitVec 32 := 0#32
  let c1_i32_14 : BitVec 32 := 1#32
  let arg11 : BitVec 32 := Scf.iv c0_i32_13 c1_i32_14 k0_t8
  let c64_i32 : BitVec 32 := 64#32
  let v34 : BitVec 32 := Scalar.muli arg11 c64_i32
  let v35 : BitVec 32 := v34
  let v36 : Index := Scalar.indexCast v35
  let c3584 : Index := 3584#32
  ![v36.toNat, 3584]
def k0_off16 (k0_t8 : Fin k0_t8_loop.trips) : Fin 2 → Nat :=
  let c0_i32_13 : BitVec 32 := 0#32
  let c1_i32_14 : BitVec 32 := 1#32
  let arg11 : BitVec 32 := Scf.iv c0_i32_13 c1_i32_14 k0_t8
  let c64_i32 : BitVec 32 := 64#32
  let v34 : BitVec 32 := Scalar.muli arg11 c64_i32
  let v35 : BitVec 32 := v34
  let v38 : Index := Scalar.indexCast v35
  let c0 : Index := 0#32
  ![v38.toNat, 0]
def k0_cond11 (i : grid0.Coords) : BitVec 1 :=
  let arg1 : BitVec 32 := BitVec.ofNat 32 (i 1).val
  let c8_i32_11 : BitVec 32 := 8#32
  let v30 : BitVec 1 := Scalar.cmpi .sge arg1 c8_i32_11
  let v31 : BitVec 32 := Scalar.extui v30
  let c0_i32_12 : BitVec 32 := 0#32
  let v32 : BitVec 1 := Scalar.cmpi .ne v31 c0_i32_12
  v32

def k0_mult9 : BitVec 32 :=
  let c0_i32_19 : BitVec 32 := 0#32
  let c16_i32 : BitVec 32 := 16#32
  let v39 : BitVec 32 := Scalar.muli c0_i32_19 c16_i32
  v39
def k0_mult10 (i : grid0.Coords) : BitVec 32 :=
  let arg1 : BitVec 32 := BitVec.ofNat 32 (i 1).val
  let c8_i32_13 : BitVec 32 := 8#32
  let v33 : BitVec 32 := Scalar.subi arg1 c8_i32_13
  let c128_i32 : BitVec 32 := 128#32
  let v38 : BitVec 32 := Scalar.muli v33 c128_i32
  let c0_i32_19 : BitVec 32 := 0#32
  let c16_i32 : BitVec 32 := 16#32
  let v39 : BitVec 32 := Scalar.muli c0_i32_19 c16_i32
  let v40 : BitVec 32 := v39
  let v41 : BitVec 32 := Scalar.addi v38 v40
  v41
def k0_off17 (i : grid0.Coords) (c0_i32_19 : BitVec 32) : Fin 2 → Nat :=
  let arg1 : BitVec 32 := BitVec.ofNat 32 (i 1).val
  let c8_i32_13 : BitVec 32 := 8#32
  let v33 : BitVec 32 := Scalar.subi arg1 c8_i32_13
  let c128_i32 : BitVec 32 := 128#32
  let v38 : BitVec 32 := Scalar.muli v33 c128_i32
  let c16_i32 : BitVec 32 := 16#32
  let v39 : BitVec 32 := Scalar.muli c0_i32_19 c16_i32
  let v40 : BitVec 32 := v39
  let v41 : BitVec 32 := Scalar.addi v38 v40
  let v42 : BitVec 32 := v41
  let v43 : Index := Scalar.indexCast v42
  let c0_20 : Index := 0#32
  ![v43.toNat, 0]
def k0_off18 (c0_i32_19 : BitVec 32) : Fin 2 → Nat :=
  let c16_i32 : BitVec 32 := 16#32
  let v39 : BitVec 32 := Scalar.muli c0_i32_19 c16_i32
  let v40 : BitVec 32 := v39
  let v65 : Index := Scalar.indexCast v40
  let c0_25 : Index := 0#32
  ![v65.toNat, 0]
def k0_mult11 : BitVec 32 :=
  let c1_i32_27 : BitVec 32 := 1#32
  let c16_i32_28 : BitVec 32 := 16#32
  let v70 : BitVec 32 := Scalar.muli c1_i32_27 c16_i32_28
  v70
def k0_mult12 (i : grid0.Coords) : BitVec 32 :=
  let arg1 : BitVec 32 := BitVec.ofNat 32 (i 1).val
  let c8_i32_13 : BitVec 32 := 8#32
  let v33 : BitVec 32 := Scalar.subi arg1 c8_i32_13
  let c128_i32 : BitVec 32 := 128#32
  let v38 : BitVec 32 := Scalar.muli v33 c128_i32
  let c1_i32_27 : BitVec 32 := 1#32
  let c16_i32_28 : BitVec 32 := 16#32
  let v70 : BitVec 32 := Scalar.muli c1_i32_27 c16_i32_28
  let v71 : BitVec 32 := v70
  let v72 : BitVec 32 := Scalar.addi v38 v71
  v72
def k0_mult13 : BitVec 32 :=
  let c2_i32_37 : BitVec 32 := 2#32
  let c16_i32_38 : BitVec 32 := 16#32
  let v101 : BitVec 32 := Scalar.muli c2_i32_37 c16_i32_38
  v101
def k0_mult14 (i : grid0.Coords) : BitVec 32 :=
  let arg1 : BitVec 32 := BitVec.ofNat 32 (i 1).val
  let c8_i32_13 : BitVec 32 := 8#32
  let v33 : BitVec 32 := Scalar.subi arg1 c8_i32_13
  let c128_i32 : BitVec 32 := 128#32
  let v38 : BitVec 32 := Scalar.muli v33 c128_i32
  let c2_i32_37 : BitVec 32 := 2#32
  let c16_i32_38 : BitVec 32 := 16#32
  let v101 : BitVec 32 := Scalar.muli c2_i32_37 c16_i32_38
  let v102 : BitVec 32 := v101
  let v103 : BitVec 32 := Scalar.addi v38 v102
  v103
def k0_mult15 : BitVec 32 :=
  let c3_i32_47 : BitVec 32 := 3#32
  let c16_i32_48 : BitVec 32 := 16#32
  let v132 : BitVec 32 := Scalar.muli c3_i32_47 c16_i32_48
  v132
def k0_mult16 (i : grid0.Coords) : BitVec 32 :=
  let arg1 : BitVec 32 := BitVec.ofNat 32 (i 1).val
  let c8_i32_13 : BitVec 32 := 8#32
  let v33 : BitVec 32 := Scalar.subi arg1 c8_i32_13
  let c128_i32 : BitVec 32 := 128#32
  let v38 : BitVec 32 := Scalar.muli v33 c128_i32
  let c3_i32_47 : BitVec 32 := 3#32
  let c16_i32_48 : BitVec 32 := 16#32
  let v132 : BitVec 32 := Scalar.muli c3_i32_47 c16_i32_48
  let v133 : BitVec 32 := v132
  let v134 : BitVec 32 := Scalar.addi v38 v133
  v134
def k0_mult17 : BitVec 32 :=
  let c4_i32_57 : BitVec 32 := 4#32
  let c16_i32_58 : BitVec 32 := 16#32
  let v163 : BitVec 32 := Scalar.muli c4_i32_57 c16_i32_58
  v163
def k0_mult18 (i : grid0.Coords) : BitVec 32 :=
  let arg1 : BitVec 32 := BitVec.ofNat 32 (i 1).val
  let c8_i32_13 : BitVec 32 := 8#32
  let v33 : BitVec 32 := Scalar.subi arg1 c8_i32_13
  let c128_i32 : BitVec 32 := 128#32
  let v38 : BitVec 32 := Scalar.muli v33 c128_i32
  let c4_i32_57 : BitVec 32 := 4#32
  let c16_i32_58 : BitVec 32 := 16#32
  let v163 : BitVec 32 := Scalar.muli c4_i32_57 c16_i32_58
  let v164 : BitVec 32 := v163
  let v165 : BitVec 32 := Scalar.addi v38 v164
  v165
def k0_mult19 : BitVec 32 :=
  let c5_i32_67 : BitVec 32 := 5#32
  let c16_i32_68 : BitVec 32 := 16#32
  let v194 : BitVec 32 := Scalar.muli c5_i32_67 c16_i32_68
  v194
def k0_mult20 (i : grid0.Coords) : BitVec 32 :=
  let arg1 : BitVec 32 := BitVec.ofNat 32 (i 1).val
  let c8_i32_13 : BitVec 32 := 8#32
  let v33 : BitVec 32 := Scalar.subi arg1 c8_i32_13
  let c128_i32 : BitVec 32 := 128#32
  let v38 : BitVec 32 := Scalar.muli v33 c128_i32
  let c5_i32_67 : BitVec 32 := 5#32
  let c16_i32_68 : BitVec 32 := 16#32
  let v194 : BitVec 32 := Scalar.muli c5_i32_67 c16_i32_68
  let v195 : BitVec 32 := v194
  let v196 : BitVec 32 := Scalar.addi v38 v195
  v196
def k0_mult21 : BitVec 32 :=
  let c6_i32_77 : BitVec 32 := 6#32
  let c16_i32_78 : BitVec 32 := 16#32
  let v225 : BitVec 32 := Scalar.muli c6_i32_77 c16_i32_78
  v225
def k0_mult22 (i : grid0.Coords) : BitVec 32 :=
  let arg1 : BitVec 32 := BitVec.ofNat 32 (i 1).val
  let c8_i32_13 : BitVec 32 := 8#32
  let v33 : BitVec 32 := Scalar.subi arg1 c8_i32_13
  let c128_i32 : BitVec 32 := 128#32
  let v38 : BitVec 32 := Scalar.muli v33 c128_i32
  let c6_i32_77 : BitVec 32 := 6#32
  let c16_i32_78 : BitVec 32 := 16#32
  let v225 : BitVec 32 := Scalar.muli c6_i32_77 c16_i32_78
  let v226 : BitVec 32 := v225
  let v227 : BitVec 32 := Scalar.addi v38 v226
  v227
def k0_mult23 : BitVec 32 :=
  let c7_i32_87 : BitVec 32 := 7#32
  let c16_i32_88 : BitVec 32 := 16#32
  let v256 : BitVec 32 := Scalar.muli c7_i32_87 c16_i32_88
  v256
def k0_mult24 (i : grid0.Coords) : BitVec 32 :=
  let arg1 : BitVec 32 := BitVec.ofNat 32 (i 1).val
  let c8_i32_13 : BitVec 32 := 8#32
  let v33 : BitVec 32 := Scalar.subi arg1 c8_i32_13
  let c128_i32 : BitVec 32 := 128#32
  let v38 : BitVec 32 := Scalar.muli v33 c128_i32
  let c7_i32_87 : BitVec 32 := 7#32
  let c16_i32_88 : BitVec 32 := 16#32
  let v256 : BitVec 32 := Scalar.muli c7_i32_87 c16_i32_88
  let v257 : BitVec 32 := v256
  let v258 : BitVec 32 := Scalar.addi v38 v257
  v258
def cc0_transform_0 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.subi arg1 c4_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  ![arg0.toNat, v2.toNat]

def cc0_transform_3 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c0_i32 : BitVec 32 := 0#32
  let c0_i32_0 : BitVec 32 := 0#32
  let c0_i32_1 : BitVec 32 := 0#32
  ![c0_i32.toNat, v0.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c8_i32_0 : BitVec 32 := 8#32
  let v1 : BitVec 32 := Scalar.subi arg1 c8_i32_0
  let c0_i32 : BitVec 32 := 0#32
  let c7_i32 : BitVec 32 := 7#32
  let v2 : BitVec 32 := Scalar.maxsi c0_i32 v1
  let v3 : BitVec 32 := Scalar.minsi c7_i32 v2
  let v4 : BitVec 32 := Scalar.addi v0 v3
  let c0_i32_1 : BitVec 32 := 0#32
  let c0_i32_2 : BitVec 32 := 0#32
  ![v4.toNat, c0_i32_1.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c8_i32_0 : BitVec 32 := 8#32
  let v1 : BitVec 32 := Scalar.subi arg1 c8_i32_0
  let c0_i32 : BitVec 32 := 0#32
  let c7_i32 : BitVec 32 := 7#32
  let v2 : BitVec 32 := Scalar.maxsi c0_i32 v1
  let v3 : BitVec 32 := Scalar.minsi c7_i32 v2
  let v4 : BitVec 32 := Scalar.addi v0 v3
  let c0_i32_1 : BitVec 32 := 0#32
  let c0_i32_2 : BitVec 32 := 0#32
  ![v4.toNat, c0_i32_1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S128x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== OutprojIdeal.lean ====
abbrev S16384x4096 : Shape := ⟨2, ![16384, 4096]⟩
abbrev S2x8192x4096 : Shape := ⟨3, ![2, 8192, 4096]⟩
abbrev S2x4096 : Shape := ⟨2, ![2, 4096]⟩
abbrev S2x1x4096 : Shape := ⟨3, ![2, 1, 4096]⟩
abbrev S1024x512 : Shape := ⟨2, ![1024, 512]⟩
abbrev S1024x1024 : Shape := ⟨2, ![1024, 1024]⟩
abbrev S1x1024x4096 : Shape := ⟨3, ![1, 1024, 4096]⟩
abbrev S1x1x4096 : Shape := ⟨3, ![1, 1, 4096]⟩
abbrev S128x4096 : Shape := ⟨2, ![128, 4096]⟩
abbrev S1024x4096 : Shape := ⟨2, ![1024, 4096]⟩
abbrev S64x512 : Shape := ⟨2, ![64, 512]⟩
abbrev S1x4096 : Shape := ⟨2, ![1, 4096]⟩
abbrev S16x4096 : Shape := ⟨2, ![16, 4096]⟩
abbrev S16 : Shape := ⟨1, ![16]⟩
abbrev S16x1 : Shape := ⟨2, ![16, 1]⟩

abbrev nBuf : Space → Nat
  | .hbm => 11
  | .vmem => 15
  | .smem => 0
  | _ => 0

abbrev bufTy : (tb : Table) → Fin (tcTables nBuf tb) → BufTy
  | .hbm, ⟨0, _⟩ => ⟨S16384x4096, .f32⟩
  | .hbm, ⟨1, _⟩ => ⟨S16384x4096, .bf16⟩
  | .hbm, ⟨2, _⟩ => ⟨S16384x4096, .bf16⟩
  | .hbm, ⟨3, _⟩ => ⟨S2x8192x4096, .f32⟩
  | .hbm, ⟨4, _⟩ => ⟨S2x4096, .f32⟩
  | .hbm, ⟨5, _⟩ => ⟨S2x4096, .f32⟩
  | .hbm, ⟨6, _⟩ => ⟨S2x8192x4096, .bf16⟩
  | .hbm, ⟨7, _⟩ => ⟨S2x1x4096, .f32⟩
  | .hbm, ⟨8, _⟩ => ⟨S2x1x4096, .f32⟩
  | .hbm, ⟨9, _⟩ => ⟨S16384x4096, .f32⟩
  | .hbm, ⟨10, _⟩ => ⟨S16384x4096, .bf16⟩
  | .local _ .vmem, ⟨0, _⟩ => ⟨S1024x512, .f32⟩
  | .local _ .vmem, ⟨1, _⟩ => ⟨S1024x512, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1x1024x4096, .bf16⟩
  | .local _ .vmem, ⟨7, _⟩ => ⟨S1x1024x4096, .bf16⟩
  | .local _ .vmem, ⟨8, _⟩ => ⟨S1x1x4096, .f32⟩
  | .local _ .vmem, ⟨9, _⟩ => ⟨S1x1x4096, .f32⟩
  | .local _ .vmem, ⟨10, _⟩ => ⟨S128x4096, .f32⟩
  | .local _ .vmem, ⟨11, _⟩ => ⟨S128x4096, .f32⟩
  | .local _ .vmem, ⟨12, _⟩ => ⟨S128x4096, .bf16⟩
  | .local _ .vmem, ⟨13, _⟩ => ⟨S128x4096, .bf16⟩
  | .local _ .vmem, ⟨14, _⟩ => ⟨S1024x4096, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![16, 16], ![false, false]⟩

def k0_cond3 (i : grid0.Coords) : BitVec 1 :=
  let arg1 : BitVec 32 := BitVec.ofNat 32 (i 1).val
  let c0_i32_2 : BitVec 32 := 0#32
  let v6 : BitVec 1 := Scalar.cmpi .eq arg1 c0_i32_2
  let v7 : BitVec 32 := Scalar.extui v6
  let c0_i32_3 : BitVec 32 := 0#32
  let v8 : BitVec 1 := Scalar.cmpi .ne v7 c0_i32_3
  v8

@[reducible] def k0_t1_loop : Scf.Loop 32 :=
  let c0_i32_13 : BitVec 32 := 0#32
  let c16_i32 : BitVec 32 := 16#32
  let v33 : BitVec 32 := Scalar.addi c0_i32_13 c16_i32
  let c1_i32_14 : BitVec 32 := 1#32
  ⟨c0_i32_13, v33, c1_i32_14⟩
def k0_mult1 (k0_t1 : Fin k0_t1_loop.trips) : BitVec 32 :=
  let c0_i32_13 : BitVec 32 := 0#32
  let c1_i32_14 : BitVec 32 := 1#32
  let arg11 : BitVec 32 := Scf.iv c0_i32_13 c1_i32_14 k0_t1
  let c64_i32 : BitVec 32 := 64#32
  let v34 : BitVec 32 := Scalar.muli arg11 c64_i32
  v34
def k0_off1 (k0_t1 : Fin k0_t1_loop.trips) : Fin 2 → Nat :=
  let c0_i32_13 : BitVec 32 := 0#32
  let c1_i32_14 : BitVec 32 := 1#32
  let arg11 : BitVec 32 := Scf.iv c0_i32_13 c1_i32_14 k0_t1
  let c64_i32 : BitVec 32 := 64#32
  let v34 : BitVec 32 := Scalar.muli arg11 c64_i32
  let v35 : BitVec 32 := v34
  let v36 : Index := Scalar.indexCast v35
  let c0 : Index := 0#32
  ![v36.toNat, 0]
def k0_off2 (k0_t1 : Fin k0_t1_loop.trips) : Fin 2 → Nat :=
  let c0_i32_13 : BitVec 32 := 0#32
  let c1_i32_14 : BitVec 32 := 1#32
  let arg11 : BitVec 32 := Scf.iv c0_i32_13 c1_i32_14 k0_t1
  let c64_i32 : BitVec 32 := 64#32
  let v34 : BitVec 32 := Scalar.muli arg11 c64_i32
  let v35 : BitVec 32 := v34
  let v38 : Index := Scalar.indexCast v35
  let c0_16 : Index := 0#32
  ![v38.toNat, 0]
def k0_cond4 (i : grid0.Coords) : BitVec 1 :=
  let arg1 : BitVec 32 := BitVec.ofNat 32 (i 1).val
  let c1_i32 : BitVec 32 := 1#32
  let v9 : BitVec 1 := Scalar.cmpi .eq arg1 c1_i32
  let v10 : BitVec 32 := Scalar.extui v9
  let c0_i32_4 : BitVec 32 := 0#32
  let v11 : BitVec 1 := Scalar.cmpi .ne v10 c0_i32_4
  v11

@[reducible] def k0_t2_loop : Scf.Loop 32 :=
  let c0_i32_13 : BitVec 32 := 0#32
  let c16_i32 : BitVec 32 := 16#32
  let v33 : BitVec 32 := Scalar.addi c0_i32_13 c16_i32
  let c1_i32_14 : BitVec 32 := 1#32
  ⟨c0_i32_13, v33, c1_i32_14⟩
def k0_mult2 (k0_t2 : Fin k0_t2_loop.trips) : BitVec 32 :=
  let c0_i32_13 : BitVec 32 := 0#32
  let c1_i32_14 : BitVec 32 := 1#32
  let arg11 : BitVec 32 := Scf.iv c0_i32_13 c1_i32_14 k0_t2
  let c64_i32 : BitVec 32 := 64#32
  let v34 : BitVec 32 := Scalar.muli arg11 c64_i32
  v34
def k0_off3 (k0_t2 : Fin k0_t2_loop.trips) : Fin 2 → Nat :=
  let c0_i32_13 : BitVec 32 := 0#32
  let c1_i32_14 : BitVec 32 := 1#32
  let arg11 : BitVec 32 := Scf.iv c0_i32_13 c1_i32_14 k0_t2
  let c64_i32 : BitVec 32 := 64#32
  let v34 : BitVec 32 := Scalar.muli arg11 c64_i32
  let v35 : BitVec 32 := v34
  let v36 : Index := Scalar.indexCast v35
  let c512 : Index := 512#32
  ![v36.toNat, 512]
def k0_off4 (k0_t2 : Fin k0_t2_loop.trips) : Fin 2 → Nat :=
  let c0_i32_13 : BitVec 32 := 0#32
  let c1_i32_14 : BitVec 32 := 1#32
  let arg11 : BitVec 32 := Scf.iv c0_i32_13 c1_i32_14 k0_t2
  let c64_i32 : BitVec 32 := 64#32
  let v34 : BitVec 32 := Scalar.muli arg11 c64_i32
  let v35 : BitVec 32 := v34
  let v38 : Index := Scalar.indexCast v35
  let c0 : Index := 0#32
  ![v38.toNat, 0]
def k0_cond5 (i : grid0.Coords) : BitVec 1 :=
  let arg1 : BitVec 32 := BitVec.ofNat 32 (i 1).val
  let c2_i32 : BitVec 32 := 2#32
  let v12 : BitVec 1 := Scalar.cmpi .eq arg1 c2_i32
  let v13 : BitVec 32 := Scalar.extui v12
  let c0_i32_5 : BitVec 32 := 0#32
  let v14 : BitVec 1 := Scalar.cmpi .ne v13 c0_i32_5
  v14

@[reducible] def k0_t3_loop : Scf.Loop 32 :=
  let c0_i32_13 : BitVec 32 := 0#32
  let c16_i32 : BitVec 32 := 16#32
  let v33 : BitVec 32 := Scalar.addi c0_i32_13 c16_i32
  let c1_i32_14 : BitVec 32 := 1#32
  ⟨c0_i32_13, v33, c1_i32_14⟩
def k0_mult3 (k0_t3 : Fin k0_t3_loop.trips) : BitVec 32 :=
  let c0_i32_13 : BitVec 32 := 0#32
  let c1_i32_14 : BitVec 32 := 1#32
  let arg11 : BitVec 32 := Scf.iv c0_i32_13 c1_i32_14 k0_t3
  let c64_i32 : BitVec 32 := 64#32
  let v34 : BitVec 32 := Scalar.muli arg11 c64_i32
  v34
def k0_off5 (k0_t3 : Fin k0_t3_loop.trips) : Fin 2 → Nat :=
  let c0_i32_13 : BitVec 32 := 0#32
  let c1_i32_14 : BitVec 32 := 1#32
  let arg11 : BitVec 32 := Scf.iv c0_i32_13 c1_i32_14 k0_t3
  let c64_i32 : BitVec 32 := 64#32
  let v34 : BitVec 32 := Scalar.muli arg11 c64_i32
  let v35 : BitVec 32 := v34
  let v36 : Index := Scalar.indexCast v35
  let c1024 : Index := 1024#32
  ![v36.toNat, 1024]
def k0_off6 (k0_t3 : Fin k0_t3_loop.trips) : Fin 2 → Nat :=
  let c0_i32_13 : BitVec 32 := 0#32
  let c1_i32_14 : BitVec 32 := 1#32
  let arg11 : BitVec 32 := Scf.iv c0_i32_13 c1_i32_14 k0_t3
  let c64_i32 : BitVec 32 := 64#32
  let v34 : BitVec 32 := Scalar.muli arg11 c64_i32
  let v35 : BitVec 32 := v34
  let v38 : Index := Scalar.indexCast v35
  let c0 : Index := 0#32
  ![v38.toNat, 0]
def k0_cond6 (i : grid0.Coords) : BitVec 1 :=
  let arg1 : BitVec 32 := BitVec.ofNat 32 (i 1).val
  let c3_i32 : BitVec 32 := 3#32
  let v15 : BitVec 1 := Scalar.cmpi .eq arg1 c3_i32
  let v16 : BitVec 32 := Scalar.extui v15
  let c0_i32_6 : BitVec 32 := 0#32
  let v17 : BitVec 1 := Scalar.cmpi .ne v16 c0_i32_6
  v17

@[reducible] def k0_t4_loop : Scf.Loop 32 :=
  let c0_i32_13 : BitVec 32 := 0#32
  let c16_i32 : BitVec 32 := 16#32
  let v33 : BitVec 32 := Scalar.addi c0_i32_13 c16_i32
  let c1_i32_14 : BitVec 32 := 1#32
  ⟨c0_i32_13, v33, c1_i32_14⟩
def k0_mult4 (k0_t4 : Fin k0_t4_loop.trips) : BitVec 32 :=
  let c0_i32_13 : BitVec 32 := 0#32
  let c1_i32_14 : BitVec 32 := 1#32
  let arg11 : BitVec 32 := Scf.iv c0_i32_13 c1_i32_14 k0_t4
  let c64_i32 : BitVec 32 := 64#32
  let v34 : BitVec 32 := Scalar.muli arg11 c64_i32
  v34
def k0_off7 (k0_t4 : Fin k0_t4_loop.trips) : Fin 2 → Nat :=
  let c0_i32_13 : BitVec 32 := 0#32
  let c1_i32_14 : BitVec 32 := 1#32
  let arg11 : BitVec 32 := Scf.iv c0_i32_13 c1_i32_14 k0_t4
  let c64_i32 : BitVec 32 := 64#32
  let v34 : BitVec 32 := Scalar.muli arg11 c64_i32
  let v35 : BitVec 32 := v34
  let v36 : Index := Scalar.indexCast v35
  let c1536 : Index := 1536#32
  ![v36.toNat, 1536]
def k0_off8 (k0_t4 : Fin k0_t4_loop.trips) : Fin 2 → Nat :=
  let c0_i32_13 : BitVec 32 := 0#32
  let c1_i32_14 : BitVec 32 := 1#32
  let arg11 : BitVec 32 := Scf.iv c0_i32_13 c1_i32_14 k0_t4
  let c64_i32 : BitVec 32 := 64#32
  let v34 : BitVec 32 := Scalar.muli arg11 c64_i32
  let v35 : BitVec 32 := v34
  let v38 : Index := Scalar.indexCast v35
  let c0 : Index := 0#32
  ![v38.toNat, 0]
def k0_cond7 (i : grid0.Coords) : BitVec 1 :=
  let arg1 : BitVec 32 := BitVec.ofNat 32 (i 1).val
  let c4_i32 : BitVec 32 := 4#32
  let v18 : BitVec 1 := Scalar.cmpi .eq arg1 c4_i32
  let v19 : BitVec 32 := Scalar.extui v18
  let c0_i32_7 : BitVec 32 := 0#32
  let v20 : BitVec 1 := Scalar.cmpi .ne v19 c0_i32_7
  v20

@[reducible] def k0_t5_loop : Scf.Loop 32 :=
  let c0_i32_13 : BitVec 32 := 0#32
  let c16_i32 : BitVec 32 := 16#32
  let v33 : BitVec 32 := Scalar.addi c0_i32_13 c16_i32
  let c1_i32_14 : BitVec 32 := 1#32
  ⟨c0_i32_13, v33, c1_i32_14⟩
def k0_mult5 (k0_t5 : Fin k0_t5_loop.trips) : BitVec 32 :=
  let c0_i32_13 : BitVec 32 := 0#32
  let c1_i32_14 : BitVec 32 := 1#32
  let arg11 : BitVec 32 := Scf.iv c0_i32_13 c1_i32_14 k0_t5
  let c64_i32 : BitVec 32 := 64#32
  let v34 : BitVec 32 := Scalar.muli arg11 c64_i32
  v34
def k0_off9 (k0_t5 : Fin k0_t5_loop.trips) : Fin 2 → Nat :=
  let c0_i32_13 : BitVec 32 := 0#32
  let c1_i32_14 : BitVec 32 := 1#32
  let arg11 : BitVec 32 := Scf.iv c0_i32_13 c1_i32_14 k0_t5
  let c64_i32 : BitVec 32 := 64#32
  let v34 : BitVec 32 := Scalar.muli arg11 c64_i32
  let v35 : BitVec 32 := v34
  let v36 : Index := Scalar.indexCast v35
  let c2048 : Index := 2048#32
  ![v36.toNat, 2048]
def k0_off10 (k0_t5 : Fin k0_t5_loop.trips) : Fin 2 → Nat :=
  let c0_i32_13 : BitVec 32 := 0#32
  let c1_i32_14 : BitVec 32 := 1#32
  let arg11 : BitVec 32 := Scf.iv c0_i32_13 c1_i32_14 k0_t5
  let c64_i32 : BitVec 32 := 64#32
  let v34 : BitVec 32 := Scalar.muli arg11 c64_i32
  let v35 : BitVec 32 := v34
  let v38 : Index := Scalar.indexCast v35
  let c0 : Index := 0#32
  ![v38.toNat, 0]
def k0_cond8 (i : grid0.Coords) : BitVec 1 :=
  let arg1 : BitVec 32 := BitVec.ofNat 32 (i 1).val
  let c5_i32 : BitVec 32 := 5#32
  let v21 : BitVec 1 := Scalar.cmpi .eq arg1 c5_i32
  let v22 : BitVec 32 := Scalar.extui v21
  let c0_i32_8 : BitVec 32 := 0#32
  let v23 : BitVec 1 := Scalar.cmpi .ne v22 c0_i32_8
  v23

@[reducible] def k0_t6_loop : Scf.Loop 32 :=
  let c0_i32_13 : BitVec 32 := 0#32
  let c16_i32 : BitVec 32 := 16#32
  let v33 : BitVec 32 := Scalar.addi c0_i32_13 c16_i32
  let c1_i32_14 : BitVec 32 := 1#32
  ⟨c0_i32_13, v33, c1_i32_14⟩
def k0_mult6 (k0_t6 : Fin k0_t6_loop.trips) : BitVec 32 :=
  let c0_i32_13 : BitVec 32 := 0#32
  let c1_i32_14 : BitVec 32 := 1#32
  let arg11 : BitVec 32 := Scf.iv c0_i32_13 c1_i32_14 k0_t6
  let c64_i32 : BitVec 32 := 64#32
  let v34 : BitVec 32 := Scalar.muli arg11 c64_i32
  v34
def k0_off11 (k0_t6 : Fin k0_t6_loop.trips) : Fin 2 → Nat :=
  let c0_i32_13 : BitVec 32 := 0#32
  let c1_i32_14 : BitVec 32 := 1#32
  let arg11 : BitVec 32 := Scf.iv c0_i32_13 c1_i32_14 k0_t6
  let c64_i32 : BitVec 32 := 64#32
  let v34 : BitVec 32 := Scalar.muli arg11 c64_i32
  let v35 : BitVec 32 := v34
  let v36 : Index := Scalar.indexCast v35
  let c2560 : Index := 2560#32
  ![v36.toNat, 2560]
def k0_off12 (k0_t6 : Fin k0_t6_loop.trips) : Fin 2 → Nat :=
  let c0_i32_13 : BitVec 32 := 0#32
  let c1_i32_14 : BitVec 32 := 1#32
  let arg11 : BitVec 32 := Scf.iv c0_i32_13 c1_i32_14 k0_t6
  let c64_i32 : BitVec 32 := 64#32
  let v34 : BitVec 32 := Scalar.muli arg11 c64_i32
  let v35 : BitVec 32 := v34
  let v38 : Index := Scalar.indexCast v35
  let c0 : Index := 0#32
  ![v38.toNat, 0]
def k0_cond9 (i : grid0.Coords) : BitVec 1 :=
  let arg1 : BitVec 32 := BitVec.ofNat 32 (i 1).val
  let c6_i32 : BitVec 32 := 6#32
  let v24 : BitVec 1 := Scalar.cmpi .eq arg1 c6_i32
  let v25 : BitVec 32 := Scalar.extui v24
  let c0_i32_9 : BitVec 32 := 0#32
  let v26 : BitVec 1 := Scalar.cmpi .ne v25 c0_i32_9
  v26

@[reducible] def k0_t7_loop : Scf.Loop 32 :=
  let c0_i32_13 : BitVec 32 := 0#32
  let c16_i32 : BitVec 32 := 16#32
  let v33 : BitVec 32 := Scalar.addi c0_i32_13 c16_i32
  let c1_i32_14 : BitVec 32 := 1#32
  ⟨c0_i32_13, v33, c1_i32_14⟩
def k0_mult7 (k0_t7 : Fin k0_t7_loop.trips) : BitVec 32 :=
  let c0_i32_13 : BitVec 32 := 0#32
  let c1_i32_14 : BitVec 32 := 1#32
  let arg11 : BitVec 32 := Scf.iv c0_i32_13 c1_i32_14 k0_t7
  let c64_i32 : BitVec 32 := 64#32
  let v34 : BitVec 32 := Scalar.muli arg11 c64_i32
  v34
def k0_off13 (k0_t7 : Fin k0_t7_loop.trips) : Fin 2 → Nat :=
  let c0_i32_13 : BitVec 32 := 0#32
  let c1_i32_14 : BitVec 32 := 1#32
  let arg11 : BitVec 32 := Scf.iv c0_i32_13 c1_i32_14 k0_t7
  let c64_i32 : BitVec 32 := 64#32
  let v34 : BitVec 32 := Scalar.muli arg11 c64_i32
  let v35 : BitVec 32 := v34
  let v36 : Index := Scalar.indexCast v35
  let c3072 : Index := 3072#32
  ![v36.toNat, 3072]
def k0_off14 (k0_t7 : Fin k0_t7_loop.trips) : Fin 2 → Nat :=
  let c0_i32_13 : BitVec 32 := 0#32
  let c1_i32_14 : BitVec 32 := 1#32
  let arg11 : BitVec 32 := Scf.iv c0_i32_13 c1_i32_14 k0_t7
  let c64_i32 : BitVec 32 := 64#32
  let v34 : BitVec 32 := Scalar.muli arg11 c64_i32
  let v35 : BitVec 32 := v34
  let v38 : Index := Scalar.indexCast v35
  let c0 : Index := 0#32
  ![v38.toNat, 0]
def k0_cond10 (i : grid0.Coords) : BitVec 1 :=
  let arg1 : BitVec 32 := BitVec.ofNat 32 (i 1).val
  let c7_i32 : BitVec 32 := 7#32
  let v27 : BitVec 1 := Scalar.cmpi .eq arg1 c7_i32
  let v28 : BitVec 32 := Scalar.extui v27
  let c0_i32_10 : BitVec 32 := 0#32
  let v29 : BitVec 1 := Scalar.cmpi .ne v28 c0_i32_10
  v29

@[reducible] def k0_t8_loop : Scf.Loop 32 :=
  let c0_i32_13 : BitVec 32 := 0#32
  let c16_i32 : BitVec 32 := 16#32
  let v33 : BitVec 32 := Scalar.addi c0_i32_13 c16_i32
  let c1_i32_14 : BitVec 32 := 1#32
  ⟨c0_i32_13, v33, c1_i32_14⟩
def k0_mult8 (k0_t8 : Fin k0_t8_loop.trips) : BitVec 32 :=
  let c0_i32_13 : BitVec 32 := 0#32
  let c1_i32_14 : BitVec 32 := 1#32
  let arg11 : BitVec 32 := Scf.iv c0_i32_13 c1_i32_14 k0_t8
  let c64_i32 : BitVec 32 := 64#32
  let v34 : BitVec 32 := Scalar.muli arg11 c64_i32
  v34
def k0_off15 (k0_t8 : Fin k0_t8_loop.trips) : Fin 2 → Nat :=
  let c0_i32_13 : BitVec 32 := 0#32
  let c1_i32_14 : BitVec 32 := 1#32
  let arg11 : BitVec 32 := Scf.iv c0_i32_13 c1_i32_14 k0_t8
  let c64_i32 : BitVec 32 := 64#32
  let v34 : BitVec 32 := Scalar.muli arg11 c64_i32
  let v35 : BitVec 32 := v34
  let v36 : Index := Scalar.indexCast v35
  let c3584 : Index := 3584#32
  ![v36.toNat, 3584]
def k0_off16 (k0_t8 : Fin k0_t8_loop.trips) : Fin 2 → Nat :=
  let c0_i32_13 : BitVec 32 := 0#32
  let c1_i32_14 : BitVec 32 := 1#32
  let arg11 : BitVec 32 := Scf.iv c0_i32_13 c1_i32_14 k0_t8
  let c64_i32 : BitVec 32 := 64#32
  let v34 : BitVec 32 := Scalar.muli arg11 c64_i32
  let v35 : BitVec 32 := v34
  let v38 : Index := Scalar.indexCast v35
  let c0 : Index := 0#32
  ![v38.toNat, 0]
def k0_cond11 (i : grid0.Coords) : BitVec 1 :=
  let arg1 : BitVec 32 := BitVec.ofNat 32 (i 1).val
  let c8_i32_11 : BitVec 32 := 8#32
  let v30 : BitVec 1 := Scalar.cmpi .sge arg1 c8_i32_11
  let v31 : BitVec 32 := Scalar.extui v30
  let c0_i32_12 : BitVec 32 := 0#32
  let v32 : BitVec 1 := Scalar.cmpi .ne v31 c0_i32_12
  v32

def k0_mult9 : BitVec 32 :=
  let c0_i32_19 : BitVec 32 := 0#32
  let c16_i32 : BitVec 32 := 16#32
  let v39 : BitVec 32 := Scalar.muli c0_i32_19 c16_i32
  v39
def k0_mult10 (i : grid0.Coords) : BitVec 32 :=
  let arg1 : BitVec 32 := BitVec.ofNat 32 (i 1).val
  let c8_i32_13 : BitVec 32 := 8#32
  let v33 : BitVec 32 := Scalar.subi arg1 c8_i32_13
  let c128_i32 : BitVec 32 := 128#32
  let v38 : BitVec 32 := Scalar.muli v33 c128_i32
  let c0_i32_19 : BitVec 32 := 0#32
  let c16_i32 : BitVec 32 := 16#32
  let v39 : BitVec 32 := Scalar.muli c0_i32_19 c16_i32
  let v40 : BitVec 32 := v39
  let v41 : BitVec 32 := Scalar.addi v38 v40
  v41
def k0_off17 (i : grid0.Coords) (c0_i32_19 : BitVec 32) : Fin 2 → Nat :=
  let arg1 : BitVec 32 := BitVec.ofNat 32 (i 1).val
  let c8_i32_13 : BitVec 32 := 8#32
  let v33 : BitVec 32 := Scalar.subi arg1 c8_i32_13
  let c128_i32 : BitVec 32 := 128#32
  let v38 : BitVec 32 := Scalar.muli v33 c128_i32
  let c16_i32 : BitVec 32 := 16#32
  let v39 : BitVec 32 := Scalar.muli c0_i32_19 c16_i32
  let v40 : BitVec 32 := v39
  let v41 : BitVec 32 := Scalar.addi v38 v40
  let v42 : BitVec 32 := v41
  let v43 : Index := Scalar.indexCast v42
  let c0_20 : Index := 0#32
  ![v43.toNat, 0]
def k0_off18 (c0_i32_19 : BitVec 32) : Fin 2 → Nat :=
  let c16_i32 : BitVec 32 := 16#32
  let v39 : BitVec 32 := Scalar.muli c0_i32_19 c16_i32
  let v40 : BitVec 32 := v39
  let v65 : Index := Scalar.indexCast v40
  let c0_25 : Index := 0#32
  ![v65.toNat, 0]
def k0_mult11 : BitVec 32 :=
  let c1_i32_27 : BitVec 32 := 1#32
  let c16_i32_28 : BitVec 32 := 16#32
  let v70 : BitVec 32 := Scalar.muli c1_i32_27 c16_i32_28
  v70
def k0_mult12 (i : grid0.Coords) : BitVec 32 :=
  let arg1 : BitVec 32 := BitVec.ofNat 32 (i 1).val
  let c8_i32_13 : BitVec 32 := 8#32
  let v33 : BitVec 32 := Scalar.subi arg1 c8_i32_13
  let c128_i32 : BitVec 32 := 128#32
  let v38 : BitVec 32 := Scalar.muli v33 c128_i32
  let c1_i32_27 : BitVec 32 := 1#32
  let c16_i32_28 : BitVec 32 := 16#32
  let v70 : BitVec 32 := Scalar.muli c1_i32_27 c16_i32_28
  let v71 : BitVec 32 := v70
  let v72 : BitVec 32 := Scalar.addi v38 v71
  v72
def k0_mult13 : BitVec 32 :=
  let c2_i32_37 : BitVec 32 := 2#32
  let c16_i32_38 : BitVec 32 := 16#32
  let v101 : BitVec 32 := Scalar.muli c2_i32_37 c16_i32_38
  v101
def k0_mult14 (i : grid0.Coords) : BitVec 32 :=
  let arg1 : BitVec 32 := BitVec.ofNat 32 (i 1).val
  let c8_i32_13 : BitVec 32 := 8#32
  let v33 : BitVec 32 := Scalar.subi arg1 c8_i32_13
  let c128_i32 : BitVec 32 := 128#32
  let v38 : BitVec 32 := Scalar.muli v33 c128_i32
  let c2_i32_37 : BitVec 32 := 2#32
  let c16_i32_38 : BitVec 32 := 16#32
  let v101 : BitVec 32 := Scalar.muli c2_i32_37 c16_i32_38
  let v102 : BitVec 32 := v101
  let v103 : BitVec 32 := Scalar.addi v38 v102
  v103
def k0_mult15 : BitVec 32 :=
  let c3_i32_47 : BitVec 32 := 3#32
  let c16_i32_48 : BitVec 32 := 16#32
  let v132 : BitVec 32 := Scalar.muli c3_i32_47 c16_i32_48
  v132
def k0_mult16 (i : grid0.Coords) : BitVec 32 :=
  let arg1 : BitVec 32 := BitVec.ofNat 32 (i 1).val
  let c8_i32_13 : BitVec 32 := 8#32
  let v33 : BitVec 32 := Scalar.subi arg1 c8_i32_13
  let c128_i32 : BitVec 32 := 128#32
  let v38 : BitVec 32 := Scalar.muli v33 c128_i32
  let c3_i32_47 : BitVec 32 := 3#32
  let c16_i32_48 : BitVec 32 := 16#32
  let v132 : BitVec 32 := Scalar.muli c3_i32_47 c16_i32_48
  let v133 : BitVec 32 := v132
  let v134 : BitVec 32 := Scalar.addi v38 v133
  v134
def k0_mult17 : BitVec 32 :=
  let c4_i32_57 : BitVec 32 := 4#32
  let c16_i32_58 : BitVec 32 := 16#32
  let v163 : BitVec 32 := Scalar.muli c4_i32_57 c16_i32_58
  v163
def k0_mult18 (i : grid0.Coords) : BitVec 32 :=
  let arg1 : BitVec 32 := BitVec.ofNat 32 (i 1).val
  let c8_i32_13 : BitVec 32 := 8#32
  let v33 : BitVec 32 := Scalar.subi arg1 c8_i32_13
  let c128_i32 : BitVec 32 := 128#32
  let v38 : BitVec 32 := Scalar.muli v33 c128_i32
  let c4_i32_57 : BitVec 32 := 4#32
  let c16_i32_58 : BitVec 32 := 16#32
  let v163 : BitVec 32 := Scalar.muli c4_i32_57 c16_i32_58
  let v164 : BitVec 32 := v163
  let v165 : BitVec 32 := Scalar.addi v38 v164
  v165
def k0_mult19 : BitVec 32 :=
  let c5_i32_67 : BitVec 32 := 5#32
  let c16_i32_68 : BitVec 32 := 16#32
  let v194 : BitVec 32 := Scalar.muli c5_i32_67 c16_i32_68
  v194
def k0_mult20 (i : grid0.Coords) : BitVec 32 :=
  let arg1 : BitVec 32 := BitVec.ofNat 32 (i 1).val
  let c8_i32_13 : BitVec 32 := 8#32
  let v33 : BitVec 32 := Scalar.subi arg1 c8_i32_13
  let c128_i32 : BitVec 32 := 128#32
  let v38 : BitVec 32 := Scalar.muli v33 c128_i32
  let c5_i32_67 : BitVec 32 := 5#32
  let c16_i32_68 : BitVec 32 := 16#32
  let v194 : BitVec 32 := Scalar.muli c5_i32_67 c16_i32_68
  let v195 : BitVec 32 := v194
  let v196 : BitVec 32 := Scalar.addi v38 v195
  v196
def k0_mult21 : BitVec 32 :=
  let c6_i32_77 : BitVec 32 := 6#32
  let c16_i32_78 : BitVec 32 := 16#32
  let v225 : BitVec 32 := Scalar.muli c6_i32_77 c16_i32_78
  v225
def k0_mult22 (i : grid0.Coords) : BitVec 32 :=
  let arg1 : BitVec 32 := BitVec.ofNat 32 (i 1).val
  let c8_i32_13 : BitVec 32 := 8#32
  let v33 : BitVec 32 := Scalar.subi arg1 c8_i32_13
  let c128_i32 : BitVec 32 := 128#32
  let v38 : BitVec 32 := Scalar.muli v33 c128_i32
  let c6_i32_77 : BitVec 32 := 6#32
  let c16_i32_78 : BitVec 32 := 16#32
  let v225 : BitVec 32 := Scalar.muli c6_i32_77 c16_i32_78
  let v226 : BitVec 32 := v225
  let v227 : BitVec 32 := Scalar.addi v38 v226
  v227
def k0_mult23 : BitVec 32 :=
  let c7_i32_87 : BitVec 32 := 7#32
  let c16_i32_88 : BitVec 32 := 16#32
  let v256 : BitVec 32 := Scalar.muli c7_i32_87 c16_i32_88
  v256
def k0_mult24 (i : grid0.Coords) : BitVec 32 :=
  let arg1 : BitVec 32 := BitVec.ofNat 32 (i 1).val
  let c8_i32_13 : BitVec 32 := 8#32
  let v33 : BitVec 32 := Scalar.subi arg1 c8_i32_13
  let c128_i32 : BitVec 32 := 128#32
  let v38 : BitVec 32 := Scalar.muli v33 c128_i32
  let c7_i32_87 : BitVec 32 := 7#32
  let c16_i32_88 : BitVec 32 := 16#32
  let v256 : BitVec 32 := Scalar.muli c7_i32_87 c16_i32_88
  let v257 : BitVec 32 := v256
  let v258 : BitVec 32 := Scalar.addi v38 v257
  v258
def cc0_transform_0 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.subi arg1 c4_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  ![arg0.toNat, v2.toNat]

def cc0_transform_3 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c0_i32 : BitVec 32 := 0#32
  let c0_i32_0 : BitVec 32 := 0#32
  let c0_i32_1 : BitVec 32 := 0#32
  ![c0_i32.toNat, v0.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c8_i32_0 : BitVec 32 := 8#32
  let v1 : BitVec 32 := Scalar.subi arg1 c8_i32_0
  let c0_i32 : BitVec 32 := 0#32
  let c7_i32 : BitVec 32 := 7#32
  let v2 : BitVec 32 := Scalar.maxsi c0_i32 v1
  let v3 : BitVec 32 := Scalar.minsi c7_i32 v2
  let v4 : BitVec 32 := Scalar.addi v0 v3
  let c0_i32_1 : BitVec 32 := 0#32
  let c0_i32_2 : BitVec 32 := 0#32
  ![v4.toNat, c0_i32_1.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c8_i32_0 : BitVec 32 := 8#32
  let v1 : BitVec 32 := Scalar.subi arg1 c8_i32_0
  let c0_i32 : BitVec 32 := 0#32
  let c7_i32 : BitVec 32 := 7#32
  let v2 : BitVec 32 := Scalar.maxsi c0_i32 v1
  let v3 : BitVec 32 := Scalar.minsi c7_i32 v2
  let v4 : BitVec 32 := Scalar.addi v0 v3
  let c0_i32_1 : BitVec 32 := 0#32
  let c0_i32_2 : BitVec 32 := 0#32
  ![v4.toNat, c0_i32_1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S128x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== OutprojRefIdeal.lean ====
abbrev S16384x4096 : Shape := ⟨2, ![16384, 4096]⟩
abbrev S2x8192x4096 : Shape := ⟨3, ![2, 8192, 4096]⟩
abbrev S2x4096 : Shape := ⟨2, ![2, 4096]⟩
abbrev S16384x8192 : Shape := ⟨2, ![16384, 8192]⟩
abbrev S1x8192x4096 : Shape := ⟨3, ![1, 8192, 4096]⟩
abbrev S8192x4096 : Shape := ⟨2, ![8192, 4096]⟩
abbrev S_ : Shape := ⟨0, ![]⟩
abbrev S1x4096 : Shape := ⟨2, ![1, 4096]⟩
abbrev S4096 : Shape := ⟨1, ![4096]⟩
abbrev S16384 : Shape := ⟨1, ![16384]⟩
abbrev S16384x1 : Shape := ⟨2, ![16384, 1]⟩

abbrev nBuf : Space → Nat
  | .hbm => 48
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S16384x4096, .bf16⟩
  | .hbm, ⟨2, _⟩ => ⟨S16384x4096, .bf16⟩
  | .hbm, ⟨3, _⟩ => ⟨S2x8192x4096, .f32⟩
  | .hbm, ⟨4, _⟩ => ⟨S2x4096, .f32⟩
  | .hbm, ⟨5, _⟩ => ⟨S2x4096, .f32⟩
  | .hbm, ⟨6, _⟩ => ⟨S16384x8192, .bf16⟩
  | .hbm, ⟨7, _⟩ => ⟨S1x8192x4096, .f32⟩
  | .hbm, ⟨8, _⟩ => ⟨S8192x4096, .f32⟩
  | .hbm, ⟨9, _⟩ => ⟨S16384x4096, .f32⟩
  | .hbm, ⟨10, _⟩ => ⟨S_, .f32⟩
  | .hbm, ⟨11, _⟩ => ⟨S16384x4096, .f32⟩
  | .hbm, ⟨12, _⟩ => ⟨S16384x4096, .f32⟩
  | .hbm, ⟨13, _⟩ => ⟨S16384x4096, .f32⟩
  | .hbm, ⟨14, _⟩ => ⟨S1x4096, .f32⟩
  | .hbm, ⟨15, _⟩ => ⟨S4096, .f32⟩
  | .hbm, ⟨16, _⟩ => ⟨S1x4096, .f32⟩
  | .hbm, ⟨17, _⟩ => ⟨S4096, .f32⟩
  | .hbm, ⟨18, _⟩ => ⟨S_, .f32⟩
  | .hbm, ⟨19, _⟩ => ⟨S16384, .f32⟩
  | .hbm, ⟨20, _⟩ => ⟨S16384x1, .f32⟩
  | .hbm, ⟨21, _⟩ => ⟨S_, .f32⟩
  | .hbm, ⟨22, _⟩ => ⟨S16384x1, .f32⟩
  | .hbm, ⟨23, _⟩ => ⟨S16384x1, .f32⟩
  | .hbm, ⟨24, _⟩ => ⟨S16384x4096, .f32⟩
  | .hbm, ⟨25, _⟩ => ⟨S16384x4096, .f32⟩
  | .hbm, ⟨26, _⟩ => ⟨S16384x4096, .f32⟩
  | .hbm, ⟨27, _⟩ => ⟨S_, .f32⟩
  | .hbm, ⟨28, _⟩ => ⟨S16384, .f32⟩
  | .hbm, ⟨29, _⟩ => ⟨S16384x1, .f32⟩
  | .hbm, ⟨30, _⟩ => ⟨S_, .f32⟩
  | .hbm, ⟨31, _⟩ => ⟨S16384x1, .f32⟩
  | .hbm, ⟨32, _⟩ => ⟨S16384x1, .f32⟩
  | .hbm, ⟨33, _⟩ => ⟨S16384x4096, .f32⟩
  | .hbm, ⟨34, _⟩ => ⟨S16384x4096, .f32⟩
  | .hbm, ⟨35, _⟩ => ⟨S_, .f32⟩
  | .hbm, ⟨36, _⟩ => ⟨S16384x1, .f32⟩
  | .hbm, ⟨37, _⟩ => ⟨S16384x1, .f32⟩
  | .hbm, ⟨38, _⟩ => ⟨S16384x1, .f32⟩
  | .hbm, ⟨39, _⟩ => ⟨S16384x4096, .f32⟩
  | .hbm, ⟨40, _⟩ => ⟨S16384x4096, .f32⟩
  | .hbm, ⟨41, _⟩ => ⟨S1x4096, .f32⟩
  | .hbm, ⟨42, _⟩ => ⟨S16384x4096, .f32⟩
  | .hbm, ⟨43, _⟩ => ⟨S16384x4096, .f32⟩
  | .hbm, ⟨44, _⟩ => ⟨S1x4096, .f32⟩
  | .hbm, ⟨45, _⟩ => ⟨S16384x4096, .f32⟩
  | .hbm, ⟨46, _⟩ => ⟨S16384x4096, .f32⟩
  | .hbm, ⟨47, _⟩ => ⟨S16384x4096, .bf16⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩

abbrev nD : Nat := 1
abbrev τ : Topo := Topo.v7x

variable {F : FTy → Type} [FloatOps F]
-- ==== Inproj.lean ====
abbrev S16384x4096 : Shape := ⟨2, ![16384, 4096]⟩
abbrev S2x4096x18560 : Shape := ⟨3, ![2, 4096, 18560]⟩
abbrev S128 : Shape := ⟨1, ![128]⟩
abbrev S2x4096x1024 : Shape := ⟨3, ![2, 4096, 1024]⟩
abbrev S2x4096x8x128 : Shape := ⟨4, ![2, 4096, 8, 128]⟩
abbrev S2x4096x8x256 : Shape := ⟨4, ![2, 4096, 8, 256]⟩
abbrev S2x4096x2048 : Shape := ⟨3, ![2, 4096, 2048]⟩
abbrev S2x4096x4096 : Shape := ⟨3, ![2, 4096, 4096]⟩
abbrev S2x4096x8192 : Shape := ⟨3, ![2, 4096, 8192]⟩
abbrev S2x4096x18432 : Shape := ⟨3, ![2, 4096, 18432]⟩
abbrev S2x4096x128 : Shape := ⟨3, ![2, 4096, 128]⟩
abbrev S_ : Shape := ⟨0, ![]⟩
abbrev S128x1 : Shape := ⟨2, ![128, 1]⟩
abbrev S16384x18432 : Shape := ⟨2, ![16384, 18432]⟩
abbrev S16384x128 : Shape := ⟨2, ![16384, 128]⟩
abbrev S1024x4096 : Shape := ⟨2, ![1024, 4096]⟩
abbrev S1x4096x1024 : Shape := ⟨3, ![1, 4096, 1024]⟩
abbrev S1x4096x128 : Shape := ⟨3, ![1, 4096, 128]⟩
abbrev S1024x1024 : Shape := ⟨2, ![1024, 1024]⟩
abbrev S1024x128 : Shape := ⟨2, ![1024, 128]⟩
abbrev S4096x1024 : Shape := ⟨2, ![4096, 1024]⟩
abbrev S4096x128 : Shape := ⟨2, ![4096, 128]⟩

abbrev nBuf : Space → Nat
  | .hbm => 25
  | .vmem => 9
  | .smem => 0
  | _ => 0

abbrev bufTy : (tb : Table) → Fin (tcTables nBuf tb) → BufTy
  | .hbm, ⟨0, _⟩ => ⟨S16384x4096, .f32⟩
  | .hbm, ⟨1, _⟩ => ⟨S2x4096x18560, .f32⟩
  | .hbm, ⟨2, _⟩ => ⟨S128, .i32⟩
  | .hbm, ⟨3, _⟩ => ⟨S128, .i1⟩
  | .hbm, ⟨4, _⟩ => ⟨S2x4096x18560, .bf16⟩
  | .hbm, ⟨5, _⟩ => ⟨S2x4096x1024, .bf16⟩
  | .hbm, ⟨6, _⟩ => ⟨S2x4096x8x128, .bf16⟩
  | .hbm, ⟨7, _⟩ => ⟨S2x4096x1024, .bf16⟩
  | .hbm, ⟨8, _⟩ => ⟨S2x4096x8x128, .bf16⟩
  | .hbm, ⟨9, _⟩ => ⟨S2x4096x8x256, .bf16⟩
  | .hbm, ⟨10, _⟩ => ⟨S2x4096x2048, .bf16⟩
  | .hbm, ⟨11, _⟩ => ⟨S2x4096x4096, .bf16⟩
  | .hbm, ⟨12, _⟩ => ⟨S2x4096x8192, .bf16⟩
  | .hbm, ⟨13, _⟩ => ⟨S2x4096x4096, .bf16⟩
  | .hbm, ⟨14, _⟩ => ⟨S2x4096x18432, .bf16⟩
  | .hbm, ⟨15, _⟩ => ⟨S2x4096x128, .bf16⟩
  | .hbm, ⟨16, _⟩ => ⟨S_, .i32⟩
  | .hbm, ⟨17, _⟩ => ⟨S128, .i32⟩
  | .hbm, ⟨18, _⟩ => ⟨S128, .i32⟩
  | .hbm, ⟨19, _⟩ => ⟨S128, .i32⟩
  | .hbm, ⟨20, _⟩ => ⟨S128x1, .i32⟩
  | .hbm, ⟨21, _⟩ => ⟨S2x4096x128, .bf16⟩
  | .hbm, ⟨22, _⟩ => ⟨S16384x4096, .bf16⟩
  | .hbm, ⟨23, _⟩ => ⟨S16384x18432, .f32⟩
  | .hbm, ⟨24, _⟩ => ⟨S16384x128, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x1024, .bf16⟩
  | .local _ .vmem, ⟨3, _⟩ => ⟨S1x4096x1024, .bf16⟩
  | .local _ .vmem, ⟨4, _⟩ => ⟨S1x4096x128, .bf16⟩
  | .local _ .vmem, ⟨5, _⟩ => ⟨S1024x1024, .f32⟩
  | .local _ .vmem, ⟨6, _⟩ => ⟨S1024x1024, .f32⟩
  | .local _ .vmem, ⟨7, _⟩ => ⟨S1024x128, .f32⟩
  | .local _ .vmem, ⟨8, _⟩ => ⟨S1024x128, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_c_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18_0 : Ref sig .tc := ⟨.hbm, 23, rfl⟩
abbrev main_v18_1 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 18], ![false, false]⟩

def k0_cond1 (i : grid0.Coords) : BitVec 1 :=
  let arg1 : BitVec 32 := BitVec.ofNat 32 (i 1).val
  let c0_i32 : BitVec 32 := 0#32
  let v6 : BitVec 1 := Scalar.cmpi .eq arg1 c0_i32
  let v7 : BitVec 32 := Scalar.extui v6
  let c0_i32_6 : BitVec 32 := 0#32
  let v8 : BitVec 1 := Scalar.cmpi .ne v7 c0_i32_6
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x4096x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== InprojIdeal.lean ====
abbrev S16384x4096 : Shape := ⟨2, ![16384, 4096]⟩
abbrev S2x4096x18560 : Shape := ⟨3, ![2, 4096, 18560]⟩
abbrev S128 : Shape := ⟨1, ![128]⟩
abbrev S2x4096x1024 : Shape := ⟨3, ![2, 4096, 1024]⟩
abbrev S2x4096x8x128 : Shape := ⟨4, ![2, 4096, 8, 128]⟩
abbrev S2x4096x8x256 : Shape := ⟨4, ![2, 4096, 8, 256]⟩
abbrev S2x4096x2048 : Shape := ⟨3, ![2, 4096, 2048]⟩
abbrev S2x4096x4096 : Shape := ⟨3, ![2, 4096, 4096]⟩
abbrev S2x4096x8192 : Shape := ⟨3, ![2, 4096, 8192]⟩
abbrev S2x4096x18432 : Shape := ⟨3, ![2, 4096, 18432]⟩
abbrev S2x4096x128 : Shape := ⟨3, ![2, 4096, 128]⟩
abbrev S_ : Shape := ⟨0, ![]⟩
abbrev S128x1 : Shape := ⟨2, ![128, 1]⟩
abbrev S16384x18432 : Shape := ⟨2, ![16384, 18432]⟩
abbrev S16384x128 : Shape := ⟨2, ![16384, 128]⟩
abbrev S1024x4096 : Shape := ⟨2, ![1024, 4096]⟩
abbrev S1x4096x1024 : Shape := ⟨3, ![1, 4096, 1024]⟩
abbrev S1x4096x128 : Shape := ⟨3, ![1, 4096, 128]⟩
abbrev S1024x1024 : Shape := ⟨2, ![1024, 1024]⟩
abbrev S1024x128 : Shape := ⟨2, ![1024, 128]⟩
abbrev S4096x1024 : Shape := ⟨2, ![4096, 1024]⟩
abbrev S4096x128 : Shape := ⟨2, ![4096, 128]⟩

abbrev nBuf : Space → Nat
  | .hbm => 25
  | .vmem => 9
  | .smem => 0
  | _ => 0

abbrev bufTy : (tb : Table) → Fin (tcTables nBuf tb) → BufTy
  | .hbm, ⟨0, _⟩ => ⟨S16384x4096, .f32⟩
  | .hbm, ⟨1, _⟩ => ⟨S2x4096x18560, .f32⟩
  | .hbm, ⟨2, _⟩ => ⟨S128, .i32⟩
  | .hbm, ⟨3, _⟩ => ⟨S128, .i1⟩
  | .hbm, ⟨4, _⟩ => ⟨S2x4096x18560, .bf16⟩
  | .hbm, ⟨5, _⟩ => ⟨S2x4096x1024, .bf16⟩
  | .hbm, ⟨6, _⟩ => ⟨S2x4096x8x128, .bf16⟩
  | .hbm, ⟨7, _⟩ => ⟨S2x4096x1024, .bf16⟩
  | .hbm, ⟨8, _⟩ => ⟨S2x4096x8x128, .bf16⟩
  | .hbm, ⟨9, _⟩ => ⟨S2x4096x8x256, .bf16⟩
  | .hbm, ⟨10, _⟩ => ⟨S2x4096x2048, .bf16⟩
  | .hbm, ⟨11, _⟩ => ⟨S2x4096x4096, .bf16⟩
  | .hbm, ⟨12, _⟩ => ⟨S2x4096x8192, .bf16⟩
  | .hbm, ⟨13, _⟩ => ⟨S2x4096x4096, .bf16⟩
  | .hbm, ⟨14, _⟩ => ⟨S2x4096x18432, .bf16⟩
  | .hbm, ⟨15, _⟩ => ⟨S2x4096x128, .bf16⟩
  | .hbm, ⟨16, _⟩ => ⟨S_, .i32⟩
  | .hbm, ⟨17, _⟩ => ⟨S128, .i32⟩
  | .hbm, ⟨18, _⟩ => ⟨S128, .i32⟩
  | .hbm, ⟨19, _⟩ => ⟨S128, .i32⟩
  | .hbm, ⟨20, _⟩ => ⟨S128x1, .i32⟩
  | .hbm, ⟨21, _⟩ => ⟨S2x4096x128, .bf16⟩
  | .hbm, ⟨22, _⟩ => ⟨S16384x4096, .bf16⟩
  | .hbm, ⟨23, _⟩ => ⟨S16384x18432, .f32⟩
  | .hbm, ⟨24, _⟩ => ⟨S16384x128, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x1024, .bf16⟩
  | .local _ .vmem, ⟨3, _⟩ => ⟨S1x4096x1024, .bf16⟩
  | .local _ .vmem, ⟨4, _⟩ => ⟨S1x4096x128, .bf16⟩
  | .local _ .vmem, ⟨5, _⟩ => ⟨S1024x1024, .f32⟩
  | .local _ .vmem, ⟨6, _⟩ => ⟨S1024x1024, .f32⟩
  | .local _ .vmem, ⟨7, _⟩ => ⟨S1024x128, .f32⟩
  | .local _ .vmem, ⟨8, _⟩ => ⟨S1024x128, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_c_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18_0 : Ref sig .tc := ⟨.hbm, 23, rfl⟩
abbrev main_v18_1 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 18], ![false, false]⟩

def k0_cond1 (i : grid0.Coords) : BitVec 1 :=
  let arg1 : BitVec 32 := BitVec.ofNat 32 (i 1).val
  let c0_i32 : BitVec 32 := 0#32
  let v6 : BitVec 1 := Scalar.cmpi .eq arg1 c0_i32
  let v7 : BitVec 32 := Scalar.extui v6
  let c0_i32_6 : BitVec 32 := 0#32
  let v8 : BitVec 1 := Scalar.cmpi .ne v7 c0_i32_6
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x4096x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== InprojRefIdeal.lean ====
abbrev S16384x4096 : Shape := ⟨2, ![16384, 4096]⟩
abbrev S2x4096x18560 : Shape := ⟨3, ![2, 4096, 18560]⟩
abbrev S1x4096x18560 : Shape := ⟨3, ![1, 4096, 18560]⟩
abbrev S4096x18560 : Shape := ⟨2, ![4096, 18560]⟩
abbrev S16384x18560 : Shape := ⟨2, ![16384, 18560]⟩
abbrev S16384x6144 : Shape := ⟨2, ![16384, 6144]⟩
abbrev S16384x128 : Shape := ⟨2, ![16384, 128]⟩
abbrev S16384x8192 : Shape := ⟨2, ![16384, 8192]⟩
abbrev S16384x1024 : Shape := ⟨2, ![16384, 1024]⟩
abbrev S16384x8x128 : Shape := ⟨3, ![16384, 8, 128]⟩
abbrev S16384x8x256 : Shape := ⟨3, ![16384, 8, 256]⟩
abbrev S16384x64 : Shape := ⟨2, ![16384, 64]⟩
abbrev S16384x8x8 : Shape := ⟨3, ![16384, 8, 8]⟩
abbrev S16384x8x16 : Shape := ⟨3, ![16384, 8, 16]⟩
abbrev S16384x2048 : Shape := ⟨2, ![16384, 2048]⟩
abbrev S16384x18432 : Shape := ⟨2, ![16384, 18432]⟩

abbrev nBuf : Space → Nat
  | .hbm => 23
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S2x4096x18560, .f32⟩
  | .hbm, ⟨2, _⟩ => ⟨S1x4096x18560, .f32⟩
  | .hbm, ⟨3, _⟩ => ⟨S4096x18560, .f32⟩
  | .hbm, ⟨4, _⟩ => ⟨S16384x18560, .f32⟩
  | .hbm, ⟨5, _⟩ => ⟨S16384x4096, .f32⟩
  | .hbm, ⟨6, _⟩ => ⟨S16384x6144, .f32⟩
  | .hbm, ⟨7, _⟩ => ⟨S16384x128, .f32⟩
  | .hbm, ⟨8, _⟩ => ⟨S16384x8192, .f32⟩
  | .hbm, ⟨9, _⟩ => ⟨S16384x4096, .f32⟩
  | .hbm, ⟨10, _⟩ => ⟨S16384x1024, .f32⟩
  | .hbm, ⟨11, _⟩ => ⟨S16384x1024, .f32⟩
  | .hbm, ⟨12, _⟩ => ⟨S16384x8x128, .f32⟩
  | .hbm, ⟨13, _⟩ => ⟨S16384x8x128, .f32⟩
  | .hbm, ⟨14, _⟩ => ⟨S16384x8x256, .f32⟩
  | .hbm, ⟨15, _⟩ => ⟨S16384x64, .f32⟩
  | .hbm, ⟨16, _⟩ => ⟨S16384x64, .f32⟩
  | .hbm, ⟨17, _⟩ => ⟨S16384x8x8, .f32⟩
  | .hbm, ⟨18, _⟩ => ⟨S16384x8x8, .f32⟩
  | .hbm, ⟨19, _⟩ => ⟨S16384x8x16, .f32⟩
  | .hbm, ⟨20, _⟩ => ⟨S16384x2048, .f32⟩
  | .hbm, ⟨21, _⟩ => ⟨S16384x18432, .f32⟩
  | .hbm, ⟨22, _⟩ => ⟨S16384x128, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩

abbrev nD : Nat := 1
abbrev τ : Topo := Topo.v7x

variable {F : FTy → Type} [FloatOps F]
-- ==== FfnSample.lean ====
abbrev S4x2048x4096 : Shape := ⟨3, ![4, 2048, 4096]⟩
abbrev S2x4096x11008 : Shape := ⟨3, ![2, 4096, 11008]⟩
abbrev S2x11008x4096 : Shape := ⟨3, ![2, 11008, 4096]⟩
abbrev S2x4096 : Shape := ⟨2, ![2, 4096]⟩
abbrev S8192x4096 : Shape := ⟨2, ![8192, 4096]⟩
abbrev S2x1x4096 : Shape := ⟨3, ![2, 1, 4096]⟩
abbrev S1024x512 : Shape := ⟨2, ![1024, 512]⟩
abbrev S1024x4096 : Shape := ⟨2, ![1024, 4096]⟩
abbrev S1x4096x256 : Shape := ⟨3, ![1, 4096, 256]⟩
abbrev S1x256x4096 : Shape := ⟨3, ![1, 256, 4096]⟩
abbrev S1x1x4096 : Shape := ⟨3, ![1, 1, 4096]⟩
abbrev S128x4096 : Shape := ⟨2, ![128, 4096]⟩
abbrev S4096x256 : Shape := ⟨2, ![4096, 256]⟩
abbrev S1024x256 : Shape := ⟨2, ![1024, 256]⟩
abbrev S256x4096 : Shape := ⟨2, ![256, 4096]⟩
abbrev S64x512 : Shape := ⟨2, ![64, 512]⟩
abbrev S1x4096 : Shape := ⟨2, ![1, 4096]⟩
abbrev S16x4096 : Shape := ⟨2, ![16, 4096]⟩
abbrev S16 : Shape := ⟨1, ![16]⟩
abbrev S16x1 : Shape := ⟨2, ![16, 1]⟩

abbrev nBuf : Space → Nat
  | .hbm => 15
  | .vmem => 17
  | .smem => 0
  | _ => 0

abbrev bufTy : (tb : Table) → Fin (tcTables nBuf tb) → BufTy
  | .hbm, ⟨0, _⟩ => ⟨S4x2048x4096, .f32⟩
  | .hbm, ⟨1, _⟩ => ⟨S2x4096x11008, .f32⟩
  | .hbm, ⟨2, _⟩ => ⟨S2x4096x11008, .f32⟩
  | .hbm, ⟨3, _⟩ => ⟨S2x11008x4096, .f32⟩
  | .hbm, ⟨4, _⟩ => ⟨S2x4096, .f32⟩
  | .hbm, ⟨5, _⟩ => ⟨S2x4096, .f32⟩
  | .hbm, ⟨6, _⟩ => ⟨S8192x4096, .f32⟩
  | .hbm, ⟨7, _⟩ => ⟨S8192x4096, .bf16⟩
  | .hbm, ⟨8, _⟩ => ⟨S2x4096x11008, .bf16⟩
  | .hbm, ⟨9, _⟩ => ⟨S2x4096x11008, .bf16⟩
  | .hbm, ⟨10, _⟩ => ⟨S2x11008x4096, .bf16⟩
  | .hbm, ⟨11, _⟩ => ⟨S2x1x4096, .f32⟩
  | .hbm, ⟨12, _⟩ => ⟨S2x1x4096, .f32⟩
  | .hbm, ⟨13, _⟩ => ⟨S8192x4096, .f32⟩
  | .hbm, ⟨14, _⟩ => ⟨S8192x4096, .bf16⟩
  | .local _ .vmem, ⟨0, _⟩ => ⟨S1024x512, .f32⟩
  | .local _ .vmem, ⟨1, _⟩ => ⟨S1024x512, .f32⟩
  | .local _ .vmem, ⟨2, _⟩ => ⟨S1024x4096, .bf16⟩
  | .local _ .vmem, ⟨3, _⟩ => ⟨S1024x4096, .bf16⟩
  | .local _ .vmem, ⟨4, _⟩ => ⟨S1x4096x256, .bf16⟩
  | .local _ .vmem, ⟨5, _⟩ => ⟨S1x4096x256, .bf16⟩
  | .local _ .vmem, ⟨6, _⟩ => ⟨S1x4096x256, .bf16⟩
  | .local _ .vmem, ⟨7, _⟩ => ⟨S1x4096x256, .bf16⟩
  | .local _ .vmem, ⟨8, _⟩ => ⟨S1x256x4096, .bf16⟩
  | .local _ .vmem, ⟨9, _⟩ => ⟨S1x256x4096, .bf16⟩
  | .local _ .vmem, ⟨10, _⟩ => ⟨S1x1x4096, .f32⟩
  | .local _ .vmem, ⟨11, _⟩ => ⟨S1x1x4096, .f32⟩
  | .local _ .vmem, ⟨12, _⟩ => ⟨S128x4096, .f32⟩
  | .local _ .vmem, ⟨13, _⟩ => ⟨S128x4096, .f32⟩
  | .local _ .vmem, ⟨14, _⟩ => ⟨S128x4096, .bf16⟩
  | .local _ .vmem, ⟨15, _⟩ => ⟨S128x4096, .bf16⟩
  | .local _ .vmem, ⟨16, _⟩ => ⟨S1024x4096, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![8, 51], ![false, false]⟩

def k0_cond3 (i : grid0.Coords) : BitVec 1 :=
  let arg1 : BitVec 32 := BitVec.ofNat 32 (i 1).val
  let c0_i32_2 : BitVec 32 := 0#32
  let v6 : BitVec 1 := Scalar.cmpi .eq arg1 c0_i32_2
  let v7 : BitVec 32 := Scalar.extui v6
  let c0_i32_3 : BitVec 32 := 0#32
  let v8 : BitVec 1 := Scalar.cmpi .ne v7 c0_i32_3
  v8

@[reducible] def k0_t1_loop : Scf.Loop 32 :=
  let c0_i32_13 : BitVec 32 := 0#32
  let c16_i32 : BitVec 32 := 16#32
  let v33 : BitVec 32 := Scalar.addi c0_i32_13 c16_i32
  let c1_i32_14 : BitVec 32 := 1#32
  ⟨c0_i32_13, v33, c1_i32_14⟩
def k0_mult1 (k0_t1 : Fin k0_t1_loop.trips) : BitVec 32 :=
  let c0_i32_13 : BitVec 32 := 0#32
  let c1_i32_14 : BitVec 32 := 1#32
  let arg12 : BitVec 32 := Scf.iv c0_i32_13 c1_i32_14 k0_t1
  let c64_i32 : BitVec 32 := 64#32
  let v34 : BitVec 32 := Scalar.muli arg12 c64_i32
  v34
def k0_off1 (k0_t1 : Fin k0_t1_loop.trips) : Fin 2 → Nat :=
  let c0_i32_13 : BitVec 32 := 0#32
  let c1_i32_14 : BitVec 32 := 1#32
  let arg12 : BitVec 32 := Scf.iv c0_i32_13 c1_i32_14 k0_t1
  let c64_i32 : BitVec 32 := 64#32
  let v34 : BitVec 32 := Scalar.muli arg12 c64_i32
  let v35 : BitVec 32 := v34
  let v36 : Index := Scalar.indexCast v35
  let c0 : Index := 0#32
  ![v36.toNat, 0]
def k0_off2 (k0_t1 : Fin k0_t1_loop.trips) : Fin 2 → Nat :=
  let c0_i32_13 : BitVec 32 := 0#32
  let c1_i32_14 : BitVec 32 := 1#32
  let arg12 : BitVec 32 := Scf.iv c0_i32_13 c1_i32_14 k0_t1
  let c64_i32 : BitVec 32 := 64#32
  let v34 : BitVec 32 := Scalar.muli arg12 c64_i32
  let v35 : BitVec 32 := v34
  let v38 : Index := Scalar.indexCast v35
  let c0_16 : Index := 0#32
  ![v38.toNat, 0]
def k0_cond4 (i : grid0.Coords) : BitVec 1 :=
  let arg1 : BitVec 32 := BitVec.ofNat 32 (i 1).val
  let c1_i32 : BitVec 32 := 1#32
  let v9 : BitVec 1 := Scalar.cmpi .eq arg1 c1_i32
  let v10 : BitVec 32 := Scalar.extui v9
  let c0_i32_4 : BitVec 32 := 0#32
  let v11 : BitVec 1 := Scalar.cmpi .ne v10 c0_i32_4
  v11

@[reducible] def k0_t2_loop : Scf.Loop 32 :=
  let c0_i32_13 : BitVec 32 := 0#32
  let c16_i32 : BitVec 32 := 16#32
  let v33 : BitVec 32 := Scalar.addi c0_i32_13 c16_i32
  let c1_i32_14 : BitVec 32 := 1#32
  ⟨c0_i32_13, v33, c1_i32_14⟩
def k0_mult2 (k0_t2 : Fin k0_t2_loop.trips) : BitVec 32 :=
  let c0_i32_13 : BitVec 32 := 0#32
  let c1_i32_14 : BitVec 32 := 1#32
  let arg12 : BitVec 32 := Scf.iv c0_i32_13 c1_i32_14 k0_t2
  let c64_i32 : BitVec 32 := 64#32
  let v34 : BitVec 32 := Scalar.muli arg12 c64_i32
  v34
def k0_off3 (k0_t2 : Fin k0_t2_loop.trips) : Fin 2 → Nat :=
  let c0_i32_13 : BitVec 32 := 0#32
  let c1_i32_14 : BitVec 32 := 1#32
  let arg12 : BitVec 32 := Scf.iv c0_i32_13 c1_i32_14 k0_t2
  let c64_i32 : BitVec 32 := 64#32
  let v34 : BitVec 32 := Scalar.muli arg12 c64_i32
  let v35 : BitVec 32 := v34
  let v36 : Index := Scalar.indexCast v35
  let c512 : Index := 512#32
  ![v36.toNat, 512]
def k0_off4 (k0_t2 : Fin k0_t2_loop.trips) : Fin 2 → Nat :=
  let c0_i32_13 : BitVec 32 := 0#32
  let c1_i32_14 : BitVec 32 := 1#32
  let arg12 : BitVec 32 := Scf.iv c0_i32_13 c1_i32_14 k0_t2
  let c64_i32 : BitVec 32 := 64#32
  let v34 : BitVec 32 := Scalar.muli arg12 c64_i32
  let v35 : BitVec 32 := v34
  let v38 : Index := Scalar.indexCast v35
  let c0 : Index := 0#32
  ![v38.toNat, 0]
def k0_cond5 (i : grid0.Coords) : BitVec 1 :=
  let arg1 : BitVec 32 := BitVec.ofNat 32 (i 1).val
  let c2_i32 : BitVec 32 := 2#32
  let v12 : BitVec 1 := Scalar.cmpi .eq arg1 c2_i32
  let v13 : BitVec 32 := Scalar.extui v12
  let c0_i32_5 : BitVec 32 := 0#32
  let v14 : BitVec 1 := Scalar.cmpi .ne v13 c0_i32_5
  v14

@[reducible] def k0_t3_loop : Scf.Loop 32 :=
  let c0_i32_13 : BitVec 32 := 0#32
  let c16_i32 : BitVec 32 := 16#32
  let v33 : BitVec 32 := Scalar.addi c0_i32_13 c16_i32
  let c1_i32_14 : BitVec 32 := 1#32
  ⟨c0_i32_13, v33, c1_i32_14⟩
def k0_mult3 (k0_t3 : Fin k0_t3_loop.trips) : BitVec 32 :=
  let c0_i32_13 : BitVec 32 := 0#32
  let c1_i32_14 : BitVec 32 := 1#32
  let arg12 : BitVec 32 := Scf.iv c0_i32_13 c1_i32_14 k0_t3
  let c64_i32 : BitVec 32 := 64#32
  let v34 : BitVec 32 := Scalar.muli arg12 c64_i32
  v34
def k0_off5 (k0_t3 : Fin k0_t3_loop.trips) : Fin 2 → Nat :=
  let c0_i32_13 : BitVec 32 := 0#32
  let c1_i32_14 : BitVec 32 := 1#32
  let arg12 : BitVec 32 := Scf.iv c0_i32_13 c1_i32_14 k0_t3
  let c64_i32 : BitVec 32 := 64#32
  let v34 : BitVec 32 := Scalar.muli arg12 c64_i32
  let v35 : BitVec 32 := v34
  let v36 : Index := Scalar.indexCast v35
  let c1024 : Index := 1024#32
  ![v36.toNat, 1024]
def k0_off6 (k0_t3 : Fin k0_t3_loop.trips) : Fin 2 → Nat :=
  let c0_i32_13 : BitVec 32 := 0#32
  let c1_i32_14 : BitVec 32 := 1#32
  let arg12 : BitVec 32 := Scf.iv c0_i32_13 c1_i32_14 k0_t3
  let c64_i32 : BitVec 32 := 64#32
  let v34 : BitVec 32 := Scalar.muli arg12 c64_i32
  let v35 : BitVec 32 := v34
  let v38 : Index := Scalar.indexCast v35
  let c0 : Index := 0#32
  ![v38.toNat, 0]
def k0_cond6 (i : grid0.Coords) : BitVec 1 :=
  let arg1 : BitVec 32 := BitVec.ofNat 32 (i 1).val
  let c3_i32 : BitVec 32 := 3#32
  let v15 : BitVec 1 := Scalar.cmpi .eq arg1 c3_i32
  let v16 : BitVec 32 := Scalar.extui v15
  let c0_i32_6 : BitVec 32 := 0#32
  let v17 : BitVec 1 := Scalar.cmpi .ne v16 c0_i32_6
  v17

@[reducible] def k0_t4_loop : Scf.Loop 32 :=
  let c0_i32_13 : BitVec 32 := 0#32
  let c16_i32 : BitVec 32 := 16#32
  let v33 : BitVec 32 := Scalar.addi c0_i32_13 c16_i32
  let c1_i32_14 : BitVec 32 := 1#32
  ⟨c0_i32_13, v33, c1_i32_14⟩
def k0_mult4 (k0_t4 : Fin k0_t4_loop.trips) : BitVec 32 :=
  let c0_i32_13 : BitVec 32 := 0#32
  let c1_i32_14 : BitVec 32 := 1#32
  let arg12 : BitVec 32 := Scf.iv c0_i32_13 c1_i32_14 k0_t4
  let c64_i32 : BitVec 32 := 64#32
  let v34 : BitVec 32 := Scalar.muli arg12 c64_i32
  v34
def k0_off7 (k0_t4 : Fin k0_t4_loop.trips) : Fin 2 → Nat :=
  let c0_i32_13 : BitVec 32 := 0#32
  let c1_i32_14 : BitVec 32 := 1#32
  let arg12 : BitVec 32 := Scf.iv c0_i32_13 c1_i32_14 k0_t4
  let c64_i32 : BitVec 32 := 64#32
  let v34 : BitVec 32 := Scalar.muli arg12 c64_i32
  let v35 : BitVec 32 := v34
  let v36 : Index := Scalar.indexCast v35
  let c1536 : Index := 1536#32
  ![v36.toNat, 1536]
def k0_off8 (k0_t4 : Fin k0_t4_loop.trips) : Fin 2 → Nat :=
  let c0_i32_13 : BitVec 32 := 0#32
  let c1_i32_14 : BitVec 32 := 1#32
  let arg12 : BitVec 32 := Scf.iv c0_i32_13 c1_i32_14 k0_t4
  let c64_i32 : BitVec 32 := 64#32
  let v34 : BitVec 32 := Scalar.muli arg12 c64_i32
  let v35 : BitVec 32 := v34
  let v38 : Index := Scalar.indexCast v35
  let c0 : Index := 0#32
  ![v38.toNat, 0]
def k0_cond7 (i : grid0.Coords) : BitVec 1 :=
  let arg1 : BitVec 32 := BitVec.ofNat 32 (i 1).val
  let c4_i32 : BitVec 32 := 4#32
  let v18 : BitVec 1 := Scalar.cmpi .eq arg1 c4_i32
  let v19 : BitVec 32 := Scalar.extui v18
  let c0_i32_7 : BitVec 32 := 0#32
  let v20 : BitVec 1 := Scalar.cmpi .ne v19 c0_i32_7
  v20

@[reducible] def k0_t5_loop : Scf.Loop 32 :=
  let c0_i32_13 : BitVec 32 := 0#32
  let c16_i32 : BitVec 32 := 16#32
  let v33 : BitVec 32 := Scalar.addi c0_i32_13 c16_i32
  let c1_i32_14 : BitVec 32 := 1#32
  ⟨c0_i32_13, v33, c1_i32_14⟩
def k0_mult5 (k0_t5 : Fin k0_t5_loop.trips) : BitVec 32 :=
  let c0_i32_13 : BitVec 32 := 0#32
  let c1_i32_14 : BitVec 32 := 1#32
  let arg12 : BitVec 32 := Scf.iv c0_i32_13 c1_i32_14 k0_t5
  let c64_i32 : BitVec 32 := 64#32
  let v34 : BitVec 32 := Scalar.muli arg12 c64_i32
  v34
def k0_off9 (k0_t5 : Fin k0_t5_loop.trips) : Fin 2 → Nat :=
  let c0_i32_13 : BitVec 32 := 0#32
  let c1_i32_14 : BitVec 32 := 1#32
  let arg12 : BitVec 32 := Scf.iv c0_i32_13 c1_i32_14 k0_t5
  let c64_i32 : BitVec 32 := 64#32
  let v34 : BitVec 32 := Scalar.muli arg12 c64_i32
  let v35 : BitVec 32 := v34
  let v36 : Index := Scalar.indexCast v35
  let c2048 : Index := 2048#32
  ![v36.toNat, 2048]
def k0_off10 (k0_t5 : Fin k0_t5_loop.trips) : Fin 2 → Nat :=
  let c0_i32_13 : BitVec 32 := 0#32
  let c1_i32_14 : BitVec 32 := 1#32
  let arg12 : BitVec 32 := Scf.iv c0_i32_13 c1_i32_14 k0_t5
  let c64_i32 : BitVec 32 := 64#32
  let v34 : BitVec 32 := Scalar.muli arg12 c64_i32
  let v35 : BitVec 32 := v34
  let v38 : Index := Scalar.indexCast v35
  let c0 : Index := 0#32
  ![v38.toNat, 0]
def k0_cond8 (i : grid0.Coords) : BitVec 1 :=
  let arg1 : BitVec 32 := BitVec.ofNat 32 (i 1).val
  let c5_i32 : BitVec 32 := 5#32
  let v21 : BitVec 1 := Scalar.cmpi .eq arg1 c5_i32
  let v22 : BitVec 32 := Scalar.extui v21
  let c0_i32_8 : BitVec 32 := 0#32
  let v23 : BitVec 1 := Scalar.cmpi .ne v22 c0_i32_8
  v23

@[reducible] def k0_t6_loop : Scf.Loop 32 :=
  let c0_i32_13 : BitVec 32 := 0#32
  let c16_i32 : BitVec 32 := 16#32
  let v33 : BitVec 32 := Scalar.addi c0_i32_13 c16_i32
  let c1_i32_14 : BitVec 32 := 1#32
  ⟨c0_i32_13, v33, c1_i32_14⟩
def k0_mult6 (k0_t6 : Fin k0_t6_loop.trips) : BitVec 32 :=
  let c0_i32_13 : BitVec 32 := 0#32
  let c1_i32_14 : BitVec 32 := 1#32
  let arg12 : BitVec 32 := Scf.iv c0_i32_13 c1_i32_14 k0_t6
  let c64_i32 : BitVec 32 := 64#32
  let v34 : BitVec 32 := Scalar.muli arg12 c64_i32
  v34
def k0_off11 (k0_t6 : Fin k0_t6_loop.trips) : Fin 2 → Nat :=
  let c0_i32_13 : BitVec 32 := 0#32
  let c1_i32_14 : BitVec 32 := 1#32
  let arg12 : BitVec 32 := Scf.iv c0_i32_13 c1_i32_14 k0_t6
  let c64_i32 : BitVec 32 := 64#32
  let v34 : BitVec 32 := Scalar.muli arg12 c64_i32
  let v35 : BitVec 32 := v34
  let v36 : Index := Scalar.indexCast v35
  let c2560 : Index := 2560#32
  ![v36.toNat, 2560]
def k0_off12 (k0_t6 : Fin k0_t6_loop.trips) : Fin 2 → Nat :=
  let c0_i32_13 : BitVec 32 := 0#32
  let c1_i32_14 : BitVec 32 := 1#32
  let arg12 : BitVec 32 := Scf.iv c0_i32_13 c1_i32_14 k0_t6
  let c64_i32 : BitVec 32 := 64#32
  let v34 : BitVec 32 := Scalar.muli arg12 c64_i32
  let v35 : BitVec 32 := v34
  let v38 : Index := Scalar.indexCast v35
  let c0 : Index := 0#32
  ![v38.toNat, 0]
def k0_cond9 (i : grid0.Coords) : BitVec 1 :=
  let arg1 : BitVec 32 := BitVec.ofNat 32 (i 1).val
  let c6_i32 : BitVec 32 := 6#32
  let v24 : BitVec 1 := Scalar.cmpi .eq arg1 c6_i32
  let v25 : BitVec 32 := Scalar.extui v24
  let c0_i32_9 : BitVec 32 := 0#32
  let v26 : BitVec 1 := Scalar.cmpi .ne v25 c0_i32_9
  v26

@[reducible] def k0_t7_loop : Scf.Loop 32 :=
  let c0_i32_13 : BitVec 32 := 0#32
  let c16_i32 : BitVec 32 := 16#32
  let v33 : BitVec 32 := Scalar.addi c0_i32_13 c16_i32
  let c1_i32_14 : BitVec 32 := 1#32
  ⟨c0_i32_13, v33, c1_i32_14⟩
def k0_mult7 (k0_t7 : Fin k0_t7_loop.trips) : BitVec 32 :=
  let c0_i32_13 : BitVec 32 := 0#32
  let c1_i32_14 : BitVec 32 := 1#32
  let arg12 : BitVec 32 := Scf.iv c0_i32_13 c1_i32_14 k0_t7
  let c64_i32 : BitVec 32 := 64#32
  let v34 : BitVec 32 := Scalar.muli arg12 c64_i32
  v34
def k0_off13 (k0_t7 : Fin k0_t7_loop.trips) : Fin 2 → Nat :=
  let c0_i32_13 : BitVec 32 := 0#32
  let c1_i32_14 : BitVec 32 := 1#32
  let arg12 : BitVec 32 := Scf.iv c0_i32_13 c1_i32_14 k0_t7
  let c64_i32 : BitVec 32 := 64#32
  let v34 : BitVec 32 := Scalar.muli arg12 c64_i32
  let v35 : BitVec 32 := v34
  let v36 : Index := Scalar.indexCast v35
  let c3072 : Index := 3072#32
  ![v36.toNat, 3072]
def k0_off14 (k0_t7 : Fin k0_t7_loop.trips) : Fin 2 → Nat :=
  let c0_i32_13 : BitVec 32 := 0#32
  let c1_i32_14 : BitVec 32 := 1#32
  let arg12 : BitVec 32 := Scf.iv c0_i32_13 c1_i32_14 k0_t7
  let c64_i32 : BitVec 32 := 64#32
  let v34 : BitVec 32 := Scalar.muli arg12 c64_i32
  let v35 : BitVec 32 := v34
  let v38 : Index := Scalar.indexCast v35
  let c0 : Index := 0#32
  ![v38.toNat, 0]
def k0_cond10 (i : grid0.Coords) : BitVec 1 :=
  let arg1 : BitVec 32 := BitVec.ofNat 32 (i 1).val
  let c7_i32 : BitVec 32 := 7#32
  let v27 : BitVec 1 := Scalar.cmpi .eq arg1 c7_i32
  let v28 : BitVec 32 := Scalar.extui v27
  let c0_i32_10 : BitVec 32 := 0#32
  let v29 : BitVec 1 := Scalar.cmpi .ne v28 c0_i32_10
  v29

@[reducible] def k0_t8_loop : Scf.Loop 32 :=
  let c0_i32_13 : BitVec 32 := 0#32
  let c16_i32 : BitVec 32 := 16#32
  let v33 : BitVec 32 := Scalar.addi c0_i32_13 c16_i32
  let c1_i32_14 : BitVec 32 := 1#32
  ⟨c0_i32_13, v33, c1_i32_14⟩
def k0_mult8 (k0_t8 : Fin k0_t8_loop.trips) : BitVec 32 :=
  let c0_i32_13 : BitVec 32 := 0#32
  let c1_i32_14 : BitVec 32 := 1#32
  let arg12 : BitVec 32 := Scf.iv c0_i32_13 c1_i32_14 k0_t8
  let c64_i32 : BitVec 32 := 64#32
  let v34 : BitVec 32 := Scalar.muli arg12 c64_i32
  v34
def k0_off15 (k0_t8 : Fin k0_t8_loop.trips) : Fin 2 → Nat :=
  let c0_i32_13 : BitVec 32 := 0#32
  let c1_i32_14 : BitVec 32 := 1#32
  let arg12 : BitVec 32 := Scf.iv c0_i32_13 c1_i32_14 k0_t8
  let c64_i32 : BitVec 32 := 64#32
  let v34 : BitVec 32 := Scalar.muli arg12 c64_i32
  let v35 : BitVec 32 := v34
  let v36 : Index := Scalar.indexCast v35
  let c3584 : Index := 3584#32
  ![v36.toNat, 3584]
def k0_off16 (k0_t8 : Fin k0_t8_loop.trips) : Fin 2 → Nat :=
  let c0_i32_13 : BitVec 32 := 0#32
  let c1_i32_14 : BitVec 32 := 1#32
  let arg12 : BitVec 32 := Scf.iv c0_i32_13 c1_i32_14 k0_t8
  let c64_i32 : BitVec 32 := 64#32
  let v34 : BitVec 32 := Scalar.muli arg12 c64_i32
  let v35 : BitVec 32 := v34
  let v38 : Index := Scalar.indexCast v35
  let c0 : Index := 0#32
  ![v38.toNat, 0]
def k0_cond11 (i : grid0.Coords) : BitVec 1 :=
  let arg1 : BitVec 32 := BitVec.ofNat 32 (i 1).val
  let c43_i32_11 : BitVec 32 := 43#32
  let v30 : BitVec 1 := Scalar.cmpi .sge arg1 c43_i32_11
  let v31 : BitVec 32 := Scalar.extui v30
  let c0_i32_12 : BitVec 32 := 0#32
  let v32 : BitVec 1 := Scalar.cmpi .ne v31 c0_i32_12
  v32

def k0_mult9 : BitVec 32 :=
  let c0_i32_19 : BitVec 32 := 0#32
  let c16_i32 : BitVec 32 := 16#32
  let v39 : BitVec 32 := Scalar.muli c0_i32_19 c16_i32
  v39
def k0_mult10 (i : grid0.Coords) : BitVec 32 :=
  let arg1 : BitVec 32 := BitVec.ofNat 32 (i 1).val
  let c43_i32_13 : BitVec 32 := 43#32
  let v33 : BitVec 32 := Scalar.subi arg1 c43_i32_13
  let c128_i32 : BitVec 32 := 128#32
  let v38 : BitVec 32 := Scalar.muli v33 c128_i32
  let c0_i32_19 : BitVec 32 := 0#32
  let c16_i32 : BitVec 32 := 16#32
  let v39 : BitVec 32 := Scalar.muli c0_i32_19 c16_i32
  let v40 : BitVec 32 := v39
  let v41 : BitVec 32 := Scalar.addi v38 v40
  v41
def k0_off17 (i : grid0.Coords) (c0_i32_19 : BitVec 32) : Fin 2 → Nat :=
  let arg1 : BitVec 32 := BitVec.ofNat 32 (i 1).val
  let c43_i32_13 : BitVec 32 := 43#32
  let v33 : BitVec 32 := Scalar.subi arg1 c43_i32_13
  let c128_i32 : BitVec 32 := 128#32
  let v38 : BitVec 32 := Scalar.muli v33 c128_i32
  let c16_i32 : BitVec 32 := 16#32
  let v39 : BitVec 32 := Scalar.muli c0_i32_19 c16_i32
  let v40 : BitVec 32 := v39
  let v41 : BitVec 32 := Scalar.addi v38 v40
  let v42 : BitVec 32 := v41
  let v43 : Index := Scalar.indexCast v42
  let c0_20 : Index := 0#32
  ![v43.toNat, 0]
def k0_off18 (c0_i32_19 : BitVec 32) : Fin 2 → Nat :=
  let c16_i32 : BitVec 32 := 16#32
  let v39 : BitVec 32 := Scalar.muli c0_i32_19 c16_i32
  let v40 : BitVec 32 := v39
  let v67 : Index := Scalar.indexCast v40
  let c0_26 : Index := 0#32
  ![v67.toNat, 0]
def k0_mult11 : BitVec 32 :=
  let c1_i32_28 : BitVec 32 := 1#32
  let c16_i32_29 : BitVec 32 := 16#32
  let v72 : BitVec 32 := Scalar.muli c1_i32_28 c16_i32_29
  v72
def k0_mult12 (i : grid0.Coords) : BitVec 32 :=
  let arg1 : BitVec 32 := BitVec.ofNat 32 (i 1).val
  let c43_i32_13 : BitVec 32 := 43#32
  let v33 : BitVec 32 := Scalar.subi arg1 c43_i32_13
  let c128_i32 : BitVec 32 := 128#32
  let v38 : BitVec 32 := Scalar.muli v33 c128_i32
  let c1_i32_28 : BitVec 32 := 1#32
  let c16_i32_29 : BitVec 32 := 16#32
  let v72 : BitVec 32 := Scalar.muli c1_i32_28 c16_i32_29
  let v73 : BitVec 32 := v72
  let v74 : BitVec 32 := Scalar.addi v38 v73
  v74
def k0_mult13 : BitVec 32 :=
  let c2_i32_39 : BitVec 32 := 2#32
  let c16_i32_40 : BitVec 32 := 16#32
  let v105 : BitVec 32 := Scalar.muli c2_i32_39 c16_i32_40
  v105
def k0_mult14 (i : grid0.Coords) : BitVec 32 :=
  let arg1 : BitVec 32 := BitVec.ofNat 32 (i 1).val
  let c43_i32_13 : BitVec 32 := 43#32
  let v33 : BitVec 32 := Scalar.subi arg1 c43_i32_13
  let c128_i32 : BitVec 32 := 128#32
  let v38 : BitVec 32 := Scalar.muli v33 c128_i32
  let c2_i32_39 : BitVec 32 := 2#32
  let c16_i32_40 : BitVec 32 := 16#32
  let v105 : BitVec 32 := Scalar.muli c2_i32_39 c16_i32_40
  let v106 : BitVec 32 := v105
  let v107 : BitVec 32 := Scalar.addi v38 v106
  v107
def k0_mult15 : BitVec 32 :=
  let c3_i32_50 : BitVec 32 := 3#32
  let c16_i32_51 : BitVec 32 := 16#32
  let v138 : BitVec 32 := Scalar.muli c3_i32_50 c16_i32_51
  v138
def k0_mult16 (i : grid0.Coords) : BitVec 32 :=
  let arg1 : BitVec 32 := BitVec.ofNat 32 (i 1).val
  let c43_i32_13 : BitVec 32 := 43#32
  let v33 : BitVec 32 := Scalar.subi arg1 c43_i32_13
  let c128_i32 : BitVec 32 := 128#32
  let v38 : BitVec 32 := Scalar.muli v33 c128_i32
  let c3_i32_50 : BitVec 32 := 3#32
  let c16_i32_51 : BitVec 32 := 16#32
  let v138 : BitVec 32 := Scalar.muli c3_i32_50 c16_i32_51
  let v139 : BitVec 32 := v138
  let v140 : BitVec 32 := Scalar.addi v38 v139
  v140
def k0_mult17 : BitVec 32 :=
  let c4_i32_61 : BitVec 32 := 4#32
  let c16_i32_62 : BitVec 32 := 16#32
  let v171 : BitVec 32 := Scalar.muli c4_i32_61 c16_i32_62
  v171
def k0_mult18 (i : grid0.Coords) : BitVec 32 :=
  let arg1 : BitVec 32 := BitVec.ofNat 32 (i 1).val
  let c43_i32_13 : BitVec 32 := 43#32
  let v33 : BitVec 32 := Scalar.subi arg1 c43_i32_13
  let c128_i32 : BitVec 32 := 128#32
  let v38 : BitVec 32 := Scalar.muli v33 c128_i32
  let c4_i32_61 : BitVec 32 := 4#32
  let c16_i32_62 : BitVec 32 := 16#32
  let v171 : BitVec 32 := Scalar.muli c4_i32_61 c16_i32_62
  let v172 : BitVec 32 := v171
  let v173 : BitVec 32 := Scalar.addi v38 v172
  v173
def k0_mult19 : BitVec 32 :=
  let c5_i32_72 : BitVec 32 := 5#32
  let c16_i32_73 : BitVec 32 := 16#32
  let v204 : BitVec 32 := Scalar.muli c5_i32_72 c16_i32_73
  v204
def k0_mult20 (i : grid0.Coords) : BitVec 32 :=
  let arg1 : BitVec 32 := BitVec.ofNat 32 (i 1).val
  let c43_i32_13 : BitVec 32 := 43#32
  let v33 : BitVec 32 := Scalar.subi arg1 c43_i32_13
  let c128_i32 : BitVec 32 := 128#32
  let v38 : BitVec 32 := Scalar.muli v33 c128_i32
  let c5_i32_72 : BitVec 32 := 5#32
  let c16_i32_73 : BitVec 32 := 16#32
  let v204 : BitVec 32 := Scalar.muli c5_i32_72 c16_i32_73
  let v205 : BitVec 32 := v204
  let v206 : BitVec 32 := Scalar.addi v38 v205
  v206
def k0_mult21 : BitVec 32 :=
  let c6_i32_83 : BitVec 32 := 6#32
  let c16_i32_84 : BitVec 32 := 16#32
  let v237 : BitVec 32 := Scalar.muli c6_i32_83 c16_i32_84
  v237
def k0_mult22 (i : grid0.Coords) : BitVec 32 :=
  let arg1 : BitVec 32 := BitVec.ofNat 32 (i 1).val
  let c43_i32_13 : BitVec 32 := 43#32
  let v33 : BitVec 32 := Scalar.subi arg1 c43_i32_13
  let c128_i32 : BitVec 32 := 128#32
  let v38 : BitVec 32 := Scalar.muli v33 c128_i32
  let c6_i32_83 : BitVec 32 := 6#32
  let c16_i32_84 : BitVec 32 := 16#32
  let v237 : BitVec 32 := Scalar.muli c6_i32_83 c16_i32_84
  let v238 : BitVec 32 := v237
  let v239 : BitVec 32 := Scalar.addi v38 v238
  v239
def k0_mult23 : BitVec 32 :=
  let c7_i32_94 : BitVec 32 := 7#32
  let c16_i32_95 : BitVec 32 := 16#32
  let v270 : BitVec 32 := Scalar.muli c7_i32_94 c16_i32_95
  v270
def k0_mult24 (i : grid0.Coords) : BitVec 32 :=
  let arg1 : BitVec 32 := BitVec.ofNat 32 (i 1).val
  let c43_i32_13 : BitVec 32 := 43#32
  let v33 : BitVec 32 := Scalar.subi arg1 c43_i32_13
  let c128_i32 : BitVec 32 := 128#32
  let v38 : BitVec 32 := Scalar.muli v33 c128_i32
  let c7_i32_94 : BitVec 32 := 7#32
  let c16_i32_95 : BitVec 32 := 16#32
  let v270 : BitVec 32 := Scalar.muli c7_i32_94 c16_i32_95
  let v271 : BitVec 32 := v270
  let v272 : BitVec 32 := Scalar.addi v38 v271
  v272
def cc0_transform_0 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c42_i32 : BitVec 32 := 42#32
  let v0 : BitVec 32 := Scalar.minsi arg1 c42_i32
  let c1_i32 : BitVec 32 := 1#32
  let c0_i32 : BitVec 32 := 0#32
  let c0_i32_0 : BitVec 32 := 0#32
  ![c1_i32.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c42_i32 : BitVec 32 := 42#32
  let v0 : BitVec 32 := Scalar.minsi arg1 c42_i32
  let c1_i32 : BitVec 32 := 1#32
  let c0_i32 : BitVec 32 := 0#32
  let c0_i32_0 : BitVec 32 := 0#32
  ![c1_i32.toNat, c0_i32.toNat, v0.toNat]

def cc0_transform_4 (i : grid0.Coords) : Fin 3 → Nat :=
  let arg0 : BitVec 32 := BitVec.ofNat 32 (i 0).val
  let arg1 : BitVec 32 := BitVec.ofNat 32 (i 1).val
  let c42_i32 : BitVec 32 := 42#32
  let v0 : BitVec 32 := Scalar.minsi arg1 c42_i32
  let c1_i32 : BitVec 32 := 1#32
  let c0_i32 : BitVec 32 := 0#32
  let c0_i32_0 : BitVec 32 := 0#32
  ![c1_i32.toNat, v0.toNat, c0_i32.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c43_i32 : BitVec 32 := 43#32
  let v1 : BitVec 32 := Scalar.subi arg1 c43_i32
  let c0_i32 : BitVec 32 := 0#32
  let c7_i32 : BitVec 32 := 7#32
  let v2 : BitVec 32 := Scalar.maxsi c0_i32 v1
  let v3 : BitVec 32 := Scalar.minsi c7_i32 v2
  let v4 : BitVec 32 := Scalar.addi v0 v3
  let c0_i32_0 : BitVec 32 := 0#32
  let c0_i32_1 : BitVec 32 := 0#32
  ![v4.toNat, c0_i32_0.toNat]

def cc0_transform_8 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c43_i32 : BitVec 32 := 43#32
  let v1 : BitVec 32 := Scalar.subi arg1 c43_i32
  let c0_i32 : BitVec 32 := 0#32
  let c7_i32 : BitVec 32 := 7#32
  let v2 : BitVec 32 := Scalar.maxsi c0_i32 v1
  let v3 : BitVec 32 := Scalar.minsi c7_i32 v2
  let v4 : BitVec 32 := Scalar.addi v0 v3
  let c0_i32_0 : BitVec 32 := 0#32
  let c0_i32_1 : BitVec 32 := 0#32
  ![v4.toNat, c0_i32_0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S128x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== FfnSampleRefIdeal.lean ====
abbrev S4x2048x4096 : Shape := ⟨3, ![4, 2048, 4096]⟩
abbrev S2x4096x11008 : Shape := ⟨3, ![2, 4096, 11008]⟩
abbrev S2x11008x4096 : Shape := ⟨3, ![2, 11008, 4096]⟩
abbrev S2x4096 : Shape := ⟨2, ![2, 4096]⟩
abbrev S8192x4096 : Shape := ⟨2, ![8192, 4096]⟩
abbrev S1x4096x11008 : Shape := ⟨3, ![1, 4096, 11008]⟩
abbrev S4096x11008 : Shape := ⟨2, ![4096, 11008]⟩
abbrev S8192x11008 : Shape := ⟨2, ![8192, 11008]⟩
abbrev S_ : Shape := ⟨0, ![]⟩
abbrev S1x11008x4096 : Shape := ⟨3, ![1, 11008, 4096]⟩
abbrev S11008x4096 : Shape := ⟨2, ![11008, 4096]⟩
abbrev S1x4096 : Shape := ⟨2, ![1, 4096]⟩
abbrev S4096 : Shape := ⟨1, ![4096]⟩
abbrev S8192 : Shape := ⟨1, ![8192]⟩
abbrev S8192x1 : Shape := ⟨2, ![8192, 1]⟩

abbrev nBuf : Space → Nat
  | .hbm => 67
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S2x4096x11008, .f32⟩
  | .hbm, ⟨2, _⟩ => ⟨S2x4096x11008, .f32⟩
  | .hbm, ⟨3, _⟩ => ⟨S2x11008x4096, .f32⟩
  | .hbm, ⟨4, _⟩ => ⟨S2x4096, .f32⟩
  | .hbm, ⟨5, _⟩ => ⟨S2x4096, .f32⟩
  | .hbm, ⟨6, _⟩ => ⟨S8192x4096, .f32⟩
  | .hbm, ⟨7, _⟩ => ⟨S1x4096x11008, .f32⟩
  | .hbm, ⟨8, _⟩ => ⟨S4096x11008, .f32⟩
  | .hbm, ⟨9, _⟩ => ⟨S8192x11008, .f32⟩
  | .hbm, ⟨10, _⟩ => ⟨S8192x11008, .f32⟩
  | .hbm, ⟨11, _⟩ => ⟨S8192x11008, .f32⟩
  | .hbm, ⟨12, _⟩ => ⟨S_, .f32⟩
  | .hbm, ⟨13, _⟩ => ⟨S8192x11008, .f32⟩
  | .hbm, ⟨14, _⟩ => ⟨S8192x11008, .f32⟩
  | .hbm, ⟨15, _⟩ => ⟨S_, .f32⟩
  | .hbm, ⟨16, _⟩ => ⟨S8192x11008, .f32⟩
  | .hbm, ⟨17, _⟩ => ⟨S8192x11008, .f32⟩
  | .hbm, ⟨18, _⟩ => ⟨S8192x11008, .f32⟩
  | .hbm, ⟨19, _⟩ => ⟨S1x4096x11008, .f32⟩
  | .hbm, ⟨20, _⟩ => ⟨S4096x11008, .f32⟩
  | .hbm, ⟨21, _⟩ => ⟨S8192x11008, .f32⟩
  | .hbm, ⟨22, _⟩ => ⟨S8192x11008, .f32⟩
  | .hbm, ⟨23, _⟩ => ⟨S_, .f32⟩
  | .hbm, ⟨24, _⟩ => ⟨S8192x4096, .f32⟩
  | .hbm, ⟨25, _⟩ => ⟨S8192x4096, .f32⟩
  | .hbm, ⟨26, _⟩ => ⟨S1x11008x4096, .f32⟩
  | .hbm, ⟨27, _⟩ => ⟨S11008x4096, .f32⟩
  | .hbm, ⟨28, _⟩ => ⟨S8192x4096, .f32⟩
  | .hbm, ⟨29, _⟩ => ⟨S_, .f32⟩
  | .hbm, ⟨30, _⟩ => ⟨S8192x4096, .f32⟩
  | .hbm, ⟨31, _⟩ => ⟨S8192x4096, .f32⟩
  | .hbm, ⟨32, _⟩ => ⟨S8192x4096, .f32⟩
  | .hbm, ⟨33, _⟩ => ⟨S1x4096, .f32⟩
  | .hbm, ⟨34, _⟩ => ⟨S4096, .f32⟩
  | .hbm, ⟨35, _⟩ => ⟨S1x4096, .f32⟩
  | .hbm, ⟨36, _⟩ => ⟨S4096, .f32⟩
  | .hbm, ⟨37, _⟩ => ⟨S_, .f32⟩
  | .hbm, ⟨38, _⟩ => ⟨S8192, .f32⟩
  | .hbm, ⟨39, _⟩ => ⟨S8192x1, .f32⟩
  | .hbm, ⟨40, _⟩ => ⟨S_, .f32⟩
  | .hbm, ⟨41, _⟩ => ⟨S8192x1, .f32⟩
  | .hbm, ⟨42, _⟩ => ⟨S8192x1, .f32⟩
  | .hbm, ⟨43, _⟩ => ⟨S8192x4096, .f32⟩
  | .hbm, ⟨44, _⟩ => ⟨S8192x4096, .f32⟩
  | .hbm, ⟨45, _⟩ => ⟨S8192x4096, .f32⟩
  | .hbm, ⟨46, _⟩ => ⟨S_, .f32⟩
  | .hbm, ⟨47, _⟩ => ⟨S8192, .f32⟩
  | .hbm, ⟨48, _⟩ => ⟨S8192x1, .f32⟩
  | .hbm, ⟨49, _⟩ => ⟨S_, .f32⟩
  | .hbm, ⟨50, _⟩ => ⟨S8192x1, .f32⟩
  | .hbm, ⟨51, _⟩ => ⟨S8192x1, .f32⟩
  | .hbm, ⟨52, _⟩ => ⟨S8192x4096, .f32⟩
  | .hbm, ⟨53, _⟩ => ⟨S8192x4096, .f32⟩
  | .hbm, ⟨54, _⟩ => ⟨S_, .f32⟩
  | .hbm, ⟨55, _⟩ => ⟨S8192x1, .f32⟩
  | .hbm, ⟨56, _⟩ => ⟨S8192x1, .f32⟩
  | .hbm, ⟨57, _⟩ => ⟨S8192x1, .f32⟩
  | .hbm, ⟨58, _⟩ => ⟨S8192x4096, .f32⟩
  | .hbm, ⟨59, _⟩ => ⟨S8192x4096, .f32⟩
  | .hbm, ⟨60, _⟩ => ⟨S1x4096, .f32⟩
  | .hbm, ⟨61, _⟩ => ⟨S8192x4096, .f32⟩
  | .hbm, ⟨62, _⟩ => ⟨S8192x4096, .f32⟩
  | .hbm, ⟨63, _⟩ => ⟨S1x4096, .f32⟩
  | .hbm, ⟨64, _⟩ => ⟨S8192x4096, .f32⟩
  | .hbm, ⟨65, _⟩ => ⟨S8192x4096, .f32⟩
  | .hbm, ⟨66, _⟩ => ⟨S8192x4096, .bf16⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_0 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_1 : Ref sig .tc := ⟨.hbm, 37, rfl⟩
abbrev main_v21 : Ref sig .tc := ⟨.hbm, 38, rfl⟩
abbrev main_v22 : Ref sig .tc := ⟨.hbm, 39, rfl⟩
abbrev main_cst_2 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_3 : Ref sig .tc := ⟨.hbm, 46, rfl⟩
abbrev main_v28 : Ref sig .tc := ⟨.hbm, 47, rfl⟩
abbrev main_v29 : Ref sig .tc := ⟨.hbm, 48, rfl⟩
abbrev main_cst_4 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_5 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩

abbrev nD : Nat := 1
abbrev τ : Topo := Topo.v7x

variable {F : FTy → Type} [FloatOps F]
-- ==== OutprojSample.lean ====
abbrev S8192x4096 : Shape := ⟨2, ![8192, 4096]⟩
abbrev S2x8192x4096 : Shape := ⟨3, ![2, 8192, 4096]⟩
abbrev S2x4096 : Shape := ⟨2, ![2, 4096]⟩
abbrev S2x1x4096 : Shape := ⟨3, ![2, 1, 4096]⟩
abbrev S1024x512 : Shape := ⟨2, ![1024, 512]⟩
abbrev S1024x1024 : Shape := ⟨2, ![1024, 1024]⟩
abbrev S1x1024x4096 : Shape := ⟨3, ![1, 1024, 4096]⟩
abbrev S1x1x4096 : Shape := ⟨3, ![1, 1, 4096]⟩
abbrev S128x4096 : Shape := ⟨2, ![128, 4096]⟩
abbrev S1024x4096 : Shape := ⟨2, ![1024, 4096]⟩
abbrev S64x512 : Shape := ⟨2, ![64, 512]⟩
abbrev S1x4096 : Shape := ⟨2, ![1, 4096]⟩
abbrev S16x4096 : Shape := ⟨2, ![16, 4096]⟩
abbrev S16 : Shape := ⟨1, ![16]⟩
abbrev S16x1 : Shape := ⟨2, ![16, 1]⟩

abbrev nBuf : Space → Nat
  | .hbm => 11
  | .vmem => 15
  | .smem => 0
  | _ => 0

abbrev bufTy : (tb : Table) → Fin (tcTables nBuf tb) → BufTy
  | .hbm, ⟨0, _⟩ => ⟨S8192x4096, .f32⟩
  | .hbm, ⟨1, _⟩ => ⟨S8192x4096, .bf16⟩
  | .hbm, ⟨2, _⟩ => ⟨S8192x4096, .bf16⟩
  | .hbm, ⟨3, _⟩ => ⟨S2x8192x4096, .f32⟩
  | .hbm, ⟨4, _⟩ => ⟨S2x4096, .f32⟩
  | .hbm, ⟨5, _⟩ => ⟨S2x4096, .f32⟩
  | .hbm, ⟨6, _⟩ => ⟨S2x8192x4096, .bf16⟩
  | .hbm, ⟨7, _⟩ => ⟨S2x1x4096, .f32⟩
  | .hbm, ⟨8, _⟩ => ⟨S2x1x4096, .f32⟩
  | .hbm, ⟨9, _⟩ => ⟨S8192x4096, .f32⟩
  | .hbm, ⟨10, _⟩ => ⟨S8192x4096, .bf16⟩
  | .local _ .vmem, ⟨0, _⟩ => ⟨S1024x512, .f32⟩
  | .local _ .vmem, ⟨1, _⟩ => ⟨S1024x512, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1x1024x4096, .bf16⟩
  | .local _ .vmem, ⟨7, _⟩ => ⟨S1x1024x4096, .bf16⟩
  | .local _ .vmem, ⟨8, _⟩ => ⟨S1x1x4096, .f32⟩
  | .local _ .vmem, ⟨9, _⟩ => ⟨S1x1x4096, .f32⟩
  | .local _ .vmem, ⟨10, _⟩ => ⟨S128x4096, .f32⟩
  | .local _ .vmem, ⟨11, _⟩ => ⟨S128x4096, .f32⟩
  | .local _ .vmem, ⟨12, _⟩ => ⟨S128x4096, .bf16⟩
  | .local _ .vmem, ⟨13, _⟩ => ⟨S128x4096, .bf16⟩
  | .local _ .vmem, ⟨14, _⟩ => ⟨S1024x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![8, 16], ![false, false]⟩

def k0_cond3 (i : grid0.Coords) : BitVec 1 :=
  let arg1 : BitVec 32 := BitVec.ofNat 32 (i 1).val
  let c0_i32_2 : BitVec 32 := 0#32
  let v6 : BitVec 1 := Scalar.cmpi .eq arg1 c0_i32_2
  let v7 : BitVec 32 := Scalar.extui v6
  let c0_i32_3 : BitVec 32 := 0#32
  let v8 : BitVec 1 := Scalar.cmpi .ne v7 c0_i32_3
  v8

@[reducible] def k0_t1_loop : Scf.Loop 32 :=
  let c0_i32_13 : BitVec 32 := 0#32
  let c16_i32 : BitVec 32 := 16#32
  let v33 : BitVec 32 := Scalar.addi c0_i32_13 c16_i32
  let c1_i32_14 : BitVec 32 := 1#32
  ⟨c0_i32_13, v33, c1_i32_14⟩
def k0_mult1 (k0_t1 : Fin k0_t1_loop.trips) : BitVec 32 :=
  let c0_i32_13 : BitVec 32 := 0#32
  let c1_i32_14 : BitVec 32 := 1#32
  let arg11 : BitVec 32 := Scf.iv c0_i32_13 c1_i32_14 k0_t1
  let c64_i32 : BitVec 32 := 64#32
  let v34 : BitVec 32 := Scalar.muli arg11 c64_i32
  v34
def k0_off1 (k0_t1 : Fin k0_t1_loop.trips) : Fin 2 → Nat :=
  let c0_i32_13 : BitVec 32 := 0#32
  let c1_i32_14 : BitVec 32 := 1#32
  let arg11 : BitVec 32 := Scf.iv c0_i32_13 c1_i32_14 k0_t1
  let c64_i32 : BitVec 32 := 64#32
  let v34 : BitVec 32 := Scalar.muli arg11 c64_i32
  let v35 : BitVec 32 := v34
  let v36 : Index := Scalar.indexCast v35
  let c0 : Index := 0#32
  ![v36.toNat, 0]
def k0_off2 (k0_t1 : Fin k0_t1_loop.trips) : Fin 2 → Nat :=
  let c0_i32_13 : BitVec 32 := 0#32
  let c1_i32_14 : BitVec 32 := 1#32
  let arg11 : BitVec 32 := Scf.iv c0_i32_13 c1_i32_14 k0_t1
  let c64_i32 : BitVec 32 := 64#32
  let v34 : BitVec 32 := Scalar.muli arg11 c64_i32
  let v35 : BitVec 32 := v34
  let v38 : Index := Scalar.indexCast v35
  let c0_16 : Index := 0#32
  ![v38.toNat, 0]
def k0_cond4 (i : grid0.Coords) : BitVec 1 :=
  let arg1 : BitVec 32 := BitVec.ofNat 32 (i 1).val
  let c1_i32 : BitVec 32 := 1#32
  let v9 : BitVec 1 := Scalar.cmpi .eq arg1 c1_i32
  let v10 : BitVec 32 := Scalar.extui v9
  let c0_i32_4 : BitVec 32 := 0#32
  let v11 : BitVec 1 := Scalar.cmpi .ne v10 c0_i32_4
  v11

@[reducible] def k0_t2_loop : Scf.Loop 32 :=
  let c0_i32_13 : BitVec 32 := 0#32
  let c16_i32 : BitVec 32 := 16#32
  let v33 : BitVec 32 := Scalar.addi c0_i32_13 c16_i32
  let c1_i32_14 : BitVec 32 := 1#32
  ⟨c0_i32_13, v33, c1_i32_14⟩
def k0_mult2 (k0_t2 : Fin k0_t2_loop.trips) : BitVec 32 :=
  let c0_i32_13 : BitVec 32 := 0#32
  let c1_i32_14 : BitVec 32 := 1#32
  let arg11 : BitVec 32 := Scf.iv c0_i32_13 c1_i32_14 k0_t2
  let c64_i32 : BitVec 32 := 64#32
  let v34 : BitVec 32 := Scalar.muli arg11 c64_i32
  v34
def k0_off3 (k0_t2 : Fin k0_t2_loop.trips) : Fin 2 → Nat :=
  let c0_i32_13 : BitVec 32 := 0#32
  let c1_i32_14 : BitVec 32 := 1#32
  let arg11 : BitVec 32 := Scf.iv c0_i32_13 c1_i32_14 k0_t2
  let c64_i32 : BitVec 32 := 64#32
  let v34 : BitVec 32 := Scalar.muli arg11 c64_i32
  let v35 : BitVec 32 := v34
  let v36 : Index := Scalar.indexCast v35
  let c512 : Index := 512#32
  ![v36.toNat, 512]
def k0_off4 (k0_t2 : Fin k0_t2_loop.trips) : Fin 2 → Nat :=
  let c0_i32_13 : BitVec 32 := 0#32
  let c1_i32_14 : BitVec 32 := 1#32
  let arg11 : BitVec 32 := Scf.iv c0_i32_13 c1_i32_14 k0_t2
  let c64_i32 : BitVec 32 := 64#32
  let v34 : BitVec 32 := Scalar.muli arg11 c64_i32
  let v35 : BitVec 32 := v34
  let v38 : Index := Scalar.indexCast v35
  let c0 : Index := 0#32
  ![v38.toNat, 0]
def k0_cond5 (i : grid0.Coords) : BitVec 1 :=
  let arg1 : BitVec 32 := BitVec.ofNat 32 (i 1).val
  let c2_i32 : BitVec 32 := 2#32
  let v12 : BitVec 1 := Scalar.cmpi .eq arg1 c2_i32
  let v13 : BitVec 32 := Scalar.extui v12
  let c0_i32_5 : BitVec 32 := 0#32
  let v14 : BitVec 1 := Scalar.cmpi .ne v13 c0_i32_5
  v14

@[reducible] def k0_t3_loop : Scf.Loop 32 :=
  let c0_i32_13 : BitVec 32 := 0#32
  let c16_i32 : BitVec 32 := 16#32
  let v33 : BitVec 32 := Scalar.addi c0_i32_13 c16_i32
  let c1_i32_14 : BitVec 32 := 1#32
  ⟨c0_i32_13, v33, c1_i32_14⟩
def k0_mult3 (k0_t3 : Fin k0_t3_loop.trips) : BitVec 32 :=
  let c0_i32_13 : BitVec 32 := 0#32
  let c1_i32_14 : BitVec 32 := 1#32
  let arg11 : BitVec 32 := Scf.iv c0_i32_13 c1_i32_14 k0_t3
  let c64_i32 : BitVec 32 := 64#32
  let v34 : BitVec 32 := Scalar.muli arg11 c64_i32
  v34
def k0_off5 (k0_t3 : Fin k0_t3_loop.trips) : Fin 2 → Nat :=
  let c0_i32_13 : BitVec 32 := 0#32
  let c1_i32_14 : BitVec 32 := 1#32
  let arg11 : BitVec 32 := Scf.iv c0_i32_13 c1_i32_14 k0_t3
  let c64_i32 : BitVec 32 := 64#32
  let v34 : BitVec 32 := Scalar.muli arg11 c64_i32
  let v35 : BitVec 32 := v34
  let v36 : Index := Scalar.indexCast v35
  let c1024 : Index := 1024#32
  ![v36.toNat, 1024]
def k0_off6 (k0_t3 : Fin k0_t3_loop.trips) : Fin 2 → Nat :=
  let c0_i32_13 : BitVec 32 := 0#32
  let c1_i32_14 : BitVec 32 := 1#32
  let arg11 : BitVec 32 := Scf.iv c0_i32_13 c1_i32_14 k0_t3
  let c64_i32 : BitVec 32 := 64#32
  let v34 : BitVec 32 := Scalar.muli arg11 c64_i32
  let v35 : BitVec 32 := v34
  let v38 : Index := Scalar.indexCast v35
  let c0 : Index := 0#32
  ![v38.toNat, 0]
def k0_cond6 (i : grid0.Coords) : BitVec 1 :=
  let arg1 : BitVec 32 := BitVec.ofNat 32 (i 1).val
  let c3_i32 : BitVec 32 := 3#32
  let v15 : BitVec 1 := Scalar.cmpi .eq arg1 c3_i32
  let v16 : BitVec 32 := Scalar.extui v15
  let c0_i32_6 : BitVec 32 := 0#32
  let v17 : BitVec 1 := Scalar.cmpi .ne v16 c0_i32_6
  v17

@[reducible] def k0_t4_loop : Scf.Loop 32 :=
  let c0_i32_13 : BitVec 32 := 0#32
  let c16_i32 : BitVec 32 := 16#32
  let v33 : BitVec 32 := Scalar.addi c0_i32_13 c16_i32
  let c1_i32_14 : BitVec 32 := 1#32
  ⟨c0_i32_13, v33, c1_i32_14⟩
def k0_mult4 (k0_t4 : Fin k0_t4_loop.trips) : BitVec 32 :=
  let c0_i32_13 : BitVec 32 := 0#32
  let c1_i32_14 : BitVec 32 := 1#32
  let arg11 : BitVec 32 := Scf.iv c0_i32_13 c1_i32_14 k0_t4
  let c64_i32 : BitVec 32 := 64#32
  let v34 : BitVec 32 := Scalar.muli arg11 c64_i32
  v34
def k0_off7 (k0_t4 : Fin k0_t4_loop.trips) : Fin 2 → Nat :=
  let c0_i32_13 : BitVec 32 := 0#32
  let c1_i32_14 : BitVec 32 := 1#32
  let arg11 : BitVec 32 := Scf.iv c0_i32_13 c1_i32_14 k0_t4
  let c64_i32 : BitVec 32 := 64#32
  let v34 : BitVec 32 := Scalar.muli arg11 c64_i32
  let v35 : BitVec 32 := v34
  let v36 : Index := Scalar.indexCast v35
  let c1536 : Index := 1536#32
  ![v36.toNat, 1536]
def k0_off8 (k0_t4 : Fin k0_t4_loop.trips) : Fin 2 → Nat :=
  let c0_i32_13 : BitVec 32 := 0#32
  let c1_i32_14 : BitVec 32 := 1#32
  let arg11 : BitVec 32 := Scf.iv c0_i32_13 c1_i32_14 k0_t4
  let c64_i32 : BitVec 32 := 64#32
  let v34 : BitVec 32 := Scalar.muli arg11 c64_i32
  let v35 : BitVec 32 := v34
  let v38 : Index := Scalar.indexCast v35
  let c0 : Index := 0#32
  ![v38.toNat, 0]
def k0_cond7 (i : grid0.Coords) : BitVec 1 :=
  let arg1 : BitVec 32 := BitVec.ofNat 32 (i 1).val
  let c4_i32 : BitVec 32 := 4#32
  let v18 : BitVec 1 := Scalar.cmpi .eq arg1 c4_i32
  let v19 : BitVec 32 := Scalar.extui v18
  let c0_i32_7 : BitVec 32 := 0#32
  let v20 : BitVec 1 := Scalar.cmpi .ne v19 c0_i32_7
  v20

@[reducible] def k0_t5_loop : Scf.Loop 32 :=
  let c0_i32_13 : BitVec 32 := 0#32
  let c16_i32 : BitVec 32 := 16#32
  let v33 : BitVec 32 := Scalar.addi c0_i32_13 c16_i32
  let c1_i32_14 : BitVec 32 := 1#32
  ⟨c0_i32_13, v33, c1_i32_14⟩
def k0_mult5 (k0_t5 : Fin k0_t5_loop.trips) : BitVec 32 :=
  let c0_i32_13 : BitVec 32 := 0#32
  let c1_i32_14 : BitVec 32 := 1#32
  let arg11 : BitVec 32 := Scf.iv c0_i32_13 c1_i32_14 k0_t5
  let c64_i32 : BitVec 32 := 64#32
  let v34 : BitVec 32 := Scalar.muli arg11 c64_i32
  v34
def k0_off9 (k0_t5 : Fin k0_t5_loop.trips) : Fin 2 → Nat :=
  let c0_i32_13 : BitVec 32 := 0#32
  let c1_i32_14 : BitVec 32 := 1#32
  let arg11 : BitVec 32 := Scf.iv c0_i32_13 c1_i32_14 k0_t5
  let c64_i32 : BitVec 32 := 64#32
  let v34 : BitVec 32 := Scalar.muli arg11 c64_i32
  let v35 : BitVec 32 := v34
  let v36 : Index := Scalar.indexCast v35
  let c2048 : Index := 2048#32
  ![v36.toNat, 2048]
def k0_off10 (k0_t5 : Fin k0_t5_loop.trips) : Fin 2 → Nat :=
  let c0_i32_13 : BitVec 32 := 0#32
  let c1_i32_14 : BitVec 32 := 1#32
  let arg11 : BitVec 32 := Scf.iv c0_i32_13 c1_i32_14 k0_t5
  let c64_i32 : BitVec 32 := 64#32
  let v34 : BitVec 32 := Scalar.muli arg11 c64_i32
  let v35 : BitVec 32 := v34
  let v38 : Index := Scalar.indexCast v35
  let c0 : Index := 0#32
  ![v38.toNat, 0]
def k0_cond8 (i : grid0.Coords) : BitVec 1 :=
  let arg1 : BitVec 32 := BitVec.ofNat 32 (i 1).val
  let c5_i32 : BitVec 32 := 5#32
  let v21 : BitVec 1 := Scalar.cmpi .eq arg1 c5_i32
  let v22 : BitVec 32 := Scalar.extui v21
  let c0_i32_8 : BitVec 32 := 0#32
  let v23 : BitVec 1 := Scalar.cmpi .ne v22 c0_i32_8
  v23

@[reducible] def k0_t6_loop : Scf.Loop 32 :=
  let c0_i32_13 : BitVec 32 := 0#32
  let c16_i32 : BitVec 32 := 16#32
  let v33 : BitVec 32 := Scalar.addi c0_i32_13 c16_i32
  let c1_i32_14 : BitVec 32 := 1#32
  ⟨c0_i32_13, v33, c1_i32_14⟩
def k0_mult6 (k0_t6 : Fin k0_t6_loop.trips) : BitVec 32 :=
  let c0_i32_13 : BitVec 32 := 0#32
  let c1_i32_14 : BitVec 32 := 1#32
  let arg11 : BitVec 32 := Scf.iv c0_i32_13 c1_i32_14 k0_t6
  let c64_i32 : BitVec 32 := 64#32
  let v34 : BitVec 32 := Scalar.muli arg11 c64_i32
  v34
def k0_off11 (k0_t6 : Fin k0_t6_loop.trips) : Fin 2 → Nat :=
  let c0_i32_13 : BitVec 32 := 0#32
  let c1_i32_14 : BitVec 32 := 1#32
  let arg11 : BitVec 32 := Scf.iv c0_i32_13 c1_i32_14 k0_t6
  let c64_i32 : BitVec 32 := 64#32
  let v34 : BitVec 32 := Scalar.muli arg11 c64_i32
  let v35 : BitVec 32 := v34
  let v36 : Index := Scalar.indexCast v35
  let c2560 : Index := 2560#32
  ![v36.toNat, 2560]
def k0_off12 (k0_t6 : Fin k0_t6_loop.trips) : Fin 2 → Nat :=
  let c0_i32_13 : BitVec 32 := 0#32
  let c1_i32_14 : BitVec 32 := 1#32
  let arg11 : BitVec 32 := Scf.iv c0_i32_13 c1_i32_14 k0_t6
  let c64_i32 : BitVec 32 := 64#32
  let v34 : BitVec 32 := Scalar.muli arg11 c64_i32
  let v35 : BitVec 32 := v34
  let v38 : Index := Scalar.indexCast v35
  let c0 : Index := 0#32
  ![v38.toNat, 0]
def k0_cond9 (i : grid0.Coords) : BitVec 1 :=
  let arg1 : BitVec 32 := BitVec.ofNat 32 (i 1).val
  let c6_i32 : BitVec 32 := 6#32
  let v24 : BitVec 1 := Scalar.cmpi .eq arg1 c6_i32
  let v25 : BitVec 32 := Scalar.extui v24
  let c0_i32_9 : BitVec 32 := 0#32
  let v26 : BitVec 1 := Scalar.cmpi .ne v25 c0_i32_9
  v26

@[reducible] def k0_t7_loop : Scf.Loop 32 :=
  let c0_i32_13 : BitVec 32 := 0#32
  let c16_i32 : BitVec 32 := 16#32
  let v33 : BitVec 32 := Scalar.addi c0_i32_13 c16_i32
  let c1_i32_14 : BitVec 32 := 1#32
  ⟨c0_i32_13, v33, c1_i32_14⟩
def k0_mult7 (k0_t7 : Fin k0_t7_loop.trips) : BitVec 32 :=
  let c0_i32_13 : BitVec 32 := 0#32
  let c1_i32_14 : BitVec 32 := 1#32
  let arg11 : BitVec 32 := Scf.iv c0_i32_13 c1_i32_14 k0_t7
  let c64_i32 : BitVec 32 := 64#32
  let v34 : BitVec 32 := Scalar.muli arg11 c64_i32
  v34
def k0_off13 (k0_t7 : Fin k0_t7_loop.trips) : Fin 2 → Nat :=
  let c0_i32_13 : BitVec 32 := 0#32
  let c1_i32_14 : BitVec 32 := 1#32
  let arg11 : BitVec 32 := Scf.iv c0_i32_13 c1_i32_14 k0_t7
  let c64_i32 : BitVec 32 := 64#32
  let v34 : BitVec 32 := Scalar.muli arg11 c64_i32
  let v35 : BitVec 32 := v34
  let v36 : Index := Scalar.indexCast v35
  let c3072 : Index := 3072#32
  ![v36.toNat, 3072]
def k0_off14 (k0_t7 : Fin k0_t7_loop.trips) : Fin 2 → Nat :=
  let c0_i32_13 : BitVec 32 := 0#32
  let c1_i32_14 : BitVec 32 := 1#32
  let arg11 : BitVec 32 := Scf.iv c0_i32_13 c1_i32_14 k0_t7
  let c64_i32 : BitVec 32 := 64#32
  let v34 : BitVec 32 := Scalar.muli arg11 c64_i32
  let v35 : BitVec 32 := v34
  let v38 : Index := Scalar.indexCast v35
  let c0 : Index := 0#32
  ![v38.toNat, 0]
def k0_cond10 (i : grid0.Coords) : BitVec 1 :=
  let arg1 : BitVec 32 := BitVec.ofNat 32 (i 1).val
  let c7_i32 : BitVec 32 := 7#32
  let v27 : BitVec 1 := Scalar.cmpi .eq arg1 c7_i32
  let v28 : BitVec 32 := Scalar.extui v27
  let c0_i32_10 : BitVec 32 := 0#32
  let v29 : BitVec 1 := Scalar.cmpi .ne v28 c0_i32_10
  v29

@[reducible] def k0_t8_loop : Scf.Loop 32 :=
  let c0_i32_13 : BitVec 32 := 0#32
  let c16_i32 : BitVec 32 := 16#32
  let v33 : BitVec 32 := Scalar.addi c0_i32_13 c16_i32
  let c1_i32_14 : BitVec 32 := 1#32
  ⟨c0_i32_13, v33, c1_i32_14⟩
def k0_mult8 (k0_t8 : Fin k0_t8_loop.trips) : BitVec 32 :=
  let c0_i32_13 : BitVec 32 := 0#32
  let c1_i32_14 : BitVec 32 := 1#32
  let arg11 : BitVec 32 := Scf.iv c0_i32_13 c1_i32_14 k0_t8
  let c64_i32 : BitVec 32 := 64#32
  let v34 : BitVec 32 := Scalar.muli arg11 c64_i32
  v34
def k0_off15 (k0_t8 : Fin k0_t8_loop.trips) : Fin 2 → Nat :=
  let c0_i32_13 : BitVec 32 := 0#32
  let c1_i32_14 : BitVec 32 := 1#32
  let arg11 : BitVec 32 := Scf.iv c0_i32_13 c1_i32_14 k0_t8
  let c64_i32 : BitVec 32 := 64#32
  let v34 : BitVec 32 := Scalar.muli arg11 c64_i32
  let v35 : BitVec 32 := v34
  let v36 : Index := Scalar.indexCast v35
  let c3584 : Index := 3584#32
  ![v36.toNat, 3584]
def k0_off16 (k0_t8 : Fin k0_t8_loop.trips) : Fin 2 → Nat :=
  let c0_i32_13 : BitVec 32 := 0#32
  let c1_i32_14 : BitVec 32 := 1#32
  let arg11 : BitVec 32 := Scf.iv c0_i32_13 c1_i32_14 k0_t8
  let c64_i32 : BitVec 32 := 64#32
  let v34 : BitVec 32 := Scalar.muli arg11 c64_i32
  let v35 : BitVec 32 := v34
  let v38 : Index := Scalar.indexCast v35
  let c0 : Index := 0#32
  ![v38.toNat, 0]
def k0_cond11 (i : grid0.Coords) : BitVec 1 :=
  let arg1 : BitVec 32 := BitVec.ofNat 32 (i 1).val
  let c8_i32_11 : BitVec 32 := 8#32
  let v30 : BitVec 1 := Scalar.cmpi .sge arg1 c8_i32_11
  let v31 : BitVec 32 := Scalar.extui v30
  let c0_i32_12 : BitVec 32 := 0#32
  let v32 : BitVec 1 := Scalar.cmpi .ne v31 c0_i32_12
  v32

def k0_mult9 : BitVec 32 :=
  let c0_i32_19 : BitVec 32 := 0#32
  let c16_i32 : BitVec 32 := 16#32
  let v39 : BitVec 32 := Scalar.muli c0_i32_19 c16_i32
  v39
def k0_mult10 (i : grid0.Coords) : BitVec 32 :=
  let arg1 : BitVec 32 := BitVec.ofNat 32 (i 1).val
  let c8_i32_13 : BitVec 32 := 8#32
  let v33 : BitVec 32 := Scalar.subi arg1 c8_i32_13
  let c128_i32 : BitVec 32 := 128#32
  let v38 : BitVec 32 := Scalar.muli v33 c128_i32
  let c0_i32_19 : BitVec 32 := 0#32
  let c16_i32 : BitVec 32 := 16#32
  let v39 : BitVec 32 := Scalar.muli c0_i32_19 c16_i32
  let v40 : BitVec 32 := v39
  let v41 : BitVec 32 := Scalar.addi v38 v40
  v41
def k0_off17 (i : grid0.Coords) (c0_i32_19 : BitVec 32) : Fin 2 → Nat :=
  let arg1 : BitVec 32 := BitVec.ofNat 32 (i 1).val
  let c8_i32_13 : BitVec 32 := 8#32
  let v33 : BitVec 32 := Scalar.subi arg1 c8_i32_13
  let c128_i32 : BitVec 32 := 128#32
  let v38 : BitVec 32 := Scalar.muli v33 c128_i32
  let c16_i32 : BitVec 32 := 16#32
  let v39 : BitVec 32 := Scalar.muli c0_i32_19 c16_i32
  let v40 : BitVec 32 := v39
  let v41 : BitVec 32 := Scalar.addi v38 v40
  let v42 : BitVec 32 := v41
  let v43 : Index := Scalar.indexCast v42
  let c0_20 : Index := 0#32
  ![v43.toNat, 0]
def k0_off18 (c0_i32_19 : BitVec 32) : Fin 2 → Nat :=
  let c16_i32 : BitVec 32 := 16#32
  let v39 : BitVec 32 := Scalar.muli c0_i32_19 c16_i32
  let v40 : BitVec 32 := v39
  let v65 : Index := Scalar.indexCast v40
  let c0_25 : Index := 0#32
  ![v65.toNat, 0]
def k0_mult11 : BitVec 32 :=
  let c1_i32_27 : BitVec 32 := 1#32
  let c16_i32_28 : BitVec 32 := 16#32
  let v70 : BitVec 32 := Scalar.muli c1_i32_27 c16_i32_28
  v70
def k0_mult12 (i : grid0.Coords) : BitVec 32 :=
  let arg1 : BitVec 32 := BitVec.ofNat 32 (i 1).val
  let c8_i32_13 : BitVec 32 := 8#32
  let v33 : BitVec 32 := Scalar.subi arg1 c8_i32_13
  let c128_i32 : BitVec 32 := 128#32
  let v38 : BitVec 32 := Scalar.muli v33 c128_i32
  let c1_i32_27 : BitVec 32 := 1#32
  let c16_i32_28 : BitVec 32 := 16#32
  let v70 : BitVec 32 := Scalar.muli c1_i32_27 c16_i32_28
  let v71 : BitVec 32 := v70
  let v72 : BitVec 32 := Scalar.addi v38 v71
  v72
def k0_mult13 : BitVec 32 :=
  let c2_i32_37 : BitVec 32 := 2#32
  let c16_i32_38 : BitVec 32 := 16#32
  let v101 : BitVec 32 := Scalar.muli c2_i32_37 c16_i32_38
  v101
def k0_mult14 (i : grid0.Coords) : BitVec 32 :=
  let arg1 : BitVec 32 := BitVec.ofNat 32 (i 1).val
  let c8_i32_13 : BitVec 32 := 8#32
  let v33 : BitVec 32 := Scalar.subi arg1 c8_i32_13
  let c128_i32 : BitVec 32 := 128#32
  let v38 : BitVec 32 := Scalar.muli v33 c128_i32
  let c2_i32_37 : BitVec 32 := 2#32
  let c16_i32_38 : BitVec 32 := 16#32
  let v101 : BitVec 32 := Scalar.muli c2_i32_37 c16_i32_38
  let v102 : BitVec 32 := v101
  let v103 : BitVec 32 := Scalar.addi v38 v102
  v103
def k0_mult15 : BitVec 32 :=
  let c3_i32_47 : BitVec 32 := 3#32
  let c16_i32_48 : BitVec 32 := 16#32
  let v132 : BitVec 32 := Scalar.muli c3_i32_47 c16_i32_48
  v132
def k0_mult16 (i : grid0.Coords) : BitVec 32 :=
  let arg1 : BitVec 32 := BitVec.ofNat 32 (i 1).val
  let c8_i32_13 : BitVec 32 := 8#32
  let v33 : BitVec 32 := Scalar.subi arg1 c8_i32_13
  let c128_i32 : BitVec 32 := 128#32
  let v38 : BitVec 32 := Scalar.muli v33 c128_i32
  let c3_i32_47 : BitVec 32 := 3#32
  let c16_i32_48 : BitVec 32 := 16#32
  let v132 : BitVec 32 := Scalar.muli c3_i32_47 c16_i32_48
  let v133 : BitVec 32 := v132
  let v134 : BitVec 32 := Scalar.addi v38 v133
  v134
def k0_mult17 : BitVec 32 :=
  let c4_i32_57 : BitVec 32 := 4#32
  let c16_i32_58 : BitVec 32 := 16#32
  let v163 : BitVec 32 := Scalar.muli c4_i32_57 c16_i32_58
  v163
def k0_mult18 (i : grid0.Coords) : BitVec 32 :=
  let arg1 : BitVec 32 := BitVec.ofNat 32 (i 1).val
  let c8_i32_13 : BitVec 32 := 8#32
  let v33 : BitVec 32 := Scalar.subi arg1 c8_i32_13
  let c128_i32 : BitVec 32 := 128#32
  let v38 : BitVec 32 := Scalar.muli v33 c128_i32
  let c4_i32_57 : BitVec 32 := 4#32
  let c16_i32_58 : BitVec 32 := 16#32
  let v163 : BitVec 32 := Scalar.muli c4_i32_57 c16_i32_58
  let v164 : BitVec 32 := v163
  let v165 : BitVec 32 := Scalar.addi v38 v164
  v165
def k0_mult19 : BitVec 32 :=
  let c5_i32_67 : BitVec 32 := 5#32
  let c16_i32_68 : BitVec 32 := 16#32
  let v194 : BitVec 32 := Scalar.muli c5_i32_67 c16_i32_68
  v194
def k0_mult20 (i : grid0.Coords) : BitVec 32 :=
  let arg1 : BitVec 32 := BitVec.ofNat 32 (i 1).val
  let c8_i32_13 : BitVec 32 := 8#32
  let v33 : BitVec 32 := Scalar.subi arg1 c8_i32_13
  let c128_i32 : BitVec 32 := 128#32
  let v38 : BitVec 32 := Scalar.muli v33 c128_i32
  let c5_i32_67 : BitVec 32 := 5#32
  let c16_i32_68 : BitVec 32 := 16#32
  let v194 : BitVec 32 := Scalar.muli c5_i32_67 c16_i32_68
  let v195 : BitVec 32 := v194
  let v196 : BitVec 32 := Scalar.addi v38 v195
  v196
def k0_mult21 : BitVec 32 :=
  let c6_i32_77 : BitVec 32 := 6#32
  let c16_i32_78 : BitVec 32 := 16#32
  let v225 : BitVec 32 := Scalar.muli c6_i32_77 c16_i32_78
  v225
def k0_mult22 (i : grid0.Coords) : BitVec 32 :=
  let arg1 : BitVec 32 := BitVec.ofNat 32 (i 1).val
  let c8_i32_13 : BitVec 32 := 8#32
  let v33 : BitVec 32 := Scalar.subi arg1 c8_i32_13
  let c128_i32 : BitVec 32 := 128#32
  let v38 : BitVec 32 := Scalar.muli v33 c128_i32
  let c6_i32_77 : BitVec 32 := 6#32
  let c16_i32_78 : BitVec 32 := 16#32
  let v225 : BitVec 32 := Scalar.muli c6_i32_77 c16_i32_78
  let v226 : BitVec 32 := v225
  let v227 : BitVec 32 := Scalar.addi v38 v226
  v227
def k0_mult23 : BitVec 32 :=
  let c7_i32_87 : BitVec 32 := 7#32
  let c16_i32_88 : BitVec 32 := 16#32
  let v256 : BitVec 32 := Scalar.muli c7_i32_87 c16_i32_88
  v256
def k0_mult24 (i : grid0.Coords) : BitVec 32 :=
  let arg1 : BitVec 32 := BitVec.ofNat 32 (i 1).val
  let c8_i32_13 : BitVec 32 := 8#32
  let v33 : BitVec 32 := Scalar.subi arg1 c8_i32_13
  let c128_i32 : BitVec 32 := 128#32
  let v38 : BitVec 32 := Scalar.muli v33 c128_i32
  let c7_i32_87 : BitVec 32 := 7#32
  let c16_i32_88 : BitVec 32 := 16#32
  let v256 : BitVec 32 := Scalar.muli c7_i32_87 c16_i32_88
  let v257 : BitVec 32 := v256
  let v258 : BitVec 32 := Scalar.addi v38 v257
  v258
def cc0_transform_0 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.subi arg1 c4_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  ![arg0.toNat, v2.toNat]

def cc0_transform_3 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c0_i32 : BitVec 32 := 0#32
  let c0_i32_0 : BitVec 32 := 0#32
  let c0_i32_1 : BitVec 32 := 0#32
  ![c0_i32.toNat, v0.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c8_i32_0 : BitVec 32 := 8#32
  let v1 : BitVec 32 := Scalar.subi arg1 c8_i32_0
  let c0_i32 : BitVec 32 := 0#32
  let c7_i32 : BitVec 32 := 7#32
  let v2 : BitVec 32 := Scalar.maxsi c0_i32 v1
  let v3 : BitVec 32 := Scalar.minsi c7_i32 v2
  let v4 : BitVec 32 := Scalar.addi v0 v3
  let c0_i32_1 : BitVec 32 := 0#32
  let c0_i32_2 : BitVec 32 := 0#32
  ![v4.toNat, c0_i32_1.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c8_i32_0 : BitVec 32 := 8#32
  let v1 : BitVec 32 := Scalar.subi arg1 c8_i32_0
  let c0_i32 : BitVec 32 := 0#32
  let c7_i32 : BitVec 32 := 7#32
  let v2 : BitVec 32 := Scalar.maxsi c0_i32 v1
  let v3 : BitVec 32 := Scalar.minsi c7_i32 v2
  let v4 : BitVec 32 := Scalar.addi v0 v3
  let c0_i32_1 : BitVec 32 := 0#32
  let c0_i32_2 : BitVec 32 := 0#32
  ![v4.toNat, c0_i32_1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S128x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== OutprojSampleRefIdeal.lean ====
abbrev S8192x4096 : Shape := ⟨2, ![8192, 4096]⟩
abbrev S2x8192x4096 : Shape := ⟨3, ![2, 8192, 4096]⟩
abbrev S2x4096 : Shape := ⟨2, ![2, 4096]⟩
abbrev S8192x8192 : Shape := ⟨2, ![8192, 8192]⟩
abbrev S1x8192x4096 : Shape := ⟨3, ![1, 8192, 4096]⟩
abbrev S_ : Shape := ⟨0, ![]⟩
abbrev S1x4096 : Shape := ⟨2, ![1, 4096]⟩
abbrev S4096 : Shape := ⟨1, ![4096]⟩
abbrev S8192 : Shape := ⟨1, ![8192]⟩
abbrev S8192x1 : Shape := ⟨2, ![8192, 1]⟩

abbrev nBuf : Space → Nat
  | .hbm => 48
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x4096, .bf16⟩
  | .hbm, ⟨2, _⟩ => ⟨S8192x4096, .bf16⟩
  | .hbm, ⟨3, _⟩ => ⟨S2x8192x4096, .f32⟩
  | .hbm, ⟨4, _⟩ => ⟨S2x4096, .f32⟩
  | .hbm, ⟨5, _⟩ => ⟨S2x4096, .f32⟩
  | .hbm, ⟨6, _⟩ => ⟨S8192x8192, .bf16⟩
  | .hbm, ⟨7, _⟩ => ⟨S1x8192x4096, .f32⟩
  | .hbm, ⟨8, _⟩ => ⟨S8192x4096, .f32⟩
  | .hbm, ⟨9, _⟩ => ⟨S8192x4096, .f32⟩
  | .hbm, ⟨10, _⟩ => ⟨S_, .f32⟩
  | .hbm, ⟨11, _⟩ => ⟨S8192x4096, .f32⟩
  | .hbm, ⟨12, _⟩ => ⟨S8192x4096, .f32⟩
  | .hbm, ⟨13, _⟩ => ⟨S8192x4096, .f32⟩
  | .hbm, ⟨14, _⟩ => ⟨S1x4096, .f32⟩
  | .hbm, ⟨15, _⟩ => ⟨S4096, .f32⟩
  | .hbm, ⟨16, _⟩ => ⟨S1x4096, .f32⟩
  | .hbm, ⟨17, _⟩ => ⟨S4096, .f32⟩
  | .hbm, ⟨18, _⟩ => ⟨S_, .f32⟩
  | .hbm, ⟨19, _⟩ => ⟨S8192, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x4096, .f32⟩
  | .hbm, ⟨25, _⟩ => ⟨S8192x4096, .f32⟩
  | .hbm, ⟨26, _⟩ => ⟨S8192x4096, .f32⟩
  | .hbm, ⟨27, _⟩ => ⟨S_, .f32⟩
  | .hbm, ⟨28, _⟩ => ⟨S8192, .f32⟩
  | .hbm, ⟨29, _⟩ => ⟨S8192x1, .f32⟩
  | .hbm, ⟨30, _⟩ => ⟨S_, .f32⟩
  | .hbm, ⟨31, _⟩ => ⟨S8192x1, .f32⟩
  | .hbm, ⟨32, _⟩ => ⟨S8192x1, .f32⟩
  | .hbm, ⟨33, _⟩ => ⟨S8192x4096, .f32⟩
  | .hbm, ⟨34, _⟩ => ⟨S8192x4096, .f32⟩
  | .hbm, ⟨35, _⟩ => ⟨S_, .f32⟩
  | .hbm, ⟨36, _⟩ => ⟨S8192x1, .f32⟩
  | .hbm, ⟨37, _⟩ => ⟨S8192x1, .f32⟩
  | .hbm, ⟨38, _⟩ => ⟨S8192x1, .f32⟩
  | .hbm, ⟨39, _⟩ => ⟨S8192x4096, .f32⟩
  | .hbm, ⟨40, _⟩ => ⟨S8192x4096, .f32⟩
  | .hbm, ⟨41, _⟩ => ⟨S1x4096, .f32⟩
  | .hbm, ⟨42, _⟩ => ⟨S8192x4096, .f32⟩
  | .hbm, ⟨43, _⟩ => ⟨S8192x4096, .f32⟩
  | .hbm, ⟨44, _⟩ => ⟨S1x4096, .f32⟩
  | .hbm, ⟨45, _⟩ => ⟨S8192x4096, .f32⟩
  | .hbm, ⟨46, _⟩ => ⟨S8192x4096, .f32⟩
  | .hbm, ⟨47, _⟩ => ⟨S8192x4096, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩

abbrev nD : Nat := 1
abbrev τ : Topo := Topo.v7x

variable {F : FTy → Type} [FloatOps F]
-- ==== InprojSample.lean ====
abbrev S8192x4096 : Shape := ⟨2, ![8192, 4096]⟩
abbrev S2x4096x18560 : Shape := ⟨3, ![2, 4096, 18560]⟩
abbrev S128 : Shape := ⟨1, ![128]⟩
abbrev S2x4096x1024 : Shape := ⟨3, ![2, 4096, 1024]⟩
abbrev S2x4096x8x128 : Shape := ⟨4, ![2, 4096, 8, 128]⟩
abbrev S2x4096x8x256 : Shape := ⟨4, ![2, 4096, 8, 256]⟩
abbrev S2x4096x2048 : Shape := ⟨3, ![2, 4096, 2048]⟩
abbrev S2x4096x4096 : Shape := ⟨3, ![2, 4096, 4096]⟩
abbrev S2x4096x8192 : Shape := ⟨3, ![2, 4096, 8192]⟩
abbrev S2x4096x18432 : Shape := ⟨3, ![2, 4096, 18432]⟩
abbrev S2x4096x128 : Shape := ⟨3, ![2, 4096, 128]⟩
abbrev S_ : Shape := ⟨0, ![]⟩
abbrev S128x1 : Shape := ⟨2, ![128, 1]⟩
abbrev S8192x18432 : Shape := ⟨2, ![8192, 18432]⟩
abbrev S8192x128 : Shape := ⟨2, ![8192, 128]⟩
abbrev S1024x4096 : Shape := ⟨2, ![1024, 4096]⟩
abbrev S1x4096x1024 : Shape := ⟨3, ![1, 4096, 1024]⟩
abbrev S1x4096x128 : Shape := ⟨3, ![1, 4096, 128]⟩
abbrev S1024x1024 : Shape := ⟨2, ![1024, 1024]⟩
abbrev S1024x128 : Shape := ⟨2, ![1024, 128]⟩
abbrev S4096x1024 : Shape := ⟨2, ![4096, 1024]⟩
abbrev S4096x128 : Shape := ⟨2, ![4096, 128]⟩

abbrev nBuf : Space → Nat
  | .hbm => 25
  | .vmem => 9
  | .smem => 0
  | _ => 0

abbrev bufTy : (tb : Table) → Fin (tcTables nBuf tb) → BufTy
  | .hbm, ⟨0, _⟩ => ⟨S8192x4096, .f32⟩
  | .hbm, ⟨1, _⟩ => ⟨S2x4096x18560, .f32⟩
  | .hbm, ⟨2, _⟩ => ⟨S128, .i32⟩
  | .hbm, ⟨3, _⟩ => ⟨S128, .i1⟩
  | .hbm, ⟨4, _⟩ => ⟨S2x4096x18560, .bf16⟩
  | .hbm, ⟨5, _⟩ => ⟨S2x4096x1024, .bf16⟩
  | .hbm, ⟨6, _⟩ => ⟨S2x4096x8x128, .bf16⟩
  | .hbm, ⟨7, _⟩ => ⟨S2x4096x1024, .bf16⟩
  | .hbm, ⟨8, _⟩ => ⟨S2x4096x8x128, .bf16⟩
  | .hbm, ⟨9, _⟩ => ⟨S2x4096x8x256, .bf16⟩
  | .hbm, ⟨10, _⟩ => ⟨S2x4096x2048, .bf16⟩
  | .hbm, ⟨11, _⟩ => ⟨S2x4096x4096, .bf16⟩
  | .hbm, ⟨12, _⟩ => ⟨S2x4096x8192, .bf16⟩
  | .hbm, ⟨13, _⟩ => ⟨S2x4096x4096, .bf16⟩
  | .hbm, ⟨14, _⟩ => ⟨S2x4096x18432, .bf16⟩
  | .hbm, ⟨15, _⟩ => ⟨S2x4096x128, .bf16⟩
  | .hbm, ⟨16, _⟩ => ⟨S_, .i32⟩
  | .hbm, ⟨17, _⟩ => ⟨S128, .i32⟩
  | .hbm, ⟨18, _⟩ => ⟨S128, .i32⟩
  | .hbm, ⟨19, _⟩ => ⟨S128, .i32⟩
  | .hbm, ⟨20, _⟩ => ⟨S128x1, .i32⟩
  | .hbm, ⟨21, _⟩ => ⟨S2x4096x128, .bf16⟩
  | .hbm, ⟨22, _⟩ => ⟨S8192x4096, .bf16⟩
  | .hbm, ⟨23, _⟩ => ⟨S8192x18432, .f32⟩
  | .hbm, ⟨24, _⟩ => ⟨S8192x128, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x1024, .bf16⟩
  | .local _ .vmem, ⟨3, _⟩ => ⟨S1x4096x1024, .bf16⟩
  | .local _ .vmem, ⟨4, _⟩ => ⟨S1x4096x128, .bf16⟩
  | .local _ .vmem, ⟨5, _⟩ => ⟨S1024x1024, .f32⟩
  | .local _ .vmem, ⟨6, _⟩ => ⟨S1024x1024, .f32⟩
  | .local _ .vmem, ⟨7, _⟩ => ⟨S1024x128, .f32⟩
  | .local _ .vmem, ⟨8, _⟩ => ⟨S1024x128, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_c_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18_0 : Ref sig .tc := ⟨.hbm, 23, rfl⟩
abbrev main_v18_1 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 18], ![false, false]⟩

def k0_cond1 (i : grid0.Coords) : BitVec 1 :=
  let arg1 : BitVec 32 := BitVec.ofNat 32 (i 1).val
  let c0_i32 : BitVec 32 := 0#32
  let v6 : BitVec 1 := Scalar.cmpi .eq arg1 c0_i32
  let v7 : BitVec 32 := Scalar.extui v6
  let c0_i32_6 : BitVec 32 := 0#32
  let v8 : BitVec 1 := Scalar.cmpi .ne v7 c0_i32_6
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x4096x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== InprojSampleRefIdeal.lean ====
abbrev S8192x4096 : Shape := ⟨2, ![8192, 4096]⟩
abbrev S2x4096x18560 : Shape := ⟨3, ![2, 4096, 18560]⟩
abbrev S1x4096x18560 : Shape := ⟨3, ![1, 4096, 18560]⟩
abbrev S4096x18560 : Shape := ⟨2, ![4096, 18560]⟩
abbrev S8192x18560 : Shape := ⟨2, ![8192, 18560]⟩
abbrev S8192x6144 : Shape := ⟨2, ![8192, 6144]⟩
abbrev S8192x128 : Shape := ⟨2, ![8192, 128]⟩
abbrev S8192x8192 : Shape := ⟨2, ![8192, 8192]⟩
abbrev S8192x1024 : Shape := ⟨2, ![8192, 1024]⟩
abbrev S8192x8x128 : Shape := ⟨3, ![8192, 8, 128]⟩
abbrev S8192x8x256 : Shape := ⟨3, ![8192, 8, 256]⟩
abbrev S8192x64 : Shape := ⟨2, ![8192, 64]⟩
abbrev S8192x8x8 : Shape := ⟨3, ![8192, 8, 8]⟩
abbrev S8192x8x16 : Shape := ⟨3, ![8192, 8, 16]⟩
abbrev S8192x2048 : Shape := ⟨2, ![8192, 2048]⟩
abbrev S8192x18432 : Shape := ⟨2, ![8192, 18432]⟩

abbrev nBuf : Space → Nat
  | .hbm => 23
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S2x4096x18560, .f32⟩
  | .hbm, ⟨2, _⟩ => ⟨S1x4096x18560, .f32⟩
  | .hbm, ⟨3, _⟩ => ⟨S4096x18560, .f32⟩
  | .hbm, ⟨4, _⟩ => ⟨S8192x18560, .f32⟩
  | .hbm, ⟨5, _⟩ => ⟨S8192x4096, .f32⟩
  | .hbm, ⟨6, _⟩ => ⟨S8192x6144, .f32⟩
  | .hbm, ⟨7, _⟩ => ⟨S8192x128, .f32⟩
  | .hbm, ⟨8, _⟩ => ⟨S8192x8192, .f32⟩
  | .hbm, ⟨9, _⟩ => ⟨S8192x4096, .f32⟩
  | .hbm, ⟨10, _⟩ => ⟨S8192x1024, .f32⟩
  | .hbm, ⟨11, _⟩ => ⟨S8192x1024, .f32⟩
  | .hbm, ⟨12, _⟩ => ⟨S8192x8x128, .f32⟩
  | .hbm, ⟨13, _⟩ => ⟨S8192x8x128, .f32⟩
  | .hbm, ⟨14, _⟩ => ⟨S8192x8x256, .f32⟩
  | .hbm, ⟨15, _⟩ => ⟨S8192x64, .f32⟩
  | .hbm, ⟨16, _⟩ => ⟨S8192x64, .f32⟩
  | .hbm, ⟨17, _⟩ => ⟨S8192x8x8, .f32⟩
  | .hbm, ⟨18, _⟩ => ⟨S8192x8x8, .f32⟩
  | .hbm, ⟨19, _⟩ => ⟨S8192x8x16, .f32⟩
  | .hbm, ⟨20, _⟩ => ⟨S8192x2048, .f32⟩
  | .hbm, ⟨21, _⟩ => ⟨S8192x18432, .f32⟩
  | .hbm, ⟨22, _⟩ => ⟨S8192x128, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩

abbrev nD : Nat := 1
abbrev τ : Topo := Topo.v7x

variable {F : FTy → Type} [FloatOps F]
-- ==== Proof.FfnMath.lean ====
module
public import Idealize.ShloMosaic.Lib.Pointwise
public import Idealize.ShloMosaic.PureOps.Ideal
public import Idealize.ShloMosaic.PureOps.Ideal.Laws
public import Idealize.ShloMosaic.Lib.IdealHost

/-! The feed-forward layer as mathematics: the gated hidden unit, the residual sum and the row
normalisation, and the two facts about sums by which the kernel's order of work and the plain one
agree. -/

@[expose] public section
noncomputable section
open Idealize.ShloMosaic
namespace FfnVal

/-- The layer normalisation of one row `z`, scaled by `g` and shifted by `b`, at column `q`. -/
def lnRow (z g b : Fin 4096 → EReal) (q : Fin 4096) : EReal :=
  (z q - Ideal.div (∑ k, z k) (Ideal.ofBits .f32 0x45800000#32)) *
      Ideal.rsqrt (Ideal.div
        (∑ k, (z k - Ideal.div (∑ l, z l) (Ideal.ofBits .f32 0x45800000#32)) *
          (z k - Ideal.div (∑ l, z l) (Ideal.ofBits .f32 0x45800000#32)))
        (Ideal.ofBits .f32 0x45800000#32) + Ideal.ofBits .f32 0x3727C5AC#32) * g q + b q

/-- One gated hidden unit of a row `x`: `silu (x·wg) · (x·wu)`. -/
def hidden (x wg wu : Fin 4096 → EReal) : EReal :=
  (∑ l, x l * wg l) * Ideal.logistic (∑ l, x l * wg l) * ∑ l, x l * wu l

/-- The residual sum before normalisation, at one row and column. -/
def preNorm (x : Fin 4096 → EReal) (wg wu : Fin 4096 → Fin 11008 → EReal) (wd : Fin 11008 → Fin 4096 → EReal)
    (q : Fin 4096) : EReal :=
  Ideal.ofBits .f32 0x3FB504F3#32 * x q +
    Ideal.ofBits .f32 0x3F000000#32 * ∑ k, hidden x (fun l => wg l k) (fun l => wu l k) * wd k q

/-- The layer's result at token `r` and column `q`, of the six arrays it takes (the weights of layer 1). -/
def ffnAt (a0 : (⟨3, ![8, 2048, 4096]⟩ : Shape).Idx → EReal) (a1 a2 : (⟨3, ![2, 4096, 11008]⟩ : Shape).Idx → EReal)
    (a3 : (⟨3, ![2, 11008, 4096]⟩ : Shape).Idx → EReal) (a4 a5 : (⟨2, ![2, 4096]⟩ : Shape).Idx → EReal)
    (r : Fin 16384) (q : Fin 4096) : EReal :=
  lnRow (preNorm (fun l => a0 (ix3 ⟨r.val / 2048, by omega⟩ ⟨r.val % 2048, by omega⟩ l))
      (fun l k => a1 (ix3 1 l k)) (fun l k => a2 (ix3 1 l k)) (fun k l => a3 (ix3 1 k l)))
    (fun k => a4 (ix2 1 k)) (fun k => a5 (ix2 1 k)) q

/-- Half of a sum and twice the residual weight is the plain residual sum. -/
theorem half_mul_add (S x : EReal) :
    Ideal.ofBits .f32 0x3F000000#32 * (S + Ideal.ofBits .f32 0x403504F3#32 * x)
      = Ideal.ofBits .f32 0x3FB504F3#32 * x + Ideal.ofBits .f32 0x3F000000#32 * S := by
  have h1 : Ideal.ofBits .f32 0x3F000000#32 = (((1 : ℝ) / 2 : ℝ) : EReal) := by
    simp [Ideal.ofBits, Ideal.ieee, -EReal.coe_mul]; norm_num
  have h2 : Ideal.ofBits .f32 0x403504F3#32 = (((11863283 : ℝ) / 4194304 : ℝ) : EReal) := by
    simp [Ideal.ofBits, Ideal.ieee, -EReal.coe_mul]; norm_num
  have h3 : Ideal.ofBits .f32 0x3FB504F3#32 = (((11863283 : ℝ) / 8388608 : ℝ) : EReal) := by
    simp [Ideal.ofBits, Ideal.ieee, -EReal.coe_mul]; norm_num
  have h4 : Ideal.ofBits .f32 0x3F000000#32 * Ideal.ofBits .f32 0x403504F3#32 = Ideal.ofBits .f32 0x3FB504F3#32 := by
    rw [h1, h2, h3, ← EReal.coe_mul]; norm_num
  rw [EReal.left_distrib_of_nonneg_of_ne_top (by rw [h1]; exact_mod_cast (by norm_num : (0 : ℝ) ≤ 1 / 2))
    (by rw [h1]; exact EReal.coe_ne_top _), ← mul_assoc, h4, add_comm]

/-- A sum over the hidden width, in 43 blocks of 256. -/
theorem sum_blocks (f : Fin 11008 → EReal) :
    ∑ k, f k = ∑ j : Fin 43, ∑ k : Fin 256, f ⟨256 * j.val + k.val, by omega⟩ := by
  rw [← Fintype.sum_prod_type']
  refine (Fintype.sum_equiv (finProdFinEquiv (m := 43) (n := 256)) _ _ fun p => ?_).symm
  refine congrArg f (Fin.ext ?_)
  show 256 * p.1.val + p.2.val = p.2.val + 256 * p.1.val
  omega

end FfnVal
-- ==== Proof.FfnBlocks.lean ====
module
public import proofs.«01_k».proof.Proof.Gen.FfnIdeal.Value
public import proofs.«01_k».proof.Proof.FfnMath
public import Idealize.ShloMosaic.Lib.Pipeline.Value
public import Idealize.ShloMosaic.Lib.StableHlo.Run
public import Idealize.ShloMosaic.Lib.Claim
public import Idealize.ShloMosaic.Lib.Tactic

/-! The blocks the feed-forward call reads at a grid point, as entries of the arrays it is given. Point
`t` is block `t % 51` of the hidden width (from 43 on: a normalising step) for row block `t / 51`. -/

@[expose] public section
set_option maxRecDepth 16384
noncomputable section
open Idealize.ShloMosaic Idealize.ShloMosaic.TcCoe Idealize.ShloMosaic.Tactic
open Cert.FfnIdeal Cert.FfnIdeal.Gen
namespace FfnVal

variable (m : (ℓ : Loc nD τ sig) → Buf (Elt Ideal) ℓ) (c : Dev nD)

/-- The token that row `p` of row block `t / 51` is. -/
def tok (t : ℕ) (p : Fin 1024) : Fin 16384 := ⟨(1024 * (t / 51) + p.val) % 16384, Nat.mod_lt _ (by decide)⟩

theorem lt_of_pt (t : Fin cfg0.N) : t.val < 816 := lt_of_lt_of_eq t.isLt N_0

theorem idx0 : ∀ t : Fin cfg0.N, win0_0.index t 0 = t.val / 51 ∧ win0_0.index t 1 = min (t.val % 51) 7 := by decide +kernel
theorem idx1 : ∀ t : Fin cfg0.N, win0_1.index t 0 = t.val / 51 ∧ win0_1.index t 1 = 0 := by decide +kernel
theorem idx2 : ∀ t : Fin cfg0.N, win0_2.index t 0 = 1 ∧ win0_2.index t 1 = 0 ∧ win0_2.index t 2 = min (t.val % 51) 42 := by decide +kernel
theorem idx3 : ∀ t : Fin cfg0.N, win0_3.index t 0 = 1 ∧ win0_3.index t 1 = 0 ∧ win0_3.index t 2 = min (t.val % 51) 42 := by decide +kernel
theorem idx4 : ∀ t : Fin cfg0.N, win0_4.index t 0 = 1 ∧ win0_4.index t 1 = min (t.val % 51) 42 ∧ win0_4.index t 2 = 0 := by decide +kernel
theorem idx5 : ∀ t : Fin cfg0.N, win0_5.index t 0 = 1 ∧ win0_5.index t 1 = 0 ∧ win0_5.index t 2 = 0 := by decide +kernel
theorem idx6 : ∀ t : Fin cfg0.N, win0_6.index t 0 = 1 ∧ win0_6.index t 1 = 0 ∧ win0_6.index t 2 = 0 := by decide +kernel

theorem V_v0 (r : Fin 16384) (q : Fin 4096) : (V m c main_v0 : S16384x4096.Idx → EReal) (ix2 r q)
    = m ((c.tc : Thread nD τ).loc main_arg0) (ix3 ⟨r.val / 2048, by omega⟩ ⟨r.val % 2048, by omega⟩ q) := by
  entry_read
  pointwise! []

theorem V_v1 (r : Fin 16384) (q : Fin 4096) : (V m c main_v1 : S16384x4096.Idx → EReal) (ix2 r q)
    = m ((c.tc : Thread nD τ).loc main_arg0) (ix3 ⟨r.val / 2048, by omega⟩ ⟨r.val % 2048, by omega⟩ q) := by
  entry_read
  pointwise! []

theorem V_v2 (i : S2x4096x11008.Idx) : (V m c main_v2 : S2x4096x11008.Idx → EReal) i = m ((c.tc : Thread nD τ).loc main_arg1) i := by
  entry_read
  pointwise! []

theorem V_v3 (i : S2x4096x11008.Idx) : (V m c main_v3 : S2x4096x11008.Idx → EReal) i = m ((c.tc : Thread nD τ).loc main_arg2) i := by
  entry_read
  pointwise! []

theorem V_v4 (i : S2x11008x4096.Idx) : (V m c main_v4 : S2x11008x4096.Idx → EReal) i = m ((c.tc : Thread nD τ).loc main_arg3) i := by
  entry_read
  pointwise! []

theorem V_v5 (q : Fin 4096) : (V m c main_v5 : S2x1x4096.Idx → EReal) (ix3 1 0 q) = m ((c.tc : Thread nD τ).loc main_arg4) (ix2 1 q) := by
  entry_read
  pointwise! []

theorem V_v6 (q : Fin 4096) : (V m c main_v6 : S2x1x4096.Idx → EReal) (ix3 1 0 q) = m ((c.tc : Thread nD τ).loc main_arg5) (ix2 1 q) := by
  entry_read
  pointwise! []

theorem blk0 (t : Fin cfg0.N) (p : Fin 1024) (q : Fin 512) :
    (iblk m c 0 t : S1024x512.Idx → EReal) (ix2 p q)
      = m ((c.tc : Thread nD τ).loc main_arg0) (ix3 ⟨(tok t.val p).val / 2048, by omega⟩ ⟨(tok t.val p).val % 2048, by omega⟩ ⟨512 * min (t.val % 51) 7 + q.val, by omega⟩) := by
  have ht := lt_of_pt t
  rw [← V_v0 m c (tok t.val p) ⟨512 * min (t.val % 51) 7 + q.val, by omega⟩]
  unfold iblk
  rw [View.read_apply]
  show V m c main_v0 _ = V m c main_v0 _
  congr 1
  funext a
  apply Fin.ext
  match a with
  | ⟨0, _⟩ => show win0_0.index t 0 * 1024 + 1 * p.val = (1024 * (t.val / 51) + p.val) % 16384; rw [(idx0 t).1]; omega
  | ⟨1, _⟩ => show win0_0.index t 1 * 512 + 1 * q.val = 512 * min (t.val % 51) 7 + q.val; rw [(idx0 t).2]; omega

theorem blk1 (t : Fin cfg0.N) (p : Fin 1024) (q : Fin 4096) :
    (iblk m c 1 t : S1024x4096.Idx → EReal) (ix2 p q)
      = m ((c.tc : Thread nD τ).loc main_arg0) (ix3 ⟨(tok t.val p).val / 2048, by omega⟩ ⟨(tok t.val p).val % 2048, by omega⟩ q) := by
  have ht := lt_of_pt t
  rw [← V_v1 m c (tok t.val p) q]
  unfold iblk
  rw [View.read_apply]
  show V m c main_v1 _ = V m c main_v1 _
  congr 1
  funext a
  apply Fin.ext
  match a with
  | ⟨0, _⟩ => show win0_1.index t 0 * 1024 + 1 * p.val = (1024 * (t.val / 51) + p.val) % 16384; rw [(idx1 t).1]; omega
  | ⟨1, _⟩ => show win0_1.index t 1 * 4096 + 1 * q.val = q.val; rw [(idx1 t).2]; omega

theorem blk2 (t : Fin cfg0.N) (l : Fin 4096) (k : Fin 256) :
    (iblk m c 2 t : S1x4096x256.Idx → EReal) (ix3 0 l k)
      = m ((c.tc : Thread nD τ).loc main_arg1) (ix3 1 l ⟨256 * min (t.val % 51) 42 + k.val, by omega⟩) := by
  have ht := lt_of_pt t
  rw [← V_v2 m c (ix3 1 l ⟨256 * min (t.val % 51) 42 + k.val, by omega⟩)]
  unfold iblk
  rw [View.read_apply]
  show V m c main_v2 _ = V m c main_v2 _
  congr 1
  funext a
  apply Fin.ext
  match a with
  | ⟨0, _⟩ => show win0_2.index t 0 * 1 + 1 * 0 = 1; rw [(idx2 t).1]
  | ⟨1, _⟩ => show win0_2.index t 1 * 4096 + 1 * l.val = l.val; rw [(idx2 t).2.1]; omega
  | ⟨2, _⟩ => show win0_2.index t 2 * 256 + 1 * k.val = 256 * min (t.val % 51) 42 + k.val; rw [(idx2 t).2.2]; omega

theorem blk3 (t : Fin cfg0.N) (l : Fin 4096) (k : Fin 256) :
    (iblk m c 3 t : S1x4096x256.Idx → EReal) (ix3 0 l k)
      = m ((c.tc : Thread nD τ).loc main_arg2) (ix3 1 l ⟨256 * min (t.val % 51) 42 + k.val, by omega⟩) := by
  have ht := lt_of_pt t
  rw [← V_v3 m c (ix3 1 l ⟨256 * min (t.val % 51) 42 + k.val, by omega⟩)]
  unfold iblk
  rw [View.read_apply]
  show V m c main_v3 _ = V m c main_v3 _
  congr 1
  funext a
  apply Fin.ext
  match a with
  | ⟨0, _⟩ => show win0_3.index t 0 * 1 + 1 * 0 = 1; rw [(idx3 t).1]
  | ⟨1, _⟩ => show win0_3.index t 1 * 4096 + 1 * l.val = l.val; rw [(idx3 t).2.1]; omega
  | ⟨2, _⟩ => show win0_3.index t 2 * 256 + 1 * k.val = 256 * min (t.val % 51) 42 + k.val; rw [(idx3 t).2.2]; omega

theorem blk4 (t : Fin cfg0.N) (l : Fin 4096) (k : Fin 256) :
    (iblk m c 4 t : S1x256x4096.Idx → EReal) (ix3 0 k l)
      = m ((c.tc : Thread nD τ).loc main_arg3) (ix3 1 ⟨256 * min (t.val % 51) 42 + k.val, by omega⟩ l) := by
  have ht := lt_of_pt t
  rw [← V_v4 m c (ix3 1 ⟨256 * min (t.val % 51) 42 + k.val, by omega⟩ l)]
  unfold iblk
  rw [View.read_apply]
  show V m c main_v4 _ = V m c main_v4 _
  congr 1
  funext a
  apply Fin.ext
  match a with
  | ⟨0, _⟩ => show win0_4.index t 0 * 1 + 1 * 0 = 1; rw [(idx4 t).1]
  | ⟨1, _⟩ => show win0_4.index t 1 * 256 + 1 * k.val = 256 * min (t.val % 51) 42 + k.val; rw [(idx4 t).2.1]; omega
  | ⟨2, _⟩ => show win0_4.index t 2 * 4096 + 1 * l.val = l.val; rw [(idx4 t).2.2]; omega

theorem blk5 (t : Fin cfg0.N) (q : Fin 4096) :
    (iblk m c 5 t : S1x1x4096.Idx → EReal) (ix3 0 0 q)
      = m ((c.tc : Thread nD τ).loc main_arg4) (ix2 1 q) := by
  have ht := lt_of_pt t
  rw [← V_v5 m c q]
  unfold iblk
  rw [View.read_apply]
  show V m c main_v5 _ = V m c main_v5 _
  congr 1
  funext a
  apply Fin.ext
  match a with
  | ⟨0, _⟩ => show win0_5.index t 0 * 1 + 1 * 0 = 1; rw [(idx5 t).1]
  | ⟨1, _⟩ => show win0_5.index t 1 * 1 + 1 * 0 = 0; rw [(idx5 t).2.1]
  | ⟨2, _⟩ => show win0_5.index t 2 * 4096 + 1 * q.val = q.val; rw [(idx5 t).2.2]; omega

theorem blk6 (t : Fin cfg0.N) (q : Fin 4096) :
    (iblk m c 6 t : S1x1x4096.Idx → EReal) (ix3 0 0 q)
      = m ((c.tc : Thread nD τ).loc main_arg5) (ix2 1 q) := by
  have ht := lt_of_pt t
  rw [← V_v6 m c q]
  unfold iblk
  rw [View.read_apply]
  show V m c main_v6 _ = V m c main_v6 _
  congr 1
  funext a
  apply Fin.ext
  match a with
  | ⟨0, _⟩ => show win0_6.index t 0 * 1 + 1 * 0 = 1; rw [(idx6 t).1]
  | ⟨1, _⟩ => show win0_6.index t 1 * 1 + 1 * 0 = 0; rw [(idx6 t).2.1]
  | ⟨2, _⟩ => show win0_6.index t 2 * 4096 + 1 * q.val = q.val; rw [(idx6 t).2.2]; omega

end FfnVal
-- ==== Proof.FfnLoops.lean ====
module
public import proofs.«01_k».proof.Proof.Gen.FfnIdeal.Loops
public import Idealize.ShloMosaic.Lib.Pipeline.Value
public import Idealize.ShloMosaic.Lib.Tactic
public import Idealize.ShloMosaic.Lib.WritesUnit
public import Idealize.ShloMosaic.Lib.Pipeline.ValueKit
public import Idealize.ShloMosaic.Lib.Pointwise
public import Idealize.ShloMosaic.PureOps.Ideal

/-! The feed-forward call's residual loops: while the first eight blocks of the hidden width are
summed, each adds `2α·x` to one band of 512 columns of the accumulator, 64 rows a trip. One lemma
says what sixteen such trips leave, and each of the eight loops is an instance of it. -/

@[expose] public section
set_option maxRecDepth 16384
noncomputable section
open Idealize.ShloMosaic Idealize.ShloMosaic.TcCoe Idealize.ShloMosaic.Tactic
open Cert.FfnIdeal Cert.FfnIdeal.Gen
namespace FfnVal

/-- The accumulator `a` with `2α·u` added to its 512 columns from column `C` on. -/
def resid (C : ℕ) (u : Vec Ideal S1024x512 .f32) (a : Vec Ideal S1024x4096 .f32) :
    Vec Ideal S1024x4096 .f32 := fun y =>
  if C ≤ (y 1).val ∧ (y 1).val < C + 512 then
    a y + Ideal.ofBits .f32 0x403504F3#32 *
      u (ix2 (n0 := 1024) (n1 := 512) (y 0) ⟨((y 1).val - C) % 512, Nat.mod_lt _ (by decide)⟩)
  else a y

/-- Sixteen trips that each rewrite 64 rows of one band of columns, every entry by a function of its
    own place and of what it held: after `k` trips the first `64·k` rows of the band are rewritten. -/
theorem trips_read {κ : Kind} {sp : Space} (v : View sig κ sp S1024x4096 .f32)
    (G : v.ty.Contents (Elt Ideal)) (C : ℕ)
    (p : ℕ → List (View.Piece (Elt Ideal) S1024x4096 .f32)) (h0 : p 0 = [])
    (Z : S1024x4096.Idx → EReal → EReal)
    (hs : ∀ k, k < 16 → ∃ off inb w, off = ![64 * k, C] ∧
      p (k + 1) = ⟨Rect.unit (s := S1024x4096) off S64x512.size inb, w⟩ :: p k ∧
      ∀ (x : S64x512.Idx) (y : S1024x4096.Idx), (∀ a, (y a).val = off a + (x a).val) →
        w x = Z y (v.read (Elt Ideal) (v.writes (Elt Ideal) G (p k)) y)) :
    ∀ k, k ≤ 16 → ∀ y : S1024x4096.Idx,
      v.read (Elt Ideal) (v.writes (Elt Ideal) G (p k)) y
        = if (y 0).val < 64 * k ∧ C ≤ (y 1).val ∧ (y 1).val < C + 512
          then Z y (v.read (Elt Ideal) G y) else v.read (Elt Ideal) G y := by
  intro k
  induction k with
  | zero =>
    intro _ y
    rw [h0, if_neg (by omega)]
    rfl
  | succ k ih =>
    intro hk y
    obtain ⟨off, inb, w, rfl, hp, hw⟩ := hs k (by omega)
    rw [hp]
    by_cases hin : (64 * k ≤ (y 0).val ∧ (y 0).val < 64 * k + 64) ∧ C ≤ (y 1).val ∧ (y 1).val < C + 512
    · let x : S64x512.Idx := ix2 (n0 := 64) (n1 := 512) ⟨(y 0).val - 64 * k, by omega⟩ ⟨(y 1).val - C, by omega⟩
      have hx : ∀ a, (y a).val = (![64 * k, C] : Fin 2 → ℕ) a + (x a).val := by
        intro a
        match a with
        | ⟨0, _⟩ => show (y 0).val = 64 * k + ((y 0).val - 64 * k); omega
        | ⟨1, _⟩ => show (y 1).val = C + ((y 1).val - C); omega
      rw [View.read_writes_cons_unit_of_mem v G inb w (p k) y x rfl hx, hw x y hx, ih (by omega) y,
        if_neg (by omega), if_pos (by omega)]
    · rw [show v.read (Elt Ideal) (v.writes (Elt Ideal) G (⟨Rect.unit (s := S1024x4096) ![64 * k, C] S64x512.size inb, w⟩ :: p k)) y
          = v.read (Elt Ideal) (v.writes (Elt Ideal) G (p k)) y from ?_, ih (by omega) y]
      · congr 1
        exact propext ⟨fun h => by omega, fun h => by omega⟩
      · by_cases h0 : 64 * k ≤ (y 0).val ∧ (y 0).val < 64 * k + 64
        · exact View.read_writes_cons_unit_of_not_mem v G inb w (p k) y rfl 1
            (by show (y 1).val < C ∨ C + 512 ≤ (y 1).val; omega)
        · exact View.read_writes_cons_unit_of_not_mem v G inb w (p k) y rfl 0
            (by show (y 0).val < 64 * k ∨ 64 * k + 64 ≤ (y 0).val; omega)

/-- The trips of one residual loop, in the form the eight loops' terms have: each stores, at rows
    `64·k` on and columns `C` on, the accumulator's piece plus `2α` times the operand's rows. -/
theorem resid_read (arg11 : Memref sig .tc .vmem S1024x4096 .f32) (arg2 : Memref sig .tc .vmem S1024x512 .f32)
    (G : arg11.view.ty.Contents (Elt Ideal)) (X : arg2.view.ty.Contents (Elt Ideal)) (C : ℕ)
    (p : ℕ → List (View.Piece (Elt Ideal) S1024x4096 .f32)) (h0 : p 0 = [])
    (pay : Vec Ideal S64x512 .f32 → Vec Ideal S64x512 .f32 → Vec Ideal S64x512 .f32)
    (hpay : ∀ a b x, pay a b x = a x + Ideal.ofBits .f32 0x403504F3#32 * b x)
    (hs : ∀ k, k < 16 → ∃ off inb offx inbx, off = ![64 * k, C] ∧ offx = ![64 * k, 0] ∧
      p (k + 1) = ⟨Rect.unit (s := S1024x4096) off S64x512.size inb,
        pay (arg11.view.readAt (Elt Ideal) (Rect.unit (s := S1024x4096) off S64x512.size inb).toLoadRect
              (arg11.view.writes (Elt Ideal) G (p k)))
            (arg2.view.readAt (Elt Ideal) (Rect.unit (s := S1024x512) offx S64x512.size inbx).toLoadRect X)⟩ :: p k) :
    arg11.view.read (Elt Ideal) (arg11.view.writes (Elt Ideal) G (p 16))
      = resid C (arg2.view.read (Elt Ideal) X) (arg11.view.read (Elt Ideal) G) := by
  funext y
  rw [trips_read arg11.view G C p h0
    (fun y a => a + Ideal.ofBits .f32 0x403504F3#32 *
      arg2.view.read (Elt Ideal) X (ix2 (n0 := 1024) (n1 := 512) (y 0) ⟨((y 1).val - C) % 512, Nat.mod_lt _ (by decide)⟩)) ?_ 16 le_rfl y]
  · unfold resid
    have hy : (y 0).val < 1024 := (y 0).isLt
    congr 1
    exact propext ⟨fun h => h.2, fun h => ⟨by omega, h⟩⟩
  · intro k hk
    obtain ⟨off, inb, offx, inbx, rfl, rfl, hp⟩ := hs k hk
    refine ⟨_, inb, _, rfl, hp, ?_⟩
    intro x y hxy
    have e0 : (y 0).val = 64 * k + (x 0).val := hxy 0
    have e1 : (y 1).val = C + (x 1).val := hxy 1
    have hx1 : (x 1).val < 512 := (x 1).isLt
    rw [hpay]
    congr 1
    · exact View.ld_unit_apply_of _ _ _ inb x y hxy
    · refine congrArg _ (View.ld_unit_apply_of _ _ _ inbx x _ fun a => ?_)
      match a with
      | ⟨0, _⟩ => exact e0
      | ⟨1, _⟩ =>
        show ((y 1).val - C) % 512 = 0 + (x 1).val
        rw [e1, Nat.add_sub_cancel_left, Nat.mod_eq_of_lt hx1, Nat.zero_add]

variable (𝒱 : Variants) (c : Dev nD) (bd : Option 𝒱.V) (i : grid0.Coords) (arg2 : Memref sig .tc .vmem S1024x512 .f32) (harg2 : arg2.IsWhole) (arg3 : Memref sig .tc .vmem S1024x4096 .bf16) (harg3 : arg3.IsWhole) (arg4 : Memref sig .tc .vmem S1x4096x256 .bf16) (harg4 : arg4.IsWhole) (arg5 : Memref sig .tc .vmem S1x4096x256 .bf16) (harg5 : arg5.IsWhole) (arg6 : Memref sig .tc .vmem S1x256x4096 .bf16) (harg6 : arg6.IsWhole) (arg7 : Memref sig .tc .vmem S1x1x4096 .f32) (harg7 : arg7.IsWhole) (arg8 : Memref sig .tc .vmem S1x1x4096 .f32) (harg8 : arg8.IsWhole) (arg9 : Memref sig .tc .vmem S128x4096 .f32) (harg9 : arg9.IsWhole) (arg10 : Memref sig .tc .vmem S128x4096 .bf16) (harg10 : arg10.IsWhole) (arg11 : Memref sig .tc .vmem S1024x4096 .f32) (harg11 : arg11.IsWhole)
  (X : BufTy.Contents (Elt Ideal) arg2.view.ty) (G : BufTy.Contents (Elt Ideal) arg11.view.ty)

theorem offs1 : ∀ k : Fin k0_t1_loop.trips, k0_off1 k = ![64 * k.val, 0] ∧ k0_off2 k = ![64 * k.val, 0] := by
  decide +kernel

/-- Loop 1 adds to the columns from 0 on. -/
theorem loop1 (h : k0_cond3 i = 1#1) :
    arg11.view.read (Elt Ideal) (arg11.view.writes (Elt Ideal) G
        (pb_k0_t1 (F := Ideal) 𝒱 c bd i arg2 harg2 arg3 harg3 arg4 harg4 arg5 harg5 arg6 harg6 arg7 harg7 arg8 harg8 arg9 harg9 arg10 harg10 arg11 harg11 h X G k0_t1_loop.trips))
      = resid 0 (arg2.view.read (Elt Ideal) X) (arg11.view.read (Elt Ideal) G) :=
  resid_read arg11 arg2 G X 0 (pb_k0_t1 (F := Ideal) 𝒱 c bd i arg2 harg2 arg3 harg3 arg4 harg4 arg5 harg5 arg6 harg6 arg7 harg7 arg8 harg8 arg9 harg9 arg10 harg10 arg11 harg11 h X G) rfl k0_pay28
    (fun a b x => by pointwise [k0_pay28])
    (fun k hk => ⟨_, _, _, _, (offs1 ⟨k, hk⟩).1, (offs1 ⟨k, hk⟩).2, (pb_k0_t1_succ 𝒱 c bd i arg2 harg2 arg3 harg3 arg4 harg4 arg5 harg5 arg6 harg6 arg7 harg7 arg8 harg8 arg9 harg9 arg10 harg10 arg11 harg11 h X G ⟨k, hk⟩).trans
      (by unfold tripL_k0_t1 trip_k0_t1; dsimp only; sl_unfold_words; rfl)⟩)

theorem offs2 : ∀ k : Fin k0_t2_loop.trips, k0_off3 k = ![64 * k.val, 512] ∧ k0_off4 k = ![64 * k.val, 0] := by
  decide +kernel

/-- Loop 2 adds to the columns from 512 on. -/
theorem loop2 (h : k0_cond4 i = 1#1) :
    arg11.view.read (Elt Ideal) (arg11.view.writes (Elt Ideal) G
        (pb_k0_t2 (F := Ideal) 𝒱 c bd i arg2 harg2 arg3 harg3 arg4 harg4 arg5 harg5 arg6 harg6 arg7 harg7 arg8 harg8 arg9 harg9 arg10 harg10 arg11 harg11 h X G k0_t2_loop.trips))
      = resid 512 (arg2.view.read (Elt Ideal) X) (arg11.view.read (Elt Ideal) G) :=
  resid_read arg11 arg2 G X 512 (pb_k0_t2 (F := Ideal) 𝒱 c bd i arg2 harg2 arg3 harg3 arg4 harg4 arg5 harg5 arg6 harg6 arg7 harg7 arg8 harg8 arg9 harg9 arg10 harg10 arg11 harg11 h X G) rfl k0_pay29
    (fun a b x => by pointwise [k0_pay29])
    (fun k hk => ⟨_, _, _, _, (offs2 ⟨k, hk⟩).1, (offs2 ⟨k, hk⟩).2, (pb_k0_t2_succ 𝒱 c bd i arg2 harg2 arg3 harg3 arg4 harg4 arg5 harg5 arg6 harg6 arg7 harg7 arg8 harg8 arg9 harg9 arg10 harg10 arg11 harg11 h X G ⟨k, hk⟩).trans
      (by unfold tripL_k0_t2 trip_k0_t2; dsimp only; sl_unfold_words; rfl)⟩)

theorem offs3 : ∀ k : Fin k0_t3_loop.trips, k0_off5 k = ![64 * k.val, 1024] ∧ k0_off6 k = ![64 * k.val, 0] := by
  decide +kernel

/-- Loop 3 adds to the columns from 1024 on. -/
theorem loop3 (h : k0_cond5 i = 1#1) :
    arg11.view.read (Elt Ideal) (arg11.view.writes (Elt Ideal) G
        (pb_k0_t3 (F := Ideal) 𝒱 c bd i arg2 harg2 arg3 harg3 arg4 harg4 arg5 harg5 arg6 harg6 arg7 harg7 arg8 harg8 arg9 harg9 arg10 harg10 arg11 harg11 h X G k0_t3_loop.trips))
      = resid 1024 (arg2.view.read (Elt Ideal) X) (arg11.view.read (Elt Ideal) G) :=
  resid_read arg11 arg2 G X 1024 (pb_k0_t3 (F := Ideal) 𝒱 c bd i arg2 harg2 arg3 harg3 arg4 harg4 arg5 harg5 arg6 harg6 arg7 harg7 arg8 harg8 arg9 harg9 arg10 harg10 arg11 harg11 h X G) rfl k0_pay30
    (fun a b x => by pointwise [k0_pay30])
    (fun k hk => ⟨_, _, _, _, (offs3 ⟨k, hk⟩).1, (offs3 ⟨k, hk⟩).2, (pb_k0_t3_succ 𝒱 c bd i arg2 harg2 arg3 harg3 arg4 harg4 arg5 harg5 arg6 harg6 arg7 harg7 arg8 harg8 arg9 harg9 arg10 harg10 arg11 harg11 h X G ⟨k, hk⟩).trans
      (by unfold tripL_k0_t3 trip_k0_t3; dsimp only; sl_unfold_words; rfl)⟩)

theorem offs4 : ∀ k : Fin k0_t4_loop.trips, k0_off7 k = ![64 * k.val, 1536] ∧ k0_off8 k = ![64 * k.val, 0] := by
  decide +kernel

/-- Loop 4 adds to the columns from 1536 on. -/
theorem loop4 (h : k0_cond6 i = 1#1) :
    arg11.view.read (Elt Ideal) (arg11.view.writes (Elt Ideal) G
        (pb_k0_t4 (F := Ideal) 𝒱 c bd i arg2 harg2 arg3 harg3 arg4 harg4 arg5 harg5 arg6 harg6 arg7 harg7 arg8 harg8 arg9 harg9 arg10 harg10 arg11 harg11 h X G k0_t4_loop.trips))
      = resid 1536 (arg2.view.read (Elt Ideal) X) (arg11.view.read (Elt Ideal) G) :=
  resid_read arg11 arg2 G X 1536 (pb_k0_t4 (F := Ideal) 𝒱 c bd i arg2 harg2 arg3 harg3 arg4 harg4 arg5 harg5 arg6 harg6 arg7 harg7 arg8 harg8 arg9 harg9 arg10 harg10 arg11 harg11 h X G) rfl k0_pay31
    (fun a b x => by pointwise [k0_pay31])
    (fun k hk => ⟨_, _, _, _, (offs4 ⟨k, hk⟩).1, (offs4 ⟨k, hk⟩).2, (pb_k0_t4_succ 𝒱 c bd i arg2 harg2 arg3 harg3 arg4 harg4 arg5 harg5 arg6 harg6 arg7 harg7 arg8 harg8 arg9 harg9 arg10 harg10 arg11 harg11 h X G ⟨k, hk⟩).trans
      (by unfold tripL_k0_t4 trip_k0_t4; dsimp only; sl_unfold_words; rfl)⟩)

theorem offs5 : ∀ k : Fin k0_t5_loop.trips, k0_off9 k = ![64 * k.val, 2048] ∧ k0_off10 k = ![64 * k.val, 0] := by
  decide +kernel

/-- Loop 5 adds to the columns from 2048 on. -/
theorem loop5 (h : k0_cond7 i = 1#1) :
    arg11.view.read (Elt Ideal) (arg11.view.writes (Elt Ideal) G
        (pb_k0_t5 (F := Ideal) 𝒱 c bd i arg2 harg2 arg3 harg3 arg4 harg4 arg5 harg5 arg6 harg6 arg7 harg7 arg8 harg8 arg9 harg9 arg10 harg10 arg11 harg11 h X G k0_t5_loop.trips))
      = resid 2048 (arg2.view.read (Elt Ideal) X) (arg11.view.read (Elt Ideal) G) :=
  resid_read arg11 arg2 G X 2048 (pb_k0_t5 (F := Ideal) 𝒱 c bd i arg2 harg2 arg3 harg3 arg4 harg4 arg5 harg5 arg6 harg6 arg7 harg7 arg8 harg8 arg9 harg9 arg10 harg10 arg11 harg11 h X G) rfl k0_pay32
    (fun a b x => by pointwise [k0_pay32])
    (fun k hk => ⟨_, _, _, _, (offs5 ⟨k, hk⟩).1, (offs5 ⟨k, hk⟩).2, (pb_k0_t5_succ 𝒱 c bd i arg2 harg2 arg3 harg3 arg4 harg4 arg5 harg5 arg6 harg6 arg7 harg7 arg8 harg8 arg9 harg9 arg10 harg10 arg11 harg11 h X G ⟨k, hk⟩).trans
      (by unfold tripL_k0_t5 trip_k0_t5; dsimp only; sl_unfold_words; rfl)⟩)

theorem offs6 : ∀ k : Fin k0_t6_loop.trips, k0_off11 k = ![64 * k.val, 2560] ∧ k0_off12 k = ![64 * k.val, 0] := by
  decide +kernel

/-- Loop 6 adds to the columns from 2560 on. -/
theorem loop6 (h : k0_cond8 i = 1#1) :
    arg11.view.read (Elt Ideal) (arg11.view.writes (Elt Ideal) G
        (pb_k0_t6 (F := Ideal) 𝒱 c bd i arg2 harg2 arg3 harg3 arg4 harg4 arg5 harg5 arg6 harg6 arg7 harg7 arg8 harg8 arg9 harg9 arg10 harg10 arg11 harg11 h X G k0_t6_loop.trips))
      = resid 2560 (arg2.view.read (Elt Ideal) X) (arg11.view.read (Elt Ideal) G) :=
  resid_read arg11 arg2 G X 2560 (pb_k0_t6 (F := Ideal) 𝒱 c bd i arg2 harg2 arg3 harg3 arg4 harg4 arg5 harg5 arg6 harg6 arg7 harg7 arg8 harg8 arg9 harg9 arg10 harg10 arg11 harg11 h X G) rfl k0_pay33
    (fun a b x => by pointwise [k0_pay33])
    (fun k hk => ⟨_, _, _, _, (offs6 ⟨k, hk⟩).1, (offs6 ⟨k, hk⟩).2, (pb_k0_t6_succ 𝒱 c bd i arg2 harg2 arg3 harg3 arg4 harg4 arg5 harg5 arg6 harg6 arg7 harg7 arg8 harg8 arg9 harg9 arg10 harg10 arg11 harg11 h X G ⟨k, hk⟩).trans
      (by unfold tripL_k0_t6 trip_k0_t6; dsimp only; sl_unfold_words; rfl)⟩)

theorem offs7 : ∀ k : Fin k0_t7_loop.trips, k0_off13 k = ![64 * k.val, 3072] ∧ k0_off14 k = ![64 * k.val, 0] := by
  decide +kernel

/-- Loop 7 adds to the columns from 3072 on. -/
theorem loop7 (h : k0_cond9 i = 1#1) :
    arg11.view.read (Elt Ideal) (arg11.view.writes (Elt Ideal) G
        (pb_k0_t7 (F := Ideal) 𝒱 c bd i arg2 harg2 arg3 harg3 arg4 harg4 arg5 harg5 arg6 harg6 arg7 harg7 arg8 harg8 arg9 harg9 arg10 harg10 arg11 harg11 h X G k0_t7_loop.trips))
      = resid 3072 (arg2.view.read (Elt Ideal) X) (arg11.view.read (Elt Ideal) G) :=
  resid_read arg11 arg2 G X 3072 (pb_k0_t7 (F := Ideal) 𝒱 c bd i arg2 harg2 arg3 harg3 arg4 harg4 arg5 harg5 arg6 harg6 arg7 harg7 arg8 harg8 arg9 harg9 arg10 harg10 arg11 harg11 h X G) rfl k0_pay34
    (fun a b x => by pointwise [k0_pay34])
    (fun k hk => ⟨_, _, _, _, (offs7 ⟨k, hk⟩).1, (offs7 ⟨k, hk⟩).2, (pb_k0_t7_succ 𝒱 c bd i arg2 harg2 arg3 harg3 arg4 harg4 arg5 harg5 arg6 harg6 arg7 harg7 arg8 harg8 arg9 harg9 arg10 harg10 arg11 harg11 h X G ⟨k, hk⟩).trans
      (by unfold tripL_k0_t7 trip_k0_t7; dsimp only; sl_unfold_words; rfl)⟩)

theorem offs8 : ∀ k : Fin k0_t8_loop.trips, k0_off15 k = ![64 * k.val, 3584] ∧ k0_off16 k = ![64 * k.val, 0] := by
  decide +kernel

/-- Loop 8 adds to the columns from 3584 on. -/
theorem loop8 (h : k0_cond10 i = 1#1) :
    arg11.view.read (Elt Ideal) (arg11.view.writes (Elt Ideal) G
        (pb_k0_t8 (F := Ideal) 𝒱 c bd i arg2 harg2 arg3 harg3 arg4 harg4 arg5 harg5 arg6 harg6 arg7 harg7 arg8 harg8 arg9 harg9 arg10 harg10 arg11 harg11 h X G k0_t8_loop.trips))
      = resid 3584 (arg2.view.read (Elt Ideal) X) (arg11.view.read (Elt Ideal) G) :=
  resid_read arg11 arg2 G X 3584 (pb_k0_t8 (F := Ideal) 𝒱 c bd i arg2 harg2 arg3 harg3 arg4 harg4 arg5 harg5 arg6 harg6 arg7 harg7 arg8 harg8 arg9 harg9 arg10 harg10 arg11 harg11 h X G) rfl k0_pay1
    (fun a b x => by pointwise [k0_pay1])
    (fun k hk => ⟨_, _, _, _, (offs8 ⟨k, hk⟩).1, (offs8 ⟨k, hk⟩).2, (pb_k0_t8_succ 𝒱 c bd i arg2 harg2 arg3 harg3 arg4 harg4 arg5 harg5 arg6 harg6 arg7 harg7 arg8 harg8 arg9 harg9 arg10 harg10 arg11 harg11 h X G ⟨k, hk⟩).trans
      (by unfold tripL_k0_t8 trip_k0_t8; dsimp only; sl_unfold_words; rfl)⟩)

end FfnVal
-- ==== Proof.FfnSteps.lean ====
module
public import proofs.«01_k».proof.Proof.Gen.FfnIdeal.Frame
public import proofs.«01_k».proof.Proof.FfnLoops

/-! What the feed-forward kernel leaves in its accumulator at a point of each kind: the block of the
hidden width added to what was there, and in the first eight points of a row block `2α·x` added to
one band of columns. -/

@[expose] public section
set_option maxRecDepth 16384
noncomputable section
open Idealize.ShloMosaic Idealize.ShloMosaic.TcCoe Idealize.ShloMosaic.Tactic
open Cert.FfnIdeal Cert.FfnIdeal.Gen
namespace FfnVal

theorem hz : (![0, 0] : Fin 2 → Nat) = fun _ => 0 := funext fun a => by fin_cases a <;> rfl
theorem hz3 : (![0, 0, 0] : Fin 3 → Nat) = fun _ => 0 := funext fun a => by fin_cases a <;> rfl

/-- Pieces of a loop over one whole store: read anywhere, they are what the loop makes of the stored
    block. -/
theorem read_loop_over {κ : Kind} {sp : Space} (v : View sig κ sp S1024x4096 .f32)
    (p L : List (View.Piece (Elt Ideal) S1024x4096 .f32)) (w : Vec Ideal S1024x4096 .f32)
    (hL : View.canon L = w) (C : ℕ) (u : Vec Ideal S1024x512 .f32)
    (h : v.read (Elt Ideal) (v.writes (Elt Ideal) (v.writes (Elt Ideal) v.junk L) p)
      = resid C u (v.read (Elt Ideal) (v.writes (Elt Ideal) v.junk L))) :
    VS0_0.read (Elt Ideal) (VS0_0.writes (Elt Ideal) VS0_0.junk (p ++ L)) = resid C u w := by
  rw [View.read_writes_junk_eq_canon, ← View.read_writes_junk_eq_canon v, View.writes_append, h,
    View.read_writes_junk_eq_canon, hL]

variable (c : Dev nD) (i : grid0.Coords) (arg2 : Memref sig .tc .vmem S1024x512 .f32) (harg2 : arg2.IsWhole) (arg3 : Memref sig .tc .vmem S1024x4096 .bf16) (harg3 : arg3.IsWhole) (arg4 : Memref sig .tc .vmem S1x4096x256 .bf16) (harg4 : arg4.IsWhole) (arg5 : Memref sig .tc .vmem S1x4096x256 .bf16) (harg5 : arg5.IsWhole) (arg6 : Memref sig .tc .vmem S1x256x4096 .bf16) (harg6 : arg6.IsWhole) (arg7 : Memref sig .tc .vmem S1x1x4096 .f32) (harg7 : arg7.IsWhole) (arg8 : Memref sig .tc .vmem S1x1x4096 .f32) (harg8 : arg8.IsWhole) (arg9 : Memref sig .tc .vmem S128x4096 .f32) (harg9 : arg9.IsWhole) (arg10 : Memref sig .tc .vmem S128x4096 .bf16) (harg10 : arg10.IsWhole) (arg11 : Memref sig .tc .vmem S1024x4096 .f32) (harg11 : arg11.IsWhole)
  (x0 : Vec Ideal S1024x512 .f32) (x1 : Vec Ideal S1024x4096 .bf16) (x2 : Vec Ideal S1x4096x256 .bf16) (x3 : Vec Ideal S1x4096x256 .bf16) (x4 : Vec Ideal S1x256x4096 .bf16) (x5 : Vec Ideal S1x1x4096 .f32) (x6 : Vec Ideal S1x1x4096 .f32) (xs0 : Vec Ideal S1024x4096 .f32)

theorem sout_A (hc0 : cond0_0 i) (hc1 : cond0_1 i) (hc2 : cond0_2 i) (hc3 : ¬cond0_3 i) (hc4 : ¬cond0_4 i) (hc5 : ¬cond0_5 i) (hc6 : ¬cond0_6 i) (hc7 : ¬cond0_7 i) (hc8 : ¬cond0_8 i) (hc9 : ¬cond0_9 i) (hc10 : ¬cond0_10 i) :
    sout0_A_0 (F := Ideal) c i arg2 harg2 arg3 harg3 arg4 harg4 arg5 harg5 arg6 harg6 arg7 harg7 arg8 harg8 arg9 harg9 arg10 harg10 arg11 harg11 hc0 hc1 hc2 hc3 hc4 hc5 hc6 hc7 hc8 hc9 hc10 x0 x1 x2 x3 x4 x5 x6
      = resid 0 x0 (k0_pay27 x1 x2 x3 (k0_pay26 (F := Ideal)) x4) := by
  unfold sout0_A_0 kernelRun0_A
  dsimp only
  sl_unfold_words
  refine read_loop_over arg11.view _ _ _ ?_ 0 x0 ((loop1 Variants.none c none i arg2 harg2 arg3 harg3 arg4 harg4 arg5 harg5 arg6 harg6 arg7 harg7 arg8 harg8 arg9 harg9 arg10 harg10 arg11 harg11 _ _ _).trans ?_)
  · rw [View.canon_cons_unit_zero hz]
    simp only [View.readAt_eq_ld, View.readCov_unit_zero (S := S1024x4096) _ hz, harg2.read_unread, harg3.read_unread, harg4.read_unread, harg5.read_unread, harg6.read_unread, harg11.read_unread, View.ld_unit_zero (S := S1024x4096) hz, View.ld_unit_zero (S := S1x4096x256) hz3, View.ld_unit_zero (S := S1x256x4096) hz3]
  · rw [harg2.read_unread]

theorem sout_B (hc0 : ¬cond0_0 i) (hc1 : cond0_1 i) (hc2 : ¬cond0_2 i) (hc3 : cond0_3 i) (hc4 : ¬cond0_4 i) (hc5 : ¬cond0_5 i) (hc6 : ¬cond0_6 i) (hc7 : ¬cond0_7 i) (hc8 : ¬cond0_8 i) (hc9 : ¬cond0_9 i) (hc10 : ¬cond0_10 i) :
    sout0_B_0 (F := Ideal) c i arg2 harg2 arg3 harg3 arg4 harg4 arg5 harg5 arg6 harg6 arg7 harg7 arg8 harg8 arg9 harg9 arg10 harg10 arg11 harg11 hc0 hc1 hc2 hc3 hc4 hc5 hc6 hc7 hc8 hc9 hc10 x0 x1 x2 x3 x4 x5 x6 xs0
      = resid 512 x0 (k0_pay27 x1 x2 x3 xs0 x4) := by
  unfold sout0_B_0 kernelRun0_B
  dsimp only
  sl_unfold_words
  refine read_loop_over arg11.view _ _ _ ?_ 512 x0 ((loop2 Variants.none c none i arg2 harg2 arg3 harg3 arg4 harg4 arg5 harg5 arg6 harg6 arg7 harg7 arg8 harg8 arg9 harg9 arg10 harg10 arg11 harg11 _ _ _).trans ?_)
  · rw [View.canon_cons_unit_zero hz]
    simp only [View.readAt_eq_ld, View.readCov_unit_zero (S := S1024x4096) _ hz, harg2.read_unread, harg3.read_unread, harg4.read_unread, harg5.read_unread, harg6.read_unread, harg11.read_unread, View.ld_unit_zero (S := S1024x4096) hz, View.ld_unit_zero (S := S1x4096x256) hz3, View.ld_unit_zero (S := S1x256x4096) hz3]
  · rw [harg2.read_unread]

theorem sout_C (hc0 : ¬cond0_0 i) (hc1 : cond0_1 i) (hc2 : ¬cond0_2 i) (hc3 : ¬cond0_3 i) (hc4 : cond0_4 i) (hc5 : ¬cond0_5 i) (hc6 : ¬cond0_6 i) (hc7 : ¬cond0_7 i) (hc8 : ¬cond0_8 i) (hc9 : ¬cond0_9 i) (hc10 : ¬cond0_10 i) :
    sout0_C_0 (F := Ideal) c i arg2 harg2 arg3 harg3 arg4 harg4 arg5 harg5 arg6 harg6 arg7 harg7 arg8 harg8 arg9 harg9 arg10 harg10 arg11 harg11 hc0 hc1 hc2 hc3 hc4 hc5 hc6 hc7 hc8 hc9 hc10 x0 x1 x2 x3 x4 x5 x6 xs0
      = resid 1024 x0 (k0_pay27 x1 x2 x3 xs0 x4) := by
  unfold sout0_C_0 kernelRun0_C
  dsimp only
  sl_unfold_words
  refine read_loop_over arg11.view _ _ _ ?_ 1024 x0 ((loop3 Variants.none c none i arg2 harg2 arg3 harg3 arg4 harg4 arg5 harg5 arg6 harg6 arg7 harg7 arg8 harg8 arg9 harg9 arg10 harg10 arg11 harg11 _ _ _).trans ?_)
  · rw [View.canon_cons_unit_zero hz]
    simp only [View.readAt_eq_ld, View.readCov_unit_zero (S := S1024x4096) _ hz, harg2.read_unread, harg3.read_unread, harg4.read_unread, harg5.read_unread, harg6.read_unread, harg11.read_unread, View.ld_unit_zero (S := S1024x4096) hz, View.ld_unit_zero (S := S1x4096x256) hz3, View.ld_unit_zero (S := S1x256x4096) hz3]
  · rw [harg2.read_unread]

theorem sout_D (hc0 : ¬cond0_0 i) (hc1 : cond0_1 i) (hc2 : ¬cond0_2 i) (hc3 : ¬cond0_3 i) (hc4 : ¬cond0_4 i) (hc5 : cond0_5 i) (hc6 : ¬cond0_6 i) (hc7 : ¬cond0_7 i) (hc8 : ¬cond0_8 i) (hc9 : ¬cond0_9 i) (hc10 : ¬cond0_10 i) :
    sout0_D_0 (F := Ideal) c i arg2 harg2 arg3 harg3 arg4 harg4 arg5 harg5 arg6 harg6 arg7 harg7 arg8 harg8 arg9 harg9 arg10 harg10 arg11 harg11 hc0 hc1 hc2 hc3 hc4 hc5 hc6 hc7 hc8 hc9 hc10 x0 x1 x2 x3 x4 x5 x6 xs0
      = resid 1536 x0 (k0_pay27 x1 x2 x3 xs0 x4) := by
  unfold sout0_D_0 kernelRun0_D
  dsimp only
  sl_unfold_words
  refine read_loop_over arg11.view _ _ _ ?_ 1536 x0 ((loop4 Variants.none c none i arg2 harg2 arg3 harg3 arg4 harg4 arg5 harg5 arg6 harg6 arg7 harg7 arg8 harg8 arg9 harg9 arg10 harg10 arg11 harg11 _ _ _).trans ?_)
  · rw [View.canon_cons_unit_zero hz]
    simp only [View.readAt_eq_ld, View.readCov_unit_zero (S := S1024x4096) _ hz, harg2.read_unread, harg3.read_unread, harg4.read_unread, harg5.read_unread, harg6.read_unread, harg11.read_unread, View.ld_unit_zero (S := S1024x4096) hz, View.ld_unit_zero (S := S1x4096x256) hz3, View.ld_unit_zero (S := S1x256x4096) hz3]
  · rw [harg2.read_unread]

theorem sout_E (hc0 : ¬cond0_0 i) (hc1 : cond0_1 i) (hc2 : ¬cond0_2 i) (hc3 : ¬cond0_3 i) (hc4 : ¬cond0_4 i) (hc5 : ¬cond0_5 i) (hc6 : cond0_6 i) (hc7 : ¬cond0_7 i) (hc8 : ¬cond0_8 i) (hc9 : ¬cond0_9 i) (hc10 : ¬cond0_10 i) :
    sout0_E_0 (F := Ideal) c i arg2 harg2 arg3 harg3 arg4 harg4 arg5 harg5 arg6 harg6 arg7 harg7 arg8 harg8 arg9 harg9 arg10 harg10 arg11 harg11 hc0 hc1 hc2 hc3 hc4 hc5 hc6 hc7 hc8 hc9 hc10 x0 x1 x2 x3 x4 x5 x6 xs0
      = resid 2048 x0 (k0_pay27 x1 x2 x3 xs0 x4) := by
  unfold sout0_E_0 kernelRun0_E
  dsimp only
  sl_unfold_words
  refine read_loop_over arg11.view _ _ _ ?_ 2048 x0 ((loop5 Variants.none c none i arg2 harg2 arg3 harg3 arg4 harg4 arg5 harg5 arg6 harg6 arg7 harg7 arg8 harg8 arg9 harg9 arg10 harg10 arg11 harg11 _ _ _).trans ?_)
  · rw [View.canon_cons_unit_zero hz]
    simp only [View.readAt_eq_ld, View.readCov_unit_zero (S := S1024x4096) _ hz, harg2.read_unread, harg3.read_unread, harg4.read_unread, harg5.read_unread, harg6.read_unread, harg11.read_unread, View.ld_unit_zero (S := S1024x4096) hz, View.ld_unit_zero (S := S1x4096x256) hz3, View.ld_unit_zero (S := S1x256x4096) hz3]
  · rw [harg2.read_unread]

theorem sout_F (hc0 : ¬cond0_0 i) (hc1 : cond0_1 i) (hc2 : ¬cond0_2 i) (hc3 : ¬cond0_3 i) (hc4 : ¬cond0_4 i) (hc5 : ¬cond0_5 i) (hc6 : ¬cond0_6 i) (hc7 : cond0_7 i) (hc8 : ¬cond0_8 i) (hc9 : ¬cond0_9 i) (hc10 : ¬cond0_10 i) :
    sout0_F_0 (F := Ideal) c i arg2 harg2 arg3 harg3 arg4 harg4 arg5 harg5 arg6 harg6 arg7 harg7 arg8 harg8 arg9 harg9 arg10 harg10 arg11 harg11 hc0 hc1 hc2 hc3 hc4 hc5 hc6 hc7 hc8 hc9 hc10 x0 x1 x2 x3 x4 x5 x6 xs0
      = resid 2560 x0 (k0_pay27 x1 x2 x3 xs0 x4) := by
  unfold sout0_F_0 kernelRun0_F
  dsimp only
  sl_unfold_words
  refine read_loop_over arg11.view _ _ _ ?_ 2560 x0 ((loop6 Variants.none c none i arg2 harg2 arg3 harg3 arg4 harg4 arg5 harg5 arg6 harg6 arg7 harg7 arg8 harg8 arg9 harg9 arg10 harg10 arg11 harg11 _ _ _).trans ?_)
  · rw [View.canon_cons_unit_zero hz]
    simp only [View.readAt_eq_ld, View.readCov_unit_zero (S := S1024x4096) _ hz, harg2.read_unread, harg3.read_unread, harg4.read_unread, harg5.read_unread, harg6.read_unread, harg11.read_unread, View.ld_unit_zero (S := S1024x4096) hz, View.ld_unit_zero (S := S1x4096x256) hz3, View.ld_unit_zero (S := S1x256x4096) hz3]
  · rw [harg2.read_unread]

theorem sout_G (hc0 : ¬cond0_0 i) (hc1 : cond0_1 i) (hc2 : ¬cond0_2 i) (hc3 : ¬cond0_3 i) (hc4 : ¬cond0_4 i) (hc5 : ¬cond0_5 i) (hc6 : ¬cond0_6 i) (hc7 : ¬cond0_7 i) (hc8 : cond0_8 i) (hc9 : ¬cond0_9 i) (hc10 : ¬cond0_10 i) :
    sout0_G_0 (F := Ideal) c i arg2 harg2 arg3 harg3 arg4 harg4 arg5 harg5 arg6 harg6 arg7 harg7 arg8 harg8 arg9 harg9 arg10 harg10 arg11 harg11 hc0 hc1 hc2 hc3 hc4 hc5 hc6 hc7 hc8 hc9 hc10 x0 x1 x2 x3 x4 x5 x6 xs0
      = resid 3072 x0 (k0_pay27 x1 x2 x3 xs0 x4) := by
  unfold sout0_G_0 kernelRun0_G
  dsimp only
  sl_unfold_words
  refine read_loop_over arg11.view _ _ _ ?_ 3072 x0 ((loop7 Variants.none c none i arg2 harg2 arg3 harg3 arg4 harg4 arg5 harg5 arg6 harg6 arg7 harg7 arg8 harg8 arg9 harg9 arg10 harg10 arg11 harg11 _ _ _).trans ?_)
  · rw [View.canon_cons_unit_zero hz]
    simp only [View.readAt_eq_ld, View.readCov_unit_zero (S := S1024x4096) _ hz, harg2.read_unread, harg3.read_unread, harg4.read_unread, harg5.read_unread, harg6.read_unread, harg11.read_unread, View.ld_unit_zero (S := S1024x4096) hz, View.ld_unit_zero (S := S1x4096x256) hz3, View.ld_unit_zero (S := S1x256x4096) hz3]
  · rw [harg2.read_unread]

theorem sout_H (hc0 : ¬cond0_0 i) (hc1 : cond0_1 i) (hc2 : ¬cond0_2 i) (hc3 : ¬cond0_3 i) (hc4 : ¬cond0_4 i) (hc5 : ¬cond0_5 i) (hc6 : ¬cond0_6 i) (hc7 : ¬cond0_7 i) (hc8 : ¬cond0_8 i) (hc9 : cond0_9 i) (hc10 : ¬cond0_10 i) :
    sout0_H_0 (F := Ideal) c i arg2 harg2 arg3 harg3 arg4 harg4 arg5 harg5 arg6 harg6 arg7 harg7 arg8 harg8 arg9 harg9 arg10 harg10 arg11 harg11 hc0 hc1 hc2 hc3 hc4 hc5 hc6 hc7 hc8 hc9 hc10 x0 x1 x2 x3 x4 x5 x6 xs0
      = resid 3584 x0 (k0_pay27 x1 x2 x3 xs0 x4) := by
  unfold sout0_H_0 kernelRun0_H
  dsimp only
  sl_unfold_words
  refine read_loop_over arg11.view _ _ _ ?_ 3584 x0 ((loop8 Variants.none c none i arg2 harg2 arg3 harg3 arg4 harg4 arg5 harg5 arg6 harg6 arg7 harg7 arg8 harg8 arg9 harg9 arg10 harg10 arg11 harg11 _ _ _).trans ?_)
  · rw [View.canon_cons_unit_zero hz]
    simp only [View.readAt_eq_ld, View.readCov_unit_zero (S := S1024x4096) _ hz, harg2.read_unread, harg3.read_unread, harg4.read_unread, harg5.read_unread, harg6.read_unread, harg11.read_unread, View.ld_unit_zero (S := S1024x4096) hz, View.ld_unit_zero (S := S1x4096x256) hz3, View.ld_unit_zero (S := S1x256x4096) hz3]
  · rw [harg2.read_unread]

theorem sout_I (hc0 : ¬cond0_0 i) (hc1 : cond0_1 i) (hc2 : ¬cond0_2 i) (hc3 : ¬cond0_3 i) (hc4 : ¬cond0_4 i) (hc5 : ¬cond0_5 i) (hc6 : ¬cond0_6 i) (hc7 : ¬cond0_7 i) (hc8 : ¬cond0_8 i) (hc9 : ¬cond0_9 i) (hc10 : ¬cond0_10 i) :
    sout0_I_0 (F := Ideal) c i arg2 harg2 arg3 harg3 arg4 harg4 arg5 harg5 arg6 harg6 arg7 harg7 arg8 harg8 arg9 harg9 arg10 harg10 arg11 harg11 hc0 hc1 hc2 hc3 hc4 hc5 hc6 hc7 hc8 hc9 hc10 x0 x1 x2 x3 x4 x5 x6 xs0
      = (k0_pay27 x1 x2 x3 xs0 x4) := by
  unfold sout0_I_0 kernelRun0_I
  dsimp only
  sl_unfold_words
  rw [View.read_writes_junk_eq_canon, View.canon_unit_zero hz]
  simp only [View.readAt_eq_ld, View.readCov_unit_zero (S := S1024x4096) _ hz, harg2.read_unread, harg3.read_unread, harg4.read_unread, harg5.read_unread, harg6.read_unread, harg11.read_unread, View.ld_unit_zero (S := S1024x4096) hz, View.ld_unit_zero (S := S1x4096x256) hz3, View.ld_unit_zero (S := S1x256x4096) hz3]

end FfnVal
-- ==== Proof.FfnLn.lean ====
module
public import proofs.«01_k».proof.Proof.Gen.FfnIdeal.Frame
public import proofs.«01_k».proof.Proof.FfnSteps
public import proofs.«01_k».proof.Proof.FfnMath

/-! The last eight points of a row block: each normalises 128 rows of the accumulator, 16 rows at a
time, and stores them in both outputs' blocks. -/

@[expose] public section
set_option maxRecDepth 16384
noncomputable section
open Idealize.ShloMosaic Idealize.ShloMosaic.TcCoe Idealize.ShloMosaic.Tactic
open Cert.FfnIdeal Cert.FfnIdeal.Gen
namespace FfnVal

/-- A block of rows normalised: each row of `a` is halved first. -/
def lnPiece (g b : Vec Ideal S1x1x4096 .f32) (a : Vec Ideal S16x4096 .f32) : S16x4096.Idx → EReal :=
  fun x => lnRow (fun k => Ideal.ofBits .f32 0x3F000000#32 * a (ix2 (n0 := 16) (n1 := 4096) (x 0) k))
    (fun k => g (ix3 0 0 k)) (fun k => b (ix3 0 0 k)) (x 1)

/-- The 128 rows normalised at the `s`-th of the last eight points. -/
def lnBlock (s : ℕ) (g b : Vec Ideal S1x1x4096 .f32) (a : Vec Ideal S1024x4096 .f32) : S128x4096.Idx → EReal :=
  fun y => lnRow (fun k => Ideal.ofBits .f32 0x3F000000#32 *
      a (ix2 (n0 := 1024) (n1 := 4096) ⟨(128 * s + (y 0).val) % 1024, Nat.mod_lt _ (by decide)⟩ k))
    (fun k => g (ix3 0 0 k)) (fun k => b (ix3 0 0 k)) (y 1)

theorem off17_word : ∀ (j : Fin 51) (p : Fin 8), 43 ≤ j.val →
    (Scalar.indexCast (Scalar.addi (Scalar.muli (Scalar.subi (BitVec.ofNat 32 j.val) 43#32) 128#32)
      (Scalar.muli (BitVec.ofNat 32 p.val) 16#32)) : Index).toNat = 128 * (j.val - 43) + 16 * p.val := by
  decide +kernel

/-- The rows the `p`-th piece of a normalising point reads. -/
theorem off17 (i : grid0.Coords) (h : 43 ≤ (i 1).val) (p : Fin 8) :
    k0_off17 i (BitVec.ofNat 32 p.val) = ![128 * ((i 1).val - 43) + 16 * p.val, 0] := by
  show ![(Scalar.indexCast (Scalar.addi (Scalar.muli (Scalar.subi (BitVec.ofNat 32 (i 1).val) 43#32) 128#32)
      (Scalar.muli (BitVec.ofNat 32 p.val) 16#32)) : Index).toNat, 0] = _
  rw [off17_word (i 1) p h]

theorem inb16 : ∀ (p : Fin 8) (a : Fin 2), (![16 * p.val, 0] : Fin 2 → ℕ) a + S16x4096.size a ≤ S128x4096.size a := by
  decide

/-- One piece of a normalising point: its payload is the normalised block at the piece's rows. -/
theorem piece (pay : Vec Ideal S1x1x4096 .f32 → Vec Ideal S1x1x4096 .f32 → Vec Ideal S16x4096 .f32 → S16x4096.Idx → EReal)
    (hpay : ∀ g b a, pay g b a = lnPiece g b a)
    (arg7 : Memref sig .tc .vmem S1x1x4096 .f32) (harg7 : arg7.IsWhole)
    (arg8 : Memref sig .tc .vmem S1x1x4096 .f32) (harg8 : arg8.IsWhole)
    (arg11 : Memref sig .tc .vmem S1024x4096 .f32) (harg11 : arg11.IsWhole)
    (x5 x6 : Vec Ideal S1x1x4096 .f32) (xs0 : Vec Ideal S1024x4096 .f32)
    (s : ℕ) (hs : s < 8) (p : Fin 8) (off : Fin 2 → ℕ) (hoff : off = ![128 * s + 16 * p.val, 0])
    (inb7 inb8 inb)
    (x : S16x4096.Idx) :
    pay (arg7.view.readAt (Elt Ideal) (Rect.unit (s := S1x1x4096) ![0, 0, 0] S1x1x4096.size inb7).toLoadRect (harg7.unread x5))
      (arg8.view.readAt (Elt Ideal) (Rect.unit (s := S1x1x4096) ![0, 0, 0] S1x1x4096.size inb8).toLoadRect (harg8.unread x6))
      (arg11.view.readAt (Elt Ideal) (Rect.unit (s := S1024x4096) off S16x4096.size inb).toLoadRect (harg11.unread xs0)) x
    = lnBlock s x5 x6 xs0 ((Rect.unit (s := S128x4096) ![16 * p.val, 0] S16x4096.size (inb16 p)).emb x) := by
  subst hoff
  rw [hpay, View.readAt_eq_ld, View.readAt_eq_ld, View.readAt_eq_ld, harg7.read_unread, harg8.read_unread,
    harg11.read_unread, View.ld_unit_zero (S := S1x1x4096) hz3, View.ld_unit_zero (S := S1x1x4096) hz3]
  have hp := p.isLt
  have hx0 : (x 0).val < 16 := (x 0).isLt
  unfold lnPiece lnBlock
  have e1 : ((Rect.unit (s := S128x4096) ![16 * p.val, 0] S16x4096.size (inb16 p)).emb x) 1 = x 1 := by
    apply Fin.ext
    show 0 + 1 * (x 1).val = (x 1).val
    omega
  have e0 : (((Rect.unit (s := S128x4096) ![16 * p.val, 0] S16x4096.size (inb16 p)).emb x) 0).val = 16 * p.val + (x 0).val := by
    show 16 * p.val + 1 * (x 0).val = _
    omega
  rw [e1]
  congr 1
  funext k
  congr 1
  refine View.ld_unit_apply_of _ _ _ inb _ _ fun a => ?_
  match a with
  | ⟨0, _⟩ =>
    show (128 * s + _) % 1024 = 128 * s + 16 * p.val + (x 0).val
    rw [e0, Nat.mod_eq_of_lt (by omega)]; omega
  | ⟨1, _⟩ => show k.val = 0 + k.val; omega

variable (g b : Vec Ideal S1x1x4096 .f32) (a : Vec Ideal S16x4096 .f32)

/-- The first piece's arithmetic, for either output. -/
theorem pay_0 : k0_pay6 g b a = lnPiece g b a ∧ k0_pay7 g b a = lnPiece g b a := by
  constructor <;> (funext x; idx_vars x; unfold lnPiece lnRow; pointwise! [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25])

/-- The second piece's arithmetic, for either output. -/
theorem pay_1 : k0_pay8 (k0_pay4 g) (k0_pay5 b) a = lnPiece g b a ∧ k0_pay9 (k0_pay4 g) (k0_pay5 b) a = lnPiece g b a := by
  constructor <;> (funext x; idx_vars x; unfold lnPiece lnRow; pointwise! [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25])

/-- The third piece's arithmetic, for either output. -/
theorem pay_2 : k0_pay12 (k0_pay4 g) (k0_pay5 b) (k0_pay10 a) (k0_pay11 a) = lnPiece g b a ∧ k0_pay13 (k0_pay4 g) (k0_pay5 b) (k0_pay10 a) (k0_pay11 a) = lnPiece g b a := by
  constructor <;> (funext x; idx_vars x; unfold lnPiece lnRow; pointwise! [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25])

/-- The fourth piece's arithmetic, for either output. -/
theorem pay_3 : k0_pay16 (k0_pay4 g) (k0_pay5 b) (k0_pay14 a) (k0_pay15 a) (Scalar.ofBits .f32 0x3727C5AC#32) = lnPiece g b a ∧ k0_pay17 (k0_pay4 g) (k0_pay5 b) (k0_pay14 a) (k0_pay15 a) (Scalar.ofBits .f32 0x3727C5AC#32) = lnPiece g b a := by
  constructor <;> (funext x; idx_vars x; unfold lnPiece lnRow; pointwise! [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25])

/-- The fifth piece's arithmetic, for either output. -/
theorem pay_4 : k0_pay18 (k0_pay4 g) (k0_pay5 b) a = lnPiece g b a ∧ k0_pay19 (k0_pay4 g) (k0_pay5 b) a = lnPiece g b a := by
  constructor <;> (funext x; idx_vars x; unfold lnPiece lnRow; pointwise! [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25])

/-- The sixth piece's arithmetic, for either output. -/
theorem pay_5 : k0_pay20 (k0_pay4 g) (k0_pay5 b) a = lnPiece g b a ∧ k0_pay21 (k0_pay4 g) (k0_pay5 b) a = lnPiece g b a := by
  constructor <;> (funext x; idx_vars x; unfold lnPiece lnRow; pointwise! [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25])

/-- The seventh piece's arithmetic, for either output. -/
theorem pay_6 : k0_pay22 (k0_pay4 g) (k0_pay5 b) a (Scalar.ofBits .f32 0x3F000000#32) = lnPiece g b a ∧ k0_pay23 (k0_pay4 g) (k0_pay5 b) a (Scalar.ofBits .f32 0x3F000000#32) = lnPiece g b a := by
  constructor <;> (funext x; idx_vars x; unfold lnPiece lnRow; pointwise! [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25])

/-- The eighth piece's arithmetic, for either output. -/
theorem pay_7 : k0_pay2 (k0_pay4 g) (k0_pay5 b) (k0_pay24 a) (k0_pay25 a) = lnPiece g b a ∧ k0_pay3 (k0_pay4 g) (k0_pay5 b) (k0_pay24 a) (k0_pay25 a) = lnPiece g b a := by
  constructor <;> (funext x; idx_vars x; unfold lnPiece lnRow; pointwise! [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25])

variable (c : Dev nD) (i : grid0.Coords) (arg2 : Memref sig .tc .vmem S1024x512 .f32) (harg2 : arg2.IsWhole) (arg3 : Memref sig .tc .vmem S1024x4096 .bf16) (harg3 : arg3.IsWhole) (arg4 : Memref sig .tc .vmem S1x4096x256 .bf16) (harg4 : arg4.IsWhole) (arg5 : Memref sig .tc .vmem S1x4096x256 .bf16) (harg5 : arg5.IsWhole) (arg6 : Memref sig .tc .vmem S1x256x4096 .bf16) (harg6 : arg6.IsWhole) (arg7 : Memref sig .tc .vmem S1x1x4096 .f32) (harg7 : arg7.IsWhole) (arg8 : Memref sig .tc .vmem S1x1x4096 .f32) (harg8 : arg8.IsWhole) (arg9 : Memref sig .tc .vmem S128x4096 .f32) (harg9 : arg9.IsWhole) (arg10 : Memref sig .tc .vmem S128x4096 .bf16) (harg10 : arg10.IsWhole) (arg11 : Memref sig .tc .vmem S1024x4096 .f32) (harg11 : arg11.IsWhole)
  (x0 : Vec Ideal S1024x512 .f32) (x1 : Vec Ideal S1024x4096 .bf16) (x2 : Vec Ideal S1x4096x256 .bf16) (x3 : Vec Ideal S1x4096x256 .bf16) (x4 : Vec Ideal S1x256x4096 .bf16) (x5 : Vec Ideal S1x1x4096 .f32) (x6 : Vec Ideal S1x1x4096 .f32) (xs0 : Vec Ideal S1024x4096 .f32)

theorem out_J_7 (hc0 : ¬cond0_0 i) (hc1 : ¬cond0_1 i) (hc2 : ¬cond0_2 i) (hc3 : ¬cond0_3 i) (hc4 : ¬cond0_4 i) (hc5 : ¬cond0_5 i) (hc6 : ¬cond0_6 i) (hc7 : ¬cond0_7 i) (hc8 : ¬cond0_8 i) (hc9 : ¬cond0_9 i) (hc10 : cond0_10 i) (h43 : 43 ≤ (i 1).val) :
    out0_J_7 (F := Ideal) c i arg2 harg2 arg3 harg3 arg4 harg4 arg5 harg5 arg6 harg6 arg7 harg7 arg8 harg8 arg9 harg9 arg10 harg10 arg11 harg11 hc0 hc1 hc2 hc3 hc4 hc5 hc6 hc7 hc8 hc9 hc10 x0 x1 x2 x3 x4 x5 x6 xs0
      = lnBlock ((i 1).val - 43) x5 x6 xs0 := by
  have hi : (i 1).val < 51 := (i 1).isLt
  unfold out0_J_7
  rw [View.read_writes_junk_eq_canon]
  funext y
  refine View.canon_apply_of_pieces (lnBlock ((i 1).val - 43) x5 x6 xs0) _ ?_ y (cover0_J_7 (F := Ideal) c i arg2 harg2 arg3 harg3 arg4 harg4 arg5 harg5 arg6 harg6 arg7 harg7 arg8 harg8 arg9 harg9 arg10 harg10 arg11 harg11 hc0 hc1 hc2 hc3 hc4 hc5 hc6 hc7 hc8 hc9 hc10 x0 x1 x2 x3 x4 x5 x6 xs0 y)
  unfold kernelRun0_J
  dsimp only
  sl_unfold_words
  have key := fun pay hpay p off hoff inb x => piece pay hpay arg7 harg7 arg8 harg8 arg11 harg11 x5 x6 xs0
    ((i 1).val - 43) (by omega) p off hoff inb_S1x1x4096_S1x1x4096_0_0_0 inb_S1x1x4096_S1x1x4096_0_0_0 inb x
  refine List.forall_mem_cons.mpr ⟨fun x => key (fun g b a => k0_pay2 (k0_pay4 g) (k0_pay5 b) (k0_pay24 a) (k0_pay25 a)) (fun g b a => (pay_7 g b a).1) 7 _ (off17 i h43 7) _ x, ?_⟩
  refine List.forall_mem_cons.mpr ⟨fun x => key (fun g b a => k0_pay22 (k0_pay4 g) (k0_pay5 b) a (Scalar.ofBits .f32 0x3F000000#32)) (fun g b a => (pay_6 g b a).1) 6 _ (off17 i h43 6) _ x, ?_⟩
  refine List.forall_mem_cons.mpr ⟨fun x => key (fun g b a => k0_pay20 (k0_pay4 g) (k0_pay5 b) a) (fun g b a => (pay_5 g b a).1) 5 _ (off17 i h43 5) _ x, ?_⟩
  refine List.forall_mem_cons.mpr ⟨fun x => key (fun g b a => k0_pay18 (k0_pay4 g) (k0_pay5 b) a) (fun g b a => (pay_4 g b a).1) 4 _ (off17 i h43 4) _ x, ?_⟩
  refine List.forall_mem_cons.mpr ⟨fun x => key (fun g b a => k0_pay16 (k0_pay4 g) (k0_pay5 b) (k0_pay14 a) (k0_pay15 a) (Scalar.ofBits .f32 0x3727C5AC#32)) (fun g b a => (pay_3 g b a).1) 3 _ (off17 i h43 3) _ x, ?_⟩
  refine List.forall_mem_cons.mpr ⟨fun x => key (fun g b a => k0_pay12 (k0_pay4 g) (k0_pay5 b) (k0_pay10 a) (k0_pay11 a)) (fun g b a => (pay_2 g b a).1) 2 _ (off17 i h43 2) _ x, ?_⟩
  refine List.forall_mem_cons.mpr ⟨fun x => key (fun g b a => k0_pay8 (k0_pay4 g) (k0_pay5 b) a) (fun g b a => (pay_1 g b a).1) 1 _ (off17 i h43 1) _ x, ?_⟩
  refine List.forall_mem_cons.mpr ⟨fun x => key (fun g b a => k0_pay6 g b a) (fun g b a => (pay_0 g b a).1) 0 _ (off17 i h43 0) _ x, ?_⟩
  intro pc h
  exact absurd h List.not_mem_nil

theorem out_J_8 (hc0 : ¬cond0_0 i) (hc1 : ¬cond0_1 i) (hc2 : ¬cond0_2 i) (hc3 : ¬cond0_3 i) (hc4 : ¬cond0_4 i) (hc5 : ¬cond0_5 i) (hc6 : ¬cond0_6 i) (hc7 : ¬cond0_7 i) (hc8 : ¬cond0_8 i) (hc9 : ¬cond0_9 i) (hc10 : cond0_10 i) (h43 : 43 ≤ (i 1).val) :
    out0_J_8 (F := Ideal) c i arg2 harg2 arg3 harg3 arg4 harg4 arg5 harg5 arg6 harg6 arg7 harg7 arg8 harg8 arg9 harg9 arg10 harg10 arg11 harg11 hc0 hc1 hc2 hc3 hc4 hc5 hc6 hc7 hc8 hc9 hc10 x0 x1 x2 x3 x4 x5 x6 xs0
      = lnBlock ((i 1).val - 43) x5 x6 xs0 := by
  have hi : (i 1).val < 51 := (i 1).isLt
  unfold out0_J_8
  rw [View.read_writes_junk_eq_canon]
  funext y
  refine View.canon_apply_of_pieces (lnBlock ((i 1).val - 43) x5 x6 xs0) _ ?_ y (cover0_J_8 (F := Ideal) c i arg2 harg2 arg3 harg3 arg4 harg4 arg5 harg5 arg6 harg6 arg7 harg7 arg8 harg8 arg9 harg9 arg10 harg10 arg11 harg11 hc0 hc1 hc2 hc3 hc4 hc5 hc6 hc7 hc8 hc9 hc10 x0 x1 x2 x3 x4 x5 x6 xs0 y)
  unfold kernelRun0_J
  dsimp only
  sl_unfold_words
  have key := fun pay hpay p off hoff inb x => piece pay hpay arg7 harg7 arg8 harg8 arg11 harg11 x5 x6 xs0
    ((i 1).val - 43) (by omega) p off hoff inb_S1x1x4096_S1x1x4096_0_0_0 inb_S1x1x4096_S1x1x4096_0_0_0 inb x
  refine List.forall_mem_cons.mpr ⟨fun x => key (fun g b a => k0_pay3 (k0_pay4 g) (k0_pay5 b) (k0_pay24 a) (k0_pay25 a)) (fun g b a => (pay_7 g b a).2) 7 _ (off17 i h43 7) _ x, ?_⟩
  refine List.forall_mem_cons.mpr ⟨fun x => key (fun g b a => k0_pay23 (k0_pay4 g) (k0_pay5 b) a (Scalar.ofBits .f32 0x3F000000#32)) (fun g b a => (pay_6 g b a).2) 6 _ (off17 i h43 6) _ x, ?_⟩
  refine List.forall_mem_cons.mpr ⟨fun x => key (fun g b a => k0_pay21 (k0_pay4 g) (k0_pay5 b) a) (fun g b a => (pay_5 g b a).2) 5 _ (off17 i h43 5) _ x, ?_⟩
  refine List.forall_mem_cons.mpr ⟨fun x => key (fun g b a => k0_pay19 (k0_pay4 g) (k0_pay5 b) a) (fun g b a => (pay_4 g b a).2) 4 _ (off17 i h43 4) _ x, ?_⟩
  refine List.forall_mem_cons.mpr ⟨fun x => key (fun g b a => k0_pay17 (k0_pay4 g) (k0_pay5 b) (k0_pay14 a) (k0_pay15 a) (Scalar.ofBits .f32 0x3727C5AC#32)) (fun g b a => (pay_3 g b a).2) 3 _ (off17 i h43 3) _ x, ?_⟩
  refine List.forall_mem_cons.mpr ⟨fun x => key (fun g b a => k0_pay13 (k0_pay4 g) (k0_pay5 b) (k0_pay10 a) (k0_pay11 a)) (fun g b a => (pay_2 g b a).2) 2 _ (off17 i h43 2) _ x, ?_⟩
  refine List.forall_mem_cons.mpr ⟨fun x => key (fun g b a => k0_pay9 (k0_pay4 g) (k0_pay5 b) a) (fun g b a => (pay_1 g b a).2) 1 _ (off17 i h43 1) _ x, ?_⟩
  refine List.forall_mem_cons.mpr ⟨fun x => key (fun g b a => k0_pay7 g b a) (fun g b a => (pay_0 g b a).2) 0 _ (off17 i h43 0) _ x, ?_⟩
  intro pc h
  exact absurd h List.not_mem_nil

end FfnVal
-- ==== Proof.FfnAcc.lean ====
module
public import proofs.«01_k».proof.Proof.FfnBlocks
public import proofs.«01_k».proof.Proof.FfnLn

/-! The feed-forward call's accumulator after every grid point: the blocks of the hidden width done so
far, and `2α·x` in the bands of columns done so far. -/

@[expose] public section
set_option maxRecDepth 16384
noncomputable section
open Idealize.ShloMosaic Idealize.ShloMosaic.TcCoe Idealize.ShloMosaic.Tactic
open Cert.FfnIdeal Cert.FfnIdeal.Gen
namespace FfnVal

theorem pay27_at (x1 : Vec Ideal S1024x4096 .bf16) (x2 x3 : Vec Ideal S1x4096x256 .bf16) (a : Vec Ideal S1024x4096 .f32)
    (x4 : Vec Ideal S1x256x4096 .bf16) (p : Fin 1024) (q : Fin 4096) :
    k0_pay27 x1 x2 x3 a x4 (ix2 p q) = a (ix2 p q) +
      ∑ k : Fin 256, hidden (fun l => x1 (ix2 p l)) (fun l => x2 (ix3 0 l k)) (fun l => x3 (ix3 0 l k)) * x4 (ix3 0 k q) := by
  unfold hidden
  pointwise! [k0_pay27]

theorem resid_at (C : ℕ) (u : Vec Ideal S1024x512 .f32) (a : Vec Ideal S1024x4096 .f32) (p : Fin 1024) (q : Fin 4096) :
    resid C u a (ix2 p q) = a (ix2 p q) + if h : C ≤ q.val ∧ q.val < C + 512 then
      Ideal.ofBits .f32 0x403504F3#32 * u (ix2 p ⟨q.val - C, by omega⟩) else 0 := by
  unfold resid
  by_cases h : C ≤ q.val ∧ q.val < C + 512
  · rw [dif_pos h]
    refine (if_pos h).trans ?_
    congr 3
    refine congrArg (ix2 p) (Fin.ext ?_)
    show (q.val - C) % 512 = q.val - C
    omega
  · rw [dif_neg h, add_zero]
    exact if_neg h

variable (m : (ℓ : Loc nD τ sig) → Buf (Elt Ideal) ℓ) (c : Dev nD)

/-- Token `r`'s row of the operand. -/
def xrow (r : Fin 16384) (l : Fin 4096) : EReal :=
  m ((c.tc : Thread nD τ).loc main_arg0) (ix3 ⟨r.val / 2048, by omega⟩ ⟨r.val % 2048, by omega⟩ l)

/-- What block `j` of the hidden width adds at token `r`, column `q`. -/
def term (r : Fin 16384) (q : Fin 4096) (j : ℕ) : EReal :=
  ∑ k : Fin 256, hidden (xrow m c r)
    (fun l => m ((c.tc : Thread nD τ).loc main_arg1) (ix3 1 l ⟨256 * min j 42 + k.val, by omega⟩))
    (fun l => m ((c.tc : Thread nD τ).loc main_arg2) (ix3 1 l ⟨256 * min j 42 + k.val, by omega⟩))
    * m ((c.tc : Thread nD τ).loc main_arg3) (ix3 1 ⟨256 * min j 42 + k.val, by omega⟩ q)

/-- The accumulator after `n` blocks of the hidden width, at token `r`, column `q`. -/
def accAt (r : Fin 16384) (q : Fin 4096) (n : ℕ) : EReal :=
  ∑ j ∈ Finset.range n, term m c r q j +
    if q.val < 512 * n then Ideal.ofBits .f32 0x403504F3#32 * xrow m c r q else 0

/-- The blocks a point multiplies, at an index: the new block's part of the sum. -/
theorem pay27_pt (t : Fin cfg0.N) (a : Vec Ideal S1024x4096 .f32) (p : Fin 1024) (q : Fin 4096) :
    k0_pay27 (iblk m c 1 t) (iblk m c 2 t) (iblk m c 3 t) a (iblk m c 4 t) (ix2 p q)
      = a (ix2 p q) + term m c (tok t.val p) q (t.val % 51) := by
  rw [pay27_at]
  unfold term xrow
  simp only [blk1 m c t, blk2 m c t, blk3 m c t, blk4 m c t]

theorem accAt_succ (r : Fin 16384) (q : Fin 4096) (n : ℕ) (u : EReal)
    (hu : u = if 512 * n ≤ q.val ∧ q.val < 512 * n + 512 then Ideal.ofBits .f32 0x403504F3#32 * xrow m c r q else 0) :
    accAt m c r q n + term m c r q n + u = accAt m c r q (n + 1) := by
  subst hu
  unfold accAt
  rw [Finset.sum_range_succ, add_right_comm _ _ (term m c r q n), add_assoc (∑ j ∈ Finset.range n, term m c r q j + term m c r q n)]
  congr 1
  by_cases h : q.val < 512 * n
  · rw [if_pos h, if_neg (by omega), if_pos (by omega), add_zero]
  · rw [if_neg h, zero_add]
    congr 1
    exact propext ⟨fun h => by omega, fun h => by omega⟩

/-- The band a point among the first eight adds to. -/
theorem band_pt (t : Fin cfg0.N) (n : ℕ) (hn : t.val % 51 = n) (h7 : n ≤ 7) (p : Fin 1024) (q : Fin 4096) :
    (if h : 512 * n ≤ q.val ∧ q.val < 512 * n + 512 then
      Ideal.ofBits .f32 0x403504F3#32 * (iblk m c 0 t : Vec Ideal S1024x512 .f32) (ix2 p ⟨q.val - 512 * n, by omega⟩) else 0)
    = if 512 * n ≤ q.val ∧ q.val < 512 * n + 512 then Ideal.ofBits .f32 0x403504F3#32 * xrow m c (tok t.val p) q else 0 := by
  by_cases h : 512 * n ≤ q.val ∧ q.val < 512 * n + 512
  · rw [dif_pos h, if_pos h]
    congr 1
    refine (blk0 m c t p _).trans ?_
    unfold xrow
    congr 2
    apply Fin.ext
    show 512 * min (t.val % 51) 7 + (q.val - 512 * n) = q.val
    omega
  · rw [dif_neg h, if_neg h]

/-- The accumulator before a point's work: zero at a row block's first point, else what the point before left. -/
def prev (t : Fin cfg0.N) : Vec Ideal S1024x4096 .f32 :=
  if t.val % 51 = 0 then k0_pay26 (F := Ideal)
  else (outsAt0 m c (t.val - 1) (Nat.lt_of_le_of_lt (Nat.sub_le _ _) t.isLt)).2.2

/-- One of the first eight points of a row block. -/
theorem step_resid (t : Fin cfg0.N) (h : t.val % 51 ≤ 7) :
    (outsAt0 m c t.val t.isLt).2.2 = resid (512 * (t.val % 51)) (iblk m c 0 t)
      (k0_pay27 (iblk m c 1 t) (iblk m c 2 t) (iblk m c 3 t) (prev m c t) (iblk m c 4 t)) := by
  unfold prev
  have hj : t.val % 51 = 0 ∨ t.val % 51 = 1 ∨ t.val % 51 = 2 ∨ t.val % 51 = 3 ∨ t.val % 51 = 4 ∨ t.val % 51 = 5 ∨
    t.val % 51 = 6 ∨ t.val % 51 = 7 := by omega
  rcases hj with hj | hj | hj | hj | hj | hj | hj | hj
  · rw [if_pos hj, hj]
    exact (congrArg (fun o => o.2.2) (outsAt0_A m c t (by omega) (by omega) (by omega) (by omega) (by omega) (by omega) (by omega) (by omega) (by omega) (by omega) (by omega))).trans (sout_A ..)
  · rw [if_neg (by omega), hj]
    exact (congrArg (fun o => o.2.2) (outsAt0_B m c t (by omega) (by omega) (by omega) (by omega) (by omega) (by omega) (by omega) (by omega) (by omega) (by omega) (by omega))).trans (sout_B ..)
  · rw [if_neg (by omega), hj]
    exact (congrArg (fun o => o.2.2) (outsAt0_C m c t (by omega) (by omega) (by omega) (by omega) (by omega) (by omega) (by omega) (by omega) (by omega) (by omega) (by omega))).trans (sout_C ..)
  · rw [if_neg (by omega), hj]
    exact (congrArg (fun o => o.2.2) (outsAt0_D m c t (by omega) (by omega) (by omega) (by omega) (by omega) (by omega) (by omega) (by omega) (by omega) (by omega) (by omega))).trans (sout_D ..)
  · rw [if_neg (by omega), hj]
    exact (congrArg (fun o => o.2.2) (outsAt0_E m c t (by omega) (by omega) (by omega) (by omega) (by omega) (by omega) (by omega) (by omega) (by omega) (by omega) (by omega))).trans (sout_E ..)
  · rw [if_neg (by omega), hj]
    exact (congrArg (fun o => o.2.2) (outsAt0_F m c t (by omega) (by omega) (by omega) (by omega) (by omega) (by omega) (by omega) (by omega) (by omega) (by omega) (by omega))).trans (sout_F ..)
  · rw [if_neg (by omega), hj]
    exact (congrArg (fun o => o.2.2) (outsAt0_G m c t (by omega) (by omega) (by omega) (by omega) (by omega) (by omega) (by omega) (by omega) (by omega) (by omega) (by omega))).trans (sout_G ..)
  · rw [if_neg (by omega), hj]
    exact (congrArg (fun o => o.2.2) (outsAt0_H m c t (by omega) (by omega) (by omega) (by omega) (by omega) (by omega) (by omega) (by omega) (by omega) (by omega) (by omega))).trans (sout_H ..)

/-- A later point of the hidden width. -/
theorem step_plain (t : Fin cfg0.N) (h8 : 8 ≤ t.val % 51) (h : t.val % 51 ≤ 42) :
    (outsAt0 m c t.val t.isLt).2.2 =
      k0_pay27 (iblk m c 1 t) (iblk m c 2 t) (iblk m c 3 t) (prev m c t) (iblk m c 4 t) := by
  unfold prev
  rw [if_neg (by omega)]
  refine (congrArg (fun o => o.2.2) (outsAt0_I m c t (by omega) (by omega) (by omega) (by omega) (by omega) (by omega) (by omega) (by omega) (by omega) (by omega) (by omega))).trans ?_
  dsimp only
  rw [sout_I]

/-- A normalising point leaves the accumulator as it was. -/
theorem step_keep (t : Fin cfg0.N) (h : 43 ≤ t.val % 51) :
    (outsAt0 m c t.val t.isLt).2.2 = prev m c t := by
  unfold prev
  rw [if_neg (by omega)]
  exact congrArg (fun o => o.2.2) (outsAt0_J m c t (by omega) (by omega) (by omega) (by omega) (by omega) (by omega) (by omega) (by omega) (by omega) (by omega) (by omega))

/-- The accumulator after every point, by induction on the point. -/
theorem acc_eq : ∀ (n : ℕ) (h : n < cfg0.N) (p : Fin 1024) (q : Fin 4096),
    (outsAt0 m c n h).2.2 (ix2 p q) = accAt m c (tok n p) q (min (n % 51) 42 + 1) := by
  intro n
  induction n with
  | zero =>
    intro h p q
    have e := step_resid m c ⟨0, h⟩ (by show 0 % 51 ≤ 7; omega)
    refine (congrFun e (ix2 p q)).trans ?_
    rw [resid_at, pay27_pt, band_pt m c ⟨0, h⟩ _ rfl (by show 0 % 51 ≤ 7; omega)]
    refine Eq.trans ?_ (accAt_succ m c (tok 0 p) q 0 _ rfl)
    congr 2
    unfold accAt prev
    rw [if_pos (by rfl), Finset.sum_range_zero, if_neg (by omega)]
    pointwise [k0_pay26]
  | succ n ih =>
    intro h p q
    have hN : n + 1 < 816 := lt_of_lt_of_eq h N_0
    have hp : ∀ (h0 : (n + 1) % 51 ≠ 0), prev m c ⟨n + 1, h⟩ (ix2 p q) = accAt m c (tok (n + 1) p) q (min (n % 51) 42 + 1) := by
      intro h0
      unfold prev
      rw [if_neg h0]
      refine (ih (Nat.lt_of_succ_lt h) p q).trans ?_
      congr 1
      unfold tok
      congr 3
      have : n / 51 = (n + 1) / 51 := by omega
      rw [this]
    by_cases h7 : (n + 1) % 51 ≤ 7
    · refine (congrFun (step_resid m c ⟨n + 1, h⟩ h7) (ix2 p q)).trans ?_
      rw [resid_at, pay27_pt, band_pt m c ⟨n + 1, h⟩ _ rfl h7]
      rw [show min ((n + 1) % 51) 42 = (n + 1) % 51 by omega]
      refine Eq.trans ?_ (accAt_succ m c (tok (n + 1) p) q ((n + 1) % 51) _ rfl)
      congr 2
      by_cases h0 : (n + 1) % 51 = 0
      · unfold accAt prev
        rw [if_pos h0, h0, Finset.sum_range_zero, if_neg (by omega)]
        pointwise [k0_pay26]
      · rw [hp h0]
        congr 1
        omega
    · by_cases h42 : (n + 1) % 51 ≤ 42
      · refine (congrFun (step_plain m c ⟨n + 1, h⟩ (by show 8 ≤ (n + 1) % 51; omega) h42) (ix2 p q)).trans ?_
        rw [pay27_pt, hp (by omega)]
        rw [show min ((n + 1) % 51) 42 = (n + 1) % 51 by omega, show min (n % 51) 42 + 1 = (n + 1) % 51 by omega]
        refine Eq.trans ?_ (accAt_succ m c (tok (n + 1) p) q ((n + 1) % 51) 0 (by rw [if_neg (by omega)]))
        rw [add_zero]
      · refine (congrFun (step_keep m c ⟨n + 1, h⟩ (by show 43 ≤ (n + 1) % 51; omega)) (ix2 p q)).trans ?_
        rw [hp (by omega)]
        congr 1
        omega

end FfnVal
-- ==== Proof.FfnOut.lean ====
module
public import proofs.«01_k».proof.Proof.FfnAcc

/-! The feed-forward call's two result arrays: every block written back is the block of the layer's
result it names, and the blocks cover both arrays. -/

@[expose] public section
set_option maxRecDepth 16384
noncomputable section
open Idealize.ShloMosaic Idealize.ShloMosaic.TcCoe Idealize.ShloMosaic.Tactic Idealize.SL.Sem
open Cert.FfnIdeal Cert.FfnIdeal.Gen
open Idealize.ShloMosaic.Pipeline (Dat)
namespace FfnVal

variable (m : (ℓ : Loc nD τ sig) → Buf (Elt Ideal) ℓ) (ρ : Dev nD → PrngReg) (c : Dev nD)

/-- The layer's result on the kernel's arguments, as an array. -/
def out : S16384x4096.Idx → EReal := fun i =>
  ffnAt (m ((c.tc : Thread nD τ).loc main_arg0)) (m ((c.tc : Thread nD τ).loc main_arg1))
    (m ((c.tc : Thread nD τ).loc main_arg2)) (m ((c.tc : Thread nD τ).loc main_arg3))
    (m ((c.tc : Thread nD τ).loc main_arg4)) (m ((c.tc : Thread nD τ).loc main_arg5)) (i 0) (i 1)

theorem coord1 : ∀ t : Fin cfg0.N, (grid0.coords t 1).val = t.val % 51 := by decide +kernel
theorem idx7 : ∀ t : Fin cfg0.N, win0_7.index t 0 = 8 * (t.val / 51) + (t.val % 51 - 43) ∧ win0_7.index t 1 = 0 := by decide +kernel
theorem idx8 : ∀ t : Fin cfg0.N, win0_8.index t 0 = 8 * (t.val / 51) + (t.val % 51 - 43) ∧ win0_8.index t 1 = 0 := by decide +kernel
theorem flush7 : ∀ t : Fin cfg0.N, (cfg0.win 7).flush t = true ↔ 43 ≤ t.val % 51 := by decide +kernel
theorem flush8 : ∀ t : Fin cfg0.N, (cfg0.win 8).flush t = true ↔ 43 ≤ t.val % 51 := by decide +kernel

/-- The accumulator a normalising point halves is the residual sum. -/
theorem half_acc (r : Fin 16384) (q : Fin 4096) :
    Ideal.ofBits .f32 0x3F000000#32 * accAt m c r q 43
      = preNorm (xrow m c r) (fun l k => m ((c.tc : Thread nD τ).loc main_arg1) (ix3 1 l k))
        (fun l k => m ((c.tc : Thread nD τ).loc main_arg2) (ix3 1 l k))
        (fun k l => m ((c.tc : Thread nD τ).loc main_arg3) (ix3 1 k l)) q := by
  unfold accAt preNorm
  rw [if_pos (by omega), half_mul_add, sum_blocks, Finset.sum_range]
  refine congrArg (fun x => _ + _ * x) (Finset.sum_congr rfl fun j _ => ?_)
  unfold term
  refine Finset.sum_congr rfl fun k _ => ?_
  have e : min j.val 42 = j.val := by omega
  simp only [e]

/-- A normalising point's block is the layer's result at the rows it writes. -/
theorem block_eq (t : Fin cfg0.N) (h : 43 ≤ t.val % 51) (a : Vec Ideal S1024x4096 .f32)
    (ha : ∀ p q, a (ix2 p q) = accAt m c (tok t.val p) q 43) (y : S128x4096.Idx) (i : S16384x4096.Idx)
    (h0 : (i 0).val = 128 * (8 * (t.val / 51) + (t.val % 51 - 43)) + (y 0).val) (h1 : (i 1).val = (y 1).val) :
    lnBlock (t.val % 51 - 43) (iblk m c 5 t) (iblk m c 6 t) a y = out m c i := by
  have ht := lt_of_pt t
  have hy : (y 0).val < 128 := (y 0).isLt
  have e1 : y 1 = i 1 := Fin.ext h1.symm
  have e0 : tok t.val ⟨(128 * (t.val % 51 - 43) + (y 0).val) % 1024, Nat.mod_lt _ (by decide)⟩ = i 0 := by
    apply Fin.ext
    show (1024 * (t.val / 51) + (128 * (t.val % 51 - 43) + (y 0).val) % 1024) % 16384 = (i 0).val
    omega
  unfold lnBlock out ffnAt
  simp only [ha, e0, blk5 m c t, blk6 m c t, e1]
  rw [show (fun k : Fin 4096 => Ideal.ofBits .f32 0x3F000000#32 * accAt m c (i 0) k 43) = _ from
    funext fun k => half_acc m c (i 0) k]
  rfl

theorem acc_before (t : Fin cfg0.N) (h : 43 ≤ t.val % 51) (p : Fin 1024) (q : Fin 4096) :
    (outsAt0 m c (t.val - 1) (Nat.lt_of_le_of_lt (Nat.sub_le _ _) t.isLt)).2.2 (ix2 p q) = accAt m c (tok t.val p) q 43 := by
  rw [acc_eq]
  have e : tok (t.val - 1) p = tok t.val p := by
    unfold tok
    congr 3
    have : (t.val - 1) / 51 = t.val / 51 := by omega
    rw [this]
  rw [e]
  congr 1
  omega

/-- What a normalising point leaves in result 1's block. -/
theorem left_7 (t : Fin cfg0.N) (h : 43 ≤ t.val % 51) :
    (outsAt0 m c t.val t.isLt).1 = lnBlock (t.val % 51 - 43) (iblk m c 5 t) (iblk m c 6 t)
      (outsAt0 m c (t.val - 1) (Nat.lt_of_le_of_lt (Nat.sub_le _ _) t.isLt)).2.2 := by
  refine (congrArg (fun o => o.1) (outsAt0_J m c t (by omega) (by omega) (by omega) (by omega) (by omega) (by omega) (by omega) (by omega) (by omega) (by omega) (by omega))).trans ?_
  dsimp only
  rw [out_J_7 (h43 := by rw [coord1]; exact h), coord1]

theorem arr_7 : (dats m 0 c).arrAt 7 cfg0.N = out m c := by
  refine (dats m 0 c).arrAt_eq_of_covers 7 (out m c) (by decide +kernel) fun t hf y => ?_
  have h := (flush7 t).mp hf
  blk_simp
  refine (congrFun (left_7 m c t h) y).trans ?_
  refine block_eq m c t h _ (acc_before m c t h) y _ ?_ ?_
  · blk_simp
    rw [(idx7 t).1]
    omega
  · blk_simp
    rw [(idx7 t).2]
    omega

/-- What a normalising point leaves in result 2's block. -/
theorem left_8 (t : Fin cfg0.N) (h : 43 ≤ t.val % 51) :
    (outsAt0 m c t.val t.isLt).2.1 = lnBlock (t.val % 51 - 43) (iblk m c 5 t) (iblk m c 6 t)
      (outsAt0 m c (t.val - 1) (Nat.lt_of_le_of_lt (Nat.sub_le _ _) t.isLt)).2.2 := by
  refine (congrArg (fun o => o.2.1) (outsAt0_J m c t (by omega) (by omega) (by omega) (by omega) (by omega) (by omega) (by omega) (by omega) (by omega) (by omega) (by omega))).trans ?_
  dsimp only
  rw [out_J_8 (h43 := by rw [coord1]; exact h), coord1]

theorem arr_8 : (dats m 0 c).arrAt 8 cfg0.N = out m c := by
  refine (dats m 0 c).arrAt_eq_of_covers 8 (out m c) (by decide +kernel) fun t hf y => ?_
  have h := (flush8 t).mp hf
  blk_simp
  refine (congrFun (left_8 m c t h) y).trans ?_
  refine block_eq m c t h _ (acc_before m c t h) y _ ?_ ?_
  · blk_simp
    rw [(idx8 t).1]
    omega
  · blk_simp
    rw [(idx8 t).2]
    omega

/-- The kernel's run: both results hold the layer's result, the arguments what they held. -/
theorem run_out : θ_run defs (onTc (τ := τ) (main (F := Ideal))) ⟨m, fun _ => 0, ρ⟩ fun r => ∀ c : Dev nD,
    r.2.mem ((c : Thread nD τ).loc main_v7_0) = out m c ∧ r.2.mem ((c : Thread nD τ).loc main_v7_1) = out m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨(h c).1.trans (arr_7 m c), (h c).2.1.trans (arr_8 m c), (h c).2.2⟩) (Cert.FfnIdeal.Value.run_blocks m ρ)

end FfnVal
-- ==== Proof.FfnRef.lean ====
module
public import proofs.«01_k».proof.Proof.Gen.FfnRefIdeal.Run
public import proofs.«01_k».proof.Proof.FfnMath
public import Idealize.ShloMosaic.Lib.Tactic
public import Idealize.ShloMosaic.Lib.Claim
public import Idealize.ShloMosaic.Lib.Tactic.CleanTypes

/-! The plain feed-forward program's results, read at an index. -/

@[expose] public section
set_option maxRecDepth 16384
noncomputable section
open Idealize.ShloMosaic Idealize.ShloMosaic.TcCoe Idealize.ShloMosaic.Tactic
open Cert.FfnRefIdeal Cert.FfnRefIdeal.Value
namespace FfnVal

variable (m : (ℓ : Loc nD τ sig) → Buf (Elt Ideal) ℓ) (c : Dev nD)

/-- The layer's result on this program's arguments. -/
def ffnOf (r : Fin 16384) (q : Fin 4096) : EReal :=
  ffnAt (m ((c.tc : Thread nD τ).loc main_arg0)) (m ((c.tc : Thread nD τ).loc main_arg1))
    (m ((c.tc : Thread nD τ).loc main_arg2)) (m ((c.tc : Thread nD τ).loc main_arg3))
    (m ((c.tc : Thread nD τ).loc main_arg4)) (m ((c.tc : Thread nD τ).loc main_arg5)) r q

theorem ref_at (r : Fin 16384) (q : Fin 4096) :
    (res_main_v44 m c : S16384x4096.Idx → EReal) (ix2 r q) = ffnOf m c r q := by
  unfold res_main_v44 ffnOf ffnAt lnRow preNorm hidden
  clean_types
  pointwise! []

theorem ref_at' (r : Fin 16384) (q : Fin 4096) :
    (res_main_v45 m c : S16384x4096.Idx → EReal) (ix2 r q) = ffnOf m c r q := by
  unfold res_main_v45 ffnOf ffnAt lnRow preNorm hidden
  clean_types
  pointwise! []

end FfnVal
-- ==== Proof.OutBlocks.lean ====
module
public import proofs.«01_k».proof.Proof.Gen.OutprojIdeal.Value
public import Idealize.ShloMosaic.Lib.Pipeline.Value
public import Idealize.ShloMosaic.Lib.StableHlo.Run
public import Idealize.ShloMosaic.Lib.Claim
public import Idealize.ShloMosaic.Lib.Tactic
public import Idealize.ShloMosaic.Lib.Pipeline.ValueKit
public import Idealize.ShloMosaic.Lib.Pointwise

/-! The blocks the output projection reads at a grid point, as entries of the arrays it is given. Point
`t` is block `t % 16` of the mixers' width (from 8 on: a normalising step) for row block `t / 16`. -/

@[expose] public section
set_option maxRecDepth 16384
noncomputable section
open Idealize.ShloMosaic Idealize.ShloMosaic.TcCoe Idealize.ShloMosaic.Tactic
open Cert.OutprojIdeal Cert.OutprojIdeal.Gen
namespace OutVal

variable (m : (ℓ : Loc nD τ sig) → Buf (Elt Ideal) ℓ) (c : Dev nD)

/-- The token that row `p` of row block `t / 16` is. -/
def tok (t : ℕ) (p : Fin 1024) : Fin 16384 := ⟨(1024 * (t / 16) + p.val) % 16384, Nat.mod_lt _ (by decide)⟩

theorem lt_of_pt (t : Fin cfg0.N) : t.val < 256 := lt_of_lt_of_eq t.isLt N_0

theorem idx0 : ∀ t : Fin cfg0.N, win0_0.index t 0 = t.val / 16 ∧ win0_0.index t 1 = min (t.val % 16) 7 := by decide +kernel
theorem idx1 : ∀ t : Fin cfg0.N, win0_1.index t 0 = t.val / 16 ∧ win0_1.index t 1 = min (t.val % 16) 3 := by decide +kernel
theorem idx2 : ∀ t : Fin cfg0.N, win0_2.index t 0 = t.val / 16 ∧ win0_2.index t 1 = min (t.val % 16 - 4) 3 := by decide +kernel
theorem idx3 : ∀ t : Fin cfg0.N, win0_3.index t 0 = 0 ∧ win0_3.index t 1 = min (t.val % 16) 7 ∧ win0_3.index t 2 = 0 := by decide +kernel
theorem idx4 : ∀ t : Fin cfg0.N, win0_4.index t 0 = 0 ∧ win0_4.index t 1 = 0 ∧ win0_4.index t 2 = 0 := by decide +kernel
theorem idx5 : ∀ t : Fin cfg0.N, win0_5.index t 0 = 0 ∧ win0_5.index t 1 = 0 ∧ win0_5.index t 2 = 0 := by decide +kernel

theorem V_v0 (i : S2x8192x4096.Idx) : (V m c main_v0 : S2x8192x4096.Idx → EReal) i = m ((c.tc : Thread nD τ).loc main_arg3) i := by
  entry_read
  pointwise! []

theorem V_v1 (q : Fin 4096) : (V m c main_v1 : S2x1x4096.Idx → EReal) (ix3 0 0 q) = m ((c.tc : Thread nD τ).loc main_arg4) (ix2 0 q) := by
  entry_read
  pointwise! []

theorem V_v2 (q : Fin 4096) : (V m c main_v2 : S2x1x4096.Idx → EReal) (ix3 0 0 q) = m ((c.tc : Thread nD τ).loc main_arg5) (ix2 0 q) := by
  entry_read
  pointwise! []

theorem blk0 (t : Fin cfg0.N) (p : Fin 1024) (q : Fin 512) :
    (iblk m c 0 t : S1024x512.Idx → EReal) (ix2 p q)
      = m ((c.tc : Thread nD τ).loc main_arg0) (ix2 (tok t.val p) ⟨512 * min (t.val % 16) 7 + q.val, by omega⟩) := by
  have ht := lt_of_pt t
  rw [← V_main_arg0 m c]
  unfold iblk
  rw [View.read_apply]
  show V m c main_arg0 _ = V m c main_arg0 _
  congr 1
  funext a
  apply Fin.ext
  match a with
  | ⟨0, _⟩ => show win0_0.index t 0 * 1024 + 1 * p.val = (1024 * (t.val / 16) + p.val) % 16384; rw [(idx0 t).1]; omega
  | ⟨1, _⟩ => show win0_0.index t 1 * 512 + 1 * q.val = 512 * min (t.val % 16) 7 + q.val; rw [(idx0 t).2]; omega

theorem blk1 (t : Fin cfg0.N) (p : Fin 1024) (q : Fin 1024) :
    (iblk m c 1 t : S1024x1024.Idx → EReal) (ix2 p q)
      = m ((c.tc : Thread nD τ).loc main_arg1) (ix2 (tok t.val p) ⟨1024 * min (t.val % 16) 3 + q.val, by omega⟩) := by
  have ht := lt_of_pt t
  rw [← V_main_arg1 m c]
  unfold iblk
  rw [View.read_apply]
  show V m c main_arg1 _ = V m c main_arg1 _
  congr 1
  funext a
  apply Fin.ext
  match a with
  | ⟨0, _⟩ => show win0_1.index t 0 * 1024 + 1 * p.val = (1024 * (t.val / 16) + p.val) % 16384; rw [(idx1 t).1]; omega
  | ⟨1, _⟩ => show win0_1.index t 1 * 1024 + 1 * q.val = 1024 * min (t.val % 16) 3 + q.val; rw [(idx1 t).2]; omega

theorem blk2 (t : Fin cfg0.N) (p : Fin 1024) (q : Fin 1024) :
    (iblk m c 2 t : S1024x1024.Idx → EReal) (ix2 p q)
      = m ((c.tc : Thread nD τ).loc main_arg2) (ix2 (tok t.val p) ⟨1024 * min (t.val % 16 - 4) 3 + q.val, by omega⟩) := by
  have ht := lt_of_pt t
  rw [← V_main_arg2 m c]
  unfold iblk
  rw [View.read_apply]
  show V m c main_arg2 _ = V m c main_arg2 _
  congr 1
  funext a
  apply Fin.ext
  match a with
  | ⟨0, _⟩ => show win0_2.index t 0 * 1024 + 1 * p.val = (1024 * (t.val / 16) + p.val) % 16384; rw [(idx2 t).1]; omega
  | ⟨1, _⟩ => show win0_2.index t 1 * 1024 + 1 * q.val = 1024 * min (t.val % 16 - 4) 3 + q.val; rw [(idx2 t).2]; omega

theorem blk3 (t : Fin cfg0.N) (k : Fin 1024) (l : Fin 4096) :
    (iblk m c 3 t : S1x1024x4096.Idx → EReal) (ix3 0 k l)
      = m ((c.tc : Thread nD τ).loc main_arg3) (ix3 0 ⟨1024 * min (t.val % 16) 7 + k.val, by omega⟩ l) := by
  have ht := lt_of_pt t
  rw [← V_v0 m c (ix3 0 ⟨1024 * min (t.val % 16) 7 + k.val, by omega⟩ l)]
  unfold iblk
  rw [View.read_apply]
  show V m c main_v0 _ = V m c main_v0 _
  congr 1
  funext a
  apply Fin.ext
  match a with
  | ⟨0, _⟩ => show win0_3.index t 0 * 1 + 1 * 0 = 0; rw [(idx3 t).1]
  | ⟨1, _⟩ => show win0_3.index t 1 * 1024 + 1 * k.val = 1024 * min (t.val % 16) 7 + k.val; rw [(idx3 t).2.1]; omega
  | ⟨2, _⟩ => show win0_3.index t 2 * 4096 + 1 * l.val = l.val; rw [(idx3 t).2.2]; omega

theorem blk4 (t : Fin cfg0.N) (q : Fin 4096) :
    (iblk m c 4 t : S1x1x4096.Idx → EReal) (ix3 0 0 q)
      = m ((c.tc : Thread nD τ).loc main_arg4) (ix2 0 q) := by
  have ht := lt_of_pt t
  rw [← V_v1 m c q]
  unfold iblk
  rw [View.read_apply]
  show V m c main_v1 _ = V m c main_v1 _
  congr 1
  funext a
  apply Fin.ext
  match a with
  | ⟨0, _⟩ => show win0_4.index t 0 * 1 + 1 * 0 = 0; rw [(idx4 t).1]
  | ⟨1, _⟩ => show win0_4.index t 1 * 1 + 1 * 0 = 0; rw [(idx4 t).2.1]
  | ⟨2, _⟩ => show win0_4.index t 2 * 4096 + 1 * q.val = q.val; rw [(idx4 t).2.2]; omega

theorem blk5 (t : Fin cfg0.N) (q : Fin 4096) :
    (iblk m c 5 t : S1x1x4096.Idx → EReal) (ix3 0 0 q)
      = m ((c.tc : Thread nD τ).loc main_arg5) (ix2 0 q) := by
  have ht := lt_of_pt t
  rw [← V_v2 m c q]
  unfold iblk
  rw [View.read_apply]
  show V m c main_v2 _ = V m c main_v2 _
  congr 1
  funext a
  apply Fin.ext
  match a with
  | ⟨0, _⟩ => show win0_5.index t 0 * 1 + 1 * 0 = 0; rw [(idx5 t).1]
  | ⟨1, _⟩ => show win0_5.index t 1 * 1 + 1 * 0 = 0; rw [(idx5 t).2.1]
  | ⟨2, _⟩ => show win0_5.index t 2 * 4096 + 1 * q.val = q.val; rw [(idx5 t).2.2]; omega

end OutVal
-- ==== Proof.OutLoops.lean ====
module
public import proofs.«01_k».proof.Proof.Gen.OutprojIdeal.Loops
public import Idealize.ShloMosaic.Lib.Pipeline.Value
public import Idealize.ShloMosaic.Lib.Tactic
public import Idealize.ShloMosaic.Lib.WritesUnit
public import Idealize.ShloMosaic.Lib.Pipeline.ValueKit
public import Idealize.ShloMosaic.Lib.Pointwise
public import Idealize.ShloMosaic.PureOps.Ideal

/-! The output projection's residual loops: while its eight blocks of the mixers' width are
summed, each adds `α·x` to one band of 512 columns of the accumulator, 64 rows a trip. One lemma
says what sixteen such trips leave, and each of the eight loops is an instance of it. -/

@[expose] public section
set_option maxRecDepth 16384
noncomputable section
open Idealize.ShloMosaic Idealize.ShloMosaic.TcCoe Idealize.ShloMosaic.Tactic
open Cert.OutprojIdeal Cert.OutprojIdeal.Gen
namespace OutVal

/-- The accumulator `a` with `α·u` added to its 512 columns from column `C` on. -/
def resid (C : ℕ) (u : Vec Ideal S1024x512 .f32) (a : Vec Ideal S1024x4096 .f32) :
    Vec Ideal S1024x4096 .f32 := fun y =>
  if C ≤ (y 1).val ∧ (y 1).val < C + 512 then
    a y + Ideal.ofBits .f32 0x3FB504F3#32 *
      u (ix2 (n0 := 1024) (n1 := 512) (y 0) ⟨((y 1).val - C) % 512, Nat.mod_lt _ (by decide)⟩)
  else a y

/-- Sixteen trips that each rewrite 64 rows of one band of columns, every entry by a function of its
    own place and of what it held: after `k` trips the first `64·k` rows of the band are rewritten. -/
theorem trips_read {κ : Kind} {sp : Space} (v : View sig κ sp S1024x4096 .f32)
    (G : v.ty.Contents (Elt Ideal)) (C : ℕ)
    (p : ℕ → List (View.Piece (Elt Ideal) S1024x4096 .f32)) (h0 : p 0 = [])
    (Z : S1024x4096.Idx → EReal → EReal)
    (hs : ∀ k, k < 16 → ∃ off inb w, off = ![64 * k, C] ∧
      p (k + 1) = ⟨Rect.unit (s := S1024x4096) off S64x512.size inb, w⟩ :: p k ∧
      ∀ (x : S64x512.Idx) (y : S1024x4096.Idx), (∀ a, (y a).val = off a + (x a).val) →
        w x = Z y (v.read (Elt Ideal) (v.writes (Elt Ideal) G (p k)) y)) :
    ∀ k, k ≤ 16 → ∀ y : S1024x4096.Idx,
      v.read (Elt Ideal) (v.writes (Elt Ideal) G (p k)) y
        = if (y 0).val < 64 * k ∧ C ≤ (y 1).val ∧ (y 1).val < C + 512
          then Z y (v.read (Elt Ideal) G y) else v.read (Elt Ideal) G y := by
  intro k
  induction k with
  | zero =>
    intro _ y
    rw [h0, if_neg (by omega)]
    rfl
  | succ k ih =>
    intro hk y
    obtain ⟨off, inb, w, rfl, hp, hw⟩ := hs k (by omega)
    rw [hp]
    by_cases hin : (64 * k ≤ (y 0).val ∧ (y 0).val < 64 * k + 64) ∧ C ≤ (y 1).val ∧ (y 1).val < C + 512
    · let x : S64x512.Idx := ix2 (n0 := 64) (n1 := 512) ⟨(y 0).val - 64 * k, by omega⟩ ⟨(y 1).val - C, by omega⟩
      have hx : ∀ a, (y a).val = (![64 * k, C] : Fin 2 → ℕ) a + (x a).val := by
        intro a
        match a with
        | ⟨0, _⟩ => show (y 0).val = 64 * k + ((y 0).val - 64 * k); omega
        | ⟨1, _⟩ => show (y 1).val = C + ((y 1).val - C); omega
      rw [View.read_writes_cons_unit_of_mem v G inb w (p k) y x rfl hx, hw x y hx, ih (by omega) y,
        if_neg (by omega), if_pos (by omega)]
    · rw [show v.read (Elt Ideal) (v.writes (Elt Ideal) G (⟨Rect.unit (s := S1024x4096) ![64 * k, C] S64x512.size inb, w⟩ :: p k)) y
          = v.read (Elt Ideal) (v.writes (Elt Ideal) G (p k)) y from ?_, ih (by omega) y]
      · congr 1
        exact propext ⟨fun h => by omega, fun h => by omega⟩
      · by_cases h0 : 64 * k ≤ (y 0).val ∧ (y 0).val < 64 * k + 64
        · exact View.read_writes_cons_unit_of_not_mem v G inb w (p k) y rfl 1
            (by show (y 1).val < C ∨ C + 512 ≤ (y 1).val; omega)
        · exact View.read_writes_cons_unit_of_not_mem v G inb w (p k) y rfl 0
            (by show (y 0).val < 64 * k ∨ 64 * k + 64 ≤ (y 0).val; omega)

/-- The trips of one residual loop, in the form the eight loops' terms have: each stores, at rows
    `64·k` on and columns `C` on, the accumulator's piece plus `α` times the operand's rows. -/
theorem resid_read (arg10 : Memref sig .tc .vmem S1024x4096 .f32) (arg2 : Memref sig .tc .vmem S1024x512 .f32)
    (G : arg10.view.ty.Contents (Elt Ideal)) (X : arg2.view.ty.Contents (Elt Ideal)) (C : ℕ)
    (p : ℕ → List (View.Piece (Elt Ideal) S1024x4096 .f32)) (h0 : p 0 = [])
    (pay : Vec Ideal S64x512 .f32 → Vec Ideal S64x512 .f32 → Vec Ideal S64x512 .f32)
    (hpay : ∀ a b x, pay a b x = a x + Ideal.ofBits .f32 0x3FB504F3#32 * b x)
    (hs : ∀ k, k < 16 → ∃ off inb offx inbx, off = ![64 * k, C] ∧ offx = ![64 * k, 0] ∧
      p (k + 1) = ⟨Rect.unit (s := S1024x4096) off S64x512.size inb,
        pay (arg10.view.readAt (Elt Ideal) (Rect.unit (s := S1024x4096) off S64x512.size inb).toLoadRect
              (arg10.view.writes (Elt Ideal) G (p k)))
            (arg2.view.readAt (Elt Ideal) (Rect.unit (s := S1024x512) offx S64x512.size inbx).toLoadRect X)⟩ :: p k) :
    arg10.view.read (Elt Ideal) (arg10.view.writes (Elt Ideal) G (p 16))
      = resid C (arg2.view.read (Elt Ideal) X) (arg10.view.read (Elt Ideal) G) := by
  funext y
  rw [trips_read arg10.view G C p h0
    (fun y a => a + Ideal.ofBits .f32 0x3FB504F3#32 *
      arg2.view.read (Elt Ideal) X (ix2 (n0 := 1024) (n1 := 512) (y 0) ⟨((y 1).val - C) % 512, Nat.mod_lt _ (by decide)⟩)) ?_ 16 le_rfl y]
  · unfold resid
    have hy : (y 0).val < 1024 := (y 0).isLt
    congr 1
    exact propext ⟨fun h => h.2, fun h => ⟨by omega, h⟩⟩
  · intro k hk
    obtain ⟨off, inb, offx, inbx, rfl, rfl, hp⟩ := hs k hk
    refine ⟨_, inb, _, rfl, hp, ?_⟩
    intro x y hxy
    have e0 : (y 0).val = 64 * k + (x 0).val := hxy 0
    have e1 : (y 1).val = C + (x 1).val := hxy 1
    have hx1 : (x 1).val < 512 := (x 1).isLt
    rw [hpay]
    congr 1
    · exact View.ld_unit_apply_of _ _ _ inb x y hxy
    · refine congrArg _ (View.ld_unit_apply_of _ _ _ inbx x _ fun a => ?_)
      match a with
      | ⟨0, _⟩ => exact e0
      | ⟨1, _⟩ =>
        show ((y 1).val - C) % 512 = 0 + (x 1).val
        rw [e1, Nat.add_sub_cancel_left, Nat.mod_eq_of_lt hx1, Nat.zero_add]

variable (𝒱 : Variants) (c : Dev nD) (bd : Option 𝒱.V) (i : grid0.Coords) (arg2 : Memref sig .tc .vmem S1024x512 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x1024x4096 .bf16) (harg5 : arg5.IsWhole) (arg6 : Memref sig .tc .vmem S1x1x4096 .f32) (harg6 : arg6.IsWhole) (arg7 : Memref sig .tc .vmem S1x1x4096 .f32) (harg7 : arg7.IsWhole) (arg8 : Memref sig .tc .vmem S128x4096 .f32) (harg8 : arg8.IsWhole) (arg9 : Memref sig .tc .vmem S128x4096 .bf16) (harg9 : arg9.IsWhole) (arg10 : Memref sig .tc .vmem S1024x4096 .f32) (harg10 : arg10.IsWhole)
  (X : BufTy.Contents (Elt Ideal) arg2.view.ty) (G : BufTy.Contents (Elt Ideal) arg10.view.ty)

theorem offs1 : ∀ k : Fin k0_t1_loop.trips, k0_off1 k = ![64 * k.val, 0] ∧ k0_off2 k = ![64 * k.val, 0] := by
  decide +kernel

/-- Loop 1 adds to the columns from 0 on. -/
theorem loop1 (h : k0_cond3 i = 1#1) :
    arg10.view.read (Elt Ideal) (arg10.view.writes (Elt Ideal) G
        (pb_k0_t1 (F := Ideal) 𝒱 c bd i arg2 harg2 arg3 harg3 arg4 harg4 arg5 harg5 arg6 harg6 arg7 harg7 arg8 harg8 arg9 harg9 arg10 harg10 h X G k0_t1_loop.trips))
      = resid 0 (arg2.view.read (Elt Ideal) X) (arg10.view.read (Elt Ideal) G) :=
  resid_read arg10 arg2 G X 0 (pb_k0_t1 (F := Ideal) 𝒱 c bd i arg2 harg2 arg3 harg3 arg4 harg4 arg5 harg5 arg6 harg6 arg7 harg7 arg8 harg8 arg9 harg9 arg10 harg10 h X G) rfl k0_pay27
    (fun a b x => by pointwise [k0_pay27])
    (fun k hk => ⟨_, _, _, _, (offs1 ⟨k, hk⟩).1, (offs1 ⟨k, hk⟩).2, (pb_k0_t1_succ 𝒱 c bd i arg2 harg2 arg3 harg3 arg4 harg4 arg5 harg5 arg6 harg6 arg7 harg7 arg8 harg8 arg9 harg9 arg10 harg10 h X G ⟨k, hk⟩).trans
      (by unfold tripL_k0_t1 trip_k0_t1; dsimp only; sl_unfold_words; rfl)⟩)

theorem offs2 : ∀ k : Fin k0_t2_loop.trips, k0_off3 k = ![64 * k.val, 512] ∧ k0_off4 k = ![64 * k.val, 0] := by
  decide +kernel

/-- Loop 2 adds to the columns from 512 on. -/
theorem loop2 (h : k0_cond4 i = 1#1) :
    arg10.view.read (Elt Ideal) (arg10.view.writes (Elt Ideal) G
        (pb_k0_t2 (F := Ideal) 𝒱 c bd i arg2 harg2 arg3 harg3 arg4 harg4 arg5 harg5 arg6 harg6 arg7 harg7 arg8 harg8 arg9 harg9 arg10 harg10 h X G k0_t2_loop.trips))
      = resid 512 (arg2.view.read (Elt Ideal) X) (arg10.view.read (Elt Ideal) G) :=
  resid_read arg10 arg2 G X 512 (pb_k0_t2 (F := Ideal) 𝒱 c bd i arg2 harg2 arg3 harg3 arg4 harg4 arg5 harg5 arg6 harg6 arg7 harg7 arg8 harg8 arg9 harg9 arg10 harg10 h X G) rfl k0_pay28
    (fun a b x => by pointwise [k0_pay28])
    (fun k hk => ⟨_, _, _, _, (offs2 ⟨k, hk⟩).1, (offs2 ⟨k, hk⟩).2, (pb_k0_t2_succ 𝒱 c bd i arg2 harg2 arg3 harg3 arg4 harg4 arg5 harg5 arg6 harg6 arg7 harg7 arg8 harg8 arg9 harg9 arg10 harg10 h X G ⟨k, hk⟩).trans
      (by unfold tripL_k0_t2 trip_k0_t2; dsimp only; sl_unfold_words; rfl)⟩)

theorem offs3 : ∀ k : Fin k0_t3_loop.trips, k0_off5 k = ![64 * k.val, 1024] ∧ k0_off6 k = ![64 * k.val, 0] := by
  decide +kernel

/-- Loop 3 adds to the columns from 1024 on. -/
theorem loop3 (h : k0_cond5 i = 1#1) :
    arg10.view.read (Elt Ideal) (arg10.view.writes (Elt Ideal) G
        (pb_k0_t3 (F := Ideal) 𝒱 c bd i arg2 harg2 arg3 harg3 arg4 harg4 arg5 harg5 arg6 harg6 arg7 harg7 arg8 harg8 arg9 harg9 arg10 harg10 h X G k0_t3_loop.trips))
      = resid 1024 (arg2.view.read (Elt Ideal) X) (arg10.view.read (Elt Ideal) G) :=
  resid_read arg10 arg2 G X 1024 (pb_k0_t3 (F := Ideal) 𝒱 c bd i arg2 harg2 arg3 harg3 arg4 harg4 arg5 harg5 arg6 harg6 arg7 harg7 arg8 harg8 arg9 harg9 arg10 harg10 h X G) rfl k0_pay29
    (fun a b x => by pointwise [k0_pay29])
    (fun k hk => ⟨_, _, _, _, (offs3 ⟨k, hk⟩).1, (offs3 ⟨k, hk⟩).2, (pb_k0_t3_succ 𝒱 c bd i arg2 harg2 arg3 harg3 arg4 harg4 arg5 harg5 arg6 harg6 arg7 harg7 arg8 harg8 arg9 harg9 arg10 harg10 h X G ⟨k, hk⟩).trans
      (by unfold tripL_k0_t3 trip_k0_t3; dsimp only; sl_unfold_words; rfl)⟩)

theorem offs4 : ∀ k : Fin k0_t4_loop.trips, k0_off7 k = ![64 * k.val, 1536] ∧ k0_off8 k = ![64 * k.val, 0] := by
  decide +kernel

/-- Loop 4 adds to the columns from 1536 on. -/
theorem loop4 (h : k0_cond6 i = 1#1) :
    arg10.view.read (Elt Ideal) (arg10.view.writes (Elt Ideal) G
        (pb_k0_t4 (F := Ideal) 𝒱 c bd i arg2 harg2 arg3 harg3 arg4 harg4 arg5 harg5 arg6 harg6 arg7 harg7 arg8 harg8 arg9 harg9 arg10 harg10 h X G k0_t4_loop.trips))
      = resid 1536 (arg2.view.read (Elt Ideal) X) (arg10.view.read (Elt Ideal) G) :=
  resid_read arg10 arg2 G X 1536 (pb_k0_t4 (F := Ideal) 𝒱 c bd i arg2 harg2 arg3 harg3 arg4 harg4 arg5 harg5 arg6 harg6 arg7 harg7 arg8 harg8 arg9 harg9 arg10 harg10 h X G) rfl k0_pay30
    (fun a b x => by pointwise [k0_pay30])
    (fun k hk => ⟨_, _, _, _, (offs4 ⟨k, hk⟩).1, (offs4 ⟨k, hk⟩).2, (pb_k0_t4_succ 𝒱 c bd i arg2 harg2 arg3 harg3 arg4 harg4 arg5 harg5 arg6 harg6 arg7 harg7 arg8 harg8 arg9 harg9 arg10 harg10 h X G ⟨k, hk⟩).trans
      (by unfold tripL_k0_t4 trip_k0_t4; dsimp only; sl_unfold_words; rfl)⟩)

theorem offs5 : ∀ k : Fin k0_t5_loop.trips, k0_off9 k = ![64 * k.val, 2048] ∧ k0_off10 k = ![64 * k.val, 0] := by
  decide +kernel

/-- Loop 5 adds to the columns from 2048 on. -/
theorem loop5 (h : k0_cond7 i = 1#1) :
    arg10.view.read (Elt Ideal) (arg10.view.writes (Elt Ideal) G
        (pb_k0_t5 (F := Ideal) 𝒱 c bd i arg2 harg2 arg3 harg3 arg4 harg4 arg5 harg5 arg6 harg6 arg7 harg7 arg8 harg8 arg9 harg9 arg10 harg10 h X G k0_t5_loop.trips))
      = resid 2048 (arg2.view.read (Elt Ideal) X) (arg10.view.read (Elt Ideal) G) :=
  resid_read arg10 arg2 G X 2048 (pb_k0_t5 (F := Ideal) 𝒱 c bd i arg2 harg2 arg3 harg3 arg4 harg4 arg5 harg5 arg6 harg6 arg7 harg7 arg8 harg8 arg9 harg9 arg10 harg10 h X G) rfl k0_pay31
    (fun a b x => by pointwise [k0_pay31])
    (fun k hk => ⟨_, _, _, _, (offs5 ⟨k, hk⟩).1, (offs5 ⟨k, hk⟩).2, (pb_k0_t5_succ 𝒱 c bd i arg2 harg2 arg3 harg3 arg4 harg4 arg5 harg5 arg6 harg6 arg7 harg7 arg8 harg8 arg9 harg9 arg10 harg10 h X G ⟨k, hk⟩).trans
      (by unfold tripL_k0_t5 trip_k0_t5; dsimp only; sl_unfold_words; rfl)⟩)

theorem offs6 : ∀ k : Fin k0_t6_loop.trips, k0_off11 k = ![64 * k.val, 2560] ∧ k0_off12 k = ![64 * k.val, 0] := by
  decide +kernel

/-- Loop 6 adds to the columns from 2560 on. -/
theorem loop6 (h : k0_cond8 i = 1#1) :
    arg10.view.read (Elt Ideal) (arg10.view.writes (Elt Ideal) G
        (pb_k0_t6 (F := Ideal) 𝒱 c bd i arg2 harg2 arg3 harg3 arg4 harg4 arg5 harg5 arg6 harg6 arg7 harg7 arg8 harg8 arg9 harg9 arg10 harg10 h X G k0_t6_loop.trips))
      = resid 2560 (arg2.view.read (Elt Ideal) X) (arg10.view.read (Elt Ideal) G) :=
  resid_read arg10 arg2 G X 2560 (pb_k0_t6 (F := Ideal) 𝒱 c bd i arg2 harg2 arg3 harg3 arg4 harg4 arg5 harg5 arg6 harg6 arg7 harg7 arg8 harg8 arg9 harg9 arg10 harg10 h X G) rfl k0_pay32
    (fun a b x => by pointwise [k0_pay32])
    (fun k hk => ⟨_, _, _, _, (offs6 ⟨k, hk⟩).1, (offs6 ⟨k, hk⟩).2, (pb_k0_t6_succ 𝒱 c bd i arg2 harg2 arg3 harg3 arg4 harg4 arg5 harg5 arg6 harg6 arg7 harg7 arg8 harg8 arg9 harg9 arg10 harg10 h X G ⟨k, hk⟩).trans
      (by unfold tripL_k0_t6 trip_k0_t6; dsimp only; sl_unfold_words; rfl)⟩)

theorem offs7 : ∀ k : Fin k0_t7_loop.trips, k0_off13 k = ![64 * k.val, 3072] ∧ k0_off14 k = ![64 * k.val, 0] := by
  decide +kernel

/-- Loop 7 adds to the columns from 3072 on. -/
theorem loop7 (h : k0_cond9 i = 1#1) :
    arg10.view.read (Elt Ideal) (arg10.view.writes (Elt Ideal) G
        (pb_k0_t7 (F := Ideal) 𝒱 c bd i arg2 harg2 arg3 harg3 arg4 harg4 arg5 harg5 arg6 harg6 arg7 harg7 arg8 harg8 arg9 harg9 arg10 harg10 h X G k0_t7_loop.trips))
      = resid 3072 (arg2.view.read (Elt Ideal) X) (arg10.view.read (Elt Ideal) G) :=
  resid_read arg10 arg2 G X 3072 (pb_k0_t7 (F := Ideal) 𝒱 c bd i arg2 harg2 arg3 harg3 arg4 harg4 arg5 harg5 arg6 harg6 arg7 harg7 arg8 harg8 arg9 harg9 arg10 harg10 h X G) rfl k0_pay33
    (fun a b x => by pointwise [k0_pay33])
    (fun k hk => ⟨_, _, _, _, (offs7 ⟨k, hk⟩).1, (offs7 ⟨k, hk⟩).2, (pb_k0_t7_succ 𝒱 c bd i arg2 harg2 arg3 harg3 arg4 harg4 arg5 harg5 arg6 harg6 arg7 harg7 arg8 harg8 arg9 harg9 arg10 harg10 h X G ⟨k, hk⟩).trans
      (by unfold tripL_k0_t7 trip_k0_t7; dsimp only; sl_unfold_words; rfl)⟩)

theorem offs8 : ∀ k : Fin k0_t8_loop.trips, k0_off15 k = ![64 * k.val, 3584] ∧ k0_off16 k = ![64 * k.val, 0] := by
  decide +kernel

/-- Loop 8 adds to the columns from 3584 on. -/
theorem loop8 (h : k0_cond10 i = 1#1) :
    arg10.view.read (Elt Ideal) (arg10.view.writes (Elt Ideal) G
        (pb_k0_t8 (F := Ideal) 𝒱 c bd i arg2 harg2 arg3 harg3 arg4 harg4 arg5 harg5 arg6 harg6 arg7 harg7 arg8 harg8 arg9 harg9 arg10 harg10 h X G k0_t8_loop.trips))
      = resid 3584 (arg2.view.read (Elt Ideal) X) (arg10.view.read (Elt Ideal) G) :=
  resid_read arg10 arg2 G X 3584 (pb_k0_t8 (F := Ideal) 𝒱 c bd i arg2 harg2 arg3 harg3 arg4 harg4 arg5 harg5 arg6 harg6 arg7 harg7 arg8 harg8 arg9 harg9 arg10 harg10 h X G) rfl k0_pay1
    (fun a b x => by pointwise [k0_pay1])
    (fun k hk => ⟨_, _, _, _, (offs8 ⟨k, hk⟩).1, (offs8 ⟨k, hk⟩).2, (pb_k0_t8_succ 𝒱 c bd i arg2 harg2 arg3 harg3 arg4 harg4 arg5 harg5 arg6 harg6 arg7 harg7 arg8 harg8 arg9 harg9 arg10 harg10 h X G ⟨k, hk⟩).trans
      (by unfold tripL_k0_t8 trip_k0_t8; dsimp only; sl_unfold_words; rfl)⟩)

end OutVal
-- ==== Proof.OutSteps.lean ====
module
public import proofs.«01_k».proof.Proof.Gen.OutprojIdeal.Frame
public import proofs.«01_k».proof.Proof.OutLoops

/-! What the output projection leaves in its accumulator at each of the first eight points of a row
block: the block of the mixers' width added to what was there, and `α·x` added to one band of columns. -/

@[expose] public section
set_option maxRecDepth 16384
noncomputable section
open Idealize.ShloMosaic Idealize.ShloMosaic.TcCoe Idealize.ShloMosaic.Tactic
open Cert.OutprojIdeal Cert.OutprojIdeal.Gen
namespace OutVal

theorem hz : (![0, 0] : Fin 2 → Nat) = fun _ => 0 := funext fun a => by fin_cases a <;> rfl
theorem hz3 : (![0, 0, 0] : Fin 3 → Nat) = fun _ => 0 := funext fun a => by fin_cases a <;> rfl

/-- Pieces of a loop over one whole store: read anywhere, they are what the loop makes of the stored
    block. -/
theorem read_loop_over {κ : Kind} {sp : Space} (v : View sig κ sp S1024x4096 .f32)
    (p L : List (View.Piece (Elt Ideal) S1024x4096 .f32)) (w : Vec Ideal S1024x4096 .f32)
    (hL : View.canon L = w) (C : ℕ) (u : Vec Ideal S1024x512 .f32)
    (h : v.read (Elt Ideal) (v.writes (Elt Ideal) (v.writes (Elt Ideal) v.junk L) p)
      = resid C u (v.read (Elt Ideal) (v.writes (Elt Ideal) v.junk L))) :
    VS0_0.read (Elt Ideal) (VS0_0.writes (Elt Ideal) VS0_0.junk (p ++ L)) = resid C u w := by
  rw [View.read_writes_junk_eq_canon, ← View.read_writes_junk_eq_canon v, View.writes_append, h,
    View.read_writes_junk_eq_canon, hL]

variable (c : Dev nD) (i : grid0.Coords) (arg2 : Memref sig .tc .vmem S1024x512 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x1024x4096 .bf16) (harg5 : arg5.IsWhole) (arg6 : Memref sig .tc .vmem S1x1x4096 .f32) (harg6 : arg6.IsWhole) (arg7 : Memref sig .tc .vmem S1x1x4096 .f32) (harg7 : arg7.IsWhole) (arg8 : Memref sig .tc .vmem S128x4096 .f32) (harg8 : arg8.IsWhole) (arg9 : Memref sig .tc .vmem S128x4096 .bf16) (harg9 : arg9.IsWhole) (arg10 : Memref sig .tc .vmem S1024x4096 .f32) (harg10 : arg10.IsWhole)
  (x0 : Vec Ideal S1024x512 .f32) (x1 : Vec Ideal S1024x1024 .bf16) (x2 : Vec Ideal S1024x1024 .bf16) (x3 : Vec Ideal S1x1024x4096 .bf16) (x4 : Vec Ideal S1x1x4096 .f32) (x5 : Vec Ideal S1x1x4096 .f32) (xs0 : Vec Ideal S1024x4096 .f32)

theorem sout_A (hc0 : cond0_0 i) (hc1 : cond0_1 i) (hc2 : cond0_2 i) (hc3 : ¬cond0_3 i) (hc4 : ¬cond0_4 i) (hc5 : ¬cond0_5 i) (hc6 : ¬cond0_6 i) (hc7 : ¬cond0_7 i) (hc8 : ¬cond0_8 i) (hc9 : ¬cond0_9 i) (hc10 : ¬cond0_10 i) :
    sout0_A_0 (F := Ideal) c i arg2 harg2 arg3 harg3 arg4 harg4 arg5 harg5 arg6 harg6 arg7 harg7 arg8 harg8 arg9 harg9 arg10 harg10 hc0 hc1 hc2 hc3 hc4 hc5 hc6 hc7 hc8 hc9 hc10 x0 x1 x2 x3 x4 x5
      = resid 0 x0 (k0_pay26 i x1 x2 (k0_pay25 (F := Ideal)) x3) := by
  unfold sout0_A_0 kernelRun0_A
  dsimp only
  sl_unfold_words
  refine read_loop_over arg10.view _ _ _ ?_ 0 x0 ((loop1 Variants.none c none i arg2 harg2 arg3 harg3 arg4 harg4 arg5 harg5 arg6 harg6 arg7 harg7 arg8 harg8 arg9 harg9 arg10 harg10 _ _ _).trans ?_)
  · rw [View.canon_cons_unit_zero hz]
    simp only [View.readAt_eq_ld, View.readCov_unit_zero (S := S1024x4096) _ hz, harg2.read_unread, harg3.read_unread, harg4.read_unread, harg5.read_unread, harg6.read_unread, harg10.read_unread, View.ld_unit_zero (S := S1024x4096) hz, View.ld_unit_zero (S := S1024x1024) hz, View.ld_unit_zero (S := S1x1024x4096) hz3]
  · rw [harg2.read_unread]

theorem sout_B (hc0 : ¬cond0_0 i) (hc1 : cond0_1 i) (hc2 : ¬cond0_2 i) (hc3 : cond0_3 i) (hc4 : ¬cond0_4 i) (hc5 : ¬cond0_5 i) (hc6 : ¬cond0_6 i) (hc7 : ¬cond0_7 i) (hc8 : ¬cond0_8 i) (hc9 : ¬cond0_9 i) (hc10 : ¬cond0_10 i) :
    sout0_B_0 (F := Ideal) c i arg2 harg2 arg3 harg3 arg4 harg4 arg5 harg5 arg6 harg6 arg7 harg7 arg8 harg8 arg9 harg9 arg10 harg10 hc0 hc1 hc2 hc3 hc4 hc5 hc6 hc7 hc8 hc9 hc10 x0 x1 x2 x3 x4 x5 xs0
      = resid 512 x0 (k0_pay26 i x1 x2 xs0 x3) := by
  unfold sout0_B_0 kernelRun0_B
  dsimp only
  sl_unfold_words
  refine read_loop_over arg10.view _ _ _ ?_ 512 x0 ((loop2 Variants.none c none i arg2 harg2 arg3 harg3 arg4 harg4 arg5 harg5 arg6 harg6 arg7 harg7 arg8 harg8 arg9 harg9 arg10 harg10 _ _ _).trans ?_)
  · rw [View.canon_cons_unit_zero hz]
    simp only [View.readAt_eq_ld, View.readCov_unit_zero (S := S1024x4096) _ hz, harg2.read_unread, harg3.read_unread, harg4.read_unread, harg5.read_unread, harg6.read_unread, harg10.read_unread, View.ld_unit_zero (S := S1024x4096) hz, View.ld_unit_zero (S := S1024x1024) hz, View.ld_unit_zero (S := S1x1024x4096) hz3]
  · rw [harg2.read_unread]

theorem sout_C (hc0 : ¬cond0_0 i) (hc1 : cond0_1 i) (hc2 : ¬cond0_2 i) (hc3 : ¬cond0_3 i) (hc4 : cond0_4 i) (hc5 : ¬cond0_5 i) (hc6 : ¬cond0_6 i) (hc7 : ¬cond0_7 i) (hc8 : ¬cond0_8 i) (hc9 : ¬cond0_9 i) (hc10 : ¬cond0_10 i) :
    sout0_C_0 (F := Ideal) c i arg2 harg2 arg3 harg3 arg4 harg4 arg5 harg5 arg6 harg6 arg7 harg7 arg8 harg8 arg9 harg9 arg10 harg10 hc0 hc1 hc2 hc3 hc4 hc5 hc6 hc7 hc8 hc9 hc10 x0 x1 x2 x3 x4 x5 xs0
      = resid 1024 x0 (k0_pay26 i x1 x2 xs0 x3) := by
  unfold sout0_C_0 kernelRun0_C
  dsimp only
  sl_unfold_words
  refine read_loop_over arg10.view _ _ _ ?_ 1024 x0 ((loop3 Variants.none c none i arg2 harg2 arg3 harg3 arg4 harg4 arg5 harg5 arg6 harg6 arg7 harg7 arg8 harg8 arg9 harg9 arg10 harg10 _ _ _).trans ?_)
  · rw [View.canon_cons_unit_zero hz]
    simp only [View.readAt_eq_ld, View.readCov_unit_zero (S := S1024x4096) _ hz, harg2.read_unread, harg3.read_unread, harg4.read_unread, harg5.read_unread, harg6.read_unread, harg10.read_unread, View.ld_unit_zero (S := S1024x4096) hz, View.ld_unit_zero (S := S1024x1024) hz, View.ld_unit_zero (S := S1x1024x4096) hz3]
  · rw [harg2.read_unread]

theorem sout_D (hc0 : ¬cond0_0 i) (hc1 : cond0_1 i) (hc2 : ¬cond0_2 i) (hc3 : ¬cond0_3 i) (hc4 : ¬cond0_4 i) (hc5 : cond0_5 i) (hc6 : ¬cond0_6 i) (hc7 : ¬cond0_7 i) (hc8 : ¬cond0_8 i) (hc9 : ¬cond0_9 i) (hc10 : ¬cond0_10 i) :
    sout0_D_0 (F := Ideal) c i arg2 harg2 arg3 harg3 arg4 harg4 arg5 harg5 arg6 harg6 arg7 harg7 arg8 harg8 arg9 harg9 arg10 harg10 hc0 hc1 hc2 hc3 hc4 hc5 hc6 hc7 hc8 hc9 hc10 x0 x1 x2 x3 x4 x5 xs0
      = resid 1536 x0 (k0_pay26 i x1 x2 xs0 x3) := by
  unfold sout0_D_0 kernelRun0_D
  dsimp only
  sl_unfold_words
  refine read_loop_over arg10.view _ _ _ ?_ 1536 x0 ((loop4 Variants.none c none i arg2 harg2 arg3 harg3 arg4 harg4 arg5 harg5 arg6 harg6 arg7 harg7 arg8 harg8 arg9 harg9 arg10 harg10 _ _ _).trans ?_)
  · rw [View.canon_cons_unit_zero hz]
    simp only [View.readAt_eq_ld, View.readCov_unit_zero (S := S1024x4096) _ hz, harg2.read_unread, harg3.read_unread, harg4.read_unread, harg5.read_unread, harg6.read_unread, harg10.read_unread, View.ld_unit_zero (S := S1024x4096) hz, View.ld_unit_zero (S := S1024x1024) hz, View.ld_unit_zero (S := S1x1024x4096) hz3]
  · rw [harg2.read_unread]

theorem sout_E (hc0 : ¬cond0_0 i) (hc1 : cond0_1 i) (hc2 : ¬cond0_2 i) (hc3 : ¬cond0_3 i) (hc4 : ¬cond0_4 i) (hc5 : ¬cond0_5 i) (hc6 : cond0_6 i) (hc7 : ¬cond0_7 i) (hc8 : ¬cond0_8 i) (hc9 : ¬cond0_9 i) (hc10 : ¬cond0_10 i) :
    sout0_E_0 (F := Ideal) c i arg2 harg2 arg3 harg3 arg4 harg4 arg5 harg5 arg6 harg6 arg7 harg7 arg8 harg8 arg9 harg9 arg10 harg10 hc0 hc1 hc2 hc3 hc4 hc5 hc6 hc7 hc8 hc9 hc10 x0 x1 x2 x3 x4 x5 xs0
      = resid 2048 x0 (k0_pay26 i x1 x2 xs0 x3) := by
  unfold sout0_E_0 kernelRun0_E
  dsimp only
  sl_unfold_words
  refine read_loop_over arg10.view _ _ _ ?_ 2048 x0 ((loop5 Variants.none c none i arg2 harg2 arg3 harg3 arg4 harg4 arg5 harg5 arg6 harg6 arg7 harg7 arg8 harg8 arg9 harg9 arg10 harg10 _ _ _).trans ?_)
  · rw [View.canon_cons_unit_zero hz]
    simp only [View.readAt_eq_ld, View.readCov_unit_zero (S := S1024x4096) _ hz, harg2.read_unread, harg3.read_unread, harg4.read_unread, harg5.read_unread, harg6.read_unread, harg10.read_unread, View.ld_unit_zero (S := S1024x4096) hz, View.ld_unit_zero (S := S1024x1024) hz, View.ld_unit_zero (S := S1x1024x4096) hz3]
  · rw [harg2.read_unread]

theorem sout_F (hc0 : ¬cond0_0 i) (hc1 : cond0_1 i) (hc2 : ¬cond0_2 i) (hc3 : ¬cond0_3 i) (hc4 : ¬cond0_4 i) (hc5 : ¬cond0_5 i) (hc6 : ¬cond0_6 i) (hc7 : cond0_7 i) (hc8 : ¬cond0_8 i) (hc9 : ¬cond0_9 i) (hc10 : ¬cond0_10 i) :
    sout0_F_0 (F := Ideal) c i arg2 harg2 arg3 harg3 arg4 harg4 arg5 harg5 arg6 harg6 arg7 harg7 arg8 harg8 arg9 harg9 arg10 harg10 hc0 hc1 hc2 hc3 hc4 hc5 hc6 hc7 hc8 hc9 hc10 x0 x1 x2 x3 x4 x5 xs0
      = resid 2560 x0 (k0_pay26 i x1 x2 xs0 x3) := by
  unfold sout0_F_0 kernelRun0_F
  dsimp only
  sl_unfold_words
  refine read_loop_over arg10.view _ _ _ ?_ 2560 x0 ((loop6 Variants.none c none i arg2 harg2 arg3 harg3 arg4 harg4 arg5 harg5 arg6 harg6 arg7 harg7 arg8 harg8 arg9 harg9 arg10 harg10 _ _ _).trans ?_)
  · rw [View.canon_cons_unit_zero hz]
    simp only [View.readAt_eq_ld, View.readCov_unit_zero (S := S1024x4096) _ hz, harg2.read_unread, harg3.read_unread, harg4.read_unread, harg5.read_unread, harg6.read_unread, harg10.read_unread, View.ld_unit_zero (S := S1024x4096) hz, View.ld_unit_zero (S := S1024x1024) hz, View.ld_unit_zero (S := S1x1024x4096) hz3]
  · rw [harg2.read_unread]

theorem sout_G (hc0 : ¬cond0_0 i) (hc1 : cond0_1 i) (hc2 : ¬cond0_2 i) (hc3 : ¬cond0_3 i) (hc4 : ¬cond0_4 i) (hc5 : ¬cond0_5 i) (hc6 : ¬cond0_6 i) (hc7 : ¬cond0_7 i) (hc8 : cond0_8 i) (hc9 : ¬cond0_9 i) (hc10 : ¬cond0_10 i) :
    sout0_G_0 (F := Ideal) c i arg2 harg2 arg3 harg3 arg4 harg4 arg5 harg5 arg6 harg6 arg7 harg7 arg8 harg8 arg9 harg9 arg10 harg10 hc0 hc1 hc2 hc3 hc4 hc5 hc6 hc7 hc8 hc9 hc10 x0 x1 x2 x3 x4 x5 xs0
      = resid 3072 x0 (k0_pay26 i x1 x2 xs0 x3) := by
  unfold sout0_G_0 kernelRun0_G
  dsimp only
  sl_unfold_words
  refine read_loop_over arg10.view _ _ _ ?_ 3072 x0 ((loop7 Variants.none c none i arg2 harg2 arg3 harg3 arg4 harg4 arg5 harg5 arg6 harg6 arg7 harg7 arg8 harg8 arg9 harg9 arg10 harg10 _ _ _).trans ?_)
  · rw [View.canon_cons_unit_zero hz]
    simp only [View.readAt_eq_ld, View.readCov_unit_zero (S := S1024x4096) _ hz, harg2.read_unread, harg3.read_unread, harg4.read_unread, harg5.read_unread, harg6.read_unread, harg10.read_unread, View.ld_unit_zero (S := S1024x4096) hz, View.ld_unit_zero (S := S1024x1024) hz, View.ld_unit_zero (S := S1x1024x4096) hz3]
  · rw [harg2.read_unread]

theorem sout_H (hc0 : ¬cond0_0 i) (hc1 : cond0_1 i) (hc2 : ¬cond0_2 i) (hc3 : ¬cond0_3 i) (hc4 : ¬cond0_4 i) (hc5 : ¬cond0_5 i) (hc6 : ¬cond0_6 i) (hc7 : ¬cond0_7 i) (hc8 : ¬cond0_8 i) (hc9 : cond0_9 i) (hc10 : ¬cond0_10 i) :
    sout0_H_0 (F := Ideal) c i arg2 harg2 arg3 harg3 arg4 harg4 arg5 harg5 arg6 harg6 arg7 harg7 arg8 harg8 arg9 harg9 arg10 harg10 hc0 hc1 hc2 hc3 hc4 hc5 hc6 hc7 hc8 hc9 hc10 x0 x1 x2 x3 x4 x5 xs0
      = resid 3584 x0 (k0_pay26 i x1 x2 xs0 x3) := by
  unfold sout0_H_0 kernelRun0_H
  dsimp only
  sl_unfold_words
  refine read_loop_over arg10.view _ _ _ ?_ 3584 x0 ((loop8 Variants.none c none i arg2 harg2 arg3 harg3 arg4 harg4 arg5 harg5 arg6 harg6 arg7 harg7 arg8 harg8 arg9 harg9 arg10 harg10 _ _ _).trans ?_)
  · rw [View.canon_cons_unit_zero hz]
    simp only [View.readAt_eq_ld, View.readCov_unit_zero (S := S1024x4096) _ hz, harg2.read_unread, harg3.read_unread, harg4.read_unread, harg5.read_unread, harg6.read_unread, harg10.read_unread, View.ld_unit_zero (S := S1024x4096) hz, View.ld_unit_zero (S := S1024x1024) hz, View.ld_unit_zero (S := S1x1024x4096) hz3]
  · rw [harg2.read_unread]

end OutVal
-- ==== Proof.OutMath.lean ====
module
public import proofs.«01_k».proof.Proof.FfnMath

/-! The output projection as mathematics: the residual sum of the two mixers' projected outputs, whose
row normalisation is `FfnVal.lnRow`, and the sum over their width in blocks. -/

@[expose] public section
noncomputable section
open Idealize.ShloMosaic
open FfnVal (lnRow)
namespace OutVal

/-- Two rows of 4096 end to end. -/
def cat (a u : Fin 4096 → EReal) (k : Fin 8192) : EReal :=
  if h : k.val < 4096 then a ⟨k.val, h⟩ else u ⟨k.val - 4096, by omega⟩

/-- The residual sum before normalisation, at one row and column. -/
def preNorm (x a u : Fin 4096 → EReal) (w : Fin 8192 → Fin 4096 → EReal) (q : Fin 4096) : EReal :=
  Ideal.ofBits .f32 0x3FB504F3#32 * x q + ∑ k, cat a u k * w k q

/-- The projection's result at token `r` and column `q`, of the six arrays it takes (the weights of layer 0). -/
def outAt (a0 a1 a2 : (⟨2, ![16384, 4096]⟩ : Shape).Idx → EReal)
    (a3 : (⟨3, ![2, 8192, 4096]⟩ : Shape).Idx → EReal) (a4 a5 : (⟨2, ![2, 4096]⟩ : Shape).Idx → EReal)
    (r : Fin 16384) (q : Fin 4096) : EReal :=
  lnRow (preNorm (fun l => a0 (ix2 r l)) (fun l => a1 (ix2 r l)) (fun l => a2 (ix2 r l)) (fun k l => a3 (ix3 0 k l)))
    (fun k => a4 (ix2 0 k)) (fun k => a5 (ix2 0 k)) q

/-- A sum over both mixers' width, in 8 blocks of 1024. -/
theorem sum_blocks (f : Fin 8192 → EReal) :
    ∑ k, f k = ∑ j : Fin 8, ∑ k : Fin 1024, f ⟨1024 * j.val + k.val, by omega⟩ := by
  rw [← Fintype.sum_prod_type']
  refine (Fintype.sum_equiv (finProdFinEquiv (m := 8) (n := 1024)) _ _ fun p => ?_).symm
  refine congrArg f (Fin.ext ?_)
  show 1024 * p.1.val + p.2.val = p.2.val + 1024 * p.1.val
  omega

end OutVal
-- ==== Proof.OutLn.lean ====
module
public import proofs.«01_k».proof.Proof.Gen.OutprojIdeal.Frame
public import proofs.«01_k».proof.Proof.OutSteps
public import proofs.«01_k».proof.Proof.OutMath

/-! The last eight points of a row block: each normalises 128 rows of the accumulator, 16 rows at a
time, and stores them in both outputs' blocks. -/

@[expose] public section
set_option maxRecDepth 16384
noncomputable section
open Idealize.ShloMosaic Idealize.ShloMosaic.TcCoe Idealize.ShloMosaic.Tactic
open Cert.OutprojIdeal Cert.OutprojIdeal.Gen
open FfnVal (lnRow)
namespace OutVal

/-- A block of rows normalised. -/
def lnPiece (g b : Vec Ideal S1x1x4096 .f32) (a : Vec Ideal S16x4096 .f32) : S16x4096.Idx → EReal :=
  fun x => lnRow (fun k => a (ix2 (n0 := 16) (n1 := 4096) (x 0) k))
    (fun k => g (ix3 0 0 k)) (fun k => b (ix3 0 0 k)) (x 1)

/-- The 128 rows normalised at the `s`-th of the last eight points. -/
def lnBlock (s : ℕ) (g b : Vec Ideal S1x1x4096 .f32) (a : Vec Ideal S1024x4096 .f32) : S128x4096.Idx → EReal :=
  fun y => lnRow (fun k => a (ix2 (n0 := 1024) (n1 := 4096) ⟨(128 * s + (y 0).val) % 1024, Nat.mod_lt _ (by decide)⟩ k))
    (fun k => g (ix3 0 0 k)) (fun k => b (ix3 0 0 k)) (y 1)

theorem off17_word : ∀ (j : Fin 16) (p : Fin 8), 8 ≤ j.val →
    (Scalar.indexCast (Scalar.addi (Scalar.muli (Scalar.subi (BitVec.ofNat 32 j.val) 8#32) 128#32)
      (Scalar.muli (BitVec.ofNat 32 p.val) 16#32)) : Index).toNat = 128 * (j.val - 8) + 16 * p.val := by
  decide +kernel

/-- The rows the `p`-th piece of a normalising point reads. -/
theorem off17 (i : grid0.Coords) (h : 8 ≤ (i 1).val) (p : Fin 8) :
    k0_off17 i (BitVec.ofNat 32 p.val) = ![128 * ((i 1).val - 8) + 16 * p.val, 0] := by
  show ![(Scalar.indexCast (Scalar.addi (Scalar.muli (Scalar.subi (BitVec.ofNat 32 (i 1).val) 8#32) 128#32)
      (Scalar.muli (BitVec.ofNat 32 p.val) 16#32)) : Index).toNat, 0] = _
  rw [off17_word (i 1) p h]

theorem inb16 : ∀ (p : Fin 8) (a : Fin 2), (![16 * p.val, 0] : Fin 2 → ℕ) a + S16x4096.size a ≤ S128x4096.size a := by
  decide

/-- One piece of a normalising point: its payload is the normalised block at the piece's rows. -/
theorem piece (pay : Vec Ideal S1x1x4096 .f32 → Vec Ideal S1x1x4096 .f32 → Vec Ideal S16x4096 .f32 → S16x4096.Idx → EReal)
    (hpay : ∀ g b a, pay g b a = lnPiece g b a)
    (arg6 : Memref sig .tc .vmem S1x1x4096 .f32) (harg6 : arg6.IsWhole)
    (arg7 : Memref sig .tc .vmem S1x1x4096 .f32) (harg7 : arg7.IsWhole)
    (arg10 : Memref sig .tc .vmem S1024x4096 .f32) (harg10 : arg10.IsWhole)
    (x4 x5 : Vec Ideal S1x1x4096 .f32) (xs0 : Vec Ideal S1024x4096 .f32)
    (s : ℕ) (hs : s < 8) (p : Fin 8) (off : Fin 2 → ℕ) (hoff : off = ![128 * s + 16 * p.val, 0])
    (inb6 inb7 inb)
    (x : S16x4096.Idx) :
    pay (arg6.view.readAt (Elt Ideal) (Rect.unit (s := S1x1x4096) ![0, 0, 0] S1x1x4096.size inb6).toLoadRect (harg6.unread x4))
      (arg7.view.readAt (Elt Ideal) (Rect.unit (s := S1x1x4096) ![0, 0, 0] S1x1x4096.size inb7).toLoadRect (harg7.unread x5))
      (arg10.view.readAt (Elt Ideal) (Rect.unit (s := S1024x4096) off S16x4096.size inb).toLoadRect (harg10.unread xs0)) x
    = lnBlock s x4 x5 xs0 ((Rect.unit (s := S128x4096) ![16 * p.val, 0] S16x4096.size (inb16 p)).emb x) := by
  subst hoff
  rw [hpay, View.readAt_eq_ld, View.readAt_eq_ld, View.readAt_eq_ld, harg6.read_unread, harg7.read_unread,
    harg10.read_unread, View.ld_unit_zero (S := S1x1x4096) hz3, View.ld_unit_zero (S := S1x1x4096) hz3]
  have hp := p.isLt
  have hx0 : (x 0).val < 16 := (x 0).isLt
  unfold lnPiece lnBlock
  have e1 : ((Rect.unit (s := S128x4096) ![16 * p.val, 0] S16x4096.size (inb16 p)).emb x) 1 = x 1 := by
    apply Fin.ext
    show 0 + 1 * (x 1).val = (x 1).val
    omega
  have e0 : (((Rect.unit (s := S128x4096) ![16 * p.val, 0] S16x4096.size (inb16 p)).emb x) 0).val = 16 * p.val + (x 0).val := by
    show 16 * p.val + 1 * (x 0).val = _
    omega
  rw [e1]
  congr 1
  funext k
  congr 1
  refine View.ld_unit_apply_of _ _ _ inb _ _ fun a => ?_
  match a with
  | ⟨0, _⟩ =>
    show (128 * s + _) % 1024 = 128 * s + 16 * p.val + (x 0).val
    rw [e0, Nat.mod_eq_of_lt (by omega)]; omega
  | ⟨1, _⟩ => show k.val = 0 + k.val; omega

variable (g b : Vec Ideal S1x1x4096 .f32) (a : Vec Ideal S16x4096 .f32)

/-- The first piece's arithmetic, for either output. -/
theorem pay_0 : k0_pay4 g b a = lnPiece g b a ∧ k0_pay5 g b a = lnPiece g b a := by
  constructor <;> (funext x; idx_vars x; unfold lnPiece lnRow; pointwise! [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24])

/-- The second piece's arithmetic, for either output. -/
theorem pay_1 : k0_pay6 (k0_pay2 g) (k0_pay3 b) a = lnPiece g b a ∧ k0_pay7 (k0_pay2 g) (k0_pay3 b) a = lnPiece g b a := by
  constructor <;> (funext x; idx_vars x; unfold lnPiece lnRow; pointwise! [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24])

/-- The third piece's arithmetic, for either output. -/
theorem pay_2 : k0_pay10 (k0_pay2 g) (k0_pay3 b) (k0_pay8 a) (k0_pay9 a) = lnPiece g b a ∧ k0_pay11 (k0_pay2 g) (k0_pay3 b) (k0_pay8 a) (k0_pay9 a) = lnPiece g b a := by
  constructor <;> (funext x; idx_vars x; unfold lnPiece lnRow; pointwise! [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24])

/-- The fourth piece's arithmetic, for either output. -/
theorem pay_3 : k0_pay12 (k0_pay2 g) (k0_pay3 b) a = lnPiece g b a ∧ k0_pay13 (k0_pay12 (k0_pay2 g) (k0_pay3 b) a) = lnPiece g b a := by
  constructor <;> (funext x; idx_vars x; unfold lnPiece lnRow; pointwise! [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24])

/-- The fifth piece's arithmetic, for either output. -/
theorem pay_4 : k0_pay14 (k0_pay2 g) (k0_pay3 b) a = lnPiece g b a ∧ k0_pay15 (k0_pay2 g) (k0_pay3 b) a = lnPiece g b a := by
  constructor <;> (funext x; idx_vars x; unfold lnPiece lnRow; pointwise! [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24])

/-- The sixth piece's arithmetic, for either output. -/
theorem pay_5 : k0_pay17 (k0_pay2 g) (k0_pay3 b) a (k0_pay16 a) = lnPiece g b a ∧ k0_pay18 (k0_pay2 g) (k0_pay3 b) a (k0_pay16 a) = lnPiece g b a := by
  constructor <;> (funext x; idx_vars x; unfold lnPiece lnRow; pointwise! [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24])

/-- The seventh piece's arithmetic, for either output. -/
theorem pay_6 : k0_pay21 (k0_pay2 g) (k0_pay3 b) (k0_pay19 a) (k0_pay20 a) = lnPiece g b a ∧ k0_pay22 (k0_pay2 g) (k0_pay3 b) (k0_pay19 a) (k0_pay20 a) = lnPiece g b a := by
  constructor <;> (funext x; idx_vars x; unfold lnPiece lnRow; pointwise! [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24])

/-- The eighth piece's arithmetic, for either output. -/
theorem pay_7 : k0_pay23 (k0_pay2 g) (k0_pay3 b) a = lnPiece g b a ∧ k0_pay24 (k0_pay2 g) (k0_pay3 b) a = lnPiece g b a := by
  constructor <;> (funext x; idx_vars x; unfold lnPiece lnRow; pointwise! [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24])

variable (c : Dev nD) (i : grid0.Coords) (arg2 : Memref sig .tc .vmem S1024x512 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x1024x4096 .bf16) (harg5 : arg5.IsWhole) (arg6 : Memref sig .tc .vmem S1x1x4096 .f32) (harg6 : arg6.IsWhole) (arg7 : Memref sig .tc .vmem S1x1x4096 .f32) (harg7 : arg7.IsWhole) (arg8 : Memref sig .tc .vmem S128x4096 .f32) (harg8 : arg8.IsWhole) (arg9 : Memref sig .tc .vmem S128x4096 .bf16) (harg9 : arg9.IsWhole) (arg10 : Memref sig .tc .vmem S1024x4096 .f32) (harg10 : arg10.IsWhole)
  (x0 : Vec Ideal S1024x512 .f32) (x1 : Vec Ideal S1024x1024 .bf16) (x2 : Vec Ideal S1024x1024 .bf16) (x3 : Vec Ideal S1x1024x4096 .bf16) (x4 : Vec Ideal S1x1x4096 .f32) (x5 : Vec Ideal S1x1x4096 .f32) (xs0 : Vec Ideal S1024x4096 .f32)

theorem out_I_6 (hc0 : ¬cond0_0 i) (hc1 : ¬cond0_1 i) (hc2 : ¬cond0_2 i) (hc3 : ¬cond0_3 i) (hc4 : ¬cond0_4 i) (hc5 : ¬cond0_5 i) (hc6 : ¬cond0_6 i) (hc7 : ¬cond0_7 i) (hc8 : ¬cond0_8 i) (hc9 : ¬cond0_9 i) (hc10 : cond0_10 i) (h8 : 8 ≤ (i 1).val) :
    out0_I_6 (F := Ideal) c i arg2 harg2 arg3 harg3 arg4 harg4 arg5 harg5 arg6 harg6 arg7 harg7 arg8 harg8 arg9 harg9 arg10 harg10 hc0 hc1 hc2 hc3 hc4 hc5 hc6 hc7 hc8 hc9 hc10 x0 x1 x2 x3 x4 x5 xs0
      = lnBlock ((i 1).val - 8) x4 x5 xs0 := by
  have hi : (i 1).val < 16 := (i 1).isLt
  unfold out0_I_6
  rw [View.read_writes_junk_eq_canon]
  funext y
  refine View.canon_apply_of_pieces (lnBlock ((i 1).val - 8) x4 x5 xs0) _ ?_ y (cover0_I_6 (F := Ideal) c i arg2 harg2 arg3 harg3 arg4 harg4 arg5 harg5 arg6 harg6 arg7 harg7 arg8 harg8 arg9 harg9 arg10 harg10 hc0 hc1 hc2 hc3 hc4 hc5 hc6 hc7 hc8 hc9 hc10 x0 x1 x2 x3 x4 x5 xs0 y)
  unfold kernelRun0_I
  dsimp only
  sl_unfold_words
  have key := fun pay hpay p off hoff inb x => piece pay hpay arg6 harg6 arg7 harg7 arg10 harg10 x4 x5 xs0
    ((i 1).val - 8) (by omega) p off hoff inb_S1x1x4096_S1x1x4096_0_0_0 inb_S1x1x4096_S1x1x4096_0_0_0 inb x
  refine List.forall_mem_cons.mpr ⟨fun x => key (fun g b a => k0_pay23 (k0_pay2 g) (k0_pay3 b) a) (fun g b a => (pay_7 g b a).1) 7 _ (off17 i h8 7) _ x, ?_⟩
  refine List.forall_mem_cons.mpr ⟨fun x => key (fun g b a => k0_pay21 (k0_pay2 g) (k0_pay3 b) (k0_pay19 a) (k0_pay20 a)) (fun g b a => (pay_6 g b a).1) 6 _ (off17 i h8 6) _ x, ?_⟩
  refine List.forall_mem_cons.mpr ⟨fun x => key (fun g b a => k0_pay17 (k0_pay2 g) (k0_pay3 b) a (k0_pay16 a)) (fun g b a => (pay_5 g b a).1) 5 _ (off17 i h8 5) _ x, ?_⟩
  refine List.forall_mem_cons.mpr ⟨fun x => key (fun g b a => k0_pay14 (k0_pay2 g) (k0_pay3 b) a) (fun g b a => (pay_4 g b a).1) 4 _ (off17 i h8 4) _ x, ?_⟩
  refine List.forall_mem_cons.mpr ⟨fun x => key (fun g b a => k0_pay12 (k0_pay2 g) (k0_pay3 b) a) (fun g b a => (pay_3 g b a).1) 3 _ (off17 i h8 3) _ x, ?_⟩
  refine List.forall_mem_cons.mpr ⟨fun x => key (fun g b a => k0_pay10 (k0_pay2 g) (k0_pay3 b) (k0_pay8 a) (k0_pay9 a)) (fun g b a => (pay_2 g b a).1) 2 _ (off17 i h8 2) _ x, ?_⟩
  refine List.forall_mem_cons.mpr ⟨fun x => key (fun g b a => k0_pay6 (k0_pay2 g) (k0_pay3 b) a) (fun g b a => (pay_1 g b a).1) 1 _ (off17 i h8 1) _ x, ?_⟩
  refine List.forall_mem_cons.mpr ⟨fun x => key (fun g b a => k0_pay4 g b a) (fun g b a => (pay_0 g b a).1) 0 _ (off17 i h8 0) _ x, ?_⟩
  intro pc h
  exact absurd h List.not_mem_nil

theorem out_I_7 (hc0 : ¬cond0_0 i) (hc1 : ¬cond0_1 i) (hc2 : ¬cond0_2 i) (hc3 : ¬cond0_3 i) (hc4 : ¬cond0_4 i) (hc5 : ¬cond0_5 i) (hc6 : ¬cond0_6 i) (hc7 : ¬cond0_7 i) (hc8 : ¬cond0_8 i) (hc9 : ¬cond0_9 i) (hc10 : cond0_10 i) (h8 : 8 ≤ (i 1).val) :
    out0_I_7 (F := Ideal) c i arg2 harg2 arg3 harg3 arg4 harg4 arg5 harg5 arg6 harg6 arg7 harg7 arg8 harg8 arg9 harg9 arg10 harg10 hc0 hc1 hc2 hc3 hc4 hc5 hc6 hc7 hc8 hc9 hc10 x0 x1 x2 x3 x4 x5 xs0
      = lnBlock ((i 1).val - 8) x4 x5 xs0 := by
  have hi : (i 1).val < 16 := (i 1).isLt
  unfold out0_I_7
  rw [View.read_writes_junk_eq_canon]
  funext y
  refine View.canon_apply_of_pieces (lnBlock ((i 1).val - 8) x4 x5 xs0) _ ?_ y (cover0_I_7 (F := Ideal) c i arg2 harg2 arg3 harg3 arg4 harg4 arg5 harg5 arg6 harg6 arg7 harg7 arg8 harg8 arg9 harg9 arg10 harg10 hc0 hc1 hc2 hc3 hc4 hc5 hc6 hc7 hc8 hc9 hc10 x0 x1 x2 x3 x4 x5 xs0 y)
  unfold kernelRun0_I
  dsimp only
  sl_unfold_words
  have key := fun pay hpay p off hoff inb x => piece pay hpay arg6 harg6 arg7 harg7 arg10 harg10 x4 x5 xs0
    ((i 1).val - 8) (by omega) p off hoff inb_S1x1x4096_S1x1x4096_0_0_0 inb_S1x1x4096_S1x1x4096_0_0_0 inb x
  refine List.forall_mem_cons.mpr ⟨fun x => key (fun g b a => k0_pay24 (k0_pay2 g) (k0_pay3 b) a) (fun g b a => (pay_7 g b a).2) 7 _ (off17 i h8 7) _ x, ?_⟩
  refine List.forall_mem_cons.mpr ⟨fun x => key (fun g b a => k0_pay22 (k0_pay2 g) (k0_pay3 b) (k0_pay19 a) (k0_pay20 a)) (fun g b a => (pay_6 g b a).2) 6 _ (off17 i h8 6) _ x, ?_⟩
  refine List.forall_mem_cons.mpr ⟨fun x => key (fun g b a => k0_pay18 (k0_pay2 g) (k0_pay3 b) a (k0_pay16 a)) (fun g b a => (pay_5 g b a).2) 5 _ (off17 i h8 5) _ x, ?_⟩
  refine List.forall_mem_cons.mpr ⟨fun x => key (fun g b a => k0_pay15 (k0_pay2 g) (k0_pay3 b) a) (fun g b a => (pay_4 g b a).2) 4 _ (off17 i h8 4) _ x, ?_⟩
  refine List.forall_mem_cons.mpr ⟨fun x => key (fun g b a => k0_pay13 (k0_pay12 (k0_pay2 g) (k0_pay3 b) a)) (fun g b a => (pay_3 g b a).2) 3 _ (off17 i h8 3) _ x, ?_⟩
  refine List.forall_mem_cons.mpr ⟨fun x => key (fun g b a => k0_pay11 (k0_pay2 g) (k0_pay3 b) (k0_pay8 a) (k0_pay9 a)) (fun g b a => (pay_2 g b a).2) 2 _ (off17 i h8 2) _ x, ?_⟩
  refine List.forall_mem_cons.mpr ⟨fun x => key (fun g b a => k0_pay7 (k0_pay2 g) (k0_pay3 b) a) (fun g b a => (pay_1 g b a).2) 1 _ (off17 i h8 1) _ x, ?_⟩
  refine List.forall_mem_cons.mpr ⟨fun x => key (fun g b a => k0_pay5 g b a) (fun g b a => (pay_0 g b a).2) 0 _ (off17 i h8 0) _ x, ?_⟩
  intro pc h
  exact absurd h List.not_mem_nil

end OutVal
-- ==== Proof.OutAcc.lean ====
module
public import proofs.«01_k».proof.Proof.OutBlocks
public import proofs.«01_k».proof.Proof.OutLn

/-! The output projection's accumulator after every grid point: the blocks of the mixers' width done so
far, and `α·x` in the bands of columns done so far. -/

@[expose] public section
set_option maxRecDepth 16384
noncomputable section
open Idealize.ShloMosaic Idealize.ShloMosaic.TcCoe Idealize.ShloMosaic.Tactic
open Cert.OutprojIdeal Cert.OutprojIdeal.Gen
namespace OutVal

theorem cond_lt : ∀ j : Fin 16, Scalar.cmpi .slt (BitVec.ofNat 32 j.val) 4#32 = if j.val < 4 then 1#1 else 0#1 := by
  decide +kernel

theorem pay26_at (i : grid0.Coords) (x1 x2 : Vec Ideal S1024x1024 .bf16) (a : Vec Ideal S1024x4096 .f32)
    (x3 : Vec Ideal S1x1024x4096 .bf16) (p : Fin 1024) (q : Fin 4096) :
    k0_pay26 i x1 x2 a x3 (ix2 p q) = a (ix2 p q) +
      ∑ k : Fin 1024, (if (i 1).val < 4 then x1 (ix2 p k) else x2 (ix2 p k)) * x3 (ix3 0 k q) := by
  unfold k0_pay26
  rw [cond_lt (i 1)]
  by_cases h : (i 1).val < 4
  · simp only [if_pos h]
    pointwise! [Scalar.select]
  · simp only [if_neg h]
    pointwise! [Scalar.select]

theorem resid_at (C : ℕ) (u : Vec Ideal S1024x512 .f32) (a : Vec Ideal S1024x4096 .f32) (p : Fin 1024) (q : Fin 4096) :
    resid C u a (ix2 p q) = a (ix2 p q) + if h : C ≤ q.val ∧ q.val < C + 512 then
      Ideal.ofBits .f32 0x3FB504F3#32 * u (ix2 p ⟨q.val - C, by omega⟩) else 0 := by
  unfold resid
  by_cases h : C ≤ q.val ∧ q.val < C + 512
  · rw [dif_pos h]
    refine (if_pos h).trans ?_
    congr 3
    refine congrArg (ix2 p) (Fin.ext ?_)
    show (q.val - C) % 512 = q.val - C
    omega
  · rw [dif_neg h, add_zero]
    exact if_neg h

variable (m : (ℓ : Loc nD τ sig) → Buf (Elt Ideal) ℓ) (c : Dev nD)

/-- Token `r`'s row of the residual operand. -/
def xrow (r : Fin 16384) (l : Fin 4096) : EReal := m ((c.tc : Thread nD τ).loc main_arg0) (ix2 r l)

/-- Token `r`'s row of the first mixer's operand. -/
def arow (r : Fin 16384) (l : Fin 4096) : EReal := m ((c.tc : Thread nD τ).loc main_arg1) (ix2 r l)

/-- Token `r`'s row of the second mixer's operand. -/
def urow (r : Fin 16384) (l : Fin 4096) : EReal := m ((c.tc : Thread nD τ).loc main_arg2) (ix2 r l)

/-- Column `q` of the weight. -/
def wcol (q : Fin 4096) (k : Fin 8192) : EReal := m ((c.tc : Thread nD τ).loc main_arg3) (ix3 0 k q)

/-- What block `j` of the mixers' width adds at token `r`, column `q`. -/
def term (r : Fin 16384) (q : Fin 4096) (j : ℕ) : EReal :=
  ∑ k : Fin 1024, (if j < 4 then arow m c r ⟨1024 * min j 3 + k.val, by omega⟩
      else urow m c r ⟨1024 * min (j - 4) 3 + k.val, by omega⟩)
    * wcol m c q ⟨1024 * min j 7 + k.val, by omega⟩

/-- The accumulator after `n` blocks of the mixers' width, at token `r`, column `q`. -/
def accAt (r : Fin 16384) (q : Fin 4096) (n : ℕ) : EReal :=
  ∑ j ∈ Finset.range n, term m c r q j +
    if q.val < 512 * n then Ideal.ofBits .f32 0x3FB504F3#32 * xrow m c r q else 0

theorem coord1 : ∀ t : Fin cfg0.N, (grid0.coords t 1).val = t.val % 16 := by decide +kernel

/-- The blocks a point multiplies, at an index: the new block's part of the sum. -/
theorem pay26_pt (t : Fin cfg0.N) (a : Vec Ideal S1024x4096 .f32) (p : Fin 1024) (q : Fin 4096) :
    k0_pay26 (grid0.coords t) (iblk m c 1 t) (iblk m c 2 t) a (iblk m c 3 t) (ix2 p q)
      = a (ix2 p q) + term m c (tok t.val p) q (t.val % 16) := by
  rw [pay26_at, coord1]
  unfold term arow urow wcol
  simp only [blk1 m c t, blk2 m c t, blk3 m c t]

theorem accAt_succ (r : Fin 16384) (q : Fin 4096) (n : ℕ) (u : EReal)
    (hu : u = if 512 * n ≤ q.val ∧ q.val < 512 * n + 512 then Ideal.ofBits .f32 0x3FB504F3#32 * xrow m c r q else 0) :
    accAt m c r q n + term m c r q n + u = accAt m c r q (n + 1) := by
  subst hu
  unfold accAt
  rw [Finset.sum_range_succ, add_right_comm _ _ (term m c r q n), add_assoc (∑ j ∈ Finset.range n, term m c r q j + term m c r q n)]
  congr 1
  by_cases h : q.val < 512 * n
  · rw [if_pos h, if_neg (by omega), if_pos (by omega), add_zero]
  · rw [if_neg h, zero_add]
    congr 1
    exact propext ⟨fun h => by omega, fun h => by omega⟩

/-- The band a point among the first eight adds to. -/
theorem band_pt (t : Fin cfg0.N) (n : ℕ) (hn : t.val % 16 = n) (h7 : n ≤ 7) (p : Fin 1024) (q : Fin 4096) :
    (if h : 512 * n ≤ q.val ∧ q.val < 512 * n + 512 then
      Ideal.ofBits .f32 0x3FB504F3#32 * (iblk m c 0 t : Vec Ideal S1024x512 .f32) (ix2 p ⟨q.val - 512 * n, by omega⟩) else 0)
    = if 512 * n ≤ q.val ∧ q.val < 512 * n + 512 then Ideal.ofBits .f32 0x3FB504F3#32 * xrow m c (tok t.val p) q else 0 := by
  by_cases h : 512 * n ≤ q.val ∧ q.val < 512 * n + 512
  · rw [dif_pos h, if_pos h]
    congr 1
    refine (blk0 m c t p _).trans ?_
    unfold xrow
    congr 2
    apply Fin.ext
    show 512 * min (t.val % 16) 7 + (q.val - 512 * n) = q.val
    omega
  · rw [dif_neg h, if_neg h]

/-- The accumulator before a point's work: zero at a row block's first point, else what the point before left. -/
def prev (t : Fin cfg0.N) : Vec Ideal S1024x4096 .f32 :=
  if t.val % 16 = 0 then k0_pay25 (F := Ideal)
  else (outsAt0 m c (t.val - 1) (Nat.lt_of_le_of_lt (Nat.sub_le _ _) t.isLt)).2.2

/-- One of the first eight points of a row block. -/
theorem step_resid (t : Fin cfg0.N) (h : t.val % 16 ≤ 7) :
    (outsAt0 m c t.val t.isLt).2.2 = resid (512 * (t.val % 16)) (iblk m c 0 t)
      (k0_pay26 (grid0.coords t) (iblk m c 1 t) (iblk m c 2 t) (prev m c t) (iblk m c 3 t)) := by
  unfold prev
  have hj : t.val % 16 = 0 ∨ t.val % 16 = 1 ∨ t.val % 16 = 2 ∨ t.val % 16 = 3 ∨ t.val % 16 = 4 ∨ t.val % 16 = 5 ∨
    t.val % 16 = 6 ∨ t.val % 16 = 7 := by omega
  rcases hj with hj | hj | hj | hj | hj | hj | hj | hj
  · rw [if_pos hj, hj]
    exact (congrArg (fun o => o.2.2) (outsAt0_A m c t (by omega) (by omega) (by omega) (by omega) (by omega) (by omega) (by omega) (by omega) (by omega) (by omega) (by omega))).trans (sout_A ..)
  · rw [if_neg (by omega), hj]
    exact (congrArg (fun o => o.2.2) (outsAt0_B m c t (by omega) (by omega) (by omega) (by omega) (by omega) (by omega) (by omega) (by omega) (by omega) (by omega) (by omega))).trans (sout_B ..)
  · rw [if_neg (by omega), hj]
    exact (congrArg (fun o => o.2.2) (outsAt0_C m c t (by omega) (by omega) (by omega) (by omega) (by omega) (by omega) (by omega) (by omega) (by omega) (by omega) (by omega))).trans (sout_C ..)
  · rw [if_neg (by omega), hj]
    exact (congrArg (fun o => o.2.2) (outsAt0_D m c t (by omega) (by omega) (by omega) (by omega) (by omega) (by omega) (by omega) (by omega) (by omega) (by omega) (by omega))).trans (sout_D ..)
  · rw [if_neg (by omega), hj]
    exact (congrArg (fun o => o.2.2) (outsAt0_E m c t (by omega) (by omega) (by omega) (by omega) (by omega) (by omega) (by omega) (by omega) (by omega) (by omega) (by omega))).trans (sout_E ..)
  · rw [if_neg (by omega), hj]
    exact (congrArg (fun o => o.2.2) (outsAt0_F m c t (by omega) (by omega) (by omega) (by omega) (by omega) (by omega) (by omega) (by omega) (by omega) (by omega) (by omega))).trans (sout_F ..)
  · rw [if_neg (by omega), hj]
    exact (congrArg (fun o => o.2.2) (outsAt0_G m c t (by omega) (by omega) (by omega) (by omega) (by omega) (by omega) (by omega) (by omega) (by omega) (by omega) (by omega))).trans (sout_G ..)
  · rw [if_neg (by omega), hj]
    exact (congrArg (fun o => o.2.2) (outsAt0_H m c t (by omega) (by omega) (by omega) (by omega) (by omega) (by omega) (by omega) (by omega) (by omega) (by omega) (by omega))).trans (sout_H ..)

/-- A normalising point leaves the accumulator as it was. -/
theorem step_keep (t : Fin cfg0.N) (h : 8 ≤ t.val % 16) :
    (outsAt0 m c t.val t.isLt).2.2 = prev m c t := by
  unfold prev
  rw [if_neg (by omega)]
  exact congrArg (fun o => o.2.2) (outsAt0_I m c t (by omega) (by omega) (by omega) (by omega) (by omega) (by omega) (by omega) (by omega) (by omega) (by omega) (by omega))

/-- The accumulator after every point, by induction on the point. -/
theorem acc_eq : ∀ (n : ℕ) (h : n < cfg0.N) (p : Fin 1024) (q : Fin 4096),
    (outsAt0 m c n h).2.2 (ix2 p q) = accAt m c (tok n p) q (min (n % 16) 7 + 1) := by
  intro n
  induction n with
  | zero =>
    intro h p q
    have e := step_resid m c ⟨0, h⟩ (by show 0 % 16 ≤ 7; omega)
    refine (congrFun e (ix2 p q)).trans ?_
    rw [resid_at, pay26_pt, band_pt m c ⟨0, h⟩ _ rfl (by show 0 % 16 ≤ 7; omega)]
    refine Eq.trans ?_ (accAt_succ m c (tok 0 p) q 0 _ rfl)
    congr 2
    unfold accAt prev
    rw [if_pos (by rfl), Finset.sum_range_zero, if_neg (by omega)]
    pointwise [k0_pay25]
  | succ n ih =>
    intro h p q
    have hN : n + 1 < 256 := lt_of_lt_of_eq h N_0
    have hp : ∀ (h0 : (n + 1) % 16 ≠ 0), prev m c ⟨n + 1, h⟩ (ix2 p q) = accAt m c (tok (n + 1) p) q (min (n % 16) 7 + 1) := by
      intro h0
      unfold prev
      rw [if_neg h0]
      refine (ih (Nat.lt_of_succ_lt h) p q).trans ?_
      congr 1
      unfold tok
      congr 3
      have : n / 16 = (n + 1) / 16 := by omega
      rw [this]
    by_cases h7 : (n + 1) % 16 ≤ 7
    · refine (congrFun (step_resid m c ⟨n + 1, h⟩ h7) (ix2 p q)).trans ?_
      rw [resid_at, pay26_pt, band_pt m c ⟨n + 1, h⟩ _ rfl h7]
      rw [show min ((n + 1) % 16) 7 = (n + 1) % 16 by omega]
      refine Eq.trans ?_ (accAt_succ m c (tok (n + 1) p) q ((n + 1) % 16) _ rfl)
      congr 2
      by_cases h0 : (n + 1) % 16 = 0
      · unfold accAt prev
        rw [if_pos h0, h0, Finset.sum_range_zero, if_neg (by omega)]
        pointwise [k0_pay25]
      · rw [hp h0]
        congr 1
        omega
    · refine (congrFun (step_keep m c ⟨n + 1, h⟩ (by show 8 ≤ (n + 1) % 16; omega)) (ix2 p q)).trans ?_
      rw [hp (by omega)]
      congr 1
      omega

end OutVal
-- ==== Proof.OutOut.lean ====
module
public import proofs.«01_k».proof.Proof.OutAcc

/-! The output projection's two result arrays: every block written back is the block of the layer's
result it names, and the blocks cover both arrays. -/

@[expose] public section
set_option maxRecDepth 16384
noncomputable section
open Idealize.ShloMosaic Idealize.ShloMosaic.TcCoe Idealize.ShloMosaic.Tactic Idealize.SL.Sem
open Cert.OutprojIdeal Cert.OutprojIdeal.Gen
open Idealize.ShloMosaic.Pipeline (Dat)
open FfnVal (lnRow)
namespace OutVal

variable (m : (ℓ : Loc nD τ sig) → Buf (Elt Ideal) ℓ) (ρ : Dev nD → PrngReg) (c : Dev nD)

/-- The projection's result on the kernel's arguments, as an array. -/
def out : S16384x4096.Idx → EReal := fun i =>
  outAt (m ((c.tc : Thread nD τ).loc main_arg0)) (m ((c.tc : Thread nD τ).loc main_arg1))
    (m ((c.tc : Thread nD τ).loc main_arg2)) (m ((c.tc : Thread nD τ).loc main_arg3))
    (m ((c.tc : Thread nD τ).loc main_arg4)) (m ((c.tc : Thread nD τ).loc main_arg5)) (i 0) (i 1)

theorem idx6 : ∀ t : Fin cfg0.N, win0_6.index t 0 = 8 * (t.val / 16) + (t.val % 16 - 8) ∧ win0_6.index t 1 = 0 := by decide +kernel
theorem idx7 : ∀ t : Fin cfg0.N, win0_7.index t 0 = 8 * (t.val / 16) + (t.val % 16 - 8) ∧ win0_7.index t 1 = 0 := by decide +kernel
theorem flush6 : ∀ t : Fin cfg0.N, (cfg0.win 6).flush t = true ↔ 8 ≤ t.val % 16 := by decide +kernel
theorem flush7 : ∀ t : Fin cfg0.N, (cfg0.win 7).flush t = true ↔ 8 ≤ t.val % 16 := by decide +kernel

/-- The accumulator a normalising point reads is the residual sum. -/
theorem acc_full (r : Fin 16384) (q : Fin 4096) :
    accAt m c r q 8 = preNorm (xrow m c r) (fun l => m ((c.tc : Thread nD τ).loc main_arg1) (ix2 r l))
      (fun l => m ((c.tc : Thread nD τ).loc main_arg2) (ix2 r l))
      (fun k l => m ((c.tc : Thread nD τ).loc main_arg3) (ix3 0 k l)) q := by
  unfold accAt preNorm
  rw [if_pos (by omega), add_comm, sum_blocks, Finset.sum_range]
  refine congrArg (fun x => _ + x) (Finset.sum_congr rfl fun j _ => ?_)
  unfold term arow urow wcol
  refine Finset.sum_congr rfl fun k _ => ?_
  have e : min j.val 7 = j.val := by omega
  simp only [e]
  congr 1
  unfold cat
  by_cases h : j.val < 4
  · rw [if_pos h, dif_pos (by show 1024 * j.val + k.val < 4096; omega)]
    refine congrArg _ (congrArg (ix2 r) (Fin.ext ?_))
    show 1024 * min j.val 3 + k.val = 1024 * j.val + k.val
    omega
  · rw [if_neg h, dif_neg (by show ¬ 1024 * j.val + k.val < 4096; omega)]
    refine congrArg _ (congrArg (ix2 r) (Fin.ext ?_))
    show 1024 * min (j.val - 4) 3 + k.val = 1024 * j.val + k.val - 4096
    omega

/-- A normalising point's block is the projection's result at the rows it writes. -/
theorem block_eq (t : Fin cfg0.N) (h : 8 ≤ t.val % 16) (a : Vec Ideal S1024x4096 .f32)
    (ha : ∀ p q, a (ix2 p q) = accAt m c (tok t.val p) q 8) (y : S128x4096.Idx) (i : S16384x4096.Idx)
    (h0 : (i 0).val = 128 * (8 * (t.val / 16) + (t.val % 16 - 8)) + (y 0).val) (h1 : (i 1).val = (y 1).val) :
    lnBlock (t.val % 16 - 8) (iblk m c 4 t) (iblk m c 5 t) a y = out m c i := by
  have ht := lt_of_pt t
  have hy : (y 0).val < 128 := (y 0).isLt
  have e1 : y 1 = i 1 := Fin.ext h1.symm
  have e0 : tok t.val ⟨(128 * (t.val % 16 - 8) + (y 0).val) % 1024, Nat.mod_lt _ (by decide)⟩ = i 0 := by
    apply Fin.ext
    show (1024 * (t.val / 16) + (128 * (t.val % 16 - 8) + (y 0).val) % 1024) % 16384 = (i 0).val
    omega
  unfold lnBlock out outAt
  simp only [ha, e0, blk4 m c t, blk5 m c t, e1]
  rw [show (fun k : Fin 4096 => accAt m c (i 0) k 8) = _ from funext fun k => acc_full m c (i 0) k]
  rfl

theorem acc_before (t : Fin cfg0.N) (h : 8 ≤ t.val % 16) (p : Fin 1024) (q : Fin 4096) :
    (outsAt0 m c (t.val - 1) (Nat.lt_of_le_of_lt (Nat.sub_le _ _) t.isLt)).2.2 (ix2 p q) = accAt m c (tok t.val p) q 8 := by
  rw [acc_eq]
  have e : tok (t.val - 1) p = tok t.val p := by
    unfold tok
    congr 3
    have : (t.val - 1) / 16 = t.val / 16 := by omega
    rw [this]
  rw [e]
  congr 1
  omega

/-- What a normalising point leaves in result 1's block. -/
theorem left_6 (t : Fin cfg0.N) (h : 8 ≤ t.val % 16) :
    (outsAt0 m c t.val t.isLt).1 = lnBlock (t.val % 16 - 8) (iblk m c 4 t) (iblk m c 5 t)
      (outsAt0 m c (t.val - 1) (Nat.lt_of_le_of_lt (Nat.sub_le _ _) t.isLt)).2.2 := by
  refine (congrArg (fun o => o.1) (outsAt0_I m c t (by omega) (by omega) (by omega) (by omega) (by omega) (by omega) (by omega) (by omega) (by omega) (by omega) (by omega))).trans ?_
  dsimp only
  rw [out_I_6 (h8 := by rw [coord1]; exact h), coord1]

theorem arr_6 : (dats m 0 c).arrAt 6 cfg0.N = out m c := by
  refine (dats m 0 c).arrAt_eq_of_covers 6 (out m c) (by decide +kernel) fun t hf y => ?_
  have h := (flush6 t).mp hf
  blk_simp
  refine (congrFun (left_6 m c t h) y).trans ?_
  refine block_eq m c t h _ (acc_before m c t h) y _ ?_ ?_
  · blk_simp
    rw [(idx6 t).1]
    omega
  · blk_simp
    rw [(idx6 t).2]
    omega

/-- What a normalising point leaves in result 2's block. -/
theorem left_7 (t : Fin cfg0.N) (h : 8 ≤ t.val % 16) :
    (outsAt0 m c t.val t.isLt).2.1 = lnBlock (t.val % 16 - 8) (iblk m c 4 t) (iblk m c 5 t)
      (outsAt0 m c (t.val - 1) (Nat.lt_of_le_of_lt (Nat.sub_le _ _) t.isLt)).2.2 := by
  refine (congrArg (fun o => o.2.1) (outsAt0_I m c t (by omega) (by omega) (by omega) (by omega) (by omega) (by omega) (by omega) (by omega) (by omega) (by omega) (by omega))).trans ?_
  dsimp only
  rw [out_I_7 (h8 := by rw [coord1]; exact h), coord1]

theorem arr_7 : (dats m 0 c).arrAt 7 cfg0.N = out m c := by
  refine (dats m 0 c).arrAt_eq_of_covers 7 (out m c) (by decide +kernel) fun t hf y => ?_
  have h := (flush7 t).mp hf
  blk_simp
  refine (congrFun (left_7 m c t h) y).trans ?_
  refine block_eq m c t h _ (acc_before m c t h) y _ ?_ ?_
  · blk_simp
    rw [(idx7 t).1]
    omega
  · blk_simp
    rw [(idx7 t).2]
    omega

/-- The kernel's run: both results hold the projection's result, the arguments what they held. -/
theorem run_out : θ_run defs (onTc (τ := τ) (main (F := Ideal))) ⟨m, fun _ => 0, ρ⟩ fun r => ∀ c : Dev nD,
    r.2.mem ((c : Thread nD τ).loc main_v3_0) = out m c ∧ r.2.mem ((c : Thread nD τ).loc main_v3_1) = out m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨(h c).1.trans (arr_6 m c), (h c).2.1.trans (arr_7 m c), (h c).2.2⟩) (Cert.OutprojIdeal.Value.run_blocks m ρ)

end OutVal
-- ==== Proof.OutRef.lean ====
module
public import proofs.«01_k».proof.Proof.Gen.OutprojRefIdeal.Run
public import proofs.«01_k».proof.Proof.OutMath
public import Idealize.ShloMosaic.Lib.Tactic
public import Idealize.ShloMosaic.Lib.Claim
public import Idealize.ShloMosaic.Lib.Tactic.CleanTypes

/-! The plain output projection's results, read at an index. -/

@[expose] public section
set_option maxRecDepth 16384
noncomputable section
open Idealize.ShloMosaic Idealize.ShloMosaic.TcCoe Idealize.ShloMosaic.Tactic
open Cert.OutprojRefIdeal Cert.OutprojRefIdeal.Value
open FfnVal (lnRow)
namespace OutVal

variable (m : (ℓ : Loc nD τ sig) → Buf (Elt Ideal) ℓ) (c : Dev nD)

/-- The projection's result on this program's arguments. -/
def outOf (r : Fin 16384) (q : Fin 4096) : EReal :=
  outAt (m ((c.tc : Thread nD τ).loc main_arg0)) (m ((c.tc : Thread nD τ).loc main_arg1))
    (m ((c.tc : Thread nD τ).loc main_arg2)) (m ((c.tc : Thread nD τ).loc main_arg3))
    (m ((c.tc : Thread nD τ).loc main_arg4)) (m ((c.tc : Thread nD τ).loc main_arg5)) r q

theorem ref_at (r : Fin 16384) (q : Fin 4096) :
    (res_main_v34 m c : S16384x4096.Idx → EReal) (ix2 r q) = outOf m c r q := by
  unfold res_main_v34 outOf outAt lnRow preNorm cat
  clean_types
  pointwise! []

theorem ref_at' (r : Fin 16384) (q : Fin 4096) :
    (res_main_v35 m c : S16384x4096.Idx → EReal) (ix2 r q) = outOf m c r q := by
  unfold res_main_v35 outOf outAt lnRow preNorm cat
  clean_types
  pointwise! []

end OutVal
-- ==== Proof.InpRun.lean ====
module

public import proofs.«01_k».proof.Proof.Gen.InprojIdeal.Launch
public import proofs.«01_k».proof.Proof.Gen.InprojIdeal.Skeleton
public import proofs.«01_k».proof.Proof.Gen.InprojIdeal.Points
public import proofs.«01_k».proof.Proof.Gen.InprojIdeal.Frame
public import Idealize.ShloMosaic.Lib.Pipeline.FrameBody
public import Idealize.ShloMosaic.Lib.Ring
public import Idealize.ShloMosaic.Lib.Tactic
public import Idealize.ShloMosaic.Lib.WordCmp
public import Idealize.ShloMosaic.Lib.Exec
public import Idealize.ShloMosaic.Lib.Claim
public import Idealize.ShloMosaic.Lib.VecWindow
public import Idealize.ShloMosaic.Lib.Pipeline.Value

/-! The run of the input projection. The second result's block is stored at the first of the eighteen points of a row
    block and written back at the last one: the points between find it as the first left it. -/

@[expose] public section

set_option maxRecDepth 16384

noncomputable section

namespace Cert.InprojIdeal.Own

open Cert.InprojIdeal Cert.InprojIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz2 : (![0, 0] : Fin 2 → ℕ) = fun _ => 0 := funext fun a => by fin_cases a <;> rfl
theorem hz3 : (![0, 0, 0] : Fin 3 → ℕ) = fun _ => 0 := funext fun a => by fin_cases a <;> rfl

/-- A load of a whole two-axis buffer known by what it reads. -/
theorem whole_read {s : Shape} {e : EltTy} {arg : Memref sig .tc .vmem s e} (h : arg.IsWhole) (x : Vec F s e)
    {off : Fin s.rank → ℕ} (hz : off = fun _ => 0) (inb : ∀ a, off a + s.size a ≤ s.size a) :
    arg.view.readAt (Elt F) (Rect.unit off s.size inb).toLoadRect (h.unread x) = x := by
  rw [View.readAt_eq_ld, h.read_unread]
  exact View.ld_unit_zero hz inb x

set_option maxHeartbeats 1000000 in
/-- The body where it stores only the first result's block. -/
theorem run_other (c : Dev nD) (i : grid0.Coords) (arg2 : Memref sig .tc .vmem S1024x4096 .bf16) (harg2 : arg2.IsWhole) (arg3 : Memref sig .tc .vmem S1x4096x1024 .bf16) (harg3 : arg3.IsWhole) (arg4 : Memref sig .tc .vmem S1x4096x128 .bf16) (harg4 : arg4.IsWhole) (arg5 : Memref sig .tc .vmem S1024x1024 .f32) (harg5 : arg5.IsWhole) (arg6 : Memref sig .tc .vmem S1024x128 .f32) (harg6 : arg6.IsWhole)
    (hc : ¬ k0_cond1 i = 1#1) (x0 : Vec F S1024x4096 .bf16) (x1 : Vec F S1x4096x1024 .bf16) (E : Set ℕ) (K : PUnit → sProp 𝕄) :
    iprop(owns (c : Thread nD τ) arg2 fullShare x0 ∗ owns (c : Thread nD τ) arg3 fullShare x1 ∗ (∃ d, owns (c : Thread nD τ) arg5 fullShare d)
        ∗ (iprop(owns (c : Thread nD τ) arg2 fullShare x0 ∗ owns (c : Thread nD τ) arg3 fullShare x1 ∗ owns (c : Thread nD τ) arg5 fullShare (k0_pay2 x0 x1)) -∗ K ⟨⟩))
      ⊢ wp frame (wpE (defs₀ (F := F)) Variants.none c none) E (cc0_inproj i arg2 harg2 arg3 harg3 arg4 harg4 arg5 harg5 arg6 harg6) K := by
  simp only [cc0_inproj_eq_skeleton]; unfold cc0_inproj_skel
  unfold owns
  iintro ⟨⟨%f0, %hf0, H0⟩, ⟨%f1, %hf1, H1⟩, ⟨%d3, %f3, -, H3⟩, Hk⟩
  obtain rfl := harg2.eq_unread hf0; obtain rfl := harg3.eq_unread hf1
  sl_exec (disch := first | sl_exact hc)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact H3
  ipureintro
  refine (View.read_writes_full _ _ _ _ _).trans ?_
  rw [whole_read harg2 x0 hz2, whole_read harg3 x1 hz3]

set_option maxHeartbeats 1000000 in
/-- The body where it stores both results' blocks. -/
theorem run_first (c : Dev nD) (i : grid0.Coords) (arg2 : Memref sig .tc .vmem S1024x4096 .bf16) (harg2 : arg2.IsWhole) (arg3 : Memref sig .tc .vmem S1x4096x1024 .bf16) (harg3 : arg3.IsWhole) (arg4 : Memref sig .tc .vmem S1x4096x128 .bf16) (harg4 : arg4.IsWhole) (arg5 : Memref sig .tc .vmem S1024x1024 .f32) (harg5 : arg5.IsWhole) (arg6 : Memref sig .tc .vmem S1024x128 .f32) (harg6 : arg6.IsWhole)
    (hc : k0_cond1 i = 1#1) (x0 : Vec F S1024x4096 .bf16) (x1 : Vec F S1x4096x1024 .bf16) (x2 : Vec F S1x4096x128 .bf16) (E : Set ℕ) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1 ∗ owns (c : Thread nD τ) arg4 fullShare x2 ∗ owns (c : Thread nD τ) arg5 fullShare (k0_pay2 x0 x1) ∗ owns (c : Thread nD τ) arg6 fullShare (k0_pay3 x0 x2)) -∗ K ⟨⟩))
      ⊢ wp frame (wpE (defs₀ (F := F)) Variants.none c none) E (cc0_inproj i arg2 harg2 arg3 harg3 arg4 harg4 arg5 harg5 arg6 harg6) K := by
  simp only [cc0_inproj_eq_skeleton]; unfold cc0_inproj_skel
  unfold owns
  iintro ⟨⟨%f0, %hf0, H0⟩, ⟨%f1, %hf1, H1⟩, ⟨%f2, %hf2, H2⟩, ⟨%d3, %f3, -, H3⟩, ⟨%d4, %f4, -, H4⟩, Hk⟩
  obtain rfl := harg2.eq_unread hf0; obtain rfl := harg3.eq_unread hf1; obtain rfl := harg4.eq_unread hf2
  sl_exec (disch := first | sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    refine (View.read_writes_full _ _ _ _ _).trans ?_
    rw [whole_read harg2 x0 hz2, whole_read harg3 x1 hz3]
  iexists _; isplitr
  swap; · iexact H4
  ipureintro
  refine (View.read_writes_full _ _ _ _ _).trans ?_
  rw [whole_read harg2 x0 hz2, whole_read harg4 x2 hz3]

/-! ## The proof data -/

/-- The first point of the row block point `t` lies in. -/
def row0 (t : Fin cfg0.N) : Fin cfg0.N := ⟨18 * (t.val / 18), lt_of_le_of_lt (Nat.mul_div_le _ _) t.isLt⟩

theorem row0_of (t : Fin cfg0.N) (h : t.val % 18 = 0) : row0 t = t := Fin.ext (by show 18 * (t.val / 18) = t.val; omega)

/-- What every point leaves: the inputs' blocks, and the two products. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => k0_pay2 (iblk m c 0 t) (iblk m c 1 t)
    | ⟨4, _⟩ => k0_pay3 (iblk m c 0 (row0 t)) (iblk m c 2 (row0 t))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = k0_pay2 (iblk m c 0 t) (iblk m c 1 t) := by dsimp only [dats]
theorem after0_4 (c : Dev nD) (t : Fin cfg0.N) : (dats m 0 c).after 4 t = k0_pay3 (iblk m c 0 (row0 t)) (iblk m c 2 (row0 t)) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## Where the second result's block is stored -/

theorem hcond : ∀ t : Fin grid0.N, k0_cond1 (grid0.coords t) = 1#1 ↔ t.val % 18 = 0 := by decide +kernel

theorem live0 (t : Fin cfg0.N) : cfg0.idle 0 (grid0.coords t) = false := rfl
theorem live1 (t : Fin cfg0.N) : cfg0.idle 1 (grid0.coords t) = false := rfl
theorem live2 (t : Fin cfg0.N) : cfg0.idle 2 (grid0.coords t) = false := rfl
theorem live3 (t : Fin cfg0.N) : cfg0.idle 3 (grid0.coords t) = false := rfl

theorem idle4 (t : Fin cfg0.N) (h : ¬ t.val % 18 = 0) : cfg0.idle 4 (grid0.coords t) = true := by
  show (!(k0_cond1 (grid0.coords t) == 1#1)) = true
  rw [Bool.not_eq_true', beq_eq_false_iff_ne]
  exact fun e => h ((hcond t).mp e)

theorem live4 (t : Fin cfg0.N) (h : t.val % 18 = 0) : cfg0.idle 4 (grid0.coords t) = false := by
  show (!(k0_cond1 (grid0.coords t) == 1#1)) = false
  rw [Bool.not_eq_false', beq_iff_eq]
  exact (hcond t).mpr h

theorem flush4 (t : Fin cfg0.N) (h : ¬ t.val % 18 = 17) : (cfg0.win 4).flush t = false := by
  rw [← Bool.not_eq_true]; exact fun e => h ((flush0_4 t).mp e)

theorem kept4 (c : Dev nD) (t : Fin cfg0.N) (d) : (dats m 0 c).kept 4 t d = (dats m 0 c).after 4 t := by
  unfold Dat.kept
  rw [Pipeline.fill_of_clip_none (cfg := cfg0) 4 (cfg0.grid.coords t) (fun _ => rfl) d ((dats m 0 c).after 4 t)]
  exact Pipeline.Window.fill_cut _ _ _

/-- Past the first point of a row block the second result's block is found as that point left it. -/
theorem before4 (c : Dev nD) (d) : ∀ (n : ℕ) (hn : n < cfg0.N), n % 18 ≠ 0 →
    (dats m 0 c).before 4 ⟨n, hn⟩ d = (dats m 0 c).after 4 ⟨n, hn⟩ := by
  intro n
  induction n with
  | zero => intro _ h; exact absurd rfl h
  | succ k ih =>
    intro hn h
    have hk : k < cfg0.N := Nat.lt_of_succ_lt hn
    rw [Dat.before_of_pos (dats m 0 c) 4 ⟨k + 1, hn⟩ (Nat.succ_ne_zero k) rfl d]
    show (if (cfg0.win 4).flush ⟨k, hk⟩ = true then d else (dats m 0 c).left 4 ⟨k, hk⟩ d) = _
    rw [if_neg (fun e => by have := (flush0_4 ⟨k, hk⟩).mp e; dsimp only at this; omega)]
    have hr : row0 ⟨k + 1, hn⟩ = row0 ⟨k, hk⟩ := Fin.ext (by show 18 * ((k + 1) / 18) = 18 * (k / 18); omega)
    have ha : (dats m 0 c).after 4 ⟨k + 1, hn⟩ = (dats m 0 c).after 4 ⟨k, hk⟩ := by rw [after0_4, after0_4, hr]
    rw [ha]
    unfold Dat.left
    by_cases h0 : k % 18 = 0
    · rw [show cfg0.idle 4 (cfg0.grid.coords ⟨k, hk⟩) = false from live4 ⟨k, hk⟩ h0]
      exact kept4 m c ⟨k, hk⟩ d
    · rw [show cfg0.idle 4 (cfg0.grid.coords ⟨k, hk⟩) = true from idle4 ⟨k, hk⟩ h0]
      exact ih hk h0

/-! ## The body at a point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = (dats m 0 c).Φ t.castSucc from rfl]
  rw [show (dats m 0 c).leavesExact 0 t = owns (c : Thread nD τ) (st0_0 t) fullShare ((dats m 0 c).after 0 t) from by
    unfold Dat.leavesExact; rw [live0 t], after0_0]
  rw [show (dats m 0 c).leavesExact 1 t = owns (c : Thread nD τ) (st0_1 t) fullShare ((dats m 0 c).after 1 t) from by
    unfold Dat.leavesExact; rw [live1 t], after0_1]
  rw [show (dats m 0 c).leavesExact 2 t = owns (c : Thread nD τ) (st0_2 t) fullShare ((dats m 0 c).after 2 t) from by
    unfold Dat.leavesExact; rw [live2 t], after0_2]
  rw [show (dats m 0 c).leavesExact 3 t = owns (c : Thread nD τ) (st0_3 t) fullShare ((dats m 0 c).after 3 t) from by
    unfold Dat.leavesExact; rw [live3 t], after0_3]
  by_cases h0 : t.val % 18 = 0
  · rw [show (dats m 0 c).leavesExact 4 t = owns (c : Thread nD τ) (st0_4 t) fullShare ((dats m 0 c).after 4 t) from by
      unfold Dat.leavesExact; rw [live4 t h0], after0_4, row0_of t h0]
    iintro ⟨HΦ, Ho, ⟨%d0, H0⟩, ⟨%d1, H1⟩, ⟨%d2, H2⟩, ⟨%d3, H3⟩, ⟨%d4, H4⟩⟩
    iapply (run_first c (grid0.coords t) _ _ _ _ _ _ _ _ _ _ ((hcond t).mpr h0) (iblk m c 0 t) (iblk m c 1 t) (iblk m c 2 t) Set.univ _)
    isplitl [H0]; · iexact H0
    isplitl [H1]; · iexact H1
    isplitl [H2]; · iexact H2
    isplitl [H3]; · iexists _; iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  · by_cases h1 : t.val % 18 = 17
    · rw [show (dats m 0 c).leavesExact 4 t = owns (c : Thread nD τ) (st0_4 t) fullShare ((dats m 0 c).after 4 t) from by
        unfold Dat.leavesExact; rw [idle4 t h0, (flush0_4 t).mpr h1]]
      have hb : ∀ d, (dats m 0 c).before 4 t d = (dats m 0 c).after 4 t := fun d => before4 m c d t.val t.isLt h0
      simp only [hb]
      iintro ⟨HΦ, Ho, ⟨%d0, H0⟩, ⟨%d1, H1⟩, ⟨%d2, H2⟩, ⟨%d3, H3⟩, ⟨%d4, H4⟩⟩
      iapply (run_other c (grid0.coords t) _ _ _ _ _ _ _ _ _ _ (fun h => h0 ((hcond t).mp h)) (iblk m c 0 t) (iblk m c 1 t) Set.univ _)
      isplitl [H0]; · iexact H0
      isplitl [H1]; · iexact H1
      isplitl [H3]; · iexists _; iexact H3
      iintro ⟨H0, H1, H3⟩
      isplitl [HΦ]; · iexact HΦ
      isplitl [Ho]; · iexact Ho
      isplitl [H0]; · iexact H0
      isplitl [H1]; · iexact H1
      isplitl [H2]; · iexact H2
      isplitl [H3]; · iexact H3
      iexact H4
    · rw [Dat.leavesExact_idle (dats m 0 c) 4 t (idle4 t h0) (flush4 t h1)]
      iintro ⟨HΦ, Ho, ⟨%d0, H0⟩, ⟨%d1, H1⟩, ⟨%d2, H2⟩, ⟨%d3, H3⟩, ⟨%d4, H4⟩⟩
      iapply (run_other c (grid0.coords t) _ _ _ _ _ _ _ _ _ _ (fun h => h0 ((hcond t).mp h)) (iblk m c 0 t) (iblk m c 1 t) Set.univ _)
      isplitl [H0]; · iexact H0
      isplitl [H1]; · iexact H1
      isplitl [H3]; · iexists _; iexact H3
      iintro ⟨H0, H1, H3⟩
      isplitl [HΦ]; · iexact HΦ
      isplitl [Ho]; · iexact Ho
      isplitl [H0]; · iexact H0
      isplitl [H1]; · iexact H1
      isplitl [H2]; · iexact H2
      isplitl [H3]; · iexact H3
      iexists _; iexact H4

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun _ => .rfl) (hout := fun _ => .rfl)

theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) (run_main m ρ)) ((θ_run defs _ _).mono (fun _ h => h.2) (run_main_quiescent m ρ))

end Cert.InprojIdeal.Own

end
-- ==== Proof.InpCols.lean ====
module
public import proofs.«01_k».proof.Proof.InpRun
public import Idealize.ShloMosaic.Lib.Pipeline.Value
public import Idealize.ShloMosaic.Lib.StableHlo.Run
public import Idealize.ShloMosaic.Lib.Claim
public import Idealize.ShloMosaic.Lib.Tactic
public import Idealize.ShloMosaic.Lib.Pipeline.ValueKit
public import Idealize.ShloMosaic.Lib.Pointwise
public import Idealize.ShloMosaic.Lib.Tactic.CleanTypes

/-! The projection's weights as the kernel gets them: the columns of the given array in another order. -/

@[expose] public section
set_option maxRecDepth 16384
noncomputable section
open Idealize.ShloMosaic Idealize.ShloMosaic.TcCoe Idealize.ShloMosaic.Tactic Idealize.SL.Sem
open Cert.InprojIdeal Cert.InprojIdeal.Gen Cert.InprojIdeal.Own
namespace InpVal

variable (m : (ℓ : Loc nD τ sig) → Buf (Elt Ideal) ℓ) (ρ : Dev nD → PrngReg) (c : Dev nD)

/-- The columns taken by a list of column numbers, at an index. -/
theorem gather_apply {α : Type} (x : S2x4096x128.Idx → α) (idx : IVec S128x1 32) (b : Fin 2) (l : Fin 4096) (q k : Fin 128)
    (hk : (idx (ix2 q 0)).toInt.toNat = k.val) :
    Host.gather gather_S2x4096x128_S128x1_S2x4096x128_01_2_n_n_2_1_240961 x idx (ix3 b l q) = x (ix3 b l k) := by
  set d := gather_S2x4096x128_S128x1_S2x4096x128_01_2_n_n_2_1_240961 with hd
  have hob : ∀ a, d.batchCoord (ix3 b l q) a = 0 := fun a => d.batchCoord_eq_zero _ _ List.not_mem_nil
  unfold Host.gather
  congr 1
  funext a
  apply Fin.ext
  show d.start (ix3 b l q) idx a + d.batchCoord (ix3 b l q) a + d.offCoord (ix3 b l q) a = _
  rw [hob]
  have ha : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases ha with rfl | rfl | rfl
  · unfold GatherDims.start GatherDims.offCoord
    rw [dif_neg (show (0 : Fin 3) ∉ d.startIndexMap by decide), dif_pos (show (0 : Fin 3) ∈ d.sKept by decide)]
    show 0 + 0 + b.val = b.val
    omega
  · unfold GatherDims.start GatherDims.offCoord
    rw [dif_neg (show (1 : Fin 3) ∉ d.startIndexMap by decide), dif_pos (show (1 : Fin 3) ∈ d.sKept by decide)]
    show 0 + 0 + l.val = l.val
    omega
  · unfold GatherDims.start GatherDims.offCoord
    rw [dif_pos (show (2 : Fin 3) ∈ d.startIndexMap by decide), dif_neg (show (2 : Fin 3) ∉ d.sKept by decide)]
    have hsi : d.siIdx (ix3 b l q) ⟨List.idxOf (2 : Fin 3) d.startIndexMap, List.idxOf_lt_length_iff.2 (by decide)⟩ = ix2 q 0 := by
      funext e; apply Fin.ext
      match e with
      | ⟨0, _⟩ => rfl
      | ⟨1, _⟩ => rfl
    show min (idx (d.siIdx (ix3 b l q) ⟨List.idxOf (2 : Fin 3) d.startIndexMap, List.idxOf_lt_length_iff.2 (by decide)⟩)).toInt.toNat 127 + 0 + 0 = k.val
    rw [hsi, hk]
    omega

/-- The host's column numbers. -/
theorem lit0_val : ∀ q : Fin 128, (lit0 q).toInt.toNat = 64 * ((q.val % 16) / 8) + 8 * (q.val / 16) + q.val % 8 := by
  decide +kernel

/-- The column of the given weights that column `q` of the kernel's step-size weights is. -/
def coln (q : ℕ) : ℕ := 10240 + (64 * ((q % 16) / 8) + 8 * (q / 16) + q % 8)

theorem coln_lt {q : ℕ} (h : q < 128) : coln q < 18560 := by
  unfold coln; omega

/-- The step-size weights as the kernel gets them. -/
theorem V_dt (l : Fin 4096) (q : Fin 128) : (V m c main_v16 : S2x4096x128.Idx → EReal) (ix3 0 l q)
    = m ((c.tc : Thread nD τ).loc main_arg1) (ix3 0 l ⟨coln q.val, coln_lt q.isLt⟩) := by
  unfold coln
  entry_read
  refine (gather_apply _ _ 0 l q ⟨64 * ((q.val % 16) / 8) + 8 * (q.val / 16) + q.val % 8, by omega⟩ ?_).trans ?_
  · refine Eq.trans ?_ (lit0_val q)
    show (lit0 (S128.rowMajor fun a => ⟨_, _⟩)).toInt.toNat = _
    refine congrArg (fun k : Fin 128 => (lit0 k).toInt.toNat) (Fin.ext ?_)
    exact Shape.rowMajor_val_one _
  · pointwise! []

/-- The column of the given weights that column `q` of the kernel's wide weights is. -/
def colw (q : ℕ) : ℕ :=
  if q < 4096 then q else if q < 12288 then q + 6272 else if q < 16384 then q - 8192
  else if (q - 16384) % 256 < 128 then 8192 + 128 * ((q - 16384) / 256) + (q - 16384) % 256
  else 9216 + 128 * ((q - 16384) / 256) + ((q - 16384) % 256 - 128)

theorem colw_lt {q : ℕ} (h : q < 18432) : colw q < 18560 := by
  unfold colw; split_ifs <;> omega

theorem colw_b {k : ℕ} (h : k % 256 < 128) : 8192 + (k / 256 * 128 + k % 256) = colw (16384 + k) := by
  unfold colw
  rw [if_neg (by omega), if_neg (by omega), if_neg (by omega), if_pos (by omega)]
  omega

theorem colw_c {k : ℕ} (h : ¬k % 256 < 128) : 9216 + (k / 256 * 128 + (k % 256 - 128)) = colw (16384 + k) := by
  unfold colw
  rw [if_neg (by omega), if_neg (by omega), if_neg (by omega), if_neg (by omega)]
  omega

/-- An entry is where its column is. -/
theorem at_col (W : S2x4096x18560.Idx → EReal) (l : Fin 4096) {n n' : ℕ} (e : n = n') (h : n < 18560) (h' : n' < 18560) :
    W (ix3 0 l ⟨n, h⟩) = W (ix3 0 l ⟨n', h'⟩) := by
  subst e; rfl

/-- The two interleaved bands, at an index. -/
theorem bc_at (W : S2x4096x18560.Idx → EReal) (l : Fin 4096) (k : Fin 2048) :
    (shapeCast S2x4096x2048 (concatenate S2x4096x8x256 3
        [⟨S2x4096x8x128, shapeCast S2x4096x8x128 (extractStridedSlice S2x4096x1024 ![0, 0, 8192] W slices_S2x4096x18560_S2x4096x1024_0_0_8192) shapeCasts_S2x4096x1024_S2x4096x8x128⟩,
         ⟨S2x4096x8x128, shapeCast S2x4096x8x128 (extractStridedSlice S2x4096x1024 ![0, 0, 9216] W slices_S2x4096x18560_S2x4096x1024_0_0_9216) shapeCasts_S2x4096x1024_S2x4096x8x128⟩]
        concatenates_S2x4096x8x128_S2x4096x8x128_S2x4096x8x256_d3) shapeCasts_S2x4096x8x256_S2x4096x2048 : S2x4096x2048.Idx → EReal) (ix3 0 l k)
      = W (ix3 0 l ⟨colw (16384 + k.val), colw_lt (by omega)⟩) := by
  pointwise! []
  by_cases h : k.val % 256 < 128
  · rw [dif_pos h]
    exact at_col W l (colw_b h) _ _
  · rw [dif_neg h]
    exact at_col W l (colw_c h) _ _

section Cat
variable (x1 x3 : S2x4096x4096.Idx → EReal) (x2 : S2x4096x8192.Idx → EReal) (x4 : S2x4096x2048.Idx → EReal) (l : Fin 4096)

/-- Four arrays side by side. -/
def side : S2x4096x18432.Idx → EReal :=
  concatenate S2x4096x18432 2 [⟨S2x4096x4096, x1⟩, ⟨S2x4096x8192, x2⟩, ⟨S2x4096x4096, x3⟩, ⟨S2x4096x2048, x4⟩]
    concatenates_S2x4096x4096_S2x4096x8192_S2x4096x4096_S2x4096x2048_S2x4096x18432_d2

theorem side_1 (k : Fin 4096) (h : k.val < 18432) : side x1 x3 x2 x4 (ix3 0 l ⟨k.val, h⟩) = x1 (ix3 0 l k) := by
  unfold side
  refine concatenate_apply_piece (t := S2x4096x18432) _ _ _ _ 0 (by simp) S2x4096x4096 x1 rfl rfl 0 rfl (ix3 0 l k) ?_ ?_
  · intro b hb
    match b with
    | ⟨0, _⟩ => rfl
    | ⟨1, _⟩ => rfl
    | ⟨2, _⟩ => exact absurd rfl hb
  · show 0 + k.val = k.val
    omega

theorem side_2 (k : Fin 8192) (h : 4096 + k.val < 18432) : side x1 x3 x2 x4 (ix3 0 l ⟨4096 + k.val, h⟩) = x2 (ix3 0 l k) := by
  unfold side
  refine concatenate_apply_piece (t := S2x4096x18432) _ _ _ _ 1 (by simp) S2x4096x8192 x2 rfl rfl 4096 rfl (ix3 0 l k) ?_ ?_
  · intro b hb
    match b with
    | ⟨0, _⟩ => rfl
    | ⟨1, _⟩ => rfl
    | ⟨2, _⟩ => exact absurd rfl hb
  · rfl

theorem side_3 (k : Fin 4096) (h : 12288 + k.val < 18432) : side x1 x3 x2 x4 (ix3 0 l ⟨12288 + k.val, h⟩) = x3 (ix3 0 l k) := by
  unfold side
  refine concatenate_apply_piece (t := S2x4096x18432) _ _ _ _ 2 (by simp) S2x4096x4096 x3 rfl rfl 12288 rfl (ix3 0 l k) ?_ ?_
  · intro b hb
    match b with
    | ⟨0, _⟩ => rfl
    | ⟨1, _⟩ => rfl
    | ⟨2, _⟩ => exact absurd rfl hb
  · rfl

theorem side_4 (k : Fin 2048) (h : 16384 + k.val < 18432) : side x1 x3 x2 x4 (ix3 0 l ⟨16384 + k.val, h⟩) = x4 (ix3 0 l k) := by
  unfold side
  refine concatenate_apply_piece (t := S2x4096x18432) _ _ _ _ 3 (by simp) S2x4096x2048 x4 rfl rfl 16384 rfl (ix3 0 l k) ?_ ?_
  · intro b hb
    match b with
    | ⟨0, _⟩ => rfl
    | ⟨1, _⟩ => rfl
    | ⟨2, _⟩ => exact absurd rfl hb
  · rfl

end Cat

/-! ## The wide weights, read off the host's lines -/

/-- A line of operations in two parts. -/
theorem after_split {ops : List (HloOp τ sig (Elt Ideal))} (n : ℕ) (σ : Valuation τ sig (Elt Ideal)) :
    StableHlo.after ops σ = StableHlo.after (ops.drop n) (StableHlo.after (ops.take n) σ) := by
  induction n generalizing ops σ with
  | zero => rfl
  | succ n ih =>
    cases ops with
    | nil => rfl
    | cons o os => exact ih (o.result σ)

/-- What the buffers hold before the wide weights are put together. -/
def pieces (b : DevRef τ sig) : b.ty.Contents (Elt Ideal) := StableHlo.after (hostOps0.take 12) (fun b => m (c, b)) b

theorem V_pieces (b : Ref sig .tc) : V m c b = StableHlo.after (hostOps0.drop 12) (pieces m c) (Proc.devRef .tc b) :=
  congrFun (after_split 12 _) _

theorem V_v10 : V m c main_v10 = side (V m c main_v7) (V m c main_v9) (V m c main_v8) (V m c main_v6) := by
  have h6 : V m c main_v6 = pieces m c main_v6 := (V_pieces m c main_v6).trans
    (StableHlo.after_of_forall_not_mem (b := Proc.devRef .tc main_v6) _ _ (List.forall_iff_forall_mem.mp (by
      simp only [hostOps0, List.drop_succ_cons, List.drop_zero, List.Forall, StableHlo.nullary_writes, StableHlo.unary_writes, StableHlo.binary_writes, StableHlo.ternary_writes, StableHlo.nary_writes, Finset.mem_singleton]
      repeat' apply And.intro
      all_goals exact StableHlo.devRef_ne_of_ne (by decide))))
  have h7 : V m c main_v7 = pieces m c main_v7 := (V_pieces m c main_v7).trans
    (StableHlo.after_of_forall_not_mem (b := Proc.devRef .tc main_v7) _ _ (List.forall_iff_forall_mem.mp (by
      simp only [hostOps0, List.drop_succ_cons, List.drop_zero, List.Forall, StableHlo.nullary_writes, StableHlo.unary_writes, StableHlo.binary_writes, StableHlo.ternary_writes, StableHlo.nary_writes, Finset.mem_singleton]
      repeat' apply And.intro
      all_goals exact StableHlo.devRef_ne_of_ne (by decide))))
  have h8 : V m c main_v8 = pieces m c main_v8 := (V_pieces m c main_v8).trans
    (StableHlo.after_of_forall_not_mem (b := Proc.devRef .tc main_v8) _ _ (List.forall_iff_forall_mem.mp (by
      simp only [hostOps0, List.drop_succ_cons, List.drop_zero, List.Forall, StableHlo.nullary_writes, StableHlo.unary_writes, StableHlo.binary_writes, StableHlo.ternary_writes, StableHlo.nary_writes, Finset.mem_singleton]
      repeat' apply And.intro
      all_goals exact StableHlo.devRef_ne_of_ne (by decide))))
  have h9 : V m c main_v9 = pieces m c main_v9 := (V_pieces m c main_v9).trans
    (StableHlo.after_of_forall_not_mem (b := Proc.devRef .tc main_v9) _ _ (List.forall_iff_forall_mem.mp (by
      simp only [hostOps0, List.drop_succ_cons, List.drop_zero, List.Forall, StableHlo.nullary_writes, StableHlo.unary_writes, StableHlo.binary_writes, StableHlo.ternary_writes, StableHlo.nary_writes, Finset.mem_singleton]
      repeat' apply And.intro
      all_goals exact StableHlo.devRef_ne_of_ne (by decide))))
  rw [h6, h7, h8, h9, V_pieces m c main_v10]
  simp only [hostOps0, List.drop_succ_cons, List.drop_zero]
  rw [StableHlo.after_cons]
  refine (StableHlo.after_of_forall_not_mem (b := Proc.devRef .tc main_v10) _ _ (List.forall_iff_forall_mem.mp (by
      simp only [List.Forall, StableHlo.nullary_writes, StableHlo.unary_writes, StableHlo.binary_writes, StableHlo.ternary_writes, StableHlo.nary_writes, Finset.mem_singleton]
      repeat' apply And.intro
      all_goals exact StableHlo.devRef_ne_of_ne (by decide)))).trans ?_
  rw [StableHlo.nary_result]
  rfl

/-- Each piece, at an index. -/
theorem V_v7 (l : Fin 4096) (k : Fin 4096) : (V m c main_v7 : S2x4096x4096.Idx → EReal) (ix3 0 l k)
    = m ((c.tc : Thread nD τ).loc main_arg1) (ix3 0 l ⟨k.val, by omega⟩) := by
  entry_read
  pointwise! []

theorem V_v8 (l : Fin 4096) (k : Fin 8192) : (V m c main_v8 : S2x4096x8192.Idx → EReal) (ix3 0 l k)
    = m ((c.tc : Thread nD τ).loc main_arg1) (ix3 0 l ⟨10368 + k.val, by omega⟩) := by
  entry_read
  pointwise! []

theorem V_v9 (l : Fin 4096) (k : Fin 4096) : (V m c main_v9 : S2x4096x4096.Idx → EReal) (ix3 0 l k)
    = m ((c.tc : Thread nD τ).loc main_arg1) (ix3 0 l ⟨4096 + k.val, by omega⟩) := by
  entry_read
  pointwise! []

theorem V_v6 (l : Fin 4096) (k : Fin 2048) : (V m c main_v6 : S2x4096x2048.Idx → EReal) (ix3 0 l k)
    = m ((c.tc : Thread nD τ).loc main_arg1) (ix3 0 l ⟨colw (16384 + k.val), colw_lt (by omega)⟩) := by
  entry_read
  exact bc_at _ l k

/-- The wide weights as the kernel gets them. -/
theorem V_main (l : Fin 4096) (q : Fin 18432) : (V m c main_v10 : S2x4096x18432.Idx → EReal) (ix3 0 l q)
    = m ((c.tc : Thread nD τ).loc main_arg1) (ix3 0 l ⟨colw q.val, colw_lt q.isLt⟩) := by
  obtain ⟨n, hq⟩ := q
  rw [V_v10]
  by_cases h1 : n < 4096
  · refine (side_1 _ _ _ _ l ⟨n, h1⟩ hq).trans ((V_v7 m c l _).trans (at_col _ l ?_ _ _))
    show n = colw n
    unfold colw
    rw [if_pos h1]
  by_cases h2 : n < 12288
  · obtain ⟨k, rfl⟩ : ∃ k, n = 4096 + k := ⟨n - 4096, by omega⟩
    refine (side_2 _ _ _ _ l ⟨k, by omega⟩ hq).trans ((V_v8 m c l _).trans (at_col _ l ?_ _ _))
    show 10368 + k = colw (4096 + k)
    unfold colw
    rw [if_neg h1, if_pos h2]
    omega
  by_cases h3 : n < 16384
  · obtain ⟨k, rfl⟩ : ∃ k, n = 12288 + k := ⟨n - 12288, by omega⟩
    refine (side_3 _ _ _ _ l ⟨k, by omega⟩ hq).trans ((V_v9 m c l _).trans (at_col _ l ?_ _ _))
    show 4096 + k = colw (12288 + k)
    unfold colw
    rw [if_neg h1, if_neg h2, if_pos h3]
    omega
  · obtain ⟨k, rfl⟩ : ∃ k, n = 16384 + k := ⟨n - 16384, by omega⟩
    exact (side_4 _ _ _ _ l ⟨k, by omega⟩ hq).trans (V_v6 m c l _)

end InpVal
-- ==== Proof.InpOut.lean ====
module
public import proofs.«01_k».proof.Proof.InpCols
public import Idealize.ShloMosaic.Lib.Pipeline.Value
public import Idealize.ShloMosaic.Lib.StableHlo.Run
public import Idealize.ShloMosaic.Lib.Claim
public import Idealize.ShloMosaic.Lib.Tactic
public import Idealize.ShloMosaic.Lib.Pipeline.ValueKit
public import Idealize.ShloMosaic.Lib.Pointwise
public import Idealize.ShloMosaic.Lib.Tactic.CleanTypes

/-! The input projection's two result arrays. Point `t` is block `t % 18` of the wide result's columns for row block
`t / 18`; the narrow result's block of a row block is what its first point stored. -/

@[expose] public section
set_option maxRecDepth 16384
noncomputable section
open Idealize.ShloMosaic Idealize.ShloMosaic.TcCoe Idealize.ShloMosaic.Tactic Idealize.SL.Sem
open Cert.InprojIdeal Cert.InprojIdeal.Gen Cert.InprojIdeal.Own
open Idealize.ShloMosaic.Pipeline (Dat)
namespace InpVal

variable (m : (ℓ : Loc nD τ sig) → Buf (Elt Ideal) ℓ) (ρ : Dev nD → PrngReg) (c : Dev nD)

/-- A row of the tokens against a column of the first layer's wide weights. -/
def wideAt (x : S16384x4096.Idx → EReal) (w : S2x4096x18560.Idx → EReal) (r : Fin 16384) (q : Fin 18432) : EReal :=
  ∑ l : Fin 4096, x (ix2 r l) * w (ix3 0 l ⟨colw q.val, colw_lt q.isLt⟩)

/-- A row of the tokens against a column of the first layer's step-size weights. -/
def narrowAt (x : S16384x4096.Idx → EReal) (w : S2x4096x18560.Idx → EReal) (r : Fin 16384) (q : Fin 128) : EReal :=
  ∑ l : Fin 4096, x (ix2 r l) * w (ix3 0 l ⟨coln q.val, coln_lt q.isLt⟩)

/-- The wide result on the kernel's arguments, as an array, -/
def wide : S16384x18432.Idx → EReal := fun i =>
  wideAt (m ((c.tc : Thread nD τ).loc main_arg0)) (m ((c.tc : Thread nD τ).loc main_arg1)) (i 0) (i 1)

/-- and the narrow one. -/
def narrow : S16384x128.Idx → EReal := fun i =>
  narrowAt (m ((c.tc : Thread nD τ).loc main_arg0)) (m ((c.tc : Thread nD τ).loc main_arg1)) (i 0) (i 1)

/-! ## The blocks a point reads -/

/-- The token that row `p` of row block `t / 18` is. -/
def tok (t : ℕ) (p : Fin 1024) : Fin 16384 := ⟨(1024 * (t / 18) + p.val) % 16384, Nat.mod_lt _ (by decide)⟩

theorem lt_of_pt (t : Fin cfg0.N) : t.val < 288 := lt_of_lt_of_eq t.isLt N_0

theorem idx0 : ∀ t : Fin cfg0.N, win0_0.index t 0 = t.val / 18 ∧ win0_0.index t 1 = 0 := by decide +kernel
theorem idx1 : ∀ t : Fin cfg0.N, win0_1.index t 0 = 0 ∧ win0_1.index t 1 = 0 ∧ win0_1.index t 2 = t.val % 18 := by decide +kernel
theorem idx2 : ∀ t : Fin cfg0.N, win0_2.index t 0 = 0 ∧ win0_2.index t 1 = 0 ∧ win0_2.index t 2 = 0 := by decide +kernel
theorem idx3 : ∀ t : Fin cfg0.N, win0_3.index t 0 = t.val / 18 ∧ win0_3.index t 1 = t.val % 18 := by decide +kernel
theorem idx4 : ∀ t : Fin cfg0.N, win0_4.index t 0 = t.val / 18 ∧ win0_4.index t 1 = 0 := by decide +kernel

theorem V_v17 (i : S16384x4096.Idx) : (V m c main_v17 : S16384x4096.Idx → EReal) i = m ((c.tc : Thread nD τ).loc main_arg0) i := by
  entry_read
  pointwise! []

theorem blk0 (t : Fin cfg0.N) (p : Fin 1024) (l : Fin 4096) :
    (iblk m c 0 t : S1024x4096.Idx → EReal) (ix2 p l) = m ((c.tc : Thread nD τ).loc main_arg0) (ix2 (tok t.val p) l) := by
  have ht := lt_of_pt t
  rw [← V_v17 m c (ix2 (tok t.val p) l)]
  unfold iblk
  rw [View.read_apply]
  show V m c main_v17 _ = V m c main_v17 _
  congr 1
  funext a
  apply Fin.ext
  match a with
  | ⟨0, _⟩ => show win0_0.index t 0 * 1024 + 1 * p.val = (1024 * (t.val / 18) + p.val) % 16384; rw [(idx0 t).1]; omega
  | ⟨1, _⟩ => show win0_0.index t 1 * 4096 + 1 * l.val = l.val; rw [(idx0 t).2]; omega

theorem blk1 (t : Fin cfg0.N) (l : Fin 4096) (q : Fin 1024) :
    (iblk m c 1 t : S1x4096x1024.Idx → EReal) (ix3 0 l q)
      = m ((c.tc : Thread nD τ).loc main_arg1) (ix3 0 l ⟨colw (1024 * (t.val % 18) + q.val), colw_lt (by omega)⟩) := by
  have ht := lt_of_pt t
  rw [← V_main m c l (⟨1024 * (t.val % 18) + q.val, by omega⟩ : Fin 18432)]
  unfold iblk
  rw [View.read_apply]
  show V m c main_v10 _ = V m c main_v10 _
  congr 1
  funext a
  apply Fin.ext
  match a with
  | ⟨0, _⟩ => show win0_1.index t 0 * 1 + 1 * 0 = 0; rw [(idx1 t).1]
  | ⟨1, _⟩ => show win0_1.index t 1 * 4096 + 1 * l.val = l.val; rw [(idx1 t).2.1]; omega
  | ⟨2, _⟩ => show win0_1.index t 2 * 1024 + 1 * q.val = 1024 * (t.val % 18) + q.val; rw [(idx1 t).2.2]; omega

theorem blk2 (t : Fin cfg0.N) (l : Fin 4096) (q : Fin 128) :
    (iblk m c 2 t : S1x4096x128.Idx → EReal) (ix3 0 l q) = m ((c.tc : Thread nD τ).loc main_arg1) (ix3 0 l ⟨coln q.val, coln_lt q.isLt⟩) := by
  have ht := lt_of_pt t
  rw [← V_dt m c l q]
  unfold iblk
  rw [View.read_apply]
  show V m c main_v16 _ = V m c main_v16 _
  congr 1
  funext a
  apply Fin.ext
  match a with
  | ⟨0, _⟩ => show win0_2.index t 0 * 1 + 1 * 0 = 0; rw [(idx2 t).1]
  | ⟨1, _⟩ => show win0_2.index t 1 * 4096 + 1 * l.val = l.val; rw [(idx2 t).2.1]; omega
  | ⟨2, _⟩ => show win0_2.index t 2 * 128 + 1 * q.val = q.val; rw [(idx2 t).2.2]; omega

/-! ## The products a point stores -/

theorem pay2_at (x : S1024x4096.Idx → EReal) (w : S1x4096x1024.Idx → EReal) (p q : Fin 1024) :
    (k0_pay2 (F := Ideal) x w : S1024x1024.Idx → EReal) (ix2 p q) = ∑ l : Fin 4096, x (ix2 p l) * w (ix3 0 l q) := by
  unfold k0_pay2 k0_pay1
  clean_types
  pointwise! []

theorem pay3_at (x : S1024x4096.Idx → EReal) (w : S1x4096x128.Idx → EReal) (p : Fin 1024) (q : Fin 128) :
    (k0_pay3 (F := Ideal) x w : S1024x128.Idx → EReal) (ix2 p q) = ∑ l : Fin 4096, x (ix2 p l) * w (ix3 0 l q) := by
  unfold k0_pay3 k0_pay1
  clean_types
  pointwise! []

theorem wide_block (t : Fin cfg0.N) (y : S1024x1024.Idx) (i : S16384x18432.Idx)
    (h0 : (i 0).val = 1024 * (t.val / 18) + (y 0).val) (h1 : (i 1).val = 1024 * (t.val % 18) + (y 1).val) :
    (k0_pay2 (F := Ideal) (iblk m c 0 t) (iblk m c 1 t) : S1024x1024.Idx → EReal) y = wide m c i := by
  obtain ⟨p, q, rfl⟩ : ∃ p q, y = ix2 p q := ⟨y 0, y 1, by funext a; match a with | ⟨0, _⟩ => rfl | ⟨1, _⟩ => rfl⟩
  have ht := lt_of_pt t
  have hp : p.val < 1024 := p.isLt
  have e0 : tok t.val p = i 0 := Fin.ext (by
    show (1024 * (t.val / 18) + p.val) % 16384 = (i 0).val
    rw [h0]; show (1024 * (t.val / 18) + p.val) % 16384 = 1024 * (t.val / 18) + p.val; omega)
  have e1 : (⟨1024 * (t.val % 18) + q.val, by omega⟩ : Fin 18432) = i 1 := Fin.ext h1.symm
  rw [pay2_at]
  unfold wide wideAt
  rw [← e1]
  exact Finset.sum_congr rfl fun l _ => by rw [blk0, blk1, e0]

theorem narrow_block (t : Fin cfg0.N) (y : S1024x128.Idx) (i : S16384x128.Idx)
    (h0 : (i 0).val = 1024 * (t.val / 18) + (y 0).val) (h1 : (i 1).val = (y 1).val) :
    (k0_pay3 (F := Ideal) (iblk m c 0 (row0 t)) (iblk m c 2 (row0 t)) : S1024x128.Idx → EReal) y = narrow m c i := by
  obtain ⟨p, q, rfl⟩ : ∃ p q, y = ix2 p q := ⟨y 0, y 1, by funext a; match a with | ⟨0, _⟩ => rfl | ⟨1, _⟩ => rfl⟩
  have ht := lt_of_pt t
  have hp : p.val < 1024 := p.isLt
  have e0 : tok (row0 t).val p = i 0 := Fin.ext (by
    show (1024 * (18 * (t.val / 18) / 18) + p.val) % 16384 = (i 0).val
    rw [h0]; show (1024 * (18 * (t.val / 18) / 18) + p.val) % 16384 = 1024 * (t.val / 18) + p.val; omega)
  have e1 : q = i 1 := Fin.ext h1.symm
  rw [pay3_at]
  unfold narrow narrowAt
  exact Finset.sum_congr rfl fun l _ => by rw [blk0, blk2, e0, e1]

/-! ## The result arrays -/

theorem arr_3 : (dats m 0 c).arrAt 3 cfg0.N = wide m c := by
  refine (dats m 0 c).arrAt_eq_of_covers 3 (wide m c) (by decide +kernel) fun t hf y => ?_
  blk_simp
  refine (congrFun (after0_3 m c t) y).trans ?_
  refine wide_block m c t y _ ?_ ?_
  · blk_simp
    rw [(idx3 t).1]
    omega
  · blk_simp
    rw [(idx3 t).2]
    omega

theorem arr_4 : (dats m 0 c).arrAt 4 cfg0.N = narrow m c := by
  refine (dats m 0 c).arrAt_eq_of_covers 4 (narrow m c) (by decide +kernel) fun t hf y => ?_
  blk_simp
  refine (congrFun (after0_4 m c t) y).trans ?_
  refine narrow_block m c t y _ ?_ ?_
  · blk_simp
    rw [(idx4 t).1]
    omega
  · blk_simp
    rw [(idx4 t).2]
    omega

/-- The kernel's run: its results are the two products, the arguments what they held. -/
theorem run_inp : θ_run defs (onTc (τ := τ) (main (F := Ideal))) ⟨m, fun _ => 0, ρ⟩ fun r => ∀ c : Dev nD,
    r.2.mem ((c : Thread nD τ).loc main_v18_0) = wide m c ∧ r.2.mem ((c : Thread nD τ).loc main_v18_1) = narrow m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨((h c).1 3).trans (arr_3 m c), ((h c).1 4).trans (arr_4 m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c)⟩)
    (run_main m ρ)

end InpVal
-- ==== Proof.InpRef.lean ====
module
public import proofs.«01_k».proof.Proof.Gen.InprojRefIdeal.Run
public import proofs.«01_k».proof.Proof.InpOut
public import Idealize.ShloMosaic.Lib.Tactic
public import Idealize.ShloMosaic.Lib.Claim
public import Idealize.ShloMosaic.Lib.Tactic.CleanTypes

/-! The plain input projection's results, read at an index. -/

@[expose] public section
set_option maxRecDepth 16384
noncomputable section
open Idealize.ShloMosaic Idealize.ShloMosaic.TcCoe Idealize.ShloMosaic.Tactic
open Cert.InprojRefIdeal Cert.InprojRefIdeal.Gen
namespace InpVal

/-! ## The plain product, and its columns in another order -/

/-- The plain product of the tokens and the first layer's weights. -/
def product (x : S16384x4096.Idx → EReal) (w : S2x4096x18560.Idx → EReal) : S16384x18560.Idx → EReal :=
  Host.dotGeneral (F := Ideal) (φ₁ := .f32) (φ₂ := .f32) dot_S16384x4096_S4096x18560_S16384x18560_1_0_0_1_n_n none x
    (shapeCast S4096x18560 (extractStridedSlice S1x4096x18560 ![0, 0, 0] w slices_S2x4096x18560_S1x4096x18560_0_0_0) shapeCasts_S1x4096x18560_S4096x18560)

theorem product_at (x : S16384x4096.Idx → EReal) (w : S2x4096x18560.Idx → EReal) (r : Fin 16384) (n : Fin 18560) :
    product x w (ix2 r n) = ∑ l : Fin 4096, x (ix2 r l) * w (ix3 0 l n) := by
  unfold product
  clean_types
  pointwise! []

/-- An entry is where its column is. -/
theorem at_col2 (P : S16384x18560.Idx → EReal) (r : Fin 16384) {n n' : ℕ} (e : n = n') (h : n < 18560) (h' : n' < 18560) :
    P (ix2 r ⟨n, h⟩) = P (ix2 r ⟨n', h'⟩) := by
  subst e; rfl

section Row
variable (x1 x3 : S16384x4096.Idx → EReal) (x2 : S16384x8192.Idx → EReal) (x4 : S16384x2048.Idx → EReal) (r : Fin 16384)

/-- Four results side by side. -/
def row : S16384x18432.Idx → EReal :=
  concatenate S16384x18432 1 [⟨S16384x4096, x1⟩, ⟨S16384x8192, x2⟩, ⟨S16384x4096, x3⟩, ⟨S16384x2048, x4⟩]
    concatenates_S16384x4096_S16384x8192_S16384x4096_S16384x2048_S16384x18432_d1

theorem row_1 (k : Fin 4096) (h : k.val < 18432) : row x1 x3 x2 x4 (ix2 r ⟨k.val, h⟩) = x1 (ix2 r k) := by
  unfold row
  refine concatenate_apply_piece (t := S16384x18432) _ _ _ _ 0 (by simp) S16384x4096 x1 rfl rfl 0 rfl (ix2 r k) ?_ ?_
  · intro b hb
    match b with
    | ⟨0, _⟩ => rfl
    | ⟨1, _⟩ => exact absurd rfl hb
  · show 0 + k.val = k.val
    omega

theorem row_2 (k : Fin 8192) (h : 4096 + k.val < 18432) : row x1 x3 x2 x4 (ix2 r ⟨4096 + k.val, h⟩) = x2 (ix2 r k) := by
  unfold row
  refine concatenate_apply_piece (t := S16384x18432) _ _ _ _ 1 (by simp) S16384x8192 x2 rfl rfl 4096 rfl (ix2 r k) ?_ rfl
  intro b hb
  match b with
  | ⟨0, _⟩ => rfl
  | ⟨1, _⟩ => exact absurd rfl hb

theorem row_3 (k : Fin 4096) (h : 12288 + k.val < 18432) : row x1 x3 x2 x4 (ix2 r ⟨12288 + k.val, h⟩) = x3 (ix2 r k) := by
  unfold row
  refine concatenate_apply_piece (t := S16384x18432) _ _ _ _ 2 (by simp) S16384x4096 x3 rfl rfl 12288 rfl (ix2 r k) ?_ rfl
  intro b hb
  match b with
  | ⟨0, _⟩ => rfl
  | ⟨1, _⟩ => exact absurd rfl hb

theorem row_4 (k : Fin 2048) (h : 16384 + k.val < 18432) : row x1 x3 x2 x4 (ix2 r ⟨16384 + k.val, h⟩) = x4 (ix2 r k) := by
  unfold row
  refine concatenate_apply_piece (t := S16384x18432) _ _ _ _ 3 (by simp) S16384x2048 x4 rfl rfl 16384 rfl (ix2 r k) ?_ rfl
  intro b hb
  match b with
  | ⟨0, _⟩ => rfl
  | ⟨1, _⟩ => exact absurd rfl hb

end Row

section Bands
variable (P : S16384x18560.Idx → EReal) (r : Fin 16384)

/-- The reference's four bands of the product. -/
def band1 : S16384x4096.Idx → EReal := extractStridedSlice S16384x4096 ![0, 0] P slices_S16384x18560_S16384x4096_0_0
def band2 : S16384x8192.Idx → EReal := extractStridedSlice S16384x8192 ![0, 10368] P slices_S16384x18560_S16384x8192_0_10368
def band3 : S16384x4096.Idx → EReal :=
  extractStridedSlice S16384x4096 ![0, 0] (extractStridedSlice S16384x6144 ![0, 4096] P slices_S16384x18560_S16384x6144_0_4096) slices_S16384x6144_S16384x4096_0_0
def band4 : S16384x2048.Idx → EReal :=
  shapeCast S16384x2048 (concatenate S16384x8x256 2
    [⟨S16384x8x128, shapeCast S16384x8x128 (extractStridedSlice S16384x1024 ![0, 4096] (extractStridedSlice S16384x6144 ![0, 4096] P slices_S16384x18560_S16384x6144_0_4096) slices_S16384x6144_S16384x1024_0_4096) shapeCasts_S16384x1024_S16384x8x128⟩,
     ⟨S16384x8x128, shapeCast S16384x8x128 (extractStridedSlice S16384x1024 ![0, 5120] (extractStridedSlice S16384x6144 ![0, 4096] P slices_S16384x18560_S16384x6144_0_4096) slices_S16384x6144_S16384x1024_0_5120) shapeCasts_S16384x1024_S16384x8x128⟩]
    concatenates_S16384x8x128_S16384x8x128_S16384x8x256_d2) shapeCasts_S16384x8x256_S16384x2048

theorem band1_at (k : Fin 4096) : band1 P (ix2 r k) = P (ix2 r ⟨k.val, by omega⟩) := by
  unfold band1
  pointwise! []

theorem band2_at (k : Fin 8192) : band2 P (ix2 r k) = P (ix2 r ⟨10368 + k.val, by omega⟩) := by
  unfold band2
  pointwise! []

theorem band3_at (k : Fin 4096) : band3 P (ix2 r k) = P (ix2 r ⟨4096 + k.val, by omega⟩) := by
  unfold band3
  pointwise! []

theorem band4_at (k : Fin 2048) : band4 P (ix2 r k) = P (ix2 r ⟨colw (16384 + k.val), colw_lt (by omega)⟩) := by
  unfold band4
  pointwise! []
  by_cases h : k.val % 256 < 128
  · rw [dif_pos h]
    exact at_col2 P r (by rw [← colw_b h]; omega) _ _
  · rw [dif_neg h]
    exact at_col2 P r (by rw [← colw_c h]; omega) _ _

theorem row_at (q : Fin 18432) : row (band1 P) (band3 P) (band2 P) (band4 P) (ix2 r q) = P (ix2 r ⟨colw q.val, colw_lt q.isLt⟩) := by
  obtain ⟨n, hq⟩ := q
  by_cases h1 : n < 4096
  · refine (row_1 _ _ _ _ r ⟨n, h1⟩ hq).trans ((band1_at P r _).trans (at_col2 _ r ?_ _ _))
    show n = colw n
    unfold colw
    rw [if_pos h1]
  by_cases h2 : n < 12288
  · obtain ⟨k, rfl⟩ : ∃ k, n = 4096 + k := ⟨n - 4096, by omega⟩
    refine (row_2 _ _ _ _ r ⟨k, by omega⟩ hq).trans ((band2_at P r _).trans (at_col2 _ r ?_ _ _))
    show 10368 + k = colw (4096 + k)
    unfold colw
    rw [if_neg h1, if_pos h2]
    omega
  by_cases h3 : n < 16384
  · obtain ⟨k, rfl⟩ : ∃ k, n = 12288 + k := ⟨n - 12288, by omega⟩
    refine (row_3 _ _ _ _ r ⟨k, by omega⟩ hq).trans ((band3_at P r _).trans (at_col2 _ r ?_ _ _))
    show 4096 + k = colw (12288 + k)
    unfold colw
    rw [if_neg h1, if_neg h2, if_pos h3]
    omega
  · obtain ⟨k, rfl⟩ : ∃ k, n = 16384 + k := ⟨n - 16384, by omega⟩
    exact (row_4 _ _ _ _ r ⟨k, by omega⟩ hq).trans (band4_at P r _)

/-- The reference's second result: the step sizes by group. -/
def steps : S16384x128.Idx → EReal :=
  shapeCast S16384x128 (concatenate S16384x8x16 2
    [⟨S16384x8x8, shapeCast S16384x8x8 (extractStridedSlice S16384x64 ![0, 0] (extractStridedSlice S16384x128 ![0, 10240] P slices_S16384x18560_S16384x128_0_10240) slices_S16384x128_S16384x64_0_0) shapeCasts_S16384x64_S16384x8x8⟩,
     ⟨S16384x8x8, shapeCast S16384x8x8 (extractStridedSlice S16384x64 ![0, 64] (extractStridedSlice S16384x128 ![0, 10240] P slices_S16384x18560_S16384x128_0_10240) slices_S16384x128_S16384x64_0_64) shapeCasts_S16384x64_S16384x8x8⟩]
    concatenates_S16384x8x8_S16384x8x8_S16384x8x16_d2) shapeCasts_S16384x8x16_S16384x128

theorem steps_at (q : Fin 128) : steps P (ix2 r q) = P (ix2 r ⟨coln q.val, coln_lt q.isLt⟩) := by
  unfold steps
  pointwise! []
  by_cases h : q.val % 16 < 8
  · rw [dif_pos h]
    exact at_col2 P r (by unfold coln; omega) _ _
  · rw [dif_neg h]
    exact at_col2 P r (by unfold coln; omega) _ _

end Bands

theorem ref_wide (x : S16384x4096.Idx → EReal) (w : S2x4096x18560.Idx → EReal) (r : Fin 16384) (q : Fin 18432) :
    row (band1 (product x w)) (band3 (product x w)) (band2 (product x w)) (band4 (product x w)) (ix2 r q) = wideAt x w r q :=
  (row_at _ r q).trans (product_at x w r _)

theorem ref_narrow (x : S16384x4096.Idx → EReal) (w : S2x4096x18560.Idx → EReal) (r : Fin 16384) (q : Fin 128) :
    steps (product x w) (ix2 r q) = narrowAt x w r q :=
  (steps_at _ r q).trans (product_at x w r _)

end InpVal
-- ==== Proof.FfnSampleMath.lean ====
module
public import Idealize.ShloMosaic.Lib.Pointwise
public import Idealize.ShloMosaic.PureOps.Ideal
public import Idealize.ShloMosaic.PureOps.Ideal.Laws
public import Idealize.ShloMosaic.Lib.IdealHost

/-! The feed-forward layer as mathematics: the gated hidden unit, the residual sum and the row
normalisation, and the two facts about sums by which the kernel's order of work and the plain one
agree. -/

@[expose] public section
noncomputable section
open Idealize.ShloMosaic
namespace FfnSampleVal

/-- The layer normalisation of one row `z`, scaled by `g` and shifted by `b`, at column `q`. -/
def lnRow (z g b : Fin 4096 → EReal) (q : Fin 4096) : EReal :=
  (z q - Ideal.div (∑ k, z k) (Ideal.ofBits .f32 0x45800000#32)) *
      Ideal.rsqrt (Ideal.div
        (∑ k, (z k - Ideal.div (∑ l, z l) (Ideal.ofBits .f32 0x45800000#32)) *
          (z k - Ideal.div (∑ l, z l) (Ideal.ofBits .f32 0x45800000#32)))
        (Ideal.ofBits .f32 0x45800000#32) + Ideal.ofBits .f32 0x3727C5AC#32) * g q + b q

/-- One gated hidden unit of a row `x`: `silu (x·wg) · (x·wu)`. -/
def hidden (x wg wu : Fin 4096 → EReal) : EReal :=
  (∑ l, x l * wg l) * Ideal.logistic (∑ l, x l * wg l) * ∑ l, x l * wu l

/-- The residual sum before normalisation, at one row and column. -/
def preNorm (x : Fin 4096 → EReal) (wg wu : Fin 4096 → Fin 11008 → EReal) (wd : Fin 11008 → Fin 4096 → EReal)
    (q : Fin 4096) : EReal :=
  Ideal.ofBits .f32 0x3FB504F3#32 * x q +
    Ideal.ofBits .f32 0x3F000000#32 * ∑ k, hidden x (fun l => wg l k) (fun l => wu l k) * wd k q

/-- The layer's result at token `r` and column `q`, of the six arrays it takes (the weights of layer 1). -/
def ffnAt (a0 : (⟨3, ![4, 2048, 4096]⟩ : Shape).Idx → EReal) (a1 a2 : (⟨3, ![2, 4096, 11008]⟩ : Shape).Idx → EReal)
    (a3 : (⟨3, ![2, 11008, 4096]⟩ : Shape).Idx → EReal) (a4 a5 : (⟨2, ![2, 4096]⟩ : Shape).Idx → EReal)
    (r : Fin 8192) (q : Fin 4096) : EReal :=
  lnRow (preNorm (fun l => a0 (ix3 ⟨r.val / 2048, by omega⟩ ⟨r.val % 2048, by omega⟩ l))
      (fun l k => a1 (ix3 1 l k)) (fun l k => a2 (ix3 1 l k)) (fun k l => a3 (ix3 1 k l)))
    (fun k => a4 (ix2 1 k)) (fun k => a5 (ix2 1 k)) q

/-- Half of a sum and twice the residual weight is the plain residual sum. -/
theorem half_mul_add (S x : EReal) :
    Ideal.ofBits .f32 0x3F000000#32 * (S + Ideal.ofBits .f32 0x403504F3#32 * x)
      = Ideal.ofBits .f32 0x3FB504F3#32 * x + Ideal.ofBits .f32 0x3F000000#32 * S := by
  have h1 : Ideal.ofBits .f32 0x3F000000#32 = (((1 : ℝ) / 2 : ℝ) : EReal) := by
    simp [Ideal.ofBits, Ideal.ieee, -EReal.coe_mul]; norm_num
  have h2 : Ideal.ofBits .f32 0x403504F3#32 = (((11863283 : ℝ) / 4194304 : ℝ) : EReal) := by
    simp [Ideal.ofBits, Ideal.ieee, -EReal.coe_mul]; norm_num
  have h3 : Ideal.ofBits .f32 0x3FB504F3#32 = (((11863283 : ℝ) / 8388608 : ℝ) : EReal) := by
    simp [Ideal.ofBits, Ideal.ieee, -EReal.coe_mul]; norm_num
  have h4 : Ideal.ofBits .f32 0x3F000000#32 * Ideal.ofBits .f32 0x403504F3#32 = Ideal.ofBits .f32 0x3FB504F3#32 := by
    rw [h1, h2, h3, ← EReal.coe_mul]; norm_num
  rw [EReal.left_distrib_of_nonneg_of_ne_top (by rw [h1]; exact_mod_cast (by norm_num : (0 : ℝ) ≤ 1 / 2))
    (by rw [h1]; exact EReal.coe_ne_top _), ← mul_assoc, h4, add_comm]

/-- A sum over the hidden width, in 43 blocks of 256. -/
theorem sum_blocks (f : Fin 11008 → EReal) :
    ∑ k, f k = ∑ j : Fin 43, ∑ k : Fin 256, f ⟨256 * j.val + k.val, by omega⟩ := by
  rw [← Fintype.sum_prod_type']
  refine (Fintype.sum_equiv (finProdFinEquiv (m := 43) (n := 256)) _ _ fun p => ?_).symm
  refine congrArg f (Fin.ext ?_)
  show 256 * p.1.val + p.2.val = p.2.val + 256 * p.1.val
  omega

end FfnSampleVal
-- ==== Proof.FfnSampleBlocks.lean ====
module
public import proofs.«01_k».proof.Proof.Gen.FfnSampleIdeal.Value
public import proofs.«01_k».proof.Proof.FfnSampleMath
public import Idealize.ShloMosaic.Lib.Pipeline.Value
public import Idealize.ShloMosaic.Lib.StableHlo.Run
public import Idealize.ShloMosaic.Lib.Claim
public import Idealize.ShloMosaic.Lib.Tactic

/-! The blocks the feed-forward call reads at a grid point, as entries of the arrays it is given. Point
`t` is block `t % 51` of the hidden width (from 43 on: a normalising step) for row block `t / 51`. -/

@[expose] public section
set_option maxRecDepth 16384
noncomputable section
open Idealize.ShloMosaic Idealize.ShloMosaic.TcCoe Idealize.ShloMosaic.Tactic
open Cert.FfnSampleIdeal Cert.FfnSampleIdeal.Gen
namespace FfnSampleVal

variable (m : (ℓ : Loc nD τ sig) → Buf (Elt Ideal) ℓ) (c : Dev nD)

/-- The token that row `p` of row block `t / 51` is. -/
def tok (t : ℕ) (p : Fin 1024) : Fin 8192 := ⟨(1024 * (t / 51) + p.val) % 8192, Nat.mod_lt _ (by decide)⟩

theorem lt_of_pt (t : Fin cfg0.N) : t.val < 408 := lt_of_lt_of_eq t.isLt N_0

theorem idx0 : ∀ t : Fin cfg0.N, win0_0.index t 0 = t.val / 51 ∧ win0_0.index t 1 = min (t.val % 51) 7 := by decide +kernel
theorem idx1 : ∀ t : Fin cfg0.N, win0_1.index t 0 = t.val / 51 ∧ win0_1.index t 1 = 0 := by decide +kernel
theorem idx2 : ∀ t : Fin cfg0.N, win0_2.index t 0 = 1 ∧ win0_2.index t 1 = 0 ∧ win0_2.index t 2 = min (t.val % 51) 42 := by decide +kernel
theorem idx3 : ∀ t : Fin cfg0.N, win0_3.index t 0 = 1 ∧ win0_3.index t 1 = 0 ∧ win0_3.index t 2 = min (t.val % 51) 42 := by decide +kernel
theorem idx4 : ∀ t : Fin cfg0.N, win0_4.index t 0 = 1 ∧ win0_4.index t 1 = min (t.val % 51) 42 ∧ win0_4.index t 2 = 0 := by decide +kernel
theorem idx5 : ∀ t : Fin cfg0.N, win0_5.index t 0 = 1 ∧ win0_5.index t 1 = 0 ∧ win0_5.index t 2 = 0 := by decide +kernel
theorem idx6 : ∀ t : Fin cfg0.N, win0_6.index t 0 = 1 ∧ win0_6.index t 1 = 0 ∧ win0_6.index t 2 = 0 := by decide +kernel

theorem V_v0 (r : Fin 8192) (q : Fin 4096) : (V m c main_v0 : S8192x4096.Idx → EReal) (ix2 r q)
    = m ((c.tc : Thread nD τ).loc main_arg0) (ix3 ⟨r.val / 2048, by omega⟩ ⟨r.val % 2048, by omega⟩ q) := by
  entry_read
  pointwise! []

theorem V_v1 (r : Fin 8192) (q : Fin 4096) : (V m c main_v1 : S8192x4096.Idx → EReal) (ix2 r q)
    = m ((c.tc : Thread nD τ).loc main_arg0) (ix3 ⟨r.val / 2048, by omega⟩ ⟨r.val % 2048, by omega⟩ q) := by
  entry_read
  pointwise! []

theorem V_v2 (i : S2x4096x11008.Idx) : (V m c main_v2 : S2x4096x11008.Idx → EReal) i = m ((c.tc : Thread nD τ).loc main_arg1) i := by
  entry_read
  pointwise! []

theorem V_v3 (i : S2x4096x11008.Idx) : (V m c main_v3 : S2x4096x11008.Idx → EReal) i = m ((c.tc : Thread nD τ).loc main_arg2) i := by
  entry_read
  pointwise! []

theorem V_v4 (i : S2x11008x4096.Idx) : (V m c main_v4 : S2x11008x4096.Idx → EReal) i = m ((c.tc : Thread nD τ).loc main_arg3) i := by
  entry_read
  pointwise! []

theorem V_v5 (q : Fin 4096) : (V m c main_v5 : S2x1x4096.Idx → EReal) (ix3 1 0 q) = m ((c.tc : Thread nD τ).loc main_arg4) (ix2 1 q) := by
  entry_read
  pointwise! []

theorem V_v6 (q : Fin 4096) : (V m c main_v6 : S2x1x4096.Idx → EReal) (ix3 1 0 q) = m ((c.tc : Thread nD τ).loc main_arg5) (ix2 1 q) := by
  entry_read
  pointwise! []

theorem blk0 (t : Fin cfg0.N) (p : Fin 1024) (q : Fin 512) :
    (iblk m c 0 t : S1024x512.Idx → EReal) (ix2 p q)
      = m ((c.tc : Thread nD τ).loc main_arg0) (ix3 ⟨(tok t.val p).val / 2048, by omega⟩ ⟨(tok t.val p).val % 2048, by omega⟩ ⟨512 * min (t.val % 51) 7 + q.val, by omega⟩) := by
  have ht := lt_of_pt t
  rw [← V_v0 m c (tok t.val p) ⟨512 * min (t.val % 51) 7 + q.val, by omega⟩]
  unfold iblk
  rw [View.read_apply]
  show V m c main_v0 _ = V m c main_v0 _
  congr 1
  funext a
  apply Fin.ext
  match a with
  | ⟨0, _⟩ => show win0_0.index t 0 * 1024 + 1 * p.val = (1024 * (t.val / 51) + p.val) % 8192; rw [(idx0 t).1]; omega
  | ⟨1, _⟩ => show win0_0.index t 1 * 512 + 1 * q.val = 512 * min (t.val % 51) 7 + q.val; rw [(idx0 t).2]; omega

theorem blk1 (t : Fin cfg0.N) (p : Fin 1024) (q : Fin 4096) :
    (iblk m c 1 t : S1024x4096.Idx → EReal) (ix2 p q)
      = m ((c.tc : Thread nD τ).loc main_arg0) (ix3 ⟨(tok t.val p).val / 2048, by omega⟩ ⟨(tok t.val p).val % 2048, by omega⟩ q) := by
  have ht := lt_of_pt t
  rw [← V_v1 m c (tok t.val p) q]
  unfold iblk
  rw [View.read_apply]
  show V m c main_v1 _ = V m c main_v1 _
  congr 1
  funext a
  apply Fin.ext
  match a with
  | ⟨0, _⟩ => show win0_1.index t 0 * 1024 + 1 * p.val = (1024 * (t.val / 51) + p.val) % 8192; rw [(idx1 t).1]; omega
  | ⟨1, _⟩ => show win0_1.index t 1 * 4096 + 1 * q.val = q.val; rw [(idx1 t).2]; omega

theorem blk2 (t : Fin cfg0.N) (l : Fin 4096) (k : Fin 256) :
    (iblk m c 2 t : S1x4096x256.Idx → EReal) (ix3 0 l k)
      = m ((c.tc : Thread nD τ).loc main_arg1) (ix3 1 l ⟨256 * min (t.val % 51) 42 + k.val, by omega⟩) := by
  have ht := lt_of_pt t
  rw [← V_v2 m c (ix3 1 l ⟨256 * min (t.val % 51) 42 + k.val, by omega⟩)]
  unfold iblk
  rw [View.read_apply]
  show V m c main_v2 _ = V m c main_v2 _
  congr 1
  funext a
  apply Fin.ext
  match a with
  | ⟨0, _⟩ => show win0_2.index t 0 * 1 + 1 * 0 = 1; rw [(idx2 t).1]
  | ⟨1, _⟩ => show win0_2.index t 1 * 4096 + 1 * l.val = l.val; rw [(idx2 t).2.1]; omega
  | ⟨2, _⟩ => show win0_2.index t 2 * 256 + 1 * k.val = 256 * min (t.val % 51) 42 + k.val; rw [(idx2 t).2.2]; omega

theorem blk3 (t : Fin cfg0.N) (l : Fin 4096) (k : Fin 256) :
    (iblk m c 3 t : S1x4096x256.Idx → EReal) (ix3 0 l k)
      = m ((c.tc : Thread nD τ).loc main_arg2) (ix3 1 l ⟨256 * min (t.val % 51) 42 + k.val, by omega⟩) := by
  have ht := lt_of_pt t
  rw [← V_v3 m c (ix3 1 l ⟨256 * min (t.val % 51) 42 + k.val, by omega⟩)]
  unfold iblk
  rw [View.read_apply]
  show V m c main_v3 _ = V m c main_v3 _
  congr 1
  funext a
  apply Fin.ext
  match a with
  | ⟨0, _⟩ => show win0_3.index t 0 * 1 + 1 * 0 = 1; rw [(idx3 t).1]
  | ⟨1, _⟩ => show win0_3.index t 1 * 4096 + 1 * l.val = l.val; rw [(idx3 t).2.1]; omega
  | ⟨2, _⟩ => show win0_3.index t 2 * 256 + 1 * k.val = 256 * min (t.val % 51) 42 + k.val; rw [(idx3 t).2.2]; omega

theorem blk4 (t : Fin cfg0.N) (l : Fin 4096) (k : Fin 256) :
    (iblk m c 4 t : S1x256x4096.Idx → EReal) (ix3 0 k l)
      = m ((c.tc : Thread nD τ).loc main_arg3) (ix3 1 ⟨256 * min (t.val % 51) 42 + k.val, by omega⟩ l) := by
  have ht := lt_of_pt t
  rw [← V_v4 m c (ix3 1 ⟨256 * min (t.val % 51) 42 + k.val, by omega⟩ l)]
  unfold iblk
  rw [View.read_apply]
  show V m c main_v4 _ = V m c main_v4 _
  congr 1
  funext a
  apply Fin.ext
  match a with
  | ⟨0, _⟩ => show win0_4.index t 0 * 1 + 1 * 0 = 1; rw [(idx4 t).1]
  | ⟨1, _⟩ => show win0_4.index t 1 * 256 + 1 * k.val = 256 * min (t.val % 51) 42 + k.val; rw [(idx4 t).2.1]; omega
  | ⟨2, _⟩ => show win0_4.index t 2 * 4096 + 1 * l.val = l.val; rw [(idx4 t).2.2]; omega

theorem blk5 (t : Fin cfg0.N) (q : Fin 4096) :
    (iblk m c 5 t : S1x1x4096.Idx → EReal) (ix3 0 0 q)
      = m ((c.tc : Thread nD τ).loc main_arg4) (ix2 1 q) := by
  have ht := lt_of_pt t
  rw [← V_v5 m c q]
  unfold iblk
  rw [View.read_apply]
  show V m c main_v5 _ = V m c main_v5 _
  congr 1
  funext a
  apply Fin.ext
  match a with
  | ⟨0, _⟩ => show win0_5.index t 0 * 1 + 1 * 0 = 1; rw [(idx5 t).1]
  | ⟨1, _⟩ => show win0_5.index t 1 * 1 + 1 * 0 = 0; rw [(idx5 t).2.1]
  | ⟨2, _⟩ => show win0_5.index t 2 * 4096 + 1 * q.val = q.val; rw [(idx5 t).2.2]; omega

theorem blk6 (t : Fin cfg0.N) (q : Fin 4096) :
    (iblk m c 6 t : S1x1x4096.Idx → EReal) (ix3 0 0 q)
      = m ((c.tc : Thread nD τ).loc main_arg5) (ix2 1 q) := by
  have ht := lt_of_pt t
  rw [← V_v6 m c q]
  unfold iblk
  rw [View.read_apply]
  show V m c main_v6 _ = V m c main_v6 _
  congr 1
  funext a
  apply Fin.ext
  match a with
  | ⟨0, _⟩ => show win0_6.index t 0 * 1 + 1 * 0 = 1; rw [(idx6 t).1]
  | ⟨1, _⟩ => show win0_6.index t 1 * 1 + 1 * 0 = 0; rw [(idx6 t).2.1]
  | ⟨2, _⟩ => show win0_6.index t 2 * 4096 + 1 * q.val = q.val; rw [(idx6 t).2.2]; omega

end FfnSampleVal
-- ==== Proof.FfnSampleLoops.lean ====
module
public import proofs.«01_k».proof.Proof.Gen.FfnSampleIdeal.Loops
public import Idealize.ShloMosaic.Lib.Pipeline.Value
public import Idealize.ShloMosaic.Lib.Tactic
public import Idealize.ShloMosaic.Lib.WritesUnit
public import Idealize.ShloMosaic.Lib.Pipeline.ValueKit
public import Idealize.ShloMosaic.Lib.Pointwise
public import Idealize.ShloMosaic.PureOps.Ideal

/-! The feed-forward call's residual loops: while the first eight blocks of the hidden width are
summed, each adds `2α·x` to one band of 512 columns of the accumulator, 64 rows a trip. One lemma
says what sixteen such trips leave, and each of the eight loops is an instance of it. -/

@[expose] public section
set_option maxRecDepth 16384
noncomputable section
open Idealize.ShloMosaic Idealize.ShloMosaic.TcCoe Idealize.ShloMosaic.Tactic
open Cert.FfnSampleIdeal Cert.FfnSampleIdeal.Gen
namespace FfnSampleVal

/-- The accumulator `a` with `2α·u` added to its 512 columns from column `C` on. -/
def resid (C : ℕ) (u : Vec Ideal S1024x512 .f32) (a : Vec Ideal S1024x4096 .f32) :
    Vec Ideal S1024x4096 .f32 := fun y =>
  if C ≤ (y 1).val ∧ (y 1).val < C + 512 then
    a y + Ideal.ofBits .f32 0x403504F3#32 *
      u (ix2 (n0 := 1024) (n1 := 512) (y 0) ⟨((y 1).val - C) % 512, Nat.mod_lt _ (by decide)⟩)
  else a y

/-- Sixteen trips that each rewrite 64 rows of one band of columns, every entry by a function of its
    own place and of what it held: after `k` trips the first `64·k` rows of the band are rewritten. -/
theorem trips_read {κ : Kind} {sp : Space} (v : View sig κ sp S1024x4096 .f32)
    (G : v.ty.Contents (Elt Ideal)) (C : ℕ)
    (p : ℕ → List (View.Piece (Elt Ideal) S1024x4096 .f32)) (h0 : p 0 = [])
    (Z : S1024x4096.Idx → EReal → EReal)
    (hs : ∀ k, k < 16 → ∃ off inb w, off = ![64 * k, C] ∧
      p (k + 1) = ⟨Rect.unit (s := S1024x4096) off S64x512.size inb, w⟩ :: p k ∧
      ∀ (x : S64x512.Idx) (y : S1024x4096.Idx), (∀ a, (y a).val = off a + (x a).val) →
        w x = Z y (v.read (Elt Ideal) (v.writes (Elt Ideal) G (p k)) y)) :
    ∀ k, k ≤ 16 → ∀ y : S1024x4096.Idx,
      v.read (Elt Ideal) (v.writes (Elt Ideal) G (p k)) y
        = if (y 0).val < 64 * k ∧ C ≤ (y 1).val ∧ (y 1).val < C + 512
          then Z y (v.read (Elt Ideal) G y) else v.read (Elt Ideal) G y := by
  intro k
  induction k with
  | zero =>
    intro _ y
    rw [h0, if_neg (by omega)]
    rfl
  | succ k ih =>
    intro hk y
    obtain ⟨off, inb, w, rfl, hp, hw⟩ := hs k (by omega)
    rw [hp]
    by_cases hin : (64 * k ≤ (y 0).val ∧ (y 0).val < 64 * k + 64) ∧ C ≤ (y 1).val ∧ (y 1).val < C + 512
    · let x : S64x512.Idx := ix2 (n0 := 64) (n1 := 512) ⟨(y 0).val - 64 * k, by omega⟩ ⟨(y 1).val - C, by omega⟩
      have hx : ∀ a, (y a).val = (![64 * k, C] : Fin 2 → ℕ) a + (x a).val := by
        intro a
        match a with
        | ⟨0, _⟩ => show (y 0).val = 64 * k + ((y 0).val - 64 * k); omega
        | ⟨1, _⟩ => show (y 1).val = C + ((y 1).val - C); omega
      rw [View.read_writes_cons_unit_of_mem v G inb w (p k) y x rfl hx, hw x y hx, ih (by omega) y,
        if_neg (by omega), if_pos (by omega)]
    · rw [show v.read (Elt Ideal) (v.writes (Elt Ideal) G (⟨Rect.unit (s := S1024x4096) ![64 * k, C] S64x512.size inb, w⟩ :: p k)) y
          = v.read (Elt Ideal) (v.writes (Elt Ideal) G (p k)) y from ?_, ih (by omega) y]
      · congr 1
        exact propext ⟨fun h => by omega, fun h => by omega⟩
      · by_cases h0 : 64 * k ≤ (y 0).val ∧ (y 0).val < 64 * k + 64
        · exact View.read_writes_cons_unit_of_not_mem v G inb w (p k) y rfl 1
            (by show (y 1).val < C ∨ C + 512 ≤ (y 1).val; omega)
        · exact View.read_writes_cons_unit_of_not_mem v G inb w (p k) y rfl 0
            (by show (y 0).val < 64 * k ∨ 64 * k + 64 ≤ (y 0).val; omega)

/-- The trips of one residual loop, in the form the eight loops' terms have: each stores, at rows
    `64·k` on and columns `C` on, the accumulator's piece plus `2α` times the operand's rows. -/
theorem resid_read (arg11 : Memref sig .tc .vmem S1024x4096 .f32) (arg2 : Memref sig .tc .vmem S1024x512 .f32)
    (G : arg11.view.ty.Contents (Elt Ideal)) (X : arg2.view.ty.Contents (Elt Ideal)) (C : ℕ)
    (p : ℕ → List (View.Piece (Elt Ideal) S1024x4096 .f32)) (h0 : p 0 = [])
    (pay : Vec Ideal S64x512 .f32 → Vec Ideal S64x512 .f32 → Vec Ideal S64x512 .f32)
    (hpay : ∀ a b x, pay a b x = a x + Ideal.ofBits .f32 0x403504F3#32 * b x)
    (hs : ∀ k, k < 16 → ∃ off inb offx inbx, off = ![64 * k, C] ∧ offx = ![64 * k, 0] ∧
      p (k + 1) = ⟨Rect.unit (s := S1024x4096) off S64x512.size inb,
        pay (arg11.view.readAt (Elt Ideal) (Rect.unit (s := S1024x4096) off S64x512.size inb).toLoadRect
              (arg11.view.writes (Elt Ideal) G (p k)))
            (arg2.view.readAt (Elt Ideal) (Rect.unit (s := S1024x512) offx S64x512.size inbx).toLoadRect X)⟩ :: p k) :
    arg11.view.read (Elt Ideal) (arg11.view.writes (Elt Ideal) G (p 16))
      = resid C (arg2.view.read (Elt Ideal) X) (arg11.view.read (Elt Ideal) G) := by
  funext y
  rw [trips_read arg11.view G C p h0
    (fun y a => a + Ideal.ofBits .f32 0x403504F3#32 *
      arg2.view.read (Elt Ideal) X (ix2 (n0 := 1024) (n1 := 512) (y 0) ⟨((y 1).val - C) % 512, Nat.mod_lt _ (by decide)⟩)) ?_ 16 le_rfl y]
  · unfold resid
    have hy : (y 0).val < 1024 := (y 0).isLt
    congr 1
    exact propext ⟨fun h => h.2, fun h => ⟨by omega, h⟩⟩
  · intro k hk
    obtain ⟨off, inb, offx, inbx, rfl, rfl, hp⟩ := hs k hk
    refine ⟨_, inb, _, rfl, hp, ?_⟩
    intro x y hxy
    have e0 : (y 0).val = 64 * k + (x 0).val := hxy 0
    have e1 : (y 1).val = C + (x 1).val := hxy 1
    have hx1 : (x 1).val < 512 := (x 1).isLt
    rw [hpay]
    congr 1
    · exact View.ld_unit_apply_of _ _ _ inb x y hxy
    · refine congrArg _ (View.ld_unit_apply_of _ _ _ inbx x _ fun a => ?_)
      match a with
      | ⟨0, _⟩ => exact e0
      | ⟨1, _⟩ =>
        show ((y 1).val - C) % 512 = 0 + (x 1).val
        rw [e1, Nat.add_sub_cancel_left, Nat.mod_eq_of_lt hx1, Nat.zero_add]

variable (𝒱 : Variants) (c : Dev nD) (bd : Option 𝒱.V) (i : grid0.Coords) (arg2 : Memref sig .tc .vmem S1024x512 .f32) (harg2 : arg2.IsWhole) (arg3 : Memref sig .tc .vmem S1024x4096 .bf16) (harg3 : arg3.IsWhole) (arg4 : Memref sig .tc .vmem S1x4096x256 .bf16) (harg4 : arg4.IsWhole) (arg5 : Memref sig .tc .vmem S1x4096x256 .bf16) (harg5 : arg5.IsWhole) (arg6 : Memref sig .tc .vmem S1x256x4096 .bf16) (harg6 : arg6.IsWhole) (arg7 : Memref sig .tc .vmem S1x1x4096 .f32) (harg7 : arg7.IsWhole) (arg8 : Memref sig .tc .vmem S1x1x4096 .f32) (harg8 : arg8.IsWhole) (arg9 : Memref sig .tc .vmem S128x4096 .f32) (harg9 : arg9.IsWhole) (arg10 : Memref sig .tc .vmem S128x4096 .bf16) (harg10 : arg10.IsWhole) (arg11 : Memref sig .tc .vmem S1024x4096 .f32) (harg11 : arg11.IsWhole)
  (X : BufTy.Contents (Elt Ideal) arg2.view.ty) (G : BufTy.Contents (Elt Ideal) arg11.view.ty)

theorem offs1 : ∀ k : Fin k0_t1_loop.trips, k0_off1 k = ![64 * k.val, 0] ∧ k0_off2 k = ![64 * k.val, 0] := by
  decide +kernel

/-- Loop 1 adds to the columns from 0 on. -/
theorem loop1 (h : k0_cond3 i = 1#1) :
    arg11.view.read (Elt Ideal) (arg11.view.writes (Elt Ideal) G
        (pb_k0_t1 (F := Ideal) 𝒱 c bd i arg2 harg2 arg3 harg3 arg4 harg4 arg5 harg5 arg6 harg6 arg7 harg7 arg8 harg8 arg9 harg9 arg10 harg10 arg11 harg11 h X G k0_t1_loop.trips))
      = resid 0 (arg2.view.read (Elt Ideal) X) (arg11.view.read (Elt Ideal) G) :=
  resid_read arg11 arg2 G X 0 (pb_k0_t1 (F := Ideal) 𝒱 c bd i arg2 harg2 arg3 harg3 arg4 harg4 arg5 harg5 arg6 harg6 arg7 harg7 arg8 harg8 arg9 harg9 arg10 harg10 arg11 harg11 h X G) rfl k0_pay28
    (fun a b x => by pointwise [k0_pay28])
    (fun k hk => ⟨_, _, _, _, (offs1 ⟨k, hk⟩).1, (offs1 ⟨k, hk⟩).2, (pb_k0_t1_succ 𝒱 c bd i arg2 harg2 arg3 harg3 arg4 harg4 arg5 harg5 arg6 harg6 arg7 harg7 arg8 harg8 arg9 harg9 arg10 harg10 arg11 harg11 h X G ⟨k, hk⟩).trans
      (by unfold tripL_k0_t1 trip_k0_t1; dsimp only; sl_unfold_words; rfl)⟩)

theorem offs2 : ∀ k : Fin k0_t2_loop.trips, k0_off3 k = ![64 * k.val, 512] ∧ k0_off4 k = ![64 * k.val, 0] := by
  decide +kernel

/-- Loop 2 adds to the columns from 512 on. -/
theorem loop2 (h : k0_cond4 i = 1#1) :
    arg11.view.read (Elt Ideal) (arg11.view.writes (Elt Ideal) G
        (pb_k0_t2 (F := Ideal) 𝒱 c bd i arg2 harg2 arg3 harg3 arg4 harg4 arg5 harg5 arg6 harg6 arg7 harg7 arg8 harg8 arg9 harg9 arg10 harg10 arg11 harg11 h X G k0_t2_loop.trips))
      = resid 512 (arg2.view.read (Elt Ideal) X) (arg11.view.read (Elt Ideal) G) :=
  resid_read arg11 arg2 G X 512 (pb_k0_t2 (F := Ideal) 𝒱 c bd i arg2 harg2 arg3 harg3 arg4 harg4 arg5 harg5 arg6 harg6 arg7 harg7 arg8 harg8 arg9 harg9 arg10 harg10 arg11 harg11 h X G) rfl k0_pay29
    (fun a b x => by pointwise [k0_pay29])
    (fun k hk => ⟨_, _, _, _, (offs2 ⟨k, hk⟩).1, (offs2 ⟨k, hk⟩).2, (pb_k0_t2_succ 𝒱 c bd i arg2 harg2 arg3 harg3 arg4 harg4 arg5 harg5 arg6 harg6 arg7 harg7 arg8 harg8 arg9 harg9 arg10 harg10 arg11 harg11 h X G ⟨k, hk⟩).trans
      (by unfold tripL_k0_t2 trip_k0_t2; dsimp only; sl_unfold_words; rfl)⟩)

theorem offs3 : ∀ k : Fin k0_t3_loop.trips, k0_off5 k = ![64 * k.val, 1024] ∧ k0_off6 k = ![64 * k.val, 0] := by
  decide +kernel

/-- Loop 3 adds to the columns from 1024 on. -/
theorem loop3 (h : k0_cond5 i = 1#1) :
    arg11.view.read (Elt Ideal) (arg11.view.writes (Elt Ideal) G
        (pb_k0_t3 (F := Ideal) 𝒱 c bd i arg2 harg2 arg3 harg3 arg4 harg4 arg5 harg5 arg6 harg6 arg7 harg7 arg8 harg8 arg9 harg9 arg10 harg10 arg11 harg11 h X G k0_t3_loop.trips))
      = resid 1024 (arg2.view.read (Elt Ideal) X) (arg11.view.read (Elt Ideal) G) :=
  resid_read arg11 arg2 G X 1024 (pb_k0_t3 (F := Ideal) 𝒱 c bd i arg2 harg2 arg3 harg3 arg4 harg4 arg5 harg5 arg6 harg6 arg7 harg7 arg8 harg8 arg9 harg9 arg10 harg10 arg11 harg11 h X G) rfl k0_pay30
    (fun a b x => by pointwise [k0_pay30])
    (fun k hk => ⟨_, _, _, _, (offs3 ⟨k, hk⟩).1, (offs3 ⟨k, hk⟩).2, (pb_k0_t3_succ 𝒱 c bd i arg2 harg2 arg3 harg3 arg4 harg4 arg5 harg5 arg6 harg6 arg7 harg7 arg8 harg8 arg9 harg9 arg10 harg10 arg11 harg11 h X G ⟨k, hk⟩).trans
      (by unfold tripL_k0_t3 trip_k0_t3; dsimp only; sl_unfold_words; rfl)⟩)

theorem offs4 : ∀ k : Fin k0_t4_loop.trips, k0_off7 k = ![64 * k.val, 1536] ∧ k0_off8 k = ![64 * k.val, 0] := by
  decide +kernel

/-- Loop 4 adds to the columns from 1536 on. -/
theorem loop4 (h : k0_cond6 i = 1#1) :
    arg11.view.read (Elt Ideal) (arg11.view.writes (Elt Ideal) G
        (pb_k0_t4 (F := Ideal) 𝒱 c bd i arg2 harg2 arg3 harg3 arg4 harg4 arg5 harg5 arg6 harg6 arg7 harg7 arg8 harg8 arg9 harg9 arg10 harg10 arg11 harg11 h X G k0_t4_loop.trips))
      = resid 1536 (arg2.view.read (Elt Ideal) X) (arg11.view.read (Elt Ideal) G) :=
  resid_read arg11 arg2 G X 1536 (pb_k0_t4 (F := Ideal) 𝒱 c bd i arg2 harg2 arg3 harg3 arg4 harg4 arg5 harg5 arg6 harg6 arg7 harg7 arg8 harg8 arg9 harg9 arg10 harg10 arg11 harg11 h X G) rfl k0_pay31
    (fun a b x => by pointwise [k0_pay31])
    (fun k hk => ⟨_, _, _, _, (offs4 ⟨k, hk⟩).1, (offs4 ⟨k, hk⟩).2, (pb_k0_t4_succ 𝒱 c bd i arg2 harg2 arg3 harg3 arg4 harg4 arg5 harg5 arg6 harg6 arg7 harg7 arg8 harg8 arg9 harg9 arg10 harg10 arg11 harg11 h X G ⟨k, hk⟩).trans
      (by unfold tripL_k0_t4 trip_k0_t4; dsimp only; sl_unfold_words; rfl)⟩)

theorem offs5 : ∀ k : Fin k0_t5_loop.trips, k0_off9 k = ![64 * k.val, 2048] ∧ k0_off10 k = ![64 * k.val, 0] := by
  decide +kernel

/-- Loop 5 adds to the columns from 2048 on. -/
theorem loop5 (h : k0_cond7 i = 1#1) :
    arg11.view.read (Elt Ideal) (arg11.view.writes (Elt Ideal) G
        (pb_k0_t5 (F := Ideal) 𝒱 c bd i arg2 harg2 arg3 harg3 arg4 harg4 arg5 harg5 arg6 harg6 arg7 harg7 arg8 harg8 arg9 harg9 arg10 harg10 arg11 harg11 h X G k0_t5_loop.trips))
      = resid 2048 (arg2.view.read (Elt Ideal) X) (arg11.view.read (Elt Ideal) G) :=
  resid_read arg11 arg2 G X 2048 (pb_k0_t5 (F := Ideal) 𝒱 c bd i arg2 harg2 arg3 harg3 arg4 harg4 arg5 harg5 arg6 harg6 arg7 harg7 arg8 harg8 arg9 harg9 arg10 harg10 arg11 harg11 h X G) rfl k0_pay32
    (fun a b x => by pointwise [k0_pay32])
    (fun k hk => ⟨_, _, _, _, (offs5 ⟨k, hk⟩).1, (offs5 ⟨k, hk⟩).2, (pb_k0_t5_succ 𝒱 c bd i arg2 harg2 arg3 harg3 arg4 harg4 arg5 harg5 arg6 harg6 arg7 harg7 arg8 harg8 arg9 harg9 arg10 harg10 arg11 harg11 h X G ⟨k, hk⟩).trans
      (by unfold tripL_k0_t5 trip_k0_t5; dsimp only; sl_unfold_words; rfl)⟩)

theorem offs6 : ∀ k : Fin k0_t6_loop.trips, k0_off11 k = ![64 * k.val, 2560] ∧ k0_off12 k = ![64 * k.val, 0] := by
  decide +kernel

/-- Loop 6 adds to the columns from 2560 on. -/
theorem loop6 (h : k0_cond8 i = 1#1) :
    arg11.view.read (Elt Ideal) (arg11.view.writes (Elt Ideal) G
        (pb_k0_t6 (F := Ideal) 𝒱 c bd i arg2 harg2 arg3 harg3 arg4 harg4 arg5 harg5 arg6 harg6 arg7 harg7 arg8 harg8 arg9 harg9 arg10 harg10 arg11 harg11 h X G k0_t6_loop.trips))
      = resid 2560 (arg2.view.read (Elt Ideal) X) (arg11.view.read (Elt Ideal) G) :=
  resid_read arg11 arg2 G X 2560 (pb_k0_t6 (F := Ideal) 𝒱 c bd i arg2 harg2 arg3 harg3 arg4 harg4 arg5 harg5 arg6 harg6 arg7 harg7 arg8 harg8 arg9 harg9 arg10 harg10 arg11 harg11 h X G) rfl k0_pay33
    (fun a b x => by pointwise [k0_pay33])
    (fun k hk => ⟨_, _, _, _, (offs6 ⟨k, hk⟩).1, (offs6 ⟨k, hk⟩).2, (pb_k0_t6_succ 𝒱 c bd i arg2 harg2 arg3 harg3 arg4 harg4 arg5 harg5 arg6 harg6 arg7 harg7 arg8 harg8 arg9 harg9 arg10 harg10 arg11 harg11 h X G ⟨k, hk⟩).trans
      (by unfold tripL_k0_t6 trip_k0_t6; dsimp only; sl_unfold_words; rfl)⟩)

theorem offs7 : ∀ k : Fin k0_t7_loop.trips, k0_off13 k = ![64 * k.val, 3072] ∧ k0_off14 k = ![64 * k.val, 0] := by
  decide +kernel

/-- Loop 7 adds to the columns from 3072 on. -/
theorem loop7 (h : k0_cond9 i = 1#1) :
    arg11.view.read (Elt Ideal) (arg11.view.writes (Elt Ideal) G
        (pb_k0_t7 (F := Ideal) 𝒱 c bd i arg2 harg2 arg3 harg3 arg4 harg4 arg5 harg5 arg6 harg6 arg7 harg7 arg8 harg8 arg9 harg9 arg10 harg10 arg11 harg11 h X G k0_t7_loop.trips))
      = resid 3072 (arg2.view.read (Elt Ideal) X) (arg11.view.read (Elt Ideal) G) :=
  resid_read arg11 arg2 G X 3072 (pb_k0_t7 (F := Ideal) 𝒱 c bd i arg2 harg2 arg3 harg3 arg4 harg4 arg5 harg5 arg6 harg6 arg7 harg7 arg8 harg8 arg9 harg9 arg10 harg10 arg11 harg11 h X G) rfl k0_pay34
    (fun a b x => by pointwise [k0_pay34])
    (fun k hk => ⟨_, _, _, _, (offs7 ⟨k, hk⟩).1, (offs7 ⟨k, hk⟩).2, (pb_k0_t7_succ 𝒱 c bd i arg2 harg2 arg3 harg3 arg4 harg4 arg5 harg5 arg6 harg6 arg7 harg7 arg8 harg8 arg9 harg9 arg10 harg10 arg11 harg11 h X G ⟨k, hk⟩).trans
      (by unfold tripL_k0_t7 trip_k0_t7; dsimp only; sl_unfold_words; rfl)⟩)

theorem offs8 : ∀ k : Fin k0_t8_loop.trips, k0_off15 k = ![64 * k.val, 3584] ∧ k0_off16 k = ![64 * k.val, 0] := by
  decide +kernel

/-- Loop 8 adds to the columns from 3584 on. -/
theorem loop8 (h : k0_cond10 i = 1#1) :
    arg11.view.read (Elt Ideal) (arg11.view.writes (Elt Ideal) G
        (pb_k0_t8 (F := Ideal) 𝒱 c bd i arg2 harg2 arg3 harg3 arg4 harg4 arg5 harg5 arg6 harg6 arg7 harg7 arg8 harg8 arg9 harg9 arg10 harg10 arg11 harg11 h X G k0_t8_loop.trips))
      = resid 3584 (arg2.view.read (Elt Ideal) X) (arg11.view.read (Elt Ideal) G) :=
  resid_read arg11 arg2 G X 3584 (pb_k0_t8 (F := Ideal) 𝒱 c bd i arg2 harg2 arg3 harg3 arg4 harg4 arg5 harg5 arg6 harg6 arg7 harg7 arg8 harg8 arg9 harg9 arg10 harg10 arg11 harg11 h X G) rfl k0_pay1
    (fun a b x => by pointwise [k0_pay1])
    (fun k hk => ⟨_, _, _, _, (offs8 ⟨k, hk⟩).1, (offs8 ⟨k, hk⟩).2, (pb_k0_t8_succ 𝒱 c bd i arg2 harg2 arg3 harg3 arg4 harg4 arg5 harg5 arg6 harg6 arg7 harg7 arg8 harg8 arg9 harg9 arg10 harg10 arg11 harg11 h X G ⟨k, hk⟩).trans
      (by unfold tripL_k0_t8 trip_k0_t8; dsimp only; sl_unfold_words; rfl)⟩)

end FfnSampleVal
-- ==== Proof.FfnSampleSteps.lean ====
module
public import proofs.«01_k».proof.Proof.Gen.FfnSampleIdeal.Frame
public import proofs.«01_k».proof.Proof.FfnSampleLoops

/-! What the feed-forward kernel leaves in its accumulator at a point of each kind: the block of the
hidden width added to what was there, and in the first eight points of a row block `2α·x` added to
one band of columns. -/

@[expose] public section
set_option maxRecDepth 16384
noncomputable section
open Idealize.ShloMosaic Idealize.ShloMosaic.TcCoe Idealize.ShloMosaic.Tactic
open Cert.FfnSampleIdeal Cert.FfnSampleIdeal.Gen
namespace FfnSampleVal

theorem hz : (![0, 0] : Fin 2 → Nat) = fun _ => 0 := funext fun a => by fin_cases a <;> rfl
theorem hz3 : (![0, 0, 0] : Fin 3 → Nat) = fun _ => 0 := funext fun a => by fin_cases a <;> rfl

/-- Pieces of a loop over one whole store: read anywhere, they are what the loop makes of the stored
    block. -/
theorem read_loop_over {κ : Kind} {sp : Space} (v : View sig κ sp S1024x4096 .f32)
    (p L : List (View.Piece (Elt Ideal) S1024x4096 .f32)) (w : Vec Ideal S1024x4096 .f32)
    (hL : View.canon L = w) (C : ℕ) (u : Vec Ideal S1024x512 .f32)
    (h : v.read (Elt Ideal) (v.writes (Elt Ideal) (v.writes (Elt Ideal) v.junk L) p)
      = resid C u (v.read (Elt Ideal) (v.writes (Elt Ideal) v.junk L))) :
    VS0_0.read (Elt Ideal) (VS0_0.writes (Elt Ideal) VS0_0.junk (p ++ L)) = resid C u w := by
  rw [View.read_writes_junk_eq_canon, ← View.read_writes_junk_eq_canon v, View.writes_append, h,
    View.read_writes_junk_eq_canon, hL]

variable (c : Dev nD) (i : grid0.Coords) (arg2 : Memref sig .tc .vmem S1024x512 .f32) (harg2 : arg2.IsWhole) (arg3 : Memref sig .tc .vmem S1024x4096 .bf16) (harg3 : arg3.IsWhole) (arg4 : Memref sig .tc .vmem S1x4096x256 .bf16) (harg4 : arg4.IsWhole) (arg5 : Memref sig .tc .vmem S1x4096x256 .bf16) (harg5 : arg5.IsWhole) (arg6 : Memref sig .tc .vmem S1x256x4096 .bf16) (harg6 : arg6.IsWhole) (arg7 : Memref sig .tc .vmem S1x1x4096 .f32) (harg7 : arg7.IsWhole) (arg8 : Memref sig .tc .vmem S1x1x4096 .f32) (harg8 : arg8.IsWhole) (arg9 : Memref sig .tc .vmem S128x4096 .f32) (harg9 : arg9.IsWhole) (arg10 : Memref sig .tc .vmem S128x4096 .bf16) (harg10 : arg10.IsWhole) (arg11 : Memref sig .tc .vmem S1024x4096 .f32) (harg11 : arg11.IsWhole)
  (x0 : Vec Ideal S1024x512 .f32) (x1 : Vec Ideal S1024x4096 .bf16) (x2 : Vec Ideal S1x4096x256 .bf16) (x3 : Vec Ideal S1x4096x256 .bf16) (x4 : Vec Ideal S1x256x4096 .bf16) (x5 : Vec Ideal S1x1x4096 .f32) (x6 : Vec Ideal S1x1x4096 .f32) (xs0 : Vec Ideal S1024x4096 .f32)

theorem sout_A (hc0 : cond0_0 i) (hc1 : cond0_1 i) (hc2 : cond0_2 i) (hc3 : ¬cond0_3 i) (hc4 : ¬cond0_4 i) (hc5 : ¬cond0_5 i) (hc6 : ¬cond0_6 i) (hc7 : ¬cond0_7 i) (hc8 : ¬cond0_8 i) (hc9 : ¬cond0_9 i) (hc10 : ¬cond0_10 i) :
    sout0_A_0 (F := Ideal) c i arg2 harg2 arg3 harg3 arg4 harg4 arg5 harg5 arg6 harg6 arg7 harg7 arg8 harg8 arg9 harg9 arg10 harg10 arg11 harg11 hc0 hc1 hc2 hc3 hc4 hc5 hc6 hc7 hc8 hc9 hc10 x0 x1 x2 x3 x4 x5 x6
      = resid 0 x0 (k0_pay27 x1 x2 x3 (k0_pay26 (F := Ideal)) x4) := by
  unfold sout0_A_0 kernelRun0_A
  dsimp only
  sl_unfold_words
  refine read_loop_over arg11.view _ _ _ ?_ 0 x0 ((loop1 Variants.none c none i arg2 harg2 arg3 harg3 arg4 harg4 arg5 harg5 arg6 harg6 arg7 harg7 arg8 harg8 arg9 harg9 arg10 harg10 arg11 harg11 _ _ _).trans ?_)
  · rw [View.canon_cons_unit_zero hz]
    simp only [View.readAt_eq_ld, View.readCov_unit_zero (S := S1024x4096) _ hz, harg2.read_unread, harg3.read_unread, harg4.read_unread, harg5.read_unread, harg6.read_unread, harg11.read_unread, View.ld_unit_zero (S := S1024x4096) hz, View.ld_unit_zero (S := S1x4096x256) hz3, View.ld_unit_zero (S := S1x256x4096) hz3]
  · rw [harg2.read_unread]

theorem sout_B (hc0 : ¬cond0_0 i) (hc1 : cond0_1 i) (hc2 : ¬cond0_2 i) (hc3 : cond0_3 i) (hc4 : ¬cond0_4 i) (hc5 : ¬cond0_5 i) (hc6 : ¬cond0_6 i) (hc7 : ¬cond0_7 i) (hc8 : ¬cond0_8 i) (hc9 : ¬cond0_9 i) (hc10 : ¬cond0_10 i) :
    sout0_B_0 (F := Ideal) c i arg2 harg2 arg3 harg3 arg4 harg4 arg5 harg5 arg6 harg6 arg7 harg7 arg8 harg8 arg9 harg9 arg10 harg10 arg11 harg11 hc0 hc1 hc2 hc3 hc4 hc5 hc6 hc7 hc8 hc9 hc10 x0 x1 x2 x3 x4 x5 x6 xs0
      = resid 512 x0 (k0_pay27 x1 x2 x3 xs0 x4) := by
  unfold sout0_B_0 kernelRun0_B
  dsimp only
  sl_unfold_words
  refine read_loop_over arg11.view _ _ _ ?_ 512 x0 ((loop2 Variants.none c none i arg2 harg2 arg3 harg3 arg4 harg4 arg5 harg5 arg6 harg6 arg7 harg7 arg8 harg8 arg9 harg9 arg10 harg10 arg11 harg11 _ _ _).trans ?_)
  · rw [View.canon_cons_unit_zero hz]
    simp only [View.readAt_eq_ld, View.readCov_unit_zero (S := S1024x4096) _ hz, harg2.read_unread, harg3.read_unread, harg4.read_unread, harg5.read_unread, harg6.read_unread, harg11.read_unread, View.ld_unit_zero (S := S1024x4096) hz, View.ld_unit_zero (S := S1x4096x256) hz3, View.ld_unit_zero (S := S1x256x4096) hz3]
  · rw [harg2.read_unread]

theorem sout_C (hc0 : ¬cond0_0 i) (hc1 : cond0_1 i) (hc2 : ¬cond0_2 i) (hc3 : ¬cond0_3 i) (hc4 : cond0_4 i) (hc5 : ¬cond0_5 i) (hc6 : ¬cond0_6 i) (hc7 : ¬cond0_7 i) (hc8 : ¬cond0_8 i) (hc9 : ¬cond0_9 i) (hc10 : ¬cond0_10 i) :
    sout0_C_0 (F := Ideal) c i arg2 harg2 arg3 harg3 arg4 harg4 arg5 harg5 arg6 harg6 arg7 harg7 arg8 harg8 arg9 harg9 arg10 harg10 arg11 harg11 hc0 hc1 hc2 hc3 hc4 hc5 hc6 hc7 hc8 hc9 hc10 x0 x1 x2 x3 x4 x5 x6 xs0
      = resid 1024 x0 (k0_pay27 x1 x2 x3 xs0 x4) := by
  unfold sout0_C_0 kernelRun0_C
  dsimp only
  sl_unfold_words
  refine read_loop_over arg11.view _ _ _ ?_ 1024 x0 ((loop3 Variants.none c none i arg2 harg2 arg3 harg3 arg4 harg4 arg5 harg5 arg6 harg6 arg7 harg7 arg8 harg8 arg9 harg9 arg10 harg10 arg11 harg11 _ _ _).trans ?_)
  · rw [View.canon_cons_unit_zero hz]
    simp only [View.readAt_eq_ld, View.readCov_unit_zero (S := S1024x4096) _ hz, harg2.read_unread, harg3.read_unread, harg4.read_unread, harg5.read_unread, harg6.read_unread, harg11.read_unread, View.ld_unit_zero (S := S1024x4096) hz, View.ld_unit_zero (S := S1x4096x256) hz3, View.ld_unit_zero (S := S1x256x4096) hz3]
  · rw [harg2.read_unread]

theorem sout_D (hc0 : ¬cond0_0 i) (hc1 : cond0_1 i) (hc2 : ¬cond0_2 i) (hc3 : ¬cond0_3 i) (hc4 : ¬cond0_4 i) (hc5 : cond0_5 i) (hc6 : ¬cond0_6 i) (hc7 : ¬cond0_7 i) (hc8 : ¬cond0_8 i) (hc9 : ¬cond0_9 i) (hc10 : ¬cond0_10 i) :
    sout0_D_0 (F := Ideal) c i arg2 harg2 arg3 harg3 arg4 harg4 arg5 harg5 arg6 harg6 arg7 harg7 arg8 harg8 arg9 harg9 arg10 harg10 arg11 harg11 hc0 hc1 hc2 hc3 hc4 hc5 hc6 hc7 hc8 hc9 hc10 x0 x1 x2 x3 x4 x5 x6 xs0
      = resid 1536 x0 (k0_pay27 x1 x2 x3 xs0 x4) := by
  unfold sout0_D_0 kernelRun0_D
  dsimp only
  sl_unfold_words
  refine read_loop_over arg11.view _ _ _ ?_ 1536 x0 ((loop4 Variants.none c none i arg2 harg2 arg3 harg3 arg4 harg4 arg5 harg5 arg6 harg6 arg7 harg7 arg8 harg8 arg9 harg9 arg10 harg10 arg11 harg11 _ _ _).trans ?_)
  · rw [View.canon_cons_unit_zero hz]
    simp only [View.readAt_eq_ld, View.readCov_unit_zero (S := S1024x4096) _ hz, harg2.read_unread, harg3.read_unread, harg4.read_unread, harg5.read_unread, harg6.read_unread, harg11.read_unread, View.ld_unit_zero (S := S1024x4096) hz, View.ld_unit_zero (S := S1x4096x256) hz3, View.ld_unit_zero (S := S1x256x4096) hz3]
  · rw [harg2.read_unread]

theorem sout_E (hc0 : ¬cond0_0 i) (hc1 : cond0_1 i) (hc2 : ¬cond0_2 i) (hc3 : ¬cond0_3 i) (hc4 : ¬cond0_4 i) (hc5 : ¬cond0_5 i) (hc6 : cond0_6 i) (hc7 : ¬cond0_7 i) (hc8 : ¬cond0_8 i) (hc9 : ¬cond0_9 i) (hc10 : ¬cond0_10 i) :
    sout0_E_0 (F := Ideal) c i arg2 harg2 arg3 harg3 arg4 harg4 arg5 harg5 arg6 harg6 arg7 harg7 arg8 harg8 arg9 harg9 arg10 harg10 arg11 harg11 hc0 hc1 hc2 hc3 hc4 hc5 hc6 hc7 hc8 hc9 hc10 x0 x1 x2 x3 x4 x5 x6 xs0
      = resid 2048 x0 (k0_pay27 x1 x2 x3 xs0 x4) := by
  unfold sout0_E_0 kernelRun0_E
  dsimp only
  sl_unfold_words
  refine read_loop_over arg11.view _ _ _ ?_ 2048 x0 ((loop5 Variants.none c none i arg2 harg2 arg3 harg3 arg4 harg4 arg5 harg5 arg6 harg6 arg7 harg7 arg8 harg8 arg9 harg9 arg10 harg10 arg11 harg11 _ _ _).trans ?_)
  · rw [View.canon_cons_unit_zero hz]
    simp only [View.readAt_eq_ld, View.readCov_unit_zero (S := S1024x4096) _ hz, harg2.read_unread, harg3.read_unread, harg4.read_unread, harg5.read_unread, harg6.read_unread, harg11.read_unread, View.ld_unit_zero (S := S1024x4096) hz, View.ld_unit_zero (S := S1x4096x256) hz3, View.ld_unit_zero (S := S1x256x4096) hz3]
  · rw [harg2.read_unread]

theorem sout_F (hc0 : ¬cond0_0 i) (hc1 : cond0_1 i) (hc2 : ¬cond0_2 i) (hc3 : ¬cond0_3 i) (hc4 : ¬cond0_4 i) (hc5 : ¬cond0_5 i) (hc6 : ¬cond0_6 i) (hc7 : cond0_7 i) (hc8 : ¬cond0_8 i) (hc9 : ¬cond0_9 i) (hc10 : ¬cond0_10 i) :
    sout0_F_0 (F := Ideal) c i arg2 harg2 arg3 harg3 arg4 harg4 arg5 harg5 arg6 harg6 arg7 harg7 arg8 harg8 arg9 harg9 arg10 harg10 arg11 harg11 hc0 hc1 hc2 hc3 hc4 hc5 hc6 hc7 hc8 hc9 hc10 x0 x1 x2 x3 x4 x5 x6 xs0
      = resid 2560 x0 (k0_pay27 x1 x2 x3 xs0 x4) := by
  unfold sout0_F_0 kernelRun0_F
  dsimp only
  sl_unfold_words
  refine read_loop_over arg11.view _ _ _ ?_ 2560 x0 ((loop6 Variants.none c none i arg2 harg2 arg3 harg3 arg4 harg4 arg5 harg5 arg6 harg6 arg7 harg7 arg8 harg8 arg9 harg9 arg10 harg10 arg11 harg11 _ _ _).trans ?_)
  · rw [View.canon_cons_unit_zero hz]
    simp only [View.readAt_eq_ld, View.readCov_unit_zero (S := S1024x4096) _ hz, harg2.read_unread, harg3.read_unread, harg4.read_unread, harg5.read_unread, harg6.read_unread, harg11.read_unread, View.ld_unit_zero (S := S1024x4096) hz, View.ld_unit_zero (S := S1x4096x256) hz3, View.ld_unit_zero (S := S1x256x4096) hz3]
  · rw [harg2.read_unread]

theorem sout_G (hc0 : ¬cond0_0 i) (hc1 : cond0_1 i) (hc2 : ¬cond0_2 i) (hc3 : ¬cond0_3 i) (hc4 : ¬cond0_4 i) (hc5 : ¬cond0_5 i) (hc6 : ¬cond0_6 i) (hc7 : ¬cond0_7 i) (hc8 : cond0_8 i) (hc9 : ¬cond0_9 i) (hc10 : ¬cond0_10 i) :
    sout0_G_0 (F := Ideal) c i arg2 harg2 arg3 harg3 arg4 harg4 arg5 harg5 arg6 harg6 arg7 harg7 arg8 harg8 arg9 harg9 arg10 harg10 arg11 harg11 hc0 hc1 hc2 hc3 hc4 hc5 hc6 hc7 hc8 hc9 hc10 x0 x1 x2 x3 x4 x5 x6 xs0
      = resid 3072 x0 (k0_pay27 x1 x2 x3 xs0 x4) := by
  unfold sout0_G_0 kernelRun0_G
  dsimp only
  sl_unfold_words
  refine read_loop_over arg11.view _ _ _ ?_ 3072 x0 ((loop7 Variants.none c none i arg2 harg2 arg3 harg3 arg4 harg4 arg5 harg5 arg6 harg6 arg7 harg7 arg8 harg8 arg9 harg9 arg10 harg10 arg11 harg11 _ _ _).trans ?_)
  · rw [View.canon_cons_unit_zero hz]
    simp only [View.readAt_eq_ld, View.readCov_unit_zero (S := S1024x4096) _ hz, harg2.read_unread, harg3.read_unread, harg4.read_unread, harg5.read_unread, harg6.read_unread, harg11.read_unread, View.ld_unit_zero (S := S1024x4096) hz, View.ld_unit_zero (S := S1x4096x256) hz3, View.ld_unit_zero (S := S1x256x4096) hz3]
  · rw [harg2.read_unread]

theorem sout_H (hc0 : ¬cond0_0 i) (hc1 : cond0_1 i) (hc2 : ¬cond0_2 i) (hc3 : ¬cond0_3 i) (hc4 : ¬cond0_4 i) (hc5 : ¬cond0_5 i) (hc6 : ¬cond0_6 i) (hc7 : ¬cond0_7 i) (hc8 : ¬cond0_8 i) (hc9 : cond0_9 i) (hc10 : ¬cond0_10 i) :
    sout0_H_0 (F := Ideal) c i arg2 harg2 arg3 harg3 arg4 harg4 arg5 harg5 arg6 harg6 arg7 harg7 arg8 harg8 arg9 harg9 arg10 harg10 arg11 harg11 hc0 hc1 hc2 hc3 hc4 hc5 hc6 hc7 hc8 hc9 hc10 x0 x1 x2 x3 x4 x5 x6 xs0
      = resid 3584 x0 (k0_pay27 x1 x2 x3 xs0 x4) := by
  unfold sout0_H_0 kernelRun0_H
  dsimp only
  sl_unfold_words
  refine read_loop_over arg11.view _ _ _ ?_ 3584 x0 ((loop8 Variants.none c none i arg2 harg2 arg3 harg3 arg4 harg4 arg5 harg5 arg6 harg6 arg7 harg7 arg8 harg8 arg9 harg9 arg10 harg10 arg11 harg11 _ _ _).trans ?_)
  · rw [View.canon_cons_unit_zero hz]
    simp only [View.readAt_eq_ld, View.readCov_unit_zero (S := S1024x4096) _ hz, harg2.read_unread, harg3.read_unread, harg4.read_unread, harg5.read_unread, harg6.read_unread, harg11.read_unread, View.ld_unit_zero (S := S1024x4096) hz, View.ld_unit_zero (S := S1x4096x256) hz3, View.ld_unit_zero (S := S1x256x4096) hz3]
  · rw [harg2.read_unread]

theorem sout_I (hc0 : ¬cond0_0 i) (hc1 : cond0_1 i) (hc2 : ¬cond0_2 i) (hc3 : ¬cond0_3 i) (hc4 : ¬cond0_4 i) (hc5 : ¬cond0_5 i) (hc6 : ¬cond0_6 i) (hc7 : ¬cond0_7 i) (hc8 : ¬cond0_8 i) (hc9 : ¬cond0_9 i) (hc10 : ¬cond0_10 i) :
    sout0_I_0 (F := Ideal) c i arg2 harg2 arg3 harg3 arg4 harg4 arg5 harg5 arg6 harg6 arg7 harg7 arg8 harg8 arg9 harg9 arg10 harg10 arg11 harg11 hc0 hc1 hc2 hc3 hc4 hc5 hc6 hc7 hc8 hc9 hc10 x0 x1 x2 x3 x4 x5 x6 xs0
      = (k0_pay27 x1 x2 x3 xs0 x4) := by
  unfold sout0_I_0 kernelRun0_I
  dsimp only
  sl_unfold_words
  rw [View.read_writes_junk_eq_canon, View.canon_unit_zero hz]
  simp only [View.readAt_eq_ld, View.readCov_unit_zero (S := S1024x4096) _ hz, harg2.read_unread, harg3.read_unread, harg4.read_unread, harg5.read_unread, harg6.read_unread, harg11.read_unread, View.ld_unit_zero (S := S1024x4096) hz, View.ld_unit_zero (S := S1x4096x256) hz3, View.ld_unit_zero (S := S1x256x4096) hz3]

end FfnSampleVal
-- ==== Proof.FfnSampleLn.lean ====
module
public import proofs.«01_k».proof.Proof.Gen.FfnSampleIdeal.Frame
public import proofs.«01_k».proof.Proof.FfnSampleSteps
public import proofs.«01_k».proof.Proof.FfnSampleMath

/-! The last eight points of a row block: each normalises 128 rows of the accumulator, 16 rows at a
time, and stores them in both outputs' blocks. -/

@[expose] public section
set_option maxRecDepth 16384
noncomputable section
open Idealize.ShloMosaic Idealize.ShloMosaic.TcCoe Idealize.ShloMosaic.Tactic
open Cert.FfnSampleIdeal Cert.FfnSampleIdeal.Gen
namespace FfnSampleVal

/-- A block of rows normalised: each row of `a` is halved first. -/
def lnPiece (g b : Vec Ideal S1x1x4096 .f32) (a : Vec Ideal S16x4096 .f32) : S16x4096.Idx → EReal :=
  fun x => lnRow (fun k => Ideal.ofBits .f32 0x3F000000#32 * a (ix2 (n0 := 16) (n1 := 4096) (x 0) k))
    (fun k => g (ix3 0 0 k)) (fun k => b (ix3 0 0 k)) (x 1)

/-- The 128 rows normalised at the `s`-th of the last eight points. -/
def lnBlock (s : ℕ) (g b : Vec Ideal S1x1x4096 .f32) (a : Vec Ideal S1024x4096 .f32) : S128x4096.Idx → EReal :=
  fun y => lnRow (fun k => Ideal.ofBits .f32 0x3F000000#32 *
      a (ix2 (n0 := 1024) (n1 := 4096) ⟨(128 * s + (y 0).val) % 1024, Nat.mod_lt _ (by decide)⟩ k))
    (fun k => g (ix3 0 0 k)) (fun k => b (ix3 0 0 k)) (y 1)

theorem off17_word : ∀ (j : Fin 51) (p : Fin 8), 43 ≤ j.val →
    (Scalar.indexCast (Scalar.addi (Scalar.muli (Scalar.subi (BitVec.ofNat 32 j.val) 43#32) 128#32)
      (Scalar.muli (BitVec.ofNat 32 p.val) 16#32)) : Index).toNat = 128 * (j.val - 43) + 16 * p.val := by
  decide +kernel

/-- The rows the `p`-th piece of a normalising point reads. -/
theorem off17 (i : grid0.Coords) (h : 43 ≤ (i 1).val) (p : Fin 8) :
    k0_off17 i (BitVec.ofNat 32 p.val) = ![128 * ((i 1).val - 43) + 16 * p.val, 0] := by
  show ![(Scalar.indexCast (Scalar.addi (Scalar.muli (Scalar.subi (BitVec.ofNat 32 (i 1).val) 43#32) 128#32)
      (Scalar.muli (BitVec.ofNat 32 p.val) 16#32)) : Index).toNat, 0] = _
  rw [off17_word (i 1) p h]

theorem inb16 : ∀ (p : Fin 8) (a : Fin 2), (![16 * p.val, 0] : Fin 2 → ℕ) a + S16x4096.size a ≤ S128x4096.size a := by
  decide

/-- One piece of a normalising point: its payload is the normalised block at the piece's rows. -/
theorem piece (pay : Vec Ideal S1x1x4096 .f32 → Vec Ideal S1x1x4096 .f32 → Vec Ideal S16x4096 .f32 → S16x4096.Idx → EReal)
    (hpay : ∀ g b a, pay g b a = lnPiece g b a)
    (arg7 : Memref sig .tc .vmem S1x1x4096 .f32) (harg7 : arg7.IsWhole)
    (arg8 : Memref sig .tc .vmem S1x1x4096 .f32) (harg8 : arg8.IsWhole)
    (arg11 : Memref sig .tc .vmem S1024x4096 .f32) (harg11 : arg11.IsWhole)
    (x5 x6 : Vec Ideal S1x1x4096 .f32) (xs0 : Vec Ideal S1024x4096 .f32)
    (s : ℕ) (hs : s < 8) (p : Fin 8) (off : Fin 2 → ℕ) (hoff : off = ![128 * s + 16 * p.val, 0])
    (inb7 inb8 inb)
    (x : S16x4096.Idx) :
    pay (arg7.view.readAt (Elt Ideal) (Rect.unit (s := S1x1x4096) ![0, 0, 0] S1x1x4096.size inb7).toLoadRect (harg7.unread x5))
      (arg8.view.readAt (Elt Ideal) (Rect.unit (s := S1x1x4096) ![0, 0, 0] S1x1x4096.size inb8).toLoadRect (harg8.unread x6))
      (arg11.view.readAt (Elt Ideal) (Rect.unit (s := S1024x4096) off S16x4096.size inb).toLoadRect (harg11.unread xs0)) x
    = lnBlock s x5 x6 xs0 ((Rect.unit (s := S128x4096) ![16 * p.val, 0] S16x4096.size (inb16 p)).emb x) := by
  subst hoff
  rw [hpay, View.readAt_eq_ld, View.readAt_eq_ld, View.readAt_eq_ld, harg7.read_unread, harg8.read_unread,
    harg11.read_unread, View.ld_unit_zero (S := S1x1x4096) hz3, View.ld_unit_zero (S := S1x1x4096) hz3]
  have hp := p.isLt
  have hx0 : (x 0).val < 16 := (x 0).isLt
  unfold lnPiece lnBlock
  have e1 : ((Rect.unit (s := S128x4096) ![16 * p.val, 0] S16x4096.size (inb16 p)).emb x) 1 = x 1 := by
    apply Fin.ext
    show 0 + 1 * (x 1).val = (x 1).val
    omega
  have e0 : (((Rect.unit (s := S128x4096) ![16 * p.val, 0] S16x4096.size (inb16 p)).emb x) 0).val = 16 * p.val + (x 0).val := by
    show 16 * p.val + 1 * (x 0).val = _
    omega
  rw [e1]
  congr 1
  funext k
  congr 1
  refine View.ld_unit_apply_of _ _ _ inb _ _ fun a => ?_
  match a with
  | ⟨0, _⟩ =>
    show (128 * s + _) % 1024 = 128 * s + 16 * p.val + (x 0).val
    rw [e0, Nat.mod_eq_of_lt (by omega)]; omega
  | ⟨1, _⟩ => show k.val = 0 + k.val; omega

variable (g b : Vec Ideal S1x1x4096 .f32) (a : Vec Ideal S16x4096 .f32)

/-- The first piece's arithmetic, for either output. -/
theorem pay_0 : k0_pay6 g b a = lnPiece g b a ∧ k0_pay7 g b a = lnPiece g b a := by
  constructor <;> (funext x; idx_vars x; unfold lnPiece lnRow; pointwise! [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25])

/-- The second piece's arithmetic, for either output. -/
theorem pay_1 : k0_pay8 (k0_pay4 g) (k0_pay5 b) a = lnPiece g b a ∧ k0_pay9 (k0_pay4 g) (k0_pay5 b) a = lnPiece g b a := by
  constructor <;> (funext x; idx_vars x; unfold lnPiece lnRow; pointwise! [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25])

/-- The third piece's arithmetic, for either output. -/
theorem pay_2 : k0_pay12 (k0_pay4 g) (k0_pay5 b) (k0_pay10 a) (k0_pay11 a) = lnPiece g b a ∧ k0_pay13 (k0_pay4 g) (k0_pay5 b) (k0_pay10 a) (k0_pay11 a) = lnPiece g b a := by
  constructor <;> (funext x; idx_vars x; unfold lnPiece lnRow; pointwise! [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25])

/-- The fourth piece's arithmetic, for either output. -/
theorem pay_3 : k0_pay16 (k0_pay4 g) (k0_pay5 b) (k0_pay14 a) (k0_pay15 a) (Scalar.ofBits .f32 0x3727C5AC#32) = lnPiece g b a ∧ k0_pay17 (k0_pay4 g) (k0_pay5 b) (k0_pay14 a) (k0_pay15 a) (Scalar.ofBits .f32 0x3727C5AC#32) = lnPiece g b a := by
  constructor <;> (funext x; idx_vars x; unfold lnPiece lnRow; pointwise! [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25])

/-- The fifth piece's arithmetic, for either output. -/
theorem pay_4 : k0_pay18 (k0_pay4 g) (k0_pay5 b) a = lnPiece g b a ∧ k0_pay19 (k0_pay4 g) (k0_pay5 b) a = lnPiece g b a := by
  constructor <;> (funext x; idx_vars x; unfold lnPiece lnRow; pointwise! [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25])

/-- The sixth piece's arithmetic, for either output. -/
theorem pay_5 : k0_pay20 (k0_pay4 g) (k0_pay5 b) a = lnPiece g b a ∧ k0_pay21 (k0_pay4 g) (k0_pay5 b) a = lnPiece g b a := by
  constructor <;> (funext x; idx_vars x; unfold lnPiece lnRow; pointwise! [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25])

/-- The seventh piece's arithmetic, for either output. -/
theorem pay_6 : k0_pay22 (k0_pay4 g) (k0_pay5 b) a (Scalar.ofBits .f32 0x3F000000#32) = lnPiece g b a ∧ k0_pay23 (k0_pay4 g) (k0_pay5 b) a (Scalar.ofBits .f32 0x3F000000#32) = lnPiece g b a := by
  constructor <;> (funext x; idx_vars x; unfold lnPiece lnRow; pointwise! [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25])

/-- The eighth piece's arithmetic, for either output. -/
theorem pay_7 : k0_pay2 (k0_pay4 g) (k0_pay5 b) (k0_pay24 a) (k0_pay25 a) = lnPiece g b a ∧ k0_pay3 (k0_pay4 g) (k0_pay5 b) (k0_pay24 a) (k0_pay25 a) = lnPiece g b a := by
  constructor <;> (funext x; idx_vars x; unfold lnPiece lnRow; pointwise! [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25])

variable (c : Dev nD) (i : grid0.Coords) (arg2 : Memref sig .tc .vmem S1024x512 .f32) (harg2 : arg2.IsWhole) (arg3 : Memref sig .tc .vmem S1024x4096 .bf16) (harg3 : arg3.IsWhole) (arg4 : Memref sig .tc .vmem S1x4096x256 .bf16) (harg4 : arg4.IsWhole) (arg5 : Memref sig .tc .vmem S1x4096x256 .bf16) (harg5 : arg5.IsWhole) (arg6 : Memref sig .tc .vmem S1x256x4096 .bf16) (harg6 : arg6.IsWhole) (arg7 : Memref sig .tc .vmem S1x1x4096 .f32) (harg7 : arg7.IsWhole) (arg8 : Memref sig .tc .vmem S1x1x4096 .f32) (harg8 : arg8.IsWhole) (arg9 : Memref sig .tc .vmem S128x4096 .f32) (harg9 : arg9.IsWhole) (arg10 : Memref sig .tc .vmem S128x4096 .bf16) (harg10 : arg10.IsWhole) (arg11 : Memref sig .tc .vmem S1024x4096 .f32) (harg11 : arg11.IsWhole)
  (x0 : Vec Ideal S1024x512 .f32) (x1 : Vec Ideal S1024x4096 .bf16) (x2 : Vec Ideal S1x4096x256 .bf16) (x3 : Vec Ideal S1x4096x256 .bf16) (x4 : Vec Ideal S1x256x4096 .bf16) (x5 : Vec Ideal S1x1x4096 .f32) (x6 : Vec Ideal S1x1x4096 .f32) (xs0 : Vec Ideal S1024x4096 .f32)

theorem out_J_7 (hc0 : ¬cond0_0 i) (hc1 : ¬cond0_1 i) (hc2 : ¬cond0_2 i) (hc3 : ¬cond0_3 i) (hc4 : ¬cond0_4 i) (hc5 : ¬cond0_5 i) (hc6 : ¬cond0_6 i) (hc7 : ¬cond0_7 i) (hc8 : ¬cond0_8 i) (hc9 : ¬cond0_9 i) (hc10 : cond0_10 i) (h43 : 43 ≤ (i 1).val) :
    out0_J_7 (F := Ideal) c i arg2 harg2 arg3 harg3 arg4 harg4 arg5 harg5 arg6 harg6 arg7 harg7 arg8 harg8 arg9 harg9 arg10 harg10 arg11 harg11 hc0 hc1 hc2 hc3 hc4 hc5 hc6 hc7 hc8 hc9 hc10 x0 x1 x2 x3 x4 x5 x6 xs0
      = lnBlock ((i 1).val - 43) x5 x6 xs0 := by
  have hi : (i 1).val < 51 := (i 1).isLt
  unfold out0_J_7
  rw [View.read_writes_junk_eq_canon]
  funext y
  refine View.canon_apply_of_pieces (lnBlock ((i 1).val - 43) x5 x6 xs0) _ ?_ y (cover0_J_7 (F := Ideal) c i arg2 harg2 arg3 harg3 arg4 harg4 arg5 harg5 arg6 harg6 arg7 harg7 arg8 harg8 arg9 harg9 arg10 harg10 arg11 harg11 hc0 hc1 hc2 hc3 hc4 hc5 hc6 hc7 hc8 hc9 hc10 x0 x1 x2 x3 x4 x5 x6 xs0 y)
  unfold kernelRun0_J
  dsimp only
  sl_unfold_words
  have key := fun pay hpay p off hoff inb x => piece pay hpay arg7 harg7 arg8 harg8 arg11 harg11 x5 x6 xs0
    ((i 1).val - 43) (by omega) p off hoff inb_S1x1x4096_S1x1x4096_0_0_0 inb_S1x1x4096_S1x1x4096_0_0_0 inb x
  refine List.forall_mem_cons.mpr ⟨fun x => key (fun g b a => k0_pay2 (k0_pay4 g) (k0_pay5 b) (k0_pay24 a) (k0_pay25 a)) (fun g b a => (pay_7 g b a).1) 7 _ (off17 i h43 7) _ x, ?_⟩
  refine List.forall_mem_cons.mpr ⟨fun x => key (fun g b a => k0_pay22 (k0_pay4 g) (k0_pay5 b) a (Scalar.ofBits .f32 0x3F000000#32)) (fun g b a => (pay_6 g b a).1) 6 _ (off17 i h43 6) _ x, ?_⟩
  refine List.forall_mem_cons.mpr ⟨fun x => key (fun g b a => k0_pay20 (k0_pay4 g) (k0_pay5 b) a) (fun g b a => (pay_5 g b a).1) 5 _ (off17 i h43 5) _ x, ?_⟩
  refine List.forall_mem_cons.mpr ⟨fun x => key (fun g b a => k0_pay18 (k0_pay4 g) (k0_pay5 b) a) (fun g b a => (pay_4 g b a).1) 4 _ (off17 i h43 4) _ x, ?_⟩
  refine List.forall_mem_cons.mpr ⟨fun x => key (fun g b a => k0_pay16 (k0_pay4 g) (k0_pay5 b) (k0_pay14 a) (k0_pay15 a) (Scalar.ofBits .f32 0x3727C5AC#32)) (fun g b a => (pay_3 g b a).1) 3 _ (off17 i h43 3) _ x, ?_⟩
  refine List.forall_mem_cons.mpr ⟨fun x => key (fun g b a => k0_pay12 (k0_pay4 g) (k0_pay5 b) (k0_pay10 a) (k0_pay11 a)) (fun g b a => (pay_2 g b a).1) 2 _ (off17 i h43 2) _ x, ?_⟩
  refine List.forall_mem_cons.mpr ⟨fun x => key (fun g b a => k0_pay8 (k0_pay4 g) (k0_pay5 b) a) (fun g b a => (pay_1 g b a).1) 1 _ (off17 i h43 1) _ x, ?_⟩
  refine List.forall_mem_cons.mpr ⟨fun x => key (fun g b a => k0_pay6 g b a) (fun g b a => (pay_0 g b a).1) 0 _ (off17 i h43 0) _ x, ?_⟩
  intro pc h
  exact absurd h List.not_mem_nil

theorem out_J_8 (hc0 : ¬cond0_0 i) (hc1 : ¬cond0_1 i) (hc2 : ¬cond0_2 i) (hc3 : ¬cond0_3 i) (hc4 : ¬cond0_4 i) (hc5 : ¬cond0_5 i) (hc6 : ¬cond0_6 i) (hc7 : ¬cond0_7 i) (hc8 : ¬cond0_8 i) (hc9 : ¬cond0_9 i) (hc10 : cond0_10 i) (h43 : 43 ≤ (i 1).val) :
    out0_J_8 (F := Ideal) c i arg2 harg2 arg3 harg3 arg4 harg4 arg5 harg5 arg6 harg6 arg7 harg7 arg8 harg8 arg9 harg9 arg10 harg10 arg11 harg11 hc0 hc1 hc2 hc3 hc4 hc5 hc6 hc7 hc8 hc9 hc10 x0 x1 x2 x3 x4 x5 x6 xs0
      = lnBlock ((i 1).val - 43) x5 x6 xs0 := by
  have hi : (i 1).val < 51 := (i 1).isLt
  unfold out0_J_8
  rw [View.read_writes_junk_eq_canon]
  funext y
  refine View.canon_apply_of_pieces (lnBlock ((i 1).val - 43) x5 x6 xs0) _ ?_ y (cover0_J_8 (F := Ideal) c i arg2 harg2 arg3 harg3 arg4 harg4 arg5 harg5 arg6 harg6 arg7 harg7 arg8 harg8 arg9 harg9 arg10 harg10 arg11 harg11 hc0 hc1 hc2 hc3 hc4 hc5 hc6 hc7 hc8 hc9 hc10 x0 x1 x2 x3 x4 x5 x6 xs0 y)
  unfold kernelRun0_J
  dsimp only
  sl_unfold_words
  have key := fun pay hpay p off hoff inb x => piece pay hpay arg7 harg7 arg8 harg8 arg11 harg11 x5 x6 xs0
    ((i 1).val - 43) (by omega) p off hoff inb_S1x1x4096_S1x1x4096_0_0_0 inb_S1x1x4096_S1x1x4096_0_0_0 inb x
  refine List.forall_mem_cons.mpr ⟨fun x => key (fun g b a => k0_pay3 (k0_pay4 g) (k0_pay5 b) (k0_pay24 a) (k0_pay25 a)) (fun g b a => (pay_7 g b a).2) 7 _ (off17 i h43 7) _ x, ?_⟩
  refine List.forall_mem_cons.mpr ⟨fun x => key (fun g b a => k0_pay23 (k0_pay4 g) (k0_pay5 b) a (Scalar.ofBits .f32 0x3F000000#32)) (fun g b a => (pay_6 g b a).2) 6 _ (off17 i h43 6) _ x, ?_⟩
  refine List.forall_mem_cons.mpr ⟨fun x => key (fun g b a => k0_pay21 (k0_pay4 g) (k0_pay5 b) a) (fun g b a => (pay_5 g b a).2) 5 _ (off17 i h43 5) _ x, ?_⟩
  refine List.forall_mem_cons.mpr ⟨fun x => key (fun g b a => k0_pay19 (k0_pay4 g) (k0_pay5 b) a) (fun g b a => (pay_4 g b a).2) 4 _ (off17 i h43 4) _ x, ?_⟩
  refine List.forall_mem_cons.mpr ⟨fun x => key (fun g b a => k0_pay17 (k0_pay4 g) (k0_pay5 b) (k0_pay14 a) (k0_pay15 a) (Scalar.ofBits .f32 0x3727C5AC#32)) (fun g b a => (pay_3 g b a).2) 3 _ (off17 i h43 3) _ x, ?_⟩
  refine List.forall_mem_cons.mpr ⟨fun x => key (fun g b a => k0_pay13 (k0_pay4 g) (k0_pay5 b) (k0_pay10 a) (k0_pay11 a)) (fun g b a => (pay_2 g b a).2) 2 _ (off17 i h43 2) _ x, ?_⟩
  refine List.forall_mem_cons.mpr ⟨fun x => key (fun g b a => k0_pay9 (k0_pay4 g) (k0_pay5 b) a) (fun g b a => (pay_1 g b a).2) 1 _ (off17 i h43 1) _ x, ?_⟩
  refine List.forall_mem_cons.mpr ⟨fun x => key (fun g b a => k0_pay7 g b a) (fun g b a => (pay_0 g b a).2) 0 _ (off17 i h43 0) _ x, ?_⟩
  intro pc h
  exact absurd h List.not_mem_nil

end FfnSampleVal
-- ==== Proof.FfnSampleAcc.lean ====
module
public import proofs.«01_k».proof.Proof.FfnSampleBlocks
public import proofs.«01_k».proof.Proof.FfnSampleLn

/-! The feed-forward call's accumulator after every grid point: the blocks of the hidden width done so
far, and `2α·x` in the bands of columns done so far. -/

@[expose] public section
set_option maxRecDepth 16384
noncomputable section
open Idealize.ShloMosaic Idealize.ShloMosaic.TcCoe Idealize.ShloMosaic.Tactic
open Cert.FfnSampleIdeal Cert.FfnSampleIdeal.Gen
namespace FfnSampleVal

theorem pay27_at (x1 : Vec Ideal S1024x4096 .bf16) (x2 x3 : Vec Ideal S1x4096x256 .bf16) (a : Vec Ideal S1024x4096 .f32)
    (x4 : Vec Ideal S1x256x4096 .bf16) (p : Fin 1024) (q : Fin 4096) :
    k0_pay27 x1 x2 x3 a x4 (ix2 p q) = a (ix2 p q) +
      ∑ k : Fin 256, hidden (fun l => x1 (ix2 p l)) (fun l => x2 (ix3 0 l k)) (fun l => x3 (ix3 0 l k)) * x4 (ix3 0 k q) := by
  unfold hidden
  pointwise! [k0_pay27]

theorem resid_at (C : ℕ) (u : Vec Ideal S1024x512 .f32) (a : Vec Ideal S1024x4096 .f32) (p : Fin 1024) (q : Fin 4096) :
    resid C u a (ix2 p q) = a (ix2 p q) + if h : C ≤ q.val ∧ q.val < C + 512 then
      Ideal.ofBits .f32 0x403504F3#32 * u (ix2 p ⟨q.val - C, by omega⟩) else 0 := by
  unfold resid
  by_cases h : C ≤ q.val ∧ q.val < C + 512
  · rw [dif_pos h]
    refine (if_pos h).trans ?_
    congr 3
    refine congrArg (ix2 p) (Fin.ext ?_)
    show (q.val - C) % 512 = q.val - C
    omega
  · rw [dif_neg h, add_zero]
    exact if_neg h

variable (m : (ℓ : Loc nD τ sig) → Buf (Elt Ideal) ℓ) (c : Dev nD)

/-- Token `r`'s row of the operand. -/
def xrow (r : Fin 8192) (l : Fin 4096) : EReal :=
  m ((c.tc : Thread nD τ).loc main_arg0) (ix3 ⟨r.val / 2048, by omega⟩ ⟨r.val % 2048, by omega⟩ l)

/-- What block `j` of the hidden width adds at token `r`, column `q`. -/
def term (r : Fin 8192) (q : Fin 4096) (j : ℕ) : EReal :=
  ∑ k : Fin 256, hidden (xrow m c r)
    (fun l => m ((c.tc : Thread nD τ).loc main_arg1) (ix3 1 l ⟨256 * min j 42 + k.val, by omega⟩))
    (fun l => m ((c.tc : Thread nD τ).loc main_arg2) (ix3 1 l ⟨256 * min j 42 + k.val, by omega⟩))
    * m ((c.tc : Thread nD τ).loc main_arg3) (ix3 1 ⟨256 * min j 42 + k.val, by omega⟩ q)

/-- The accumulator after `n` blocks of the hidden width, at token `r`, column `q`. -/
def accAt (r : Fin 8192) (q : Fin 4096) (n : ℕ) : EReal :=
  ∑ j ∈ Finset.range n, term m c r q j +
    if q.val < 512 * n then Ideal.ofBits .f32 0x403504F3#32 * xrow m c r q else 0

/-- The blocks a point multiplies, at an index: the new block's part of the sum. -/
theorem pay27_pt (t : Fin cfg0.N) (a : Vec Ideal S1024x4096 .f32) (p : Fin 1024) (q : Fin 4096) :
    k0_pay27 (iblk m c 1 t) (iblk m c 2 t) (iblk m c 3 t) a (iblk m c 4 t) (ix2 p q)
      = a (ix2 p q) + term m c (tok t.val p) q (t.val % 51) := by
  rw [pay27_at]
  unfold term xrow
  simp only [blk1 m c t, blk2 m c t, blk3 m c t, blk4 m c t]

theorem accAt_succ (r : Fin 8192) (q : Fin 4096) (n : ℕ) (u : EReal)
    (hu : u = if 512 * n ≤ q.val ∧ q.val < 512 * n + 512 then Ideal.ofBits .f32 0x403504F3#32 * xrow m c r q else 0) :
    accAt m c r q n + term m c r q n + u = accAt m c r q (n + 1) := by
  subst hu
  unfold accAt
  rw [Finset.sum_range_succ, add_right_comm _ _ (term m c r q n), add_assoc (∑ j ∈ Finset.range n, term m c r q j + term m c r q n)]
  congr 1
  by_cases h : q.val < 512 * n
  · rw [if_pos h, if_neg (by omega), if_pos (by omega), add_zero]
  · rw [if_neg h, zero_add]
    congr 1
    exact propext ⟨fun h => by omega, fun h => by omega⟩

/-- The band a point among the first eight adds to. -/
theorem band_pt (t : Fin cfg0.N) (n : ℕ) (hn : t.val % 51 = n) (h7 : n ≤ 7) (p : Fin 1024) (q : Fin 4096) :
    (if h : 512 * n ≤ q.val ∧ q.val < 512 * n + 512 then
      Ideal.ofBits .f32 0x403504F3#32 * (iblk m c 0 t : Vec Ideal S1024x512 .f32) (ix2 p ⟨q.val - 512 * n, by omega⟩) else 0)
    = if 512 * n ≤ q.val ∧ q.val < 512 * n + 512 then Ideal.ofBits .f32 0x403504F3#32 * xrow m c (tok t.val p) q else 0 := by
  by_cases h : 512 * n ≤ q.val ∧ q.val < 512 * n + 512
  · rw [dif_pos h, if_pos h]
    congr 1
    refine (blk0 m c t p _).trans ?_
    unfold xrow
    congr 2
    apply Fin.ext
    show 512 * min (t.val % 51) 7 + (q.val - 512 * n) = q.val
    omega
  · rw [dif_neg h, if_neg h]

/-- The accumulator before a point's work: zero at a row block's first point, else what the point before left. -/
def prev (t : Fin cfg0.N) : Vec Ideal S1024x4096 .f32 :=
  if t.val % 51 = 0 then k0_pay26 (F := Ideal)
  else (outsAt0 m c (t.val - 1) (Nat.lt_of_le_of_lt (Nat.sub_le _ _) t.isLt)).2.2

/-- One of the first eight points of a row block. -/
theorem step_resid (t : Fin cfg0.N) (h : t.val % 51 ≤ 7) :
    (outsAt0 m c t.val t.isLt).2.2 = resid (512 * (t.val % 51)) (iblk m c 0 t)
      (k0_pay27 (iblk m c 1 t) (iblk m c 2 t) (iblk m c 3 t) (prev m c t) (iblk m c 4 t)) := by
  unfold prev
  have hj : t.val % 51 = 0 ∨ t.val % 51 = 1 ∨ t.val % 51 = 2 ∨ t.val % 51 = 3 ∨ t.val % 51 = 4 ∨ t.val % 51 = 5 ∨
    t.val % 51 = 6 ∨ t.val % 51 = 7 := by omega
  rcases hj with hj | hj | hj | hj | hj | hj | hj | hj
  · rw [if_pos hj, hj]
    exact (congrArg (fun o => o.2.2) (outsAt0_A m c t (by omega) (by omega) (by omega) (by omega) (by omega) (by omega) (by omega) (by omega) (by omega) (by omega) (by omega))).trans (sout_A ..)
  · rw [if_neg (by omega), hj]
    exact (congrArg (fun o => o.2.2) (outsAt0_B m c t (by omega) (by omega) (by omega) (by omega) (by omega) (by omega) (by omega) (by omega) (by omega) (by omega) (by omega))).trans (sout_B ..)
  · rw [if_neg (by omega), hj]
    exact (congrArg (fun o => o.2.2) (outsAt0_C m c t (by omega) (by omega) (by omega) (by omega) (by omega) (by omega) (by omega) (by omega) (by omega) (by omega) (by omega))).trans (sout_C ..)
  · rw [if_neg (by omega), hj]
    exact (congrArg (fun o => o.2.2) (outsAt0_D m c t (by omega) (by omega) (by omega) (by omega) (by omega) (by omega) (by omega) (by omega) (by omega) (by omega) (by omega))).trans (sout_D ..)
  · rw [if_neg (by omega), hj]
    exact (congrArg (fun o => o.2.2) (outsAt0_E m c t (by omega) (by omega) (by omega) (by omega) (by omega) (by omega) (by omega) (by omega) (by omega) (by omega) (by omega))).trans (sout_E ..)
  · rw [if_neg (by omega), hj]
    exact (congrArg (fun o => o.2.2) (outsAt0_F m c t (by omega) (by omega) (by omega) (by omega) (by omega) (by omega) (by omega) (by omega) (by omega) (by omega) (by omega))).trans (sout_F ..)
  · rw [if_neg (by omega), hj]
    exact (congrArg (fun o => o.2.2) (outsAt0_G m c t (by omega) (by omega) (by omega) (by omega) (by omega) (by omega) (by omega) (by omega) (by omega) (by omega) (by omega))).trans (sout_G ..)
  · rw [if_neg (by omega), hj]
    exact (congrArg (fun o => o.2.2) (outsAt0_H m c t (by omega) (by omega) (by omega) (by omega) (by omega) (by omega) (by omega) (by omega) (by omega) (by omega) (by omega))).trans (sout_H ..)

/-- A later point of the hidden width. -/
theorem step_plain (t : Fin cfg0.N) (h8 : 8 ≤ t.val % 51) (h : t.val % 51 ≤ 42) :
    (outsAt0 m c t.val t.isLt).2.2 =
      k0_pay27 (iblk m c 1 t) (iblk m c 2 t) (iblk m c 3 t) (prev m c t) (iblk m c 4 t) := by
  unfold prev
  rw [if_neg (by omega)]
  refine (congrArg (fun o => o.2.2) (outsAt0_I m c t (by omega) (by omega) (by omega) (by omega) (by omega) (by omega) (by omega) (by omega) (by omega) (by omega) (by omega))).trans ?_
  dsimp only
  rw [sout_I]

/-- A normalising point leaves the accumulator as it was. -/
theorem step_keep (t : Fin cfg0.N) (h : 43 ≤ t.val % 51) :
    (outsAt0 m c t.val t.isLt).2.2 = prev m c t := by
  unfold prev
  rw [if_neg (by omega)]
  exact congrArg (fun o => o.2.2) (outsAt0_J m c t (by omega) (by omega) (by omega) (by omega) (by omega) (by omega) (by omega) (by omega) (by omega) (by omega) (by omega))

/-- The accumulator after every point, by induction on the point. -/
theorem acc_eq : ∀ (n : ℕ) (h : n < cfg0.N) (p : Fin 1024) (q : Fin 4096),
    (outsAt0 m c n h).2.2 (ix2 p q) = accAt m c (tok n p) q (min (n % 51) 42 + 1) := by
  intro n
  induction n with
  | zero =>
    intro h p q
    have e := step_resid m c ⟨0, h⟩ (by show 0 % 51 ≤ 7; omega)
    refine (congrFun e (ix2 p q)).trans ?_
    rw [resid_at, pay27_pt, band_pt m c ⟨0, h⟩ _ rfl (by show 0 % 51 ≤ 7; omega)]
    refine Eq.trans ?_ (accAt_succ m c (tok 0 p) q 0 _ rfl)
    congr 2
    unfold accAt prev
    rw [if_pos (by rfl), Finset.sum_range_zero, if_neg (by omega)]
    pointwise [k0_pay26]
  | succ n ih =>
    intro h p q
    have hN : n + 1 < 408 := lt_of_lt_of_eq h N_0
    have hp : ∀ (h0 : (n + 1) % 51 ≠ 0), prev m c ⟨n + 1, h⟩ (ix2 p q) = accAt m c (tok (n + 1) p) q (min (n % 51) 42 + 1) := by
      intro h0
      unfold prev
      rw [if_neg h0]
      refine (ih (Nat.lt_of_succ_lt h) p q).trans ?_
      congr 1
      unfold tok
      congr 3
      have : n / 51 = (n + 1) / 51 := by omega
      rw [this]
    by_cases h7 : (n + 1) % 51 ≤ 7
    · refine (congrFun (step_resid m c ⟨n + 1, h⟩ h7) (ix2 p q)).trans ?_
      rw [resid_at, pay27_pt, band_pt m c ⟨n + 1, h⟩ _ rfl h7]
      rw [show min ((n + 1) % 51) 42 = (n + 1) % 51 by omega]
      refine Eq.trans ?_ (accAt_succ m c (tok (n + 1) p) q ((n + 1) % 51) _ rfl)
      congr 2
      by_cases h0 : (n + 1) % 51 = 0
      · unfold accAt prev
        rw [if_pos h0, h0, Finset.sum_range_zero, if_neg (by omega)]
        pointwise [k0_pay26]
      · rw [hp h0]
        congr 1
        omega
    · by_cases h42 : (n + 1) % 51 ≤ 42
      · refine (congrFun (step_plain m c ⟨n + 1, h⟩ (by show 8 ≤ (n + 1) % 51; omega) h42) (ix2 p q)).trans ?_
        rw [pay27_pt, hp (by omega)]
        rw [show min ((n + 1) % 51) 42 = (n + 1) % 51 by omega, show min (n % 51) 42 + 1 = (n + 1) % 51 by omega]
        refine Eq.trans ?_ (accAt_succ m c (tok (n + 1) p) q ((n + 1) % 51) 0 (by rw [if_neg (by omega)]))
        rw [add_zero]
      · refine (congrFun (step_keep m c ⟨n + 1, h⟩ (by show 43 ≤ (n + 1) % 51; omega)) (ix2 p q)).trans ?_
        rw [hp (by omega)]
        congr 1
        omega

end FfnSampleVal
-- ==== Proof.FfnSampleOut.lean ====
module
public import proofs.«01_k».proof.Proof.FfnSampleAcc

/-! The feed-forward call's two result arrays: every block written back is the block of the layer's
result it names, and the blocks cover both arrays. -/

@[expose] public section
set_option maxRecDepth 16384
noncomputable section
open Idealize.ShloMosaic Idealize.ShloMosaic.TcCoe Idealize.ShloMosaic.Tactic Idealize.SL.Sem
open Cert.FfnSampleIdeal Cert.FfnSampleIdeal.Gen
open Idealize.ShloMosaic.Pipeline (Dat)
namespace FfnSampleVal

variable (m : (ℓ : Loc nD τ sig) → Buf (Elt Ideal) ℓ) (ρ : Dev nD → PrngReg) (c : Dev nD)

/-- The layer's result on the kernel's arguments, as an array. -/
def out : S8192x4096.Idx → EReal := fun i =>
  ffnAt (m ((c.tc : Thread nD τ).loc main_arg0)) (m ((c.tc : Thread nD τ).loc main_arg1))
    (m ((c.tc : Thread nD τ).loc main_arg2)) (m ((c.tc : Thread nD τ).loc main_arg3))
    (m ((c.tc : Thread nD τ).loc main_arg4)) (m ((c.tc : Thread nD τ).loc main_arg5)) (i 0) (i 1)

theorem coord1 : ∀ t : Fin cfg0.N, (grid0.coords t 1).val = t.val % 51 := by decide +kernel
theorem idx7 : ∀ t : Fin cfg0.N, win0_7.index t 0 = 8 * (t.val / 51) + (t.val % 51 - 43) ∧ win0_7.index t 1 = 0 := by decide +kernel
theorem idx8 : ∀ t : Fin cfg0.N, win0_8.index t 0 = 8 * (t.val / 51) + (t.val % 51 - 43) ∧ win0_8.index t 1 = 0 := by decide +kernel
theorem flush7 : ∀ t : Fin cfg0.N, (cfg0.win 7).flush t = true ↔ 43 ≤ t.val % 51 := by decide +kernel
theorem flush8 : ∀ t : Fin cfg0.N, (cfg0.win 8).flush t = true ↔ 43 ≤ t.val % 51 := by decide +kernel

/-- The accumulator a normalising point halves is the residual sum. -/
theorem half_acc (r : Fin 8192) (q : Fin 4096) :
    Ideal.ofBits .f32 0x3F000000#32 * accAt m c r q 43
      = preNorm (xrow m c r) (fun l k => m ((c.tc : Thread nD τ).loc main_arg1) (ix3 1 l k))
        (fun l k => m ((c.tc : Thread nD τ).loc main_arg2) (ix3 1 l k))
        (fun k l => m ((c.tc : Thread nD τ).loc main_arg3) (ix3 1 k l)) q := by
  unfold accAt preNorm
  rw [if_pos (by omega), half_mul_add, sum_blocks, Finset.sum_range]
  refine congrArg (fun x => _ + _ * x) (Finset.sum_congr rfl fun j _ => ?_)
  unfold term
  refine Finset.sum_congr rfl fun k _ => ?_
  have e : min j.val 42 = j.val := by omega
  simp only [e]

/-- A normalising point's block is the layer's result at the rows it writes. -/
theorem block_eq (t : Fin cfg0.N) (h : 43 ≤ t.val % 51) (a : Vec Ideal S1024x4096 .f32)
    (ha : ∀ p q, a (ix2 p q) = accAt m c (tok t.val p) q 43) (y : S128x4096.Idx) (i : S8192x4096.Idx)
    (h0 : (i 0).val = 128 * (8 * (t.val / 51) + (t.val % 51 - 43)) + (y 0).val) (h1 : (i 1).val = (y 1).val) :
    lnBlock (t.val % 51 - 43) (iblk m c 5 t) (iblk m c 6 t) a y = out m c i := by
  have ht := lt_of_pt t
  have hy : (y 0).val < 128 := (y 0).isLt
  have e1 : y 1 = i 1 := Fin.ext h1.symm
  have e0 : tok t.val ⟨(128 * (t.val % 51 - 43) + (y 0).val) % 1024, Nat.mod_lt _ (by decide)⟩ = i 0 := by
    apply Fin.ext
    show (1024 * (t.val / 51) + (128 * (t.val % 51 - 43) + (y 0).val) % 1024) % 8192 = (i 0).val
    omega
  unfold lnBlock out ffnAt
  simp only [ha, e0, blk5 m c t, blk6 m c t, e1]
  rw [show (fun k : Fin 4096 => Ideal.ofBits .f32 0x3F000000#32 * accAt m c (i 0) k 43) = _ from
    funext fun k => half_acc m c (i 0) k]
  rfl

theorem acc_before (t : Fin cfg0.N) (h : 43 ≤ t.val % 51) (p : Fin 1024) (q : Fin 4096) :
    (outsAt0 m c (t.val - 1) (Nat.lt_of_le_of_lt (Nat.sub_le _ _) t.isLt)).2.2 (ix2 p q) = accAt m c (tok t.val p) q 43 := by
  rw [acc_eq]
  have e : tok (t.val - 1) p = tok t.val p := by
    unfold tok
    congr 3
    have : (t.val - 1) / 51 = t.val / 51 := by omega
    rw [this]
  rw [e]
  congr 1
  omega

/-- What a normalising point leaves in result 1's block. -/
theorem left_7 (t : Fin cfg0.N) (h : 43 ≤ t.val % 51) :
    (outsAt0 m c t.val t.isLt).1 = lnBlock (t.val % 51 - 43) (iblk m c 5 t) (iblk m c 6 t)
      (outsAt0 m c (t.val - 1) (Nat.lt_of_le_of_lt (Nat.sub_le _ _) t.isLt)).2.2 := by
  refine (congrArg (fun o => o.1) (outsAt0_J m c t (by omega) (by omega) (by omega) (by omega) (by omega) (by omega) (by omega) (by omega) (by omega) (by omega) (by omega))).trans ?_
  dsimp only
  rw [out_J_7 (h43 := by rw [coord1]; exact h), coord1]

theorem arr_7 : (dats m 0 c).arrAt 7 cfg0.N = out m c := by
  refine (dats m 0 c).arrAt_eq_of_covers 7 (out m c) (by decide +kernel) fun t hf y => ?_
  have h := (flush7 t).mp hf
  blk_simp
  refine (congrFun (left_7 m c t h) y).trans ?_
  refine block_eq m c t h _ (acc_before m c t h) y _ ?_ ?_
  · blk_simp
    rw [(idx7 t).1]
    omega
  · blk_simp
    rw [(idx7 t).2]
    omega

/-- What a normalising point leaves in result 2's block. -/
theorem left_8 (t : Fin cfg0.N) (h : 43 ≤ t.val % 51) :
    (outsAt0 m c t.val t.isLt).2.1 = lnBlock (t.val % 51 - 43) (iblk m c 5 t) (iblk m c 6 t)
      (outsAt0 m c (t.val - 1) (Nat.lt_of_le_of_lt (Nat.sub_le _ _) t.isLt)).2.2 := by
  refine (congrArg (fun o => o.2.1) (outsAt0_J m c t (by omega) (by omega) (by omega) (by omega) (by omega) (by omega) (by omega) (by omega) (by omega) (by omega) (by omega))).trans ?_
  dsimp only
  rw [out_J_8 (h43 := by rw [coord1]; exact h), coord1]

theorem arr_8 : (dats m 0 c).arrAt 8 cfg0.N = out m c := by
  refine (dats m 0 c).arrAt_eq_of_covers 8 (out m c) (by decide +kernel) fun t hf y => ?_
  have h := (flush8 t).mp hf
  blk_simp
  refine (congrFun (left_8 m c t h) y).trans ?_
  refine block_eq m c t h _ (acc_before m c t h) y _ ?_ ?_
  · blk_simp
    rw [(idx8 t).1]
    omega
  · blk_simp
    rw [(idx8 t).2]
    omega

/-- The kernel's run: both results hold the layer's result, the arguments what they held. -/
theorem run_out : θ_run defs (onTc (τ := τ) (main (F := Ideal))) ⟨m, fun _ => 0, ρ⟩ fun r => ∀ c : Dev nD,
    r.2.mem ((c : Thread nD τ).loc main_v7_0) = out m c ∧ r.2.mem ((c : Thread nD τ).loc main_v7_1) = out m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨(h c).1.trans (arr_7 m c), (h c).2.1.trans (arr_8 m c), (h c).2.2⟩) (Cert.FfnSampleIdeal.Value.run_blocks m ρ)

end FfnSampleVal
-- ==== Proof.FfnSampleRef.lean ====
module
public import proofs.«01_k».proof.Proof.Gen.FfnSampleRefIdeal.Run
public import proofs.«01_k».proof.Proof.FfnSampleMath
public import Idealize.ShloMosaic.Lib.Tactic
public import Idealize.ShloMosaic.Lib.Claim
public import Idealize.ShloMosaic.Lib.Tactic.CleanTypes

/-! The plain feed-forward program's results, read at an index. -/

@[expose] public section
set_option maxRecDepth 16384
noncomputable section
open Idealize.ShloMosaic Idealize.ShloMosaic.TcCoe Idealize.ShloMosaic.Tactic
open Cert.FfnSampleRefIdeal Cert.FfnSampleRefIdeal.Value
namespace FfnSampleVal

variable (m : (ℓ : Loc nD τ sig) → Buf (Elt Ideal) ℓ) (c : Dev nD)

/-- The layer's result on this program's arguments. -/
def ffnOf (r : Fin 8192) (q : Fin 4096) : EReal :=
  ffnAt (m ((c.tc : Thread nD τ).loc main_arg0)) (m ((c.tc : Thread nD τ).loc main_arg1))
    (m ((c.tc : Thread nD τ).loc main_arg2)) (m ((c.tc : Thread nD τ).loc main_arg3))
    (m ((c.tc : Thread nD τ).loc main_arg4)) (m ((c.tc : Thread nD τ).loc main_arg5)) r q

theorem ref_at (r : Fin 8192) (q : Fin 4096) :
    (res_main_v44 m c : S8192x4096.Idx → EReal) (ix2 r q) = ffnOf m c r q := by
  unfold res_main_v44 ffnOf ffnAt lnRow preNorm hidden
  clean_types
  pointwise! []

theorem ref_at' (r : Fin 8192) (q : Fin 4096) :
    (res_main_v45 m c : S8192x4096.Idx → EReal) (ix2 r q) = ffnOf m c r q := by
  unfold res_main_v45 ffnOf ffnAt lnRow preNorm hidden
  clean_types
  pointwise! []

end FfnSampleVal
-- ==== Proof.OutSampleBlocks.lean ====
module
public import proofs.«01_k».proof.Proof.Gen.OutprojSampleIdeal.Value
public import Idealize.ShloMosaic.Lib.Pipeline.Value
public import Idealize.ShloMosaic.Lib.StableHlo.Run
public import Idealize.ShloMosaic.Lib.Claim
public import Idealize.ShloMosaic.Lib.Tactic
public import Idealize.ShloMosaic.Lib.Pipeline.ValueKit
public import Idealize.ShloMosaic.Lib.Pointwise

/-! The blocks the output projection reads at a grid point, as entries of the arrays it is given. Point
`t` is block `t % 16` of the mixers' width (from 8 on: a normalising step) for row block `t / 16`. -/

@[expose] public section
set_option maxRecDepth 16384
noncomputable section
open Idealize.ShloMosaic Idealize.ShloMosaic.TcCoe Idealize.ShloMosaic.Tactic
open Cert.OutprojSampleIdeal Cert.OutprojSampleIdeal.Gen
namespace OutSampleVal

variable (m : (ℓ : Loc nD τ sig) → Buf (Elt Ideal) ℓ) (c : Dev nD)

/-- The token that row `p` of row block `t / 16` is. -/
def tok (t : ℕ) (p : Fin 1024) : Fin 8192 := ⟨(1024 * (t / 16) + p.val) % 8192, Nat.mod_lt _ (by decide)⟩

theorem lt_of_pt (t : Fin cfg0.N) : t.val < 128 := lt_of_lt_of_eq t.isLt N_0

theorem idx0 : ∀ t : Fin cfg0.N, win0_0.index t 0 = t.val / 16 ∧ win0_0.index t 1 = min (t.val % 16) 7 := by decide +kernel
theorem idx1 : ∀ t : Fin cfg0.N, win0_1.index t 0 = t.val / 16 ∧ win0_1.index t 1 = min (t.val % 16) 3 := by decide +kernel
theorem idx2 : ∀ t : Fin cfg0.N, win0_2.index t 0 = t.val / 16 ∧ win0_2.index t 1 = min (t.val % 16 - 4) 3 := by decide +kernel
theorem idx3 : ∀ t : Fin cfg0.N, win0_3.index t 0 = 0 ∧ win0_3.index t 1 = min (t.val % 16) 7 ∧ win0_3.index t 2 = 0 := by decide +kernel
theorem idx4 : ∀ t : Fin cfg0.N, win0_4.index t 0 = 0 ∧ win0_4.index t 1 = 0 ∧ win0_4.index t 2 = 0 := by decide +kernel
theorem idx5 : ∀ t : Fin cfg0.N, win0_5.index t 0 = 0 ∧ win0_5.index t 1 = 0 ∧ win0_5.index t 2 = 0 := by decide +kernel

theorem V_v0 (i : S2x8192x4096.Idx) : (V m c main_v0 : S2x8192x4096.Idx → EReal) i = m ((c.tc : Thread nD τ).loc main_arg3) i := by
  entry_read
  pointwise! []

theorem V_v1 (q : Fin 4096) : (V m c main_v1 : S2x1x4096.Idx → EReal) (ix3 0 0 q) = m ((c.tc : Thread nD τ).loc main_arg4) (ix2 0 q) := by
  entry_read
  pointwise! []

theorem V_v2 (q : Fin 4096) : (V m c main_v2 : S2x1x4096.Idx → EReal) (ix3 0 0 q) = m ((c.tc : Thread nD τ).loc main_arg5) (ix2 0 q) := by
  entry_read
  pointwise! []

theorem blk0 (t : Fin cfg0.N) (p : Fin 1024) (q : Fin 512) :
    (iblk m c 0 t : S1024x512.Idx → EReal) (ix2 p q)
      = m ((c.tc : Thread nD τ).loc main_arg0) (ix2 (tok t.val p) ⟨512 * min (t.val % 16) 7 + q.val, by omega⟩) := by
  have ht := lt_of_pt t
  rw [← V_main_arg0 m c]
  unfold iblk
  rw [View.read_apply]
  show V m c main_arg0 _ = V m c main_arg0 _
  congr 1
  funext a
  apply Fin.ext
  match a with
  | ⟨0, _⟩ => show win0_0.index t 0 * 1024 + 1 * p.val = (1024 * (t.val / 16) + p.val) % 8192; rw [(idx0 t).1]; omega
  | ⟨1, _⟩ => show win0_0.index t 1 * 512 + 1 * q.val = 512 * min (t.val % 16) 7 + q.val; rw [(idx0 t).2]; omega

theorem blk1 (t : Fin cfg0.N) (p : Fin 1024) (q : Fin 1024) :
    (iblk m c 1 t : S1024x1024.Idx → EReal) (ix2 p q)
      = m ((c.tc : Thread nD τ).loc main_arg1) (ix2 (tok t.val p) ⟨1024 * min (t.val % 16) 3 + q.val, by omega⟩) := by
  have ht := lt_of_pt t
  rw [← V_main_arg1 m c]
  unfold iblk
  rw [View.read_apply]
  show V m c main_arg1 _ = V m c main_arg1 _
  congr 1
  funext a
  apply Fin.ext
  match a with
  | ⟨0, _⟩ => show win0_1.index t 0 * 1024 + 1 * p.val = (1024 * (t.val / 16) + p.val) % 8192; rw [(idx1 t).1]; omega
  | ⟨1, _⟩ => show win0_1.index t 1 * 1024 + 1 * q.val = 1024 * min (t.val % 16) 3 + q.val; rw [(idx1 t).2]; omega

theorem blk2 (t : Fin cfg0.N) (p : Fin 1024) (q : Fin 1024) :
    (iblk m c 2 t : S1024x1024.Idx → EReal) (ix2 p q)
      = m ((c.tc : Thread nD τ).loc main_arg2) (ix2 (tok t.val p) ⟨1024 * min (t.val % 16 - 4) 3 + q.val, by omega⟩) := by
  have ht := lt_of_pt t
  rw [← V_main_arg2 m c]
  unfold iblk
  rw [View.read_apply]
  show V m c main_arg2 _ = V m c main_arg2 _
  congr 1
  funext a
  apply Fin.ext
  match a with
  | ⟨0, _⟩ => show win0_2.index t 0 * 1024 + 1 * p.val = (1024 * (t.val / 16) + p.val) % 8192; rw [(idx2 t).1]; omega
  | ⟨1, _⟩ => show win0_2.index t 1 * 1024 + 1 * q.val = 1024 * min (t.val % 16 - 4) 3 + q.val; rw [(idx2 t).2]; omega

theorem blk3 (t : Fin cfg0.N) (k : Fin 1024) (l : Fin 4096) :
    (iblk m c 3 t : S1x1024x4096.Idx → EReal) (ix3 0 k l)
      = m ((c.tc : Thread nD τ).loc main_arg3) (ix3 0 ⟨1024 * min (t.val % 16) 7 + k.val, by omega⟩ l) := by
  have ht := lt_of_pt t
  rw [← V_v0 m c (ix3 0 ⟨1024 * min (t.val % 16) 7 + k.val, by omega⟩ l)]
  unfold iblk
  rw [View.read_apply]
  show V m c main_v0 _ = V m c main_v0 _
  congr 1
  funext a
  apply Fin.ext
  match a with
  | ⟨0, _⟩ => show win0_3.index t 0 * 1 + 1 * 0 = 0; rw [(idx3 t).1]
  | ⟨1, _⟩ => show win0_3.index t 1 * 1024 + 1 * k.val = 1024 * min (t.val % 16) 7 + k.val; rw [(idx3 t).2.1]; omega
  | ⟨2, _⟩ => show win0_3.index t 2 * 4096 + 1 * l.val = l.val; rw [(idx3 t).2.2]; omega

theorem blk4 (t : Fin cfg0.N) (q : Fin 4096) :
    (iblk m c 4 t : S1x1x4096.Idx → EReal) (ix3 0 0 q)
      = m ((c.tc : Thread nD τ).loc main_arg4) (ix2 0 q) := by
  have ht := lt_of_pt t
  rw [← V_v1 m c q]
  unfold iblk
  rw [View.read_apply]
  show V m c main_v1 _ = V m c main_v1 _
  congr 1
  funext a
  apply Fin.ext
  match a with
  | ⟨0, _⟩ => show win0_4.index t 0 * 1 + 1 * 0 = 0; rw [(idx4 t).1]
  | ⟨1, _⟩ => show win0_4.index t 1 * 1 + 1 * 0 = 0; rw [(idx4 t).2.1]
  | ⟨2, _⟩ => show win0_4.index t 2 * 4096 + 1 * q.val = q.val; rw [(idx4 t).2.2]; omega

theorem blk5 (t : Fin cfg0.N) (q : Fin 4096) :
    (iblk m c 5 t : S1x1x4096.Idx → EReal) (ix3 0 0 q)
      = m ((c.tc : Thread nD τ).loc main_arg5) (ix2 0 q) := by
  have ht := lt_of_pt t
  rw [← V_v2 m c q]
  unfold iblk
  rw [View.read_apply]
  show V m c main_v2 _ = V m c main_v2 _
  congr 1
  funext a
  apply Fin.ext
  match a with
  | ⟨0, _⟩ => show win0_5.index t 0 * 1 + 1 * 0 = 0; rw [(idx5 t).1]
  | ⟨1, _⟩ => show win0_5.index t 1 * 1 + 1 * 0 = 0; rw [(idx5 t).2.1]
  | ⟨2, _⟩ => show win0_5.index t 2 * 4096 + 1 * q.val = q.val; rw [(idx5 t).2.2]; omega

end OutSampleVal
-- ==== Proof.OutSampleLoops.lean ====
module
public import proofs.«01_k».proof.Proof.Gen.OutprojSampleIdeal.Loops
public import Idealize.ShloMosaic.Lib.Pipeline.Value
public import Idealize.ShloMosaic.Lib.Tactic
public import Idealize.ShloMosaic.Lib.WritesUnit
public import Idealize.ShloMosaic.Lib.Pipeline.ValueKit
public import Idealize.ShloMosaic.Lib.Pointwise
public import Idealize.ShloMosaic.PureOps.Ideal

/-! The output projection's residual loops: while its eight blocks of the mixers' width are
summed, each adds `α·x` to one band of 512 columns of the accumulator, 64 rows a trip. One lemma
says what sixteen such trips leave, and each of the eight loops is an instance of it. -/

@[expose] public section
set_option maxRecDepth 16384
noncomputable section
open Idealize.ShloMosaic Idealize.ShloMosaic.TcCoe Idealize.ShloMosaic.Tactic
open Cert.OutprojSampleIdeal Cert.OutprojSampleIdeal.Gen
namespace OutSampleVal

/-- The accumulator `a` with `α·u` added to its 512 columns from column `C` on. -/
def resid (C : ℕ) (u : Vec Ideal S1024x512 .f32) (a : Vec Ideal S1024x4096 .f32) :
    Vec Ideal S1024x4096 .f32 := fun y =>
  if C ≤ (y 1).val ∧ (y 1).val < C + 512 then
    a y + Ideal.ofBits .f32 0x3FB504F3#32 *
      u (ix2 (n0 := 1024) (n1 := 512) (y 0) ⟨((y 1).val - C) % 512, Nat.mod_lt _ (by decide)⟩)
  else a y

/-- Sixteen trips that each rewrite 64 rows of one band of columns, every entry by a function of its
    own place and of what it held: after `k` trips the first `64·k` rows of the band are rewritten. -/
theorem trips_read {κ : Kind} {sp : Space} (v : View sig κ sp S1024x4096 .f32)
    (G : v.ty.Contents (Elt Ideal)) (C : ℕ)
    (p : ℕ → List (View.Piece (Elt Ideal) S1024x4096 .f32)) (h0 : p 0 = [])
    (Z : S1024x4096.Idx → EReal → EReal)
    (hs : ∀ k, k < 16 → ∃ off inb w, off = ![64 * k, C] ∧
      p (k + 1) = ⟨Rect.unit (s := S1024x4096) off S64x512.size inb, w⟩ :: p k ∧
      ∀ (x : S64x512.Idx) (y : S1024x4096.Idx), (∀ a, (y a).val = off a + (x a).val) →
        w x = Z y (v.read (Elt Ideal) (v.writes (Elt Ideal) G (p k)) y)) :
    ∀ k, k ≤ 16 → ∀ y : S1024x4096.Idx,
      v.read (Elt Ideal) (v.writes (Elt Ideal) G (p k)) y
        = if (y 0).val < 64 * k ∧ C ≤ (y 1).val ∧ (y 1).val < C + 512
          then Z y (v.read (Elt Ideal) G y) else v.read (Elt Ideal) G y := by
  intro k
  induction k with
  | zero =>
    intro _ y
    rw [h0, if_neg (by omega)]
    rfl
  | succ k ih =>
    intro hk y
    obtain ⟨off, inb, w, rfl, hp, hw⟩ := hs k (by omega)
    rw [hp]
    by_cases hin : (64 * k ≤ (y 0).val ∧ (y 0).val < 64 * k + 64) ∧ C ≤ (y 1).val ∧ (y 1).val < C + 512
    · let x : S64x512.Idx := ix2 (n0 := 64) (n1 := 512) ⟨(y 0).val - 64 * k, by omega⟩ ⟨(y 1).val - C, by omega⟩
      have hx : ∀ a, (y a).val = (![64 * k, C] : Fin 2 → ℕ) a + (x a).val := by
        intro a
        match a with
        | ⟨0, _⟩ => show (y 0).val = 64 * k + ((y 0).val - 64 * k); omega
        | ⟨1, _⟩ => show (y 1).val = C + ((y 1).val - C); omega
      rw [View.read_writes_cons_unit_of_mem v G inb w (p k) y x rfl hx, hw x y hx, ih (by omega) y,
        if_neg (by omega), if_pos (by omega)]
    · rw [show v.read (Elt Ideal) (v.writes (Elt Ideal) G (⟨Rect.unit (s := S1024x4096) ![64 * k, C] S64x512.size inb, w⟩ :: p k)) y
          = v.read (Elt Ideal) (v.writes (Elt Ideal) G (p k)) y from ?_, ih (by omega) y]
      · congr 1
        exact propext ⟨fun h => by omega, fun h => by omega⟩
      · by_cases h0 : 64 * k ≤ (y 0).val ∧ (y 0).val < 64 * k + 64
        · exact View.read_writes_cons_unit_of_not_mem v G inb w (p k) y rfl 1
            (by show (y 1).val < C ∨ C + 512 ≤ (y 1).val; omega)
        · exact View.read_writes_cons_unit_of_not_mem v G inb w (p k) y rfl 0
            (by show (y 0).val < 64 * k ∨ 64 * k + 64 ≤ (y 0).val; omega)

/-- The trips of one residual loop, in the form the eight loops' terms have: each stores, at rows
    `64·k` on and columns `C` on, the accumulator's piece plus `α` times the operand's rows. -/
theorem resid_read (arg10 : Memref sig .tc .vmem S1024x4096 .f32) (arg2 : Memref sig .tc .vmem S1024x512 .f32)
    (G : arg10.view.ty.Contents (Elt Ideal)) (X : arg2.view.ty.Contents (Elt Ideal)) (C : ℕ)
    (p : ℕ → List (View.Piece (Elt Ideal) S1024x4096 .f32)) (h0 : p 0 = [])
    (pay : Vec Ideal S64x512 .f32 → Vec Ideal S64x512 .f32 → Vec Ideal S64x512 .f32)
    (hpay : ∀ a b x, pay a b x = a x + Ideal.ofBits .f32 0x3FB504F3#32 * b x)
    (hs : ∀ k, k < 16 → ∃ off inb offx inbx, off = ![64 * k, C] ∧ offx = ![64 * k, 0] ∧
      p (k + 1) = ⟨Rect.unit (s := S1024x4096) off S64x512.size inb,
        pay (arg10.view.readAt (Elt Ideal) (Rect.unit (s := S1024x4096) off S64x512.size inb).toLoadRect
              (arg10.view.writes (Elt Ideal) G (p k)))
            (arg2.view.readAt (Elt Ideal) (Rect.unit (s := S1024x512) offx S64x512.size inbx).toLoadRect X)⟩ :: p k) :
    arg10.view.read (Elt Ideal) (arg10.view.writes (Elt Ideal) G (p 16))
      = resid C (arg2.view.read (Elt Ideal) X) (arg10.view.read (Elt Ideal) G) := by
  funext y
  rw [trips_read arg10.view G C p h0
    (fun y a => a + Ideal.ofBits .f32 0x3FB504F3#32 *
      arg2.view.read (Elt Ideal) X (ix2 (n0 := 1024) (n1 := 512) (y 0) ⟨((y 1).val - C) % 512, Nat.mod_lt _ (by decide)⟩)) ?_ 16 le_rfl y]
  · unfold resid
    have hy : (y 0).val < 1024 := (y 0).isLt
    congr 1
    exact propext ⟨fun h => h.2, fun h => ⟨by omega, h⟩⟩
  · intro k hk
    obtain ⟨off, inb, offx, inbx, rfl, rfl, hp⟩ := hs k hk
    refine ⟨_, inb, _, rfl, hp, ?_⟩
    intro x y hxy
    have e0 : (y 0).val = 64 * k + (x 0).val := hxy 0
    have e1 : (y 1).val = C + (x 1).val := hxy 1
    have hx1 : (x 1).val < 512 := (x 1).isLt
    rw [hpay]
    congr 1
    · exact View.ld_unit_apply_of _ _ _ inb x y hxy
    · refine congrArg _ (View.ld_unit_apply_of _ _ _ inbx x _ fun a => ?_)
      match a with
      | ⟨0, _⟩ => exact e0
      | ⟨1, _⟩ =>
        show ((y 1).val - C) % 512 = 0 + (x 1).val
        rw [e1, Nat.add_sub_cancel_left, Nat.mod_eq_of_lt hx1, Nat.zero_add]

variable (𝒱 : Variants) (c : Dev nD) (bd : Option 𝒱.V) (i : grid0.Coords) (arg2 : Memref sig .tc .vmem S1024x512 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x1024x4096 .bf16) (harg5 : arg5.IsWhole) (arg6 : Memref sig .tc .vmem S1x1x4096 .f32) (harg6 : arg6.IsWhole) (arg7 : Memref sig .tc .vmem S1x1x4096 .f32) (harg7 : arg7.IsWhole) (arg8 : Memref sig .tc .vmem S128x4096 .f32) (harg8 : arg8.IsWhole) (arg9 : Memref sig .tc .vmem S128x4096 .bf16) (harg9 : arg9.IsWhole) (arg10 : Memref sig .tc .vmem S1024x4096 .f32) (harg10 : arg10.IsWhole)
  (X : BufTy.Contents (Elt Ideal) arg2.view.ty) (G : BufTy.Contents (Elt Ideal) arg10.view.ty)

theorem offs1 : ∀ k : Fin k0_t1_loop.trips, k0_off1 k = ![64 * k.val, 0] ∧ k0_off2 k = ![64 * k.val, 0] := by
  decide +kernel

/-- Loop 1 adds to the columns from 0 on. -/
theorem loop1 (h : k0_cond3 i = 1#1) :
    arg10.view.read (Elt Ideal) (arg10.view.writes (Elt Ideal) G
        (pb_k0_t1 (F := Ideal) 𝒱 c bd i arg2 harg2 arg3 harg3 arg4 harg4 arg5 harg5 arg6 harg6 arg7 harg7 arg8 harg8 arg9 harg9 arg10 harg10 h X G k0_t1_loop.trips))
      = resid 0 (arg2.view.read (Elt Ideal) X) (arg10.view.read (Elt Ideal) G) :=
  resid_read arg10 arg2 G X 0 (pb_k0_t1 (F := Ideal) 𝒱 c bd i arg2 harg2 arg3 harg3 arg4 harg4 arg5 harg5 arg6 harg6 arg7 harg7 arg8 harg8 arg9 harg9 arg10 harg10 h X G) rfl k0_pay27
    (fun a b x => by pointwise [k0_pay27])
    (fun k hk => ⟨_, _, _, _, (offs1 ⟨k, hk⟩).1, (offs1 ⟨k, hk⟩).2, (pb_k0_t1_succ 𝒱 c bd i arg2 harg2 arg3 harg3 arg4 harg4 arg5 harg5 arg6 harg6 arg7 harg7 arg8 harg8 arg9 harg9 arg10 harg10 h X G ⟨k, hk⟩).trans
      (by unfold tripL_k0_t1 trip_k0_t1; dsimp only; sl_unfold_words; rfl)⟩)

theorem offs2 : ∀ k : Fin k0_t2_loop.trips, k0_off3 k = ![64 * k.val, 512] ∧ k0_off4 k = ![64 * k.val, 0] := by
  decide +kernel

/-- Loop 2 adds to the columns from 512 on. -/
theorem loop2 (h : k0_cond4 i = 1#1) :
    arg10.view.read (Elt Ideal) (arg10.view.writes (Elt Ideal) G
        (pb_k0_t2 (F := Ideal) 𝒱 c bd i arg2 harg2 arg3 harg3 arg4 harg4 arg5 harg5 arg6 harg6 arg7 harg7 arg8 harg8 arg9 harg9 arg10 harg10 h X G k0_t2_loop.trips))
      = resid 512 (arg2.view.read (Elt Ideal) X) (arg10.view.read (Elt Ideal) G) :=
  resid_read arg10 arg2 G X 512 (pb_k0_t2 (F := Ideal) 𝒱 c bd i arg2 harg2 arg3 harg3 arg4 harg4 arg5 harg5 arg6 harg6 arg7 harg7 arg8 harg8 arg9 harg9 arg10 harg10 h X G) rfl k0_pay28
    (fun a b x => by pointwise [k0_pay28])
    (fun k hk => ⟨_, _, _, _, (offs2 ⟨k, hk⟩).1, (offs2 ⟨k, hk⟩).2, (pb_k0_t2_succ 𝒱 c bd i arg2 harg2 arg3 harg3 arg4 harg4 arg5 harg5 arg6 harg6 arg7 harg7 arg8 harg8 arg9 harg9 arg10 harg10 h X G ⟨k, hk⟩).trans
      (by unfold tripL_k0_t2 trip_k0_t2; dsimp only; sl_unfold_words; rfl)⟩)

theorem offs3 : ∀ k : Fin k0_t3_loop.trips, k0_off5 k = ![64 * k.val, 1024] ∧ k0_off6 k = ![64 * k.val, 0] := by
  decide +kernel

/-- Loop 3 adds to the columns from 1024 on. -/
theorem loop3 (h : k0_cond5 i = 1#1) :
    arg10.view.read (Elt Ideal) (arg10.view.writes (Elt Ideal) G
        (pb_k0_t3 (F := Ideal) 𝒱 c bd i arg2 harg2 arg3 harg3 arg4 harg4 arg5 harg5 arg6 harg6 arg7 harg7 arg8 harg8 arg9 harg9 arg10 harg10 h X G k0_t3_loop.trips))
      = resid 1024 (arg2.view.read (Elt Ideal) X) (arg10.view.read (Elt Ideal) G) :=
  resid_read arg10 arg2 G X 1024 (pb_k0_t3 (F := Ideal) 𝒱 c bd i arg2 harg2 arg3 harg3 arg4 harg4 arg5 harg5 arg6 harg6 arg7 harg7 arg8 harg8 arg9 harg9 arg10 harg10 h X G) rfl k0_pay29
    (fun a b x => by pointwise [k0_pay29])
    (fun k hk => ⟨_, _, _, _, (offs3 ⟨k, hk⟩).1, (offs3 ⟨k, hk⟩).2, (pb_k0_t3_succ 𝒱 c bd i arg2 harg2 arg3 harg3 arg4 harg4 arg5 harg5 arg6 harg6 arg7 harg7 arg8 harg8 arg9 harg9 arg10 harg10 h X G ⟨k, hk⟩).trans
      (by unfold tripL_k0_t3 trip_k0_t3; dsimp only; sl_unfold_words; rfl)⟩)

theorem offs4 : ∀ k : Fin k0_t4_loop.trips, k0_off7 k = ![64 * k.val, 1536] ∧ k0_off8 k = ![64 * k.val, 0] := by
  decide +kernel

/-- Loop 4 adds to the columns from 1536 on. -/
theorem loop4 (h : k0_cond6 i = 1#1) :
    arg10.view.read (Elt Ideal) (arg10.view.writes (Elt Ideal) G
        (pb_k0_t4 (F := Ideal) 𝒱 c bd i arg2 harg2 arg3 harg3 arg4 harg4 arg5 harg5 arg6 harg6 arg7 harg7 arg8 harg8 arg9 harg9 arg10 harg10 h X G k0_t4_loop.trips))
      = resid 1536 (arg2.view.read (Elt Ideal) X) (arg10.view.read (Elt Ideal) G) :=
  resid_read arg10 arg2 G X 1536 (pb_k0_t4 (F := Ideal) 𝒱 c bd i arg2 harg2 arg3 harg3 arg4 harg4 arg5 harg5 arg6 harg6 arg7 harg7 arg8 harg8 arg9 harg9 arg10 harg10 h X G) rfl k0_pay30
    (fun a b x => by pointwise [k0_pay30])
    (fun k hk => ⟨_, _, _, _, (offs4 ⟨k, hk⟩).1, (offs4 ⟨k, hk⟩).2, (pb_k0_t4_succ 𝒱 c bd i arg2 harg2 arg3 harg3 arg4 harg4 arg5 harg5 arg6 harg6 arg7 harg7 arg8 harg8 arg9 harg9 arg10 harg10 h X G ⟨k, hk⟩).trans
      (by unfold tripL_k0_t4 trip_k0_t4; dsimp only; sl_unfold_words; rfl)⟩)

theorem offs5 : ∀ k : Fin k0_t5_loop.trips, k0_off9 k = ![64 * k.val, 2048] ∧ k0_off10 k = ![64 * k.val, 0] := by
  decide +kernel

/-- Loop 5 adds to the columns from 2048 on. -/
theorem loop5 (h : k0_cond7 i = 1#1) :
    arg10.view.read (Elt Ideal) (arg10.view.writes (Elt Ideal) G
        (pb_k0_t5 (F := Ideal) 𝒱 c bd i arg2 harg2 arg3 harg3 arg4 harg4 arg5 harg5 arg6 harg6 arg7 harg7 arg8 harg8 arg9 harg9 arg10 harg10 h X G k0_t5_loop.trips))
      = resid 2048 (arg2.view.read (Elt Ideal) X) (arg10.view.read (Elt Ideal) G) :=
  resid_read arg10 arg2 G X 2048 (pb_k0_t5 (F := Ideal) 𝒱 c bd i arg2 harg2 arg3 harg3 arg4 harg4 arg5 harg5 arg6 harg6 arg7 harg7 arg8 harg8 arg9 harg9 arg10 harg10 h X G) rfl k0_pay31
    (fun a b x => by pointwise [k0_pay31])
    (fun k hk => ⟨_, _, _, _, (offs5 ⟨k, hk⟩).1, (offs5 ⟨k, hk⟩).2, (pb_k0_t5_succ 𝒱 c bd i arg2 harg2 arg3 harg3 arg4 harg4 arg5 harg5 arg6 harg6 arg7 harg7 arg8 harg8 arg9 harg9 arg10 harg10 h X G ⟨k, hk⟩).trans
      (by unfold tripL_k0_t5 trip_k0_t5; dsimp only; sl_unfold_words; rfl)⟩)

theorem offs6 : ∀ k : Fin k0_t6_loop.trips, k0_off11 k = ![64 * k.val, 2560] ∧ k0_off12 k = ![64 * k.val, 0] := by
  decide +kernel

/-- Loop 6 adds to the columns from 2560 on. -/
theorem loop6 (h : k0_cond8 i = 1#1) :
    arg10.view.read (Elt Ideal) (arg10.view.writes (Elt Ideal) G
        (pb_k0_t6 (F := Ideal) 𝒱 c bd i arg2 harg2 arg3 harg3 arg4 harg4 arg5 harg5 arg6 harg6 arg7 harg7 arg8 harg8 arg9 harg9 arg10 harg10 h X G k0_t6_loop.trips))
      = resid 2560 (arg2.view.read (Elt Ideal) X) (arg10.view.read (Elt Ideal) G) :=
  resid_read arg10 arg2 G X 2560 (pb_k0_t6 (F := Ideal) 𝒱 c bd i arg2 harg2 arg3 harg3 arg4 harg4 arg5 harg5 arg6 harg6 arg7 harg7 arg8 harg8 arg9 harg9 arg10 harg10 h X G) rfl k0_pay32
    (fun a b x => by pointwise [k0_pay32])
    (fun k hk => ⟨_, _, _, _, (offs6 ⟨k, hk⟩).1, (offs6 ⟨k, hk⟩).2, (pb_k0_t6_succ 𝒱 c bd i arg2 harg2 arg3 harg3 arg4 harg4 arg5 harg5 arg6 harg6 arg7 harg7 arg8 harg8 arg9 harg9 arg10 harg10 h X G ⟨k, hk⟩).trans
      (by unfold tripL_k0_t6 trip_k0_t6; dsimp only; sl_unfold_words; rfl)⟩)

theorem offs7 : ∀ k : Fin k0_t7_loop.trips, k0_off13 k = ![64 * k.val, 3072] ∧ k0_off14 k = ![64 * k.val, 0] := by
  decide +kernel

/-- Loop 7 adds to the columns from 3072 on. -/
theorem loop7 (h : k0_cond9 i = 1#1) :
    arg10.view.read (Elt Ideal) (arg10.view.writes (Elt Ideal) G
        (pb_k0_t7 (F := Ideal) 𝒱 c bd i arg2 harg2 arg3 harg3 arg4 harg4 arg5 harg5 arg6 harg6 arg7 harg7 arg8 harg8 arg9 harg9 arg10 harg10 h X G k0_t7_loop.trips))
      = resid 3072 (arg2.view.read (Elt Ideal) X) (arg10.view.read (Elt Ideal) G) :=
  resid_read arg10 arg2 G X 3072 (pb_k0_t7 (F := Ideal) 𝒱 c bd i arg2 harg2 arg3 harg3 arg4 harg4 arg5 harg5 arg6 harg6 arg7 harg7 arg8 harg8 arg9 harg9 arg10 harg10 h X G) rfl k0_pay33
    (fun a b x => by pointwise [k0_pay33])
    (fun k hk => ⟨_, _, _, _, (offs7 ⟨k, hk⟩).1, (offs7 ⟨k, hk⟩).2, (pb_k0_t7_succ 𝒱 c bd i arg2 harg2 arg3 harg3 arg4 harg4 arg5 harg5 arg6 harg6 arg7 harg7 arg8 harg8 arg9 harg9 arg10 harg10 h X G ⟨k, hk⟩).trans
      (by unfold tripL_k0_t7 trip_k0_t7; dsimp only; sl_unfold_words; rfl)⟩)

theorem offs8 : ∀ k : Fin k0_t8_loop.trips, k0_off15 k = ![64 * k.val, 3584] ∧ k0_off16 k = ![64 * k.val, 0] := by
  decide +kernel

/-- Loop 8 adds to the columns from 3584 on. -/
theorem loop8 (h : k0_cond10 i = 1#1) :
    arg10.view.read (Elt Ideal) (arg10.view.writes (Elt Ideal) G
        (pb_k0_t8 (F := Ideal) 𝒱 c bd i arg2 harg2 arg3 harg3 arg4 harg4 arg5 harg5 arg6 harg6 arg7 harg7 arg8 harg8 arg9 harg9 arg10 harg10 h X G k0_t8_loop.trips))
      = resid 3584 (arg2.view.read (Elt Ideal) X) (arg10.view.read (Elt Ideal) G) :=
  resid_read arg10 arg2 G X 3584 (pb_k0_t8 (F := Ideal) 𝒱 c bd i arg2 harg2 arg3 harg3 arg4 harg4 arg5 harg5 arg6 harg6 arg7 harg7 arg8 harg8 arg9 harg9 arg10 harg10 h X G) rfl k0_pay1
    (fun a b x => by pointwise [k0_pay1])
    (fun k hk => ⟨_, _, _, _, (offs8 ⟨k, hk⟩).1, (offs8 ⟨k, hk⟩).2, (pb_k0_t8_succ 𝒱 c bd i arg2 harg2 arg3 harg3 arg4 harg4 arg5 harg5 arg6 harg6 arg7 harg7 arg8 harg8 arg9 harg9 arg10 harg10 h X G ⟨k, hk⟩).trans
      (by unfold tripL_k0_t8 trip_k0_t8; dsimp only; sl_unfold_words; rfl)⟩)

end OutSampleVal
-- ==== Proof.OutSampleSteps.lean ====
module
public import proofs.«01_k».proof.Proof.Gen.OutprojSampleIdeal.Frame
public import proofs.«01_k».proof.Proof.OutSampleLoops

/-! What the output projection leaves in its accumulator at each of the first eight points of a row
block: the block of the mixers' width added to what was there, and `α·x` added to one band of columns. -/

@[expose] public section
set_option maxRecDepth 16384
noncomputable section
open Idealize.ShloMosaic Idealize.ShloMosaic.TcCoe Idealize.ShloMosaic.Tactic
open Cert.OutprojSampleIdeal Cert.OutprojSampleIdeal.Gen
namespace OutSampleVal

theorem hz : (![0, 0] : Fin 2 → Nat) = fun _ => 0 := funext fun a => by fin_cases a <;> rfl
theorem hz3 : (![0, 0, 0] : Fin 3 → Nat) = fun _ => 0 := funext fun a => by fin_cases a <;> rfl

/-- Pieces of a loop over one whole store: read anywhere, they are what the loop makes of the stored
    block. -/
theorem read_loop_over {κ : Kind} {sp : Space} (v : View sig κ sp S1024x4096 .f32)
    (p L : List (View.Piece (Elt Ideal) S1024x4096 .f32)) (w : Vec Ideal S1024x4096 .f32)
    (hL : View.canon L = w) (C : ℕ) (u : Vec Ideal S1024x512 .f32)
    (h : v.read (Elt Ideal) (v.writes (Elt Ideal) (v.writes (Elt Ideal) v.junk L) p)
      = resid C u (v.read (Elt Ideal) (v.writes (Elt Ideal) v.junk L))) :
    VS0_0.read (Elt Ideal) (VS0_0.writes (Elt Ideal) VS0_0.junk (p ++ L)) = resid C u w := by
  rw [View.read_writes_junk_eq_canon, ← View.read_writes_junk_eq_canon v, View.writes_append, h,
    View.read_writes_junk_eq_canon, hL]

variable (c : Dev nD) (i : grid0.Coords) (arg2 : Memref sig .tc .vmem S1024x512 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x1024x4096 .bf16) (harg5 : arg5.IsWhole) (arg6 : Memref sig .tc .vmem S1x1x4096 .f32) (harg6 : arg6.IsWhole) (arg7 : Memref sig .tc .vmem S1x1x4096 .f32) (harg7 : arg7.IsWhole) (arg8 : Memref sig .tc .vmem S128x4096 .f32) (harg8 : arg8.IsWhole) (arg9 : Memref sig .tc .vmem S128x4096 .bf16) (harg9 : arg9.IsWhole) (arg10 : Memref sig .tc .vmem S1024x4096 .f32) (harg10 : arg10.IsWhole)
  (x0 : Vec Ideal S1024x512 .f32) (x1 : Vec Ideal S1024x1024 .bf16) (x2 : Vec Ideal S1024x1024 .bf16) (x3 : Vec Ideal S1x1024x4096 .bf16) (x4 : Vec Ideal S1x1x4096 .f32) (x5 : Vec Ideal S1x1x4096 .f32) (xs0 : Vec Ideal S1024x4096 .f32)

theorem sout_A (hc0 : cond0_0 i) (hc1 : cond0_1 i) (hc2 : cond0_2 i) (hc3 : ¬cond0_3 i) (hc4 : ¬cond0_4 i) (hc5 : ¬cond0_5 i) (hc6 : ¬cond0_6 i) (hc7 : ¬cond0_7 i) (hc8 : ¬cond0_8 i) (hc9 : ¬cond0_9 i) (hc10 : ¬cond0_10 i) :
    sout0_A_0 (F := Ideal) c i arg2 harg2 arg3 harg3 arg4 harg4 arg5 harg5 arg6 harg6 arg7 harg7 arg8 harg8 arg9 harg9 arg10 harg10 hc0 hc1 hc2 hc3 hc4 hc5 hc6 hc7 hc8 hc9 hc10 x0 x1 x2 x3 x4 x5
      = resid 0 x0 (k0_pay26 i x1 x2 (k0_pay25 (F := Ideal)) x3) := by
  unfold sout0_A_0 kernelRun0_A
  dsimp only
  sl_unfold_words
  refine read_loop_over arg10.view _ _ _ ?_ 0 x0 ((loop1 Variants.none c none i arg2 harg2 arg3 harg3 arg4 harg4 arg5 harg5 arg6 harg6 arg7 harg7 arg8 harg8 arg9 harg9 arg10 harg10 _ _ _).trans ?_)
  · rw [View.canon_cons_unit_zero hz]
    simp only [View.readAt_eq_ld, View.readCov_unit_zero (S := S1024x4096) _ hz, harg2.read_unread, harg3.read_unread, harg4.read_unread, harg5.read_unread, harg6.read_unread, harg10.read_unread, View.ld_unit_zero (S := S1024x4096) hz, View.ld_unit_zero (S := S1024x1024) hz, View.ld_unit_zero (S := S1x1024x4096) hz3]
  · rw [harg2.read_unread]

theorem sout_B (hc0 : ¬cond0_0 i) (hc1 : cond0_1 i) (hc2 : ¬cond0_2 i) (hc3 : cond0_3 i) (hc4 : ¬cond0_4 i) (hc5 : ¬cond0_5 i) (hc6 : ¬cond0_6 i) (hc7 : ¬cond0_7 i) (hc8 : ¬cond0_8 i) (hc9 : ¬cond0_9 i) (hc10 : ¬cond0_10 i) :
    sout0_B_0 (F := Ideal) c i arg2 harg2 arg3 harg3 arg4 harg4 arg5 harg5 arg6 harg6 arg7 harg7 arg8 harg8 arg9 harg9 arg10 harg10 hc0 hc1 hc2 hc3 hc4 hc5 hc6 hc7 hc8 hc9 hc10 x0 x1 x2 x3 x4 x5 xs0
      = resid 512 x0 (k0_pay26 i x1 x2 xs0 x3) := by
  unfold sout0_B_0 kernelRun0_B
  dsimp only
  sl_unfold_words
  refine read_loop_over arg10.view _ _ _ ?_ 512 x0 ((loop2 Variants.none c none i arg2 harg2 arg3 harg3 arg4 harg4 arg5 harg5 arg6 harg6 arg7 harg7 arg8 harg8 arg9 harg9 arg10 harg10 _ _ _).trans ?_)
  · rw [View.canon_cons_unit_zero hz]
    simp only [View.readAt_eq_ld, View.readCov_unit_zero (S := S1024x4096) _ hz, harg2.read_unread, harg3.read_unread, harg4.read_unread, harg5.read_unread, harg6.read_unread, harg10.read_unread, View.ld_unit_zero (S := S1024x4096) hz, View.ld_unit_zero (S := S1024x1024) hz, View.ld_unit_zero (S := S1x1024x4096) hz3]
  · rw [harg2.read_unread]

theorem sout_C (hc0 : ¬cond0_0 i) (hc1 : cond0_1 i) (hc2 : ¬cond0_2 i) (hc3 : ¬cond0_3 i) (hc4 : cond0_4 i) (hc5 : ¬cond0_5 i) (hc6 : ¬cond0_6 i) (hc7 : ¬cond0_7 i) (hc8 : ¬cond0_8 i) (hc9 : ¬cond0_9 i) (hc10 : ¬cond0_10 i) :
    sout0_C_0 (F := Ideal) c i arg2 harg2 arg3 harg3 arg4 harg4 arg5 harg5 arg6 harg6 arg7 harg7 arg8 harg8 arg9 harg9 arg10 harg10 hc0 hc1 hc2 hc3 hc4 hc5 hc6 hc7 hc8 hc9 hc10 x0 x1 x2 x3 x4 x5 xs0
      = resid 1024 x0 (k0_pay26 i x1 x2 xs0 x3) := by
  unfold sout0_C_0 kernelRun0_C
  dsimp only
  sl_unfold_words
  refine read_loop_over arg10.view _ _ _ ?_ 1024 x0 ((loop3 Variants.none c none i arg2 harg2 arg3 harg3 arg4 harg4 arg5 harg5 arg6 harg6 arg7 harg7 arg8 harg8 arg9 harg9 arg10 harg10 _ _ _).trans ?_)
  · rw [View.canon_cons_unit_zero hz]
    simp only [View.readAt_eq_ld, View.readCov_unit_zero (S := S1024x4096) _ hz, harg2.read_unread, harg3.read_unread, harg4.read_unread, harg5.read_unread, harg6.read_unread, harg10.read_unread, View.ld_unit_zero (S := S1024x4096) hz, View.ld_unit_zero (S := S1024x1024) hz, View.ld_unit_zero (S := S1x1024x4096) hz3]
  · rw [harg2.read_unread]

theorem sout_D (hc0 : ¬cond0_0 i) (hc1 : cond0_1 i) (hc2 : ¬cond0_2 i) (hc3 : ¬cond0_3 i) (hc4 : ¬cond0_4 i) (hc5 : cond0_5 i) (hc6 : ¬cond0_6 i) (hc7 : ¬cond0_7 i) (hc8 : ¬cond0_8 i) (hc9 : ¬cond0_9 i) (hc10 : ¬cond0_10 i) :
    sout0_D_0 (F := Ideal) c i arg2 harg2 arg3 harg3 arg4 harg4 arg5 harg5 arg6 harg6 arg7 harg7 arg8 harg8 arg9 harg9 arg10 harg10 hc0 hc1 hc2 hc3 hc4 hc5 hc6 hc7 hc8 hc9 hc10 x0 x1 x2 x3 x4 x5 xs0
      = resid 1536 x0 (k0_pay26 i x1 x2 xs0 x3) := by
  unfold sout0_D_0 kernelRun0_D
  dsimp only
  sl_unfold_words
  refine read_loop_over arg10.view _ _ _ ?_ 1536 x0 ((loop4 Variants.none c none i arg2 harg2 arg3 harg3 arg4 harg4 arg5 harg5 arg6 harg6 arg7 harg7 arg8 harg8 arg9 harg9 arg10 harg10 _ _ _).trans ?_)
  · rw [View.canon_cons_unit_zero hz]
    simp only [View.readAt_eq_ld, View.readCov_unit_zero (S := S1024x4096) _ hz, harg2.read_unread, harg3.read_unread, harg4.read_unread, harg5.read_unread, harg6.read_unread, harg10.read_unread, View.ld_unit_zero (S := S1024x4096) hz, View.ld_unit_zero (S := S1024x1024) hz, View.ld_unit_zero (S := S1x1024x4096) hz3]
  · rw [harg2.read_unread]

theorem sout_E (hc0 : ¬cond0_0 i) (hc1 : cond0_1 i) (hc2 : ¬cond0_2 i) (hc3 : ¬cond0_3 i) (hc4 : ¬cond0_4 i) (hc5 : ¬cond0_5 i) (hc6 : cond0_6 i) (hc7 : ¬cond0_7 i) (hc8 : ¬cond0_8 i) (hc9 : ¬cond0_9 i) (hc10 : ¬cond0_10 i) :
    sout0_E_0 (F := Ideal) c i arg2 harg2 arg3 harg3 arg4 harg4 arg5 harg5 arg6 harg6 arg7 harg7 arg8 harg8 arg9 harg9 arg10 harg10 hc0 hc1 hc2 hc3 hc4 hc5 hc6 hc7 hc8 hc9 hc10 x0 x1 x2 x3 x4 x5 xs0
      = resid 2048 x0 (k0_pay26 i x1 x2 xs0 x3) := by
  unfold sout0_E_0 kernelRun0_E
  dsimp only
  sl_unfold_words
  refine read_loop_over arg10.view _ _ _ ?_ 2048 x0 ((loop5 Variants.none c none i arg2 harg2 arg3 harg3 arg4 harg4 arg5 harg5 arg6 harg6 arg7 harg7 arg8 harg8 arg9 harg9 arg10 harg10 _ _ _).trans ?_)
  · rw [View.canon_cons_unit_zero hz]
    simp only [View.readAt_eq_ld, View.readCov_unit_zero (S := S1024x4096) _ hz, harg2.read_unread, harg3.read_unread, harg4.read_unread, harg5.read_unread, harg6.read_unread, harg10.read_unread, View.ld_unit_zero (S := S1024x4096) hz, View.ld_unit_zero (S := S1024x1024) hz, View.ld_unit_zero (S := S1x1024x4096) hz3]
  · rw [harg2.read_unread]

theorem sout_F (hc0 : ¬cond0_0 i) (hc1 : cond0_1 i) (hc2 : ¬cond0_2 i) (hc3 : ¬cond0_3 i) (hc4 : ¬cond0_4 i) (hc5 : ¬cond0_5 i) (hc6 : ¬cond0_6 i) (hc7 : cond0_7 i) (hc8 : ¬cond0_8 i) (hc9 : ¬cond0_9 i) (hc10 : ¬cond0_10 i) :
    sout0_F_0 (F := Ideal) c i arg2 harg2 arg3 harg3 arg4 harg4 arg5 harg5 arg6 harg6 arg7 harg7 arg8 harg8 arg9 harg9 arg10 harg10 hc0 hc1 hc2 hc3 hc4 hc5 hc6 hc7 hc8 hc9 hc10 x0 x1 x2 x3 x4 x5 xs0
      = resid 2560 x0 (k0_pay26 i x1 x2 xs0 x3) := by
  unfold sout0_F_0 kernelRun0_F
  dsimp only
  sl_unfold_words
  refine read_loop_over arg10.view _ _ _ ?_ 2560 x0 ((loop6 Variants.none c none i arg2 harg2 arg3 harg3 arg4 harg4 arg5 harg5 arg6 harg6 arg7 harg7 arg8 harg8 arg9 harg9 arg10 harg10 _ _ _).trans ?_)
  · rw [View.canon_cons_unit_zero hz]
    simp only [View.readAt_eq_ld, View.readCov_unit_zero (S := S1024x4096) _ hz, harg2.read_unread, harg3.read_unread, harg4.read_unread, harg5.read_unread, harg6.read_unread, harg10.read_unread, View.ld_unit_zero (S := S1024x4096) hz, View.ld_unit_zero (S := S1024x1024) hz, View.ld_unit_zero (S := S1x1024x4096) hz3]
  · rw [harg2.read_unread]

theorem sout_G (hc0 : ¬cond0_0 i) (hc1 : cond0_1 i) (hc2 : ¬cond0_2 i) (hc3 : ¬cond0_3 i) (hc4 : ¬cond0_4 i) (hc5 : ¬cond0_5 i) (hc6 : ¬cond0_6 i) (hc7 : ¬cond0_7 i) (hc8 : cond0_8 i) (hc9 : ¬cond0_9 i) (hc10 : ¬cond0_10 i) :
    sout0_G_0 (F := Ideal) c i arg2 harg2 arg3 harg3 arg4 harg4 arg5 harg5 arg6 harg6 arg7 harg7 arg8 harg8 arg9 harg9 arg10 harg10 hc0 hc1 hc2 hc3 hc4 hc5 hc6 hc7 hc8 hc9 hc10 x0 x1 x2 x3 x4 x5 xs0
      = resid 3072 x0 (k0_pay26 i x1 x2 xs0 x3) := by
  unfold sout0_G_0 kernelRun0_G
  dsimp only
  sl_unfold_words
  refine read_loop_over arg10.view _ _ _ ?_ 3072 x0 ((loop7 Variants.none c none i arg2 harg2 arg3 harg3 arg4 harg4 arg5 harg5 arg6 harg6 arg7 harg7 arg8 harg8 arg9 harg9 arg10 harg10 _ _ _).trans ?_)
  · rw [View.canon_cons_unit_zero hz]
    simp only [View.readAt_eq_ld, View.readCov_unit_zero (S := S1024x4096) _ hz, harg2.read_unread, harg3.read_unread, harg4.read_unread, harg5.read_unread, harg6.read_unread, harg10.read_unread, View.ld_unit_zero (S := S1024x4096) hz, View.ld_unit_zero (S := S1024x1024) hz, View.ld_unit_zero (S := S1x1024x4096) hz3]
  · rw [harg2.read_unread]

theorem sout_H (hc0 : ¬cond0_0 i) (hc1 : cond0_1 i) (hc2 : ¬cond0_2 i) (hc3 : ¬cond0_3 i) (hc4 : ¬cond0_4 i) (hc5 : ¬cond0_5 i) (hc6 : ¬cond0_6 i) (hc7 : ¬cond0_7 i) (hc8 : ¬cond0_8 i) (hc9 : cond0_9 i) (hc10 : ¬cond0_10 i) :
    sout0_H_0 (F := Ideal) c i arg2 harg2 arg3 harg3 arg4 harg4 arg5 harg5 arg6 harg6 arg7 harg7 arg8 harg8 arg9 harg9 arg10 harg10 hc0 hc1 hc2 hc3 hc4 hc5 hc6 hc7 hc8 hc9 hc10 x0 x1 x2 x3 x4 x5 xs0
      = resid 3584 x0 (k0_pay26 i x1 x2 xs0 x3) := by
  unfold sout0_H_0 kernelRun0_H
  dsimp only
  sl_unfold_words
  refine read_loop_over arg10.view _ _ _ ?_ 3584 x0 ((loop8 Variants.none c none i arg2 harg2 arg3 harg3 arg4 harg4 arg5 harg5 arg6 harg6 arg7 harg7 arg8 harg8 arg9 harg9 arg10 harg10 _ _ _).trans ?_)
  · rw [View.canon_cons_unit_zero hz]
    simp only [View.readAt_eq_ld, View.readCov_unit_zero (S := S1024x4096) _ hz, harg2.read_unread, harg3.read_unread, harg4.read_unread, harg5.read_unread, harg6.read_unread, harg10.read_unread, View.ld_unit_zero (S := S1024x4096) hz, View.ld_unit_zero (S := S1024x1024) hz, View.ld_unit_zero (S := S1x1024x4096) hz3]
  · rw [harg2.read_unread]

end OutSampleVal
-- ==== Proof.OutSampleMath.lean ====
module
public import proofs.«01_k».proof.Proof.FfnMath

/-! The output projection as mathematics: the residual sum of the two mixers' projected outputs, whose
row normalisation is `FfnVal.lnRow`, and the sum over their width in blocks. -/

@[expose] public section
noncomputable section
open Idealize.ShloMosaic
open FfnVal (lnRow)
namespace OutSampleVal

/-- Two rows of 4096 end to end. -/
def cat (a u : Fin 4096 → EReal) (k : Fin 8192) : EReal :=
  if h : k.val < 4096 then a ⟨k.val, h⟩ else u ⟨k.val - 4096, by omega⟩

/-- The residual sum before normalisation, at one row and column. -/
def preNorm (x a u : Fin 4096 → EReal) (w : Fin 8192 → Fin 4096 → EReal) (q : Fin 4096) : EReal :=
  Ideal.ofBits .f32 0x3FB504F3#32 * x q + ∑ k, cat a u k * w k q

/-- The projection's result at token `r` and column `q`, of the six arrays it takes (the weights of layer 0). -/
def outAt (a0 a1 a2 : (⟨2, ![8192, 4096]⟩ : Shape).Idx → EReal)
    (a3 : (⟨3, ![2, 8192, 4096]⟩ : Shape).Idx → EReal) (a4 a5 : (⟨2, ![2, 4096]⟩ : Shape).Idx → EReal)
    (r : Fin 8192) (q : Fin 4096) : EReal :=
  lnRow (preNorm (fun l => a0 (ix2 r l)) (fun l => a1 (ix2 r l)) (fun l => a2 (ix2 r l)) (fun k l => a3 (ix3 0 k l)))
    (fun k => a4 (ix2 0 k)) (fun k => a5 (ix2 0 k)) q

/-- A sum over both mixers' width, in 8 blocks of 1024. -/
theorem sum_blocks (f : Fin 8192 → EReal) :
    ∑ k, f k = ∑ j : Fin 8, ∑ k : Fin 1024, f ⟨1024 * j.val + k.val, by omega⟩ := by
  rw [← Fintype.sum_prod_type']
  refine (Fintype.sum_equiv (finProdFinEquiv (m := 8) (n := 1024)) _ _ fun p => ?_).symm
  refine congrArg f (Fin.ext ?_)
  show 1024 * p.1.val + p.2.val = p.2.val + 1024 * p.1.val
  omega

end OutSampleVal
-- ==== Proof.OutSampleLn.lean ====
module
public import proofs.«01_k».proof.Proof.Gen.OutprojSampleIdeal.Frame
public import proofs.«01_k».proof.Proof.OutSampleSteps
public import proofs.«01_k».proof.Proof.OutSampleMath

/-! The last eight points of a row block: each normalises 128 rows of the accumulator, 16 rows at a
time, and stores them in both outputs' blocks. -/

@[expose] public section
set_option maxRecDepth 16384
noncomputable section
open Idealize.ShloMosaic Idealize.ShloMosaic.TcCoe Idealize.ShloMosaic.Tactic
open Cert.OutprojSampleIdeal Cert.OutprojSampleIdeal.Gen
open FfnVal (lnRow)
namespace OutSampleVal

/-- A block of rows normalised. -/
def lnPiece (g b : Vec Ideal S1x1x4096 .f32) (a : Vec Ideal S16x4096 .f32) : S16x4096.Idx → EReal :=
  fun x => lnRow (fun k => a (ix2 (n0 := 16) (n1 := 4096) (x 0) k))
    (fun k => g (ix3 0 0 k)) (fun k => b (ix3 0 0 k)) (x 1)

/-- The 128 rows normalised at the `s`-th of the last eight points. -/
def lnBlock (s : ℕ) (g b : Vec Ideal S1x1x4096 .f32) (a : Vec Ideal S1024x4096 .f32) : S128x4096.Idx → EReal :=
  fun y => lnRow (fun k => a (ix2 (n0 := 1024) (n1 := 4096) ⟨(128 * s + (y 0).val) % 1024, Nat.mod_lt _ (by decide)⟩ k))
    (fun k => g (ix3 0 0 k)) (fun k => b (ix3 0 0 k)) (y 1)

theorem off17_word : ∀ (j : Fin 16) (p : Fin 8), 8 ≤ j.val →
    (Scalar.indexCast (Scalar.addi (Scalar.muli (Scalar.subi (BitVec.ofNat 32 j.val) 8#32) 128#32)
      (Scalar.muli (BitVec.ofNat 32 p.val) 16#32)) : Index).toNat = 128 * (j.val - 8) + 16 * p.val := by
  decide +kernel

/-- The rows the `p`-th piece of a normalising point reads. -/
theorem off17 (i : grid0.Coords) (h : 8 ≤ (i 1).val) (p : Fin 8) :
    k0_off17 i (BitVec.ofNat 32 p.val) = ![128 * ((i 1).val - 8) + 16 * p.val, 0] := by
  show ![(Scalar.indexCast (Scalar.addi (Scalar.muli (Scalar.subi (BitVec.ofNat 32 (i 1).val) 8#32) 128#32)
      (Scalar.muli (BitVec.ofNat 32 p.val) 16#32)) : Index).toNat, 0] = _
  rw [off17_word (i 1) p h]

theorem inb16 : ∀ (p : Fin 8) (a : Fin 2), (![16 * p.val, 0] : Fin 2 → ℕ) a + S16x4096.size a ≤ S128x4096.size a := by
  decide

/-- One piece of a normalising point: its payload is the normalised block at the piece's rows. -/
theorem piece (pay : Vec Ideal S1x1x4096 .f32 → Vec Ideal S1x1x4096 .f32 → Vec Ideal S16x4096 .f32 → S16x4096.Idx → EReal)
    (hpay : ∀ g b a, pay g b a = lnPiece g b a)
    (arg6 : Memref sig .tc .vmem S1x1x4096 .f32) (harg6 : arg6.IsWhole)
    (arg7 : Memref sig .tc .vmem S1x1x4096 .f32) (harg7 : arg7.IsWhole)
    (arg10 : Memref sig .tc .vmem S1024x4096 .f32) (harg10 : arg10.IsWhole)
    (x4 x5 : Vec Ideal S1x1x4096 .f32) (xs0 : Vec Ideal S1024x4096 .f32)
    (s : ℕ) (hs : s < 8) (p : Fin 8) (off : Fin 2 → ℕ) (hoff : off = ![128 * s + 16 * p.val, 0])
    (inb6 inb7 inb)
    (x : S16x4096.Idx) :
    pay (arg6.view.readAt (Elt Ideal) (Rect.unit (s := S1x1x4096) ![0, 0, 0] S1x1x4096.size inb6).toLoadRect (harg6.unread x4))
      (arg7.view.readAt (Elt Ideal) (Rect.unit (s := S1x1x4096) ![0, 0, 0] S1x1x4096.size inb7).toLoadRect (harg7.unread x5))
      (arg10.view.readAt (Elt Ideal) (Rect.unit (s := S1024x4096) off S16x4096.size inb).toLoadRect (harg10.unread xs0)) x
    = lnBlock s x4 x5 xs0 ((Rect.unit (s := S128x4096) ![16 * p.val, 0] S16x4096.size (inb16 p)).emb x) := by
  subst hoff
  rw [hpay, View.readAt_eq_ld, View.readAt_eq_ld, View.readAt_eq_ld, harg6.read_unread, harg7.read_unread,
    harg10.read_unread, View.ld_unit_zero (S := S1x1x4096) hz3, View.ld_unit_zero (S := S1x1x4096) hz3]
  have hp := p.isLt
  have hx0 : (x 0).val < 16 := (x 0).isLt
  unfold lnPiece lnBlock
  have e1 : ((Rect.unit (s := S128x4096) ![16 * p.val, 0] S16x4096.size (inb16 p)).emb x) 1 = x 1 := by
    apply Fin.ext
    show 0 + 1 * (x 1).val = (x 1).val
    omega
  have e0 : (((Rect.unit (s := S128x4096) ![16 * p.val, 0] S16x4096.size (inb16 p)).emb x) 0).val = 16 * p.val + (x 0).val := by
    show 16 * p.val + 1 * (x 0).val = _
    omega
  rw [e1]
  congr 1
  funext k
  congr 1
  refine View.ld_unit_apply_of _ _ _ inb _ _ fun a => ?_
  match a with
  | ⟨0, _⟩ =>
    show (128 * s + _) % 1024 = 128 * s + 16 * p.val + (x 0).val
    rw [e0, Nat.mod_eq_of_lt (by omega)]; omega
  | ⟨1, _⟩ => show k.val = 0 + k.val; omega

variable (g b : Vec Ideal S1x1x4096 .f32) (a : Vec Ideal S16x4096 .f32)

/-- The first piece's arithmetic, for either output. -/
theorem pay_0 : k0_pay4 g b a = lnPiece g b a ∧ k0_pay5 g b a = lnPiece g b a := by
  constructor <;> (funext x; idx_vars x; unfold lnPiece lnRow; pointwise! [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24])

/-- The second piece's arithmetic, for either output. -/
theorem pay_1 : k0_pay6 (k0_pay2 g) (k0_pay3 b) a = lnPiece g b a ∧ k0_pay7 (k0_pay2 g) (k0_pay3 b) a = lnPiece g b a := by
  constructor <;> (funext x; idx_vars x; unfold lnPiece lnRow; pointwise! [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24])

/-- The third piece's arithmetic, for either output. -/
theorem pay_2 : k0_pay10 (k0_pay2 g) (k0_pay3 b) (k0_pay8 a) (k0_pay9 a) = lnPiece g b a ∧ k0_pay11 (k0_pay2 g) (k0_pay3 b) (k0_pay8 a) (k0_pay9 a) = lnPiece g b a := by
  constructor <;> (funext x; idx_vars x; unfold lnPiece lnRow; pointwise! [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24])

/-- The fourth piece's arithmetic, for either output. -/
theorem pay_3 : k0_pay12 (k0_pay2 g) (k0_pay3 b) a = lnPiece g b a ∧ k0_pay13 (k0_pay12 (k0_pay2 g) (k0_pay3 b) a) = lnPiece g b a := by
  constructor <;> (funext x; idx_vars x; unfold lnPiece lnRow; pointwise! [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24])

/-- The fifth piece's arithmetic, for either output. -/
theorem pay_4 : k0_pay14 (k0_pay2 g) (k0_pay3 b) a = lnPiece g b a ∧ k0_pay15 (k0_pay2 g) (k0_pay3 b) a = lnPiece g b a := by
  constructor <;> (funext x; idx_vars x; unfold lnPiece lnRow; pointwise! [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24])

/-- The sixth piece's arithmetic, for either output. -/
theorem pay_5 : k0_pay17 (k0_pay2 g) (k0_pay3 b) a (k0_pay16 a) = lnPiece g b a ∧ k0_pay18 (k0_pay2 g) (k0_pay3 b) a (k0_pay16 a) = lnPiece g b a := by
  constructor <;> (funext x; idx_vars x; unfold lnPiece lnRow; pointwise! [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24])

/-- The seventh piece's arithmetic, for either output. -/
theorem pay_6 : k0_pay21 (k0_pay2 g) (k0_pay3 b) (k0_pay19 a) (k0_pay20 a) = lnPiece g b a ∧ k0_pay22 (k0_pay2 g) (k0_pay3 b) (k0_pay19 a) (k0_pay20 a) = lnPiece g b a := by
  constructor <;> (funext x; idx_vars x; unfold lnPiece lnRow; pointwise! [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24])

/-- The eighth piece's arithmetic, for either output. -/
theorem pay_7 : k0_pay23 (k0_pay2 g) (k0_pay3 b) a = lnPiece g b a ∧ k0_pay24 (k0_pay2 g) (k0_pay3 b) a = lnPiece g b a := by
  constructor <;> (funext x; idx_vars x; unfold lnPiece lnRow; pointwise! [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24])

variable (c : Dev nD) (i : grid0.Coords) (arg2 : Memref sig .tc .vmem S1024x512 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x1024x4096 .bf16) (harg5 : arg5.IsWhole) (arg6 : Memref sig .tc .vmem S1x1x4096 .f32) (harg6 : arg6.IsWhole) (arg7 : Memref sig .tc .vmem S1x1x4096 .f32) (harg7 : arg7.IsWhole) (arg8 : Memref sig .tc .vmem S128x4096 .f32) (harg8 : arg8.IsWhole) (arg9 : Memref sig .tc .vmem S128x4096 .bf16) (harg9 : arg9.IsWhole) (arg10 : Memref sig .tc .vmem S1024x4096 .f32) (harg10 : arg10.IsWhole)
  (x0 : Vec Ideal S1024x512 .f32) (x1 : Vec Ideal S1024x1024 .bf16) (x2 : Vec Ideal S1024x1024 .bf16) (x3 : Vec Ideal S1x1024x4096 .bf16) (x4 : Vec Ideal S1x1x4096 .f32) (x5 : Vec Ideal S1x1x4096 .f32) (xs0 : Vec Ideal S1024x4096 .f32)

theorem out_I_6 (hc0 : ¬cond0_0 i) (hc1 : ¬cond0_1 i) (hc2 : ¬cond0_2 i) (hc3 : ¬cond0_3 i) (hc4 : ¬cond0_4 i) (hc5 : ¬cond0_5 i) (hc6 : ¬cond0_6 i) (hc7 : ¬cond0_7 i) (hc8 : ¬cond0_8 i) (hc9 : ¬cond0_9 i) (hc10 : cond0_10 i) (h8 : 8 ≤ (i 1).val) :
    out0_I_6 (F := Ideal) c i arg2 harg2 arg3 harg3 arg4 harg4 arg5 harg5 arg6 harg6 arg7 harg7 arg8 harg8 arg9 harg9 arg10 harg10 hc0 hc1 hc2 hc3 hc4 hc5 hc6 hc7 hc8 hc9 hc10 x0 x1 x2 x3 x4 x5 xs0
      = lnBlock ((i 1).val - 8) x4 x5 xs0 := by
  have hi : (i 1).val < 16 := (i 1).isLt
  unfold out0_I_6
  rw [View.read_writes_junk_eq_canon]
  funext y
  refine View.canon_apply_of_pieces (lnBlock ((i 1).val - 8) x4 x5 xs0) _ ?_ y (cover0_I_6 (F := Ideal) c i arg2 harg2 arg3 harg3 arg4 harg4 arg5 harg5 arg6 harg6 arg7 harg7 arg8 harg8 arg9 harg9 arg10 harg10 hc0 hc1 hc2 hc3 hc4 hc5 hc6 hc7 hc8 hc9 hc10 x0 x1 x2 x3 x4 x5 xs0 y)
  unfold kernelRun0_I
  dsimp only
  sl_unfold_words
  have key := fun pay hpay p off hoff inb x => piece pay hpay arg6 harg6 arg7 harg7 arg10 harg10 x4 x5 xs0
    ((i 1).val - 8) (by omega) p off hoff inb_S1x1x4096_S1x1x4096_0_0_0 inb_S1x1x4096_S1x1x4096_0_0_0 inb x
  refine List.forall_mem_cons.mpr ⟨fun x => key (fun g b a => k0_pay23 (k0_pay2 g) (k0_pay3 b) a) (fun g b a => (pay_7 g b a).1) 7 _ (off17 i h8 7) _ x, ?_⟩
  refine List.forall_mem_cons.mpr ⟨fun x => key (fun g b a => k0_pay21 (k0_pay2 g) (k0_pay3 b) (k0_pay19 a) (k0_pay20 a)) (fun g b a => (pay_6 g b a).1) 6 _ (off17 i h8 6) _ x, ?_⟩
  refine List.forall_mem_cons.mpr ⟨fun x => key (fun g b a => k0_pay17 (k0_pay2 g) (k0_pay3 b) a (k0_pay16 a)) (fun g b a => (pay_5 g b a).1) 5 _ (off17 i h8 5) _ x, ?_⟩
  refine List.forall_mem_cons.mpr ⟨fun x => key (fun g b a => k0_pay14 (k0_pay2 g) (k0_pay3 b) a) (fun g b a => (pay_4 g b a).1) 4 _ (off17 i h8 4) _ x, ?_⟩
  refine List.forall_mem_cons.mpr ⟨fun x => key (fun g b a => k0_pay12 (k0_pay2 g) (k0_pay3 b) a) (fun g b a => (pay_3 g b a).1) 3 _ (off17 i h8 3) _ x, ?_⟩
  refine List.forall_mem_cons.mpr ⟨fun x => key (fun g b a => k0_pay10 (k0_pay2 g) (k0_pay3 b) (k0_pay8 a) (k0_pay9 a)) (fun g b a => (pay_2 g b a).1) 2 _ (off17 i h8 2) _ x, ?_⟩
  refine List.forall_mem_cons.mpr ⟨fun x => key (fun g b a => k0_pay6 (k0_pay2 g) (k0_pay3 b) a) (fun g b a => (pay_1 g b a).1) 1 _ (off17 i h8 1) _ x, ?_⟩
  refine List.forall_mem_cons.mpr ⟨fun x => key (fun g b a => k0_pay4 g b a) (fun g b a => (pay_0 g b a).1) 0 _ (off17 i h8 0) _ x, ?_⟩
  intro pc h
  exact absurd h List.not_mem_nil

theorem out_I_7 (hc0 : ¬cond0_0 i) (hc1 : ¬cond0_1 i) (hc2 : ¬cond0_2 i) (hc3 : ¬cond0_3 i) (hc4 : ¬cond0_4 i) (hc5 : ¬cond0_5 i) (hc6 : ¬cond0_6 i) (hc7 : ¬cond0_7 i) (hc8 : ¬cond0_8 i) (hc9 : ¬cond0_9 i) (hc10 : cond0_10 i) (h8 : 8 ≤ (i 1).val) :
    out0_I_7 (F := Ideal) c i arg2 harg2 arg3 harg3 arg4 harg4 arg5 harg5 arg6 harg6 arg7 harg7 arg8 harg8 arg9 harg9 arg10 harg10 hc0 hc1 hc2 hc3 hc4 hc5 hc6 hc7 hc8 hc9 hc10 x0 x1 x2 x3 x4 x5 xs0
      = lnBlock ((i 1).val - 8) x4 x5 xs0 := by
  have hi : (i 1).val < 16 := (i 1).isLt
  unfold out0_I_7
  rw [View.read_writes_junk_eq_canon]
  funext y
  refine View.canon_apply_of_pieces (lnBlock ((i 1).val - 8) x4 x5 xs0) _ ?_ y (cover0_I_7 (F := Ideal) c i arg2 harg2 arg3 harg3 arg4 harg4 arg5 harg5 arg6 harg6 arg7 harg7 arg8 harg8 arg9 harg9 arg10 harg10 hc0 hc1 hc2 hc3 hc4 hc5 hc6 hc7 hc8 hc9 hc10 x0 x1 x2 x3 x4 x5 xs0 y)
  unfold kernelRun0_I
  dsimp only
  sl_unfold_words
  have key := fun pay hpay p off hoff inb x => piece pay hpay arg6 harg6 arg7 harg7 arg10 harg10 x4 x5 xs0
    ((i 1).val - 8) (by omega) p off hoff inb_S1x1x4096_S1x1x4096_0_0_0 inb_S1x1x4096_S1x1x4096_0_0_0 inb x
  refine List.forall_mem_cons.mpr ⟨fun x => key (fun g b a => k0_pay24 (k0_pay2 g) (k0_pay3 b) a) (fun g b a => (pay_7 g b a).2) 7 _ (off17 i h8 7) _ x, ?_⟩
  refine List.forall_mem_cons.mpr ⟨fun x => key (fun g b a => k0_pay22 (k0_pay2 g) (k0_pay3 b) (k0_pay19 a) (k0_pay20 a)) (fun g b a => (pay_6 g b a).2) 6 _ (off17 i h8 6) _ x, ?_⟩
  refine List.forall_mem_cons.mpr ⟨fun x => key (fun g b a => k0_pay18 (k0_pay2 g) (k0_pay3 b) a (k0_pay16 a)) (fun g b a => (pay_5 g b a).2) 5 _ (off17 i h8 5) _ x, ?_⟩
  refine List.forall_mem_cons.mpr ⟨fun x => key (fun g b a => k0_pay15 (k0_pay2 g) (k0_pay3 b) a) (fun g b a => (pay_4 g b a).2) 4 _ (off17 i h8 4) _ x, ?_⟩
  refine List.forall_mem_cons.mpr ⟨fun x => key (fun g b a => k0_pay13 (k0_pay12 (k0_pay2 g) (k0_pay3 b) a)) (fun g b a => (pay_3 g b a).2) 3 _ (off17 i h8 3) _ x, ?_⟩
  refine List.forall_mem_cons.mpr ⟨fun x => key (fun g b a => k0_pay11 (k0_pay2 g) (k0_pay3 b) (k0_pay8 a) (k0_pay9 a)) (fun g b a => (pay_2 g b a).2) 2 _ (off17 i h8 2) _ x, ?_⟩
  refine List.forall_mem_cons.mpr ⟨fun x => key (fun g b a => k0_pay7 (k0_pay2 g) (k0_pay3 b) a) (fun g b a => (pay_1 g b a).2) 1 _ (off17 i h8 1) _ x, ?_⟩
  refine List.forall_mem_cons.mpr ⟨fun x => key (fun g b a => k0_pay5 g b a) (fun g b a => (pay_0 g b a).2) 0 _ (off17 i h8 0) _ x, ?_⟩
  intro pc h
  exact absurd h List.not_mem_nil

end OutSampleVal
-- ==== Proof.OutSampleAcc.lean ====
module
public import proofs.«01_k».proof.Proof.OutSampleBlocks
public import proofs.«01_k».proof.Proof.OutSampleLn

/-! The output projection's accumulator after every grid point: the blocks of the mixers' width done so
far, and `α·x` in the bands of columns done so far. -/

@[expose] public section
set_option maxRecDepth 16384
noncomputable section
open Idealize.ShloMosaic Idealize.ShloMosaic.TcCoe Idealize.ShloMosaic.Tactic
open Cert.OutprojSampleIdeal Cert.OutprojSampleIdeal.Gen
namespace OutSampleVal

theorem cond_lt : ∀ j : Fin 16, Scalar.cmpi .slt (BitVec.ofNat 32 j.val) 4#32 = if j.val < 4 then 1#1 else 0#1 := by
  decide +kernel

theorem pay26_at (i : grid0.Coords) (x1 x2 : Vec Ideal S1024x1024 .bf16) (a : Vec Ideal S1024x4096 .f32)
    (x3 : Vec Ideal S1x1024x4096 .bf16) (p : Fin 1024) (q : Fin 4096) :
    k0_pay26 i x1 x2 a x3 (ix2 p q) = a (ix2 p q) +
      ∑ k : Fin 1024, (if (i 1).val < 4 then x1 (ix2 p k) else x2 (ix2 p k)) * x3 (ix3 0 k q) := by
  unfold k0_pay26
  rw [cond_lt (i 1)]
  by_cases h : (i 1).val < 4
  · simp only [if_pos h]
    pointwise! [Scalar.select]
  · simp only [if_neg h]
    pointwise! [Scalar.select]

theorem resid_at (C : ℕ) (u : Vec Ideal S1024x512 .f32) (a : Vec Ideal S1024x4096 .f32) (p : Fin 1024) (q : Fin 4096) :
    resid C u a (ix2 p q) = a (ix2 p q) + if h : C ≤ q.val ∧ q.val < C + 512 then
      Ideal.ofBits .f32 0x3FB504F3#32 * u (ix2 p ⟨q.val - C, by omega⟩) else 0 := by
  unfold resid
  by_cases h : C ≤ q.val ∧ q.val < C + 512
  · rw [dif_pos h]
    refine (if_pos h).trans ?_
    congr 3
    refine congrArg (ix2 p) (Fin.ext ?_)
    show (q.val - C) % 512 = q.val - C
    omega
  · rw [dif_neg h, add_zero]
    exact if_neg h

variable (m : (ℓ : Loc nD τ sig) → Buf (Elt Ideal) ℓ) (c : Dev nD)

/-- Token `r`'s row of the residual operand. -/
def xrow (r : Fin 8192) (l : Fin 4096) : EReal := m ((c.tc : Thread nD τ).loc main_arg0) (ix2 r l)

/-- Token `r`'s row of the first mixer's operand. -/
def arow (r : Fin 8192) (l : Fin 4096) : EReal := m ((c.tc : Thread nD τ).loc main_arg1) (ix2 r l)

/-- Token `r`'s row of the second mixer's operand. -/
def urow (r : Fin 8192) (l : Fin 4096) : EReal := m ((c.tc : Thread nD τ).loc main_arg2) (ix2 r l)

/-- Column `q` of the weight. -/
def wcol (q : Fin 4096) (k : Fin 8192) : EReal := m ((c.tc : Thread nD τ).loc main_arg3) (ix3 0 k q)

/-- What block `j` of the mixers' width adds at token `r`, column `q`. -/
def term (r : Fin 8192) (q : Fin 4096) (j : ℕ) : EReal :=
  ∑ k : Fin 1024, (if j < 4 then arow m c r ⟨1024 * min j 3 + k.val, by omega⟩
      else urow m c r ⟨1024 * min (j - 4) 3 + k.val, by omega⟩)
    * wcol m c q ⟨1024 * min j 7 + k.val, by omega⟩

/-- The accumulator after `n` blocks of the mixers' width, at token `r`, column `q`. -/
def accAt (r : Fin 8192) (q : Fin 4096) (n : ℕ) : EReal :=
  ∑ j ∈ Finset.range n, term m c r q j +
    if q.val < 512 * n then Ideal.ofBits .f32 0x3FB504F3#32 * xrow m c r q else 0

theorem coord1 : ∀ t : Fin cfg0.N, (grid0.coords t 1).val = t.val % 16 := by decide +kernel

/-- The blocks a point multiplies, at an index: the new block's part of the sum. -/
theorem pay26_pt (t : Fin cfg0.N) (a : Vec Ideal S1024x4096 .f32) (p : Fin 1024) (q : Fin 4096) :
    k0_pay26 (grid0.coords t) (iblk m c 1 t) (iblk m c 2 t) a (iblk m c 3 t) (ix2 p q)
      = a (ix2 p q) + term m c (tok t.val p) q (t.val % 16) := by
  rw [pay26_at, coord1]
  unfold term arow urow wcol
  simp only [blk1 m c t, blk2 m c t, blk3 m c t]

theorem accAt_succ (r : Fin 8192) (q : Fin 4096) (n : ℕ) (u : EReal)
    (hu : u = if 512 * n ≤ q.val ∧ q.val < 512 * n + 512 then Ideal.ofBits .f32 0x3FB504F3#32 * xrow m c r q else 0) :
    accAt m c r q n + term m c r q n + u = accAt m c r q (n + 1) := by
  subst hu
  unfold accAt
  rw [Finset.sum_range_succ, add_right_comm _ _ (term m c r q n), add_assoc (∑ j ∈ Finset.range n, term m c r q j + term m c r q n)]
  congr 1
  by_cases h : q.val < 512 * n
  · rw [if_pos h, if_neg (by omega), if_pos (by omega), add_zero]
  · rw [if_neg h, zero_add]
    congr 1
    exact propext ⟨fun h => by omega, fun h => by omega⟩

/-- The band a point among the first eight adds to. -/
theorem band_pt (t : Fin cfg0.N) (n : ℕ) (hn : t.val % 16 = n) (h7 : n ≤ 7) (p : Fin 1024) (q : Fin 4096) :
    (if h : 512 * n ≤ q.val ∧ q.val < 512 * n + 512 then
      Ideal.ofBits .f32 0x3FB504F3#32 * (iblk m c 0 t : Vec Ideal S1024x512 .f32) (ix2 p ⟨q.val - 512 * n, by omega⟩) else 0)
    = if 512 * n ≤ q.val ∧ q.val < 512 * n + 512 then Ideal.ofBits .f32 0x3FB504F3#32 * xrow m c (tok t.val p) q else 0 := by
  by_cases h : 512 * n ≤ q.val ∧ q.val < 512 * n + 512
  · rw [dif_pos h, if_pos h]
    congr 1
    refine (blk0 m c t p _).trans ?_
    unfold xrow
    congr 2
    apply Fin.ext
    show 512 * min (t.val % 16) 7 + (q.val - 512 * n) = q.val
    omega
  · rw [dif_neg h, if_neg h]

/-- The accumulator before a point's work: zero at a row block's first point, else what the point before left. -/
def prev (t : Fin cfg0.N) : Vec Ideal S1024x4096 .f32 :=
  if t.val % 16 = 0 then k0_pay25 (F := Ideal)
  else (outsAt0 m c (t.val - 1) (Nat.lt_of_le_of_lt (Nat.sub_le _ _) t.isLt)).2.2

/-- One of the first eight points of a row block. -/
theorem step_resid (t : Fin cfg0.N) (h : t.val % 16 ≤ 7) :
    (outsAt0 m c t.val t.isLt).2.2 = resid (512 * (t.val % 16)) (iblk m c 0 t)
      (k0_pay26 (grid0.coords t) (iblk m c 1 t) (iblk m c 2 t) (prev m c t) (iblk m c 3 t)) := by
  unfold prev
  have hj : t.val % 16 = 0 ∨ t.val % 16 = 1 ∨ t.val % 16 = 2 ∨ t.val % 16 = 3 ∨ t.val % 16 = 4 ∨ t.val % 16 = 5 ∨
    t.val % 16 = 6 ∨ t.val % 16 = 7 := by omega
  rcases hj with hj | hj | hj | hj | hj | hj | hj | hj
  · rw [if_pos hj, hj]
    exact (congrArg (fun o => o.2.2) (outsAt0_A m c t (by omega) (by omega) (by omega) (by omega) (by omega) (by omega) (by omega) (by omega) (by omega) (by omega) (by omega))).trans (sout_A ..)
  · rw [if_neg (by omega), hj]
    exact (congrArg (fun o => o.2.2) (outsAt0_B m c t (by omega) (by omega) (by omega) (by omega) (by omega) (by omega) (by omega) (by omega) (by omega) (by omega) (by omega))).trans (sout_B ..)
  · rw [if_neg (by omega), hj]
    exact (congrArg (fun o => o.2.2) (outsAt0_C m c t (by omega) (by omega) (by omega) (by omega) (by omega) (by omega) (by omega) (by omega) (by omega) (by omega) (by omega))).trans (sout_C ..)
  · rw [if_neg (by omega), hj]
    exact (congrArg (fun o => o.2.2) (outsAt0_D m c t (by omega) (by omega) (by omega) (by omega) (by omega) (by omega) (by omega) (by omega) (by omega) (by omega) (by omega))).trans (sout_D ..)
  · rw [if_neg (by omega), hj]
    exact (congrArg (fun o => o.2.2) (outsAt0_E m c t (by omega) (by omega) (by omega) (by omega) (by omega) (by omega) (by omega) (by omega) (by omega) (by omega) (by omega))).trans (sout_E ..)
  · rw [if_neg (by omega), hj]
    exact (congrArg (fun o => o.2.2) (outsAt0_F m c t (by omega) (by omega) (by omega) (by omega) (by omega) (by omega) (by omega) (by omega) (by omega) (by omega) (by omega))).trans (sout_F ..)
  · rw [if_neg (by omega), hj]
    exact (congrArg (fun o => o.2.2) (outsAt0_G m c t (by omega) (by omega) (by omega) (by omega) (by omega) (by omega) (by omega) (by omega) (by omega) (by omega) (by omega))).trans (sout_G ..)
  · rw [if_neg (by omega), hj]
    exact (congrArg (fun o => o.2.2) (outsAt0_H m c t (by omega) (by omega) (by omega) (by omega) (by omega) (by omega) (by omega) (by omega) (by omega) (by omega) (by omega))).trans (sout_H ..)

/-- A normalising point leaves the accumulator as it was. -/
theorem step_keep (t : Fin cfg0.N) (h : 8 ≤ t.val % 16) :
    (outsAt0 m c t.val t.isLt).2.2 = prev m c t := by
  unfold prev
  rw [if_neg (by omega)]
  exact congrArg (fun o => o.2.2) (outsAt0_I m c t (by omega) (by omega) (by omega) (by omega) (by omega) (by omega) (by omega) (by omega) (by omega) (by omega) (by omega))

/-- The accumulator after every point, by induction on the point. -/
theorem acc_eq : ∀ (n : ℕ) (h : n < cfg0.N) (p : Fin 1024) (q : Fin 4096),
    (outsAt0 m c n h).2.2 (ix2 p q) = accAt m c (tok n p) q (min (n % 16) 7 + 1) := by
  intro n
  induction n with
  | zero =>
    intro h p q
    have e := step_resid m c ⟨0, h⟩ (by show 0 % 16 ≤ 7; omega)
    refine (congrFun e (ix2 p q)).trans ?_
    rw [resid_at, pay26_pt, band_pt m c ⟨0, h⟩ _ rfl (by show 0 % 16 ≤ 7; omega)]
    refine Eq.trans ?_ (accAt_succ m c (tok 0 p) q 0 _ rfl)
    congr 2
    unfold accAt prev
    rw [if_pos (by rfl), Finset.sum_range_zero, if_neg (by omega)]
    pointwise [k0_pay25]
  | succ n ih =>
    intro h p q
    have hN : n + 1 < 128 := lt_of_lt_of_eq h N_0
    have hp : ∀ (h0 : (n + 1) % 16 ≠ 0), prev m c ⟨n + 1, h⟩ (ix2 p q) = accAt m c (tok (n + 1) p) q (min (n % 16) 7 + 1) := by
      intro h0
      unfold prev
      rw [if_neg h0]
      refine (ih (Nat.lt_of_succ_lt h) p q).trans ?_
      congr 1
      unfold tok
      congr 3
      have : n / 16 = (n + 1) / 16 := by omega
      rw [this]
    by_cases h7 : (n + 1) % 16 ≤ 7
    · refine (congrFun (step_resid m c ⟨n + 1, h⟩ h7) (ix2 p q)).trans ?_
      rw [resid_at, pay26_pt, band_pt m c ⟨n + 1, h⟩ _ rfl h7]
      rw [show min ((n + 1) % 16) 7 = (n + 1) % 16 by omega]
      refine Eq.trans ?_ (accAt_succ m c (tok (n + 1) p) q ((n + 1) % 16) _ rfl)
      congr 2
      by_cases h0 : (n + 1) % 16 = 0
      · unfold accAt prev
        rw [if_pos h0, h0, Finset.sum_range_zero, if_neg (by omega)]
        pointwise [k0_pay25]
      · rw [hp h0]
        congr 1
        omega
    · refine (congrFun (step_keep m c ⟨n + 1, h⟩ (by show 8 ≤ (n + 1) % 16; omega)) (ix2 p q)).trans ?_
      rw [hp (by omega)]
      congr 1
      omega

end OutSampleVal
-- ==== Proof.OutSampleOut.lean ====
module
public import proofs.«01_k».proof.Proof.OutSampleAcc

/-! The output projection's two result arrays: every block written back is the block of the layer's
result it names, and the blocks cover both arrays. -/

@[expose] public section
set_option maxRecDepth 16384
noncomputable section
open Idealize.ShloMosaic Idealize.ShloMosaic.TcCoe Idealize.ShloMosaic.Tactic Idealize.SL.Sem
open Cert.OutprojSampleIdeal Cert.OutprojSampleIdeal.Gen
open Idealize.ShloMosaic.Pipeline (Dat)
open FfnVal (lnRow)
namespace OutSampleVal

variable (m : (ℓ : Loc nD τ sig) → Buf (Elt Ideal) ℓ) (ρ : Dev nD → PrngReg) (c : Dev nD)

/-- The projection's result on the kernel's arguments, as an array. -/
def out : S8192x4096.Idx → EReal := fun i =>
  outAt (m ((c.tc : Thread nD τ).loc main_arg0)) (m ((c.tc : Thread nD τ).loc main_arg1))
    (m ((c.tc : Thread nD τ).loc main_arg2)) (m ((c.tc : Thread nD τ).loc main_arg3))
    (m ((c.tc : Thread nD τ).loc main_arg4)) (m ((c.tc : Thread nD τ).loc main_arg5)) (i 0) (i 1)

theorem idx6 : ∀ t : Fin cfg0.N, win0_6.index t 0 = 8 * (t.val / 16) + (t.val % 16 - 8) ∧ win0_6.index t 1 = 0 := by decide +kernel
theorem idx7 : ∀ t : Fin cfg0.N, win0_7.index t 0 = 8 * (t.val / 16) + (t.val % 16 - 8) ∧ win0_7.index t 1 = 0 := by decide +kernel
theorem flush6 : ∀ t : Fin cfg0.N, (cfg0.win 6).flush t = true ↔ 8 ≤ t.val % 16 := by decide +kernel
theorem flush7 : ∀ t : Fin cfg0.N, (cfg0.win 7).flush t = true ↔ 8 ≤ t.val % 16 := by decide +kernel

/-- The accumulator a normalising point reads is the residual sum. -/
theorem acc_full (r : Fin 8192) (q : Fin 4096) :
    accAt m c r q 8 = preNorm (xrow m c r) (fun l => m ((c.tc : Thread nD τ).loc main_arg1) (ix2 r l))
      (fun l => m ((c.tc : Thread nD τ).loc main_arg2) (ix2 r l))
      (fun k l => m ((c.tc : Thread nD τ).loc main_arg3) (ix3 0 k l)) q := by
  unfold accAt preNorm
  rw [if_pos (by omega), add_comm, sum_blocks, Finset.sum_range]
  refine congrArg (fun x => _ + x) (Finset.sum_congr rfl fun j _ => ?_)
  unfold term arow urow wcol
  refine Finset.sum_congr rfl fun k _ => ?_
  have e : min j.val 7 = j.val := by omega
  simp only [e]
  congr 1
  unfold cat
  by_cases h : j.val < 4
  · rw [if_pos h, dif_pos (by show 1024 * j.val + k.val < 4096; omega)]
    refine congrArg _ (congrArg (ix2 r) (Fin.ext ?_))
    show 1024 * min j.val 3 + k.val = 1024 * j.val + k.val
    omega
  · rw [if_neg h, dif_neg (by show ¬ 1024 * j.val + k.val < 4096; omega)]
    refine congrArg _ (congrArg (ix2 r) (Fin.ext ?_))
    show 1024 * min (j.val - 4) 3 + k.val = 1024 * j.val + k.val - 4096
    omega

/-- A normalising point's block is the projection's result at the rows it writes. -/
theorem block_eq (t : Fin cfg0.N) (h : 8 ≤ t.val % 16) (a : Vec Ideal S1024x4096 .f32)
    (ha : ∀ p q, a (ix2 p q) = accAt m c (tok t.val p) q 8) (y : S128x4096.Idx) (i : S8192x4096.Idx)
    (h0 : (i 0).val = 128 * (8 * (t.val / 16) + (t.val % 16 - 8)) + (y 0).val) (h1 : (i 1).val = (y 1).val) :
    lnBlock (t.val % 16 - 8) (iblk m c 4 t) (iblk m c 5 t) a y = out m c i := by
  have ht := lt_of_pt t
  have hy : (y 0).val < 128 := (y 0).isLt
  have e1 : y 1 = i 1 := Fin.ext h1.symm
  have e0 : tok t.val ⟨(128 * (t.val % 16 - 8) + (y 0).val) % 1024, Nat.mod_lt _ (by decide)⟩ = i 0 := by
    apply Fin.ext
    show (1024 * (t.val / 16) + (128 * (t.val % 16 - 8) + (y 0).val) % 1024) % 8192 = (i 0).val
    omega
  unfold lnBlock out outAt
  simp only [ha, e0, blk4 m c t, blk5 m c t, e1]
  rw [show (fun k : Fin 4096 => accAt m c (i 0) k 8) = _ from funext fun k => acc_full m c (i 0) k]
  rfl

theorem acc_before (t : Fin cfg0.N) (h : 8 ≤ t.val % 16) (p : Fin 1024) (q : Fin 4096) :
    (outsAt0 m c (t.val - 1) (Nat.lt_of_le_of_lt (Nat.sub_le _ _) t.isLt)).2.2 (ix2 p q) = accAt m c (tok t.val p) q 8 := by
  rw [acc_eq]
  have e : tok (t.val - 1) p = tok t.val p := by
    unfold tok
    congr 3
    have : (t.val - 1) / 16 = t.val / 16 := by omega
    rw [this]
  rw [e]
  congr 1
  omega

/-- What a normalising point leaves in result 1's block. -/
theorem left_6 (t : Fin cfg0.N) (h : 8 ≤ t.val % 16) :
    (outsAt0 m c t.val t.isLt).1 = lnBlock (t.val % 16 - 8) (iblk m c 4 t) (iblk m c 5 t)
      (outsAt0 m c (t.val - 1) (Nat.lt_of_le_of_lt (Nat.sub_le _ _) t.isLt)).2.2 := by
  refine (congrArg (fun o => o.1) (outsAt0_I m c t (by omega) (by omega) (by omega) (by omega) (by omega) (by omega) (by omega) (by omega) (by omega) (by omega) (by omega))).trans ?_
  dsimp only
  rw [out_I_6 (h8 := by rw [coord1]; exact h), coord1]

theorem arr_6 : (dats m 0 c).arrAt 6 cfg0.N = out m c := by
  refine (dats m 0 c).arrAt_eq_of_covers 6 (out m c) (by decide +kernel) fun t hf y => ?_
  have h := (flush6 t).mp hf
  blk_simp
  refine (congrFun (left_6 m c t h) y).trans ?_
  refine block_eq m c t h _ (acc_before m c t h) y _ ?_ ?_
  · blk_simp
    rw [(idx6 t).1]
    omega
  · blk_simp
    rw [(idx6 t).2]
    omega

/-- What a normalising point leaves in result 2's block. -/
theorem left_7 (t : Fin cfg0.N) (h : 8 ≤ t.val % 16) :
    (outsAt0 m c t.val t.isLt).2.1 = lnBlock (t.val % 16 - 8) (iblk m c 4 t) (iblk m c 5 t)
      (outsAt0 m c (t.val - 1) (Nat.lt_of_le_of_lt (Nat.sub_le _ _) t.isLt)).2.2 := by
  refine (congrArg (fun o => o.2.1) (outsAt0_I m c t (by omega) (by omega) (by omega) (by omega) (by omega) (by omega) (by omega) (by omega) (by omega) (by omega) (by omega))).trans ?_
  dsimp only
  rw [out_I_7 (h8 := by rw [coord1]; exact h), coord1]

theorem arr_7 : (dats m 0 c).arrAt 7 cfg0.N = out m c := by
  refine (dats m 0 c).arrAt_eq_of_covers 7 (out m c) (by decide +kernel) fun t hf y => ?_
  have h := (flush7 t).mp hf
  blk_simp
  refine (congrFun (left_7 m c t h) y).trans ?_
  refine block_eq m c t h _ (acc_before m c t h) y _ ?_ ?_
  · blk_simp
    rw [(idx7 t).1]
    omega
  · blk_simp
    rw [(idx7 t).2]
    omega

/-- The kernel's run: both results hold the projection's result, the arguments what they held. -/
theorem run_out : θ_run defs (onTc (τ := τ) (main (F := Ideal))) ⟨m, fun _ => 0, ρ⟩ fun r => ∀ c : Dev nD,
    r.2.mem ((c : Thread nD τ).loc main_v3_0) = out m c ∧ r.2.mem ((c : Thread nD τ).loc main_v3_1) = out m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨(h c).1.trans (arr_6 m c), (h c).2.1.trans (arr_7 m c), (h c).2.2⟩) (Cert.OutprojSampleIdeal.Value.run_blocks m ρ)

end OutSampleVal
-- ==== Proof.OutSampleRef.lean ====
module
public import proofs.«01_k».proof.Proof.Gen.OutprojSampleRefIdeal.Run
public import proofs.«01_k».proof.Proof.OutSampleMath
public import Idealize.ShloMosaic.Lib.Tactic
public import Idealize.ShloMosaic.Lib.Claim
public import Idealize.ShloMosaic.Lib.Tactic.CleanTypes

/-! The plain output projection's results, read at an index. -/

@[expose] public section
set_option maxRecDepth 16384
noncomputable section
open Idealize.ShloMosaic Idealize.ShloMosaic.TcCoe Idealize.ShloMosaic.Tactic
open Cert.OutprojSampleRefIdeal Cert.OutprojSampleRefIdeal.Value
open FfnVal (lnRow)
namespace OutSampleVal

variable (m : (ℓ : Loc nD τ sig) → Buf (Elt Ideal) ℓ) (c : Dev nD)

/-- The projection's result on this program's arguments. -/
def outOf (r : Fin 8192) (q : Fin 4096) : EReal :=
  outAt (m ((c.tc : Thread nD τ).loc main_arg0)) (m ((c.tc : Thread nD τ).loc main_arg1))
    (m ((c.tc : Thread nD τ).loc main_arg2)) (m ((c.tc : Thread nD τ).loc main_arg3))
    (m ((c.tc : Thread nD τ).loc main_arg4)) (m ((c.tc : Thread nD τ).loc main_arg5)) r q

theorem ref_at (r : Fin 8192) (q : Fin 4096) :
    (res_main_v34 m c : S8192x4096.Idx → EReal) (ix2 r q) = outOf m c r q := by
  unfold res_main_v34 outOf outAt lnRow preNorm cat
  clean_types
  pointwise! []

theorem ref_at' (r : Fin 8192) (q : Fin 4096) :
    (res_main_v35 m c : S8192x4096.Idx → EReal) (ix2 r q) = outOf m c r q := by
  unfold res_main_v35 outOf outAt lnRow preNorm cat
  clean_types
  pointwise! []

end OutSampleVal
-- ==== Proof.InpSampleRun.lean ====
module

public import proofs.«01_k».proof.Proof.Gen.InprojSampleIdeal.Launch
public import proofs.«01_k».proof.Proof.Gen.InprojSampleIdeal.Skeleton
public import proofs.«01_k».proof.Proof.Gen.InprojSampleIdeal.Points
public import proofs.«01_k».proof.Proof.Gen.InprojSampleIdeal.Frame
public import Idealize.ShloMosaic.Lib.Pipeline.FrameBody
public import Idealize.ShloMosaic.Lib.Ring
public import Idealize.ShloMosaic.Lib.Tactic
public import Idealize.ShloMosaic.Lib.WordCmp
public import Idealize.ShloMosaic.Lib.Exec
public import Idealize.ShloMosaic.Lib.Claim
public import Idealize.ShloMosaic.Lib.VecWindow
public import Idealize.ShloMosaic.Lib.Pipeline.Value

/-! The run of the input projection. The second result's block is stored at the first of the eighteen points of a row
    block and written back at the last one: the points between find it as the first left it. -/

@[expose] public section

set_option maxRecDepth 16384

noncomputable section

namespace Cert.InprojSampleIdeal.Own

open Cert.InprojSampleIdeal Cert.InprojSampleIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz2 : (![0, 0] : Fin 2 → ℕ) = fun _ => 0 := funext fun a => by fin_cases a <;> rfl
theorem hz3 : (![0, 0, 0] : Fin 3 → ℕ) = fun _ => 0 := funext fun a => by fin_cases a <;> rfl

/-- A load of a whole two-axis buffer known by what it reads. -/
theorem whole_read {s : Shape} {e : EltTy} {arg : Memref sig .tc .vmem s e} (h : arg.IsWhole) (x : Vec F s e)
    {off : Fin s.rank → ℕ} (hz : off = fun _ => 0) (inb : ∀ a, off a + s.size a ≤ s.size a) :
    arg.view.readAt (Elt F) (Rect.unit off s.size inb).toLoadRect (h.unread x) = x := by
  rw [View.readAt_eq_ld, h.read_unread]
  exact View.ld_unit_zero hz inb x

set_option maxHeartbeats 1000000 in
/-- The body where it stores only the first result's block. -/
theorem run_other (c : Dev nD) (i : grid0.Coords) (arg2 : Memref sig .tc .vmem S1024x4096 .bf16) (harg2 : arg2.IsWhole) (arg3 : Memref sig .tc .vmem S1x4096x1024 .bf16) (harg3 : arg3.IsWhole) (arg4 : Memref sig .tc .vmem S1x4096x128 .bf16) (harg4 : arg4.IsWhole) (arg5 : Memref sig .tc .vmem S1024x1024 .f32) (harg5 : arg5.IsWhole) (arg6 : Memref sig .tc .vmem S1024x128 .f32) (harg6 : arg6.IsWhole)
    (hc : ¬ k0_cond1 i = 1#1) (x0 : Vec F S1024x4096 .bf16) (x1 : Vec F S1x4096x1024 .bf16) (E : Set ℕ) (K : PUnit → sProp 𝕄) :
    iprop(owns (c : Thread nD τ) arg2 fullShare x0 ∗ owns (c : Thread nD τ) arg3 fullShare x1 ∗ (∃ d, owns (c : Thread nD τ) arg5 fullShare d)
        ∗ (iprop(owns (c : Thread nD τ) arg2 fullShare x0 ∗ owns (c : Thread nD τ) arg3 fullShare x1 ∗ owns (c : Thread nD τ) arg5 fullShare (k0_pay2 x0 x1)) -∗ K ⟨⟩))
      ⊢ wp frame (wpE (defs₀ (F := F)) Variants.none c none) E (cc0_inproj i arg2 harg2 arg3 harg3 arg4 harg4 arg5 harg5 arg6 harg6) K := by
  simp only [cc0_inproj_eq_skeleton]; unfold cc0_inproj_skel
  unfold owns
  iintro ⟨⟨%f0, %hf0, H0⟩, ⟨%f1, %hf1, H1⟩, ⟨%d3, %f3, -, H3⟩, Hk⟩
  obtain rfl := harg2.eq_unread hf0; obtain rfl := harg3.eq_unread hf1
  sl_exec (disch := first | sl_exact hc)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact H3
  ipureintro
  refine (View.read_writes_full _ _ _ _ _).trans ?_
  rw [whole_read harg2 x0 hz2, whole_read harg3 x1 hz3]

set_option maxHeartbeats 1000000 in
/-- The body where it stores both results' blocks. -/
theorem run_first (c : Dev nD) (i : grid0.Coords) (arg2 : Memref sig .tc .vmem S1024x4096 .bf16) (harg2 : arg2.IsWhole) (arg3 : Memref sig .tc .vmem S1x4096x1024 .bf16) (harg3 : arg3.IsWhole) (arg4 : Memref sig .tc .vmem S1x4096x128 .bf16) (harg4 : arg4.IsWhole) (arg5 : Memref sig .tc .vmem S1024x1024 .f32) (harg5 : arg5.IsWhole) (arg6 : Memref sig .tc .vmem S1024x128 .f32) (harg6 : arg6.IsWhole)
    (hc : k0_cond1 i = 1#1) (x0 : Vec F S1024x4096 .bf16) (x1 : Vec F S1x4096x1024 .bf16) (x2 : Vec F S1x4096x128 .bf16) (E : Set ℕ) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1 ∗ owns (c : Thread nD τ) arg4 fullShare x2 ∗ owns (c : Thread nD τ) arg5 fullShare (k0_pay2 x0 x1) ∗ owns (c : Thread nD τ) arg6 fullShare (k0_pay3 x0 x2)) -∗ K ⟨⟩))
      ⊢ wp frame (wpE (defs₀ (F := F)) Variants.none c none) E (cc0_inproj i arg2 harg2 arg3 harg3 arg4 harg4 arg5 harg5 arg6 harg6) K := by
  simp only [cc0_inproj_eq_skeleton]; unfold cc0_inproj_skel
  unfold owns
  iintro ⟨⟨%f0, %hf0, H0⟩, ⟨%f1, %hf1, H1⟩, ⟨%f2, %hf2, H2⟩, ⟨%d3, %f3, -, H3⟩, ⟨%d4, %f4, -, H4⟩, Hk⟩
  obtain rfl := harg2.eq_unread hf0; obtain rfl := harg3.eq_unread hf1; obtain rfl := harg4.eq_unread hf2
  sl_exec (disch := first | sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    refine (View.read_writes_full _ _ _ _ _).trans ?_
    rw [whole_read harg2 x0 hz2, whole_read harg3 x1 hz3]
  iexists _; isplitr
  swap; · iexact H4
  ipureintro
  refine (View.read_writes_full _ _ _ _ _).trans ?_
  rw [whole_read harg2 x0 hz2, whole_read harg4 x2 hz3]

/-! ## The proof data -/

/-- The first point of the row block point `t` lies in. -/
def row0 (t : Fin cfg0.N) : Fin cfg0.N := ⟨18 * (t.val / 18), lt_of_le_of_lt (Nat.mul_div_le _ _) t.isLt⟩

theorem row0_of (t : Fin cfg0.N) (h : t.val % 18 = 0) : row0 t = t := Fin.ext (by show 18 * (t.val / 18) = t.val; omega)

/-- What every point leaves: the inputs' blocks, and the two products. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => k0_pay2 (iblk m c 0 t) (iblk m c 1 t)
    | ⟨4, _⟩ => k0_pay3 (iblk m c 0 (row0 t)) (iblk m c 2 (row0 t))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = k0_pay2 (iblk m c 0 t) (iblk m c 1 t) := by dsimp only [dats]
theorem after0_4 (c : Dev nD) (t : Fin cfg0.N) : (dats m 0 c).after 4 t = k0_pay3 (iblk m c 0 (row0 t)) (iblk m c 2 (row0 t)) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## Where the second result's block is stored -/

theorem hcond : ∀ t : Fin grid0.N, k0_cond1 (grid0.coords t) = 1#1 ↔ t.val % 18 = 0 := by decide +kernel

theorem live0 (t : Fin cfg0.N) : cfg0.idle 0 (grid0.coords t) = false := rfl
theorem live1 (t : Fin cfg0.N) : cfg0.idle 1 (grid0.coords t) = false := rfl
theorem live2 (t : Fin cfg0.N) : cfg0.idle 2 (grid0.coords t) = false := rfl
theorem live3 (t : Fin cfg0.N) : cfg0.idle 3 (grid0.coords t) = false := rfl

theorem idle4 (t : Fin cfg0.N) (h : ¬ t.val % 18 = 0) : cfg0.idle 4 (grid0.coords t) = true := by
  show (!(k0_cond1 (grid0.coords t) == 1#1)) = true
  rw [Bool.not_eq_true', beq_eq_false_iff_ne]
  exact fun e => h ((hcond t).mp e)

theorem live4 (t : Fin cfg0.N) (h : t.val % 18 = 0) : cfg0.idle 4 (grid0.coords t) = false := by
  show (!(k0_cond1 (grid0.coords t) == 1#1)) = false
  rw [Bool.not_eq_false', beq_iff_eq]
  exact (hcond t).mpr h

theorem flush4 (t : Fin cfg0.N) (h : ¬ t.val % 18 = 17) : (cfg0.win 4).flush t = false := by
  rw [← Bool.not_eq_true]; exact fun e => h ((flush0_4 t).mp e)

theorem kept4 (c : Dev nD) (t : Fin cfg0.N) (d) : (dats m 0 c).kept 4 t d = (dats m 0 c).after 4 t := by
  unfold Dat.kept
  rw [Pipeline.fill_of_clip_none (cfg := cfg0) 4 (cfg0.grid.coords t) (fun _ => rfl) d ((dats m 0 c).after 4 t)]
  exact Pipeline.Window.fill_cut _ _ _

/-- Past the first point of a row block the second result's block is found as that point left it. -/
theorem before4 (c : Dev nD) (d) : ∀ (n : ℕ) (hn : n < cfg0.N), n % 18 ≠ 0 →
    (dats m 0 c).before 4 ⟨n, hn⟩ d = (dats m 0 c).after 4 ⟨n, hn⟩ := by
  intro n
  induction n with
  | zero => intro _ h; exact absurd rfl h
  | succ k ih =>
    intro hn h
    have hk : k < cfg0.N := Nat.lt_of_succ_lt hn
    rw [Dat.before_of_pos (dats m 0 c) 4 ⟨k + 1, hn⟩ (Nat.succ_ne_zero k) rfl d]
    show (if (cfg0.win 4).flush ⟨k, hk⟩ = true then d else (dats m 0 c).left 4 ⟨k, hk⟩ d) = _
    rw [if_neg (fun e => by have := (flush0_4 ⟨k, hk⟩).mp e; dsimp only at this; omega)]
    have hr : row0 ⟨k + 1, hn⟩ = row0 ⟨k, hk⟩ := Fin.ext (by show 18 * ((k + 1) / 18) = 18 * (k / 18); omega)
    have ha : (dats m 0 c).after 4 ⟨k + 1, hn⟩ = (dats m 0 c).after 4 ⟨k, hk⟩ := by rw [after0_4, after0_4, hr]
    rw [ha]
    unfold Dat.left
    by_cases h0 : k % 18 = 0
    · rw [show cfg0.idle 4 (cfg0.grid.coords ⟨k, hk⟩) = false from live4 ⟨k, hk⟩ h0]
      exact kept4 m c ⟨k, hk⟩ d
    · rw [show cfg0.idle 4 (cfg0.grid.coords ⟨k, hk⟩) = true from idle4 ⟨k, hk⟩ h0]
      exact ih hk h0

/-! ## The body at a point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = (dats m 0 c).Φ t.castSucc from rfl]
  rw [show (dats m 0 c).leavesExact 0 t = owns (c : Thread nD τ) (st0_0 t) fullShare ((dats m 0 c).after 0 t) from by
    unfold Dat.leavesExact; rw [live0 t], after0_0]
  rw [show (dats m 0 c).leavesExact 1 t = owns (c : Thread nD τ) (st0_1 t) fullShare ((dats m 0 c).after 1 t) from by
    unfold Dat.leavesExact; rw [live1 t], after0_1]
  rw [show (dats m 0 c).leavesExact 2 t = owns (c : Thread nD τ) (st0_2 t) fullShare ((dats m 0 c).after 2 t) from by
    unfold Dat.leavesExact; rw [live2 t], after0_2]
  rw [show (dats m 0 c).leavesExact 3 t = owns (c : Thread nD τ) (st0_3 t) fullShare ((dats m 0 c).after 3 t) from by
    unfold Dat.leavesExact; rw [live3 t], after0_3]
  by_cases h0 : t.val % 18 = 0
  · rw [show (dats m 0 c).leavesExact 4 t = owns (c : Thread nD τ) (st0_4 t) fullShare ((dats m 0 c).after 4 t) from by
      unfold Dat.leavesExact; rw [live4 t h0], after0_4, row0_of t h0]
    iintro ⟨HΦ, Ho, ⟨%d0, H0⟩, ⟨%d1, H1⟩, ⟨%d2, H2⟩, ⟨%d3, H3⟩, ⟨%d4, H4⟩⟩
    iapply (run_first c (grid0.coords t) _ _ _ _ _ _ _ _ _ _ ((hcond t).mpr h0) (iblk m c 0 t) (iblk m c 1 t) (iblk m c 2 t) Set.univ _)
    isplitl [H0]; · iexact H0
    isplitl [H1]; · iexact H1
    isplitl [H2]; · iexact H2
    isplitl [H3]; · iexists _; iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  · by_cases h1 : t.val % 18 = 17
    · rw [show (dats m 0 c).leavesExact 4 t = owns (c : Thread nD τ) (st0_4 t) fullShare ((dats m 0 c).after 4 t) from by
        unfold Dat.leavesExact; rw [idle4 t h0, (flush0_4 t).mpr h1]]
      have hb : ∀ d, (dats m 0 c).before 4 t d = (dats m 0 c).after 4 t := fun d => before4 m c d t.val t.isLt h0
      simp only [hb]
      iintro ⟨HΦ, Ho, ⟨%d0, H0⟩, ⟨%d1, H1⟩, ⟨%d2, H2⟩, ⟨%d3, H3⟩, ⟨%d4, H4⟩⟩
      iapply (run_other c (grid0.coords t) _ _ _ _ _ _ _ _ _ _ (fun h => h0 ((hcond t).mp h)) (iblk m c 0 t) (iblk m c 1 t) Set.univ _)
      isplitl [H0]; · iexact H0
      isplitl [H1]; · iexact H1
      isplitl [H3]; · iexists _; iexact H3
      iintro ⟨H0, H1, H3⟩
      isplitl [HΦ]; · iexact HΦ
      isplitl [Ho]; · iexact Ho
      isplitl [H0]; · iexact H0
      isplitl [H1]; · iexact H1
      isplitl [H2]; · iexact H2
      isplitl [H3]; · iexact H3
      iexact H4
    · rw [Dat.leavesExact_idle (dats m 0 c) 4 t (idle4 t h0) (flush4 t h1)]
      iintro ⟨HΦ, Ho, ⟨%d0, H0⟩, ⟨%d1, H1⟩, ⟨%d2, H2⟩, ⟨%d3, H3⟩, ⟨%d4, H4⟩⟩
      iapply (run_other c (grid0.coords t) _ _ _ _ _ _ _ _ _ _ (fun h => h0 ((hcond t).mp h)) (iblk m c 0 t) (iblk m c 1 t) Set.univ _)
      isplitl [H0]; · iexact H0
      isplitl [H1]; · iexact H1
      isplitl [H3]; · iexists _; iexact H3
      iintro ⟨H0, H1, H3⟩
      isplitl [HΦ]; · iexact HΦ
      isplitl [Ho]; · iexact Ho
      isplitl [H0]; · iexact H0
      isplitl [H1]; · iexact H1
      isplitl [H2]; · iexact H2
      isplitl [H3]; · iexact H3
      iexists _; iexact H4

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun _ => .rfl) (hout := fun _ => .rfl)

theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) (run_main m ρ)) ((θ_run defs _ _).mono (fun _ h => h.2) (run_main_quiescent m ρ))

end Cert.InprojSampleIdeal.Own

end
-- ==== Proof.InpSampleCols.lean ====
module
public import proofs.«01_k».proof.Proof.InpSampleRun
public import Idealize.ShloMosaic.Lib.Pipeline.Value
public import Idealize.ShloMosaic.Lib.StableHlo.Run
public import Idealize.ShloMosaic.Lib.Claim
public import Idealize.ShloMosaic.Lib.Tactic
public import Idealize.ShloMosaic.Lib.Pipeline.ValueKit
public import Idealize.ShloMosaic.Lib.Pointwise
public import Idealize.ShloMosaic.Lib.Tactic.CleanTypes

/-! The projection's weights as the kernel gets them: the columns of the given array in another order. -/

@[expose] public section
set_option maxRecDepth 16384
noncomputable section
open Idealize.ShloMosaic Idealize.ShloMosaic.TcCoe Idealize.ShloMosaic.Tactic Idealize.SL.Sem
open Cert.InprojSampleIdeal Cert.InprojSampleIdeal.Gen Cert.InprojSampleIdeal.Own
namespace InpSampleVal

variable (m : (ℓ : Loc nD τ sig) → Buf (Elt Ideal) ℓ) (ρ : Dev nD → PrngReg) (c : Dev nD)

/-- The columns taken by a list of column numbers, at an index. -/
theorem gather_apply {α : Type} (x : S2x4096x128.Idx → α) (idx : IVec S128x1 32) (b : Fin 2) (l : Fin 4096) (q k : Fin 128)
    (hk : (idx (ix2 q 0)).toInt.toNat = k.val) :
    Host.gather gather_S2x4096x128_S128x1_S2x4096x128_01_2_n_n_2_1_240961 x idx (ix3 b l q) = x (ix3 b l k) := by
  set d := gather_S2x4096x128_S128x1_S2x4096x128_01_2_n_n_2_1_240961 with hd
  have hob : ∀ a, d.batchCoord (ix3 b l q) a = 0 := fun a => d.batchCoord_eq_zero _ _ List.not_mem_nil
  unfold Host.gather
  congr 1
  funext a
  apply Fin.ext
  show d.start (ix3 b l q) idx a + d.batchCoord (ix3 b l q) a + d.offCoord (ix3 b l q) a = _
  rw [hob]
  have ha : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases ha with rfl | rfl | rfl
  · unfold GatherDims.start GatherDims.offCoord
    rw [dif_neg (show (0 : Fin 3) ∉ d.startIndexMap by decide), dif_pos (show (0 : Fin 3) ∈ d.sKept by decide)]
    show 0 + 0 + b.val = b.val
    omega
  · unfold GatherDims.start GatherDims.offCoord
    rw [dif_neg (show (1 : Fin 3) ∉ d.startIndexMap by decide), dif_pos (show (1 : Fin 3) ∈ d.sKept by decide)]
    show 0 + 0 + l.val = l.val
    omega
  · unfold GatherDims.start GatherDims.offCoord
    rw [dif_pos (show (2 : Fin 3) ∈ d.startIndexMap by decide), dif_neg (show (2 : Fin 3) ∉ d.sKept by decide)]
    have hsi : d.siIdx (ix3 b l q) ⟨List.idxOf (2 : Fin 3) d.startIndexMap, List.idxOf_lt_length_iff.2 (by decide)⟩ = ix2 q 0 := by
      funext e; apply Fin.ext
      match e with
      | ⟨0, _⟩ => rfl
      | ⟨1, _⟩ => rfl
    show min (idx (d.siIdx (ix3 b l q) ⟨List.idxOf (2 : Fin 3) d.startIndexMap, List.idxOf_lt_length_iff.2 (by decide)⟩)).toInt.toNat 127 + 0 + 0 = k.val
    rw [hsi, hk]
    omega

/-- The host's column numbers. -/
theorem lit0_val : ∀ q : Fin 128, (lit0 q).toInt.toNat = 64 * ((q.val % 16) / 8) + 8 * (q.val / 16) + q.val % 8 := by
  decide +kernel

/-- The column of the given weights that column `q` of the kernel's step-size weights is. -/
def coln (q : ℕ) : ℕ := 10240 + (64 * ((q % 16) / 8) + 8 * (q / 16) + q % 8)

theorem coln_lt {q : ℕ} (h : q < 128) : coln q < 18560 := by
  unfold coln; omega

/-- The step-size weights as the kernel gets them. -/
theorem V_dt (l : Fin 4096) (q : Fin 128) : (V m c main_v16 : S2x4096x128.Idx → EReal) (ix3 0 l q)
    = m ((c.tc : Thread nD τ).loc main_arg1) (ix3 0 l ⟨coln q.val, coln_lt q.isLt⟩) := by
  unfold coln
  entry_read
  refine (gather_apply _ _ 0 l q ⟨64 * ((q.val % 16) / 8) + 8 * (q.val / 16) + q.val % 8, by omega⟩ ?_).trans ?_
  · refine Eq.trans ?_ (lit0_val q)
    show (lit0 (S128.rowMajor fun a => ⟨_, _⟩)).toInt.toNat = _
    refine congrArg (fun k : Fin 128 => (lit0 k).toInt.toNat) (Fin.ext ?_)
    exact Shape.rowMajor_val_one _
  · pointwise! []

/-- The column of the given weights that column `q` of the kernel's wide weights is. -/
def colw (q : ℕ) : ℕ :=
  if q < 4096 then q else if q < 12288 then q + 6272 else if q < 16384 then q - 8192
  else if (q - 16384) % 256 < 128 then 8192 + 128 * ((q - 16384) / 256) + (q - 16384) % 256
  else 9216 + 128 * ((q - 16384) / 256) + ((q - 16384) % 256 - 128)

theorem colw_lt {q : ℕ} (h : q < 18432) : colw q < 18560 := by
  unfold colw; split_ifs <;> omega

theorem colw_b {k : ℕ} (h : k % 256 < 128) : 8192 + (k / 256 * 128 + k % 256) = colw (16384 + k) := by
  unfold colw
  rw [if_neg (by omega), if_neg (by omega), if_neg (by omega), if_pos (by omega)]
  omega

theorem colw_c {k : ℕ} (h : ¬k % 256 < 128) : 9216 + (k / 256 * 128 + (k % 256 - 128)) = colw (16384 + k) := by
  unfold colw
  rw [if_neg (by omega), if_neg (by omega), if_neg (by omega), if_neg (by omega)]
  omega

/-- An entry is where its column is. -/
theorem at_col (W : S2x4096x18560.Idx → EReal) (l : Fin 4096) {n n' : ℕ} (e : n = n') (h : n < 18560) (h' : n' < 18560) :
    W (ix3 0 l ⟨n, h⟩) = W (ix3 0 l ⟨n', h'⟩) := by
  subst e; rfl

/-- The two interleaved bands, at an index. -/
theorem bc_at (W : S2x4096x18560.Idx → EReal) (l : Fin 4096) (k : Fin 2048) :
    (shapeCast S2x4096x2048 (concatenate S2x4096x8x256 3
        [⟨S2x4096x8x128, shapeCast S2x4096x8x128 (extractStridedSlice S2x4096x1024 ![0, 0, 8192] W slices_S2x4096x18560_S2x4096x1024_0_0_8192) shapeCasts_S2x4096x1024_S2x4096x8x128⟩,
         ⟨S2x4096x8x128, shapeCast S2x4096x8x128 (extractStridedSlice S2x4096x1024 ![0, 0, 9216] W slices_S2x4096x18560_S2x4096x1024_0_0_9216) shapeCasts_S2x4096x1024_S2x4096x8x128⟩]
        concatenates_S2x4096x8x128_S2x4096x8x128_S2x4096x8x256_d3) shapeCasts_S2x4096x8x256_S2x4096x2048 : S2x4096x2048.Idx → EReal) (ix3 0 l k)
      = W (ix3 0 l ⟨colw (16384 + k.val), colw_lt (by omega)⟩) := by
  pointwise! []
  by_cases h : k.val % 256 < 128
  · rw [dif_pos h]
    exact at_col W l (colw_b h) _ _
  · rw [dif_neg h]
    exact at_col W l (colw_c h) _ _

section Cat
variable (x1 x3 : S2x4096x4096.Idx → EReal) (x2 : S2x4096x8192.Idx → EReal) (x4 : S2x4096x2048.Idx → EReal) (l : Fin 4096)

/-- Four arrays side by side. -/
def side : S2x4096x18432.Idx → EReal :=
  concatenate S2x4096x18432 2 [⟨S2x4096x4096, x1⟩, ⟨S2x4096x8192, x2⟩, ⟨S2x4096x4096, x3⟩, ⟨S2x4096x2048, x4⟩]
    concatenates_S2x4096x4096_S2x4096x8192_S2x4096x4096_S2x4096x2048_S2x4096x18432_d2

theorem side_1 (k : Fin 4096) (h : k.val < 18432) : side x1 x3 x2 x4 (ix3 0 l ⟨k.val, h⟩) = x1 (ix3 0 l k) := by
  unfold side
  refine concatenate_apply_piece (t := S2x4096x18432) _ _ _ _ 0 (by simp) S2x4096x4096 x1 rfl rfl 0 rfl (ix3 0 l k) ?_ ?_
  · intro b hb
    match b with
    | ⟨0, _⟩ => rfl
    | ⟨1, _⟩ => rfl
    | ⟨2, _⟩ => exact absurd rfl hb
  · show 0 + k.val = k.val
    omega

theorem side_2 (k : Fin 8192) (h : 4096 + k.val < 18432) : side x1 x3 x2 x4 (ix3 0 l ⟨4096 + k.val, h⟩) = x2 (ix3 0 l k) := by
  unfold side
  refine concatenate_apply_piece (t := S2x4096x18432) _ _ _ _ 1 (by simp) S2x4096x8192 x2 rfl rfl 4096 rfl (ix3 0 l k) ?_ ?_
  · intro b hb
    match b with
    | ⟨0, _⟩ => rfl
    | ⟨1, _⟩ => rfl
    | ⟨2, _⟩ => exact absurd rfl hb
  · rfl

theorem side_3 (k : Fin 4096) (h : 12288 + k.val < 18432) : side x1 x3 x2 x4 (ix3 0 l ⟨12288 + k.val, h⟩) = x3 (ix3 0 l k) := by
  unfold side
  refine concatenate_apply_piece (t := S2x4096x18432) _ _ _ _ 2 (by simp) S2x4096x4096 x3 rfl rfl 12288 rfl (ix3 0 l k) ?_ ?_
  · intro b hb
    match b with
    | ⟨0, _⟩ => rfl
    | ⟨1, _⟩ => rfl
    | ⟨2, _⟩ => exact absurd rfl hb
  · rfl

theorem side_4 (k : Fin 2048) (h : 16384 + k.val < 18432) : side x1 x3 x2 x4 (ix3 0 l ⟨16384 + k.val, h⟩) = x4 (ix3 0 l k) := by
  unfold side
  refine concatenate_apply_piece (t := S2x4096x18432) _ _ _ _ 3 (by simp) S2x4096x2048 x4 rfl rfl 16384 rfl (ix3 0 l k) ?_ ?_
  · intro b hb
    match b with
    | ⟨0, _⟩ => rfl
    | ⟨1, _⟩ => rfl
    | ⟨2, _⟩ => exact absurd rfl hb
  · rfl

end Cat

/-! ## The wide weights, read off the host's lines -/

/-- A line of operations in two parts. -/
theorem after_split {ops : List (HloOp τ sig (Elt Ideal))} (n : ℕ) (σ : Valuation τ sig (Elt Ideal)) :
    StableHlo.after ops σ = StableHlo.after (ops.drop n) (StableHlo.after (ops.take n) σ) := by
  induction n generalizing ops σ with
  | zero => rfl
  | succ n ih =>
    cases ops with
    | nil => rfl
    | cons o os => exact ih (o.result σ)

/-- What the buffers hold before the wide weights are put together. -/
def pieces (b : DevRef τ sig) : b.ty.Contents (Elt Ideal) := StableHlo.after (hostOps0.take 12) (fun b => m (c, b)) b

theorem V_pieces (b : Ref sig .tc) : V m c b = StableHlo.after (hostOps0.drop 12) (pieces m c) (Proc.devRef .tc b) :=
  congrFun (after_split 12 _) _

theorem V_v10 : V m c main_v10 = side (V m c main_v7) (V m c main_v9) (V m c main_v8) (V m c main_v6) := by
  have h6 : V m c main_v6 = pieces m c main_v6 := (V_pieces m c main_v6).trans
    (StableHlo.after_of_forall_not_mem (b := Proc.devRef .tc main_v6) _ _ (List.forall_iff_forall_mem.mp (by
      simp only [hostOps0, List.drop_succ_cons, List.drop_zero, List.Forall, StableHlo.nullary_writes, StableHlo.unary_writes, StableHlo.binary_writes, StableHlo.ternary_writes, StableHlo.nary_writes, Finset.mem_singleton]
      repeat' apply And.intro
      all_goals exact StableHlo.devRef_ne_of_ne (by decide))))
  have h7 : V m c main_v7 = pieces m c main_v7 := (V_pieces m c main_v7).trans
    (StableHlo.after_of_forall_not_mem (b := Proc.devRef .tc main_v7) _ _ (List.forall_iff_forall_mem.mp (by
      simp only [hostOps0, List.drop_succ_cons, List.drop_zero, List.Forall, StableHlo.nullary_writes, StableHlo.unary_writes, StableHlo.binary_writes, StableHlo.ternary_writes, StableHlo.nary_writes, Finset.mem_singleton]
      repeat' apply And.intro
      all_goals exact StableHlo.devRef_ne_of_ne (by decide))))
  have h8 : V m c main_v8 = pieces m c main_v8 := (V_pieces m c main_v8).trans
    (StableHlo.after_of_forall_not_mem (b := Proc.devRef .tc main_v8) _ _ (List.forall_iff_forall_mem.mp (by
      simp only [hostOps0, List.drop_succ_cons, List.drop_zero, List.Forall, StableHlo.nullary_writes, StableHlo.unary_writes, StableHlo.binary_writes, StableHlo.ternary_writes, StableHlo.nary_writes, Finset.mem_singleton]
      repeat' apply And.intro
      all_goals exact StableHlo.devRef_ne_of_ne (by decide))))
  have h9 : V m c main_v9 = pieces m c main_v9 := (V_pieces m c main_v9).trans
    (StableHlo.after_of_forall_not_mem (b := Proc.devRef .tc main_v9) _ _ (List.forall_iff_forall_mem.mp (by
      simp only [hostOps0, List.drop_succ_cons, List.drop_zero, List.Forall, StableHlo.nullary_writes, StableHlo.unary_writes, StableHlo.binary_writes, StableHlo.ternary_writes, StableHlo.nary_writes, Finset.mem_singleton]
      repeat' apply And.intro
      all_goals exact StableHlo.devRef_ne_of_ne (by decide))))
  rw [h6, h7, h8, h9, V_pieces m c main_v10]
  simp only [hostOps0, List.drop_succ_cons, List.drop_zero]
  rw [StableHlo.after_cons]
  refine (StableHlo.after_of_forall_not_mem (b := Proc.devRef .tc main_v10) _ _ (List.forall_iff_forall_mem.mp (by
      simp only [List.Forall, StableHlo.nullary_writes, StableHlo.unary_writes, StableHlo.binary_writes, StableHlo.ternary_writes, StableHlo.nary_writes, Finset.mem_singleton]
      repeat' apply And.intro
      all_goals exact StableHlo.devRef_ne_of_ne (by decide)))).trans ?_
  rw [StableHlo.nary_result]
  rfl

/-- Each piece, at an index. -/
theorem V_v7 (l : Fin 4096) (k : Fin 4096) : (V m c main_v7 : S2x4096x4096.Idx → EReal) (ix3 0 l k)
    = m ((c.tc : Thread nD τ).loc main_arg1) (ix3 0 l ⟨k.val, by omega⟩) := by
  entry_read
  pointwise! []

theorem V_v8 (l : Fin 4096) (k : Fin 8192) : (V m c main_v8 : S2x4096x8192.Idx → EReal) (ix3 0 l k)
    = m ((c.tc : Thread nD τ).loc main_arg1) (ix3 0 l ⟨10368 + k.val, by omega⟩) := by
  entry_read
  pointwise! []

theorem V_v9 (l : Fin 4096) (k : Fin 4096) : (V m c main_v9 : S2x4096x4096.Idx → EReal) (ix3 0 l k)
    = m ((c.tc : Thread nD τ).loc main_arg1) (ix3 0 l ⟨4096 + k.val, by omega⟩) := by
  entry_read
  pointwise! []

theorem V_v6 (l : Fin 4096) (k : Fin 2048) : (V m c main_v6 : S2x4096x2048.Idx → EReal) (ix3 0 l k)
    = m ((c.tc : Thread nD τ).loc main_arg1) (ix3 0 l ⟨colw (16384 + k.val), colw_lt (by omega)⟩) := by
  entry_read
  exact bc_at _ l k

/-- The wide weights as the kernel gets them. -/
theorem V_main (l : Fin 4096) (q : Fin 18432) : (V m c main_v10 : S2x4096x18432.Idx → EReal) (ix3 0 l q)
    = m ((c.tc : Thread nD τ).loc main_arg1) (ix3 0 l ⟨colw q.val, colw_lt q.isLt⟩) := by
  obtain ⟨n, hq⟩ := q
  rw [V_v10]
  by_cases h1 : n < 4096
  · refine (side_1 _ _ _ _ l ⟨n, h1⟩ hq).trans ((V_v7 m c l _).trans (at_col _ l ?_ _ _))
    show n = colw n
    unfold colw
    rw [if_pos h1]
  by_cases h2 : n < 12288
  · obtain ⟨k, rfl⟩ : ∃ k, n = 4096 + k := ⟨n - 4096, by omega⟩
    refine (side_2 _ _ _ _ l ⟨k, by omega⟩ hq).trans ((V_v8 m c l _).trans (at_col _ l ?_ _ _))
    show 10368 + k = colw (4096 + k)
    unfold colw
    rw [if_neg h1, if_pos h2]
    omega
  by_cases h3 : n < 16384
  · obtain ⟨k, rfl⟩ : ∃ k, n = 12288 + k := ⟨n - 12288, by omega⟩
    refine (side_3 _ _ _ _ l ⟨k, by omega⟩ hq).trans ((V_v9 m c l _).trans (at_col _ l ?_ _ _))
    show 4096 + k = colw (12288 + k)
    unfold colw
    rw [if_neg h1, if_neg h2, if_pos h3]
    omega
  · obtain ⟨k, rfl⟩ : ∃ k, n = 16384 + k := ⟨n - 16384, by omega⟩
    exact (side_4 _ _ _ _ l ⟨k, by omega⟩ hq).trans (V_v6 m c l _)

end InpSampleVal
-- ==== Proof.InpSampleOut.lean ====
module
public import proofs.«01_k».proof.Proof.InpSampleCols
public import Idealize.ShloMosaic.Lib.Pipeline.Value
public import Idealize.ShloMosaic.Lib.StableHlo.Run
public import Idealize.ShloMosaic.Lib.Claim
public import Idealize.ShloMosaic.Lib.Tactic
public import Idealize.ShloMosaic.Lib.Pipeline.ValueKit
public import Idealize.ShloMosaic.Lib.Pointwise
public import Idealize.ShloMosaic.Lib.Tactic.CleanTypes

/-! The input projection's two result arrays. Point `t` is block `t % 18` of the wide result's columns for row block
`t / 18`; the narrow result's block of a row block is what its first point stored. -/

@[expose] public section
set_option maxRecDepth 16384
noncomputable section
open Idealize.ShloMosaic Idealize.ShloMosaic.TcCoe Idealize.ShloMosaic.Tactic Idealize.SL.Sem
open Cert.InprojSampleIdeal Cert.InprojSampleIdeal.Gen Cert.InprojSampleIdeal.Own
open Idealize.ShloMosaic.Pipeline (Dat)
namespace InpSampleVal

variable (m : (ℓ : Loc nD τ sig) → Buf (Elt Ideal) ℓ) (ρ : Dev nD → PrngReg) (c : Dev nD)

/-- A row of the tokens against a column of the first layer's wide weights. -/
def wideAt (x : S8192x4096.Idx → EReal) (w : S2x4096x18560.Idx → EReal) (r : Fin 8192) (q : Fin 18432) : EReal :=
  ∑ l : Fin 4096, x (ix2 r l) * w (ix3 0 l ⟨colw q.val, colw_lt q.isLt⟩)

/-- A row of the tokens against a column of the first layer's step-size weights. -/
def narrowAt (x : S8192x4096.Idx → EReal) (w : S2x4096x18560.Idx → EReal) (r : Fin 8192) (q : Fin 128) : EReal :=
  ∑ l : Fin 4096, x (ix2 r l) * w (ix3 0 l ⟨coln q.val, coln_lt q.isLt⟩)

/-- The wide result on the kernel's arguments, as an array, -/
def wide : S8192x18432.Idx → EReal := fun i =>
  wideAt (m ((c.tc : Thread nD τ).loc main_arg0)) (m ((c.tc : Thread nD τ).loc main_arg1)) (i 0) (i 1)

/-- and the narrow one. -/
def narrow : S8192x128.Idx → EReal := fun i =>
  narrowAt (m ((c.tc : Thread nD τ).loc main_arg0)) (m ((c.tc : Thread nD τ).loc main_arg1)) (i 0) (i 1)

/-! ## The blocks a point reads -/

/-- The token that row `p` of row block `t / 18` is. -/
def tok (t : ℕ) (p : Fin 1024) : Fin 8192 := ⟨(1024 * (t / 18) + p.val) % 8192, Nat.mod_lt _ (by decide)⟩

theorem lt_of_pt (t : Fin cfg0.N) : t.val < 144 := lt_of_lt_of_eq t.isLt N_0

theorem idx0 : ∀ t : Fin cfg0.N, win0_0.index t 0 = t.val / 18 ∧ win0_0.index t 1 = 0 := by decide +kernel
theorem idx1 : ∀ t : Fin cfg0.N, win0_1.index t 0 = 0 ∧ win0_1.index t 1 = 0 ∧ win0_1.index t 2 = t.val % 18 := by decide +kernel
theorem idx2 : ∀ t : Fin cfg0.N, win0_2.index t 0 = 0 ∧ win0_2.index t 1 = 0 ∧ win0_2.index t 2 = 0 := by decide +kernel
theorem idx3 : ∀ t : Fin cfg0.N, win0_3.index t 0 = t.val / 18 ∧ win0_3.index t 1 = t.val % 18 := by decide +kernel
theorem idx4 : ∀ t : Fin cfg0.N, win0_4.index t 0 = t.val / 18 ∧ win0_4.index t 1 = 0 := by decide +kernel

theorem V_v17 (i : S8192x4096.Idx) : (V m c main_v17 : S8192x4096.Idx → EReal) i = m ((c.tc : Thread nD τ).loc main_arg0) i := by
  entry_read
  pointwise! []

theorem blk0 (t : Fin cfg0.N) (p : Fin 1024) (l : Fin 4096) :
    (iblk m c 0 t : S1024x4096.Idx → EReal) (ix2 p l) = m ((c.tc : Thread nD τ).loc main_arg0) (ix2 (tok t.val p) l) := by
  have ht := lt_of_pt t
  rw [← V_v17 m c (ix2 (tok t.val p) l)]
  unfold iblk
  rw [View.read_apply]
  show V m c main_v17 _ = V m c main_v17 _
  congr 1
  funext a
  apply Fin.ext
  match a with
  | ⟨0, _⟩ => show win0_0.index t 0 * 1024 + 1 * p.val = (1024 * (t.val / 18) + p.val) % 8192; rw [(idx0 t).1]; omega
  | ⟨1, _⟩ => show win0_0.index t 1 * 4096 + 1 * l.val = l.val; rw [(idx0 t).2]; omega

theorem blk1 (t : Fin cfg0.N) (l : Fin 4096) (q : Fin 1024) :
    (iblk m c 1 t : S1x4096x1024.Idx → EReal) (ix3 0 l q)
      = m ((c.tc : Thread nD τ).loc main_arg1) (ix3 0 l ⟨colw (1024 * (t.val % 18) + q.val), colw_lt (by omega)⟩) := by
  have ht := lt_of_pt t
  rw [← V_main m c l (⟨1024 * (t.val % 18) + q.val, by omega⟩ : Fin 18432)]
  unfold iblk
  rw [View.read_apply]
  show V m c main_v10 _ = V m c main_v10 _
  congr 1
  funext a
  apply Fin.ext
  match a with
  | ⟨0, _⟩ => show win0_1.index t 0 * 1 + 1 * 0 = 0; rw [(idx1 t).1]
  | ⟨1, _⟩ => show win0_1.index t 1 * 4096 + 1 * l.val = l.val; rw [(idx1 t).2.1]; omega
  | ⟨2, _⟩ => show win0_1.index t 2 * 1024 + 1 * q.val = 1024 * (t.val % 18) + q.val; rw [(idx1 t).2.2]; omega

theorem blk2 (t : Fin cfg0.N) (l : Fin 4096) (q : Fin 128) :
    (iblk m c 2 t : S1x4096x128.Idx → EReal) (ix3 0 l q) = m ((c.tc : Thread nD τ).loc main_arg1) (ix3 0 l ⟨coln q.val, coln_lt q.isLt⟩) := by
  have ht := lt_of_pt t
  rw [← V_dt m c l q]
  unfold iblk
  rw [View.read_apply]
  show V m c main_v16 _ = V m c main_v16 _
  congr 1
  funext a
  apply Fin.ext
  match a with
  | ⟨0, _⟩ => show win0_2.index t 0 * 1 + 1 * 0 = 0; rw [(idx2 t).1]
  | ⟨1, _⟩ => show win0_2.index t 1 * 4096 + 1 * l.val = l.val; rw [(idx2 t).2.1]; omega
  | ⟨2, _⟩ => show win0_2.index t 2 * 128 + 1 * q.val = q.val; rw [(idx2 t).2.2]; omega

/-! ## The products a point stores -/

theorem pay2_at (x : S1024x4096.Idx → EReal) (w : S1x4096x1024.Idx → EReal) (p q : Fin 1024) :
    (k0_pay2 (F := Ideal) x w : S1024x1024.Idx → EReal) (ix2 p q) = ∑ l : Fin 4096, x (ix2 p l) * w (ix3 0 l q) := by
  unfold k0_pay2 k0_pay1
  clean_types
  pointwise! []

theorem pay3_at (x : S1024x4096.Idx → EReal) (w : S1x4096x128.Idx → EReal) (p : Fin 1024) (q : Fin 128) :
    (k0_pay3 (F := Ideal) x w : S1024x128.Idx → EReal) (ix2 p q) = ∑ l : Fin 4096, x (ix2 p l) * w (ix3 0 l q) := by
  unfold k0_pay3 k0_pay1
  clean_types
  pointwise! []

theorem wide_block (t : Fin cfg0.N) (y : S1024x1024.Idx) (i : S8192x18432.Idx)
    (h0 : (i 0).val = 1024 * (t.val / 18) + (y 0).val) (h1 : (i 1).val = 1024 * (t.val % 18) + (y 1).val) :
    (k0_pay2 (F := Ideal) (iblk m c 0 t) (iblk m c 1 t) : S1024x1024.Idx → EReal) y = wide m c i := by
  obtain ⟨p, q, rfl⟩ : ∃ p q, y = ix2 p q := ⟨y 0, y 1, by funext a; match a with | ⟨0, _⟩ => rfl | ⟨1, _⟩ => rfl⟩
  have ht := lt_of_pt t
  have hp : p.val < 1024 := p.isLt
  have e0 : tok t.val p = i 0 := Fin.ext (by
    show (1024 * (t.val / 18) + p.val) % 8192 = (i 0).val
    rw [h0]; show (1024 * (t.val / 18) + p.val) % 8192 = 1024 * (t.val / 18) + p.val; omega)
  have e1 : (⟨1024 * (t.val % 18) + q.val, by omega⟩ : Fin 18432) = i 1 := Fin.ext h1.symm
  rw [pay2_at]
  unfold wide wideAt
  rw [← e1]
  exact Finset.sum_congr rfl fun l _ => by rw [blk0, blk1, e0]

theorem narrow_block (t : Fin cfg0.N) (y : S1024x128.Idx) (i : S8192x128.Idx)
    (h0 : (i 0).val = 1024 * (t.val / 18) + (y 0).val) (h1 : (i 1).val = (y 1).val) :
    (k0_pay3 (F := Ideal) (iblk m c 0 (row0 t)) (iblk m c 2 (row0 t)) : S1024x128.Idx → EReal) y = narrow m c i := by
  obtain ⟨p, q, rfl⟩ : ∃ p q, y = ix2 p q := ⟨y 0, y 1, by funext a; match a with | ⟨0, _⟩ => rfl | ⟨1, _⟩ => rfl⟩
  have ht := lt_of_pt t
  have hp : p.val < 1024 := p.isLt
  have e0 : tok (row0 t).val p = i 0 := Fin.ext (by
    show (1024 * (18 * (t.val / 18) / 18) + p.val) % 8192 = (i 0).val
    rw [h0]; show (1024 * (18 * (t.val / 18) / 18) + p.val) % 8192 = 1024 * (t.val / 18) + p.val; omega)
  have e1 : q = i 1 := Fin.ext h1.symm
  rw [pay3_at]
  unfold narrow narrowAt
  exact Finset.sum_congr rfl fun l _ => by rw [blk0, blk2, e0, e1]

/-! ## The result arrays -/

theorem arr_3 : (dats m 0 c).arrAt 3 cfg0.N = wide m c := by
  refine (dats m 0 c).arrAt_eq_of_covers 3 (wide m c) (by decide +kernel) fun t hf y => ?_
  blk_simp
  refine (congrFun (after0_3 m c t) y).trans ?_
  refine wide_block m c t y _ ?_ ?_
  · blk_simp
    rw [(idx3 t).1]
    omega
  · blk_simp
    rw [(idx3 t).2]
    omega

theorem arr_4 : (dats m 0 c).arrAt 4 cfg0.N = narrow m c := by
  refine (dats m 0 c).arrAt_eq_of_covers 4 (narrow m c) (by decide +kernel) fun t hf y => ?_
  blk_simp
  refine (congrFun (after0_4 m c t) y).trans ?_
  refine narrow_block m c t y _ ?_ ?_
  · blk_simp
    rw [(idx4 t).1]
    omega
  · blk_simp
    rw [(idx4 t).2]
    omega

/-- The kernel's run: its results are the two products, the arguments what they held. -/
theorem run_inp : θ_run defs (onTc (τ := τ) (main (F := Ideal))) ⟨m, fun _ => 0, ρ⟩ fun r => ∀ c : Dev nD,
    r.2.mem ((c : Thread nD τ).loc main_v18_0) = wide m c ∧ r.2.mem ((c : Thread nD τ).loc main_v18_1) = narrow m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨((h c).1 3).trans (arr_3 m c), ((h c).1 4).trans (arr_4 m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c)⟩)
    (run_main m ρ)

end InpSampleVal
-- ==== Proof.InpSampleRef.lean ====
module
public import proofs.«01_k».proof.Proof.Gen.InprojSampleRefIdeal.Run
public import proofs.«01_k».proof.Proof.InpSampleOut
public import Idealize.ShloMosaic.Lib.Tactic
public import Idealize.ShloMosaic.Lib.Claim
public import Idealize.ShloMosaic.Lib.Tactic.CleanTypes

/-! The plain input projection's results, read at an index. -/

@[expose] public section
set_option maxRecDepth 16384
noncomputable section
open Idealize.ShloMosaic Idealize.ShloMosaic.TcCoe Idealize.ShloMosaic.Tactic
open Cert.InprojSampleRefIdeal Cert.InprojSampleRefIdeal.Gen
namespace InpSampleVal

/-! ## The plain product, and its columns in another order -/

/-- The plain product of the tokens and the first layer's weights. -/
def product (x : S8192x4096.Idx → EReal) (w : S2x4096x18560.Idx → EReal) : S8192x18560.Idx → EReal :=
  Host.dotGeneral (F := Ideal) (φ₁ := .f32) (φ₂ := .f32) dot_S8192x4096_S4096x18560_S8192x18560_1_0_0_1_n_n none x
    (shapeCast S4096x18560 (extractStridedSlice S1x4096x18560 ![0, 0, 0] w slices_S2x4096x18560_S1x4096x18560_0_0_0) shapeCasts_S1x4096x18560_S4096x18560)

theorem product_at (x : S8192x4096.Idx → EReal) (w : S2x4096x18560.Idx → EReal) (r : Fin 8192) (n : Fin 18560) :
    product x w (ix2 r n) = ∑ l : Fin 4096, x (ix2 r l) * w (ix3 0 l n) := by
  unfold product
  clean_types
  pointwise! []

/-- An entry is where its column is. -/
theorem at_col2 (P : S8192x18560.Idx → EReal) (r : Fin 8192) {n n' : ℕ} (e : n = n') (h : n < 18560) (h' : n' < 18560) :
    P (ix2 r ⟨n, h⟩) = P (ix2 r ⟨n', h'⟩) := by
  subst e; rfl

section Row
variable (x1 x3 : S8192x4096.Idx → EReal) (x2 : S8192x8192.Idx → EReal) (x4 : S8192x2048.Idx → EReal) (r : Fin 8192)

/-- Four results side by side. -/
def row : S8192x18432.Idx → EReal :=
  concatenate S8192x18432 1 [⟨S8192x4096, x1⟩, ⟨S8192x8192, x2⟩, ⟨S8192x4096, x3⟩, ⟨S8192x2048, x4⟩]
    concatenates_S8192x4096_S8192x8192_S8192x4096_S8192x2048_S8192x18432_d1

theorem row_1 (k : Fin 4096) (h : k.val < 18432) : row x1 x3 x2 x4 (ix2 r ⟨k.val, h⟩) = x1 (ix2 r k) := by
  unfold row
  refine concatenate_apply_piece (t := S8192x18432) _ _ _ _ 0 (by simp) S8192x4096 x1 rfl rfl 0 rfl (ix2 r k) ?_ ?_
  · intro b hb
    match b with
    | ⟨0, _⟩ => rfl
    | ⟨1, _⟩ => exact absurd rfl hb
  · show 0 + k.val = k.val
    omega

theorem row_2 (k : Fin 8192) (h : 4096 + k.val < 18432) : row x1 x3 x2 x4 (ix2 r ⟨4096 + k.val, h⟩) = x2 (ix2 r k) := by
  unfold row
  refine concatenate_apply_piece (t := S8192x18432) _ _ _ _ 1 (by simp) S8192x8192 x2 rfl rfl 4096 rfl (ix2 r k) ?_ rfl
  intro b hb
  match b with
  | ⟨0, _⟩ => rfl
  | ⟨1, _⟩ => exact absurd rfl hb

theorem row_3 (k : Fin 4096) (h : 12288 + k.val < 18432) : row x1 x3 x2 x4 (ix2 r ⟨12288 + k.val, h⟩) = x3 (ix2 r k) := by
  unfold row
  refine concatenate_apply_piece (t := S8192x18432) _ _ _ _ 2 (by simp) S8192x4096 x3 rfl rfl 12288 rfl (ix2 r k) ?_ rfl
  intro b hb
  match b with
  | ⟨0, _⟩ => rfl
  | ⟨1, _⟩ => exact absurd rfl hb

theorem row_4 (k : Fin 2048) (h : 16384 + k.val < 18432) : row x1 x3 x2 x4 (ix2 r ⟨16384 + k.val, h⟩) = x4 (ix2 r k) := by
  unfold row
  refine concatenate_apply_piece (t := S8192x18432) _ _ _ _ 3 (by simp) S8192x2048 x4 rfl rfl 16384 rfl (ix2 r k) ?_ rfl
  intro b hb
  match b with
  | ⟨0, _⟩ => rfl
  | ⟨1, _⟩ => exact absurd rfl hb

end Row

section Bands
variable (P : S8192x18560.Idx → EReal) (r : Fin 8192)

/-- The reference's four bands of the product. -/
def band1 : S8192x4096.Idx → EReal := extractStridedSlice S8192x4096 ![0, 0] P slices_S8192x18560_S8192x4096_0_0
def band2 : S8192x8192.Idx → EReal := extractStridedSlice S8192x8192 ![0, 10368] P slices_S8192x18560_S8192x8192_0_10368
def band3 : S8192x4096.Idx → EReal :=
  extractStridedSlice S8192x4096 ![0, 0] (extractStridedSlice S8192x6144 ![0, 4096] P slices_S8192x18560_S8192x6144_0_4096) slices_S8192x6144_S8192x4096_0_0
def band4 : S8192x2048.Idx → EReal :=
  shapeCast S8192x2048 (concatenate S8192x8x256 2
    [⟨S8192x8x128, shapeCast S8192x8x128 (extractStridedSlice S8192x1024 ![0, 4096] (extractStridedSlice S8192x6144 ![0, 4096] P slices_S8192x18560_S8192x6144_0_4096) slices_S8192x6144_S8192x1024_0_4096) shapeCasts_S8192x1024_S8192x8x128⟩,
     ⟨S8192x8x128, shapeCast S8192x8x128 (extractStridedSlice S8192x1024 ![0, 5120] (extractStridedSlice S8192x6144 ![0, 4096] P slices_S8192x18560_S8192x6144_0_4096) slices_S8192x6144_S8192x1024_0_5120) shapeCasts_S8192x1024_S8192x8x128⟩]
    concatenates_S8192x8x128_S8192x8x128_S8192x8x256_d2) shapeCasts_S8192x8x256_S8192x2048

theorem band1_at (k : Fin 4096) : band1 P (ix2 r k) = P (ix2 r ⟨k.val, by omega⟩) := by
  unfold band1
  pointwise! []

theorem band2_at (k : Fin 8192) : band2 P (ix2 r k) = P (ix2 r ⟨10368 + k.val, by omega⟩) := by
  unfold band2
  pointwise! []

theorem band3_at (k : Fin 4096) : band3 P (ix2 r k) = P (ix2 r ⟨4096 + k.val, by omega⟩) := by
  unfold band3
  pointwise! []

theorem band4_at (k : Fin 2048) : band4 P (ix2 r k) = P (ix2 r ⟨colw (16384 + k.val), colw_lt (by omega)⟩) := by
  unfold band4
  pointwise! []
  by_cases h : k.val % 256 < 128
  · rw [dif_pos h]
    exact at_col2 P r (by rw [← colw_b h]; omega) _ _
  · rw [dif_neg h]
    exact at_col2 P r (by rw [← colw_c h]; omega) _ _

theorem row_at (q : Fin 18432) : row (band1 P) (band3 P) (band2 P) (band4 P) (ix2 r q) = P (ix2 r ⟨colw q.val, colw_lt q.isLt⟩) := by
  obtain ⟨n, hq⟩ := q
  by_cases h1 : n < 4096
  · refine (row_1 _ _ _ _ r ⟨n, h1⟩ hq).trans ((band1_at P r _).trans (at_col2 _ r ?_ _ _))
    show n = colw n
    unfold colw
    rw [if_pos h1]
  by_cases h2 : n < 12288
  · obtain ⟨k, rfl⟩ : ∃ k, n = 4096 + k := ⟨n - 4096, by omega⟩
    refine (row_2 _ _ _ _ r ⟨k, by omega⟩ hq).trans ((band2_at P r _).trans (at_col2 _ r ?_ _ _))
    show 10368 + k = colw (4096 + k)
    unfold colw
    rw [if_neg h1, if_pos h2]
    omega
  by_cases h3 : n < 16384
  · obtain ⟨k, rfl⟩ : ∃ k, n = 12288 + k := ⟨n - 12288, by omega⟩
    refine (row_3 _ _ _ _ r ⟨k, by omega⟩ hq).trans ((band3_at P r _).trans (at_col2 _ r ?_ _ _))
    show 4096 + k = colw (12288 + k)
    unfold colw
    rw [if_neg h1, if_neg h2, if_pos h3]
    omega
  · obtain ⟨k, rfl⟩ : ∃ k, n = 16384 + k := ⟨n - 16384, by omega⟩
    exact (row_4 _ _ _ _ r ⟨k, by omega⟩ hq).trans (band4_at P r _)

/-- The reference's second result: the step sizes by group. -/
def steps : S8192x128.Idx → EReal :=
  shapeCast S8192x128 (concatenate S8192x8x16 2
    [⟨S8192x8x8, shapeCast S8192x8x8 (extractStridedSlice S8192x64 ![0, 0] (extractStridedSlice S8192x128 ![0, 10240] P slices_S8192x18560_S8192x128_0_10240) slices_S8192x128_S8192x64_0_0) shapeCasts_S8192x64_S8192x8x8⟩,
     ⟨S8192x8x8, shapeCast S8192x8x8 (extractStridedSlice S8192x64 ![0, 64] (extractStridedSlice S8192x128 ![0, 10240] P slices_S8192x18560_S8192x128_0_10240) slices_S8192x128_S8192x64_0_64) shapeCasts_S8192x64_S8192x8x8⟩]
    concatenates_S8192x8x8_S8192x8x8_S8192x8x16_d2) shapeCasts_S8192x8x16_S8192x128

theorem steps_at (q : Fin 128) : steps P (ix2 r q) = P (ix2 r ⟨coln q.val, coln_lt q.isLt⟩) := by
  unfold steps
  pointwise! []
  by_cases h : q.val % 16 < 8
  · rw [dif_pos h]
    exact at_col2 P r (by unfold coln; omega) _ _
  · rw [dif_neg h]
    exact at_col2 P r (by unfold coln; omega) _ _

end Bands

theorem ref_wide (x : S8192x4096.Idx → EReal) (w : S2x4096x18560.Idx → EReal) (r : Fin 8192) (q : Fin 18432) :
    row (band1 (product x w)) (band3 (product x w)) (band2 (product x w)) (band4 (product x w)) (ix2 r q) = wideAt x w r q :=
  (row_at _ r q).trans (product_at x w r _)

theorem ref_narrow (x : S8192x4096.Idx → EReal) (w : S2x4096x18560.Idx → EReal) (r : Fin 8192) (q : Fin 128) :
    steps (product x w) (ix2 r q) = narrowAt x w r q :=
  (steps_at _ r q).trans (product_at x w r _)

end InpSampleVal
-- ==== Proof.lean ====
module

public import proofs.«01_k».proof.Defs
public import proofs.«01_k».proof.Proof.Gen.Ffn
public import proofs.«01_k».proof.Proof.Gen.Ffn.Frame
public import proofs.«01_k».proof.Proof.Gen.FfnIdeal
public import proofs.«01_k».proof.Proof.Gen.FfnIdeal.Value
public import proofs.«01_k».proof.Proof.Gen.FfnIdeal.Frame
public import proofs.«01_k».proof.Proof.Gen.FfnRefIdeal
public import proofs.«01_k».proof.Proof.Gen.FfnRefIdeal.Run
public import proofs.«01_k».proof.Proof.Gen.Outproj
public import proofs.«01_k».proof.Proof.Gen.Outproj.Frame
public import proofs.«01_k».proof.Proof.Gen.OutprojIdeal
public import proofs.«01_k».proof.Proof.Gen.OutprojIdeal.Value
public import proofs.«01_k».proof.Proof.Gen.OutprojIdeal.Frame
public import proofs.«01_k».proof.Proof.Gen.OutprojRefIdeal
public import proofs.«01_k».proof.Proof.Gen.OutprojRefIdeal.Run
public import proofs.«01_k».proof.Proof.Gen.Inproj
public import proofs.«01_k».proof.Proof.Gen.Inproj.Frame
public import proofs.«01_k».proof.Proof.Gen.Inproj.Skeleton
public import proofs.«01_k».proof.Proof.Gen.InprojIdeal
public import proofs.«01_k».proof.Proof.Gen.InprojIdeal.Frame
public import proofs.«01_k».proof.Proof.Gen.InprojIdeal.Skeleton
public import proofs.«01_k».proof.Proof.Gen.InprojRefIdeal
public import proofs.«01_k».proof.Proof.Gen.InprojRefIdeal.Run
public import proofs.«01_k».proof.Proof.FfnOut
public import proofs.«01_k».proof.Proof.FfnRef
public import proofs.«01_k».proof.Proof.OutOut
public import proofs.«01_k».proof.Proof.OutRef
public import proofs.«01_k».proof.Proof.InpBitsRun
public import proofs.«01_k».proof.Proof.InpOut
public import proofs.«01_k».proof.Proof.InpRef
public import proofs.«01_k».proof.Proof.Gen.FfnSample
public import proofs.«01_k».proof.Proof.Gen.FfnSample.Frame
public import proofs.«01_k».proof.Proof.Gen.FfnSampleIdeal
public import proofs.«01_k».proof.Proof.Gen.FfnSampleIdeal.Value
public import proofs.«01_k».proof.Proof.Gen.FfnSampleIdeal.Frame
public import proofs.«01_k».proof.Proof.Gen.FfnSampleRefIdeal
public import proofs.«01_k».proof.Proof.Gen.FfnSampleRefIdeal.Run
public import proofs.«01_k».proof.Proof.Gen.OutprojSample
public import proofs.«01_k».proof.Proof.Gen.OutprojSample.Frame
public import proofs.«01_k».proof.Proof.Gen.OutprojSampleIdeal
public import proofs.«01_k».proof.Proof.Gen.OutprojSampleIdeal.Value
public import proofs.«01_k».proof.Proof.Gen.OutprojSampleIdeal.Frame
public import proofs.«01_k».proof.Proof.Gen.OutprojSampleRefIdeal
public import proofs.«01_k».proof.Proof.Gen.OutprojSampleRefIdeal.Run
public import proofs.«01_k».proof.Proof.Gen.InprojSample
public import proofs.«01_k».proof.Proof.Gen.InprojSample.Frame
public import proofs.«01_k».proof.Proof.Gen.InprojSample.Skeleton
public import proofs.«01_k».proof.Proof.Gen.InprojSampleIdeal
public import proofs.«01_k».proof.Proof.Gen.InprojSampleIdeal.Frame
public import proofs.«01_k».proof.Proof.Gen.InprojSampleIdeal.Skeleton
public import proofs.«01_k».proof.Proof.Gen.InprojSampleRefIdeal
public import proofs.«01_k».proof.Proof.Gen.InprojSampleRefIdeal.Run
public import proofs.«01_k».proof.Proof.FfnSampleOut
public import proofs.«01_k».proof.Proof.FfnSampleRef
public import proofs.«01_k».proof.Proof.OutSampleOut
public import proofs.«01_k».proof.Proof.OutSampleRef
public import proofs.«01_k».proof.Proof.InpSampleBitsRun
public import proofs.«01_k».proof.Proof.InpSampleOut
public import proofs.«01_k».proof.Proof.InpSampleRef
public import Idealize.ShloMosaic.Adequacy
public import Idealize.ShloMosaic.Init

@[expose] public section

noncomputable section

namespace Cert.Proof

open Idealize.ShloMosaic Idealize.ShloMosaic.TcCoe Idealize.ShloMosaic.Tactic Idealize.SL.Sem

/-- The reference's frame: its run leaves the arguments, and it declares no semaphore. -/
theorem frame_ffn_ref : Cert.quiescent_FfnRefIdeal := fun m ρ _ =>
  (θ_run Cert.FfnRefIdeal.defs _ _).mono
    (fun r h => ⟨fun c => (h c).2.2, Idealize.ShloMosaic.sem_eq_zero_of_no_sems (by decide) r.2⟩)
    (Cert.FfnRefIdeal.Value.run m ρ)

/-- From equal arguments the reference's results are the kernel's. -/
theorem ffn_agree {m : (ℓ : Loc FfnIdeal.nD FfnIdeal.τ FfnIdeal.sig) → Buf (Elt Ideal) ℓ}
    {m' : (ℓ : Loc FfnRefIdeal.nD FfnRefIdeal.τ FfnRefIdeal.sig) → Buf (Elt Ideal) ℓ} (c : Dev FfnIdeal.nD)
    (h : m' ((c.tc : Thread FfnRefIdeal.nD FfnRefIdeal.τ).loc FfnRefIdeal.main_arg0) = m ((c.tc : Thread FfnIdeal.nD FfnIdeal.τ).loc FfnIdeal.main_arg0)
      ∧ m' ((c.tc : Thread FfnRefIdeal.nD FfnRefIdeal.τ).loc FfnRefIdeal.main_arg1) = m ((c.tc : Thread FfnIdeal.nD FfnIdeal.τ).loc FfnIdeal.main_arg1)
      ∧ m' ((c.tc : Thread FfnRefIdeal.nD FfnRefIdeal.τ).loc FfnRefIdeal.main_arg2) = m ((c.tc : Thread FfnIdeal.nD FfnIdeal.τ).loc FfnIdeal.main_arg2)
      ∧ m' ((c.tc : Thread FfnRefIdeal.nD FfnRefIdeal.τ).loc FfnRefIdeal.main_arg3) = m ((c.tc : Thread FfnIdeal.nD FfnIdeal.τ).loc FfnIdeal.main_arg3)
      ∧ m' ((c.tc : Thread FfnRefIdeal.nD FfnRefIdeal.τ).loc FfnRefIdeal.main_arg4) = m ((c.tc : Thread FfnIdeal.nD FfnIdeal.τ).loc FfnIdeal.main_arg4)
      ∧ m' ((c.tc : Thread FfnRefIdeal.nD FfnRefIdeal.τ).loc FfnRefIdeal.main_arg5) = m ((c.tc : Thread FfnIdeal.nD FfnIdeal.τ).loc FfnIdeal.main_arg5))
    (r : Fin 16384) (q : Fin 4096) : FfnVal.ffnOf m' c r q = FfnVal.out m c (ix2 r q) := by
  obtain ⟨h0, h1, h2, h3, h4, h5⟩ := h
  unfold FfnVal.ffnOf FfnVal.out
  rw [h0, h1, h2, h3, h4, h5]
  rfl

theorem ffn_equal : Cert.algebraic_FfnIdeal_FfnRefIdeal := fun m ρ m' ρ' _ hag =>
  ⟨fun c => FfnVal.out m c, fun c => FfnVal.out m c, FfnVal.run_out m ρ,
    (θ_run Cert.FfnRefIdeal.defs _ _).mono (fun _ h c =>
      ⟨(h c).1.trans (funext fun i => by
          obtain ⟨r, q, rfl⟩ : ∃ r q, i = ix2 r q := ⟨i 0, i 1, by funext a; match a with | ⟨0, _⟩ => rfl | ⟨1, _⟩ => rfl⟩
          exact (FfnVal.ref_at m' c r q).trans (ffn_agree c (hag c) r q)),
       (h c).2.1.trans (funext fun i => by
          obtain ⟨r, q, rfl⟩ : ∃ r q, i = ix2 r q := ⟨i 0, i 1, by funext a; match a with | ⟨0, _⟩ => rfl | ⟨1, _⟩ => rfl⟩
          exact (FfnVal.ref_at' m' c r q).trans (ffn_agree c (hag c) r q)),
       (h c).2.2⟩) (Cert.FfnRefIdeal.Value.run m' ρ')⟩

/-- The output projection's reference's frame: its run leaves the arguments, and it declares no semaphore. -/
theorem frame_out_ref : Cert.quiescent_OutprojRefIdeal := fun m ρ _ =>
  (θ_run Cert.OutprojRefIdeal.defs _ _).mono
    (fun r h => ⟨fun c => (h c).2.2, Idealize.ShloMosaic.sem_eq_zero_of_no_sems (by decide) r.2⟩)
    (Cert.OutprojRefIdeal.Value.run m ρ)

/-- From equal arguments the output projection's reference's results are the kernel's. -/
theorem out_agree {m : (ℓ : Loc OutprojIdeal.nD OutprojIdeal.τ OutprojIdeal.sig) → Buf (Elt Ideal) ℓ}
    {m' : (ℓ : Loc OutprojRefIdeal.nD OutprojRefIdeal.τ OutprojRefIdeal.sig) → Buf (Elt Ideal) ℓ} (c : Dev OutprojIdeal.nD)
    (h : m' ((c.tc : Thread OutprojRefIdeal.nD OutprojRefIdeal.τ).loc OutprojRefIdeal.main_arg0) = m ((c.tc : Thread OutprojIdeal.nD OutprojIdeal.τ).loc OutprojIdeal.main_arg0)
      ∧ m' ((c.tc : Thread OutprojRefIdeal.nD OutprojRefIdeal.τ).loc OutprojRefIdeal.main_arg1) = m ((c.tc : Thread OutprojIdeal.nD OutprojIdeal.τ).loc OutprojIdeal.main_arg1)
      ∧ m' ((c.tc : Thread OutprojRefIdeal.nD OutprojRefIdeal.τ).loc OutprojRefIdeal.main_arg2) = m ((c.tc : Thread OutprojIdeal.nD OutprojIdeal.τ).loc OutprojIdeal.main_arg2)
      ∧ m' ((c.tc : Thread OutprojRefIdeal.nD OutprojRefIdeal.τ).loc OutprojRefIdeal.main_arg3) = m ((c.tc : Thread OutprojIdeal.nD OutprojIdeal.τ).loc OutprojIdeal.main_arg3)
      ∧ m' ((c.tc : Thread OutprojRefIdeal.nD OutprojRefIdeal.τ).loc OutprojRefIdeal.main_arg4) = m ((c.tc : Thread OutprojIdeal.nD OutprojIdeal.τ).loc OutprojIdeal.main_arg4)
      ∧ m' ((c.tc : Thread OutprojRefIdeal.nD OutprojRefIdeal.τ).loc OutprojRefIdeal.main_arg5) = m ((c.tc : Thread OutprojIdeal.nD OutprojIdeal.τ).loc OutprojIdeal.main_arg5))
    (r : Fin 16384) (q : Fin 4096) : OutVal.outOf m' c r q = OutVal.out m c (ix2 r q) := by
  obtain ⟨h0, h1, h2, h3, h4, h5⟩ := h
  unfold OutVal.outOf OutVal.out
  rw [h0, h1, h2, h3, h4, h5]
  rfl

theorem out_equal : Cert.algebraic_OutprojIdeal_OutprojRefIdeal := fun m ρ m' ρ' _ hag =>
  ⟨fun c => OutVal.out m c, fun c => OutVal.out m c, OutVal.run_out m ρ,
    (θ_run Cert.OutprojRefIdeal.defs _ _).mono (fun _ h c =>
      ⟨(h c).1.trans (funext fun i => by
          obtain ⟨r, q, rfl⟩ : ∃ r q, i = ix2 r q := ⟨i 0, i 1, by funext a; match a with | ⟨0, _⟩ => rfl | ⟨1, _⟩ => rfl⟩
          exact (OutVal.ref_at m' c r q).trans (out_agree c (hag c) r q)),
       (h c).2.1.trans (funext fun i => by
          obtain ⟨r, q, rfl⟩ : ∃ r q, i = ix2 r q := ⟨i 0, i 1, by funext a; match a with | ⟨0, _⟩ => rfl | ⟨1, _⟩ => rfl⟩
          exact (OutVal.ref_at' m' c r q).trans (out_agree c (hag c) r q)),
       (h c).2.2⟩) (Cert.OutprojRefIdeal.Value.run m' ρ')⟩

/-- The input projection's reference's frame: its run leaves the arguments, and it declares no semaphore. -/
theorem frame_inp_ref : Cert.quiescent_InprojRefIdeal := fun m ρ _ =>
  (θ_run Cert.InprojRefIdeal.defs _ _).mono
    (fun r h => ⟨fun c => (h c).2.2, Idealize.ShloMosaic.sem_eq_zero_of_no_sems (by decide) r.2⟩)
    (Cert.InprojRefIdeal.Value.run m ρ)

theorem inp_equal : Cert.algebraic_InprojIdeal_InprojRefIdeal := fun m ρ m' ρ' _ hag =>
  ⟨fun c => InpVal.wide m c, fun c => InpVal.narrow m c, InpVal.run_inp m ρ,
    (θ_run Cert.InprojRefIdeal.defs _ _).mono (fun _ h c =>
      ⟨(h c).1.trans (funext fun i => by
          obtain ⟨r, q, rfl⟩ : ∃ r q, i = ix2 r q := ⟨i 0, i 1, by funext a; match a with | ⟨0, _⟩ => rfl | ⟨1, _⟩ => rfl⟩
          refine (InpVal.ref_wide _ _ r q).trans ?_
          rw [(hag c).1, (hag c).2]
          rfl),
       (h c).2.1.trans (funext fun i => by
          obtain ⟨r, q, rfl⟩ : ∃ r q, i = ix2 r q := ⟨i 0, i 1, by funext a; match a with | ⟨0, _⟩ => rfl | ⟨1, _⟩ => rfl⟩
          refine (InpVal.ref_narrow _ _ r q).trans ?_
          rw [(hag c).1, (hag c).2]
          rfl),
       (h c).2.2⟩) (Cert.InprojRefIdeal.Value.run m' ρ')⟩

/-- The reference's frame: its run leaves the arguments, and it declares no semaphore. -/
theorem sample_frame_ffn_ref : Cert.quiescent_FfnSampleRefIdeal := fun m ρ _ =>
  (θ_run Cert.FfnSampleRefIdeal.defs _ _).mono
    (fun r h => ⟨fun c => (h c).2.2, Idealize.ShloMosaic.sem_eq_zero_of_no_sems (by decide) r.2⟩)
    (Cert.FfnSampleRefIdeal.Value.run m ρ)

/-- From equal arguments the reference's results are the kernel's. -/
theorem sample_ffn_agree {m : (ℓ : Loc FfnSampleIdeal.nD FfnSampleIdeal.τ FfnSampleIdeal.sig) → Buf (Elt Ideal) ℓ}
    {m' : (ℓ : Loc FfnSampleRefIdeal.nD FfnSampleRefIdeal.τ FfnSampleRefIdeal.sig) → Buf (Elt Ideal) ℓ} (c : Dev FfnSampleIdeal.nD)
    (h : m' ((c.tc : Thread FfnSampleRefIdeal.nD FfnSampleRefIdeal.τ).loc FfnSampleRefIdeal.main_arg0) = m ((c.tc : Thread FfnSampleIdeal.nD FfnSampleIdeal.τ).loc FfnSampleIdeal.main_arg0)
      ∧ m' ((c.tc : Thread FfnSampleRefIdeal.nD FfnSampleRefIdeal.τ).loc FfnSampleRefIdeal.main_arg1) = m ((c.tc : Thread FfnSampleIdeal.nD FfnSampleIdeal.τ).loc FfnSampleIdeal.main_arg1)
      ∧ m' ((c.tc : Thread FfnSampleRefIdeal.nD FfnSampleRefIdeal.τ).loc FfnSampleRefIdeal.main_arg2) = m ((c.tc : Thread FfnSampleIdeal.nD FfnSampleIdeal.τ).loc FfnSampleIdeal.main_arg2)
      ∧ m' ((c.tc : Thread FfnSampleRefIdeal.nD FfnSampleRefIdeal.τ).loc FfnSampleRefIdeal.main_arg3) = m ((c.tc : Thread FfnSampleIdeal.nD FfnSampleIdeal.τ).loc FfnSampleIdeal.main_arg3)
      ∧ m' ((c.tc : Thread FfnSampleRefIdeal.nD FfnSampleRefIdeal.τ).loc FfnSampleRefIdeal.main_arg4) = m ((c.tc : Thread FfnSampleIdeal.nD FfnSampleIdeal.τ).loc FfnSampleIdeal.main_arg4)
      ∧ m' ((c.tc : Thread FfnSampleRefIdeal.nD FfnSampleRefIdeal.τ).loc FfnSampleRefIdeal.main_arg5) = m ((c.tc : Thread FfnSampleIdeal.nD FfnSampleIdeal.τ).loc FfnSampleIdeal.main_arg5))
    (r : Fin 8192) (q : Fin 4096) : FfnSampleVal.ffnOf m' c r q = FfnSampleVal.out m c (ix2 r q) := by
  obtain ⟨h0, h1, h2, h3, h4, h5⟩ := h
  unfold FfnSampleVal.ffnOf FfnSampleVal.out
  rw [h0, h1, h2, h3, h4, h5]
  rfl

theorem sample_ffn_equal : Cert.algebraic_FfnSampleIdeal_FfnSampleRefIdeal := fun m ρ m' ρ' _ hag =>
  ⟨fun c => FfnSampleVal.out m c, fun c => FfnSampleVal.out m c, FfnSampleVal.run_out m ρ,
    (θ_run Cert.FfnSampleRefIdeal.defs _ _).mono (fun _ h c =>
      ⟨(h c).1.trans (funext fun i => by
          obtain ⟨r, q, rfl⟩ : ∃ r q, i = ix2 r q := ⟨i 0, i 1, by funext a; match a with | ⟨0, _⟩ => rfl | ⟨1, _⟩ => rfl⟩
          exact (FfnSampleVal.ref_at m' c r q).trans (sample_ffn_agree c (hag c) r q)),
       (h c).2.1.trans (funext fun i => by
          obtain ⟨r, q, rfl⟩ : ∃ r q, i = ix2 r q := ⟨i 0, i 1, by funext a; match a with | ⟨0, _⟩ => rfl | ⟨1, _⟩ => rfl⟩
          exact (FfnSampleVal.ref_at' m' c r q).trans (sample_ffn_agree c (hag c) r q)),
       (h c).2.2⟩) (Cert.FfnSampleRefIdeal.Value.run m' ρ')⟩

/-- The output projection's reference's frame: its run leaves the arguments, and it declares no semaphore. -/
theorem sample_frame_out_ref : Cert.quiescent_OutprojSampleRefIdeal := fun m ρ _ =>
  (θ_run Cert.OutprojSampleRefIdeal.defs _ _).mono
    (fun r h => ⟨fun c => (h c).2.2, Idealize.ShloMosaic.sem_eq_zero_of_no_sems (by decide) r.2⟩)
    (Cert.OutprojSampleRefIdeal.Value.run m ρ)

/-- From equal arguments the output projection's reference's results are the kernel's. -/
theorem sample_out_agree {m : (ℓ : Loc OutprojSampleIdeal.nD OutprojSampleIdeal.τ OutprojSampleIdeal.sig) → Buf (Elt Ideal) ℓ}
    {m' : (ℓ : Loc OutprojSampleRefIdeal.nD OutprojSampleRefIdeal.τ OutprojSampleRefIdeal.sig) → Buf (Elt Ideal) ℓ} (c : Dev OutprojSampleIdeal.nD)
    (h : m' ((c.tc : Thread OutprojSampleRefIdeal.nD OutprojSampleRefIdeal.τ).loc OutprojSampleRefIdeal.main_arg0) = m ((c.tc : Thread OutprojSampleIdeal.nD OutprojSampleIdeal.τ).loc OutprojSampleIdeal.main_arg0)
      ∧ m' ((c.tc : Thread OutprojSampleRefIdeal.nD OutprojSampleRefIdeal.τ).loc OutprojSampleRefIdeal.main_arg1) = m ((c.tc : Thread OutprojSampleIdeal.nD OutprojSampleIdeal.τ).loc OutprojSampleIdeal.main_arg1)
      ∧ m' ((c.tc : Thread OutprojSampleRefIdeal.nD OutprojSampleRefIdeal.τ).loc OutprojSampleRefIdeal.main_arg2) = m ((c.tc : Thread OutprojSampleIdeal.nD OutprojSampleIdeal.τ).loc OutprojSampleIdeal.main_arg2)
      ∧ m' ((c.tc : Thread OutprojSampleRefIdeal.nD OutprojSampleRefIdeal.τ).loc OutprojSampleRefIdeal.main_arg3) = m ((c.tc : Thread OutprojSampleIdeal.nD OutprojSampleIdeal.τ).loc OutprojSampleIdeal.main_arg3)
      ∧ m' ((c.tc : Thread OutprojSampleRefIdeal.nD OutprojSampleRefIdeal.τ).loc OutprojSampleRefIdeal.main_arg4) = m ((c.tc : Thread OutprojSampleIdeal.nD OutprojSampleIdeal.τ).loc OutprojSampleIdeal.main_arg4)
      ∧ m' ((c.tc : Thread OutprojSampleRefIdeal.nD OutprojSampleRefIdeal.τ).loc OutprojSampleRefIdeal.main_arg5) = m ((c.tc : Thread OutprojSampleIdeal.nD OutprojSampleIdeal.τ).loc OutprojSampleIdeal.main_arg5))
    (r : Fin 8192) (q : Fin 4096) : OutSampleVal.outOf m' c r q = OutSampleVal.out m c (ix2 r q) := by
  obtain ⟨h0, h1, h2, h3, h4, h5⟩ := h
  unfold OutSampleVal.outOf OutSampleVal.out
  rw [h0, h1, h2, h3, h4, h5]
  rfl

theorem sample_out_equal : Cert.algebraic_OutprojSampleIdeal_OutprojSampleRefIdeal := fun m ρ m' ρ' _ hag =>
  ⟨fun c => OutSampleVal.out m c, fun c => OutSampleVal.out m c, OutSampleVal.run_out m ρ,
    (θ_run Cert.OutprojSampleRefIdeal.defs _ _).mono (fun _ h c =>
      ⟨(h c).1.trans (funext fun i => by
          obtain ⟨r, q, rfl⟩ : ∃ r q, i = ix2 r q := ⟨i 0, i 1, by funext a; match a with | ⟨0, _⟩ => rfl | ⟨1, _⟩ => rfl⟩
          exact (OutSampleVal.ref_at m' c r q).trans (sample_out_agree c (hag c) r q)),
       (h c).2.1.trans (funext fun i => by
          obtain ⟨r, q, rfl⟩ : ∃ r q, i = ix2 r q := ⟨i 0, i 1, by funext a; match a with | ⟨0, _⟩ => rfl | ⟨1, _⟩ => rfl⟩
          exact (OutSampleVal.ref_at' m' c r q).trans (sample_out_agree c (hag c) r q)),
       (h c).2.2⟩) (Cert.OutprojSampleRefIdeal.Value.run m' ρ')⟩

/-- The input projection's reference's frame: its run leaves the arguments, and it declares no semaphore. -/
theorem sample_frame_inp_ref : Cert.quiescent_InprojSampleRefIdeal := fun m ρ _ =>
  (θ_run Cert.InprojSampleRefIdeal.defs _ _).mono
    (fun r h => ⟨fun c => (h c).2.2, Idealize.ShloMosaic.sem_eq_zero_of_no_sems (by decide) r.2⟩)
    (Cert.InprojSampleRefIdeal.Value.run m ρ)

theorem sample_inp_equal : Cert.algebraic_InprojSampleIdeal_InprojSampleRefIdeal := fun m ρ m' ρ' _ hag =>
  ⟨fun c => InpSampleVal.wide m c, fun c => InpSampleVal.narrow m c, InpSampleVal.run_inp m ρ,
    (θ_run Cert.InprojSampleRefIdeal.defs _ _).mono (fun _ h c =>
      ⟨(h c).1.trans (funext fun i => by
          obtain ⟨r, q, rfl⟩ : ∃ r q, i = ix2 r q := ⟨i 0, i 1, by funext a; match a with | ⟨0, _⟩ => rfl | ⟨1, _⟩ => rfl⟩
          refine (InpSampleVal.ref_wide _ _ r q).trans ?_
          rw [(hag c).1, (hag c).2]
          rfl),
       (h c).2.1.trans (funext fun i => by
          obtain ⟨r, q, rfl⟩ : ∃ r q, i = ix2 r q := ⟨i 0, i 1, by funext a; match a with | ⟨0, _⟩ => rfl | ⟨1, _⟩ => rfl⟩
          refine (InpSampleVal.ref_narrow _ _ r q).trans ?_
          rw [(hag c).1, (hag c).2]
          rfl),
       (h c).2.2⟩) (Cert.InprojSampleRefIdeal.Value.run m' ρ')⟩

theorem claim : Cert.Claim :=
  ⟨Cert.Ffn.Gen.facts, Cert.FfnIdeal.Gen.facts, Cert.FfnRefIdeal.Gen.facts,
    Cert.Outproj.Gen.facts, Cert.OutprojIdeal.Gen.facts, Cert.OutprojRefIdeal.Gen.facts,
    Cert.Inproj.Gen.facts, Cert.InprojIdeal.Gen.facts, Cert.InprojRefIdeal.Gen.facts,
    Cert.FfnSample.Gen.facts, Cert.FfnSampleIdeal.Gen.facts, Cert.FfnSampleRefIdeal.Gen.facts,
    Cert.OutprojSample.Gen.facts, Cert.OutprojSampleIdeal.Gen.facts, Cert.OutprojSampleRefIdeal.Gen.facts,
    Cert.InprojSample.Gen.facts, Cert.InprojSampleIdeal.Gen.facts, Cert.InprojSampleRefIdeal.Gen.facts,
    fun m ρ _ => Cert.Ffn.Gen.frame m ρ,
    fun m ρ _ => Cert.FfnIdeal.Gen.frame m ρ,
    frame_ffn_ref,
    fun m ρ _ => Cert.Outproj.Gen.frame m ρ,
    fun m ρ _ => Cert.OutprojIdeal.Gen.frame m ρ,
    frame_out_ref,
    fun m ρ _ => Cert.Inproj.Own.frame m ρ,
    fun m ρ _ => Cert.InprojIdeal.Own.frame m ρ,
    frame_inp_ref,
    fun m ρ _ => Cert.FfnSample.Gen.frame m ρ,
    fun m ρ _ => Cert.FfnSampleIdeal.Gen.frame m ρ,
    sample_frame_ffn_ref,
    fun m ρ _ => Cert.OutprojSample.Gen.frame m ρ,
    fun m ρ _ => Cert.OutprojSampleIdeal.Gen.frame m ρ,
    sample_frame_out_ref,
    fun m ρ _ => Cert.InprojSample.Own.frame m ρ,
    fun m ρ _ => Cert.InprojSampleIdeal.Own.frame m ρ,
    sample_frame_inp_ref,
    trivial,
    ffn_equal,
    trivial,
    out_equal,
    trivial,
    inp_equal,
    trivial,
    sample_ffn_equal,
    trivial,
    sample_out_equal,
    trivial,
    sample_inp_equal⟩

end Cert.Proof

end
